-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DHid (m : (ℓ : Loc Cert.DHid.nD Cert.DHid.τ Cert.DHid.sig) → Buf (Elt Bits) ℓ) : Prop :=
  True

def Pre_DHidIdeal (m : (ℓ : Loc Cert.DHidIdeal.nD Cert.DHidIdeal.τ Cert.DHidIdeal.sig) → Buf (Elt Ideal) ℓ) : Prop :=
  True

def Pre_DHidRefIdeal (m : (ℓ : Loc Cert.DHidRefIdeal.nD Cert.DHidRefIdeal.τ Cert.DHidRefIdeal.sig) → Buf (Elt Ideal) ℓ) : Prop :=
  True

def Pre_DwMix (m : (ℓ : Loc Cert.DwMix.nD Cert.DwMix.τ Cert.DwMix.sig) → Buf (Elt Bits) ℓ) : Prop :=
  True

def Pre_DwMixIdeal (m : (ℓ : Loc Cert.DwMixIdeal.nD Cert.DwMixIdeal.τ Cert.DwMixIdeal.sig) → Buf (Elt Ideal) ℓ) : Prop :=
  True

def Pre_DwMixRefIdeal (m : (ℓ : Loc Cert.DwMixRefIdeal.nD Cert.DwMixRefIdeal.τ Cert.DwMixRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DwBs (m : (ℓ : Loc Cert.DwBs.nD Cert.DwBs.τ Cert.DwBs.sig) → Buf (Elt Bits) ℓ) : Prop :=
  True

def Pre_DwBsIdeal (m : (ℓ : Loc Cert.DwBsIdeal.nD Cert.DwBsIdeal.τ Cert.DwBsIdeal.sig) → Buf (Elt Ideal) ℓ) : Prop :=
  True

def Pre_DwBsRefIdeal (m : (ℓ : Loc Cert.DwBsRefIdeal.nD Cert.DwBsRefIdeal.τ Cert.DwBsRefIdeal.sig) → Buf (Elt Ideal) ℓ) : Prop :=
  True

def Pre_DwBa (m : (ℓ : Loc Cert.DwBa.nD Cert.DwBa.τ Cert.DwBa.sig) → Buf (Elt Bits) ℓ) : Prop :=
  True

def Pre_DwBaIdeal (m : (ℓ : Loc Cert.DwBaIdeal.nD Cert.DwBaIdeal.τ Cert.DwBaIdeal.sig) → Buf (Elt Ideal) ℓ) : Prop :=
  True

def Pre_DwBaRefIdeal (m : (ℓ : Loc Cert.DwBaRefIdeal.nD Cert.DwBaRefIdeal.τ Cert.DwBaRefIdeal.sig) → Buf (Elt Ideal) ℓ) : Prop :=
  True

def Pre_DYssm (m : (ℓ : Loc Cert.DYssm.nD Cert.DYssm.τ Cert.DYssm.sig) → Buf (Elt Bits) ℓ) : Prop :=
  True

def Pre_DYssmIdeal (m : (ℓ : Loc Cert.DYssmIdeal.nD Cert.DYssmIdeal.τ Cert.DYssmIdeal.sig) → Buf (Elt Ideal) ℓ) : Prop :=
  True

def Pre_DYssmRefIdeal (m : (ℓ : Loc Cert.DYssmRefIdeal.nD Cert.DYssmRefIdeal.τ Cert.DYssmRefIdeal.sig) → Buf (Elt Ideal) ℓ) : Prop :=
  True

def Pre_DYattn (m : (ℓ : Loc Cert.DYattn.nD Cert.DYattn.τ Cert.DYattn.sig) → Buf (Elt Bits) ℓ) : Prop :=
  True

def Pre_DYattnIdeal (m : (ℓ : Loc Cert.DYattnIdeal.nD Cert.DYattnIdeal.τ Cert.DYattnIdeal.sig) → Buf (Elt Ideal) ℓ) : Prop :=
  True

def Pre_DYattnRefIdeal (m : (ℓ : Loc Cert.DYattnRefIdeal.nD Cert.DYattnRefIdeal.τ Cert.DYattnRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Bs (m : (ℓ : Loc Cert.Bs.nD Cert.Bs.τ Cert.Bs.sig) → Buf (Elt Bits) ℓ) : Prop :=
  True

def Pre_BsIdeal (m : (ℓ : Loc Cert.BsIdeal.nD Cert.BsIdeal.τ Cert.BsIdeal.sig) → Buf (Elt Ideal) ℓ) : Prop :=
  True

def Pre_BsRefIdeal (m : (ℓ : Loc Cert.BsRefIdeal.nD Cert.BsRefIdeal.τ Cert.BsRefIdeal.sig) → Buf (Elt Ideal) ℓ) : Prop :=
  True

def Pre_Ba (m : (ℓ : Loc Cert.Ba.nD Cert.Ba.τ Cert.Ba.sig) → Buf (Elt Bits) ℓ) : Prop :=
  True

def Pre_BaIdeal (m : (ℓ : Loc Cert.BaIdeal.nD Cert.BaIdeal.τ Cert.BaIdeal.sig) → Buf (Elt Ideal) ℓ) : Prop :=
  True

def Pre_BaRefIdeal (m : (ℓ : Loc Cert.BaRefIdeal.nD Cert.BaRefIdeal.τ Cert.BaRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InTail (m : (ℓ : Loc Cert.InTail.nD Cert.InTail.τ Cert.InTail.sig) → Buf (Elt Bits) ℓ) : Prop :=
  True

def Pre_InTailIdeal (m : (ℓ : Loc Cert.InTailIdeal.nD Cert.InTailIdeal.τ Cert.InTailIdeal.sig) → Buf (Elt Ideal) ℓ) : Prop :=
  True

def Pre_InTailRefIdeal (m : (ℓ : Loc Cert.InTailRefIdeal.nD Cert.InTailRefIdeal.τ Cert.InTailRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln1_bwd_finite [hPre_ln1_bwd_finite : Cert.Pre_ln1_bwd_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln1_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_ln1_bwd_finite [hPre_ln1_bwd_finite : Cert.Pre_ln1_bwd_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_ln1_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4))) = (fun _ => 1#1)

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossIdeal_ln2_loss_finite [hPre_ln2_loss_finite : Cert.Pre_ln2_loss_finite.Facts] (m : (ℓ : Loc Cert.LnLossIdeal.nD Cert.LnLossIdeal.τ Cert.LnLossIdeal.sig) → Buf (Elt Ideal) ℓ) : Prop :=
  ∀ c : Dev Cert.LnLossIdeal.nD,
    (Cert.Pre_ln2_loss_finite.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4)) (m ((c.tc : Thread Cert.LnLossIdeal.nD Cert.LnLossIdeal.τ).loc Cert.LnLossIdeal.main_arg5)) (m ((c.tc : Thread Cert.LnLossIdeal.nD Cert.LnLossIdeal.τ).loc Cert.LnLossIdeal.main_arg6))) = (fun _ => 1#1)

def Pre_LnLossRefIdeal (m : (ℓ : Loc Cert.LnLossRefIdeal.nD Cert.LnLossRefIdeal.τ Cert.LnLossRefIdeal.sig) → Buf (Elt Ideal) ℓ) : Prop :=
  True

def Pre_LnLossRefIdeal_ln2_loss_finite [hPre_ln2_loss_finite : Cert.Pre_ln2_loss_finite.Facts] (m : (ℓ : Loc Cert.LnLossRefIdeal.nD Cert.LnLossRefIdeal.τ Cert.LnLossRefIdeal.sig) → Buf (Elt Ideal) ℓ) : Prop :=
  ∀ c : Dev Cert.LnLossRefIdeal.nD,
    (Cert.Pre_ln2_loss_finite.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4)) (m ((c.tc : Thread Cert.LnLossRefIdeal.nD Cert.LnLossRefIdeal.τ).loc Cert.LnLossRefIdeal.main_arg5)) (m ((c.tc : Thread Cert.LnLossRefIdeal.nD Cert.LnLossRefIdeal.τ).loc Cert.LnLossRefIdeal.main_arg6))) = (fun _ => 1#1)

def Pre_ConvXs (m : (ℓ : Loc Cert.ConvXs.nD Cert.ConvXs.τ Cert.ConvXs.sig) → Buf (Elt Bits) ℓ) : Prop :=
  True

def Pre_ConvXsIdeal (m : (ℓ : Loc Cert.ConvXsIdeal.nD Cert.ConvXsIdeal.τ Cert.ConvXsIdeal.sig) → Buf (Elt Ideal) ℓ) : Prop :=
  True

def Pre_ConvXsIdeal_conv_xs_bwd_finite [hPre_conv_xs_bwd_finite : Cert.Pre_conv_xs_bwd_finite.Facts] (m : (ℓ : Loc Cert.ConvXsIdeal.nD Cert.ConvXsIdeal.τ Cert.ConvXsIdeal.sig) → Buf (Elt Ideal) ℓ) : Prop :=
  ∀ c : Dev Cert.ConvXsIdeal.nD,
    (Cert.Pre_conv_xs_bwd_finite.fn (F := Ideal) (m ((c.tc : Thread Cert.ConvXsIdeal.nD Cert.ConvXsIdeal.τ).loc Cert.ConvXsIdeal.main_arg0)) (m ((c.tc : Thread Cert.ConvXsIdeal.nD Cert.ConvXsIdeal.τ).loc Cert.ConvXsIdeal.main_arg1)) (m ((c.tc : Thread Cert.ConvXsIdeal.nD Cert.ConvXsIdeal.τ).loc Cert.ConvXsIdeal.main_arg2)) (m ((c.tc : Thread Cert.ConvXsIdeal.nD Cert.ConvXsIdeal.τ).loc Cert.ConvXsIdeal.main_arg3)) (m ((c.tc : Thread Cert.ConvXsIdeal.nD Cert.ConvXsIdeal.τ).loc Cert.ConvXsIdeal.main_arg4))) = (fun _ => 1#1)

def Pre_ConvXsRefIdeal (m : (ℓ : Loc Cert.ConvXsRefIdeal.nD Cert.ConvXsRefIdeal.τ Cert.ConvXsRefIdeal.sig) → Buf (Elt Ideal) ℓ) : Prop :=
  True

def Pre_ConvXsRefIdeal_conv_xs_bwd_finite [hPre_conv_xs_bwd_finite : Cert.Pre_conv_xs_bwd_finite.Facts] (m : (ℓ : Loc Cert.ConvXsRefIdeal.nD Cert.ConvXsRefIdeal.τ Cert.ConvXsRefIdeal.sig) → Buf (Elt Ideal) ℓ) : Prop :=
  ∀ c : Dev Cert.ConvXsRefIdeal.nD,
    (Cert.Pre_conv_xs_bwd_finite.fn (F := Ideal) (m ((c.tc : Thread Cert.ConvXsRefIdeal.nD Cert.ConvXsRefIdeal.τ).loc Cert.ConvXsRefIdeal.main_arg0)) (m ((c.tc : Thread Cert.ConvXsRefIdeal.nD Cert.ConvXsRefIdeal.τ).loc Cert.ConvXsRefIdeal.main_arg1)) (m ((c.tc : Thread Cert.ConvXsRefIdeal.nD Cert.ConvXsRefIdeal.τ).loc Cert.ConvXsRefIdeal.main_arg2)) (m ((c.tc : Thread Cert.ConvXsRefIdeal.nD Cert.ConvXsRefIdeal.τ).loc Cert.ConvXsRefIdeal.main_arg3)) (m ((c.tc : Thread Cert.ConvXsRefIdeal.nD Cert.ConvXsRefIdeal.τ).loc Cert.ConvXsRefIdeal.main_arg4))) = (fun _ => 1#1)

def Pre_ConvBc (m : (ℓ : Loc Cert.ConvBc.nD Cert.ConvBc.τ Cert.ConvBc.sig) → Buf (Elt Bits) ℓ) : Prop :=
  True

def Pre_ConvBcIdeal (m : (ℓ : Loc Cert.ConvBcIdeal.nD Cert.ConvBcIdeal.τ Cert.ConvBcIdeal.sig) → Buf (Elt Ideal) ℓ) : Prop :=
  True

def Pre_ConvBcIdeal_conv_bc_bwd_finite [hPre_conv_bc_bwd_finite : Cert.Pre_conv_bc_bwd_finite.Facts] (m : (ℓ : Loc Cert.ConvBcIdeal.nD Cert.ConvBcIdeal.τ Cert.ConvBcIdeal.sig) → Buf (Elt Ideal) ℓ) : Prop :=
  ∀ c : Dev Cert.ConvBcIdeal.nD,
    (Cert.Pre_conv_bc_bwd_finite.fn (F := Ideal) (m ((c.tc : Thread Cert.ConvBcIdeal.nD Cert.ConvBcIdeal.τ).loc Cert.ConvBcIdeal.main_arg0)) (m ((c.tc : Thread Cert.ConvBcIdeal.nD Cert.ConvBcIdeal.τ).loc Cert.ConvBcIdeal.main_arg1)) (m ((c.tc : Thread Cert.ConvBcIdeal.nD Cert.ConvBcIdeal.τ).loc Cert.ConvBcIdeal.main_arg2)) (m ((c.tc : Thread Cert.ConvBcIdeal.nD Cert.ConvBcIdeal.τ).loc Cert.ConvBcIdeal.main_arg3)) (m ((c.tc : Thread Cert.ConvBcIdeal.nD Cert.ConvBcIdeal.τ).loc Cert.ConvBcIdeal.main_arg4))) = (fun _ => 1#1)

def Pre_ConvBcRefIdeal (m : (ℓ : Loc Cert.ConvBcRefIdeal.nD Cert.ConvBcRefIdeal.τ Cert.ConvBcRefIdeal.sig) → Buf (Elt Ideal) ℓ) : Prop :=
  True

def Pre_ConvBcRefIdeal_conv_bc_bwd_finite [hPre_conv_bc_bwd_finite : Cert.Pre_conv_bc_bwd_finite.Facts] (m : (ℓ : Loc Cert.ConvBcRefIdeal.nD Cert.ConvBcRefIdeal.τ Cert.ConvBcRefIdeal.sig) → Buf (Elt Ideal) ℓ) : Prop :=
  ∀ c : Dev Cert.ConvBcRefIdeal.nD,
    (Cert.Pre_conv_bc_bwd_finite.fn (F := Ideal) (m ((c.tc : Thread Cert.ConvBcRefIdeal.nD Cert.ConvBcRefIdeal.τ).loc Cert.ConvBcRefIdeal.main_arg0)) (m ((c.tc : Thread Cert.ConvBcRefIdeal.nD Cert.ConvBcRefIdeal.τ).loc Cert.ConvBcRefIdeal.main_arg1)) (m ((c.tc : Thread Cert.ConvBcRefIdeal.nD Cert.ConvBcRefIdeal.τ).loc Cert.ConvBcRefIdeal.main_arg2)) (m ((c.tc : Thread Cert.ConvBcRefIdeal.nD Cert.ConvBcRefIdeal.τ).loc Cert.ConvBcRefIdeal.main_arg3)) (m ((c.tc : Thread Cert.ConvBcRefIdeal.nD Cert.ConvBcRefIdeal.τ).loc Cert.ConvBcRefIdeal.main_arg4))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranchSsm (m : (ℓ : Loc Cert.AdamBranchSsm.nD Cert.AdamBranchSsm.τ Cert.AdamBranchSsm.sig) → Buf (Elt Bits) ℓ) : Prop :=
  True

def Pre_AdamBranchSsmIdeal (m : (ℓ : Loc Cert.AdamBranchSsmIdeal.nD Cert.AdamBranchSsmIdeal.τ Cert.AdamBranchSsmIdeal.sig) → Buf (Elt Ideal) ℓ) : Prop :=
  True

def Pre_AdamBranchSsmRefIdeal (m : (ℓ : Loc Cert.AdamBranchSsmRefIdeal.nD Cert.AdamBranchSsmRefIdeal.τ Cert.AdamBranchSsmRefIdeal.sig) → Buf (Elt Ideal) ℓ) : Prop :=
  True

def Pre_AdamBranchAttn (m : (ℓ : Loc Cert.AdamBranchAttn.nD Cert.AdamBranchAttn.τ Cert.AdamBranchAttn.sig) → Buf (Elt Bits) ℓ) : Prop :=
  True

def Pre_AdamBranchAttnIdeal (m : (ℓ : Loc Cert.AdamBranchAttnIdeal.nD Cert.AdamBranchAttnIdeal.τ Cert.AdamBranchAttnIdeal.sig) → Buf (Elt Ideal) ℓ) : Prop :=
  True

def Pre_AdamBranchAttnRefIdeal (m : (ℓ : Loc Cert.AdamBranchAttnRefIdeal.nD Cert.AdamBranchAttnRefIdeal.τ Cert.AdamBranchAttnRefIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_AdamMixOutRefIdeal (m : (ℓ : Loc Cert.AdamMixOutRefIdeal.nD Cert.AdamMixOutRefIdeal.τ Cert.AdamMixOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSsmConv (m : (ℓ : Loc Cert.AdamSsmConv.nD Cert.AdamSsmConv.τ Cert.AdamSsmConv.sig) → Buf (Elt Bits) ℓ) : Prop :=
  True

def Pre_AdamSsmConvIdeal (m : (ℓ : Loc Cert.AdamSsmConvIdeal.nD Cert.AdamSsmConvIdeal.τ Cert.AdamSsmConvIdeal.sig) → Buf (Elt Ideal) ℓ) : Prop :=
  True

def Pre_AdamSsmConvRefIdeal (m : (ℓ : Loc Cert.AdamSsmConvRefIdeal.nD Cert.AdamSsmConvRefIdeal.τ Cert.AdamSsmConvRefIdeal.sig) → Buf (Elt Ideal) ℓ) : Prop :=
  True

def Pre_AdamFfnConv (m : (ℓ : Loc Cert.AdamFfnConv.nD Cert.AdamFfnConv.τ Cert.AdamFfnConv.sig) → Buf (Elt Bits) ℓ) : Prop :=
  True

def Pre_AdamFfnConvIdeal (m : (ℓ : Loc Cert.AdamFfnConvIdeal.nD Cert.AdamFfnConvIdeal.τ Cert.AdamFfnConvIdeal.sig) → Buf (Elt Ideal) ℓ) : Prop :=
  True

def Pre_AdamFfnConvRefIdeal (m : (ℓ : Loc Cert.AdamFfnConvRefIdeal.nD Cert.AdamFfnConvRefIdeal.τ Cert.AdamFfnConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DHid [hDHid : Cert.DHid.Facts] : Prop :=
  ∀ (m : (ℓ : Loc Cert.DHid.nD Cert.DHid.τ Cert.DHid.sig) → Buf (Elt Bits) ℓ) (g : Dev Cert.DHid.nD → PrngReg), Pre_DHid m →
    θ_run (Cert.DHid.defs (F := Bits)) (onTc (τ := Cert.DHid.τ) (Cert.DHid.main (F := Bits))) ⟨m, fun _ => 0, g⟩ (fun r => (∀ c : Dev Cert.DHid.nD,
      r.2.mem ((c.tc : Thread Cert.DHid.nD Cert.DHid.τ).loc Cert.DHid.main_arg0) = m ((c.tc : Thread Cert.DHid.nD Cert.DHid.τ).loc Cert.DHid.main_arg0)
      ∧ r.2.mem ((c.tc : Thread Cert.DHid.nD Cert.DHid.τ).loc Cert.DHid.main_arg1) = m ((c.tc : Thread Cert.DHid.nD Cert.DHid.τ).loc Cert.DHid.main_arg1))
      ∧ r.2.sem = fun _ => 0)

def quiescent_DHidIdeal [hDHidIdeal : Cert.DHidIdeal.Facts] : Prop :=
  ∀ (m : (ℓ : Loc Cert.DHidIdeal.nD Cert.DHidIdeal.τ Cert.DHidIdeal.sig) → Buf (Elt Ideal) ℓ) (g : Dev Cert.DHidIdeal.nD → PrngReg), Pre_DHidIdeal m →
    θ_run (Cert.DHidIdeal.defs (F := Ideal)) (onTc (τ := Cert.DHidIdeal.τ) (Cert.DHidIdeal.main (F := Ideal))) ⟨m, fun _ => 0, g⟩ (fun r => (∀ c : Dev Cert.DHidIdeal.nD,
      r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
      ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1))
      ∧ r.2.sem = fun _ => 0)

def quiescent_DHidRefIdeal [hDHidRefIdeal : Cert.DHidRefIdeal.Facts] : Prop :=
  ∀ (m : (ℓ : Loc Cert.DHidRefIdeal.nD Cert.DHidRefIdeal.τ Cert.DHidRefIdeal.sig) → Buf (Elt Ideal) ℓ) (g : Dev Cert.DHidRefIdeal.nD → PrngReg), Pre_DHidRefIdeal m →
    θ_run (Cert.DHidRefIdeal.defs (F := Ideal)) (onTc (τ := Cert.DHidRefIdeal.τ) (Cert.DHidRefIdeal.main (F := Ideal))) ⟨m, fun _ => 0, g⟩ (fun r => (∀ c : Dev Cert.DHidRefIdeal.nD,
      r.2.mem ((c.tc : Thread Cert.DHidRefIdeal.nD Cert.DHidRefIdeal.τ).loc Cert.DHidRefIdeal.main_arg0) = m ((c.tc : Thread Cert.DHidRefIdeal.nD Cert.DHidRefIdeal.τ).loc Cert.DHidRefIdeal.main_arg0)
      ∧ r.2.mem ((c.tc : Thread Cert.DHidRefIdeal.nD Cert.DHidRefIdeal.τ).loc Cert.DHidRefIdeal.main_arg1) = m ((c.tc : Thread Cert.DHidRefIdeal.nD Cert.DHidRefIdeal.τ).loc Cert.DHidRefIdeal.main_arg1))
      ∧ r.2.sem = fun _ => 0)

def quiescent_DwMix [hDwMix : Cert.DwMix.Facts] : Prop :=
  ∀ (m : (ℓ : Loc Cert.DwMix.nD Cert.DwMix.τ Cert.DwMix.sig) → Buf (Elt Bits) ℓ) (g : Dev Cert.DwMix.nD → PrngReg), Pre_DwMix m →
    θ_run (Cert.DwMix.defs (F := Bits)) (onTc (τ := Cert.DwMix.τ) (Cert.DwMix.main (F := Bits))) ⟨m, fun _ => 0, g⟩ (fun r => (∀ c : Dev Cert.DwMix.nD,
      r.2.mem ((c.tc : Thread Cert.DwMix.nD Cert.DwMix.τ).loc Cert.DwMix.main_arg0) = m ((c.tc : Thread Cert.DwMix.nD Cert.DwMix.τ).loc Cert.DwMix.main_arg0)
      ∧ r.2.mem ((c.tc : Thread Cert.DwMix.nD Cert.DwMix.τ).loc Cert.DwMix.main_arg1) = m ((c.tc : Thread Cert.DwMix.nD Cert.DwMix.τ).loc Cert.DwMix.main_arg1))
      ∧ r.2.sem = fun _ => 0)

def quiescent_DwMixIdeal [hDwMixIdeal : Cert.DwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg), Pre_DwMixIdeal m →
    θ_run (Cert.DwMixIdeal.defs (F := Ideal)) (onTc (τ := Cert.DwMixIdeal.τ) (Cert.DwMixIdeal.main (F := Ideal))) ⟨m, fun _ => 0, g⟩ (fun r => (∀ c : Dev Cert.DwMixIdeal.nD,
      r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
      ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ r.2.sem = fun _ => 0)

def quiescent_DwMixRefIdeal [hDwMixRefIdeal : Cert.DwMixRefIdeal.Facts] : Prop :=
  ∀ (m : (ℓ : Loc Cert.DwMixRefIdeal.nD Cert.DwMixRefIdeal.τ Cert.DwMixRefIdeal.sig) → Buf (Elt Ideal) ℓ) (g : Dev Cert.DwMixRefIdeal.nD → PrngReg), Pre_DwMixRefIdeal m →
    θ_run (Cert.DwMixRefIdeal.defs (F := Ideal)) (onTc (τ := Cert.DwMixRefIdeal.τ) (Cert.DwMixRefIdeal.main (F := Ideal))) ⟨m, fun _ => 0, g⟩ (fun r => (∀ c : Dev Cert.DwMixRefIdeal.nD,
      r.2.mem ((c.tc : Thread Cert.DwMixRefIdeal.nD Cert.DwMixRefIdeal.τ).loc Cert.DwMixRefIdeal.main_arg0) = m ((c.tc : Thread Cert.DwMixRefIdeal.nD Cert.DwMixRefIdeal.τ).loc Cert.DwMixRefIdeal.main_arg0)
      ∧ r.2.mem ((c.tc : Thread Cert.DwMixRefIdeal.nD Cert.DwMixRefIdeal.τ).loc Cert.DwMixRefIdeal.main_arg1) = m ((c.tc : Thread Cert.DwMixRefIdeal.nD Cert.DwMixRefIdeal.τ).loc Cert.DwMixRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DwBs [hDwBs : Cert.DwBs.Facts] : Prop :=
  ∀ (m : (ℓ : Loc Cert.DwBs.nD Cert.DwBs.τ Cert.DwBs.sig) → Buf (Elt Bits) ℓ) (g : Dev Cert.DwBs.nD → PrngReg), Pre_DwBs m →
    θ_run (Cert.DwBs.defs (F := Bits)) (onTc (τ := Cert.DwBs.τ) (Cert.DwBs.main (F := Bits))) ⟨m, fun _ => 0, g⟩ (fun r => (∀ c : Dev Cert.DwBs.nD,
      r.2.mem ((c.tc : Thread Cert.DwBs.nD Cert.DwBs.τ).loc Cert.DwBs.main_arg0) = m ((c.tc : Thread Cert.DwBs.nD Cert.DwBs.τ).loc Cert.DwBs.main_arg0)
      ∧ r.2.mem ((c.tc : Thread Cert.DwBs.nD Cert.DwBs.τ).loc Cert.DwBs.main_arg1) = m ((c.tc : Thread Cert.DwBs.nD Cert.DwBs.τ).loc Cert.DwBs.main_arg1))
      ∧ r.2.sem = fun _ => 0)

def quiescent_DwBsIdeal [hDwBsIdeal : Cert.DwBsIdeal.Facts] : Prop :=
  ∀ (m : (ℓ : Loc Cert.DwBsIdeal.nD Cert.DwBsIdeal.τ Cert.DwBsIdeal.sig) → Buf (Elt Ideal) ℓ) (g : Dev Cert.DwBsIdeal.nD → PrngReg), Pre_DwBsIdeal m →
    θ_run (Cert.DwBsIdeal.defs (F := Ideal)) (onTc (τ := Cert.DwBsIdeal.τ) (Cert.DwBsIdeal.main (F := Ideal))) ⟨m, fun _ => 0, g⟩ (fun r => (∀ c : Dev Cert.DwBsIdeal.nD,
      r.2.mem ((c.tc : Thread Cert.DwBsIdeal.nD Cert.DwBsIdeal.τ).loc Cert.DwBsIdeal.main_arg0) = m ((c.tc : Thread Cert.DwBsIdeal.nD Cert.DwBsIdeal.τ).loc Cert.DwBsIdeal.main_arg0)
      ∧ r.2.mem ((c.tc : Thread Cert.DwBsIdeal.nD Cert.DwBsIdeal.τ).loc Cert.DwBsIdeal.main_arg1) = m ((c.tc : Thread Cert.DwBsIdeal.nD Cert.DwBsIdeal.τ).loc Cert.DwBsIdeal.main_arg1))
      ∧ r.2.sem = fun _ => 0)

def quiescent_DwBsRefIdeal [hDwBsRefIdeal : Cert.DwBsRefIdeal.Facts] : Prop :=
  ∀ (m : (ℓ : Loc Cert.DwBsRefIdeal.nD Cert.DwBsRefIdeal.τ Cert.DwBsRefIdeal.sig) → Buf (Elt Ideal) ℓ) (g : Dev Cert.DwBsRefIdeal.nD → PrngReg), Pre_DwBsRefIdeal m →
    θ_run (Cert.DwBsRefIdeal.defs (F := Ideal)) (onTc (τ := Cert.DwBsRefIdeal.τ) (Cert.DwBsRefIdeal.main (F := Ideal))) ⟨m, fun _ => 0, g⟩ (fun r => (∀ c : Dev Cert.DwBsRefIdeal.nD,
      r.2.mem ((c.tc : Thread Cert.DwBsRefIdeal.nD Cert.DwBsRefIdeal.τ).loc Cert.DwBsRefIdeal.main_arg0) = m ((c.tc : Thread Cert.DwBsRefIdeal.nD Cert.DwBsRefIdeal.τ).loc Cert.DwBsRefIdeal.main_arg0)
      ∧ r.2.mem ((c.tc : Thread Cert.DwBsRefIdeal.nD Cert.DwBsRefIdeal.τ).loc Cert.DwBsRefIdeal.main_arg1) = m ((c.tc : Thread Cert.DwBsRefIdeal.nD Cert.DwBsRefIdeal.τ).loc Cert.DwBsRefIdeal.main_arg1))
      ∧ r.2.sem = fun _ => 0)

def quiescent_DwBa [hDwBa : Cert.DwBa.Facts] : Prop :=
  ∀ (m : (ℓ : Loc Cert.DwBa.nD Cert.DwBa.τ Cert.DwBa.sig) → Buf (Elt Bits) ℓ) (g : Dev Cert.DwBa.nD → PrngReg), Pre_DwBa m →
    θ_run (Cert.DwBa.defs (F := Bits)) (onTc (τ := Cert.DwBa.τ) (Cert.DwBa.main (F := Bits))) ⟨m, fun _ => 0, g⟩ (fun r => (∀ c : Dev Cert.DwBa.nD,
      r.2.mem ((c.tc : Thread Cert.DwBa.nD Cert.DwBa.τ).loc Cert.DwBa.main_arg0) = m ((c.tc : Thread Cert.DwBa.nD Cert.DwBa.τ).loc Cert.DwBa.main_arg0)
      ∧ r.2.mem ((c.tc : Thread Cert.DwBa.nD Cert.DwBa.τ).loc Cert.DwBa.main_arg1) = m ((c.tc : Thread Cert.DwBa.nD Cert.DwBa.τ).loc Cert.DwBa.main_arg1))
      ∧ r.2.sem = fun _ => 0)

def quiescent_DwBaIdeal [hDwBaIdeal : Cert.DwBaIdeal.Facts] : Prop :=
  ∀ (m : (ℓ : Loc Cert.DwBaIdeal.nD Cert.DwBaIdeal.τ Cert.DwBaIdeal.sig) → Buf (Elt Ideal) ℓ) (g : Dev Cert.DwBaIdeal.nD → PrngReg), Pre_DwBaIdeal m →
    θ_run (Cert.DwBaIdeal.defs (F := Ideal)) (onTc (τ := Cert.DwBaIdeal.τ) (Cert.DwBaIdeal.main (F := Ideal))) ⟨m, fun _ => 0, g⟩ (fun r => (∀ c : Dev Cert.DwBaIdeal.nD,
      r.2.mem ((c.tc : Thread Cert.DwBaIdeal.nD Cert.DwBaIdeal.τ).loc Cert.DwBaIdeal.main_arg0) = m ((c.tc : Thread Cert.DwBaIdeal.nD Cert.DwBaIdeal.τ).loc Cert.DwBaIdeal.main_arg0)
      ∧ r.2.mem ((c.tc : Thread Cert.DwBaIdeal.nD Cert.DwBaIdeal.τ).loc Cert.DwBaIdeal.main_arg1) = m ((c.tc : Thread Cert.DwBaIdeal.nD Cert.DwBaIdeal.τ).loc Cert.DwBaIdeal.main_arg1))
      ∧ r.2.sem = fun _ => 0)

def quiescent_DwBaRefIdeal [hDwBaRefIdeal : Cert.DwBaRefIdeal.Facts] : Prop :=
  ∀ (m : (ℓ : Loc Cert.DwBaRefIdeal.nD Cert.DwBaRefIdeal.τ Cert.DwBaRefIdeal.sig) → Buf (Elt Ideal) ℓ) (g : Dev Cert.DwBaRefIdeal.nD → PrngReg), Pre_DwBaRefIdeal m →
    θ_run (Cert.DwBaRefIdeal.defs (F := Ideal)) (onTc (τ := Cert.DwBaRefIdeal.τ) (Cert.DwBaRefIdeal.main (F := Ideal))) ⟨m, fun _ => 0, g⟩ (fun r => (∀ c : Dev Cert.DwBaRefIdeal.nD,
      r.2.mem ((c.tc : Thread Cert.DwBaRefIdeal.nD Cert.DwBaRefIdeal.τ).loc Cert.DwBaRefIdeal.main_arg0) = m ((c.tc : Thread Cert.DwBaRefIdeal.nD Cert.DwBaRefIdeal.τ).loc Cert.DwBaRefIdeal.main_arg0)
      ∧ r.2.mem ((c.tc : Thread Cert.DwBaRefIdeal.nD Cert.DwBaRefIdeal.τ).loc Cert.DwBaRefIdeal.main_arg1) = m ((c.tc : Thread Cert.DwBaRefIdeal.nD Cert.DwBaRefIdeal.τ).loc Cert.DwBaRefIdeal.main_arg1))
      ∧ r.2.sem = fun _ => 0)

def quiescent_DYssm [hDYssm : Cert.DYssm.Facts] : Prop :=
  ∀ (m : (ℓ : Loc Cert.DYssm.nD Cert.DYssm.τ Cert.DYssm.sig) → Buf (Elt Bits) ℓ) (g : Dev Cert.DYssm.nD → PrngReg), Pre_DYssm m →
    θ_run (Cert.DYssm.defs (F := Bits)) (onTc (τ := Cert.DYssm.τ) (Cert.DYssm.main (F := Bits))) ⟨m, fun _ => 0, g⟩ (fun r => (∀ c : Dev Cert.DYssm.nD,
      r.2.mem ((c.tc : Thread Cert.DYssm.nD Cert.DYssm.τ).loc Cert.DYssm.main_arg0) = m ((c.tc : Thread Cert.DYssm.nD Cert.DYssm.τ).loc Cert.DYssm.main_arg0)
      ∧ r.2.mem ((c.tc : Thread Cert.DYssm.nD Cert.DYssm.τ).loc Cert.DYssm.main_arg1) = m ((c.tc : Thread Cert.DYssm.nD Cert.DYssm.τ).loc Cert.DYssm.main_arg1))
      ∧ r.2.sem = fun _ => 0)

def quiescent_DYssmIdeal [hDYssmIdeal : Cert.DYssmIdeal.Facts] : Prop :=
  ∀ (m : (ℓ : Loc Cert.DYssmIdeal.nD Cert.DYssmIdeal.τ Cert.DYssmIdeal.sig) → Buf (Elt Ideal) ℓ) (g : Dev Cert.DYssmIdeal.nD → PrngReg), Pre_DYssmIdeal m →
    θ_run (Cert.DYssmIdeal.defs (F := Ideal)) (onTc (τ := Cert.DYssmIdeal.τ) (Cert.DYssmIdeal.main (F := Ideal))) ⟨m, fun _ => 0, g⟩ (fun r => (∀ c : Dev Cert.DYssmIdeal.nD,
      r.2.mem ((c.tc : Thread Cert.DYssmIdeal.nD Cert.DYssmIdeal.τ).loc Cert.DYssmIdeal.main_arg0) = m ((c.tc : Thread Cert.DYssmIdeal.nD Cert.DYssmIdeal.τ).loc Cert.DYssmIdeal.main_arg0)
      ∧ r.2.mem ((c.tc : Thread Cert.DYssmIdeal.nD Cert.DYssmIdeal.τ).loc Cert.DYssmIdeal.main_arg1) = m ((c.tc : Thread Cert.DYssmIdeal.nD Cert.DYssmIdeal.τ).loc Cert.DYssmIdeal.main_arg1))
      ∧ r.2.sem = fun _ => 0)

def quiescent_DYssmRefIdeal [hDYssmRefIdeal : Cert.DYssmRefIdeal.Facts] : Prop :=
  ∀ (m : (ℓ : Loc Cert.DYssmRefIdeal.nD Cert.DYssmRefIdeal.τ Cert.DYssmRefIdeal.sig) → Buf (Elt Ideal) ℓ) (g : Dev Cert.DYssmRefIdeal.nD → PrngReg), Pre_DYssmRefIdeal m →
    θ_run (Cert.DYssmRefIdeal.defs (F := Ideal)) (onTc (τ := Cert.DYssmRefIdeal.τ) (Cert.DYssmRefIdeal.main (F := Ideal))) ⟨m, fun _ => 0, g⟩ (fun r => (∀ c : Dev Cert.DYssmRefIdeal.nD,
      r.2.mem ((c.tc : Thread Cert.DYssmRefIdeal.nD Cert.DYssmRefIdeal.τ).loc Cert.DYssmRefIdeal.main_arg0) = m ((c.tc : Thread Cert.DYssmRefIdeal.nD Cert.DYssmRefIdeal.τ).loc Cert.DYssmRefIdeal.main_arg0)
      ∧ r.2.mem ((c.tc : Thread Cert.DYssmRefIdeal.nD Cert.DYssmRefIdeal.τ).loc Cert.DYssmRefIdeal.main_arg1) = m ((c.tc : Thread Cert.DYssmRefIdeal.nD Cert.DYssmRefIdeal.τ).loc Cert.DYssmRefIdeal.main_arg1))
      ∧ r.2.sem = fun _ => 0)

def quiescent_DYattn [hDYattn : Cert.DYattn.Facts] : Prop :=
  ∀ (m : (ℓ : Loc Cert.DYattn.nD Cert.DYattn.τ Cert.DYattn.sig) → Buf (Elt Bits) ℓ) (g : Dev Cert.DYattn.nD → PrngReg), Pre_DYattn m →
    θ_run (Cert.DYattn.defs (F := Bits)) (onTc (τ := Cert.DYattn.τ) (Cert.DYattn.main (F := Bits))) ⟨m, fun _ => 0, g⟩ (fun r => (∀ c : Dev Cert.DYattn.nD,
      r.2.mem ((c.tc : Thread Cert.DYattn.nD Cert.DYattn.τ).loc Cert.DYattn.main_arg0) = m ((c.tc : Thread Cert.DYattn.nD Cert.DYattn.τ).loc Cert.DYattn.main_arg0)
      ∧ r.2.mem ((c.tc : Thread Cert.DYattn.nD Cert.DYattn.τ).loc Cert.DYattn.main_arg1) = m ((c.tc : Thread Cert.DYattn.nD Cert.DYattn.τ).loc Cert.DYattn.main_arg1))
      ∧ r.2.sem = fun _ => 0)

def quiescent_DYattnIdeal [hDYattnIdeal : Cert.DYattnIdeal.Facts] : Prop :=
  ∀ (m : (ℓ : Loc Cert.DYattnIdeal.nD Cert.DYattnIdeal.τ Cert.DYattnIdeal.sig) → Buf (Elt Ideal) ℓ) (g : Dev Cert.DYattnIdeal.nD → PrngReg), Pre_DYattnIdeal m →
    θ_run (Cert.DYattnIdeal.defs (F := Ideal)) (onTc (τ := Cert.DYattnIdeal.τ) (Cert.DYattnIdeal.main (F := Ideal))) ⟨m, fun _ => 0, g⟩ (fun r => (∀ c : Dev Cert.DYattnIdeal.nD,
      r.2.mem ((c.tc : Thread Cert.DYattnIdeal.nD Cert.DYattnIdeal.τ).loc Cert.DYattnIdeal.main_arg0) = m ((c.tc : Thread Cert.DYattnIdeal.nD Cert.DYattnIdeal.τ).loc Cert.DYattnIdeal.main_arg0)
      ∧ r.2.mem ((c.tc : Thread Cert.DYattnIdeal.nD Cert.DYattnIdeal.τ).loc Cert.DYattnIdeal.main_arg1) = m ((c.tc : Thread Cert.DYattnIdeal.nD Cert.DYattnIdeal.τ).loc Cert.DYattnIdeal.main_arg1))
      ∧ r.2.sem = fun _ => 0)

def quiescent_DYattnRefIdeal [hDYattnRefIdeal : Cert.DYattnRefIdeal.Facts] : Prop :=
  ∀ (m : (ℓ : Loc Cert.DYattnRefIdeal.nD Cert.DYattnRefIdeal.τ Cert.DYattnRefIdeal.sig) → Buf (Elt Ideal) ℓ) (g : Dev Cert.DYattnRefIdeal.nD → PrngReg), Pre_DYattnRefIdeal m →
    θ_run (Cert.DYattnRefIdeal.defs (F := Ideal)) (onTc (τ := Cert.DYattnRefIdeal.τ) (Cert.DYattnRefIdeal.main (F := Ideal))) ⟨m, fun _ => 0, g⟩ (fun r => (∀ c : Dev Cert.DYattnRefIdeal.nD,
      r.2.mem ((c.tc : Thread Cert.DYattnRefIdeal.nD Cert.DYattnRefIdeal.τ).loc Cert.DYattnRefIdeal.main_arg0) = m ((c.tc : Thread Cert.DYattnRefIdeal.nD Cert.DYattnRefIdeal.τ).loc Cert.DYattnRefIdeal.main_arg0)
      ∧ r.2.mem ((c.tc : Thread Cert.DYattnRefIdeal.nD Cert.DYattnRefIdeal.τ).loc Cert.DYattnRefIdeal.main_arg1) = m ((c.tc : Thread Cert.DYattnRefIdeal.nD Cert.DYattnRefIdeal.τ).loc Cert.DYattnRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Bs [hBs : Cert.Bs.Facts] : Prop :=
  ∀ (m : (ℓ : Loc Cert.Bs.nD Cert.Bs.τ Cert.Bs.sig) → Buf (Elt Bits) ℓ) (g : Dev Cert.Bs.nD → PrngReg), Pre_Bs m →
    θ_run (Cert.Bs.defs (F := Bits)) (onTc (τ := Cert.Bs.τ) (Cert.Bs.main (F := Bits))) ⟨m, fun _ => 0, g⟩ (fun r => (∀ c : Dev Cert.Bs.nD,
      r.2.mem ((c.tc : Thread Cert.Bs.nD Cert.Bs.τ).loc Cert.Bs.main_arg0) = m ((c.tc : Thread Cert.Bs.nD Cert.Bs.τ).loc Cert.Bs.main_arg0)
      ∧ r.2.mem ((c.tc : Thread Cert.Bs.nD Cert.Bs.τ).loc Cert.Bs.main_arg1) = m ((c.tc : Thread Cert.Bs.nD Cert.Bs.τ).loc Cert.Bs.main_arg1))
      ∧ r.2.sem = fun _ => 0)

def quiescent_BsIdeal [hBsIdeal : Cert.BsIdeal.Facts] : Prop :=
  ∀ (m : (ℓ : Loc Cert.BsIdeal.nD Cert.BsIdeal.τ Cert.BsIdeal.sig) → Buf (Elt Ideal) ℓ) (g : Dev Cert.BsIdeal.nD → PrngReg), Pre_BsIdeal m →
    θ_run (Cert.BsIdeal.defs (F := Ideal)) (onTc (τ := Cert.BsIdeal.τ) (Cert.BsIdeal.main (F := Ideal))) ⟨m, fun _ => 0, g⟩ (fun r => (∀ c : Dev Cert.BsIdeal.nD,
      r.2.mem ((c.tc : Thread Cert.BsIdeal.nD Cert.BsIdeal.τ).loc Cert.BsIdeal.main_arg0) = m ((c.tc : Thread Cert.BsIdeal.nD Cert.BsIdeal.τ).loc Cert.BsIdeal.main_arg0)
      ∧ r.2.mem ((c.tc : Thread Cert.BsIdeal.nD Cert.BsIdeal.τ).loc Cert.BsIdeal.main_arg1) = m ((c.tc : Thread Cert.BsIdeal.nD Cert.BsIdeal.τ).loc Cert.BsIdeal.main_arg1))
      ∧ r.2.sem = fun _ => 0)

def quiescent_BsRefIdeal [hBsRefIdeal : Cert.BsRefIdeal.Facts] : Prop :=
  ∀ (m : (ℓ : Loc Cert.BsRefIdeal.nD Cert.BsRefIdeal.τ Cert.BsRefIdeal.sig) → Buf (Elt Ideal) ℓ) (g : Dev Cert.BsRefIdeal.nD → PrngReg), Pre_BsRefIdeal m →
    θ_run (Cert.BsRefIdeal.defs (F := Ideal)) (onTc (τ := Cert.BsRefIdeal.τ) (Cert.BsRefIdeal.main (F := Ideal))) ⟨m, fun _ => 0, g⟩ (fun r => (∀ c : Dev Cert.BsRefIdeal.nD,
      r.2.mem ((c.tc : Thread Cert.BsRefIdeal.nD Cert.BsRefIdeal.τ).loc Cert.BsRefIdeal.main_arg0) = m ((c.tc : Thread Cert.BsRefIdeal.nD Cert.BsRefIdeal.τ).loc Cert.BsRefIdeal.main_arg0)
      ∧ r.2.mem ((c.tc : Thread Cert.BsRefIdeal.nD Cert.BsRefIdeal.τ).loc Cert.BsRefIdeal.main_arg1) = m ((c.tc : Thread Cert.BsRefIdeal.nD Cert.BsRefIdeal.τ).loc Cert.BsRefIdeal.main_arg1))
      ∧ r.2.sem = fun _ => 0)

def quiescent_Ba [hBa : Cert.Ba.Facts] : Prop :=
  ∀ (m : (ℓ : Loc Cert.Ba.nD Cert.Ba.τ Cert.Ba.sig) → Buf (Elt Bits) ℓ) (g : Dev Cert.Ba.nD → PrngReg), Pre_Ba m →
    θ_run (Cert.Ba.defs (F := Bits)) (onTc (τ := Cert.Ba.τ) (Cert.Ba.main (F := Bits))) ⟨m, fun _ => 0, g⟩ (fun r => (∀ c : Dev Cert.Ba.nD,
      r.2.mem ((c.tc : Thread Cert.Ba.nD Cert.Ba.τ).loc Cert.Ba.main_arg0) = m ((c.tc : Thread Cert.Ba.nD Cert.Ba.τ).loc Cert.Ba.main_arg0)
      ∧ r.2.mem ((c.tc : Thread Cert.Ba.nD Cert.Ba.τ).loc Cert.Ba.main_arg1) = m ((c.tc : Thread Cert.Ba.nD Cert.Ba.τ).loc Cert.Ba.main_arg1))
      ∧ r.2.sem = fun _ => 0)

def quiescent_BaIdeal [hBaIdeal : Cert.BaIdeal.Facts] : Prop :=
  ∀ (m : (ℓ : Loc Cert.BaIdeal.nD Cert.BaIdeal.τ Cert.BaIdeal.sig) → Buf (Elt Ideal) ℓ) (g : Dev Cert.BaIdeal.nD → PrngReg), Pre_BaIdeal m →
    θ_run (Cert.BaIdeal.defs (F := Ideal)) (onTc (τ := Cert.BaIdeal.τ) (Cert.BaIdeal.main (F := Ideal))) ⟨m, fun _ => 0, g⟩ (fun r => (∀ c : Dev Cert.BaIdeal.nD,
      r.2.mem ((c.tc : Thread Cert.BaIdeal.nD Cert.BaIdeal.τ).loc Cert.BaIdeal.main_arg0) = m ((c.tc : Thread Cert.BaIdeal.nD Cert.BaIdeal.τ).loc Cert.BaIdeal.main_arg0)
      ∧ r.2.mem ((c.tc : Thread Cert.BaIdeal.nD Cert.BaIdeal.τ).loc Cert.BaIdeal.main_arg1) = m ((c.tc : Thread Cert.BaIdeal.nD Cert.BaIdeal.τ).loc Cert.BaIdeal.main_arg1))
      ∧ r.2.sem = fun _ => 0)

def quiescent_BaRefIdeal [hBaRefIdeal : Cert.BaRefIdeal.Facts] : Prop :=
  ∀ (m : (ℓ : Loc Cert.BaRefIdeal.nD Cert.BaRefIdeal.τ Cert.BaRefIdeal.sig) → Buf (Elt Ideal) ℓ) (g : Dev Cert.BaRefIdeal.nD → PrngReg), Pre_BaRefIdeal m →
    θ_run (Cert.BaRefIdeal.defs (F := Ideal)) (onTc (τ := Cert.BaRefIdeal.τ) (Cert.BaRefIdeal.main (F := Ideal))) ⟨m, fun _ => 0, g⟩ (fun r => (∀ c : Dev Cert.BaRefIdeal.nD,
      r.2.mem ((c.tc : Thread Cert.BaRefIdeal.nD Cert.BaRefIdeal.τ).loc Cert.BaRefIdeal.main_arg0) = m ((c.tc : Thread Cert.BaRefIdeal.nD Cert.BaRefIdeal.τ).loc Cert.BaRefIdeal.main_arg0)
      ∧ r.2.mem ((c.tc : Thread Cert.BaRefIdeal.nD Cert.BaRefIdeal.τ).loc Cert.BaRefIdeal.main_arg1) = m ((c.tc : Thread Cert.BaRefIdeal.nD Cert.BaRefIdeal.τ).loc Cert.BaRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_InTail [hInTail : Cert.InTail.Facts] : Prop :=
  ∀ (m : (ℓ : Loc Cert.InTail.nD Cert.InTail.τ Cert.InTail.sig) → Buf (Elt Bits) ℓ) (g : Dev Cert.InTail.nD → PrngReg), Pre_InTail m →
    θ_run (Cert.InTail.defs (F := Bits)) (onTc (τ := Cert.InTail.τ) (Cert.InTail.main (F := Bits))) ⟨m, fun _ => 0, g⟩ (fun r => (∀ c : Dev Cert.InTail.nD,
      r.2.mem ((c.tc : Thread Cert.InTail.nD Cert.InTail.τ).loc Cert.InTail.main_arg0) = m ((c.tc : Thread Cert.InTail.nD Cert.InTail.τ).loc Cert.InTail.main_arg0)
      ∧ r.2.mem ((c.tc : Thread Cert.InTail.nD Cert.InTail.τ).loc Cert.InTail.main_arg1) = m ((c.tc : Thread Cert.InTail.nD Cert.InTail.τ).loc Cert.InTail.main_arg1))
      ∧ r.2.sem = fun _ => 0)

def quiescent_InTailIdeal [hInTailIdeal : Cert.InTailIdeal.Facts] : Prop :=
  ∀ (m : (ℓ : Loc Cert.InTailIdeal.nD Cert.InTailIdeal.τ Cert.InTailIdeal.sig) → Buf (Elt Ideal) ℓ) (g : Dev Cert.InTailIdeal.nD → PrngReg), Pre_InTailIdeal m →
    θ_run (Cert.InTailIdeal.defs (F := Ideal)) (onTc (τ := Cert.InTailIdeal.τ) (Cert.InTailIdeal.main (F := Ideal))) ⟨m, fun _ => 0, g⟩ (fun r => (∀ c : Dev Cert.InTailIdeal.nD,
      r.2.mem ((c.tc : Thread Cert.InTailIdeal.nD Cert.InTailIdeal.τ).loc Cert.InTailIdeal.main_arg0) = m ((c.tc : Thread Cert.InTailIdeal.nD Cert.InTailIdeal.τ).loc Cert.InTailIdeal.main_arg0)
      ∧ r.2.mem ((c.tc : Thread Cert.InTailIdeal.nD Cert.InTailIdeal.τ).loc Cert.InTailIdeal.main_arg1) = m ((c.tc : Thread Cert.InTailIdeal.nD Cert.InTailIdeal.τ).loc Cert.InTailIdeal.main_arg1))
      ∧ r.2.sem = fun _ => 0)

def quiescent_InTailRefIdeal [hInTailRefIdeal : Cert.InTailRefIdeal.Facts] : Prop :=
  ∀ (m : (ℓ : Loc Cert.InTailRefIdeal.nD Cert.InTailRefIdeal.τ Cert.InTailRefIdeal.sig) → Buf (Elt Ideal) ℓ) (g : Dev Cert.InTailRefIdeal.nD → PrngReg), Pre_InTailRefIdeal m →
    θ_run (Cert.InTailRefIdeal.defs (F := Ideal)) (onTc (τ := Cert.InTailRefIdeal.τ) (Cert.InTailRefIdeal.main (F := Ideal))) ⟨m, fun _ => 0, g⟩ (fun r => (∀ c : Dev Cert.InTailRefIdeal.nD,
      r.2.mem ((c.tc : Thread Cert.InTailRefIdeal.nD Cert.InTailRefIdeal.τ).loc Cert.InTailRefIdeal.main_arg0) = m ((c.tc : Thread Cert.InTailRefIdeal.nD Cert.InTailRefIdeal.τ).loc Cert.InTailRefIdeal.main_arg0)
      ∧ r.2.mem ((c.tc : Thread Cert.InTailRefIdeal.nD Cert.InTailRefIdeal.τ).loc Cert.InTailRefIdeal.main_arg1) = m ((c.tc : Thread Cert.InTailRefIdeal.nD Cert.InTailRefIdeal.τ).loc Cert.InTailRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdIdeal_pre_ln1_bwd_finite [hLnBwdIdeal : Cert.LnBwdIdeal.Facts] [hPre_ln1_bwd_finite : Cert.Pre_ln1_bwd_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln1_bwd_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnBwdRefIdeal_pre_ln1_bwd_finite [hLnBwdRefIdeal : Cert.LnBwdRefIdeal.Facts] [hPre_ln1_bwd_finite : Cert.Pre_ln1_bwd_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_ln1_bwd_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4)
      ∧ r.2.mem ((c.tc : Thread Cert.LnLoss.nD Cert.LnLoss.τ).loc Cert.LnLoss.main_arg5) = m ((c.tc : Thread Cert.LnLoss.nD Cert.LnLoss.τ).loc Cert.LnLoss.main_arg5)
      ∧ r.2.mem ((c.tc : Thread Cert.LnLoss.nD Cert.LnLoss.τ).loc Cert.LnLoss.main_arg6) = m ((c.tc : Thread Cert.LnLoss.nD Cert.LnLoss.τ).loc Cert.LnLoss.main_arg6))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
      ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5)
      ∧ r.2.mem ((c.tc : Thread Cert.LnLossIdeal.nD Cert.LnLossIdeal.τ).loc Cert.LnLossIdeal.main_arg6) = m ((c.tc : Thread Cert.LnLossIdeal.nD Cert.LnLossIdeal.τ).loc Cert.LnLossIdeal.main_arg6))
      ∧ r.2.sem = fun _ => 0)

def quiescent_LnLossIdeal_pre_ln2_loss_finite [hLnLossIdeal : Cert.LnLossIdeal.Facts] [hPre_ln2_loss_finite : Cert.Pre_ln2_loss_finite.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal_ln2_loss_finite m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
      ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5)
      ∧ r.2.mem ((c.tc : Thread Cert.LnLossIdeal.nD Cert.LnLossIdeal.τ).loc Cert.LnLossIdeal.main_arg6) = m ((c.tc : Thread Cert.LnLossIdeal.nD Cert.LnLossIdeal.τ).loc Cert.LnLossIdeal.main_arg6))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4)
      ∧ r.2.mem ((c.tc : Thread Cert.LnLossRefIdeal.nD Cert.LnLossRefIdeal.τ).loc Cert.LnLossRefIdeal.main_arg5) = m ((c.tc : Thread Cert.LnLossRefIdeal.nD Cert.LnLossRefIdeal.τ).loc Cert.LnLossRefIdeal.main_arg5)
      ∧ r.2.mem ((c.tc : Thread Cert.LnLossRefIdeal.nD Cert.LnLossRefIdeal.τ).loc Cert.LnLossRefIdeal.main_arg6) = m ((c.tc : Thread Cert.LnLossRefIdeal.nD Cert.LnLossRefIdeal.τ).loc Cert.LnLossRefIdeal.main_arg6))
      ∧ r.2.sem = fun _ => 0)

def quiescent_LnLossRefIdeal_pre_ln2_loss_finite [hLnLossRefIdeal : Cert.LnLossRefIdeal.Facts] [hPre_ln2_loss_finite : Cert.Pre_ln2_loss_finite.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal_ln2_loss_finite m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4)
      ∧ r.2.mem ((c.tc : Thread Cert.LnLossRefIdeal.nD Cert.LnLossRefIdeal.τ).loc Cert.LnLossRefIdeal.main_arg5) = m ((c.tc : Thread Cert.LnLossRefIdeal.nD Cert.LnLossRefIdeal.τ).loc Cert.LnLossRefIdeal.main_arg5)
      ∧ r.2.mem ((c.tc : Thread Cert.LnLossRefIdeal.nD Cert.LnLossRefIdeal.τ).loc Cert.LnLossRefIdeal.main_arg6) = m ((c.tc : Thread Cert.LnLossRefIdeal.nD Cert.LnLossRefIdeal.τ).loc Cert.LnLossRefIdeal.main_arg6))
      ∧ r.2.sem = fun _ => 0)

def quiescent_ConvXs [hConvXs : Cert.ConvXs.Facts] : Prop :=
  ∀ (m : (ℓ : Loc Cert.ConvXs.nD Cert.ConvXs.τ Cert.ConvXs.sig) → Buf (Elt Bits) ℓ) (g : Dev Cert.ConvXs.nD → PrngReg), Pre_ConvXs m →
    θ_run (Cert.ConvXs.defs (F := Bits)) (onTc (τ := Cert.ConvXs.τ) (Cert.ConvXs.main (F := Bits))) ⟨m, fun _ => 0, g⟩ (fun r => (∀ c : Dev Cert.ConvXs.nD,
      r.2.mem ((c.tc : Thread Cert.ConvXs.nD Cert.ConvXs.τ).loc Cert.ConvXs.main_arg0) = m ((c.tc : Thread Cert.ConvXs.nD Cert.ConvXs.τ).loc Cert.ConvXs.main_arg0)
      ∧ r.2.mem ((c.tc : Thread Cert.ConvXs.nD Cert.ConvXs.τ).loc Cert.ConvXs.main_arg1) = m ((c.tc : Thread Cert.ConvXs.nD Cert.ConvXs.τ).loc Cert.ConvXs.main_arg1)
      ∧ r.2.mem ((c.tc : Thread Cert.ConvXs.nD Cert.ConvXs.τ).loc Cert.ConvXs.main_arg2) = m ((c.tc : Thread Cert.ConvXs.nD Cert.ConvXs.τ).loc Cert.ConvXs.main_arg2)
      ∧ r.2.mem ((c.tc : Thread Cert.ConvXs.nD Cert.ConvXs.τ).loc Cert.ConvXs.main_arg3) = m ((c.tc : Thread Cert.ConvXs.nD Cert.ConvXs.τ).loc Cert.ConvXs.main_arg3)
      ∧ r.2.mem ((c.tc : Thread Cert.ConvXs.nD Cert.ConvXs.τ).loc Cert.ConvXs.main_arg4) = m ((c.tc : Thread Cert.ConvXs.nD Cert.ConvXs.τ).loc Cert.ConvXs.main_arg4))
      ∧ r.2.sem = fun _ => 0)

def quiescent_ConvXsIdeal [hConvXsIdeal : Cert.ConvXsIdeal.Facts] : Prop :=
  ∀ (m : (ℓ : Loc Cert.ConvXsIdeal.nD Cert.ConvXsIdeal.τ Cert.ConvXsIdeal.sig) → Buf (Elt Ideal) ℓ) (g : Dev Cert.ConvXsIdeal.nD → PrngReg), Pre_ConvXsIdeal m →
    θ_run (Cert.ConvXsIdeal.defs (F := Ideal)) (onTc (τ := Cert.ConvXsIdeal.τ) (Cert.ConvXsIdeal.main (F := Ideal))) ⟨m, fun _ => 0, g⟩ (fun r => (∀ c : Dev Cert.ConvXsIdeal.nD,
      r.2.mem ((c.tc : Thread Cert.ConvXsIdeal.nD Cert.ConvXsIdeal.τ).loc Cert.ConvXsIdeal.main_arg0) = m ((c.tc : Thread Cert.ConvXsIdeal.nD Cert.ConvXsIdeal.τ).loc Cert.ConvXsIdeal.main_arg0)
      ∧ r.2.mem ((c.tc : Thread Cert.ConvXsIdeal.nD Cert.ConvXsIdeal.τ).loc Cert.ConvXsIdeal.main_arg1) = m ((c.tc : Thread Cert.ConvXsIdeal.nD Cert.ConvXsIdeal.τ).loc Cert.ConvXsIdeal.main_arg1)
      ∧ r.2.mem ((c.tc : Thread Cert.ConvXsIdeal.nD Cert.ConvXsIdeal.τ).loc Cert.ConvXsIdeal.main_arg2) = m ((c.tc : Thread Cert.ConvXsIdeal.nD Cert.ConvXsIdeal.τ).loc Cert.ConvXsIdeal.main_arg2)
      ∧ r.2.mem ((c.tc : Thread Cert.ConvXsIdeal.nD Cert.ConvXsIdeal.τ).loc Cert.ConvXsIdeal.main_arg3) = m ((c.tc : Thread Cert.ConvXsIdeal.nD Cert.ConvXsIdeal.τ).loc Cert.ConvXsIdeal.main_arg3)
      ∧ r.2.mem ((c.tc : Thread Cert.ConvXsIdeal.nD Cert.ConvXsIdeal.τ).loc Cert.ConvXsIdeal.main_arg4) = m ((c.tc : Thread Cert.ConvXsIdeal.nD Cert.ConvXsIdeal.τ).loc Cert.ConvXsIdeal.main_arg4))
      ∧ r.2.sem = fun _ => 0)

def quiescent_ConvXsIdeal_pre_conv_xs_bwd_finite [hConvXsIdeal : Cert.ConvXsIdeal.Facts] [hPre_conv_xs_bwd_finite : Cert.Pre_conv_xs_bwd_finite.Facts] : Prop :=
  ∀ (m : (ℓ : Loc Cert.ConvXsIdeal.nD Cert.ConvXsIdeal.τ Cert.ConvXsIdeal.sig) → Buf (Elt Ideal) ℓ) (g : Dev Cert.ConvXsIdeal.nD → PrngReg), Pre_ConvXsIdeal_conv_xs_bwd_finite m →
    θ_run (Cert.ConvXsIdeal.defs (F := Ideal)) (onTc (τ := Cert.ConvXsIdeal.τ) (Cert.ConvXsIdeal.main (F := Ideal))) ⟨m, fun _ => 0, g⟩ (fun r => (∀ c : Dev Cert.ConvXsIdeal.nD,
      r.2.mem ((c.tc : Thread Cert.ConvXsIdeal.nD Cert.ConvXsIdeal.τ).loc Cert.ConvXsIdeal.main_arg0) = m ((c.tc : Thread Cert.ConvXsIdeal.nD Cert.ConvXsIdeal.τ).loc Cert.ConvXsIdeal.main_arg0)
      ∧ r.2.mem ((c.tc : Thread Cert.ConvXsIdeal.nD Cert.ConvXsIdeal.τ).loc Cert.ConvXsIdeal.main_arg1) = m ((c.tc : Thread Cert.ConvXsIdeal.nD Cert.ConvXsIdeal.τ).loc Cert.ConvXsIdeal.main_arg1)
      ∧ r.2.mem ((c.tc : Thread Cert.ConvXsIdeal.nD Cert.ConvXsIdeal.τ).loc Cert.ConvXsIdeal.main_arg2) = m ((c.tc : Thread Cert.ConvXsIdeal.nD Cert.ConvXsIdeal.τ).loc Cert.ConvXsIdeal.main_arg2)
      ∧ r.2.mem ((c.tc : Thread Cert.ConvXsIdeal.nD Cert.ConvXsIdeal.τ).loc Cert.ConvXsIdeal.main_arg3) = m ((c.tc : Thread Cert.ConvXsIdeal.nD Cert.ConvXsIdeal.τ).loc Cert.ConvXsIdeal.main_arg3)
      ∧ r.2.mem ((c.tc : Thread Cert.ConvXsIdeal.nD Cert.ConvXsIdeal.τ).loc Cert.ConvXsIdeal.main_arg4) = m ((c.tc : Thread Cert.ConvXsIdeal.nD Cert.ConvXsIdeal.τ).loc Cert.ConvXsIdeal.main_arg4))
      ∧ r.2.sem = fun _ => 0)

def quiescent_ConvXsRefIdeal [hConvXsRefIdeal : Cert.ConvXsRefIdeal.Facts] : Prop :=
  ∀ (m : (ℓ : Loc Cert.ConvXsRefIdeal.nD Cert.ConvXsRefIdeal.τ Cert.ConvXsRefIdeal.sig) → Buf (Elt Ideal) ℓ) (g : Dev Cert.ConvXsRefIdeal.nD → PrngReg), Pre_ConvXsRefIdeal m →
    θ_run (Cert.ConvXsRefIdeal.defs (F := Ideal)) (onTc (τ := Cert.ConvXsRefIdeal.τ) (Cert.ConvXsRefIdeal.main (F := Ideal))) ⟨m, fun _ => 0, g⟩ (fun r => (∀ c : Dev Cert.ConvXsRefIdeal.nD,
      r.2.mem ((c.tc : Thread Cert.ConvXsRefIdeal.nD Cert.ConvXsRefIdeal.τ).loc Cert.ConvXsRefIdeal.main_arg0) = m ((c.tc : Thread Cert.ConvXsRefIdeal.nD Cert.ConvXsRefIdeal.τ).loc Cert.ConvXsRefIdeal.main_arg0)
      ∧ r.2.mem ((c.tc : Thread Cert.ConvXsRefIdeal.nD Cert.ConvXsRefIdeal.τ).loc Cert.ConvXsRefIdeal.main_arg1) = m ((c.tc : Thread Cert.ConvXsRefIdeal.nD Cert.ConvXsRefIdeal.τ).loc Cert.ConvXsRefIdeal.main_arg1)
      ∧ r.2.mem ((c.tc : Thread Cert.ConvXsRefIdeal.nD Cert.ConvXsRefIdeal.τ).loc Cert.ConvXsRefIdeal.main_arg2) = m ((c.tc : Thread Cert.ConvXsRefIdeal.nD Cert.ConvXsRefIdeal.τ).loc Cert.ConvXsRefIdeal.main_arg2)
      ∧ r.2.mem ((c.tc : Thread Cert.ConvXsRefIdeal.nD Cert.ConvXsRefIdeal.τ).loc Cert.ConvXsRefIdeal.main_arg3) = m ((c.tc : Thread Cert.ConvXsRefIdeal.nD Cert.ConvXsRefIdeal.τ).loc Cert.ConvXsRefIdeal.main_arg3)
      ∧ r.2.mem ((c.tc : Thread Cert.ConvXsRefIdeal.nD Cert.ConvXsRefIdeal.τ).loc Cert.ConvXsRefIdeal.main_arg4) = m ((c.tc : Thread Cert.ConvXsRefIdeal.nD Cert.ConvXsRefIdeal.τ).loc Cert.ConvXsRefIdeal.main_arg4))
      ∧ r.2.sem = fun _ => 0)

def quiescent_ConvXsRefIdeal_pre_conv_xs_bwd_finite [hConvXsRefIdeal : Cert.ConvXsRefIdeal.Facts] [hPre_conv_xs_bwd_finite : Cert.Pre_conv_xs_bwd_finite.Facts] : Prop :=
  ∀ (m : (ℓ : Loc Cert.ConvXsRefIdeal.nD Cert.ConvXsRefIdeal.τ Cert.ConvXsRefIdeal.sig) → Buf (Elt Ideal) ℓ) (g : Dev Cert.ConvXsRefIdeal.nD → PrngReg), Pre_ConvXsRefIdeal_conv_xs_bwd_finite m →
    θ_run (Cert.ConvXsRefIdeal.defs (F := Ideal)) (onTc (τ := Cert.ConvXsRefIdeal.τ) (Cert.ConvXsRefIdeal.main (F := Ideal))) ⟨m, fun _ => 0, g⟩ (fun r => (∀ c : Dev Cert.ConvXsRefIdeal.nD,
      r.2.mem ((c.tc : Thread Cert.ConvXsRefIdeal.nD Cert.ConvXsRefIdeal.τ).loc Cert.ConvXsRefIdeal.main_arg0) = m ((c.tc : Thread Cert.ConvXsRefIdeal.nD Cert.ConvXsRefIdeal.τ).loc Cert.ConvXsRefIdeal.main_arg0)
      ∧ r.2.mem ((c.tc : Thread Cert.ConvXsRefIdeal.nD Cert.ConvXsRefIdeal.τ).loc Cert.ConvXsRefIdeal.main_arg1) = m ((c.tc : Thread Cert.ConvXsRefIdeal.nD Cert.ConvXsRefIdeal.τ).loc Cert.ConvXsRefIdeal.main_arg1)
      ∧ r.2.mem ((c.tc : Thread Cert.ConvXsRefIdeal.nD Cert.ConvXsRefIdeal.τ).loc Cert.ConvXsRefIdeal.main_arg2) = m ((c.tc : Thread Cert.ConvXsRefIdeal.nD Cert.ConvXsRefIdeal.τ).loc Cert.ConvXsRefIdeal.main_arg2)
      ∧ r.2.mem ((c.tc : Thread Cert.ConvXsRefIdeal.nD Cert.ConvXsRefIdeal.τ).loc Cert.ConvXsRefIdeal.main_arg3) = m ((c.tc : Thread Cert.ConvXsRefIdeal.nD Cert.ConvXsRefIdeal.τ).loc Cert.ConvXsRefIdeal.main_arg3)
      ∧ r.2.mem ((c.tc : Thread Cert.ConvXsRefIdeal.nD Cert.ConvXsRefIdeal.τ).loc Cert.ConvXsRefIdeal.main_arg4) = m ((c.tc : Thread Cert.ConvXsRefIdeal.nD Cert.ConvXsRefIdeal.τ).loc Cert.ConvXsRefIdeal.main_arg4))
      ∧ r.2.sem = fun _ => 0)

def quiescent_ConvBc [hConvBc : Cert.ConvBc.Facts] : Prop :=
  ∀ (m : (ℓ : Loc Cert.ConvBc.nD Cert.ConvBc.τ Cert.ConvBc.sig) → Buf (Elt Bits) ℓ) (g : Dev Cert.ConvBc.nD → PrngReg), Pre_ConvBc m →
    θ_run (Cert.ConvBc.defs (F := Bits)) (onTc (τ := Cert.ConvBc.τ) (Cert.ConvBc.main (F := Bits))) ⟨m, fun _ => 0, g⟩ (fun r => (∀ c : Dev Cert.ConvBc.nD,
      r.2.mem ((c.tc : Thread Cert.ConvBc.nD Cert.ConvBc.τ).loc Cert.ConvBc.main_arg0) = m ((c.tc : Thread Cert.ConvBc.nD Cert.ConvBc.τ).loc Cert.ConvBc.main_arg0)
      ∧ r.2.mem ((c.tc : Thread Cert.ConvBc.nD Cert.ConvBc.τ).loc Cert.ConvBc.main_arg1) = m ((c.tc : Thread Cert.ConvBc.nD Cert.ConvBc.τ).loc Cert.ConvBc.main_arg1)
      ∧ r.2.mem ((c.tc : Thread Cert.ConvBc.nD Cert.ConvBc.τ).loc Cert.ConvBc.main_arg2) = m ((c.tc : Thread Cert.ConvBc.nD Cert.ConvBc.τ).loc Cert.ConvBc.main_arg2)
      ∧ r.2.mem ((c.tc : Thread Cert.ConvBc.nD Cert.ConvBc.τ).loc Cert.ConvBc.main_arg3) = m ((c.tc : Thread Cert.ConvBc.nD Cert.ConvBc.τ).loc Cert.ConvBc.main_arg3)
      ∧ r.2.mem ((c.tc : Thread Cert.ConvBc.nD Cert.ConvBc.τ).loc Cert.ConvBc.main_arg4) = m ((c.tc : Thread Cert.ConvBc.nD Cert.ConvBc.τ).loc Cert.ConvBc.main_arg4))
      ∧ r.2.sem = fun _ => 0)

def quiescent_ConvBcIdeal [hConvBcIdeal : Cert.ConvBcIdeal.Facts] : Prop :=
  ∀ (m : (ℓ : Loc Cert.ConvBcIdeal.nD Cert.ConvBcIdeal.τ Cert.ConvBcIdeal.sig) → Buf (Elt Ideal) ℓ) (g : Dev Cert.ConvBcIdeal.nD → PrngReg), Pre_ConvBcIdeal m →
    θ_run (Cert.ConvBcIdeal.defs (F := Ideal)) (onTc (τ := Cert.ConvBcIdeal.τ) (Cert.ConvBcIdeal.main (F := Ideal))) ⟨m, fun _ => 0, g⟩ (fun r => (∀ c : Dev Cert.ConvBcIdeal.nD,
      r.2.mem ((c.tc : Thread Cert.ConvBcIdeal.nD Cert.ConvBcIdeal.τ).loc Cert.ConvBcIdeal.main_arg0) = m ((c.tc : Thread Cert.ConvBcIdeal.nD Cert.ConvBcIdeal.τ).loc Cert.ConvBcIdeal.main_arg0)
      ∧ r.2.mem ((c.tc : Thread Cert.ConvBcIdeal.nD Cert.ConvBcIdeal.τ).loc Cert.ConvBcIdeal.main_arg1) = m ((c.tc : Thread Cert.ConvBcIdeal.nD Cert.ConvBcIdeal.τ).loc Cert.ConvBcIdeal.main_arg1)
      ∧ r.2.mem ((c.tc : Thread Cert.ConvBcIdeal.nD Cert.ConvBcIdeal.τ).loc Cert.ConvBcIdeal.main_arg2) = m ((c.tc : Thread Cert.ConvBcIdeal.nD Cert.ConvBcIdeal.τ).loc Cert.ConvBcIdeal.main_arg2)
      ∧ r.2.mem ((c.tc : Thread Cert.ConvBcIdeal.nD Cert.ConvBcIdeal.τ).loc Cert.ConvBcIdeal.main_arg3) = m ((c.tc : Thread Cert.ConvBcIdeal.nD Cert.ConvBcIdeal.τ).loc Cert.ConvBcIdeal.main_arg3)
      ∧ r.2.mem ((c.tc : Thread Cert.ConvBcIdeal.nD Cert.ConvBcIdeal.τ).loc Cert.ConvBcIdeal.main_arg4) = m ((c.tc : Thread Cert.ConvBcIdeal.nD Cert.ConvBcIdeal.τ).loc Cert.ConvBcIdeal.main_arg4))
      ∧ r.2.sem = fun _ => 0)

def quiescent_ConvBcIdeal_pre_conv_bc_bwd_finite [hConvBcIdeal : Cert.ConvBcIdeal.Facts] [hPre_conv_bc_bwd_finite : Cert.Pre_conv_bc_bwd_finite.Facts] : Prop :=
  ∀ (m : (ℓ : Loc Cert.ConvBcIdeal.nD Cert.ConvBcIdeal.τ Cert.ConvBcIdeal.sig) → Buf (Elt Ideal) ℓ) (g : Dev Cert.ConvBcIdeal.nD → PrngReg), Pre_ConvBcIdeal_conv_bc_bwd_finite m →
    θ_run (Cert.ConvBcIdeal.defs (F := Ideal)) (onTc (τ := Cert.ConvBcIdeal.τ) (Cert.ConvBcIdeal.main (F := Ideal))) ⟨m, fun _ => 0, g⟩ (fun r => (∀ c : Dev Cert.ConvBcIdeal.nD,
      r.2.mem ((c.tc : Thread Cert.ConvBcIdeal.nD Cert.ConvBcIdeal.τ).loc Cert.ConvBcIdeal.main_arg0) = m ((c.tc : Thread Cert.ConvBcIdeal.nD Cert.ConvBcIdeal.τ).loc Cert.ConvBcIdeal.main_arg0)
      ∧ r.2.mem ((c.tc : Thread Cert.ConvBcIdeal.nD Cert.ConvBcIdeal.τ).loc Cert.ConvBcIdeal.main_arg1) = m ((c.tc : Thread Cert.ConvBcIdeal.nD Cert.ConvBcIdeal.τ).loc Cert.ConvBcIdeal.main_arg1)
      ∧ r.2.mem ((c.tc : Thread Cert.ConvBcIdeal.nD Cert.ConvBcIdeal.τ).loc Cert.ConvBcIdeal.main_arg2) = m ((c.tc : Thread Cert.ConvBcIdeal.nD Cert.ConvBcIdeal.τ).loc Cert.ConvBcIdeal.main_arg2)
      ∧ r.2.mem ((c.tc : Thread Cert.ConvBcIdeal.nD Cert.ConvBcIdeal.τ).loc Cert.ConvBcIdeal.main_arg3) = m ((c.tc : Thread Cert.ConvBcIdeal.nD Cert.ConvBcIdeal.τ).loc Cert.ConvBcIdeal.main_arg3)
      ∧ r.2.mem ((c.tc : Thread Cert.ConvBcIdeal.nD Cert.ConvBcIdeal.τ).loc Cert.ConvBcIdeal.main_arg4) = m ((c.tc : Thread Cert.ConvBcIdeal.nD Cert.ConvBcIdeal.τ).loc Cert.ConvBcIdeal.main_arg4))
      ∧ r.2.sem = fun _ => 0)

def quiescent_ConvBcRefIdeal [hConvBcRefIdeal : Cert.ConvBcRefIdeal.Facts] : Prop :=
  ∀ (m : (ℓ : Loc Cert.ConvBcRefIdeal.nD Cert.ConvBcRefIdeal.τ Cert.ConvBcRefIdeal.sig) → Buf (Elt Ideal) ℓ) (g : Dev Cert.ConvBcRefIdeal.nD → PrngReg), Pre_ConvBcRefIdeal m →
    θ_run (Cert.ConvBcRefIdeal.defs (F := Ideal)) (onTc (τ := Cert.ConvBcRefIdeal.τ) (Cert.ConvBcRefIdeal.main (F := Ideal))) ⟨m, fun _ => 0, g⟩ (fun r => (∀ c : Dev Cert.ConvBcRefIdeal.nD,
      r.2.mem ((c.tc : Thread Cert.ConvBcRefIdeal.nD Cert.ConvBcRefIdeal.τ).loc Cert.ConvBcRefIdeal.main_arg0) = m ((c.tc : Thread Cert.ConvBcRefIdeal.nD Cert.ConvBcRefIdeal.τ).loc Cert.ConvBcRefIdeal.main_arg0)
      ∧ r.2.mem ((c.tc : Thread Cert.ConvBcRefIdeal.nD Cert.ConvBcRefIdeal.τ).loc Cert.ConvBcRefIdeal.main_arg1) = m ((c.tc : Thread Cert.ConvBcRefIdeal.nD Cert.ConvBcRefIdeal.τ).loc Cert.ConvBcRefIdeal.main_arg1)
      ∧ r.2.mem ((c.tc : Thread Cert.ConvBcRefIdeal.nD Cert.ConvBcRefIdeal.τ).loc Cert.ConvBcRefIdeal.main_arg2) = m ((c.tc : Thread Cert.ConvBcRefIdeal.nD Cert.ConvBcRefIdeal.τ).loc Cert.ConvBcRefIdeal.main_arg2)
      ∧ r.2.mem ((c.tc : Thread Cert.ConvBcRefIdeal.nD Cert.ConvBcRefIdeal.τ).loc Cert.ConvBcRefIdeal.main_arg3) = m ((c.tc : Thread Cert.ConvBcRefIdeal.nD Cert.ConvBcRefIdeal.τ).loc Cert.ConvBcRefIdeal.main_arg3)
      ∧ r.2.mem ((c.tc : Thread Cert.ConvBcRefIdeal.nD Cert.ConvBcRefIdeal.τ).loc Cert.ConvBcRefIdeal.main_arg4) = m ((c.tc : Thread Cert.ConvBcRefIdeal.nD Cert.ConvBcRefIdeal.τ).loc Cert.ConvBcRefIdeal.main_arg4))
      ∧ r.2.sem = fun _ => 0)

def quiescent_ConvBcRefIdeal_pre_conv_bc_bwd_finite [hConvBcRefIdeal : Cert.ConvBcRefIdeal.Facts] [hPre_conv_bc_bwd_finite : Cert.Pre_conv_bc_bwd_finite.Facts] : Prop :=
  ∀ (m : (ℓ : Loc Cert.ConvBcRefIdeal.nD Cert.ConvBcRefIdeal.τ Cert.ConvBcRefIdeal.sig) → Buf (Elt Ideal) ℓ) (g : Dev Cert.ConvBcRefIdeal.nD → PrngReg), Pre_ConvBcRefIdeal_conv_bc_bwd_finite m →
    θ_run (Cert.ConvBcRefIdeal.defs (F := Ideal)) (onTc (τ := Cert.ConvBcRefIdeal.τ) (Cert.ConvBcRefIdeal.main (F := Ideal))) ⟨m, fun _ => 0, g⟩ (fun r => (∀ c : Dev Cert.ConvBcRefIdeal.nD,
      r.2.mem ((c.tc : Thread Cert.ConvBcRefIdeal.nD Cert.ConvBcRefIdeal.τ).loc Cert.ConvBcRefIdeal.main_arg0) = m ((c.tc : Thread Cert.ConvBcRefIdeal.nD Cert.ConvBcRefIdeal.τ).loc Cert.ConvBcRefIdeal.main_arg0)
      ∧ r.2.mem ((c.tc : Thread Cert.ConvBcRefIdeal.nD Cert.ConvBcRefIdeal.τ).loc Cert.ConvBcRefIdeal.main_arg1) = m ((c.tc : Thread Cert.ConvBcRefIdeal.nD Cert.ConvBcRefIdeal.τ).loc Cert.ConvBcRefIdeal.main_arg1)
      ∧ r.2.mem ((c.tc : Thread Cert.ConvBcRefIdeal.nD Cert.ConvBcRefIdeal.τ).loc Cert.ConvBcRefIdeal.main_arg2) = m ((c.tc : Thread Cert.ConvBcRefIdeal.nD Cert.ConvBcRefIdeal.τ).loc Cert.ConvBcRefIdeal.main_arg2)
      ∧ r.2.mem ((c.tc : Thread Cert.ConvBcRefIdeal.nD Cert.ConvBcRefIdeal.τ).loc Cert.ConvBcRefIdeal.main_arg3) = m ((c.tc : Thread Cert.ConvBcRefIdeal.nD Cert.ConvBcRefIdeal.τ).loc Cert.ConvBcRefIdeal.main_arg3)
      ∧ r.2.mem ((c.tc : Thread Cert.ConvBcRefIdeal.nD Cert.ConvBcRefIdeal.τ).loc Cert.ConvBcRefIdeal.main_arg4) = m ((c.tc : Thread Cert.ConvBcRefIdeal.nD Cert.ConvBcRefIdeal.τ).loc Cert.ConvBcRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBranchSsm [hAdamBranchSsm : Cert.AdamBranchSsm.Facts] : Prop :=
  ∀ (m : (ℓ : Loc Cert.AdamBranchSsm.nD Cert.AdamBranchSsm.τ Cert.AdamBranchSsm.sig) → Buf (Elt Bits) ℓ) (g : Dev Cert.AdamBranchSsm.nD → PrngReg), Pre_AdamBranchSsm m →
    θ_run (Cert.AdamBranchSsm.defs (F := Bits)) (onTc (τ := Cert.AdamBranchSsm.τ) (Cert.AdamBranchSsm.main (F := Bits))) ⟨m, fun _ => 0, g⟩ (fun r => (∀ c : Dev Cert.AdamBranchSsm.nD,
      r.2.mem ((c.tc : Thread Cert.AdamBranchSsm.nD Cert.AdamBranchSsm.τ).loc Cert.AdamBranchSsm.main_arg0) = m ((c.tc : Thread Cert.AdamBranchSsm.nD Cert.AdamBranchSsm.τ).loc Cert.AdamBranchSsm.main_arg0)
      ∧ r.2.mem ((c.tc : Thread Cert.AdamBranchSsm.nD Cert.AdamBranchSsm.τ).loc Cert.AdamBranchSsm.main_arg1) = m ((c.tc : Thread Cert.AdamBranchSsm.nD Cert.AdamBranchSsm.τ).loc Cert.AdamBranchSsm.main_arg1)
      ∧ r.2.mem ((c.tc : Thread Cert.AdamBranchSsm.nD Cert.AdamBranchSsm.τ).loc Cert.AdamBranchSsm.main_arg2) = m ((c.tc : Thread Cert.AdamBranchSsm.nD Cert.AdamBranchSsm.τ).loc Cert.AdamBranchSsm.main_arg2)
      ∧ r.2.mem ((c.tc : Thread Cert.AdamBranchSsm.nD Cert.AdamBranchSsm.τ).loc Cert.AdamBranchSsm.main_arg3) = m ((c.tc : Thread Cert.AdamBranchSsm.nD Cert.AdamBranchSsm.τ).loc Cert.AdamBranchSsm.main_arg3))
      ∧ r.2.sem = fun _ => 0)

def quiescent_AdamBranchSsmIdeal [hAdamBranchSsmIdeal : Cert.AdamBranchSsmIdeal.Facts] : Prop :=
  ∀ (m : (ℓ : Loc Cert.AdamBranchSsmIdeal.nD Cert.AdamBranchSsmIdeal.τ Cert.AdamBranchSsmIdeal.sig) → Buf (Elt Ideal) ℓ) (g : Dev Cert.AdamBranchSsmIdeal.nD → PrngReg), Pre_AdamBranchSsmIdeal m →
    θ_run (Cert.AdamBranchSsmIdeal.defs (F := Ideal)) (onTc (τ := Cert.AdamBranchSsmIdeal.τ) (Cert.AdamBranchSsmIdeal.main (F := Ideal))) ⟨m, fun _ => 0, g⟩ (fun r => (∀ c : Dev Cert.AdamBranchSsmIdeal.nD,
      r.2.mem ((c.tc : Thread Cert.AdamBranchSsmIdeal.nD Cert.AdamBranchSsmIdeal.τ).loc Cert.AdamBranchSsmIdeal.main_arg0) = m ((c.tc : Thread Cert.AdamBranchSsmIdeal.nD Cert.AdamBranchSsmIdeal.τ).loc Cert.AdamBranchSsmIdeal.main_arg0)
      ∧ r.2.mem ((c.tc : Thread Cert.AdamBranchSsmIdeal.nD Cert.AdamBranchSsmIdeal.τ).loc Cert.AdamBranchSsmIdeal.main_arg1) = m ((c.tc : Thread Cert.AdamBranchSsmIdeal.nD Cert.AdamBranchSsmIdeal.τ).loc Cert.AdamBranchSsmIdeal.main_arg1)
      ∧ r.2.mem ((c.tc : Thread Cert.AdamBranchSsmIdeal.nD Cert.AdamBranchSsmIdeal.τ).loc Cert.AdamBranchSsmIdeal.main_arg2) = m ((c.tc : Thread Cert.AdamBranchSsmIdeal.nD Cert.AdamBranchSsmIdeal.τ).loc Cert.AdamBranchSsmIdeal.main_arg2)
      ∧ r.2.mem ((c.tc : Thread Cert.AdamBranchSsmIdeal.nD Cert.AdamBranchSsmIdeal.τ).loc Cert.AdamBranchSsmIdeal.main_arg3) = m ((c.tc : Thread Cert.AdamBranchSsmIdeal.nD Cert.AdamBranchSsmIdeal.τ).loc Cert.AdamBranchSsmIdeal.main_arg3))
      ∧ r.2.sem = fun _ => 0)

def quiescent_AdamBranchSsmRefIdeal [hAdamBranchSsmRefIdeal : Cert.AdamBranchSsmRefIdeal.Facts] : Prop :=
  ∀ (m : (ℓ : Loc Cert.AdamBranchSsmRefIdeal.nD Cert.AdamBranchSsmRefIdeal.τ Cert.AdamBranchSsmRefIdeal.sig) → Buf (Elt Ideal) ℓ) (g : Dev Cert.AdamBranchSsmRefIdeal.nD → PrngReg), Pre_AdamBranchSsmRefIdeal m →
    θ_run (Cert.AdamBranchSsmRefIdeal.defs (F := Ideal)) (onTc (τ := Cert.AdamBranchSsmRefIdeal.τ) (Cert.AdamBranchSsmRefIdeal.main (F := Ideal))) ⟨m, fun _ => 0, g⟩ (fun r => (∀ c : Dev Cert.AdamBranchSsmRefIdeal.nD,
      r.2.mem ((c.tc : Thread Cert.AdamBranchSsmRefIdeal.nD Cert.AdamBranchSsmRefIdeal.τ).loc Cert.AdamBranchSsmRefIdeal.main_arg0) = m ((c.tc : Thread Cert.AdamBranchSsmRefIdeal.nD Cert.AdamBranchSsmRefIdeal.τ).loc Cert.AdamBranchSsmRefIdeal.main_arg0)
      ∧ r.2.mem ((c.tc : Thread Cert.AdamBranchSsmRefIdeal.nD Cert.AdamBranchSsmRefIdeal.τ).loc Cert.AdamBranchSsmRefIdeal.main_arg1) = m ((c.tc : Thread Cert.AdamBranchSsmRefIdeal.nD Cert.AdamBranchSsmRefIdeal.τ).loc Cert.AdamBranchSsmRefIdeal.main_arg1)
      ∧ r.2.mem ((c.tc : Thread Cert.AdamBranchSsmRefIdeal.nD Cert.AdamBranchSsmRefIdeal.τ).loc Cert.AdamBranchSsmRefIdeal.main_arg2) = m ((c.tc : Thread Cert.AdamBranchSsmRefIdeal.nD Cert.AdamBranchSsmRefIdeal.τ).loc Cert.AdamBranchSsmRefIdeal.main_arg2)
      ∧ r.2.mem ((c.tc : Thread Cert.AdamBranchSsmRefIdeal.nD Cert.AdamBranchSsmRefIdeal.τ).loc Cert.AdamBranchSsmRefIdeal.main_arg3) = m ((c.tc : Thread Cert.AdamBranchSsmRefIdeal.nD Cert.AdamBranchSsmRefIdeal.τ).loc Cert.AdamBranchSsmRefIdeal.main_arg3))
      ∧ r.2.sem = fun _ => 0)

def quiescent_AdamBranchAttn [hAdamBranchAttn : Cert.AdamBranchAttn.Facts] : Prop :=
  ∀ (m : (ℓ : Loc Cert.AdamBranchAttn.nD Cert.AdamBranchAttn.τ Cert.AdamBranchAttn.sig) → Buf (Elt Bits) ℓ) (g : Dev Cert.AdamBranchAttn.nD → PrngReg), Pre_AdamBranchAttn m →
    θ_run (Cert.AdamBranchAttn.defs (F := Bits)) (onTc (τ := Cert.AdamBranchAttn.τ) (Cert.AdamBranchAttn.main (F := Bits))) ⟨m, fun _ => 0, g⟩ (fun r => (∀ c : Dev Cert.AdamBranchAttn.nD,
      r.2.mem ((c.tc : Thread Cert.AdamBranchAttn.nD Cert.AdamBranchAttn.τ).loc Cert.AdamBranchAttn.main_arg0) = m ((c.tc : Thread Cert.AdamBranchAttn.nD Cert.AdamBranchAttn.τ).loc Cert.AdamBranchAttn.main_arg0)
      ∧ r.2.mem ((c.tc : Thread Cert.AdamBranchAttn.nD Cert.AdamBranchAttn.τ).loc Cert.AdamBranchAttn.main_arg1) = m ((c.tc : Thread Cert.AdamBranchAttn.nD Cert.AdamBranchAttn.τ).loc Cert.AdamBranchAttn.main_arg1)
      ∧ r.2.mem ((c.tc : Thread Cert.AdamBranchAttn.nD Cert.AdamBranchAttn.τ).loc Cert.AdamBranchAttn.main_arg2) = m ((c.tc : Thread Cert.AdamBranchAttn.nD Cert.AdamBranchAttn.τ).loc Cert.AdamBranchAttn.main_arg2)
      ∧ r.2.mem ((c.tc : Thread Cert.AdamBranchAttn.nD Cert.AdamBranchAttn.τ).loc Cert.AdamBranchAttn.main_arg3) = m ((c.tc : Thread Cert.AdamBranchAttn.nD Cert.AdamBranchAttn.τ).loc Cert.AdamBranchAttn.main_arg3))
      ∧ r.2.sem = fun _ => 0)

def quiescent_AdamBranchAttnIdeal [hAdamBranchAttnIdeal : Cert.AdamBranchAttnIdeal.Facts] : Prop :=
  ∀ (m : (ℓ : Loc Cert.AdamBranchAttnIdeal.nD Cert.AdamBranchAttnIdeal.τ Cert.AdamBranchAttnIdeal.sig) → Buf (Elt Ideal) ℓ) (g : Dev Cert.AdamBranchAttnIdeal.nD → PrngReg), Pre_AdamBranchAttnIdeal m →
    θ_run (Cert.AdamBranchAttnIdeal.defs (F := Ideal)) (onTc (τ := Cert.AdamBranchAttnIdeal.τ) (Cert.AdamBranchAttnIdeal.main (F := Ideal))) ⟨m, fun _ => 0, g⟩ (fun r => (∀ c : Dev Cert.AdamBranchAttnIdeal.nD,
      r.2.mem ((c.tc : Thread Cert.AdamBranchAttnIdeal.nD Cert.AdamBranchAttnIdeal.τ).loc Cert.AdamBranchAttnIdeal.main_arg0) = m ((c.tc : Thread Cert.AdamBranchAttnIdeal.nD Cert.AdamBranchAttnIdeal.τ).loc Cert.AdamBranchAttnIdeal.main_arg0)
      ∧ r.2.mem ((c.tc : Thread Cert.AdamBranchAttnIdeal.nD Cert.AdamBranchAttnIdeal.τ).loc Cert.AdamBranchAttnIdeal.main_arg1) = m ((c.tc : Thread Cert.AdamBranchAttnIdeal.nD Cert.AdamBranchAttnIdeal.τ).loc Cert.AdamBranchAttnIdeal.main_arg1)
      ∧ r.2.mem ((c.tc : Thread Cert.AdamBranchAttnIdeal.nD Cert.AdamBranchAttnIdeal.τ).loc Cert.AdamBranchAttnIdeal.main_arg2) = m ((c.tc : Thread Cert.AdamBranchAttnIdeal.nD Cert.AdamBranchAttnIdeal.τ).loc Cert.AdamBranchAttnIdeal.main_arg2)
      ∧ r.2.mem ((c.tc : Thread Cert.AdamBranchAttnIdeal.nD Cert.AdamBranchAttnIdeal.τ).loc Cert.AdamBranchAttnIdeal.main_arg3) = m ((c.tc : Thread Cert.AdamBranchAttnIdeal.nD Cert.AdamBranchAttnIdeal.τ).loc Cert.AdamBranchAttnIdeal.main_arg3))
      ∧ r.2.sem = fun _ => 0)

def quiescent_AdamBranchAttnRefIdeal [hAdamBranchAttnRefIdeal : Cert.AdamBranchAttnRefIdeal.Facts] : Prop :=
  ∀ (m : (ℓ : Loc Cert.AdamBranchAttnRefIdeal.nD Cert.AdamBranchAttnRefIdeal.τ Cert.AdamBranchAttnRefIdeal.sig) → Buf (Elt Ideal) ℓ) (g : Dev Cert.AdamBranchAttnRefIdeal.nD → PrngReg), Pre_AdamBranchAttnRefIdeal m →
    θ_run (Cert.AdamBranchAttnRefIdeal.defs (F := Ideal)) (onTc (τ := Cert.AdamBranchAttnRefIdeal.τ) (Cert.AdamBranchAttnRefIdeal.main (F := Ideal))) ⟨m, fun _ => 0, g⟩ (fun r => (∀ c : Dev Cert.AdamBranchAttnRefIdeal.nD,
      r.2.mem ((c.tc : Thread Cert.AdamBranchAttnRefIdeal.nD Cert.AdamBranchAttnRefIdeal.τ).loc Cert.AdamBranchAttnRefIdeal.main_arg0) = m ((c.tc : Thread Cert.AdamBranchAttnRefIdeal.nD Cert.AdamBranchAttnRefIdeal.τ).loc Cert.AdamBranchAttnRefIdeal.main_arg0)
      ∧ r.2.mem ((c.tc : Thread Cert.AdamBranchAttnRefIdeal.nD Cert.AdamBranchAttnRefIdeal.τ).loc Cert.AdamBranchAttnRefIdeal.main_arg1) = m ((c.tc : Thread Cert.AdamBranchAttnRefIdeal.nD Cert.AdamBranchAttnRefIdeal.τ).loc Cert.AdamBranchAttnRefIdeal.main_arg1)
      ∧ r.2.mem ((c.tc : Thread Cert.AdamBranchAttnRefIdeal.nD Cert.AdamBranchAttnRefIdeal.τ).loc Cert.AdamBranchAttnRefIdeal.main_arg2) = m ((c.tc : Thread Cert.AdamBranchAttnRefIdeal.nD Cert.AdamBranchAttnRefIdeal.τ).loc Cert.AdamBranchAttnRefIdeal.main_arg2)
      ∧ r.2.mem ((c.tc : Thread Cert.AdamBranchAttnRefIdeal.nD Cert.AdamBranchAttnRefIdeal.τ).loc Cert.AdamBranchAttnRefIdeal.main_arg3) = m ((c.tc : Thread Cert.AdamBranchAttnRefIdeal.nD Cert.AdamBranchAttnRefIdeal.τ).loc Cert.AdamBranchAttnRefIdeal.main_arg3))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ r.2.sem = fun _ => 0)

def quiescent_AdamMixOutRefIdeal [hAdamMixOutRefIdeal : Cert.AdamMixOutRefIdeal.Facts] : Prop :=
  ∀ (m : (ℓ : Loc Cert.AdamMixOutRefIdeal.nD Cert.AdamMixOutRefIdeal.τ Cert.AdamMixOutRefIdeal.sig) → Buf (Elt Ideal) ℓ) (g : Dev Cert.AdamMixOutRefIdeal.nD → PrngReg), Pre_AdamMixOutRefIdeal m →
    θ_run (Cert.AdamMixOutRefIdeal.defs (F := Ideal)) (onTc (τ := Cert.AdamMixOutRefIdeal.τ) (Cert.AdamMixOutRefIdeal.main (F := Ideal))) ⟨m, fun _ => 0, g⟩ (fun r => (∀ c : Dev Cert.AdamMixOutRefIdeal.nD,
      r.2.mem ((c.tc : Thread Cert.AdamMixOutRefIdeal.nD Cert.AdamMixOutRefIdeal.τ).loc Cert.AdamMixOutRefIdeal.main_arg0) = m ((c.tc : Thread Cert.AdamMixOutRefIdeal.nD Cert.AdamMixOutRefIdeal.τ).loc Cert.AdamMixOutRefIdeal.main_arg0)
      ∧ r.2.mem ((c.tc : Thread Cert.AdamMixOutRefIdeal.nD Cert.AdamMixOutRefIdeal.τ).loc Cert.AdamMixOutRefIdeal.main_arg1) = m ((c.tc : Thread Cert.AdamMixOutRefIdeal.nD Cert.AdamMixOutRefIdeal.τ).loc Cert.AdamMixOutRefIdeal.main_arg1)
      ∧ r.2.mem ((c.tc : Thread Cert.AdamMixOutRefIdeal.nD Cert.AdamMixOutRefIdeal.τ).loc Cert.AdamMixOutRefIdeal.main_arg2) = m ((c.tc : Thread Cert.AdamMixOutRefIdeal.nD Cert.AdamMixOutRefIdeal.τ).loc Cert.AdamMixOutRefIdeal.main_arg2)
      ∧ r.2.mem ((c.tc : Thread Cert.AdamMixOutRefIdeal.nD Cert.AdamMixOutRefIdeal.τ).loc Cert.AdamMixOutRefIdeal.main_arg3) = m ((c.tc : Thread Cert.AdamMixOutRefIdeal.nD Cert.AdamMixOutRefIdeal.τ).loc Cert.AdamMixOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSsmConv [hAdamSsmConv : Cert.AdamSsmConv.Facts] : Prop :=
  ∀ (m : (ℓ : Loc Cert.AdamSsmConv.nD Cert.AdamSsmConv.τ Cert.AdamSsmConv.sig) → Buf (Elt Bits) ℓ) (g : Dev Cert.AdamSsmConv.nD → PrngReg), Pre_AdamSsmConv m →
    θ_run (Cert.AdamSsmConv.defs (F := Bits)) (onTc (τ := Cert.AdamSsmConv.τ) (Cert.AdamSsmConv.main (F := Bits))) ⟨m, fun _ => 0, g⟩ (fun r => (∀ c : Dev Cert.AdamSsmConv.nD,
      r.2.mem ((c.tc : Thread Cert.AdamSsmConv.nD Cert.AdamSsmConv.τ).loc Cert.AdamSsmConv.main_arg0) = m ((c.tc : Thread Cert.AdamSsmConv.nD Cert.AdamSsmConv.τ).loc Cert.AdamSsmConv.main_arg0)
      ∧ r.2.mem ((c.tc : Thread Cert.AdamSsmConv.nD Cert.AdamSsmConv.τ).loc Cert.AdamSsmConv.main_arg1) = m ((c.tc : Thread Cert.AdamSsmConv.nD Cert.AdamSsmConv.τ).loc Cert.AdamSsmConv.main_arg1)
      ∧ r.2.mem ((c.tc : Thread Cert.AdamSsmConv.nD Cert.AdamSsmConv.τ).loc Cert.AdamSsmConv.main_arg2) = m ((c.tc : Thread Cert.AdamSsmConv.nD Cert.AdamSsmConv.τ).loc Cert.AdamSsmConv.main_arg2)
      ∧ r.2.mem ((c.tc : Thread Cert.AdamSsmConv.nD Cert.AdamSsmConv.τ).loc Cert.AdamSsmConv.main_arg3) = m ((c.tc : Thread Cert.AdamSsmConv.nD Cert.AdamSsmConv.τ).loc Cert.AdamSsmConv.main_arg3))
      ∧ r.2.sem = fun _ => 0)

def quiescent_AdamSsmConvIdeal [hAdamSsmConvIdeal : Cert.AdamSsmConvIdeal.Facts] : Prop :=
  ∀ (m : (ℓ : Loc Cert.AdamSsmConvIdeal.nD Cert.AdamSsmConvIdeal.τ Cert.AdamSsmConvIdeal.sig) → Buf (Elt Ideal) ℓ) (g : Dev Cert.AdamSsmConvIdeal.nD → PrngReg), Pre_AdamSsmConvIdeal m →
    θ_run (Cert.AdamSsmConvIdeal.defs (F := Ideal)) (onTc (τ := Cert.AdamSsmConvIdeal.τ) (Cert.AdamSsmConvIdeal.main (F := Ideal))) ⟨m, fun _ => 0, g⟩ (fun r => (∀ c : Dev Cert.AdamSsmConvIdeal.nD,
      r.2.mem ((c.tc : Thread Cert.AdamSsmConvIdeal.nD Cert.AdamSsmConvIdeal.τ).loc Cert.AdamSsmConvIdeal.main_arg0) = m ((c.tc : Thread Cert.AdamSsmConvIdeal.nD Cert.AdamSsmConvIdeal.τ).loc Cert.AdamSsmConvIdeal.main_arg0)
      ∧ r.2.mem ((c.tc : Thread Cert.AdamSsmConvIdeal.nD Cert.AdamSsmConvIdeal.τ).loc Cert.AdamSsmConvIdeal.main_arg1) = m ((c.tc : Thread Cert.AdamSsmConvIdeal.nD Cert.AdamSsmConvIdeal.τ).loc Cert.AdamSsmConvIdeal.main_arg1)
      ∧ r.2.mem ((c.tc : Thread Cert.AdamSsmConvIdeal.nD Cert.AdamSsmConvIdeal.τ).loc Cert.AdamSsmConvIdeal.main_arg2) = m ((c.tc : Thread Cert.AdamSsmConvIdeal.nD Cert.AdamSsmConvIdeal.τ).loc Cert.AdamSsmConvIdeal.main_arg2)
      ∧ r.2.mem ((c.tc : Thread Cert.AdamSsmConvIdeal.nD Cert.AdamSsmConvIdeal.τ).loc Cert.AdamSsmConvIdeal.main_arg3) = m ((c.tc : Thread Cert.AdamSsmConvIdeal.nD Cert.AdamSsmConvIdeal.τ).loc Cert.AdamSsmConvIdeal.main_arg3))
      ∧ r.2.sem = fun _ => 0)

def quiescent_AdamSsmConvRefIdeal [hAdamSsmConvRefIdeal : Cert.AdamSsmConvRefIdeal.Facts] : Prop :=
  ∀ (m : (ℓ : Loc Cert.AdamSsmConvRefIdeal.nD Cert.AdamSsmConvRefIdeal.τ Cert.AdamSsmConvRefIdeal.sig) → Buf (Elt Ideal) ℓ) (g : Dev Cert.AdamSsmConvRefIdeal.nD → PrngReg), Pre_AdamSsmConvRefIdeal m →
    θ_run (Cert.AdamSsmConvRefIdeal.defs (F := Ideal)) (onTc (τ := Cert.AdamSsmConvRefIdeal.τ) (Cert.AdamSsmConvRefIdeal.main (F := Ideal))) ⟨m, fun _ => 0, g⟩ (fun r => (∀ c : Dev Cert.AdamSsmConvRefIdeal.nD,
      r.2.mem ((c.tc : Thread Cert.AdamSsmConvRefIdeal.nD Cert.AdamSsmConvRefIdeal.τ).loc Cert.AdamSsmConvRefIdeal.main_arg0) = m ((c.tc : Thread Cert.AdamSsmConvRefIdeal.nD Cert.AdamSsmConvRefIdeal.τ).loc Cert.AdamSsmConvRefIdeal.main_arg0)
      ∧ r.2.mem ((c.tc : Thread Cert.AdamSsmConvRefIdeal.nD Cert.AdamSsmConvRefIdeal.τ).loc Cert.AdamSsmConvRefIdeal.main_arg1) = m ((c.tc : Thread Cert.AdamSsmConvRefIdeal.nD Cert.AdamSsmConvRefIdeal.τ).loc Cert.AdamSsmConvRefIdeal.main_arg1)
      ∧ r.2.mem ((c.tc : Thread Cert.AdamSsmConvRefIdeal.nD Cert.AdamSsmConvRefIdeal.τ).loc Cert.AdamSsmConvRefIdeal.main_arg2) = m ((c.tc : Thread Cert.AdamSsmConvRefIdeal.nD Cert.AdamSsmConvRefIdeal.τ).loc Cert.AdamSsmConvRefIdeal.main_arg2)
      ∧ r.2.mem ((c.tc : Thread Cert.AdamSsmConvRefIdeal.nD Cert.AdamSsmConvRefIdeal.τ).loc Cert.AdamSsmConvRefIdeal.main_arg3) = m ((c.tc : Thread Cert.AdamSsmConvRefIdeal.nD Cert.AdamSsmConvRefIdeal.τ).loc Cert.AdamSsmConvRefIdeal.main_arg3))
      ∧ r.2.sem = fun _ => 0)

def quiescent_AdamFfnConv [hAdamFfnConv : Cert.AdamFfnConv.Facts] : Prop :=
  ∀ (m : (ℓ : Loc Cert.AdamFfnConv.nD Cert.AdamFfnConv.τ Cert.AdamFfnConv.sig) → Buf (Elt Bits) ℓ) (g : Dev Cert.AdamFfnConv.nD → PrngReg), Pre_AdamFfnConv m →
    θ_run (Cert.AdamFfnConv.defs (F := Bits)) (onTc (τ := Cert.AdamFfnConv.τ) (Cert.AdamFfnConv.main (F := Bits))) ⟨m, fun _ => 0, g⟩ (fun r => (∀ c : Dev Cert.AdamFfnConv.nD,
      r.2.mem ((c.tc : Thread Cert.AdamFfnConv.nD Cert.AdamFfnConv.τ).loc Cert.AdamFfnConv.main_arg0) = m ((c.tc : Thread Cert.AdamFfnConv.nD Cert.AdamFfnConv.τ).loc Cert.AdamFfnConv.main_arg0)
      ∧ r.2.mem ((c.tc : Thread Cert.AdamFfnConv.nD Cert.AdamFfnConv.τ).loc Cert.AdamFfnConv.main_arg1) = m ((c.tc : Thread Cert.AdamFfnConv.nD Cert.AdamFfnConv.τ).loc Cert.AdamFfnConv.main_arg1)
      ∧ r.2.mem ((c.tc : Thread Cert.AdamFfnConv.nD Cert.AdamFfnConv.τ).loc Cert.AdamFfnConv.main_arg2) = m ((c.tc : Thread Cert.AdamFfnConv.nD Cert.AdamFfnConv.τ).loc Cert.AdamFfnConv.main_arg2)
      ∧ r.2.mem ((c.tc : Thread Cert.AdamFfnConv.nD Cert.AdamFfnConv.τ).loc Cert.AdamFfnConv.main_arg3) = m ((c.tc : Thread Cert.AdamFfnConv.nD Cert.AdamFfnConv.τ).loc Cert.AdamFfnConv.main_arg3))
      ∧ r.2.sem = fun _ => 0)

def quiescent_AdamFfnConvIdeal [hAdamFfnConvIdeal : Cert.AdamFfnConvIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg), Pre_AdamFfnConvIdeal m →
    θ_run (Cert.AdamFfnConvIdeal.defs (F := Ideal)) (onTc (τ := Cert.AdamFfnConvIdeal.τ) (Cert.AdamFfnConvIdeal.main (F := Ideal))) ⟨m, fun _ => 0, g⟩ (fun r => (∀ c : Dev Cert.AdamFfnConvIdeal.nD,
      r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
      ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
      ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
      ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ r.2.sem = fun _ => 0)

def quiescent_AdamFfnConvRefIdeal [hAdamFfnConvRefIdeal : Cert.AdamFfnConvRefIdeal.Facts] : Prop :=
  ∀ (m : (ℓ : Loc Cert.AdamFfnConvRefIdeal.nD Cert.AdamFfnConvRefIdeal.τ Cert.AdamFfnConvRefIdeal.sig) → Buf (Elt Ideal) ℓ) (g : Dev Cert.AdamFfnConvRefIdeal.nD → PrngReg), Pre_AdamFfnConvRefIdeal m →
    θ_run (Cert.AdamFfnConvRefIdeal.defs (F := Ideal)) (onTc (τ := Cert.AdamFfnConvRefIdeal.τ) (Cert.AdamFfnConvRefIdeal.main (F := Ideal))) ⟨m, fun _ => 0, g⟩ (fun r => (∀ c : Dev Cert.AdamFfnConvRefIdeal.nD,
      r.2.mem ((c.tc : Thread Cert.AdamFfnConvRefIdeal.nD Cert.AdamFfnConvRefIdeal.τ).loc Cert.AdamFfnConvRefIdeal.main_arg0) = m ((c.tc : Thread Cert.AdamFfnConvRefIdeal.nD Cert.AdamFfnConvRefIdeal.τ).loc Cert.AdamFfnConvRefIdeal.main_arg0)
      ∧ r.2.mem ((c.tc : Thread Cert.AdamFfnConvRefIdeal.nD Cert.AdamFfnConvRefIdeal.τ).loc Cert.AdamFfnConvRefIdeal.main_arg1) = m ((c.tc : Thread Cert.AdamFfnConvRefIdeal.nD Cert.AdamFfnConvRefIdeal.τ).loc Cert.AdamFfnConvRefIdeal.main_arg1)
      ∧ r.2.mem ((c.tc : Thread Cert.AdamFfnConvRefIdeal.nD Cert.AdamFfnConvRefIdeal.τ).loc Cert.AdamFfnConvRefIdeal.main_arg2) = m ((c.tc : Thread Cert.AdamFfnConvRefIdeal.nD Cert.AdamFfnConvRefIdeal.τ).loc Cert.AdamFfnConvRefIdeal.main_arg2)
      ∧ r.2.mem ((c.tc : Thread Cert.AdamFfnConvRefIdeal.nD Cert.AdamFfnConvRefIdeal.τ).loc Cert.AdamFfnConvRefIdeal.main_arg3) = m ((c.tc : Thread Cert.AdamFfnConvRefIdeal.nD Cert.AdamFfnConvRefIdeal.τ).loc Cert.AdamFfnConvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v1) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v7) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DHid_DHidIdeal : Prop :=
  True

def algebraic_DHidIdeal_DHidRefIdeal [hDHidIdeal : Cert.DHidIdeal.Facts] [hDHidRefIdeal : Cert.DHidRefIdeal.Facts] : Prop :=
  ∀ (m : (ℓ : Loc Cert.DHidIdeal.nD Cert.DHidIdeal.τ Cert.DHidIdeal.sig) → Buf (Elt Ideal) ℓ) (g : Dev Cert.DHidIdeal.nD → PrngReg)
    (m' : (ℓ : Loc Cert.DHidRefIdeal.nD Cert.DHidRefIdeal.τ Cert.DHidRefIdeal.sig) → Buf (Elt Ideal) ℓ) (g' : Dev Cert.DHidRefIdeal.nD → PrngReg), Pre_DHidIdeal m →
    (∀ c : Dev Cert.DHidIdeal.nD,
      m' ((c.tc : Thread Cert.DHidRefIdeal.nD Cert.DHidRefIdeal.τ).loc Cert.DHidRefIdeal.main_arg0) = m ((c.tc : Thread Cert.DHidIdeal.nD Cert.DHidIdeal.τ).loc Cert.DHidIdeal.main_arg0)
      ∧ m' ((c.tc : Thread Cert.DHidRefIdeal.nD Cert.DHidRefIdeal.τ).loc Cert.DHidRefIdeal.main_arg1) = m ((c.tc : Thread Cert.DHidIdeal.nD Cert.DHidIdeal.τ).loc Cert.DHidIdeal.main_arg1)) →
    ∃ (v0 : (c : Dev Cert.DHidIdeal.nD) → Buf (Elt Ideal) ((c.tc : Thread Cert.DHidIdeal.nD Cert.DHidIdeal.τ).loc Cert.DHidIdeal.main_v1)),
      θ_run (Cert.DHidIdeal.defs (F := Ideal)) (onTc (τ := Cert.DHidIdeal.τ) (Cert.DHidIdeal.main (F := Ideal))) ⟨m, fun _ => 0, g⟩ (fun r => ∀ c : Dev Cert.DHidIdeal.nD,
          r.2.mem ((c.tc : Thread Cert.DHidIdeal.nD Cert.DHidIdeal.τ).loc Cert.DHidIdeal.main_v1) = v0 c
          ∧ r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
          ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1))
      ∧ θ_run (Cert.DHidRefIdeal.defs (F := Ideal)) (onTc (τ := Cert.DHidRefIdeal.τ) (Cert.DHidRefIdeal.main (F := Ideal))) ⟨m', fun _ => 0, g'⟩ (fun r => ∀ c : Dev Cert.DHidRefIdeal.nD,
          r.2.mem ((c.tc : Thread Cert.DHidRefIdeal.nD Cert.DHidRefIdeal.τ).loc Cert.DHidRefIdeal.main_v7) = v0 c
          ∧ r.2.mem ((c.tc : Thread Cert.DHidRefIdeal.nD Cert.DHidRefIdeal.τ).loc Cert.DHidRefIdeal.main_arg0) = m' ((c.tc : Thread Cert.DHidRefIdeal.nD Cert.DHidRefIdeal.τ).loc Cert.DHidRefIdeal.main_arg0)
          ∧ r.2.mem ((c.tc : Thread Cert.DHidRefIdeal.nD Cert.DHidRefIdeal.τ).loc Cert.DHidRefIdeal.main_arg1) = m' ((c.tc : Thread Cert.DHidRefIdeal.nD Cert.DHidRefIdeal.τ).loc Cert.DHidRefIdeal.main_arg1))

def preserves_DwMix_DwMixIdeal : Prop :=
  True

def algebraic_DwMixIdeal_DwMixRefIdeal [hDwMixIdeal : Cert.DwMixIdeal.Facts] [hDwMixRefIdeal : Cert.DwMixRefIdeal.Facts] : Prop :=
  ∀ (m : (ℓ : Loc Cert.DwMixIdeal.nD Cert.DwMixIdeal.τ Cert.DwMixIdeal.sig) → Buf (Elt Ideal) ℓ) (g : Dev Cert.DwMixIdeal.nD → PrngReg)
    (m' : (ℓ : Loc Cert.DwMixRefIdeal.nD Cert.DwMixRefIdeal.τ Cert.DwMixRefIdeal.sig) → Buf (Elt Ideal) ℓ) (g' : Dev Cert.DwMixRefIdeal.nD → PrngReg), Pre_DwMixIdeal m →
    (∀ c : Dev Cert.DwMixIdeal.nD,
      m' ((c.tc : Thread Cert.DwMixRefIdeal.nD Cert.DwMixRefIdeal.τ).loc Cert.DwMixRefIdeal.main_arg0) = m ((c.tc : Thread Cert.DwMixIdeal.nD Cert.DwMixIdeal.τ).loc Cert.DwMixIdeal.main_arg0)
      ∧ m' ((c.tc : Thread Cert.DwMixRefIdeal.nD Cert.DwMixRefIdeal.τ).loc Cert.DwMixRefIdeal.main_arg1) = m ((c.tc : Thread Cert.DwMixIdeal.nD Cert.DwMixIdeal.τ).loc Cert.DwMixIdeal.main_arg1)) →
    ∃ (v0 : (c : Dev Cert.DwMixIdeal.nD) → Buf (Elt Ideal) ((c.tc : Thread Cert.DwMixIdeal.nD Cert.DwMixIdeal.τ).loc Cert.DwMixIdeal.main_v0)),
      θ_run (Cert.DwMixIdeal.defs (F := Ideal)) (onTc (τ := Cert.DwMixIdeal.τ) (Cert.DwMixIdeal.main (F := Ideal))) ⟨m, fun _ => 0, g⟩ (fun r => ∀ c : Dev Cert.DwMixIdeal.nD,
          r.2.mem ((c.tc : Thread Cert.DwMixIdeal.nD Cert.DwMixIdeal.τ).loc Cert.DwMixIdeal.main_v0) = v0 c
          ∧ r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
          ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ θ_run (Cert.DwMixRefIdeal.defs (F := Ideal)) (onTc (τ := Cert.DwMixRefIdeal.τ) (Cert.DwMixRefIdeal.main (F := Ideal))) ⟨m', fun _ => 0, g'⟩ (fun r => ∀ c : Dev Cert.DwMixRefIdeal.nD,
          r.2.mem ((c.tc : Thread Cert.DwMixRefIdeal.nD Cert.DwMixRefIdeal.τ).loc Cert.DwMixRefIdeal.main_v5) = v0 c
          ∧ r.2.mem ((c.tc : Thread Cert.DwMixRefIdeal.nD Cert.DwMixRefIdeal.τ).loc Cert.DwMixRefIdeal.main_arg0) = m' ((c.tc : Thread Cert.DwMixRefIdeal.nD Cert.DwMixRefIdeal.τ).loc Cert.DwMixRefIdeal.main_arg0)
          ∧ r.2.mem ((c.tc : Thread Cert.DwMixRefIdeal.nD Cert.DwMixRefIdeal.τ).loc Cert.DwMixRefIdeal.main_arg1) = m' ((c.tc : Thread Cert.DwMixRefIdeal.nD Cert.DwMixRefIdeal.τ).loc Cert.DwMixRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v1)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v1) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v7) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DwBs_DwBsIdeal : Prop :=
  True

def algebraic_DwBsIdeal_DwBsRefIdeal [hDwBsIdeal : Cert.DwBsIdeal.Facts] [hDwBsRefIdeal : Cert.DwBsRefIdeal.Facts] : Prop :=
  ∀ (m : (ℓ : Loc Cert.DwBsIdeal.nD Cert.DwBsIdeal.τ Cert.DwBsIdeal.sig) → Buf (Elt Ideal) ℓ) (g : Dev Cert.DwBsIdeal.nD → PrngReg)
    (m' : (ℓ : Loc Cert.DwBsRefIdeal.nD Cert.DwBsRefIdeal.τ Cert.DwBsRefIdeal.sig) → Buf (Elt Ideal) ℓ) (g' : Dev Cert.DwBsRefIdeal.nD → PrngReg), Pre_DwBsIdeal m →
    (∀ c : Dev Cert.DwBsIdeal.nD,
      m' ((c.tc : Thread Cert.DwBsRefIdeal.nD Cert.DwBsRefIdeal.τ).loc Cert.DwBsRefIdeal.main_arg0) = m ((c.tc : Thread Cert.DwBsIdeal.nD Cert.DwBsIdeal.τ).loc Cert.DwBsIdeal.main_arg0)
      ∧ m' ((c.tc : Thread Cert.DwBsRefIdeal.nD Cert.DwBsRefIdeal.τ).loc Cert.DwBsRefIdeal.main_arg1) = m ((c.tc : Thread Cert.DwBsIdeal.nD Cert.DwBsIdeal.τ).loc Cert.DwBsIdeal.main_arg1)) →
    ∃ (v0 : (c : Dev Cert.DwBsIdeal.nD) → Buf (Elt Ideal) ((c.tc : Thread Cert.DwBsIdeal.nD Cert.DwBsIdeal.τ).loc Cert.DwBsIdeal.main_v0)),
      θ_run (Cert.DwBsIdeal.defs (F := Ideal)) (onTc (τ := Cert.DwBsIdeal.τ) (Cert.DwBsIdeal.main (F := Ideal))) ⟨m, fun _ => 0, g⟩ (fun r => ∀ c : Dev Cert.DwBsIdeal.nD,
          r.2.mem ((c.tc : Thread Cert.DwBsIdeal.nD Cert.DwBsIdeal.τ).loc Cert.DwBsIdeal.main_v0) = v0 c
          ∧ r.2.mem ((c.tc : Thread Cert.DwBsIdeal.nD Cert.DwBsIdeal.τ).loc Cert.DwBsIdeal.main_arg0) = m ((c.tc : Thread Cert.DwBsIdeal.nD Cert.DwBsIdeal.τ).loc Cert.DwBsIdeal.main_arg0)
          ∧ r.2.mem ((c.tc : Thread Cert.DwBsIdeal.nD Cert.DwBsIdeal.τ).loc Cert.DwBsIdeal.main_arg1) = m ((c.tc : Thread Cert.DwBsIdeal.nD Cert.DwBsIdeal.τ).loc Cert.DwBsIdeal.main_arg1))
      ∧ θ_run (Cert.DwBsRefIdeal.defs (F := Ideal)) (onTc (τ := Cert.DwBsRefIdeal.τ) (Cert.DwBsRefIdeal.main (F := Ideal))) ⟨m', fun _ => 0, g'⟩ (fun r => ∀ c : Dev Cert.DwBsRefIdeal.nD,
          r.2.mem ((c.tc : Thread Cert.DwBsRefIdeal.nD Cert.DwBsRefIdeal.τ).loc Cert.DwBsRefIdeal.main_v5) = v0 c
          ∧ r.2.mem ((c.tc : Thread Cert.DwBsRefIdeal.nD Cert.DwBsRefIdeal.τ).loc Cert.DwBsRefIdeal.main_arg0) = m' ((c.tc : Thread Cert.DwBsRefIdeal.nD Cert.DwBsRefIdeal.τ).loc Cert.DwBsRefIdeal.main_arg0)
          ∧ r.2.mem ((c.tc : Thread Cert.DwBsRefIdeal.nD Cert.DwBsRefIdeal.τ).loc Cert.DwBsRefIdeal.main_arg1) = m' ((c.tc : Thread Cert.DwBsRefIdeal.nD Cert.DwBsRefIdeal.τ).loc Cert.DwBsRefIdeal.main_arg1))

def preserves_DwBa_DwBaIdeal : Prop :=
  True

def algebraic_DwBaIdeal_DwBaRefIdeal [hDwBaIdeal : Cert.DwBaIdeal.Facts] [hDwBaRefIdeal : Cert.DwBaRefIdeal.Facts] : Prop :=
  ∀ (m : (ℓ : Loc Cert.DwBaIdeal.nD Cert.DwBaIdeal.τ Cert.DwBaIdeal.sig) → Buf (Elt Ideal) ℓ) (g : Dev Cert.DwBaIdeal.nD → PrngReg)
    (m' : (ℓ : Loc Cert.DwBaRefIdeal.nD Cert.DwBaRefIdeal.τ Cert.DwBaRefIdeal.sig) → Buf (Elt Ideal) ℓ) (g' : Dev Cert.DwBaRefIdeal.nD → PrngReg), Pre_DwBaIdeal m →
    (∀ c : Dev Cert.DwBaIdeal.nD,
      m' ((c.tc : Thread Cert.DwBaRefIdeal.nD Cert.DwBaRefIdeal.τ).loc Cert.DwBaRefIdeal.main_arg0) = m ((c.tc : Thread Cert.DwBaIdeal.nD Cert.DwBaIdeal.τ).loc Cert.DwBaIdeal.main_arg0)
      ∧ m' ((c.tc : Thread Cert.DwBaRefIdeal.nD Cert.DwBaRefIdeal.τ).loc Cert.DwBaRefIdeal.main_arg1) = m ((c.tc : Thread Cert.DwBaIdeal.nD Cert.DwBaIdeal.τ).loc Cert.DwBaIdeal.main_arg1)) →
    ∃ (v0 : (c : Dev Cert.DwBaIdeal.nD) → Buf (Elt Ideal) ((c.tc : Thread Cert.DwBaIdeal.nD Cert.DwBaIdeal.τ).loc Cert.DwBaIdeal.main_v0)),
      θ_run (Cert.DwBaIdeal.defs (F := Ideal)) (onTc (τ := Cert.DwBaIdeal.τ) (Cert.DwBaIdeal.main (F := Ideal))) ⟨m, fun _ => 0, g⟩ (fun r => ∀ c : Dev Cert.DwBaIdeal.nD,
          r.2.mem ((c.tc : Thread Cert.DwBaIdeal.nD Cert.DwBaIdeal.τ).loc Cert.DwBaIdeal.main_v0) = v0 c
          ∧ r.2.mem ((c.tc : Thread Cert.DwBaIdeal.nD Cert.DwBaIdeal.τ).loc Cert.DwBaIdeal.main_arg0) = m ((c.tc : Thread Cert.DwBaIdeal.nD Cert.DwBaIdeal.τ).loc Cert.DwBaIdeal.main_arg0)
          ∧ r.2.mem ((c.tc : Thread Cert.DwBaIdeal.nD Cert.DwBaIdeal.τ).loc Cert.DwBaIdeal.main_arg1) = m ((c.tc : Thread Cert.DwBaIdeal.nD Cert.DwBaIdeal.τ).loc Cert.DwBaIdeal.main_arg1))
      ∧ θ_run (Cert.DwBaRefIdeal.defs (F := Ideal)) (onTc (τ := Cert.DwBaRefIdeal.τ) (Cert.DwBaRefIdeal.main (F := Ideal))) ⟨m', fun _ => 0, g'⟩ (fun r => ∀ c : Dev Cert.DwBaRefIdeal.nD,
          r.2.mem ((c.tc : Thread Cert.DwBaRefIdeal.nD Cert.DwBaRefIdeal.τ).loc Cert.DwBaRefIdeal.main_v5) = v0 c
          ∧ r.2.mem ((c.tc : Thread Cert.DwBaRefIdeal.nD Cert.DwBaRefIdeal.τ).loc Cert.DwBaRefIdeal.main_arg0) = m' ((c.tc : Thread Cert.DwBaRefIdeal.nD Cert.DwBaRefIdeal.τ).loc Cert.DwBaRefIdeal.main_arg0)
          ∧ r.2.mem ((c.tc : Thread Cert.DwBaRefIdeal.nD Cert.DwBaRefIdeal.τ).loc Cert.DwBaRefIdeal.main_arg1) = m' ((c.tc : Thread Cert.DwBaRefIdeal.nD Cert.DwBaRefIdeal.τ).loc Cert.DwBaRefIdeal.main_arg1))

def preserves_DYssm_DYssmIdeal : Prop :=
  True

def algebraic_DYssmIdeal_DYssmRefIdeal [hDYssmIdeal : Cert.DYssmIdeal.Facts] [hDYssmRefIdeal : Cert.DYssmRefIdeal.Facts] : Prop :=
  ∀ (m : (ℓ : Loc Cert.DYssmIdeal.nD Cert.DYssmIdeal.τ Cert.DYssmIdeal.sig) → Buf (Elt Ideal) ℓ) (g : Dev Cert.DYssmIdeal.nD → PrngReg)
    (m' : (ℓ : Loc Cert.DYssmRefIdeal.nD Cert.DYssmRefIdeal.τ Cert.DYssmRefIdeal.sig) → Buf (Elt Ideal) ℓ) (g' : Dev Cert.DYssmRefIdeal.nD → PrngReg), Pre_DYssmIdeal m →
    (∀ c : Dev Cert.DYssmIdeal.nD,
      m' ((c.tc : Thread Cert.DYssmRefIdeal.nD Cert.DYssmRefIdeal.τ).loc Cert.DYssmRefIdeal.main_arg0) = m ((c.tc : Thread Cert.DYssmIdeal.nD Cert.DYssmIdeal.τ).loc Cert.DYssmIdeal.main_arg0)
      ∧ m' ((c.tc : Thread Cert.DYssmRefIdeal.nD Cert.DYssmRefIdeal.τ).loc Cert.DYssmRefIdeal.main_arg1) = m ((c.tc : Thread Cert.DYssmIdeal.nD Cert.DYssmIdeal.τ).loc Cert.DYssmIdeal.main_arg1)) →
    ∃ (v0 : (c : Dev Cert.DYssmIdeal.nD) → Buf (Elt Ideal) ((c.tc : Thread Cert.DYssmIdeal.nD Cert.DYssmIdeal.τ).loc Cert.DYssmIdeal.main_v1)),
      θ_run (Cert.DYssmIdeal.defs (F := Ideal)) (onTc (τ := Cert.DYssmIdeal.τ) (Cert.DYssmIdeal.main (F := Ideal))) ⟨m, fun _ => 0, g⟩ (fun r => ∀ c : Dev Cert.DYssmIdeal.nD,
          r.2.mem ((c.tc : Thread Cert.DYssmIdeal.nD Cert.DYssmIdeal.τ).loc Cert.DYssmIdeal.main_v1) = v0 c
          ∧ r.2.mem ((c.tc : Thread Cert.DYssmIdeal.nD Cert.DYssmIdeal.τ).loc Cert.DYssmIdeal.main_arg0) = m ((c.tc : Thread Cert.DYssmIdeal.nD Cert.DYssmIdeal.τ).loc Cert.DYssmIdeal.main_arg0)
          ∧ r.2.mem ((c.tc : Thread Cert.DYssmIdeal.nD Cert.DYssmIdeal.τ).loc Cert.DYssmIdeal.main_arg1) = m ((c.tc : Thread Cert.DYssmIdeal.nD Cert.DYssmIdeal.τ).loc Cert.DYssmIdeal.main_arg1))
      ∧ θ_run (Cert.DYssmRefIdeal.defs (F := Ideal)) (onTc (τ := Cert.DYssmRefIdeal.τ) (Cert.DYssmRefIdeal.main (F := Ideal))) ⟨m', fun _ => 0, g'⟩ (fun r => ∀ c : Dev Cert.DYssmRefIdeal.nD,
          r.2.mem ((c.tc : Thread Cert.DYssmRefIdeal.nD Cert.DYssmRefIdeal.τ).loc Cert.DYssmRefIdeal.main_v7) = v0 c
          ∧ r.2.mem ((c.tc : Thread Cert.DYssmRefIdeal.nD Cert.DYssmRefIdeal.τ).loc Cert.DYssmRefIdeal.main_arg0) = m' ((c.tc : Thread Cert.DYssmRefIdeal.nD Cert.DYssmRefIdeal.τ).loc Cert.DYssmRefIdeal.main_arg0)
          ∧ r.2.mem ((c.tc : Thread Cert.DYssmRefIdeal.nD Cert.DYssmRefIdeal.τ).loc Cert.DYssmRefIdeal.main_arg1) = m' ((c.tc : Thread Cert.DYssmRefIdeal.nD Cert.DYssmRefIdeal.τ).loc Cert.DYssmRefIdeal.main_arg1))

def preserves_DYattn_DYattnIdeal : Prop :=
  True

def algebraic_DYattnIdeal_DYattnRefIdeal [hDYattnIdeal : Cert.DYattnIdeal.Facts] [hDYattnRefIdeal : Cert.DYattnRefIdeal.Facts] : Prop :=
  ∀ (m : (ℓ : Loc Cert.DYattnIdeal.nD Cert.DYattnIdeal.τ Cert.DYattnIdeal.sig) → Buf (Elt Ideal) ℓ) (g : Dev Cert.DYattnIdeal.nD → PrngReg)
    (m' : (ℓ : Loc Cert.DYattnRefIdeal.nD Cert.DYattnRefIdeal.τ Cert.DYattnRefIdeal.sig) → Buf (Elt Ideal) ℓ) (g' : Dev Cert.DYattnRefIdeal.nD → PrngReg), Pre_DYattnIdeal m →
    (∀ c : Dev Cert.DYattnIdeal.nD,
      m' ((c.tc : Thread Cert.DYattnRefIdeal.nD Cert.DYattnRefIdeal.τ).loc Cert.DYattnRefIdeal.main_arg0) = m ((c.tc : Thread Cert.DYattnIdeal.nD Cert.DYattnIdeal.τ).loc Cert.DYattnIdeal.main_arg0)
      ∧ m' ((c.tc : Thread Cert.DYattnRefIdeal.nD Cert.DYattnRefIdeal.τ).loc Cert.DYattnRefIdeal.main_arg1) = m ((c.tc : Thread Cert.DYattnIdeal.nD Cert.DYattnIdeal.τ).loc Cert.DYattnIdeal.main_arg1)) →
    ∃ (v0 : (c : Dev Cert.DYattnIdeal.nD) → Buf (Elt Ideal) ((c.tc : Thread Cert.DYattnIdeal.nD Cert.DYattnIdeal.τ).loc Cert.DYattnIdeal.main_v1)),
      θ_run (Cert.DYattnIdeal.defs (F := Ideal)) (onTc (τ := Cert.DYattnIdeal.τ) (Cert.DYattnIdeal.main (F := Ideal))) ⟨m, fun _ => 0, g⟩ (fun r => ∀ c : Dev Cert.DYattnIdeal.nD,
          r.2.mem ((c.tc : Thread Cert.DYattnIdeal.nD Cert.DYattnIdeal.τ).loc Cert.DYattnIdeal.main_v1) = v0 c
          ∧ r.2.mem ((c.tc : Thread Cert.DYattnIdeal.nD Cert.DYattnIdeal.τ).loc Cert.DYattnIdeal.main_arg0) = m ((c.tc : Thread Cert.DYattnIdeal.nD Cert.DYattnIdeal.τ).loc Cert.DYattnIdeal.main_arg0)
          ∧ r.2.mem ((c.tc : Thread Cert.DYattnIdeal.nD Cert.DYattnIdeal.τ).loc Cert.DYattnIdeal.main_arg1) = m ((c.tc : Thread Cert.DYattnIdeal.nD Cert.DYattnIdeal.τ).loc Cert.DYattnIdeal.main_arg1))
      ∧ θ_run (Cert.DYattnRefIdeal.defs (F := Ideal)) (onTc (τ := Cert.DYattnRefIdeal.τ) (Cert.DYattnRefIdeal.main (F := Ideal))) ⟨m', fun _ => 0, g'⟩ (fun r => ∀ c : Dev Cert.DYattnRefIdeal.nD,
          r.2.mem ((c.tc : Thread Cert.DYattnRefIdeal.nD Cert.DYattnRefIdeal.τ).loc Cert.DYattnRefIdeal.main_v7) = v0 c
          ∧ r.2.mem ((c.tc : Thread Cert.DYattnRefIdeal.nD Cert.DYattnRefIdeal.τ).loc Cert.DYattnRefIdeal.main_arg0) = m' ((c.tc : Thread Cert.DYattnRefIdeal.nD Cert.DYattnRefIdeal.τ).loc Cert.DYattnRefIdeal.main_arg0)
          ∧ r.2.mem ((c.tc : Thread Cert.DYattnRefIdeal.nD Cert.DYattnRefIdeal.τ).loc Cert.DYattnRefIdeal.main_arg1) = m' ((c.tc : Thread Cert.DYattnRefIdeal.nD Cert.DYattnRefIdeal.τ).loc Cert.DYattnRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Bs_BsIdeal : Prop :=
  True

def algebraic_BsIdeal_BsRefIdeal [hBsIdeal : Cert.BsIdeal.Facts] [hBsRefIdeal : Cert.BsRefIdeal.Facts] : Prop :=
  ∀ (m : (ℓ : Loc Cert.BsIdeal.nD Cert.BsIdeal.τ Cert.BsIdeal.sig) → Buf (Elt Ideal) ℓ) (g : Dev Cert.BsIdeal.nD → PrngReg)
    (m' : (ℓ : Loc Cert.BsRefIdeal.nD Cert.BsRefIdeal.τ Cert.BsRefIdeal.sig) → Buf (Elt Ideal) ℓ) (g' : Dev Cert.BsRefIdeal.nD → PrngReg), Pre_BsIdeal m →
    (∀ c : Dev Cert.BsIdeal.nD,
      m' ((c.tc : Thread Cert.BsRefIdeal.nD Cert.BsRefIdeal.τ).loc Cert.BsRefIdeal.main_arg0) = m ((c.tc : Thread Cert.BsIdeal.nD Cert.BsIdeal.τ).loc Cert.BsIdeal.main_arg0)
      ∧ m' ((c.tc : Thread Cert.BsRefIdeal.nD Cert.BsRefIdeal.τ).loc Cert.BsRefIdeal.main_arg1) = m ((c.tc : Thread Cert.BsIdeal.nD Cert.BsIdeal.τ).loc Cert.BsIdeal.main_arg1)) →
    ∃ (v0 : (c : Dev Cert.BsIdeal.nD) → Buf (Elt Ideal) ((c.tc : Thread Cert.BsIdeal.nD Cert.BsIdeal.τ).loc Cert.BsIdeal.main_v0)),
      θ_run (Cert.BsIdeal.defs (F := Ideal)) (onTc (τ := Cert.BsIdeal.τ) (Cert.BsIdeal.main (F := Ideal))) ⟨m, fun _ => 0, g⟩ (fun r => ∀ c : Dev Cert.BsIdeal.nD,
          r.2.mem ((c.tc : Thread Cert.BsIdeal.nD Cert.BsIdeal.τ).loc Cert.BsIdeal.main_v0) = v0 c
          ∧ r.2.mem ((c.tc : Thread Cert.BsIdeal.nD Cert.BsIdeal.τ).loc Cert.BsIdeal.main_arg0) = m ((c.tc : Thread Cert.BsIdeal.nD Cert.BsIdeal.τ).loc Cert.BsIdeal.main_arg0)
          ∧ r.2.mem ((c.tc : Thread Cert.BsIdeal.nD Cert.BsIdeal.τ).loc Cert.BsIdeal.main_arg1) = m ((c.tc : Thread Cert.BsIdeal.nD Cert.BsIdeal.τ).loc Cert.BsIdeal.main_arg1))
      ∧ θ_run (Cert.BsRefIdeal.defs (F := Ideal)) (onTc (τ := Cert.BsRefIdeal.τ) (Cert.BsRefIdeal.main (F := Ideal))) ⟨m', fun _ => 0, g'⟩ (fun r => ∀ c : Dev Cert.BsRefIdeal.nD,
          r.2.mem ((c.tc : Thread Cert.BsRefIdeal.nD Cert.BsRefIdeal.τ).loc Cert.BsRefIdeal.main_v3) = v0 c
          ∧ r.2.mem ((c.tc : Thread Cert.BsRefIdeal.nD Cert.BsRefIdeal.τ).loc Cert.BsRefIdeal.main_arg0) = m' ((c.tc : Thread Cert.BsRefIdeal.nD Cert.BsRefIdeal.τ).loc Cert.BsRefIdeal.main_arg0)
          ∧ r.2.mem ((c.tc : Thread Cert.BsRefIdeal.nD Cert.BsRefIdeal.τ).loc Cert.BsRefIdeal.main_arg1) = m' ((c.tc : Thread Cert.BsRefIdeal.nD Cert.BsRefIdeal.τ).loc Cert.BsRefIdeal.main_arg1))

def preserves_Ba_BaIdeal : Prop :=
  True

def algebraic_BaIdeal_BaRefIdeal [hBaIdeal : Cert.BaIdeal.Facts] [hBaRefIdeal : Cert.BaRefIdeal.Facts] : Prop :=
  ∀ (m : (ℓ : Loc Cert.BaIdeal.nD Cert.BaIdeal.τ Cert.BaIdeal.sig) → Buf (Elt Ideal) ℓ) (g : Dev Cert.BaIdeal.nD → PrngReg)
    (m' : (ℓ : Loc Cert.BaRefIdeal.nD Cert.BaRefIdeal.τ Cert.BaRefIdeal.sig) → Buf (Elt Ideal) ℓ) (g' : Dev Cert.BaRefIdeal.nD → PrngReg), Pre_BaIdeal m →
    (∀ c : Dev Cert.BaIdeal.nD,
      m' ((c.tc : Thread Cert.BaRefIdeal.nD Cert.BaRefIdeal.τ).loc Cert.BaRefIdeal.main_arg0) = m ((c.tc : Thread Cert.BaIdeal.nD Cert.BaIdeal.τ).loc Cert.BaIdeal.main_arg0)
      ∧ m' ((c.tc : Thread Cert.BaRefIdeal.nD Cert.BaRefIdeal.τ).loc Cert.BaRefIdeal.main_arg1) = m ((c.tc : Thread Cert.BaIdeal.nD Cert.BaIdeal.τ).loc Cert.BaIdeal.main_arg1)) →
    ∃ (v0 : (c : Dev Cert.BaIdeal.nD) → Buf (Elt Ideal) ((c.tc : Thread Cert.BaIdeal.nD Cert.BaIdeal.τ).loc Cert.BaIdeal.main_v0)),
      θ_run (Cert.BaIdeal.defs (F := Ideal)) (onTc (τ := Cert.BaIdeal.τ) (Cert.BaIdeal.main (F := Ideal))) ⟨m, fun _ => 0, g⟩ (fun r => ∀ c : Dev Cert.BaIdeal.nD,
          r.2.mem ((c.tc : Thread Cert.BaIdeal.nD Cert.BaIdeal.τ).loc Cert.BaIdeal.main_v0) = v0 c
          ∧ r.2.mem ((c.tc : Thread Cert.BaIdeal.nD Cert.BaIdeal.τ).loc Cert.BaIdeal.main_arg0) = m ((c.tc : Thread Cert.BaIdeal.nD Cert.BaIdeal.τ).loc Cert.BaIdeal.main_arg0)
          ∧ r.2.mem ((c.tc : Thread Cert.BaIdeal.nD Cert.BaIdeal.τ).loc Cert.BaIdeal.main_arg1) = m ((c.tc : Thread Cert.BaIdeal.nD Cert.BaIdeal.τ).loc Cert.BaIdeal.main_arg1))
      ∧ θ_run (Cert.BaRefIdeal.defs (F := Ideal)) (onTc (τ := Cert.BaRefIdeal.τ) (Cert.BaRefIdeal.main (F := Ideal))) ⟨m', fun _ => 0, g'⟩ (fun r => ∀ c : Dev Cert.BaRefIdeal.nD,
          r.2.mem ((c.tc : Thread Cert.BaRefIdeal.nD Cert.BaRefIdeal.τ).loc Cert.BaRefIdeal.main_v3) = v0 c
          ∧ r.2.mem ((c.tc : Thread Cert.BaRefIdeal.nD Cert.BaRefIdeal.τ).loc Cert.BaRefIdeal.main_arg0) = m' ((c.tc : Thread Cert.BaRefIdeal.nD Cert.BaRefIdeal.τ).loc Cert.BaRefIdeal.main_arg0)
          ∧ r.2.mem ((c.tc : Thread Cert.BaRefIdeal.nD Cert.BaRefIdeal.τ).loc Cert.BaRefIdeal.main_arg1) = m' ((c.tc : Thread Cert.BaRefIdeal.nD Cert.BaRefIdeal.τ).loc Cert.BaRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_InTail_InTailIdeal : Prop :=
  True

def algebraic_InTailIdeal_InTailRefIdeal [hInTailIdeal : Cert.InTailIdeal.Facts] [hInTailRefIdeal : Cert.InTailRefIdeal.Facts] : Prop :=
  ∀ (m : (ℓ : Loc Cert.InTailIdeal.nD Cert.InTailIdeal.τ Cert.InTailIdeal.sig) → Buf (Elt Ideal) ℓ) (g : Dev Cert.InTailIdeal.nD → PrngReg)
    (m' : (ℓ : Loc Cert.InTailRefIdeal.nD Cert.InTailRefIdeal.τ Cert.InTailRefIdeal.sig) → Buf (Elt Ideal) ℓ) (g' : Dev Cert.InTailRefIdeal.nD → PrngReg), Pre_InTailIdeal m →
    (∀ c : Dev Cert.InTailIdeal.nD,
      m' ((c.tc : Thread Cert.InTailRefIdeal.nD Cert.InTailRefIdeal.τ).loc Cert.InTailRefIdeal.main_arg0) = m ((c.tc : Thread Cert.InTailIdeal.nD Cert.InTailIdeal.τ).loc Cert.InTailIdeal.main_arg0)
      ∧ m' ((c.tc : Thread Cert.InTailRefIdeal.nD Cert.InTailRefIdeal.τ).loc Cert.InTailRefIdeal.main_arg1) = m ((c.tc : Thread Cert.InTailIdeal.nD Cert.InTailIdeal.τ).loc Cert.InTailIdeal.main_arg1)) →
    ∃ (v0 : (c : Dev Cert.InTailIdeal.nD) → Buf (Elt Ideal) ((c.tc : Thread Cert.InTailIdeal.nD Cert.InTailIdeal.τ).loc Cert.InTailIdeal.main_v0)),
      θ_run (Cert.InTailIdeal.defs (F := Ideal)) (onTc (τ := Cert.InTailIdeal.τ) (Cert.InTailIdeal.main (F := Ideal))) ⟨m, fun _ => 0, g⟩ (fun r => ∀ c : Dev Cert.InTailIdeal.nD,
          r.2.mem ((c.tc : Thread Cert.InTailIdeal.nD Cert.InTailIdeal.τ).loc Cert.InTailIdeal.main_v0) = v0 c
          ∧ r.2.mem ((c.tc : Thread Cert.InTailIdeal.nD Cert.InTailIdeal.τ).loc Cert.InTailIdeal.main_arg0) = m ((c.tc : Thread Cert.InTailIdeal.nD Cert.InTailIdeal.τ).loc Cert.InTailIdeal.main_arg0)
          ∧ r.2.mem ((c.tc : Thread Cert.InTailIdeal.nD Cert.InTailIdeal.τ).loc Cert.InTailIdeal.main_arg1) = m ((c.tc : Thread Cert.InTailIdeal.nD Cert.InTailIdeal.τ).loc Cert.InTailIdeal.main_arg1))
      ∧ θ_run (Cert.InTailRefIdeal.defs (F := Ideal)) (onTc (τ := Cert.InTailRefIdeal.τ) (Cert.InTailRefIdeal.main (F := Ideal))) ⟨m', fun _ => 0, g'⟩ (fun r => ∀ c : Dev Cert.InTailRefIdeal.nD,
          r.2.mem ((c.tc : Thread Cert.InTailRefIdeal.nD Cert.InTailRefIdeal.τ).loc Cert.InTailRefIdeal.main_v2) = v0 c
          ∧ r.2.mem ((c.tc : Thread Cert.InTailRefIdeal.nD Cert.InTailRefIdeal.τ).loc Cert.InTailRefIdeal.main_arg0) = m' ((c.tc : Thread Cert.InTailRefIdeal.nD Cert.InTailRefIdeal.τ).loc Cert.InTailRefIdeal.main_arg0)
          ∧ r.2.mem ((c.tc : Thread Cert.InTailRefIdeal.nD Cert.InTailRefIdeal.τ).loc Cert.InTailRefIdeal.main_arg1) = m' ((c.tc : Thread Cert.InTailRefIdeal.nD Cert.InTailRefIdeal.τ).loc Cert.InTailRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v2_0)) (v1 : (c : Dev Cert.MergeBwdIdeal.nD) → Buf (Elt Ideal) ((c.tc : Thread Cert.MergeBwdIdeal.nD Cert.MergeBwdIdeal.τ).loc Cert.MergeBwdIdeal.main_v2_1)) (v2 : (c : Dev Cert.MergeBwdIdeal.nD) → Buf (Elt Ideal) ((c.tc : Thread Cert.MergeBwdIdeal.nD Cert.MergeBwdIdeal.τ).loc Cert.MergeBwdIdeal.main_v2_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v2_0) = v0 c
          ∧ r.2.mem ((c.tc : Thread Cert.MergeBwdIdeal.nD Cert.MergeBwdIdeal.τ).loc Cert.MergeBwdIdeal.main_v2_1) = v1 c
          ∧ r.2.mem ((c.tc : Thread Cert.MergeBwdIdeal.nD Cert.MergeBwdIdeal.τ).loc Cert.MergeBwdIdeal.main_v2_3) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v32) = v0 c
          ∧ r.2.mem ((c.tc : Thread Cert.MergeBwdRefIdeal.nD Cert.MergeBwdRefIdeal.τ).loc Cert.MergeBwdRefIdeal.main_v33) = v1 c
          ∧ r.2.mem ((c.tc : Thread Cert.MergeBwdRefIdeal.nD Cert.MergeBwdRefIdeal.τ).loc Cert.MergeBwdRefIdeal.main_v36) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_LnBwd_LnBwdIdeal : Prop :=
  True

def algebraic_LnBwdIdeal_LnBwdRefIdeal_pre_ln1_bwd_finite [hLnBwdIdeal : Cert.LnBwdIdeal.Facts] [hLnBwdRefIdeal : Cert.LnBwdRefIdeal.Facts] [hPre_ln1_bwd_finite : Cert.Pre_ln1_bwd_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_ln1_bwd_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v22_0)) (v1 : (c : Dev Cert.LnBwdIdeal.nD) → Buf (Elt Ideal) ((c.tc : Thread Cert.LnBwdIdeal.nD Cert.LnBwdIdeal.τ).loc Cert.LnBwdIdeal.main_v22_1)) (v2 : (c : Dev Cert.LnBwdIdeal.nD) → Buf (Elt Ideal) ((c.tc : Thread Cert.LnBwdIdeal.nD Cert.LnBwdIdeal.τ).loc Cert.LnBwdIdeal.main_v22_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v22_0) = v0 c
          ∧ r.2.mem ((c.tc : Thread Cert.LnBwdIdeal.nD Cert.LnBwdIdeal.τ).loc Cert.LnBwdIdeal.main_v22_1) = v1 c
          ∧ r.2.mem ((c.tc : Thread Cert.LnBwdIdeal.nD Cert.LnBwdIdeal.τ).loc Cert.LnBwdIdeal.main_v22_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v65) = v0 c
          ∧ r.2.mem ((c.tc : Thread Cert.LnBwdRefIdeal.nD Cert.LnBwdRefIdeal.τ).loc Cert.LnBwdRefIdeal.main_v66) = v1 c
          ∧ r.2.mem ((c.tc : Thread Cert.LnBwdRefIdeal.nD Cert.LnBwdRefIdeal.τ).loc Cert.LnBwdRefIdeal.main_v70) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_LnLoss_LnLossIdeal : Prop :=
  True

def algebraic_LnLossIdeal_LnLossRefIdeal_pre_ln2_loss_finite [hLnLossIdeal : Cert.LnLossIdeal.Facts] [hLnLossRefIdeal : Cert.LnLossRefIdeal.Facts] [hPre_ln2_loss_finite : Cert.Pre_ln2_loss_finite.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal_ln2_loss_finite m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)
      ∧ m' ((c.tc : Thread Cert.LnLossRefIdeal.nD Cert.LnLossRefIdeal.τ).loc Cert.LnLossRefIdeal.main_arg4) = m ((c.tc : Thread Cert.LnLossIdeal.nD Cert.LnLossIdeal.τ).loc Cert.LnLossIdeal.main_arg4)
      ∧ m' ((c.tc : Thread Cert.LnLossRefIdeal.nD Cert.LnLossRefIdeal.τ).loc Cert.LnLossRefIdeal.main_arg5) = m ((c.tc : Thread Cert.LnLossIdeal.nD Cert.LnLossIdeal.τ).loc Cert.LnLossIdeal.main_arg5)
      ∧ m' ((c.tc : Thread Cert.LnLossRefIdeal.nD Cert.LnLossRefIdeal.τ).loc Cert.LnLossRefIdeal.main_arg6) = m ((c.tc : Thread Cert.LnLossIdeal.nD Cert.LnLossIdeal.τ).loc Cert.LnLossIdeal.main_arg6)) →
    ∃ (v0 : (c : Dev Cert.LnLossIdeal.nD) → Buf (Elt Ideal) ((c.tc : Thread Cert.LnLossIdeal.nD Cert.LnLossIdeal.τ).loc Cert.LnLossIdeal.main_v8_0)) (v1 : (c : Dev Cert.LnLossIdeal.nD) → Buf (Elt Ideal) ((c.tc : Thread Cert.LnLossIdeal.nD Cert.LnLossIdeal.τ).loc Cert.LnLossIdeal.main_v8_1)) (v2 : (c : Dev Cert.LnLossIdeal.nD) → Buf (Elt Ideal) ((c.tc : Thread Cert.LnLossIdeal.nD Cert.LnLossIdeal.τ).loc Cert.LnLossIdeal.main_v8_2)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v8_0) = v0 c
          ∧ r.2.mem ((c.tc : Thread Cert.LnLossIdeal.nD Cert.LnLossIdeal.τ).loc Cert.LnLossIdeal.main_v8_1) = v1 c
          ∧ r.2.mem ((c.tc : Thread Cert.LnLossIdeal.nD Cert.LnLossIdeal.τ).loc Cert.LnLossIdeal.main_v8_2) = v2 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
          ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5)
          ∧ r.2.mem ((c.tc : Thread Cert.LnLossIdeal.nD Cert.LnLossIdeal.τ).loc Cert.LnLossIdeal.main_arg6) = m ((c.tc : Thread Cert.LnLossIdeal.nD Cert.LnLossIdeal.τ).loc Cert.LnLossIdeal.main_arg6))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v80) = v0 c
          ∧ r.2.mem ((c.tc : Thread Cert.LnLossRefIdeal.nD Cert.LnLossRefIdeal.τ).loc Cert.LnLossRefIdeal.main_v108) = v1 c
          ∧ r.2.mem ((c.tc : Thread Cert.LnLossRefIdeal.nD Cert.LnLossRefIdeal.τ).loc Cert.LnLossRefIdeal.main_v113) = v2 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3)
          ∧ r.2.mem ((c.tc : Thread Cert.LnLossRefIdeal.nD Cert.LnLossRefIdeal.τ).loc Cert.LnLossRefIdeal.main_arg4) = m' ((c.tc : Thread Cert.LnLossRefIdeal.nD Cert.LnLossRefIdeal.τ).loc Cert.LnLossRefIdeal.main_arg4)
          ∧ r.2.mem ((c.tc : Thread Cert.LnLossRefIdeal.nD Cert.LnLossRefIdeal.τ).loc Cert.LnLossRefIdeal.main_arg5) = m' ((c.tc : Thread Cert.LnLossRefIdeal.nD Cert.LnLossRefIdeal.τ).loc Cert.LnLossRefIdeal.main_arg5)
          ∧ r.2.mem ((c.tc : Thread Cert.LnLossRefIdeal.nD Cert.LnLossRefIdeal.τ).loc Cert.LnLossRefIdeal.main_arg6) = m' ((c.tc : Thread Cert.LnLossRefIdeal.nD Cert.LnLossRefIdeal.τ).loc Cert.LnLossRefIdeal.main_arg6))

def preserves_ConvXs_ConvXsIdeal : Prop :=
  True

def algebraic_ConvXsIdeal_ConvXsRefIdeal_pre_conv_xs_bwd_finite [hConvXsIdeal : Cert.ConvXsIdeal.Facts] [hConvXsRefIdeal : Cert.ConvXsRefIdeal.Facts] [hPre_conv_xs_bwd_finite : Cert.Pre_conv_xs_bwd_finite.Facts] : Prop :=
  ∀ (m : (ℓ : Loc Cert.ConvXsIdeal.nD Cert.ConvXsIdeal.τ Cert.ConvXsIdeal.sig) → Buf (Elt Ideal) ℓ) (g : Dev Cert.ConvXsIdeal.nD → PrngReg)
    (m' : (ℓ : Loc Cert.ConvXsRefIdeal.nD Cert.ConvXsRefIdeal.τ Cert.ConvXsRefIdeal.sig) → Buf (Elt Ideal) ℓ) (g' : Dev Cert.ConvXsRefIdeal.nD → PrngReg), Pre_ConvXsIdeal_conv_xs_bwd_finite m →
    (∀ c : Dev Cert.ConvXsIdeal.nD,
      m' ((c.tc : Thread Cert.ConvXsRefIdeal.nD Cert.ConvXsRefIdeal.τ).loc Cert.ConvXsRefIdeal.main_arg0) = m ((c.tc : Thread Cert.ConvXsIdeal.nD Cert.ConvXsIdeal.τ).loc Cert.ConvXsIdeal.main_arg0)
      ∧ m' ((c.tc : Thread Cert.ConvXsRefIdeal.nD Cert.ConvXsRefIdeal.τ).loc Cert.ConvXsRefIdeal.main_arg1) = m ((c.tc : Thread Cert.ConvXsIdeal.nD Cert.ConvXsIdeal.τ).loc Cert.ConvXsIdeal.main_arg1)
      ∧ m' ((c.tc : Thread Cert.ConvXsRefIdeal.nD Cert.ConvXsRefIdeal.τ).loc Cert.ConvXsRefIdeal.main_arg2) = m ((c.tc : Thread Cert.ConvXsIdeal.nD Cert.ConvXsIdeal.τ).loc Cert.ConvXsIdeal.main_arg2)
      ∧ m' ((c.tc : Thread Cert.ConvXsRefIdeal.nD Cert.ConvXsRefIdeal.τ).loc Cert.ConvXsRefIdeal.main_arg3) = m ((c.tc : Thread Cert.ConvXsIdeal.nD Cert.ConvXsIdeal.τ).loc Cert.ConvXsIdeal.main_arg3)
      ∧ m' ((c.tc : Thread Cert.ConvXsRefIdeal.nD Cert.ConvXsRefIdeal.τ).loc Cert.ConvXsRefIdeal.main_arg4) = m ((c.tc : Thread Cert.ConvXsIdeal.nD Cert.ConvXsIdeal.τ).loc Cert.ConvXsIdeal.main_arg4)) →
    ∃ (v0 : (c : Dev Cert.ConvXsIdeal.nD) → Buf (Elt Ideal) ((c.tc : Thread Cert.ConvXsIdeal.nD Cert.ConvXsIdeal.τ).loc Cert.ConvXsIdeal.main_v42_0)) (v1 : (c : Dev Cert.ConvXsIdeal.nD) → Buf (Elt Ideal) ((c.tc : Thread Cert.ConvXsIdeal.nD Cert.ConvXsIdeal.τ).loc Cert.ConvXsIdeal.main_v42_1)),
      θ_run (Cert.ConvXsIdeal.defs (F := Ideal)) (onTc (τ := Cert.ConvXsIdeal.τ) (Cert.ConvXsIdeal.main (F := Ideal))) ⟨m, fun _ => 0, g⟩ (fun r => ∀ c : Dev Cert.ConvXsIdeal.nD,
          r.2.mem ((c.tc : Thread Cert.ConvXsIdeal.nD Cert.ConvXsIdeal.τ).loc Cert.ConvXsIdeal.main_v42_0) = v0 c
          ∧ r.2.mem ((c.tc : Thread Cert.ConvXsIdeal.nD Cert.ConvXsIdeal.τ).loc Cert.ConvXsIdeal.main_v42_1) = v1 c
          ∧ r.2.mem ((c.tc : Thread Cert.ConvXsIdeal.nD Cert.ConvXsIdeal.τ).loc Cert.ConvXsIdeal.main_arg0) = m ((c.tc : Thread Cert.ConvXsIdeal.nD Cert.ConvXsIdeal.τ).loc Cert.ConvXsIdeal.main_arg0)
          ∧ r.2.mem ((c.tc : Thread Cert.ConvXsIdeal.nD Cert.ConvXsIdeal.τ).loc Cert.ConvXsIdeal.main_arg1) = m ((c.tc : Thread Cert.ConvXsIdeal.nD Cert.ConvXsIdeal.τ).loc Cert.ConvXsIdeal.main_arg1)
          ∧ r.2.mem ((c.tc : Thread Cert.ConvXsIdeal.nD Cert.ConvXsIdeal.τ).loc Cert.ConvXsIdeal.main_arg2) = m ((c.tc : Thread Cert.ConvXsIdeal.nD Cert.ConvXsIdeal.τ).loc Cert.ConvXsIdeal.main_arg2)
          ∧ r.2.mem ((c.tc : Thread Cert.ConvXsIdeal.nD Cert.ConvXsIdeal.τ).loc Cert.ConvXsIdeal.main_arg3) = m ((c.tc : Thread Cert.ConvXsIdeal.nD Cert.ConvXsIdeal.τ).loc Cert.ConvXsIdeal.main_arg3)
          ∧ r.2.mem ((c.tc : Thread Cert.ConvXsIdeal.nD Cert.ConvXsIdeal.τ).loc Cert.ConvXsIdeal.main_arg4) = m ((c.tc : Thread Cert.ConvXsIdeal.nD Cert.ConvXsIdeal.τ).loc Cert.ConvXsIdeal.main_arg4))
      ∧ θ_run (Cert.ConvXsRefIdeal.defs (F := Ideal)) (onTc (τ := Cert.ConvXsRefIdeal.τ) (Cert.ConvXsRefIdeal.main (F := Ideal))) ⟨m', fun _ => 0, g'⟩ (fun r => ∀ c : Dev Cert.ConvXsRefIdeal.nD,
          r.2.mem ((c.tc : Thread Cert.ConvXsRefIdeal.nD Cert.ConvXsRefIdeal.τ).loc Cert.ConvXsRefIdeal.main_v92) = v0 c
          ∧ r.2.mem ((c.tc : Thread Cert.ConvXsRefIdeal.nD Cert.ConvXsRefIdeal.τ).loc Cert.ConvXsRefIdeal.main_v95) = v1 c
          ∧ r.2.mem ((c.tc : Thread Cert.ConvXsRefIdeal.nD Cert.ConvXsRefIdeal.τ).loc Cert.ConvXsRefIdeal.main_arg0) = m' ((c.tc : Thread Cert.ConvXsRefIdeal.nD Cert.ConvXsRefIdeal.τ).loc Cert.ConvXsRefIdeal.main_arg0)
          ∧ r.2.mem ((c.tc : Thread Cert.ConvXsRefIdeal.nD Cert.ConvXsRefIdeal.τ).loc Cert.ConvXsRefIdeal.main_arg1) = m' ((c.tc : Thread Cert.ConvXsRefIdeal.nD Cert.ConvXsRefIdeal.τ).loc Cert.ConvXsRefIdeal.main_arg1)
          ∧ r.2.mem ((c.tc : Thread Cert.ConvXsRefIdeal.nD Cert.ConvXsRefIdeal.τ).loc Cert.ConvXsRefIdeal.main_arg2) = m' ((c.tc : Thread Cert.ConvXsRefIdeal.nD Cert.ConvXsRefIdeal.τ).loc Cert.ConvXsRefIdeal.main_arg2)
          ∧ r.2.mem ((c.tc : Thread Cert.ConvXsRefIdeal.nD Cert.ConvXsRefIdeal.τ).loc Cert.ConvXsRefIdeal.main_arg3) = m' ((c.tc : Thread Cert.ConvXsRefIdeal.nD Cert.ConvXsRefIdeal.τ).loc Cert.ConvXsRefIdeal.main_arg3)
          ∧ r.2.mem ((c.tc : Thread Cert.ConvXsRefIdeal.nD Cert.ConvXsRefIdeal.τ).loc Cert.ConvXsRefIdeal.main_arg4) = m' ((c.tc : Thread Cert.ConvXsRefIdeal.nD Cert.ConvXsRefIdeal.τ).loc Cert.ConvXsRefIdeal.main_arg4))

def preserves_ConvBc_ConvBcIdeal : Prop :=
  True

def algebraic_ConvBcIdeal_ConvBcRefIdeal_pre_conv_bc_bwd_finite [hConvBcIdeal : Cert.ConvBcIdeal.Facts] [hConvBcRefIdeal : Cert.ConvBcRefIdeal.Facts] [hPre_conv_bc_bwd_finite : Cert.Pre_conv_bc_bwd_finite.Facts] : Prop :=
  ∀ (m : (ℓ : Loc Cert.ConvBcIdeal.nD Cert.ConvBcIdeal.τ Cert.ConvBcIdeal.sig) → Buf (Elt Ideal) ℓ) (g : Dev Cert.ConvBcIdeal.nD → PrngReg)
    (m' : (ℓ : Loc Cert.ConvBcRefIdeal.nD Cert.ConvBcRefIdeal.τ Cert.ConvBcRefIdeal.sig) → Buf (Elt Ideal) ℓ) (g' : Dev Cert.ConvBcRefIdeal.nD → PrngReg), Pre_ConvBcIdeal_conv_bc_bwd_finite m →
    (∀ c : Dev Cert.ConvBcIdeal.nD,
      m' ((c.tc : Thread Cert.ConvBcRefIdeal.nD Cert.ConvBcRefIdeal.τ).loc Cert.ConvBcRefIdeal.main_arg0) = m ((c.tc : Thread Cert.ConvBcIdeal.nD Cert.ConvBcIdeal.τ).loc Cert.ConvBcIdeal.main_arg0)
      ∧ m' ((c.tc : Thread Cert.ConvBcRefIdeal.nD Cert.ConvBcRefIdeal.τ).loc Cert.ConvBcRefIdeal.main_arg1) = m ((c.tc : Thread Cert.ConvBcIdeal.nD Cert.ConvBcIdeal.τ).loc Cert.ConvBcIdeal.main_arg1)
      ∧ m' ((c.tc : Thread Cert.ConvBcRefIdeal.nD Cert.ConvBcRefIdeal.τ).loc Cert.ConvBcRefIdeal.main_arg2) = m ((c.tc : Thread Cert.ConvBcIdeal.nD Cert.ConvBcIdeal.τ).loc Cert.ConvBcIdeal.main_arg2)
      ∧ m' ((c.tc : Thread Cert.ConvBcRefIdeal.nD Cert.ConvBcRefIdeal.τ).loc Cert.ConvBcRefIdeal.main_arg3) = m ((c.tc : Thread Cert.ConvBcIdeal.nD Cert.ConvBcIdeal.τ).loc Cert.ConvBcIdeal.main_arg3)
      ∧ m' ((c.tc : Thread Cert.ConvBcRefIdeal.nD Cert.ConvBcRefIdeal.τ).loc Cert.ConvBcRefIdeal.main_arg4) = m ((c.tc : Thread Cert.ConvBcIdeal.nD Cert.ConvBcIdeal.τ).loc Cert.ConvBcIdeal.main_arg4)) →
    ∃ (v0 : (c : Dev Cert.ConvBcIdeal.nD) → Buf (Elt Ideal) ((c.tc : Thread Cert.ConvBcIdeal.nD Cert.ConvBcIdeal.τ).loc Cert.ConvBcIdeal.main_v42_0)) (v1 : (c : Dev Cert.ConvBcIdeal.nD) → Buf (Elt Ideal) ((c.tc : Thread Cert.ConvBcIdeal.nD Cert.ConvBcIdeal.τ).loc Cert.ConvBcIdeal.main_v42_1)),
      θ_run (Cert.ConvBcIdeal.defs (F := Ideal)) (onTc (τ := Cert.ConvBcIdeal.τ) (Cert.ConvBcIdeal.main (F := Ideal))) ⟨m, fun _ => 0, g⟩ (fun r => ∀ c : Dev Cert.ConvBcIdeal.nD,
          r.2.mem ((c.tc : Thread Cert.ConvBcIdeal.nD Cert.ConvBcIdeal.τ).loc Cert.ConvBcIdeal.main_v42_0) = v0 c
          ∧ r.2.mem ((c.tc : Thread Cert.ConvBcIdeal.nD Cert.ConvBcIdeal.τ).loc Cert.ConvBcIdeal.main_v42_1) = v1 c
          ∧ r.2.mem ((c.tc : Thread Cert.ConvBcIdeal.nD Cert.ConvBcIdeal.τ).loc Cert.ConvBcIdeal.main_arg0) = m ((c.tc : Thread Cert.ConvBcIdeal.nD Cert.ConvBcIdeal.τ).loc Cert.ConvBcIdeal.main_arg0)
          ∧ r.2.mem ((c.tc : Thread Cert.ConvBcIdeal.nD Cert.ConvBcIdeal.τ).loc Cert.ConvBcIdeal.main_arg1) = m ((c.tc : Thread Cert.ConvBcIdeal.nD Cert.ConvBcIdeal.τ).loc Cert.ConvBcIdeal.main_arg1)
          ∧ r.2.mem ((c.tc : Thread Cert.ConvBcIdeal.nD Cert.ConvBcIdeal.τ).loc Cert.ConvBcIdeal.main_arg2) = m ((c.tc : Thread Cert.ConvBcIdeal.nD Cert.ConvBcIdeal.τ).loc Cert.ConvBcIdeal.main_arg2)
          ∧ r.2.mem ((c.tc : Thread Cert.ConvBcIdeal.nD Cert.ConvBcIdeal.τ).loc Cert.ConvBcIdeal.main_arg3) = m ((c.tc : Thread Cert.ConvBcIdeal.nD Cert.ConvBcIdeal.τ).loc Cert.ConvBcIdeal.main_arg3)
          ∧ r.2.mem ((c.tc : Thread Cert.ConvBcIdeal.nD Cert.ConvBcIdeal.τ).loc Cert.ConvBcIdeal.main_arg4) = m ((c.tc : Thread Cert.ConvBcIdeal.nD Cert.ConvBcIdeal.τ).loc Cert.ConvBcIdeal.main_arg4))
      ∧ θ_run (Cert.ConvBcRefIdeal.defs (F := Ideal)) (onTc (τ := Cert.ConvBcRefIdeal.τ) (Cert.ConvBcRefIdeal.main (F := Ideal))) ⟨m', fun _ => 0, g'⟩ (fun r => ∀ c : Dev Cert.ConvBcRefIdeal.nD,
          r.2.mem ((c.tc : Thread Cert.ConvBcRefIdeal.nD Cert.ConvBcRefIdeal.τ).loc Cert.ConvBcRefIdeal.main_v92) = v0 c
          ∧ r.2.mem ((c.tc : Thread Cert.ConvBcRefIdeal.nD Cert.ConvBcRefIdeal.τ).loc Cert.ConvBcRefIdeal.main_v95) = v1 c
          ∧ r.2.mem ((c.tc : Thread Cert.ConvBcRefIdeal.nD Cert.ConvBcRefIdeal.τ).loc Cert.ConvBcRefIdeal.main_arg0) = m' ((c.tc : Thread Cert.ConvBcRefIdeal.nD Cert.ConvBcRefIdeal.τ).loc Cert.ConvBcRefIdeal.main_arg0)
          ∧ r.2.mem ((c.tc : Thread Cert.ConvBcRefIdeal.nD Cert.ConvBcRefIdeal.τ).loc Cert.ConvBcRefIdeal.main_arg1) = m' ((c.tc : Thread Cert.ConvBcRefIdeal.nD Cert.ConvBcRefIdeal.τ).loc Cert.ConvBcRefIdeal.main_arg1)
          ∧ r.2.mem ((c.tc : Thread Cert.ConvBcRefIdeal.nD Cert.ConvBcRefIdeal.τ).loc Cert.ConvBcRefIdeal.main_arg2) = m' ((c.tc : Thread Cert.ConvBcRefIdeal.nD Cert.ConvBcRefIdeal.τ).loc Cert.ConvBcRefIdeal.main_arg2)
          ∧ r.2.mem ((c.tc : Thread Cert.ConvBcRefIdeal.nD Cert.ConvBcRefIdeal.τ).loc Cert.ConvBcRefIdeal.main_arg3) = m' ((c.tc : Thread Cert.ConvBcRefIdeal.nD Cert.ConvBcRefIdeal.τ).loc Cert.ConvBcRefIdeal.main_arg3)
          ∧ r.2.mem ((c.tc : Thread Cert.ConvBcRefIdeal.nD Cert.ConvBcRefIdeal.τ).loc Cert.ConvBcRefIdeal.main_arg4) = m' ((c.tc : Thread Cert.ConvBcRefIdeal.nD Cert.ConvBcRefIdeal.τ).loc Cert.ConvBcRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBranchSsm_AdamBranchSsmIdeal : Prop :=
  True

def algebraic_AdamBranchSsmIdeal_AdamBranchSsmRefIdeal [hAdamBranchSsmIdeal : Cert.AdamBranchSsmIdeal.Facts] [hAdamBranchSsmRefIdeal : Cert.AdamBranchSsmRefIdeal.Facts] : Prop :=
  ∀ (m : (ℓ : Loc Cert.AdamBranchSsmIdeal.nD Cert.AdamBranchSsmIdeal.τ Cert.AdamBranchSsmIdeal.sig) → Buf (Elt Ideal) ℓ) (g : Dev Cert.AdamBranchSsmIdeal.nD → PrngReg)
    (m' : (ℓ : Loc Cert.AdamBranchSsmRefIdeal.nD Cert.AdamBranchSsmRefIdeal.τ Cert.AdamBranchSsmRefIdeal.sig) → Buf (Elt Ideal) ℓ) (g' : Dev Cert.AdamBranchSsmRefIdeal.nD → PrngReg), Pre_AdamBranchSsmIdeal m →
    (∀ c : Dev Cert.AdamBranchSsmIdeal.nD,
      m' ((c.tc : Thread Cert.AdamBranchSsmRefIdeal.nD Cert.AdamBranchSsmRefIdeal.τ).loc Cert.AdamBranchSsmRefIdeal.main_arg0) = m ((c.tc : Thread Cert.AdamBranchSsmIdeal.nD Cert.AdamBranchSsmIdeal.τ).loc Cert.AdamBranchSsmIdeal.main_arg0)
      ∧ m' ((c.tc : Thread Cert.AdamBranchSsmRefIdeal.nD Cert.AdamBranchSsmRefIdeal.τ).loc Cert.AdamBranchSsmRefIdeal.main_arg1) = m ((c.tc : Thread Cert.AdamBranchSsmIdeal.nD Cert.AdamBranchSsmIdeal.τ).loc Cert.AdamBranchSsmIdeal.main_arg1)
      ∧ m' ((c.tc : Thread Cert.AdamBranchSsmRefIdeal.nD Cert.AdamBranchSsmRefIdeal.τ).loc Cert.AdamBranchSsmRefIdeal.main_arg2) = m ((c.tc : Thread Cert.AdamBranchSsmIdeal.nD Cert.AdamBranchSsmIdeal.τ).loc Cert.AdamBranchSsmIdeal.main_arg2)
      ∧ m' ((c.tc : Thread Cert.AdamBranchSsmRefIdeal.nD Cert.AdamBranchSsmRefIdeal.τ).loc Cert.AdamBranchSsmRefIdeal.main_arg3) = m ((c.tc : Thread Cert.AdamBranchSsmIdeal.nD Cert.AdamBranchSsmIdeal.τ).loc Cert.AdamBranchSsmIdeal.main_arg3)) →
    ∃ (v0 : (c : Dev Cert.AdamBranchSsmIdeal.nD) → Buf (Elt Ideal) ((c.tc : Thread Cert.AdamBranchSsmIdeal.nD Cert.AdamBranchSsmIdeal.τ).loc Cert.AdamBranchSsmIdeal.main_v0_0)) (v1 : (c : Dev Cert.AdamBranchSsmIdeal.nD) → Buf (Elt Ideal) ((c.tc : Thread Cert.AdamBranchSsmIdeal.nD Cert.AdamBranchSsmIdeal.τ).loc Cert.AdamBranchSsmIdeal.main_v0_1)) (v2 : (c : Dev Cert.AdamBranchSsmIdeal.nD) → Buf (Elt Ideal) ((c.tc : Thread Cert.AdamBranchSsmIdeal.nD Cert.AdamBranchSsmIdeal.τ).loc Cert.AdamBranchSsmIdeal.main_v0_2)),
      θ_run (Cert.AdamBranchSsmIdeal.defs (F := Ideal)) (onTc (τ := Cert.AdamBranchSsmIdeal.τ) (Cert.AdamBranchSsmIdeal.main (F := Ideal))) ⟨m, fun _ => 0, g⟩ (fun r => ∀ c : Dev Cert.AdamBranchSsmIdeal.nD,
          r.2.mem ((c.tc : Thread Cert.AdamBranchSsmIdeal.nD Cert.AdamBranchSsmIdeal.τ).loc Cert.AdamBranchSsmIdeal.main_v0_0) = v0 c
          ∧ r.2.mem ((c.tc : Thread Cert.AdamBranchSsmIdeal.nD Cert.AdamBranchSsmIdeal.τ).loc Cert.AdamBranchSsmIdeal.main_v0_1) = v1 c
          ∧ r.2.mem ((c.tc : Thread Cert.AdamBranchSsmIdeal.nD Cert.AdamBranchSsmIdeal.τ).loc Cert.AdamBranchSsmIdeal.main_v0_2) = v2 c
          ∧ r.2.mem ((c.tc : Thread Cert.AdamBranchSsmIdeal.nD Cert.AdamBranchSsmIdeal.τ).loc Cert.AdamBranchSsmIdeal.main_arg0) = m ((c.tc : Thread Cert.AdamBranchSsmIdeal.nD Cert.AdamBranchSsmIdeal.τ).loc Cert.AdamBranchSsmIdeal.main_arg0)
          ∧ r.2.mem ((c.tc : Thread Cert.AdamBranchSsmIdeal.nD Cert.AdamBranchSsmIdeal.τ).loc Cert.AdamBranchSsmIdeal.main_arg1) = m ((c.tc : Thread Cert.AdamBranchSsmIdeal.nD Cert.AdamBranchSsmIdeal.τ).loc Cert.AdamBranchSsmIdeal.main_arg1)
          ∧ r.2.mem ((c.tc : Thread Cert.AdamBranchSsmIdeal.nD Cert.AdamBranchSsmIdeal.τ).loc Cert.AdamBranchSsmIdeal.main_arg2) = m ((c.tc : Thread Cert.AdamBranchSsmIdeal.nD Cert.AdamBranchSsmIdeal.τ).loc Cert.AdamBranchSsmIdeal.main_arg2)
          ∧ r.2.mem ((c.tc : Thread Cert.AdamBranchSsmIdeal.nD Cert.AdamBranchSsmIdeal.τ).loc Cert.AdamBranchSsmIdeal.main_arg3) = m ((c.tc : Thread Cert.AdamBranchSsmIdeal.nD Cert.AdamBranchSsmIdeal.τ).loc Cert.AdamBranchSsmIdeal.main_arg3))
      ∧ θ_run (Cert.AdamBranchSsmRefIdeal.defs (F := Ideal)) (onTc (τ := Cert.AdamBranchSsmRefIdeal.τ) (Cert.AdamBranchSsmRefIdeal.main (F := Ideal))) ⟨m', fun _ => 0, g'⟩ (fun r => ∀ c : Dev Cert.AdamBranchSsmRefIdeal.nD,
          r.2.mem ((c.tc : Thread Cert.AdamBranchSsmRefIdeal.nD Cert.AdamBranchSsmRefIdeal.τ).loc Cert.AdamBranchSsmRefIdeal.main_v23) = v0 c
          ∧ r.2.mem ((c.tc : Thread Cert.AdamBranchSsmRefIdeal.nD Cert.AdamBranchSsmRefIdeal.τ).loc Cert.AdamBranchSsmRefIdeal.main_v4) = v1 c
          ∧ r.2.mem ((c.tc : Thread Cert.AdamBranchSsmRefIdeal.nD Cert.AdamBranchSsmRefIdeal.τ).loc Cert.AdamBranchSsmRefIdeal.main_v10) = v2 c
          ∧ r.2.mem ((c.tc : Thread Cert.AdamBranchSsmRefIdeal.nD Cert.AdamBranchSsmRefIdeal.τ).loc Cert.AdamBranchSsmRefIdeal.main_arg0) = m' ((c.tc : Thread Cert.AdamBranchSsmRefIdeal.nD Cert.AdamBranchSsmRefIdeal.τ).loc Cert.AdamBranchSsmRefIdeal.main_arg0)
          ∧ r.2.mem ((c.tc : Thread Cert.AdamBranchSsmRefIdeal.nD Cert.AdamBranchSsmRefIdeal.τ).loc Cert.AdamBranchSsmRefIdeal.main_arg1) = m' ((c.tc : Thread Cert.AdamBranchSsmRefIdeal.nD Cert.AdamBranchSsmRefIdeal.τ).loc Cert.AdamBranchSsmRefIdeal.main_arg1)
          ∧ r.2.mem ((c.tc : Thread Cert.AdamBranchSsmRefIdeal.nD Cert.AdamBranchSsmRefIdeal.τ).loc Cert.AdamBranchSsmRefIdeal.main_arg2) = m' ((c.tc : Thread Cert.AdamBranchSsmRefIdeal.nD Cert.AdamBranchSsmRefIdeal.τ).loc Cert.AdamBranchSsmRefIdeal.main_arg2)
          ∧ r.2.mem ((c.tc : Thread Cert.AdamBranchSsmRefIdeal.nD Cert.AdamBranchSsmRefIdeal.τ).loc Cert.AdamBranchSsmRefIdeal.main_arg3) = m' ((c.tc : Thread Cert.AdamBranchSsmRefIdeal.nD Cert.AdamBranchSsmRefIdeal.τ).loc Cert.AdamBranchSsmRefIdeal.main_arg3))

def preserves_AdamBranchAttn_AdamBranchAttnIdeal : Prop :=
  True

def algebraic_AdamBranchAttnIdeal_AdamBranchAttnRefIdeal [hAdamBranchAttnIdeal : Cert.AdamBranchAttnIdeal.Facts] [hAdamBranchAttnRefIdeal : Cert.AdamBranchAttnRefIdeal.Facts] : Prop :=
  ∀ (m : (ℓ : Loc Cert.AdamBranchAttnIdeal.nD Cert.AdamBranchAttnIdeal.τ Cert.AdamBranchAttnIdeal.sig) → Buf (Elt Ideal) ℓ) (g : Dev Cert.AdamBranchAttnIdeal.nD → PrngReg)
    (m' : (ℓ : Loc Cert.AdamBranchAttnRefIdeal.nD Cert.AdamBranchAttnRefIdeal.τ Cert.AdamBranchAttnRefIdeal.sig) → Buf (Elt Ideal) ℓ) (g' : Dev Cert.AdamBranchAttnRefIdeal.nD → PrngReg), Pre_AdamBranchAttnIdeal m →
    (∀ c : Dev Cert.AdamBranchAttnIdeal.nD,
      m' ((c.tc : Thread Cert.AdamBranchAttnRefIdeal.nD Cert.AdamBranchAttnRefIdeal.τ).loc Cert.AdamBranchAttnRefIdeal.main_arg0) = m ((c.tc : Thread Cert.AdamBranchAttnIdeal.nD Cert.AdamBranchAttnIdeal.τ).loc Cert.AdamBranchAttnIdeal.main_arg0)
      ∧ m' ((c.tc : Thread Cert.AdamBranchAttnRefIdeal.nD Cert.AdamBranchAttnRefIdeal.τ).loc Cert.AdamBranchAttnRefIdeal.main_arg1) = m ((c.tc : Thread Cert.AdamBranchAttnIdeal.nD Cert.AdamBranchAttnIdeal.τ).loc Cert.AdamBranchAttnIdeal.main_arg1)
      ∧ m' ((c.tc : Thread Cert.AdamBranchAttnRefIdeal.nD Cert.AdamBranchAttnRefIdeal.τ).loc Cert.AdamBranchAttnRefIdeal.main_arg2) = m ((c.tc : Thread Cert.AdamBranchAttnIdeal.nD Cert.AdamBranchAttnIdeal.τ).loc Cert.AdamBranchAttnIdeal.main_arg2)
      ∧ m' ((c.tc : Thread Cert.AdamBranchAttnRefIdeal.nD Cert.AdamBranchAttnRefIdeal.τ).loc Cert.AdamBranchAttnRefIdeal.main_arg3) = m ((c.tc : Thread Cert.AdamBranchAttnIdeal.nD Cert.AdamBranchAttnIdeal.τ).loc Cert.AdamBranchAttnIdeal.main_arg3)) →
    ∃ (v0 : (c : Dev Cert.AdamBranchAttnIdeal.nD) → Buf (Elt Ideal) ((c.tc : Thread Cert.AdamBranchAttnIdeal.nD Cert.AdamBranchAttnIdeal.τ).loc Cert.AdamBranchAttnIdeal.main_v0_0)) (v1 : (c : Dev Cert.AdamBranchAttnIdeal.nD) → Buf (Elt Ideal) ((c.tc : Thread Cert.AdamBranchAttnIdeal.nD Cert.AdamBranchAttnIdeal.τ).loc Cert.AdamBranchAttnIdeal.main_v0_1)) (v2 : (c : Dev Cert.AdamBranchAttnIdeal.nD) → Buf (Elt Ideal) ((c.tc : Thread Cert.AdamBranchAttnIdeal.nD Cert.AdamBranchAttnIdeal.τ).loc Cert.AdamBranchAttnIdeal.main_v0_2)),
      θ_run (Cert.AdamBranchAttnIdeal.defs (F := Ideal)) (onTc (τ := Cert.AdamBranchAttnIdeal.τ) (Cert.AdamBranchAttnIdeal.main (F := Ideal))) ⟨m, fun _ => 0, g⟩ (fun r => ∀ c : Dev Cert.AdamBranchAttnIdeal.nD,
          r.2.mem ((c.tc : Thread Cert.AdamBranchAttnIdeal.nD Cert.AdamBranchAttnIdeal.τ).loc Cert.AdamBranchAttnIdeal.main_v0_0) = v0 c
          ∧ r.2.mem ((c.tc : Thread Cert.AdamBranchAttnIdeal.nD Cert.AdamBranchAttnIdeal.τ).loc Cert.AdamBranchAttnIdeal.main_v0_1) = v1 c
          ∧ r.2.mem ((c.tc : Thread Cert.AdamBranchAttnIdeal.nD Cert.AdamBranchAttnIdeal.τ).loc Cert.AdamBranchAttnIdeal.main_v0_2) = v2 c
          ∧ r.2.mem ((c.tc : Thread Cert.AdamBranchAttnIdeal.nD Cert.AdamBranchAttnIdeal.τ).loc Cert.AdamBranchAttnIdeal.main_arg0) = m ((c.tc : Thread Cert.AdamBranchAttnIdeal.nD Cert.AdamBranchAttnIdeal.τ).loc Cert.AdamBranchAttnIdeal.main_arg0)
          ∧ r.2.mem ((c.tc : Thread Cert.AdamBranchAttnIdeal.nD Cert.AdamBranchAttnIdeal.τ).loc Cert.AdamBranchAttnIdeal.main_arg1) = m ((c.tc : Thread Cert.AdamBranchAttnIdeal.nD Cert.AdamBranchAttnIdeal.τ).loc Cert.AdamBranchAttnIdeal.main_arg1)
          ∧ r.2.mem ((c.tc : Thread Cert.AdamBranchAttnIdeal.nD Cert.AdamBranchAttnIdeal.τ).loc Cert.AdamBranchAttnIdeal.main_arg2) = m ((c.tc : Thread Cert.AdamBranchAttnIdeal.nD Cert.AdamBranchAttnIdeal.τ).loc Cert.AdamBranchAttnIdeal.main_arg2)
          ∧ r.2.mem ((c.tc : Thread Cert.AdamBranchAttnIdeal.nD Cert.AdamBranchAttnIdeal.τ).loc Cert.AdamBranchAttnIdeal.main_arg3) = m ((c.tc : Thread Cert.AdamBranchAttnIdeal.nD Cert.AdamBranchAttnIdeal.τ).loc Cert.AdamBranchAttnIdeal.main_arg3))
      ∧ θ_run (Cert.AdamBranchAttnRefIdeal.defs (F := Ideal)) (onTc (τ := Cert.AdamBranchAttnRefIdeal.τ) (Cert.AdamBranchAttnRefIdeal.main (F := Ideal))) ⟨m', fun _ => 0, g'⟩ (fun r => ∀ c : Dev Cert.AdamBranchAttnRefIdeal.nD,
          r.2.mem ((c.tc : Thread Cert.AdamBranchAttnRefIdeal.nD Cert.AdamBranchAttnRefIdeal.τ).loc Cert.AdamBranchAttnRefIdeal.main_v23) = v0 c
          ∧ r.2.mem ((c.tc : Thread Cert.AdamBranchAttnRefIdeal.nD Cert.AdamBranchAttnRefIdeal.τ).loc Cert.AdamBranchAttnRefIdeal.main_v4) = v1 c
          ∧ r.2.mem ((c.tc : Thread Cert.AdamBranchAttnRefIdeal.nD Cert.AdamBranchAttnRefIdeal.τ).loc Cert.AdamBranchAttnRefIdeal.main_v10) = v2 c
          ∧ r.2.mem ((c.tc : Thread Cert.AdamBranchAttnRefIdeal.nD Cert.AdamBranchAttnRefIdeal.τ).loc Cert.AdamBranchAttnRefIdeal.main_arg0) = m' ((c.tc : Thread Cert.AdamBranchAttnRefIdeal.nD Cert.AdamBranchAttnRefIdeal.τ).loc Cert.AdamBranchAttnRefIdeal.main_arg0)
          ∧ r.2.mem ((c.tc : Thread Cert.AdamBranchAttnRefIdeal.nD Cert.AdamBranchAttnRefIdeal.τ).loc Cert.AdamBranchAttnRefIdeal.main_arg1) = m' ((c.tc : Thread Cert.AdamBranchAttnRefIdeal.nD Cert.AdamBranchAttnRefIdeal.τ).loc Cert.AdamBranchAttnRefIdeal.main_arg1)
          ∧ r.2.mem ((c.tc : Thread Cert.AdamBranchAttnRefIdeal.nD Cert.AdamBranchAttnRefIdeal.τ).loc Cert.AdamBranchAttnRefIdeal.main_arg2) = m' ((c.tc : Thread Cert.AdamBranchAttnRefIdeal.nD Cert.AdamBranchAttnRefIdeal.τ).loc Cert.AdamBranchAttnRefIdeal.main_arg2)
          ∧ r.2.mem ((c.tc : Thread Cert.AdamBranchAttnRefIdeal.nD Cert.AdamBranchAttnRefIdeal.τ).loc Cert.AdamBranchAttnRefIdeal.main_arg3) = m' ((c.tc : Thread Cert.AdamBranchAttnRefIdeal.nD Cert.AdamBranchAttnRefIdeal.τ).loc Cert.AdamBranchAttnRefIdeal.main_arg3))

def preserves_AdamMixOut_AdamMixOutIdeal : Prop :=
  True

def algebraic_AdamMixOutIdeal_AdamMixOutRefIdeal [hAdamMixOutIdeal : Cert.AdamMixOutIdeal.Facts] [hAdamMixOutRefIdeal : Cert.AdamMixOutRefIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.AdamMixOutRefIdeal.nD Cert.AdamMixOutRefIdeal.τ Cert.AdamMixOutRefIdeal.sig) → Buf (Elt Ideal) ℓ) (g' : Dev Cert.AdamMixOutRefIdeal.nD → PrngReg), Pre_AdamMixOutIdeal m →
    (∀ c : Dev Cert.AdamMixOutIdeal.nD,
      m' ((c.tc : Thread Cert.AdamMixOutRefIdeal.nD Cert.AdamMixOutRefIdeal.τ).loc Cert.AdamMixOutRefIdeal.main_arg0) = m ((c.tc : Thread Cert.AdamMixOutIdeal.nD Cert.AdamMixOutIdeal.τ).loc Cert.AdamMixOutIdeal.main_arg0)
      ∧ m' ((c.tc : Thread Cert.AdamMixOutRefIdeal.nD Cert.AdamMixOutRefIdeal.τ).loc Cert.AdamMixOutRefIdeal.main_arg1) = m ((c.tc : Thread Cert.AdamMixOutIdeal.nD Cert.AdamMixOutIdeal.τ).loc Cert.AdamMixOutIdeal.main_arg1)
      ∧ m' ((c.tc : Thread Cert.AdamMixOutRefIdeal.nD Cert.AdamMixOutRefIdeal.τ).loc Cert.AdamMixOutRefIdeal.main_arg2) = m ((c.tc : Thread Cert.AdamMixOutIdeal.nD Cert.AdamMixOutIdeal.τ).loc Cert.AdamMixOutIdeal.main_arg2)
      ∧ m' ((c.tc : Thread Cert.AdamMixOutRefIdeal.nD Cert.AdamMixOutRefIdeal.τ).loc Cert.AdamMixOutRefIdeal.main_arg3) = m ((c.tc : Thread Cert.AdamMixOutIdeal.nD Cert.AdamMixOutIdeal.τ).loc Cert.AdamMixOutIdeal.main_arg3)) →
    ∃ (v0 : (c : Dev Cert.AdamMixOutIdeal.nD) → Buf (Elt Ideal) ((c.tc : Thread Cert.AdamMixOutIdeal.nD Cert.AdamMixOutIdeal.τ).loc Cert.AdamMixOutIdeal.main_v0_0)) (v1 : (c : Dev Cert.AdamMixOutIdeal.nD) → Buf (Elt Ideal) ((c.tc : Thread Cert.AdamMixOutIdeal.nD Cert.AdamMixOutIdeal.τ).loc Cert.AdamMixOutIdeal.main_v0_1)) (v2 : (c : Dev Cert.AdamMixOutIdeal.nD) → Buf (Elt Ideal) ((c.tc : Thread Cert.AdamMixOutIdeal.nD Cert.AdamMixOutIdeal.τ).loc Cert.AdamMixOutIdeal.main_v0_2)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v0_0) = v0 c
          ∧ r.2.mem ((c.tc : Thread Cert.AdamMixOutIdeal.nD Cert.AdamMixOutIdeal.τ).loc Cert.AdamMixOutIdeal.main_v0_1) = v1 c
          ∧ r.2.mem ((c.tc : Thread Cert.AdamMixOutIdeal.nD Cert.AdamMixOutIdeal.τ).loc Cert.AdamMixOutIdeal.main_v0_2) = v2 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ θ_run (Cert.AdamMixOutRefIdeal.defs (F := Ideal)) (onTc (τ := Cert.AdamMixOutRefIdeal.τ) (Cert.AdamMixOutRefIdeal.main (F := Ideal))) ⟨m', fun _ => 0, g'⟩ (fun r => ∀ c : Dev Cert.AdamMixOutRefIdeal.nD,
          r.2.mem ((c.tc : Thread Cert.AdamMixOutRefIdeal.nD Cert.AdamMixOutRefIdeal.τ).loc Cert.AdamMixOutRefIdeal.main_v23) = v0 c
          ∧ r.2.mem ((c.tc : Thread Cert.AdamMixOutRefIdeal.nD Cert.AdamMixOutRefIdeal.τ).loc Cert.AdamMixOutRefIdeal.main_v4) = v1 c
          ∧ r.2.mem ((c.tc : Thread Cert.AdamMixOutRefIdeal.nD Cert.AdamMixOutRefIdeal.τ).loc Cert.AdamMixOutRefIdeal.main_v10) = v2 c
          ∧ r.2.mem ((c.tc : Thread Cert.AdamMixOutRefIdeal.nD Cert.AdamMixOutRefIdeal.τ).loc Cert.AdamMixOutRefIdeal.main_arg0) = m' ((c.tc : Thread Cert.AdamMixOutRefIdeal.nD Cert.AdamMixOutRefIdeal.τ).loc Cert.AdamMixOutRefIdeal.main_arg0)
          ∧ r.2.mem ((c.tc : Thread Cert.AdamMixOutRefIdeal.nD Cert.AdamMixOutRefIdeal.τ).loc Cert.AdamMixOutRefIdeal.main_arg1) = m' ((c.tc : Thread Cert.AdamMixOutRefIdeal.nD Cert.AdamMixOutRefIdeal.τ).loc Cert.AdamMixOutRefIdeal.main_arg1)
          ∧ r.2.mem ((c.tc : Thread Cert.AdamMixOutRefIdeal.nD Cert.AdamMixOutRefIdeal.τ).loc Cert.AdamMixOutRefIdeal.main_arg2) = m' ((c.tc : Thread Cert.AdamMixOutRefIdeal.nD Cert.AdamMixOutRefIdeal.τ).loc Cert.AdamMixOutRefIdeal.main_arg2)
          ∧ r.2.mem ((c.tc : Thread Cert.AdamMixOutRefIdeal.nD Cert.AdamMixOutRefIdeal.τ).loc Cert.AdamMixOutRefIdeal.main_arg3) = m' ((c.tc : Thread Cert.AdamMixOutRefIdeal.nD Cert.AdamMixOutRefIdeal.τ).loc Cert.AdamMixOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSsmConv_AdamSsmConvIdeal : Prop :=
  True

def algebraic_AdamSsmConvIdeal_AdamSsmConvRefIdeal [hAdamSsmConvIdeal : Cert.AdamSsmConvIdeal.Facts] [hAdamSsmConvRefIdeal : Cert.AdamSsmConvRefIdeal.Facts] : Prop :=
  ∀ (m : (ℓ : Loc Cert.AdamSsmConvIdeal.nD Cert.AdamSsmConvIdeal.τ Cert.AdamSsmConvIdeal.sig) → Buf (Elt Ideal) ℓ) (g : Dev Cert.AdamSsmConvIdeal.nD → PrngReg)
    (m' : (ℓ : Loc Cert.AdamSsmConvRefIdeal.nD Cert.AdamSsmConvRefIdeal.τ Cert.AdamSsmConvRefIdeal.sig) → Buf (Elt Ideal) ℓ) (g' : Dev Cert.AdamSsmConvRefIdeal.nD → PrngReg), Pre_AdamSsmConvIdeal m →
    (∀ c : Dev Cert.AdamSsmConvIdeal.nD,
      m' ((c.tc : Thread Cert.AdamSsmConvRefIdeal.nD Cert.AdamSsmConvRefIdeal.τ).loc Cert.AdamSsmConvRefIdeal.main_arg0) = m ((c.tc : Thread Cert.AdamSsmConvIdeal.nD Cert.AdamSsmConvIdeal.τ).loc Cert.AdamSsmConvIdeal.main_arg0)
      ∧ m' ((c.tc : Thread Cert.AdamSsmConvRefIdeal.nD Cert.AdamSsmConvRefIdeal.τ).loc Cert.AdamSsmConvRefIdeal.main_arg1) = m ((c.tc : Thread Cert.AdamSsmConvIdeal.nD Cert.AdamSsmConvIdeal.τ).loc Cert.AdamSsmConvIdeal.main_arg1)
      ∧ m' ((c.tc : Thread Cert.AdamSsmConvRefIdeal.nD Cert.AdamSsmConvRefIdeal.τ).loc Cert.AdamSsmConvRefIdeal.main_arg2) = m ((c.tc : Thread Cert.AdamSsmConvIdeal.nD Cert.AdamSsmConvIdeal.τ).loc Cert.AdamSsmConvIdeal.main_arg2)
      ∧ m' ((c.tc : Thread Cert.AdamSsmConvRefIdeal.nD Cert.AdamSsmConvRefIdeal.τ).loc Cert.AdamSsmConvRefIdeal.main_arg3) = m ((c.tc : Thread Cert.AdamSsmConvIdeal.nD Cert.AdamSsmConvIdeal.τ).loc Cert.AdamSsmConvIdeal.main_arg3)) →
    ∃ (v0 : (c : Dev Cert.AdamSsmConvIdeal.nD) → Buf (Elt Ideal) ((c.tc : Thread Cert.AdamSsmConvIdeal.nD Cert.AdamSsmConvIdeal.τ).loc Cert.AdamSsmConvIdeal.main_v0_0)) (v1 : (c : Dev Cert.AdamSsmConvIdeal.nD) → Buf (Elt Ideal) ((c.tc : Thread Cert.AdamSsmConvIdeal.nD Cert.AdamSsmConvIdeal.τ).loc Cert.AdamSsmConvIdeal.main_v0_1)) (v2 : (c : Dev Cert.AdamSsmConvIdeal.nD) → Buf (Elt Ideal) ((c.tc : Thread Cert.AdamSsmConvIdeal.nD Cert.AdamSsmConvIdeal.τ).loc Cert.AdamSsmConvIdeal.main_v0_2)),
      θ_run (Cert.AdamSsmConvIdeal.defs (F := Ideal)) (onTc (τ := Cert.AdamSsmConvIdeal.τ) (Cert.AdamSsmConvIdeal.main (F := Ideal))) ⟨m, fun _ => 0, g⟩ (fun r => ∀ c : Dev Cert.AdamSsmConvIdeal.nD,
          r.2.mem ((c.tc : Thread Cert.AdamSsmConvIdeal.nD Cert.AdamSsmConvIdeal.τ).loc Cert.AdamSsmConvIdeal.main_v0_0) = v0 c
          ∧ r.2.mem ((c.tc : Thread Cert.AdamSsmConvIdeal.nD Cert.AdamSsmConvIdeal.τ).loc Cert.AdamSsmConvIdeal.main_v0_1) = v1 c
          ∧ r.2.mem ((c.tc : Thread Cert.AdamSsmConvIdeal.nD Cert.AdamSsmConvIdeal.τ).loc Cert.AdamSsmConvIdeal.main_v0_2) = v2 c
          ∧ r.2.mem ((c.tc : Thread Cert.AdamSsmConvIdeal.nD Cert.AdamSsmConvIdeal.τ).loc Cert.AdamSsmConvIdeal.main_arg0) = m ((c.tc : Thread Cert.AdamSsmConvIdeal.nD Cert.AdamSsmConvIdeal.τ).loc Cert.AdamSsmConvIdeal.main_arg0)
          ∧ r.2.mem ((c.tc : Thread Cert.AdamSsmConvIdeal.nD Cert.AdamSsmConvIdeal.τ).loc Cert.AdamSsmConvIdeal.main_arg1) = m ((c.tc : Thread Cert.AdamSsmConvIdeal.nD Cert.AdamSsmConvIdeal.τ).loc Cert.AdamSsmConvIdeal.main_arg1)
          ∧ r.2.mem ((c.tc : Thread Cert.AdamSsmConvIdeal.nD Cert.AdamSsmConvIdeal.τ).loc Cert.AdamSsmConvIdeal.main_arg2) = m ((c.tc : Thread Cert.AdamSsmConvIdeal.nD Cert.AdamSsmConvIdeal.τ).loc Cert.AdamSsmConvIdeal.main_arg2)
          ∧ r.2.mem ((c.tc : Thread Cert.AdamSsmConvIdeal.nD Cert.AdamSsmConvIdeal.τ).loc Cert.AdamSsmConvIdeal.main_arg3) = m ((c.tc : Thread Cert.AdamSsmConvIdeal.nD Cert.AdamSsmConvIdeal.τ).loc Cert.AdamSsmConvIdeal.main_arg3))
      ∧ θ_run (Cert.AdamSsmConvRefIdeal.defs (F := Ideal)) (onTc (τ := Cert.AdamSsmConvRefIdeal.τ) (Cert.AdamSsmConvRefIdeal.main (F := Ideal))) ⟨m', fun _ => 0, g'⟩ (fun r => ∀ c : Dev Cert.AdamSsmConvRefIdeal.nD,
          r.2.mem ((c.tc : Thread Cert.AdamSsmConvRefIdeal.nD Cert.AdamSsmConvRefIdeal.τ).loc Cert.AdamSsmConvRefIdeal.main_v23) = v0 c
          ∧ r.2.mem ((c.tc : Thread Cert.AdamSsmConvRefIdeal.nD Cert.AdamSsmConvRefIdeal.τ).loc Cert.AdamSsmConvRefIdeal.main_v4) = v1 c
          ∧ r.2.mem ((c.tc : Thread Cert.AdamSsmConvRefIdeal.nD Cert.AdamSsmConvRefIdeal.τ).loc Cert.AdamSsmConvRefIdeal.main_v10) = v2 c
          ∧ r.2.mem ((c.tc : Thread Cert.AdamSsmConvRefIdeal.nD Cert.AdamSsmConvRefIdeal.τ).loc Cert.AdamSsmConvRefIdeal.main_arg0) = m' ((c.tc : Thread Cert.AdamSsmConvRefIdeal.nD Cert.AdamSsmConvRefIdeal.τ).loc Cert.AdamSsmConvRefIdeal.main_arg0)
          ∧ r.2.mem ((c.tc : Thread Cert.AdamSsmConvRefIdeal.nD Cert.AdamSsmConvRefIdeal.τ).loc Cert.AdamSsmConvRefIdeal.main_arg1) = m' ((c.tc : Thread Cert.AdamSsmConvRefIdeal.nD Cert.AdamSsmConvRefIdeal.τ).loc Cert.AdamSsmConvRefIdeal.main_arg1)
          ∧ r.2.mem ((c.tc : Thread Cert.AdamSsmConvRefIdeal.nD Cert.AdamSsmConvRefIdeal.τ).loc Cert.AdamSsmConvRefIdeal.main_arg2) = m' ((c.tc : Thread Cert.AdamSsmConvRefIdeal.nD Cert.AdamSsmConvRefIdeal.τ).loc Cert.AdamSsmConvRefIdeal.main_arg2)
          ∧ r.2.mem ((c.tc : Thread Cert.AdamSsmConvRefIdeal.nD Cert.AdamSsmConvRefIdeal.τ).loc Cert.AdamSsmConvRefIdeal.main_arg3) = m' ((c.tc : Thread Cert.AdamSsmConvRefIdeal.nD Cert.AdamSsmConvRefIdeal.τ).loc Cert.AdamSsmConvRefIdeal.main_arg3))

def preserves_AdamFfnConv_AdamFfnConvIdeal : Prop :=
  True

def algebraic_AdamFfnConvIdeal_AdamFfnConvRefIdeal [hAdamFfnConvIdeal : Cert.AdamFfnConvIdeal.Facts] [hAdamFfnConvRefIdeal : Cert.AdamFfnConvRefIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg)
    (m' : (ℓ : Loc Cert.AdamFfnConvRefIdeal.nD Cert.AdamFfnConvRefIdeal.τ Cert.AdamFfnConvRefIdeal.sig) → Buf (Elt Ideal) ℓ) (g' : Dev Cert.AdamFfnConvRefIdeal.nD → PrngReg), Pre_AdamFfnConvIdeal m →
    (∀ c : Dev Cert.AdamFfnConvIdeal.nD,
      m' ((c.tc : Thread Cert.AdamFfnConvRefIdeal.nD Cert.AdamFfnConvRefIdeal.τ).loc Cert.AdamFfnConvRefIdeal.main_arg0) = m ((c.tc : Thread Cert.AdamFfnConvIdeal.nD Cert.AdamFfnConvIdeal.τ).loc Cert.AdamFfnConvIdeal.main_arg0)
      ∧ m' ((c.tc : Thread Cert.AdamFfnConvRefIdeal.nD Cert.AdamFfnConvRefIdeal.τ).loc Cert.AdamFfnConvRefIdeal.main_arg1) = m ((c.tc : Thread Cert.AdamFfnConvIdeal.nD Cert.AdamFfnConvIdeal.τ).loc Cert.AdamFfnConvIdeal.main_arg1)
      ∧ m' ((c.tc : Thread Cert.AdamFfnConvRefIdeal.nD Cert.AdamFfnConvRefIdeal.τ).loc Cert.AdamFfnConvRefIdeal.main_arg2) = m ((c.tc : Thread Cert.AdamFfnConvIdeal.nD Cert.AdamFfnConvIdeal.τ).loc Cert.AdamFfnConvIdeal.main_arg2)
      ∧ m' ((c.tc : Thread Cert.AdamFfnConvRefIdeal.nD Cert.AdamFfnConvRefIdeal.τ).loc Cert.AdamFfnConvRefIdeal.main_arg3) = m ((c.tc : Thread Cert.AdamFfnConvIdeal.nD Cert.AdamFfnConvIdeal.τ).loc Cert.AdamFfnConvIdeal.main_arg3)) →
    ∃ (v0 : (c : Dev Cert.AdamFfnConvIdeal.nD) → Buf (Elt Ideal) ((c.tc : Thread Cert.AdamFfnConvIdeal.nD Cert.AdamFfnConvIdeal.τ).loc Cert.AdamFfnConvIdeal.main_v0_0)) (v1 : (c : Dev Cert.AdamFfnConvIdeal.nD) → Buf (Elt Ideal) ((c.tc : Thread Cert.AdamFfnConvIdeal.nD Cert.AdamFfnConvIdeal.τ).loc Cert.AdamFfnConvIdeal.main_v0_1)) (v2 : (c : Dev Cert.AdamFfnConvIdeal.nD) → Buf (Elt Ideal) ((c.tc : Thread Cert.AdamFfnConvIdeal.nD Cert.AdamFfnConvIdeal.τ).loc Cert.AdamFfnConvIdeal.main_v0_2)),
      θ_run (Cert.AdamFfnConvIdeal.defs (F := Ideal)) (onTc (τ := Cert.AdamFfnConvIdeal.τ) (Cert.AdamFfnConvIdeal.main (F := Ideal))) ⟨m, fun _ => 0, g⟩ (fun r => ∀ c : Dev Cert.AdamFfnConvIdeal.nD,
          r.2.mem ((c.tc : Thread Cert.AdamFfnConvIdeal.nD Cert.AdamFfnConvIdeal.τ).loc Cert.AdamFfnConvIdeal.main_v0_0) = v0 c
          ∧ r.2.mem ((c.tc : Thread Cert.AdamFfnConvIdeal.nD Cert.AdamFfnConvIdeal.τ).loc Cert.AdamFfnConvIdeal.main_v0_1) = v1 c
          ∧ r.2.mem ((c.tc : Thread Cert.AdamFfnConvIdeal.nD Cert.AdamFfnConvIdeal.τ).loc Cert.AdamFfnConvIdeal.main_v0_2) = v2 c
          ∧ r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
          ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
          ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
          ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ θ_run (Cert.AdamFfnConvRefIdeal.defs (F := Ideal)) (onTc (τ := Cert.AdamFfnConvRefIdeal.τ) (Cert.AdamFfnConvRefIdeal.main (F := Ideal))) ⟨m', fun _ => 0, g'⟩ (fun r => ∀ c : Dev Cert.AdamFfnConvRefIdeal.nD,
          r.2.mem ((c.tc : Thread Cert.AdamFfnConvRefIdeal.nD Cert.AdamFfnConvRefIdeal.τ).loc Cert.AdamFfnConvRefIdeal.main_v23) = v0 c
          ∧ r.2.mem ((c.tc : Thread Cert.AdamFfnConvRefIdeal.nD Cert.AdamFfnConvRefIdeal.τ).loc Cert.AdamFfnConvRefIdeal.main_v4) = v1 c
          ∧ r.2.mem ((c.tc : Thread Cert.AdamFfnConvRefIdeal.nD Cert.AdamFfnConvRefIdeal.τ).loc Cert.AdamFfnConvRefIdeal.main_v10) = v2 c
          ∧ r.2.mem ((c.tc : Thread Cert.AdamFfnConvRefIdeal.nD Cert.AdamFfnConvRefIdeal.τ).loc Cert.AdamFfnConvRefIdeal.main_arg0) = m' ((c.tc : Thread Cert.AdamFfnConvRefIdeal.nD Cert.AdamFfnConvRefIdeal.τ).loc Cert.AdamFfnConvRefIdeal.main_arg0)
          ∧ r.2.mem ((c.tc : Thread Cert.AdamFfnConvRefIdeal.nD Cert.AdamFfnConvRefIdeal.τ).loc Cert.AdamFfnConvRefIdeal.main_arg1) = m' ((c.tc : Thread Cert.AdamFfnConvRefIdeal.nD Cert.AdamFfnConvRefIdeal.τ).loc Cert.AdamFfnConvRefIdeal.main_arg1)
          ∧ r.2.mem ((c.tc : Thread Cert.AdamFfnConvRefIdeal.nD Cert.AdamFfnConvRefIdeal.τ).loc Cert.AdamFfnConvRefIdeal.main_arg2) = m' ((c.tc : Thread Cert.AdamFfnConvRefIdeal.nD Cert.AdamFfnConvRefIdeal.τ).loc Cert.AdamFfnConvRefIdeal.main_arg2)
          ∧ r.2.mem ((c.tc : Thread Cert.AdamFfnConvRefIdeal.nD Cert.AdamFfnConvRefIdeal.τ).loc Cert.AdamFfnConvRefIdeal.main_arg3) = m' ((c.tc : Thread Cert.AdamFfnConvRefIdeal.nD Cert.AdamFfnConvRefIdeal.τ).loc Cert.AdamFfnConvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hDwDownRefIdeal : Cert.DwDownRefIdeal.Facts) (hDAct : Cert.DAct.Facts) (hDActIdeal : Cert.DActIdeal.Facts) (hDActRefIdeal : Cert.DActRefIdeal.Facts) (hDwUp : Cert.DwUp.Facts) (hDwUpIdeal : Cert.DwUpIdeal.Facts) (hDwUpRefIdeal : Cert.DwUpRefIdeal.Facts) (hDHid : Cert.DHid.Facts) (hDHidIdeal : Cert.DHidIdeal.Facts) (hDHidRefIdeal : Cert.DHidRefIdeal.Facts) (hDwMix : Cert.DwMix.Facts) (hDwMixIdeal : Cert.DwMixIdeal.Facts) (hDwMixRefIdeal : Cert.DwMixRefIdeal.Facts) (hDMerged : Cert.DMerged.Facts) (hDMergedIdeal : Cert.DMergedIdeal.Facts) (hDMergedRefIdeal : Cert.DMergedRefIdeal.Facts) (hDwBs : Cert.DwBs.Facts) (hDwBsIdeal : Cert.DwBsIdeal.Facts) (hDwBsRefIdeal : Cert.DwBsRefIdeal.Facts) (hDwBa : Cert.DwBa.Facts) (hDwBaIdeal : Cert.DwBaIdeal.Facts) (hDwBaRefIdeal : Cert.DwBaRefIdeal.Facts) (hDYssm : Cert.DYssm.Facts) (hDYssmIdeal : Cert.DYssmIdeal.Facts) (hDYssmRefIdeal : Cert.DYssmRefIdeal.Facts) (hDYattn : Cert.DYattn.Facts) (hDYattnIdeal : Cert.DYattnIdeal.Facts) (hDYattnRefIdeal : Cert.DYattnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hBs : Cert.Bs.Facts) (hBsIdeal : Cert.BsIdeal.Facts) (hBsRefIdeal : Cert.BsRefIdeal.Facts) (hBa : Cert.Ba.Facts) (hBaIdeal : Cert.BaIdeal.Facts) (hBaRefIdeal : Cert.BaRefIdeal.Facts) (hMix : Cert.Mix.Facts) (hMixIdeal : Cert.MixIdeal.Facts) (hMixRefIdeal : Cert.MixRefIdeal.Facts) (hInTail : Cert.InTail.Facts) (hInTailIdeal : Cert.InTailIdeal.Facts) (hInTailRefIdeal : Cert.InTailRefIdeal.Facts) (hMergeBwd : Cert.MergeBwd.Facts) (hMergeBwdIdeal : Cert.MergeBwdIdeal.Facts) (hMergeBwdRefIdeal : Cert.MergeBwdRefIdeal.Facts) (hLnBwd : Cert.LnBwd.Facts) (hLnBwdIdeal : Cert.LnBwdIdeal.Facts) (hLnBwdRefIdeal : Cert.LnBwdRefIdeal.Facts) (hLnLoss : Cert.LnLoss.Facts) (hLnLossIdeal : Cert.LnLossIdeal.Facts) (hLnLossRefIdeal : Cert.LnLossRefIdeal.Facts) (hConvXs : Cert.ConvXs.Facts) (hConvXsIdeal : Cert.ConvXsIdeal.Facts) (hConvXsRefIdeal : Cert.ConvXsRefIdeal.Facts) (hConvBc : Cert.ConvBc.Facts) (hConvBcIdeal : Cert.ConvBcIdeal.Facts) (hConvBcRefIdeal : Cert.ConvBcRefIdeal.Facts) (hAdamIn : Cert.AdamIn.Facts) (hAdamInIdeal : Cert.AdamInIdeal.Facts) (hAdamInRefIdeal : Cert.AdamInRefIdeal.Facts) (hAdamBranchSsm : Cert.AdamBranchSsm.Facts) (hAdamBranchSsmIdeal : Cert.AdamBranchSsmIdeal.Facts) (hAdamBranchSsmRefIdeal : Cert.AdamBranchSsmRefIdeal.Facts) (hAdamBranchAttn : Cert.AdamBranchAttn.Facts) (hAdamBranchAttnIdeal : Cert.AdamBranchAttnIdeal.Facts) (hAdamBranchAttnRefIdeal : Cert.AdamBranchAttnRefIdeal.Facts) (hAdamMixOut : Cert.AdamMixOut.Facts) (hAdamMixOutIdeal : Cert.AdamMixOutIdeal.Facts) (hAdamMixOutRefIdeal : Cert.AdamMixOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSsmConv : Cert.AdamSsmConv.Facts) (hAdamSsmConvIdeal : Cert.AdamSsmConvIdeal.Facts) (hAdamSsmConvRefIdeal : Cert.AdamSsmConvRefIdeal.Facts) (hAdamFfnConv : Cert.AdamFfnConv.Facts) (hAdamFfnConvIdeal : Cert.AdamFfnConvIdeal.Facts) (hAdamFfnConvRefIdeal : Cert.AdamFfnConvRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_ln1_bwd_finite : Cert.Pre_ln1_bwd_finite.Facts) (hPre_ln2_loss_finite : Cert.Pre_ln2_loss_finite.Facts) (hPre_conv_xs_bwd_finite : Cert.Pre_conv_xs_bwd_finite.Facts) (hPre_conv_bc_bwd_finite : Cert.Pre_conv_bc_bwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DAct (hDAct := hDAct)
    ∧ quiescent_DActIdeal (hDActIdeal := hDActIdeal)
    ∧ quiescent_DActRefIdeal (hDActRefIdeal := hDActRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DHid (hDHid := hDHid)
    ∧ quiescent_DHidIdeal (hDHidIdeal := hDHidIdeal)
    ∧ quiescent_DHidRefIdeal (hDHidRefIdeal := hDHidRefIdeal)
    ∧ quiescent_DwMix (hDwMix := hDwMix)
    ∧ quiescent_DwMixIdeal (hDwMixIdeal := hDwMixIdeal)
    ∧ quiescent_DwMixRefIdeal (hDwMixRefIdeal := hDwMixRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DwBs (hDwBs := hDwBs)
    ∧ quiescent_DwBsIdeal (hDwBsIdeal := hDwBsIdeal)
    ∧ quiescent_DwBsRefIdeal (hDwBsRefIdeal := hDwBsRefIdeal)
    ∧ quiescent_DwBa (hDwBa := hDwBa)
    ∧ quiescent_DwBaIdeal (hDwBaIdeal := hDwBaIdeal)
    ∧ quiescent_DwBaRefIdeal (hDwBaRefIdeal := hDwBaRefIdeal)
    ∧ quiescent_DYssm (hDYssm := hDYssm)
    ∧ quiescent_DYssmIdeal (hDYssmIdeal := hDYssmIdeal)
    ∧ quiescent_DYssmRefIdeal (hDYssmRefIdeal := hDYssmRefIdeal)
    ∧ quiescent_DYattn (hDYattn := hDYattn)
    ∧ quiescent_DYattnIdeal (hDYattnIdeal := hDYattnIdeal)
    ∧ quiescent_DYattnRefIdeal (hDYattnRefIdeal := hDYattnRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Bs (hBs := hBs)
    ∧ quiescent_BsIdeal (hBsIdeal := hBsIdeal)
    ∧ quiescent_BsRefIdeal (hBsRefIdeal := hBsRefIdeal)
    ∧ quiescent_Ba (hBa := hBa)
    ∧ quiescent_BaIdeal (hBaIdeal := hBaIdeal)
    ∧ quiescent_BaRefIdeal (hBaRefIdeal := hBaRefIdeal)
    ∧ quiescent_Mix (hMix := hMix)
    ∧ quiescent_MixIdeal (hMixIdeal := hMixIdeal)
    ∧ quiescent_MixRefIdeal (hMixRefIdeal := hMixRefIdeal)
    ∧ quiescent_InTail (hInTail := hInTail)
    ∧ quiescent_InTailIdeal (hInTailIdeal := hInTailIdeal)
    ∧ quiescent_InTailRefIdeal (hInTailRefIdeal := hInTailRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_LnBwd (hLnBwd := hLnBwd)
    ∧ quiescent_LnBwdIdeal (hLnBwdIdeal := hLnBwdIdeal)
    ∧ quiescent_LnBwdIdeal_pre_ln1_bwd_finite (hLnBwdIdeal := hLnBwdIdeal) (hPre_ln1_bwd_finite := hPre_ln1_bwd_finite)
    ∧ quiescent_LnBwdRefIdeal (hLnBwdRefIdeal := hLnBwdRefIdeal)
    ∧ quiescent_LnBwdRefIdeal_pre_ln1_bwd_finite (hLnBwdRefIdeal := hLnBwdRefIdeal) (hPre_ln1_bwd_finite := hPre_ln1_bwd_finite)
    ∧ quiescent_LnLoss (hLnLoss := hLnLoss)
    ∧ quiescent_LnLossIdeal (hLnLossIdeal := hLnLossIdeal)
    ∧ quiescent_LnLossIdeal_pre_ln2_loss_finite (hLnLossIdeal := hLnLossIdeal) (hPre_ln2_loss_finite := hPre_ln2_loss_finite)
    ∧ quiescent_LnLossRefIdeal (hLnLossRefIdeal := hLnLossRefIdeal)
    ∧ quiescent_LnLossRefIdeal_pre_ln2_loss_finite (hLnLossRefIdeal := hLnLossRefIdeal) (hPre_ln2_loss_finite := hPre_ln2_loss_finite)
    ∧ quiescent_ConvXs (hConvXs := hConvXs)
    ∧ quiescent_ConvXsIdeal (hConvXsIdeal := hConvXsIdeal)
    ∧ quiescent_ConvXsIdeal_pre_conv_xs_bwd_finite (hConvXsIdeal := hConvXsIdeal) (hPre_conv_xs_bwd_finite := hPre_conv_xs_bwd_finite)
    ∧ quiescent_ConvXsRefIdeal (hConvXsRefIdeal := hConvXsRefIdeal)
    ∧ quiescent_ConvXsRefIdeal_pre_conv_xs_bwd_finite (hConvXsRefIdeal := hConvXsRefIdeal) (hPre_conv_xs_bwd_finite := hPre_conv_xs_bwd_finite)
    ∧ quiescent_ConvBc (hConvBc := hConvBc)
    ∧ quiescent_ConvBcIdeal (hConvBcIdeal := hConvBcIdeal)
    ∧ quiescent_ConvBcIdeal_pre_conv_bc_bwd_finite (hConvBcIdeal := hConvBcIdeal) (hPre_conv_bc_bwd_finite := hPre_conv_bc_bwd_finite)
    ∧ quiescent_ConvBcRefIdeal (hConvBcRefIdeal := hConvBcRefIdeal)
    ∧ quiescent_ConvBcRefIdeal_pre_conv_bc_bwd_finite (hConvBcRefIdeal := hConvBcRefIdeal) (hPre_conv_bc_bwd_finite := hPre_conv_bc_bwd_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranchSsm (hAdamBranchSsm := hAdamBranchSsm)
    ∧ quiescent_AdamBranchSsmIdeal (hAdamBranchSsmIdeal := hAdamBranchSsmIdeal)
    ∧ quiescent_AdamBranchSsmRefIdeal (hAdamBranchSsmRefIdeal := hAdamBranchSsmRefIdeal)
    ∧ quiescent_AdamBranchAttn (hAdamBranchAttn := hAdamBranchAttn)
    ∧ quiescent_AdamBranchAttnIdeal (hAdamBranchAttnIdeal := hAdamBranchAttnIdeal)
    ∧ quiescent_AdamBranchAttnRefIdeal (hAdamBranchAttnRefIdeal := hAdamBranchAttnRefIdeal)
    ∧ quiescent_AdamMixOut (hAdamMixOut := hAdamMixOut)
    ∧ quiescent_AdamMixOutIdeal (hAdamMixOutIdeal := hAdamMixOutIdeal)
    ∧ quiescent_AdamMixOutRefIdeal (hAdamMixOutRefIdeal := hAdamMixOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSsmConv (hAdamSsmConv := hAdamSsmConv)
    ∧ quiescent_AdamSsmConvIdeal (hAdamSsmConvIdeal := hAdamSsmConvIdeal)
    ∧ quiescent_AdamSsmConvRefIdeal (hAdamSsmConvRefIdeal := hAdamSsmConvRefIdeal)
    ∧ quiescent_AdamFfnConv (hAdamFfnConv := hAdamFfnConv)
    ∧ quiescent_AdamFfnConvIdeal (hAdamFfnConvIdeal := hAdamFfnConvIdeal)
    ∧ quiescent_AdamFfnConvRefIdeal (hAdamFfnConvRefIdeal := hAdamFfnConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwDown_DwDownIdeal
    ∧ algebraic_DwDownIdeal_DwDownRefIdeal (hDwDownIdeal := hDwDownIdeal) (hDwDownRefIdeal := hDwDownRefIdeal)
    ∧ preserves_DAct_DActIdeal
    ∧ algebraic_DActIdeal_DActRefIdeal (hDActIdeal := hDActIdeal) (hDActRefIdeal := hDActRefIdeal)
    ∧ preserves_DwUp_DwUpIdeal
    ∧ algebraic_DwUpIdeal_DwUpRefIdeal (hDwUpIdeal := hDwUpIdeal) (hDwUpRefIdeal := hDwUpRefIdeal)
    ∧ preserves_DHid_DHidIdeal
    ∧ algebraic_DHidIdeal_DHidRefIdeal (hDHidIdeal := hDHidIdeal) (hDHidRefIdeal := hDHidRefIdeal)
    ∧ preserves_DwMix_DwMixIdeal
    ∧ algebraic_DwMixIdeal_DwMixRefIdeal (hDwMixIdeal := hDwMixIdeal) (hDwMixRefIdeal := hDwMixRefIdeal)
    ∧ preserves_DMerged_DMergedIdeal
    ∧ algebraic_DMergedIdeal_DMergedRefIdeal (hDMergedIdeal := hDMergedIdeal) (hDMergedRefIdeal := hDMergedRefIdeal)
    ∧ preserves_DwBs_DwBsIdeal
    ∧ algebraic_DwBsIdeal_DwBsRefIdeal (hDwBsIdeal := hDwBsIdeal) (hDwBsRefIdeal := hDwBsRefIdeal)
    ∧ preserves_DwBa_DwBaIdeal
    ∧ algebraic_DwBaIdeal_DwBaRefIdeal (hDwBaIdeal := hDwBaIdeal) (hDwBaRefIdeal := hDwBaRefIdeal)
    ∧ preserves_DYssm_DYssmIdeal
    ∧ algebraic_DYssmIdeal_DYssmRefIdeal (hDYssmIdeal := hDYssmIdeal) (hDYssmRefIdeal := hDYssmRefIdeal)
    ∧ preserves_DYattn_DYattnIdeal
    ∧ algebraic_DYattnIdeal_DYattnRefIdeal (hDYattnIdeal := hDYattnIdeal) (hDYattnRefIdeal := hDYattnRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Bs_BsIdeal
    ∧ algebraic_BsIdeal_BsRefIdeal (hBsIdeal := hBsIdeal) (hBsRefIdeal := hBsRefIdeal)
    ∧ preserves_Ba_BaIdeal
    ∧ algebraic_BaIdeal_BaRefIdeal (hBaIdeal := hBaIdeal) (hBaRefIdeal := hBaRefIdeal)
    ∧ preserves_Mix_MixIdeal
    ∧ algebraic_MixIdeal_MixRefIdeal (hMixIdeal := hMixIdeal) (hMixRefIdeal := hMixRefIdeal)
    ∧ preserves_InTail_InTailIdeal
    ∧ algebraic_InTailIdeal_InTailRefIdeal (hInTailIdeal := hInTailIdeal) (hInTailRefIdeal := hInTailRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_LnBwd_LnBwdIdeal
    ∧ algebraic_LnBwdIdeal_LnBwdRefIdeal_pre_ln1_bwd_finite (hLnBwdIdeal := hLnBwdIdeal) (hLnBwdRefIdeal := hLnBwdRefIdeal) (hPre_ln1_bwd_finite := hPre_ln1_bwd_finite)
    ∧ preserves_LnLoss_LnLossIdeal
    ∧ algebraic_LnLossIdeal_LnLossRefIdeal_pre_ln2_loss_finite (hLnLossIdeal := hLnLossIdeal) (hLnLossRefIdeal := hLnLossRefIdeal) (hPre_ln2_loss_finite := hPre_ln2_loss_finite)
    ∧ preserves_ConvXs_ConvXsIdeal
    ∧ algebraic_ConvXsIdeal_ConvXsRefIdeal_pre_conv_xs_bwd_finite (hConvXsIdeal := hConvXsIdeal) (hConvXsRefIdeal := hConvXsRefIdeal) (hPre_conv_xs_bwd_finite := hPre_conv_xs_bwd_finite)
    ∧ preserves_ConvBc_ConvBcIdeal
    ∧ algebraic_ConvBcIdeal_ConvBcRefIdeal_pre_conv_bc_bwd_finite (hConvBcIdeal := hConvBcIdeal) (hConvBcRefIdeal := hConvBcRefIdeal) (hPre_conv_bc_bwd_finite := hPre_conv_bc_bwd_finite)
    ∧ preserves_AdamIn_AdamInIdeal
    ∧ algebraic_AdamInIdeal_AdamInRefIdeal (hAdamInIdeal := hAdamInIdeal) (hAdamInRefIdeal := hAdamInRefIdeal)
    ∧ preserves_AdamBranchSsm_AdamBranchSsmIdeal
    ∧ algebraic_AdamBranchSsmIdeal_AdamBranchSsmRefIdeal (hAdamBranchSsmIdeal := hAdamBranchSsmIdeal) (hAdamBranchSsmRefIdeal := hAdamBranchSsmRefIdeal)
    ∧ preserves_AdamBranchAttn_AdamBranchAttnIdeal
    ∧ algebraic_AdamBranchAttnIdeal_AdamBranchAttnRefIdeal (hAdamBranchAttnIdeal := hAdamBranchAttnIdeal) (hAdamBranchAttnRefIdeal := hAdamBranchAttnRefIdeal)
    ∧ preserves_AdamMixOut_AdamMixOutIdeal
    ∧ algebraic_AdamMixOutIdeal_AdamMixOutRefIdeal (hAdamMixOutIdeal := hAdamMixOutIdeal) (hAdamMixOutRefIdeal := hAdamMixOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSsmConv_AdamSsmConvIdeal
    ∧ algebraic_AdamSsmConvIdeal_AdamSsmConvRefIdeal (hAdamSsmConvIdeal := hAdamSsmConvIdeal) (hAdamSsmConvRefIdeal := hAdamSsmConvRefIdeal)
    ∧ preserves_AdamFfnConv_AdamFfnConvIdeal
    ∧ algebraic_AdamFfnConvIdeal_AdamFfnConvRefIdeal (hAdamFfnConvIdeal := hAdamFfnConvIdeal) (hAdamFfnConvRefIdeal := hAdamFfnConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_conv_bc_bwd_finite.lean ====
abbrev S16384x8192 : Shape := ⟨2, ![16384, 8192]⟩
abbrev S4x3072 : Shape := ⟨2, ![4, 3072]⟩
abbrev S1x3072 : Shape := ⟨2, ![1, 3072]⟩
abbrev S16384x1024 : Shape := ⟨2, ![16384, 1024]⟩
abbrev S16384x8704 : Shape := ⟨2, ![16384, 8704]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S4x3072 : S_.BroadcastsInDim S4x3072 (![] : Fin 0 → Fin S4x3072.rank)
  reducesTo_S4x3072_S_d0_1 : S4x3072.ReducesTo [0, 1] S_
  bcast_S_S1x3072 : S_.BroadcastsInDim S1x3072 (![] : Fin 0 → Fin S1x3072.rank)
  reducesTo_S1x3072_S_d0_1 : S1x3072.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v14 : IVec S_ 1) (main_v15 : FVec F S16384x1024 .f32) (main_v16 : FVec F S16384x1024 .f32) : IVec S_ 1 :=
  let main_v17 : IVec S16384x1024 1 := cmpf .olt main_v15 main_v16
  let main_c_5 : IVec S_ 1 := constantI S_ 1 1#1
  let main_v18 : IVec S_ 1 := (fun x v => Host.reduce IntOp.andi x v reducesTo_S16384x1024_S_d0_1 h_S_) main_v17 main_c_5
  let main_v19 : IVec S_ 1 := andi main_v14 main_v18
  main_v19

def fn {F : FTy → Type} [FloatOps F] (main_arg0 : FVec F S16384x8192 .bf16) (main_arg1 : FVec F S4x3072 .f32) (main_arg2 : FVec F S1x3072 .f32) (main_arg3 : FVec F S16384x1024 .f32) (main_arg4 : FVec F S16384x8704 .bf16) : IVec S_ 1 :=
  let main_v0 : FVec F S16384x8192 .f32 := (extf .f32 · bitsLt_bf16_f32) main_arg0
  let main_v1 : FVec F S16384x8192 .f32 := Host.absf main_v0
  let main_cst : FVec F S_ .f32 := constant S_ .f32 0x7F800000#32
  let main_v2 : FVec F S16384x8192 .f32 := broadcastInDim S16384x8192 ![] bcast_S_S16384x8192 main_cst
  let main_v3 : IVec S16384x8192 1 := cmpf .olt main_v1 main_v2
  let main_c : IVec S_ 1 := constantI S_ 1 1#1
  let main_v4 : IVec S_ 1 := (fun x v => Host.reduce IntOp.andi x v reducesTo_S16384x8192_S_d0_1 h_S_) main_v3 main_c
  let main_v5 : FVec F S4x3072 .f32 := Host.absf main_arg1
  let main_cst_0 : FVec F S_ .f32 := constant S_ .f32 0x7F800000#32
  let main_v6 : FVec F S4x3072 .f32 := broadcastInDim S4x3072 ![] bcast_S_S4x3072 main_cst_0
  let main_v7 : IVec S4x3072 1 := cmpf .olt main_v5 main_v6
  let main_c_1 : IVec S_ 1 := constantI S_ 1 1#1
  let main_v8 : IVec S_ 1 := (fun x v => Host.reduce IntOp.andi x v reducesTo_S4x3072_S_d0_1 h_S_) main_v7 main_c_1
  let main_v9 : IVec S_ 1 := andi main_v4 main_v8
  let main_v10 : FVec F S1x3072 .f32 := Host.absf main_arg2
  let main_cst_2 : FVec F S_ .f32 := constant S_ .f32 0x7F800000#32
  let main_v11 : FVec F S1x3072 .f32 := broadcastInDim S1x3072 ![] bcast_S_S1x3072 main_cst_2
  let main_v12 : IVec S1x3072 1 := cmpf .olt main_v10 main_v11
  let main_c_3 : IVec S_ 1 := constantI S_ 1 1#1
  let main_v13 : IVec S_ 1 := (fun x v => Host.reduce IntOp.andi x v reducesTo_S1x3072_S_d0_1 h_S_) main_v12 main_c_3
  let main_v14 : IVec S_ 1 := andi main_v9 main_v13
  let main_v15 : FVec F S16384x1024 .f32 := Host.absf main_arg3
  let main_cst_4 : FVec F S_ .f32 := constant S_ .f32 0x7F800000#32
  let main_v16 : FVec F S16384x1024 .f32 := broadcastInDim S16384x1024 ![] bcast_S_S16384x1024 main_cst_4
  fn_part1 (F := F) main_v14 main_v15 main_v16
-- ==== Pre_conv_xs_bwd_finite.lean ====
abbrev S16384x8192 : Shape := ⟨2, ![16384, 8192]⟩
abbrev S4x3072 : Shape := ⟨2, ![4, 3072]⟩
abbrev S1x3072 : Shape := ⟨2, ![1, 3072]⟩
abbrev S16384x2048 : Shape := ⟨2, ![16384, 2048]⟩
abbrev S16384x8704 : Shape := ⟨2, ![16384, 8704]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S4x3072 : S_.BroadcastsInDim S4x3072 (![] : Fin 0 → Fin S4x3072.rank)
  reducesTo_S4x3072_S_d0_1 : S4x3072.ReducesTo [0, 1] S_
  bcast_S_S1x3072 : S_.BroadcastsInDim S1x3072 (![] : Fin 0 → Fin S1x3072.rank)
  reducesTo_S1x3072_S_d0_1 : S1x3072.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_v14 : IVec S_ 1) (main_v15 : FVec F S16384x2048 .f32) (main_v16 : FVec F S16384x2048 .f32) : IVec S_ 1 :=
  let main_v17 : IVec S16384x2048 1 := cmpf .olt main_v15 main_v16
  let main_c_5 : IVec S_ 1 := constantI S_ 1 1#1
  let main_v18 : IVec S_ 1 := (fun x v => Host.reduce IntOp.andi x v reducesTo_S16384x2048_S_d0_1 h_S_) main_v17 main_c_5
  let main_v19 : IVec S_ 1 := andi main_v14 main_v18
  main_v19

def fn {F : FTy → Type} [FloatOps F] (main_arg0 : FVec F S16384x8192 .bf16) (main_arg1 : FVec F S4x3072 .f32) (main_arg2 : FVec F S1x3072 .f32) (main_arg3 : FVec F S16384x2048 .f32) (main_arg4 : FVec F S16384x8704 .bf16) : IVec S_ 1 :=
  let main_v0 : FVec F S16384x8192 .f32 := (extf .f32 · bitsLt_bf16_f32) main_arg0
  let main_v1 : FVec F S16384x8192 .f32 := Host.absf main_v0
  let main_cst : FVec F S_ .f32 := constant S_ .f32 0x7F800000#32
  let main_v2 : FVec F S16384x8192 .f32 := broadcastInDim S16384x8192 ![] bcast_S_S16384x8192 main_cst
  let main_v3 : IVec S16384x8192 1 := cmpf .olt main_v1 main_v2
  let main_c : IVec S_ 1 := constantI S_ 1 1#1
  let main_v4 : IVec S_ 1 := (fun x v => Host.reduce IntOp.andi x v reducesTo_S16384x8192_S_d0_1 h_S_) main_v3 main_c
  let main_v5 : FVec F S4x3072 .f32 := Host.absf main_arg1
  let main_cst_0 : FVec F S_ .f32 := constant S_ .f32 0x7F800000#32
  let main_v6 : FVec F S4x3072 .f32 := broadcastInDim S4x3072 ![] bcast_S_S4x3072 main_cst_0
  let main_v7 : IVec S4x3072 1 := cmpf .olt main_v5 main_v6
  let main_c_1 : IVec S_ 1 := constantI S_ 1 1#1
  let main_v8 : IVec S_ 1 := (fun x v => Host.reduce IntOp.andi x v reducesTo_S4x3072_S_d0_1 h_S_) main_v7 main_c_1
  let main_v9 : IVec S_ 1 := andi main_v4 main_v8
  let main_v10 : FVec F S1x3072 .f32 := Host.absf main_arg2
  let main_cst_2 : FVec F S_ .f32 := constant S_ .f32 0x7F800000#32
  let main_v11 : FVec F S1x3072 .f32 := broadcastInDim S1x3072 ![] bcast_S_S1x3072 main_cst_2
  let main_v12 : IVec S1x3072 1 := cmpf .olt main_v10 main_v11
  let main_c_3 : IVec S_ 1 := constantI S_ 1 1#1
  let main_v13 : IVec S_ 1 := (fun x v => Host.reduce IntOp.andi x v reducesTo_S1x3072_S_d0_1 h_S_) main_v12 main_c_3
  let main_v14 : IVec S_ 1 := andi main_v9 main_v13
  let main_v15 : FVec F S16384x2048 .f32 := Host.absf main_arg3
  let main_cst_4 : FVec F S_ .f32 := constant S_ .f32 0x7F800000#32
  let main_v16 : FVec F S16384x2048 .f32 := broadcastInDim S16384x2048 ![] bcast_S_S16384x2048 main_cst_4
  fn_part1 (F := F) main_v14 main_v15 main_v16
-- ==== Pre_finite.lean ====
abbrev S16384x5632 : Shape := ⟨2, ![16384, 5632]⟩
abbrev S3x5632 : Shape := ⟨2, ![3, 5632]⟩
abbrev S1x5632 : Shape := ⟨2, ![1, 5632]⟩
abbrev S16384x2816 : Shape := ⟨2, ![16384, 2816]⟩
abbrev S_ : Shape := ⟨0, ![]⟩

class Facts : Prop where
  bitsLt_bf16_f32 : FTy.bits .bf16 < FTy.bits .f32
  bcast_S_S16384x5632 : S_.BroadcastsInDim S16384x5632 (![] : Fin 0 → Fin S16384x5632.rank)
  reducesTo_S16384x5632_S_d0_1 : S16384x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part1 {F : FTy → Type} [FloatOps F] (main_v14 : IVec S_ 1) (main_v16 : FVec F S16384x2816 .f32) (main_cst_4 : FVec F S_ .f32) : IVec S_ 1 :=
  let main_v17 : FVec F S16384x2816 .f32 := broadcastInDim S16384x2816 ![] bcast_S_S16384x2816 main_cst_4
  let main_v18 : IVec S16384x2816 1 := cmpf .olt main_v16 main_v17
  let main_c_5 : IVec S_ 1 := constantI S_ 1 1#1
  let main_v19 : IVec S_ 1 := (fun x v => Host.reduce IntOp.andi x v reducesTo_S16384x2816_S_d0_1 h_S_) main_v18 main_c_5
  let main_v20 : IVec S_ 1 := andi main_v14 main_v19
  main_v20

def fn {F : FTy → Type} [FloatOps F] (main_arg0 : FVec F S16384x5632 .bf16) (main_arg1 : FVec F S3x5632 .f32) (main_arg2 : FVec F S1x5632 .f32) (main_arg3 : FVec F S16384x2816 .bf16) : IVec S_ 1 :=
  let main_v0 : FVec F S16384x5632 .f32 := (extf .f32 · bitsLt_bf16_f32) main_arg0
  let main_v1 : FVec F S16384x5632 .f32 := Host.absf main_v0
  let main_cst : FVec F S_ .f32 := constant S_ .f32 0x7F800000#32
  let main_v2 : FVec F S16384x5632 .f32 := broadcastInDim S16384x5632 ![] bcast_S_S16384x5632 main_cst
  let main_v3 : IVec S16384x5632 1 := cmpf .olt main_v1 main_v2
  let main_c : IVec S_ 1 := constantI S_ 1 1#1
  let main_v4 : IVec S_ 1 := (fun x v => Host.reduce IntOp.andi x v reducesTo_S16384x5632_S_d0_1 h_S_) main_v3 main_c
  let main_v5 : FVec F S3x5632 .f32 := Host.absf main_arg1
  let main_cst_0 : FVec F S_ .f32 := constant S_ .f32 0x7F800000#32
  let main_v6 : FVec F S3x5632 .f32 := broadcastInDim S3x5632 ![] bcast_S_S3x5632 main_cst_0
  let main_v7 : IVec S3x5632 1 := cmpf .olt main_v5 main_v6
  let main_c_1 : IVec S_ 1 := constantI S_ 1 1#1
  let main_v8 : IVec S_ 1 := (fun x v => Host.reduce IntOp.andi x v reducesTo_S3x5632_S_d0_1 h_S_) main_v7 main_c_1
  let main_v9 : IVec S_ 1 := andi main_v4 main_v8
  let main_v10 : FVec F S1x5632 .f32 := Host.absf main_arg2
  let main_cst_2 : FVec F S_ .f32 := constant S_ .f32 0x7F800000#32
  let main_v11 : FVec F S1x5632 .f32 := broadcastInDim S1x5632 ![] bcast_S_S1x5632 main_cst_2
  let main_v12 : IVec S1x5632 1 := cmpf .olt main_v10 main_v11
  let main_c_3 : IVec S_ 1 := constantI S_ 1 1#1
  let main_v13 : IVec S_ 1 := (fun x v => Host.reduce IntOp.andi x v reducesTo_S1x5632_S_d0_1 h_S_) main_v12 main_c_3
  let main_v14 : IVec S_ 1 := andi main_v9 main_v13
  let main_v15 : FVec F S16384x2816 .f32 := (extf .f32 · bitsLt_bf16_f32) main_arg3
  let main_v16 : FVec F S16384x2816 .f32 := Host.absf main_v15
  let main_cst_4 : FVec F S_ .f32 := constant S_ .f32 0x7F800000#32
  fn_part1 (F := F) main_v14 main_v16 main_cst_4
-- ==== Pre_ln1_bwd_finite.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v14 : IVec S_ 1) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : IVec S_ 1 := andi main_v14 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S16384x1024 .f32) (main_arg1 : FVec F S16384x1024 .bf16) (main_arg2 : FVec F S16384x1024 .f32) (main_arg3 : FVec F S16384x1024 .bf16) (main_arg4 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v3 main_v8
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : IVec S_ 1 := andi main_v9 main_v13
  let main_v15 : FVec F S16384x1024 .f32 := (extf .f32 · bitsLt_bf16_f32) main_arg3
  let main_v16 : FVec F S16384x1024 .f32 := Host.absf main_v15
  let main_cst_4 : FVec F S_ .f32 := constant S_ .f32 0x7F800000#32
  fn_part1 (F := F) main_arg4 main_v14 main_v16 main_cst_4
-- ==== Pre_ln2_loss_finite.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S1x1024 .f32) (main_arg5 : FVec F S1x1024 .f32) (main_arg6 : FVec F S1x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_v29 main_v33

def fn {F : FTy → Type} [FloatOps F] (main_arg0 : FVec F S16384x1024 .f32) (main_arg1 : FVec F S16384x1024 .bf16) (main_arg2 : FVec F S16384x1024 .f32) (main_arg3 : FVec F S1x1024 .f32) (main_arg4 : FVec F S1x1024 .f32) (main_arg5 : FVec F S1x1024 .f32) (main_arg6 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v3 main_v8
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_arg5 main_arg6 main_v14 main_v15 main_v16
-- ==== Kernel.lean ====
abbrev S16384x5632 : Shape := ⟨2, ![16384, 5632]⟩
abbrev S3x5632 : Shape := ⟨2, ![3, 5632]⟩
abbrev S1x5632 : Shape := ⟨2, ![1, 5632]⟩
abbrev S16384x2816 : Shape := ⟨2, ![16384, 2816]⟩
abbrev S5632 : Shape := ⟨1, ![5632]⟩
abbrev S_ : Shape := ⟨0, ![]⟩
abbrev S2x5632 : Shape := ⟨2, ![2, 5632]⟩
abbrev S16386x5632 : Shape := ⟨2, ![16386, 5632]⟩
abbrev S5x5632 : Shape := ⟨2, ![5, 5632]⟩
abbrev S8x5632 : Shape := ⟨2, ![8, 5632]⟩
abbrev S256x2816 : Shape := ⟨2, ![256, 2816]⟩
abbrev S16x2816 : Shape := ⟨2, ![16, 2816]⟩
abbrev S8x2816 : Shape := ⟨2, ![8, 2816]⟩
abbrev S256x5632 : Shape := ⟨2, ![256, 5632]⟩
abbrev S8x256 : Shape := ⟨2, ![8, 256]⟩
abbrev S1x2816 : Shape := ⟨2, ![1, 2816]⟩
abbrev S8x1 : Shape := ⟨2, ![8, 1]⟩
abbrev S248x2816 : Shape := ⟨2, ![248, 2816]⟩

abbrev nBuf : Space → Nat
  | .hbm => 41
  | .vmem => 21
  | .smem => 0
  | _ => 0

abbrev bufTy : (tb : Table) → Fin (tcTables nBuf tb) → BufTy
  | .hbm, ⟨0, _⟩ => ⟨S16384x5632, .bf16⟩
  | .hbm, ⟨1, _⟩ => ⟨S3x5632, .f32⟩
  | .hbm, ⟨2, _⟩ => ⟨S1x5632, .f32⟩
  | .hbm, ⟨3, _⟩ => ⟨S16384x2816, .bf16⟩
  | .hbm, ⟨4, _⟩ => ⟨S16384x5632, .f32⟩
  | .hbm, ⟨5, _⟩ => ⟨S5632, .f32⟩
  | .hbm, ⟨6, _⟩ => ⟨S_, .f32⟩
  | .hbm, ⟨7, _⟩ => ⟨S2x5632, .f32⟩
  | .hbm, ⟨8, _⟩ => ⟨S16386x5632, .f32⟩
  | .hbm, ⟨9, _⟩ => ⟨S1x5632, .f32⟩
  | .hbm, ⟨10, _⟩ => ⟨S5632, .f32⟩
  | .hbm, ⟨11, _⟩ => ⟨S16384x5632, .f32⟩
  | .hbm, ⟨12, _⟩ => ⟨S1x5632, .f32⟩
  | .hbm, ⟨13, _⟩ => ⟨S16384x5632, .f32⟩
  | .hbm, ⟨14, _⟩ => ⟨S16384x5632, .f32⟩
  | .hbm, ⟨15, _⟩ => ⟨S_, .f32⟩
  | .hbm, ⟨16, _⟩ => ⟨S16384x5632, .f32⟩
  | .hbm, ⟨17, _⟩ => ⟨S16384x5632, .f32⟩
  | .hbm, ⟨18, _⟩ => ⟨S1x5632, .f32⟩
  | .hbm, ⟨19, _⟩ => ⟨S5632, .f32⟩
  | .hbm, ⟨20, _⟩ => ⟨S16384x5632, .f32⟩
  | .hbm, ⟨21, _⟩ => ⟨S1x5632, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S1x5632, .f32⟩
  | .hbm, ⟨26, _⟩ => ⟨S5632, .f32⟩
  | .hbm, ⟨27, _⟩ => ⟨S16384x5632, .f32⟩
  | .hbm, ⟨28, _⟩ => ⟨S1x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S1x5632, .f32⟩
  | .hbm, ⟨33, _⟩ => ⟨S16384x5632, .f32⟩
  | .hbm, ⟨34, _⟩ => ⟨S16384x5632, .f32⟩
  | .hbm, ⟨35, _⟩ => ⟨S16384x5632, .bf16⟩
  | .hbm, ⟨36, _⟩ => ⟨S_, .f32⟩
  | .hbm, ⟨37, _⟩ => ⟨S5x5632, .f32⟩
  | .hbm, ⟨38, _⟩ => ⟨S8x5632, .f32⟩
  | .hbm, ⟨39, _⟩ => ⟨S16384x5632, .bf16⟩
  | .hbm, ⟨40, _⟩ => ⟨S8x5632, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S16x2816, .bf16⟩
  | .local _ .vmem, ⟨7, _⟩ => ⟨S16x2816, .bf16⟩
  | .local _ .vmem, ⟨8, _⟩ => ⟨S256x2816, .bf16⟩
  | .local _ .vmem, ⟨9, _⟩ => ⟨S256x2816, .bf16⟩
  | .local _ .vmem, ⟨10, _⟩ => ⟨S16x2816, .bf16⟩
  | .local _ .vmem, ⟨11, _⟩ => ⟨S16x2816, .bf16⟩
  | .local _ .vmem, ⟨12, _⟩ => ⟨S8x2816, .f32⟩
  | .local _ .vmem, ⟨13, _⟩ => ⟨S8x2816, .f32⟩
  | .local _ .vmem, ⟨14, _⟩ => ⟨S256x2816, .bf16⟩
  | .local _ .vmem, ⟨15, _⟩ => ⟨S256x2816, .bf16⟩
  | .local _ .vmem, ⟨16, _⟩ => ⟨S16x2816, .bf16⟩
  | .local _ .vmem, ⟨17, _⟩ => ⟨S16x2816, .bf16⟩
  | .local _ .vmem, ⟨18, _⟩ => ⟨S256x5632, .bf16⟩
  | .local _ .vmem, ⟨19, _⟩ => ⟨S256x5632, .bf16⟩
  | .local _ .vmem, ⟨20, _⟩ => ⟨S8x5632, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x5632 : Shape := ⟨2, ![16384, 5632]⟩
abbrev S3x5632 : Shape := ⟨2, ![3, 5632]⟩
abbrev S1x5632 : Shape := ⟨2, ![1, 5632]⟩
abbrev S16384x2816 : Shape := ⟨2, ![16384, 2816]⟩
abbrev S5632 : Shape := ⟨1, ![5632]⟩
abbrev S_ : Shape := ⟨0, ![]⟩
abbrev S2x5632 : Shape := ⟨2, ![2, 5632]⟩
abbrev S16386x5632 : Shape := ⟨2, ![16386, 5632]⟩
abbrev S4x5632 : Shape := ⟨2, ![4, 5632]⟩
abbrev S8x5632 : Shape := ⟨2, ![8, 5632]⟩

abbrev nBuf : Space → Nat
  | .hbm => 116
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S3x5632, .f32⟩
  | .hbm, ⟨2, _⟩ => ⟨S1x5632, .f32⟩
  | .hbm, ⟨3, _⟩ => ⟨S16384x2816, .bf16⟩
  | .hbm, ⟨4, _⟩ => ⟨S16384x5632, .f32⟩
  | .hbm, ⟨5, _⟩ => ⟨S5632, .f32⟩
  | .hbm, ⟨6, _⟩ => ⟨S_, .f32⟩
  | .hbm, ⟨7, _⟩ => ⟨S2x5632, .f32⟩
  | .hbm, ⟨8, _⟩ => ⟨S16386x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S5632, .f32⟩
  | .hbm, ⟨13, _⟩ => ⟨S16384x5632, .f32⟩
  | .hbm, ⟨14, _⟩ => ⟨S1x5632, .f32⟩
  | .hbm, ⟨15, _⟩ => ⟨S16384x5632, .f32⟩
  | .hbm, ⟨16, _⟩ => ⟨S16384x5632, .f32⟩
  | .hbm, ⟨17, _⟩ => ⟨S_, .f32⟩
  | .hbm, ⟨18, _⟩ => ⟨S16384x5632, .f32⟩
  | .hbm, ⟨19, _⟩ => ⟨S16384x5632, .f32⟩
  | .hbm, ⟨20, _⟩ => ⟨S1x5632, .f32⟩
  | .hbm, ⟨21, _⟩ => ⟨S5632, .f32⟩
  | .hbm, ⟨22, _⟩ => ⟨S16384x5632, .f32⟩
  | .hbm, ⟨23, _⟩ => ⟨S1x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S1x5632, .f32⟩
  | .hbm, ⟨28, _⟩ => ⟨S5632, .f32⟩
  | .hbm, ⟨29, _⟩ => ⟨S16384x5632, .f32⟩
  | .hbm, ⟨30, _⟩ => ⟨S1x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x5632, .f32⟩
  | .hbm, ⟨35, _⟩ => ⟨S16384x5632, .f32⟩
  | .hbm, ⟨36, _⟩ => ⟨S16384x5632, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S_, .f32⟩
  | .hbm, ⟨65, _⟩ => ⟨S5632, .f32⟩
  | .hbm, ⟨66, _⟩ => ⟨S16384x5632, .f32⟩
  | .hbm, ⟨67, _⟩ => ⟨S16384x5632, .f32⟩
  | .hbm, ⟨68, _⟩ => ⟨S16384x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S5632, .f32⟩
  | .hbm, ⟨74, _⟩ => ⟨S_, .f32⟩
  | .hbm, ⟨75, _⟩ => ⟨S16386x5632, .f32⟩
  | .hbm, ⟨76, _⟩ => ⟨S1x5632, .f32⟩
  | .hbm, ⟨77, _⟩ => ⟨S_, .f32⟩
  | .hbm, ⟨78, _⟩ => ⟨S3x5632, .f32⟩
  | .hbm, ⟨79, _⟩ => ⟨S16384x5632, .f32⟩
  | .hbm, ⟨80, _⟩ => ⟨S16384x5632, .f32⟩
  | .hbm, ⟨81, _⟩ => ⟨S16384x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S5632, .f32⟩
  | .hbm, ⟨87, _⟩ => ⟨S_, .f32⟩
  | .hbm, ⟨88, _⟩ => ⟨S16386x5632, .f32⟩
  | .hbm, ⟨89, _⟩ => ⟨S16386x5632, .f32⟩
  | .hbm, ⟨90, _⟩ => ⟨S1x5632, .f32⟩
  | .hbm, ⟨91, _⟩ => ⟨S_, .f32⟩
  | .hbm, ⟨92, _⟩ => ⟨S3x5632, .f32⟩
  | .hbm, ⟨93, _⟩ => ⟨S3x5632, .f32⟩
  | .hbm, ⟨94, _⟩ => ⟨S16384x5632, .f32⟩
  | .hbm, ⟨95, _⟩ => ⟨S16384x5632, .f32⟩
  | .hbm, ⟨96, _⟩ => ⟨S16384x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S_, .f32⟩
  | .hbm, ⟨101, _⟩ => ⟨S5632, .f32⟩
  | .hbm, ⟨102, _⟩ => ⟨S_, .f32⟩
  | .hbm, ⟨103, _⟩ => ⟨S16386x5632, .f32⟩
  | .hbm, ⟨104, _⟩ => ⟨S16386x5632, .f32⟩
  | .hbm, ⟨105, _⟩ => ⟨S1x5632, .f32⟩
  | .hbm, ⟨106, _⟩ => ⟨S_, .f32⟩
  | .hbm, ⟨107, _⟩ => ⟨S3x5632, .f32⟩
  | .hbm, ⟨108, _⟩ => ⟨S3x5632, .f32⟩
  | .hbm, ⟨109, _⟩ => ⟨S2x5632, .f32⟩
  | .hbm, ⟨110, _⟩ => ⟨S16384x5632, .f32⟩
  | .hbm, ⟨111, _⟩ => ⟨S16384x5632, .bf16⟩
  | .hbm, ⟨112, _⟩ => ⟨S1x5632, .f32⟩
  | .hbm, ⟨113, _⟩ => ⟨S_, .f32⟩
  | .hbm, ⟨114, _⟩ => ⟨S4x5632, .f32⟩
  | .hbm, ⟨115, _⟩ => ⟨S8x5632, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v32_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v32_1 : Ref sig .tc := ⟨.hbm, 50, rfl⟩
abbrev main_v32_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== DwDown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S16384x2816, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DAct.lean ====
abbrev S2816x1024 : Shape := ⟨2, ![2816, 1024]⟩
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S16384x1024, .bf16⟩
  | .hbm, ⟨2, _⟩ => ⟨S1024x2816, .bf16⟩
  | .hbm, ⟨3, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S2816x1024 : Shape := ⟨2, ![2816, 1024]⟩
abbrev S16384x1024 : Shape := ⟨2, ![16384, 1024]⟩
abbrev S_ : Shape := ⟨0, ![]⟩
abbrev S16384x2816 : Shape := ⟨2, ![16384, 2816]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S16384x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S16384x2816, .f32⟩
  | .hbm, ⟨10, _⟩ => ⟨S16384x2816, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwUp.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DHid.lean ====
abbrev S1024x5632 : Shape := ⟨2, ![1024, 5632]⟩
abbrev S16384x5632 : Shape := ⟨2, ![16384, 5632]⟩
abbrev S5632x1024 : Shape := ⟨2, ![5632, 1024]⟩
abbrev S16384x1024 : Shape := ⟨2, ![16384, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S16384x5632, .bf16⟩
  | .hbm, ⟨2, _⟩ => ⟨S5632x1024, .bf16⟩
  | .hbm, ⟨3, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHidRefIdeal.lean ====
abbrev S1024x5632 : Shape := ⟨2, ![1024, 5632]⟩
abbrev S16384x5632 : Shape := ⟨2, ![16384, 5632]⟩
abbrev S_ : Shape := ⟨0, ![]⟩
abbrev S16384x1024 : Shape := ⟨2, ![16384, 1024]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S16384x5632, .bf16⟩
  | .hbm, ⟨2, _⟩ => ⟨S_, .f32⟩
  | .hbm, ⟨3, _⟩ => ⟨S16384x1024, .f32⟩
  | .hbm, ⟨4, _⟩ => ⟨S1024x5632, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S16384x1024, .f32⟩
  | .hbm, ⟨10, _⟩ => ⟨S16384x1024, .bf16⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwMix.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwMixRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMerged.lean ====
abbrev S1024x1024 : Shape := ⟨2, ![1024, 1024]⟩
abbrev S16384x1024 : Shape := ⟨2, ![16384, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S1024x1024, .bf16⟩
  | .hbm, ⟨3, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S1024x1024 : Shape := ⟨2, ![1024, 1024]⟩
abbrev S16384x1024 : Shape := ⟨2, ![16384, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S16384x1024, .f32⟩
  | .hbm, ⟨10, _⟩ => ⟨S16384x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBs.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBsRefIdeal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwBa.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBaRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DYssm.lean ====
abbrev S2048x1024 : Shape := ⟨2, ![2048, 1024]⟩
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S16384x1024, .bf16⟩
  | .hbm, ⟨2, _⟩ => ⟨S1024x2048, .bf16⟩
  | .hbm, ⟨3, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYssmRefIdeal.lean ====
abbrev S2048x1024 : Shape := ⟨2, ![2048, 1024]⟩
abbrev S16384x1024 : Shape := ⟨2, ![16384, 1024]⟩
abbrev S_ : Shape := ⟨0, ![]⟩
abbrev S16384x2048 : Shape := ⟨2, ![16384, 2048]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S16384x1024, .bf16⟩
  | .hbm, ⟨2, _⟩ => ⟨S_, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S16384x2048, .f32⟩
  | .hbm, ⟨10, _⟩ => ⟨S16384x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DYattn.lean ====
abbrev S1024x1024 : Shape := ⟨2, ![1024, 1024]⟩
abbrev S16384x1024 : Shape := ⟨2, ![16384, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S1024x1024, .bf16⟩
  | .hbm, ⟨3, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYattnRefIdeal.lean ====
abbrev S1024x1024 : Shape := ⟨2, ![1024, 1024]⟩
abbrev S16384x1024 : Shape := ⟨2, ![16384, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S16384x1024, .f32⟩
  | .hbm, ⟨10, _⟩ => ⟨S16384x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x2816, .f32⟩
  | .hbm, ⟨3, _⟩ => ⟨S2816x1024, .f32⟩
  | .hbm, ⟨4, _⟩ => ⟨S16384x1024, .f32⟩
  | .hbm, ⟨5, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Bs.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BsRefIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x2048, .f32⟩
  | .hbm, ⟨3, _⟩ => ⟨S2048x1024, .f32⟩
  | .hbm, ⟨4, _⟩ => ⟨S16384x1024, .f32⟩
  | .hbm, ⟨5, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ba.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BaRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mix.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InTail.lean ====
abbrev S16384x1024 : Shape := ⟨2, ![16384, 1024]⟩
abbrev S1024x512 : Shape := ⟨2, ![1024, 512]⟩
abbrev S16384x512 : Shape := ⟨2, ![16384, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x512, .bf16⟩
  | .hbm, ⟨2, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InTailRefIdeal.lean ====
abbrev S16384x1024 : Shape := ⟨2, ![16384, 1024]⟩
abbrev S1024x512 : Shape := ⟨2, ![1024, 512]⟩
abbrev S16384x512 : Shape := ⟨2, ![16384, 512]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x512, .bf16⟩
  | .hbm, ⟨2, _⟩ => ⟨S16384x1024, .f32⟩
  | .hbm, ⟨3, _⟩ => ⟨S1024x512, .f32⟩
  | .hbm, ⟨4, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeBwd.lean ====
abbrev S16384x1024 : Shape := ⟨2, ![16384, 1024]⟩
abbrev S16384x8192 : Shape := ⟨2, ![16384, 8192]⟩
abbrev S1x2048 : Shape := ⟨2, ![1, 2048]⟩
abbrev S_ : Shape := ⟨0, ![]⟩
abbrev S7x2048 : Shape := ⟨2, ![7, 2048]⟩
abbrev S8x2048 : Shape := ⟨2, ![8, 2048]⟩
abbrev S16384x8704 : Shape := ⟨2, ![16384, 8704]⟩
abbrev S512x1024 : Shape := ⟨2, ![512, 1024]⟩
abbrev S8x1024 : Shape := ⟨2, ![8, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x8192, .bf16⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S8x2048, .f32⟩
  | .hbm, ⟨8, _⟩ => ⟨S16384x1024, .bf16⟩
  | .hbm, ⟨9, _⟩ => ⟨S16384x1024, .bf16⟩
  | .hbm, ⟨10, _⟩ => ⟨S16384x8704, .bf16⟩
  | .hbm, ⟨11, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S8x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeBwdRefIdeal.lean ====
abbrev S16384x1024 : Shape := ⟨2, ![16384, 1024]⟩
abbrev S16384x8192 : Shape := ⟨2, ![16384, 8192]⟩
abbrev S1x2048 : Shape := ⟨2, ![1, 2048]⟩
abbrev S16384x2048 : Shape := ⟨2, ![16384, 2048]⟩
abbrev S2048 : Shape := ⟨1, ![2048]⟩
abbrev S_ : Shape := ⟨0, ![]⟩
abbrev S7x2048 : Shape := ⟨2, ![7, 2048]⟩
abbrev S8x2048 : Shape := ⟨2, ![8, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x8192, .bf16⟩
  | .hbm, ⟨4, _⟩ => ⟨S1x2048, .f32⟩
  | .hbm, ⟨5, _⟩ => ⟨S16384x2048, .bf16⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S_, .f32⟩
  | .hbm, ⟨41, _⟩ => ⟨S2048, .f32⟩
  | .hbm, ⟨42, _⟩ => ⟨S16384x1024, .bf16⟩
  | .hbm, ⟨43, _⟩ => ⟨S16384x1024, .bf16⟩
  | .hbm, ⟨44, _⟩ => ⟨S1x2048, .f32⟩
  | .hbm, ⟨45, _⟩ => ⟨S_, .f32⟩
  | .hbm, ⟨46, _⟩ => ⟨S7x2048, .f32⟩
  | .hbm, ⟨47, _⟩ => ⟨S8x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== LnBwd.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S7x1024 : Shape := ⟨2, ![7, 1024]⟩
abbrev S8x1024 : Shape := ⟨2, ![8, 1024]⟩
abbrev S512x1024 : Shape := ⟨2, ![512, 1024]⟩
abbrev S512x1 : Shape := ⟨2, ![512, 1]⟩
abbrev S1024 : Shape := ⟨1, ![1024]⟩
abbrev S512 : Shape := ⟨1, ![512]⟩

abbrev nBuf : Space → Nat
  | .hbm => 37
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S16384x1024, .bf16⟩
  | .hbm, ⟨4, _⟩ => ⟨S1x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S7x1024, .f32⟩
  | .hbm, ⟨33, _⟩ => ⟨S8x1024, .f32⟩
  | .hbm, ⟨34, _⟩ => ⟨S16384x1024, .f32⟩
  | .hbm, ⟨35, _⟩ => ⟨S16384x1024, .bf16⟩
  | .hbm, ⟨36, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S16384x1024 : Shape := ⟨2, ![16384, 1024]⟩
abbrev S1x1024 : Shape := ⟨2, ![1, 1024]⟩
abbrev S_ : Shape := ⟨0, ![]⟩
abbrev S1024 : Shape := ⟨1, ![1024]⟩
abbrev S16384 : Shape := ⟨1, ![16384]⟩
abbrev S16384x1 : Shape := ⟨2, ![16384, 1]⟩
abbrev S6x1024 : Shape := ⟨2, ![6, 1024]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S16384x1024, .bf16⟩
  | .hbm, ⟨4, _⟩ => ⟨S1x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384, .f32⟩
  | .hbm, ⟨88, _⟩ => ⟨S16384x1024, .f32⟩
  | .hbm, ⟨89, _⟩ => ⟨S16384x1024, .f32⟩
  | .hbm, ⟨90, _⟩ => ⟨S16384x1024, .bf16⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S6x1024, .f32⟩
  | .hbm, ⟨95, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== LnLoss.lean ====
abbrev S16384x1024 : Shape := ⟨2, ![16384, 1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S7x1024, .f32⟩
  | .hbm, ⟨9, _⟩ => ⟨S8x1024, .f32⟩
  | .hbm, ⟨10, _⟩ => ⟨S_, .f32⟩
  | .hbm, ⟨11, _⟩ => ⟨S7x1024, .f32⟩
  | .hbm, ⟨12, _⟩ => ⟨S8x1024, .f32⟩
  | .hbm, ⟨13, _⟩ => ⟨S_, .f32⟩
  | .hbm, ⟨14, _⟩ => ⟨S7x1024, .f32⟩
  | .hbm, ⟨15, _⟩ => ⟨S8x1024, .f32⟩
  | .hbm, ⟨16, _⟩ => ⟨S_, .f32⟩
  | .hbm, ⟨17, _⟩ => ⟨S7x1024, .f32⟩
  | .hbm, ⟨18, _⟩ => ⟨S8x1024, .f32⟩
  | .hbm, ⟨19, _⟩ => ⟨S16384x1024, .f32⟩
  | .hbm, ⟨20, _⟩ => ⟨S16384x1024, .bf16⟩
  | .hbm, ⟨21, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnLossRefIdeal.lean ====
abbrev S16384x1024 : Shape := ⟨2, ![16384, 1024]⟩
abbrev S1x1024 : Shape := ⟨2, ![1, 1024]⟩
abbrev S_ : Shape := ⟨0, ![]⟩
abbrev S1024 : Shape := ⟨1, ![1024]⟩
abbrev S16384 : Shape := ⟨1, ![16384]⟩
abbrev S16384x1 : Shape := ⟨2, ![16384, 1]⟩
abbrev S5x1024 : Shape := ⟨2, ![5, 1024]⟩
abbrev S8x1024 : Shape := ⟨2, ![8, 1024]⟩

abbrev nBuf : Space → Nat
  | .hbm => 153
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x1024, .f32⟩
  | 3 => ⟨S1x1024, .f32⟩
  | 4 => ⟨S1x1024, .f32⟩
  | 5 => ⟨S1x1024, .f32⟩
  | 6 => ⟨S1x1024, .f32⟩
  | 7 => ⟨S16384x1024, .f32⟩
  | 8 => ⟨S16384x1024, .f32⟩
  | 9 => ⟨S16384x1024, .f32⟩
  | 10 => ⟨S16384x1024, .f32⟩
  | 11 => ⟨S_, .f32⟩
  | 12 => ⟨S16384x1024, .f32⟩
  | 13 => ⟨S16384x1024, .f32⟩
  | 14 => ⟨S16384x1024, .f32⟩
  | 15 => ⟨S16384x1024, .f32⟩
  | 16 => ⟨S1024, .f32⟩
  | 17 => ⟨S1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S_, .f32⟩
  | 55 => ⟨S16384, .f32⟩
  | 56 => ⟨S_, .f32⟩
  | 57 => ⟨S16384, .f32⟩
  | 58 => ⟨S16384, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S16384, .f32⟩
  | 67 => ⟨S_, .f32⟩
  | 68 => ⟨S16384, .f32⟩
  | 69 => ⟨S16384, .f32⟩
  | 70 => ⟨S16384x1024, .f32⟩
  | 71 => ⟨S16384x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S16384x1024, .f32⟩
  | 78 => ⟨S_, .f32⟩
  | 79 => ⟨S1024, .f32⟩
  | 80 => ⟨S1x1024, .f32⟩
  | 81 => ⟨S16384x1024, .f32⟩
  | 82 => ⟨S16384x1024, .f32⟩
  | 83 => ⟨S_, .f32⟩
  | 84 => ⟨S1024, .f32⟩
  | 85 => ⟨S16384x1024, .f32⟩
  | 86 => ⟨S_, .f32⟩
  | 87 => ⟨S16384, .f32⟩
  | 88 => ⟨S16384x1, .f32⟩
  | 89 => ⟨S16384x1024, .f32⟩
  | 90 => ⟨S16384x1024, .f32⟩
  | 91 => ⟨S16384x1, .f32⟩
  | 92 => ⟨S_, .f32⟩
  | 93 => ⟨S16384x1, .f32⟩
  | 94 => ⟨S16384x1, .f32⟩
  | 95 => ⟨S_, .f32⟩
  | 96 => ⟨S16384, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384, .f32⟩
  | 111 => ⟨S16384x1024, .f32⟩
  | 112 => ⟨S16384x1024, .f32⟩
  | 113 => ⟨S1024, .f32⟩
  | 114 => ⟨S1024, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S16384x1024, .f32⟩
  | 122 => ⟨S16384x1024, .f32⟩
  | 123 => ⟨S16384x1024, .f32⟩
  | 124 => ⟨S_, .f32⟩
  | 125 => ⟨S16384, .f32⟩
  | 126 => ⟨S16384x1, .f32⟩
  | 127 => ⟨S_, .f32⟩
  | _ => ⟨S16384x1024, .f32⟩

abbrev hbmTy0_1 (i : Nat) : BufTy := match i % 128 with
  | 0 => ⟨S16384x1, .f32⟩
  | 1 => ⟨S16384x1, .f32⟩
  | 2 => ⟨S_, .f32⟩
  | 3 => ⟨S16384x1, .f32⟩
  | 4 => ⟨S16384x1, .f32⟩
  | 5 => ⟨S16384x1, .f32⟩
  | 6 => ⟨S16384x1024, .f32⟩
  | 7 => ⟨S16384x1024, .f32⟩
  | 8 => ⟨S1x1024, .f32⟩
  | 9 => ⟨S16384x1024, .f32⟩
  | 10 => ⟨S16384x1024, .f32⟩
  | 11 => ⟨S1x1024, .f32⟩
  | 12 => ⟨S16384x1024, .f32⟩
  | 13 => ⟨S16384x1024, .f32⟩
  | 14 => ⟨S16384x1024, .f32⟩
  | 15 => ⟨S16384x1024, .f32⟩
  | 16 => ⟨S_, .f32⟩
  | 17 => ⟨S1024, .f32⟩
  | 18 => ⟨S16384x1024, .bf16⟩
  | 19 => ⟨S1x1024, .f32⟩
  | 20 => ⟨S1x1024, .f32⟩
  | 21 => ⟨S1x1024, .f32⟩
  | 22 => ⟨S_, .f32⟩
  | 23 => ⟨S5x1024, .f32⟩
  | 24 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_cst_22 : Ref sig .tc := ⟨.hbm, 106, rfl⟩
abbrev main_v76 : Ref sig .tc := ⟨.hbm, 107, rfl⟩
abbrev main_v77 : Ref sig .tc := ⟨.hbm, 108, rfl⟩
abbrev main_cst_23 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_24 : Ref sig .tc := ⟨.hbm, 115, rfl⟩
abbrev main_v83 : Ref sig .tc := ⟨.hbm, 116, rfl⟩
abbrev main_v84 : Ref sig .tc := ⟨.hbm, 117, rfl⟩
abbrev main_cst_25 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_26 : Ref sig .tc := ⟨.hbm, 124, rfl⟩
abbrev main_v90 : Ref sig .tc := ⟨.hbm, 125, rfl⟩
abbrev main_v91 : Ref sig .tc := ⟨.hbm, 126, rfl⟩
abbrev main_cst_27 : Ref sig .tc := ⟨.hbm, 127, rfl⟩
abbrev main_v92 : Ref sig .tc := ⟨.hbm, 128, rfl⟩
abbrev main_v93 : Ref sig .tc := ⟨.hbm, 129, rfl⟩
abbrev main_cst_28 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_29 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_30 : Ref sig .tc := ⟨.hbm, 150, rfl⟩
abbrev main_v112 : Ref sig .tc := ⟨.hbm, 151, rfl⟩
abbrev main_v113 : Ref sig .tc := ⟨.hbm, 152, rfl⟩

abbrev nD : Nat := 1
abbrev τ : Topo := Topo.v7x

variable {F : FTy → Type} [FloatOps F]
-- ==== ConvXs.lean ====
abbrev S16384x8192 : Shape := ⟨2, ![16384, 8192]⟩
abbrev S4x3072 : Shape := ⟨2, ![4, 3072]⟩
abbrev S1x3072 : Shape := ⟨2, ![1, 3072]⟩
abbrev S16384x2048 : Shape := ⟨2, ![16384, 2048]⟩
abbrev S16384x8704 : Shape := ⟨2, ![16384, 8704]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S3x2048 : Shape := ⟨2, ![3, 2048]⟩
abbrev S16387x2048 : Shape := ⟨2, ![16387, 2048]⟩
abbrev S8x2048 : Shape := ⟨2, ![8, 2048]⟩
abbrev S512x1024 : Shape := ⟨2, ![512, 1024]⟩
abbrev S16x1024 : Shape := ⟨2, ![16, 1024]⟩
abbrev S8x1024 : Shape := ⟨2, ![8, 1024]⟩
abbrev S8x512 : Shape := ⟨2, ![8, 512]⟩
abbrev S1x1024 : Shape := ⟨2, ![1, 1024]⟩
abbrev S8x1 : Shape := ⟨2, ![8, 1]⟩
abbrev S504x1024 : Shape := ⟨2, ![504, 1024]⟩

abbrev nBuf : Space → Nat
  | .hbm => 52
  | .vmem => 16
  | .smem => 0
  | _ => 0

abbrev bufTy : (tb : Table) → Fin (tcTables nBuf tb) → BufTy
  | .hbm, ⟨0, _⟩ => ⟨S16384x8192, .bf16⟩
  | .hbm, ⟨1, _⟩ => ⟨S4x3072, .f32⟩
  | .hbm, ⟨2, _⟩ => ⟨S1x3072, .f32⟩
  | .hbm, ⟨3, _⟩ => ⟨S16384x2048, .f32⟩
  | .hbm, ⟨4, _⟩ => ⟨S16384x8704, .bf16⟩
  | .hbm, ⟨5, _⟩ => ⟨S4x2048, .f32⟩
  | .hbm, ⟨6, _⟩ => ⟨S1x2048, .f32⟩
  | .hbm, ⟨7, _⟩ => ⟨S16384x2048, .bf16⟩
  | .hbm, ⟨8, _⟩ => ⟨S16384x2048, .f32⟩
  | .hbm, ⟨9, _⟩ => ⟨S2048, .f32⟩
  | .hbm, ⟨10, _⟩ => ⟨S_, .f32⟩
  | .hbm, ⟨11, _⟩ => ⟨S3x2048, .f32⟩
  | .hbm, ⟨12, _⟩ => ⟨S16387x2048, .f32⟩
  | .hbm, ⟨13, _⟩ => ⟨S1x2048, .f32⟩
  | .hbm, ⟨14, _⟩ => ⟨S2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | .hbm, ⟨47, _⟩ => ⟨S_, .f32⟩
  | .hbm, ⟨48, _⟩ => ⟨S4x2048, .f32⟩
  | .hbm, ⟨49, _⟩ => ⟨S8x2048, .f32⟩
  | .hbm, ⟨50, _⟩ => ⟨S16384x8704, .bf16⟩
  | .hbm, ⟨51, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S8x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S16x1024, .f32⟩
  | .local _ .vmem, ⟨11, _⟩ => ⟨S16x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S8x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvXsRefIdeal.lean ====
abbrev S16384x8192 : Shape := ⟨2, ![16384, 8192]⟩
abbrev S4x3072 : Shape := ⟨2, ![4, 3072]⟩
abbrev S1x3072 : Shape := ⟨2, ![1, 3072]⟩
abbrev S16384x2048 : Shape := ⟨2, ![16384, 2048]⟩
abbrev S16384x8704 : Shape := ⟨2, ![16384, 8704]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S3x2048 : Shape := ⟨2, ![3, 2048]⟩
abbrev S16387x2048 : Shape := ⟨2, ![16387, 2048]⟩
abbrev S16384x4608 : Shape := ⟨2, ![16384, 4608]⟩
abbrev S8x2048 : Shape := ⟨2, ![8, 2048]⟩

abbrev nBuf : Space → Nat
  | .hbm => 138
  | .vmem => 0
  | .smem => 0
  | _ => 0

abbrev hbmTy0_0 (i : Nat) : BufTy := match i % 128 with
  | 0 => ⟨S16384x8192, .bf16⟩
  | 1 => ⟨S4x3072, .f32⟩
  | 2 => ⟨S1x3072, .f32⟩
  | 3 => ⟨S16384x2048, .f32⟩
  | 4 => ⟨S16384x8704, .bf16⟩
  | 5 => ⟨S16384x2048, .bf16⟩
  | 6 => ⟨S16384x2048, .f32⟩
  | 7 => ⟨S4x2048, .f32⟩
  | 8 => ⟨S1x2048, .f32⟩
  | 9 => ⟨S2048, .f32⟩
  | 10 => ⟨S_, .f32⟩
  | 11 => ⟨S3x2048, .f32⟩
  | 12 => ⟨S16387x2048, .f32⟩
  | 13 => ⟨S_, .f32⟩
  | 14 => ⟨S3x2048, .f32⟩
  | 15 => ⟨S1x2048, .f32⟩
  | 16 => ⟨S2048, .f32⟩
  | 17 => ⟨S16384x2048, .f32⟩
  | 18 => ⟨S1x2048, .f32⟩
  | 19 => ⟨S16384x2048, .f32⟩
  | 20 => ⟨S16384x2048, .f32⟩
  | 21 => ⟨S_, .f32⟩
  | 22 => ⟨S16384x2048, .f32⟩
  | 23 => ⟨S16384x2048, .f32⟩
  | 24 => ⟨S1x2048, .f32⟩
  | 25 => ⟨S2048, .f32⟩
  | 26 => ⟨S16384x2048, .f32⟩
  | 27 => ⟨S1x2048, .f32⟩
  | 28 => ⟨S16384x2048, .f32⟩
  | 29 => ⟨S16384x2048, .f32⟩
  | 30 => ⟨S16384x2048, .f32⟩
  | 31 => ⟨S1x2048, .f32⟩
  | 32 => ⟨S2048, .f32⟩
  | 33 => ⟨S16384x2048, .f32⟩
  | 34 => ⟨S1x2048, .f32⟩
  | 35 => ⟨S16384x2048, .f32⟩
  | 36 => ⟨S16384x2048, .f32⟩
  | 37 => ⟨S16384x2048, .f32⟩
  | 38 => ⟨S1x2048, .f32⟩
  | 39 => ⟨S2048, .f32⟩
  | 40 => ⟨S16384x2048, .f32⟩
  | 41 => ⟨S1x2048, .f32⟩
  | 42 => ⟨S16384x2048, .f32⟩
  | 43 => ⟨S16384x2048, .f32⟩
  | 44 => ⟨S16384x2048, .f32⟩
  | 45 => ⟨S1x2048, .f32⟩
  | 46 => ⟨S16384x2048, .f32⟩
  | 47 => ⟨S16384x2048, .f32⟩
  | 48 => ⟨S16384x2048, .f32⟩
  | 49 => ⟨S16384x2048, .f32⟩
  | 50 => ⟨S_, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S_, .f32⟩
  | 57 => ⟨S16384x2048, .f32⟩
  | 58 => ⟨S16384x2048, .f32⟩
  | 59 => ⟨S16384x2048, .f32⟩
  | 60 => ⟨S16384x2048, .f32⟩
  | 61 => ⟨S16384x2048, .f32⟩
  | 62 => ⟨S16384x2048, .f32⟩
  | 63 => ⟨S16384x2048, .f32⟩
  | 64 => ⟨S16384x2048, .f32⟩
  | 65 => ⟨S_, .f32⟩
  | 66 => ⟨S2048, .f32⟩
  | 67 => ⟨S1x2048, .f32⟩
  | 68 => ⟨S_, .f32⟩
  | 69 => ⟨S2048, .f32⟩
  | 70 => ⟨S16384x2048, .f32⟩
  | 71 => ⟨S16384x2048, .f32⟩
  | 72 => ⟨S16384x2048, .f32⟩
  | 73 => ⟨S_, .f32⟩
  | 74 => ⟨S2048, .f32⟩
  | 75 => ⟨S1x2048, .f32⟩
  | 76 => ⟨S_, .f32⟩
  | 77 => ⟨S2048, .f32⟩
  | 78 => ⟨S_, .f32⟩
  | 79 => ⟨S16387x2048, .f32⟩
  | 80 => ⟨S1x2048, .f32⟩
  | 81 => ⟨S_, .f32⟩
  | 82 => ⟨S4x2048, .f32⟩
  | 83 => ⟨S16384x2048, .f32⟩
  | 84 => ⟨S16384x2048, .f32⟩
  | 85 => ⟨S16384x2048, .f32⟩
  | 86 => ⟨S_, .f32⟩
  | 87 => ⟨S2048, .f32⟩
  | 88 => ⟨S1x2048, .f32⟩
  | 89 => ⟨S_, .f32⟩
  | 90 => ⟨S2048, .f32⟩
  | 91 => ⟨S_, .f32⟩
  | 92 => ⟨S16387x2048, .f32⟩
  | 93 => ⟨S16387x2048, .f32⟩
  | 94 => ⟨S1x2048, .f32⟩
  | 95 => ⟨S_, .f32⟩
  | 96 => ⟨S4x2048, .f32⟩
  | 97 => ⟨S4x2048, .f32⟩
  | 98 => ⟨S16384x2048, .f32⟩
  | 99 => ⟨S16384x2048, .f32⟩
  | 100 => ⟨S16384x2048, .f32⟩
  | 101 => ⟨S_, .f32⟩
  | 102 => ⟨S2048, .f32⟩
  | 103 => ⟨S1x2048, .f32⟩
  | 104 => ⟨S_, .f32⟩
  | 105 => ⟨S2048, .f32⟩
  | 106 => ⟨S_, .f32⟩
  | 107 => ⟨S16387x2048, .f32⟩
  | 108 => ⟨S16387x2048, .f32⟩
  | 109 => ⟨S1x2048, .f32⟩
  | 110 => ⟨S_, .f32⟩
  | 111 => ⟨S4x2048, .f32⟩
  | 112 => ⟨S4x2048, .f32⟩
  | 113 => ⟨S16384x2048, .f32⟩
  | 114 => ⟨S16384x2048, .f32⟩
  | 115 => ⟨S16384x2048, .f32⟩
  | 116 => ⟨S_, .f32⟩
  | 117 => ⟨S2048, .f32⟩
  | 118 => ⟨S1x2048, .f32⟩
  | 119 => ⟨S_, .f32⟩
  | 120 => ⟨S2048, .f32⟩
  | 121 => ⟨S_, .f32⟩
  | 122 => ⟨S16387x2048, .f32⟩
  | 123 => ⟨S16387x2048, .f32⟩
  | 124 => ⟨S1x2048, .f32⟩
  | 125 => ⟨S_, .f32⟩
  | 126 => ⟨S4x2048, .f32⟩
  | 127 => ⟨S4x2048, .f32⟩
  | _ => ⟨S16384x8192, .bf16⟩

abbrev hbmTy0_1 (i : Nat) : BufTy := match i % 128 with
  | 0 => ⟨S3x2048, .f32⟩
  | 1 => ⟨S16384x2048, .f32⟩
  | 2 => ⟨S16384x2048, .bf16⟩
  | 3 => ⟨S16384x2048, .bf16⟩
  | 4 => ⟨S16384x4608, .bf16⟩
  | 5 => ⟨S16384x8704, .bf16⟩
  | 6 => ⟨S1x2048, .f32⟩
  | 7 => ⟨S_, .f32⟩
  | 8 => ⟨S3x2048, .f32⟩
  | 9 => ⟨S8x2048, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v40_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v40_1 : Ref sig .tc := ⟨.hbm, 59, rfl⟩
abbrev main_v40_0 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v41 : Ref sig .tc := ⟨.hbm, 64, rfl⟩
abbrev main_cst_2 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]
-- ==== ConvBc.lean ====
abbrev S16384x8192 : Shape := ⟨2, ![16384, 8192]⟩
abbrev S4x3072 : Shape := ⟨2, ![4, 3072]⟩
abbrev S1x3072 : Shape := ⟨2, ![1, 3072]⟩
abbrev S16384x1024 : Shape := ⟨2, ![16384, 1024]⟩
abbrev S16384x8704 : Shape := ⟨2, ![16384, 8704]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S3x1024 : Shape := ⟨2, ![3, 1024]⟩
abbrev S16387x1024 : Shape := ⟨2, ![16387, 1024]⟩
abbrev S8x1024 : Shape := ⟨2, ![8, 1024]⟩
abbrev S512x1024 : Shape := ⟨2, ![512, 1024]⟩
abbrev S16x1024 : Shape := ⟨2, ![16, 1024]⟩
abbrev S8x512 : Shape := ⟨2, ![8, 512]⟩
abbrev S8x1 : Shape := ⟨2, ![8, 1]⟩
abbrev S504x1024 : Shape := ⟨2, ![504, 1024]⟩

abbrev nBuf : Space → Nat
  | .hbm => 52
  | .vmem => 14
  | .smem => 0
  | _ => 0

abbrev bufTy : (tb : Table) → Fin (tcTables nBuf tb) → BufTy
  | .hbm, ⟨0, _⟩ => ⟨S16384x8192, .bf16⟩
  | .hbm, ⟨1, _⟩ => ⟨S4x3072, .f32⟩
  | .hbm, ⟨2, _⟩ => ⟨S1x3072, .f32⟩
  | .hbm, ⟨3, _⟩ => ⟨S16384x1024, .f32⟩
  | .hbm, ⟨4, _⟩ => ⟨S16384x8704, .bf16⟩
  | .hbm, ⟨5, _⟩ => ⟨S4x1024, .f32⟩
  | .hbm, ⟨6, _⟩ => ⟨S1x1024, .f32⟩
  | .hbm, ⟨7, _⟩ => ⟨S16384x1024, .bf16⟩
  | .hbm, ⟨8, _⟩ => ⟨S16384x1024, .f32⟩
  | .hbm, ⟨9, _⟩ => ⟨S1024, .f32⟩
  | .hbm, ⟨10, _⟩ => ⟨S_, .f32⟩
  | .hbm, ⟨11, _⟩ => ⟨S3x1024, .f32⟩
  | .hbm, ⟨12, _⟩ => ⟨S16387x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .bf16⟩
  | .hbm, ⟨47, _⟩ => ⟨S_, .f32⟩
  | .hbm, ⟨48, _⟩ => ⟨S4x1024, .f32⟩
  | .hbm, ⟨49, _⟩ => ⟨S8x1024, .f32⟩
  | .hbm, ⟨50, _⟩ => ⟨S16384x8704, .bf16⟩
  | .hbm, ⟨51, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S16x1024, .f32⟩
  | .local _ .vmem, ⟨10, _⟩ => ⟨S16x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== ConvBcRefIdeal.lean ====
abbrev S16384x8192 : Shape := ⟨2, ![16384, 8192]⟩
abbrev S4x3072 : Shape := ⟨2, ![4, 3072]⟩
abbrev S1x3072 : Shape := ⟨2, ![1, 3072]⟩
abbrev S16384x1024 : Shape := ⟨2, ![16384, 1024]⟩
abbrev S16384x8704 : Shape := ⟨2, ![16384, 8704]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S3x1024 : Shape := ⟨2, ![3, 1024]⟩
abbrev S16387x1024 : Shape := ⟨2, ![16387, 1024]⟩
abbrev S16384x7168 : Shape := ⟨2, ![16384, 7168]⟩
abbrev S16384x512 : Shape := ⟨2, ![16384, 512]⟩
abbrev S8x1024 : Shape := ⟨2, ![8, 1024]⟩

abbrev nBuf : Space → Nat
  | .hbm => 138
  | .vmem => 0
  | .smem => 0
  | _ => 0

abbrev hbmTy0_0 (i : Nat) : BufTy := match i % 128 with
  | 0 => ⟨S16384x8192, .bf16⟩
  | 1 => ⟨S4x3072, .f32⟩
  | 2 => ⟨S1x3072, .f32⟩
  | 3 => ⟨S16384x1024, .f32⟩
  | 4 => ⟨S16384x8704, .bf16⟩
  | 5 => ⟨S16384x1024, .bf16⟩
  | 6 => ⟨S16384x1024, .f32⟩
  | 7 => ⟨S4x1024, .f32⟩
  | 8 => ⟨S1x1024, .f32⟩
  | 9 => ⟨S1024, .f32⟩
  | 10 => ⟨S_, .f32⟩
  | 11 => ⟨S3x1024, .f32⟩
  | 12 => ⟨S16387x1024, .f32⟩
  | 13 => ⟨S_, .f32⟩
  | 14 => ⟨S3x1024, .f32⟩
  | 15 => ⟨S1x1024, .f32⟩
  | 16 => ⟨S1024, .f32⟩
  | 17 => ⟨S16384x1024, .f32⟩
  | 18 => ⟨S1x1024, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S1x1024, .f32⟩
  | 25 => ⟨S1024, .f32⟩
  | 26 => ⟨S16384x1024, .f32⟩
  | 27 => ⟨S1x1024, .f32⟩
  | 28 => ⟨S16384x1024, .f32⟩
  | 29 => ⟨S16384x1024, .f32⟩
  | 30 => ⟨S16384x1024, .f32⟩
  | 31 => ⟨S1x1024, .f32⟩
  | 32 => ⟨S1024, .f32⟩
  | 33 => ⟨S16384x1024, .f32⟩
  | 34 => ⟨S1x1024, .f32⟩
  | 35 => ⟨S16384x1024, .f32⟩
  | 36 => ⟨S16384x1024, .f32⟩
  | 37 => ⟨S16384x1024, .f32⟩
  | 38 => ⟨S1x1024, .f32⟩
  | 39 => ⟨S1024, .f32⟩
  | 40 => ⟨S16384x1024, .f32⟩
  | 41 => ⟨S1x1024, .f32⟩
  | 42 => ⟨S16384x1024, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S_, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S_, .f32⟩
  | 66 => ⟨S1024, .f32⟩
  | 67 => ⟨S1x1024, .f32⟩
  | 68 => ⟨S_, .f32⟩
  | 69 => ⟨S1024, .f32⟩
  | 70 => ⟨S16384x1024, .f32⟩
  | 71 => ⟨S16384x1024, .f32⟩
  | 72 => ⟨S16384x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S_, .f32⟩
  | 79 => ⟨S16387x1024, .f32⟩
  | 80 => ⟨S1x1024, .f32⟩
  | 81 => ⟨S_, .f32⟩
  | 82 => ⟨S4x1024, .f32⟩
  | 83 => ⟨S16384x1024, .f32⟩
  | 84 => ⟨S16384x1024, .f32⟩
  | 85 => ⟨S16384x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S_, .f32⟩
  | 92 => ⟨S16387x1024, .f32⟩
  | 93 => ⟨S16387x1024, .f32⟩
  | 94 => ⟨S1x1024, .f32⟩
  | 95 => ⟨S_, .f32⟩
  | 96 => ⟨S4x1024, .f32⟩
  | 97 => ⟨S4x1024, .f32⟩
  | 98 => ⟨S16384x1024, .f32⟩
  | 99 => ⟨S16384x1024, .f32⟩
  | 100 => ⟨S16384x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S_, .f32⟩
  | 107 => ⟨S16387x1024, .f32⟩
  | 108 => ⟨S16387x1024, .f32⟩
  | 109 => ⟨S1x1024, .f32⟩
  | 110 => ⟨S_, .f32⟩
  | 111 => ⟨S4x1024, .f32⟩
  | 112 => ⟨S4x1024, .f32⟩
  | 113 => ⟨S16384x1024, .f32⟩
  | 114 => ⟨S16384x1024, .f32⟩
  | 115 => ⟨S16384x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S_, .f32⟩
  | 122 => ⟨S16387x1024, .f32⟩
  | 123 => ⟨S16387x1024, .f32⟩
  | 124 => ⟨S1x1024, .f32⟩
  | 125 => ⟨S_, .f32⟩
  | 126 => ⟨S4x1024, .f32⟩
  | 127 => ⟨S4x1024, .f32⟩
  | _ => ⟨S16384x8192, .bf16⟩

abbrev hbmTy0_1 (i : Nat) : BufTy := match i % 128 with
  | 0 => ⟨S3x1024, .f32⟩
  | 1 => ⟨S16384x1024, .f32⟩
  | 2 => ⟨S16384x7168, .bf16⟩
  | 3 => ⟨S16384x1024, .bf16⟩
  | 4 => ⟨S16384x512, .bf16⟩
  | 5 => ⟨S16384x8704, .bf16⟩
  | 6 => ⟨S1x1024, .f32⟩
  | 7 => ⟨S_, .f32⟩
  | 8 => ⟨S3x1024, .f32⟩
  | 9 => ⟨S8x1024, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v40_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v40_1 : Ref sig .tc := ⟨.hbm, 59, rfl⟩
abbrev main_v40_0 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v41 : Ref sig .tc := ⟨.hbm, 64, rfl⟩
abbrev main_cst_2 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]
-- ==== AdamIn.lean ====
abbrev S1024x2120 : Shape := ⟨2, ![1024, 2120]⟩
abbrev S256x2120 : Shape := ⟨2, ![256, 2120]⟩

abbrev nBuf : Space → Nat
  | .hbm => 7
  | .vmem => 14
  | .smem => 0
  | _ => 0

abbrev bufTy : (tb : Table) → Fin (tcTables nBuf tb) → BufTy
  | .hbm, ⟨0, _⟩ => ⟨S1024x2120, .f32⟩
  | .hbm, ⟨1, _⟩ => ⟨S1024x2120, .f32⟩
  | .hbm, ⟨2, _⟩ => ⟨S1024x2120, .f32⟩
  | .hbm, ⟨3, _⟩ => ⟨S1024x2120, .f32⟩
  | .hbm, ⟨4, _⟩ => ⟨S1024x2120, .f32⟩
  | .hbm, ⟨5, _⟩ => ⟨S1024x2120, .f32⟩
  | .hbm, ⟨6, _⟩ => ⟨S1024x2120, .f32⟩
  | .local _ .vmem, ⟨0, _⟩ => ⟨S256x2120, .f32⟩
  | .local _ .vmem, ⟨1, _⟩ => ⟨S256x2120, .f32⟩
  | .local _ .vmem, ⟨2, _⟩ => ⟨S256x2120, .f32⟩
  | .local _ .vmem, ⟨3, _⟩ => ⟨S256x2120, .f32⟩
  | .local _ .vmem, ⟨4, _⟩ => ⟨S256x2120, .f32⟩
  | .local _ .vmem, ⟨5, _⟩ => ⟨S256x2120, .f32⟩
  | .local _ .vmem, ⟨6, _⟩ => ⟨S256x2120, .f32⟩
  | .local _ .vmem, ⟨7, _⟩ => ⟨S256x2120, .f32⟩
  | .local _ .vmem, ⟨8, _⟩ => ⟨S256x2120, .f32⟩
  | .local _ .vmem, ⟨9, _⟩ => ⟨S256x2120, .f32⟩
  | .local _ .vmem, ⟨10, _⟩ => ⟨S256x2120, .f32⟩
  | .local _ .vmem, ⟨11, _⟩ => ⟨S256x2120, .f32⟩
  | .local _ .vmem, ⟨12, _⟩ => ⟨S256x2120, .f32⟩
  | .local _ .vmem, ⟨13, _⟩ => ⟨S256x2120, .f32⟩
  | _, _ => ⟨S1024x2120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x2120 : Shape := ⟨2, ![1024, 2120]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2120, .f32⟩
  | .hbm, ⟨1, _⟩ => ⟨S1024x2120, .f32⟩
  | .hbm, ⟨2, _⟩ => ⟨S1024x2120, .f32⟩
  | .hbm, ⟨3, _⟩ => ⟨S1024x2120, .f32⟩
  | .hbm, ⟨4, _⟩ => ⟨S_, .f32⟩
  | .hbm, ⟨5, _⟩ => ⟨S1024x2120, .f32⟩
  | .hbm, ⟨6, _⟩ => ⟨S1024x2120, .f32⟩
  | .hbm, ⟨7, _⟩ => ⟨S_, .f32⟩
  | .hbm, ⟨8, _⟩ => ⟨S1024x2120, .f32⟩
  | .hbm, ⟨9, _⟩ => ⟨S1024x2120, .f32⟩
  | .hbm, ⟨10, _⟩ => ⟨S1024x2120, .f32⟩
  | .hbm, ⟨11, _⟩ => ⟨S_, .f32⟩
  | .hbm, ⟨12, _⟩ => ⟨S1024x2120, .f32⟩
  | .hbm, ⟨13, _⟩ => ⟨S1024x2120, .f32⟩
  | .hbm, ⟨14, _⟩ => ⟨S1024x2120, .f32⟩
  | .hbm, ⟨15, _⟩ => ⟨S_, .f32⟩
  | .hbm, ⟨16, _⟩ => ⟨S1024x2120, .f32⟩
  | .hbm, ⟨17, _⟩ => ⟨S1024x2120, .f32⟩
  | .hbm, ⟨18, _⟩ => ⟨S1024x2120, .f32⟩
  | .hbm, ⟨19, _⟩ => ⟨S_, .f32⟩
  | .hbm, ⟨20, _⟩ => ⟨S1024x2120, .f32⟩
  | .hbm, ⟨21, _⟩ => ⟨S1024x2120, .f32⟩
  | .hbm, ⟨22, _⟩ => ⟨S_, .f32⟩
  | .hbm, ⟨23, _⟩ => ⟨S1024x2120, .f32⟩
  | .hbm, ⟨24, _⟩ => ⟨S1024x2120, .f32⟩
  | .hbm, ⟨25, _⟩ => ⟨S1024x2120, .f32⟩
  | .hbm, ⟨26, _⟩ => ⟨S_, .f32⟩
  | .hbm, ⟨27, _⟩ => ⟨S1024x2120, .f32⟩
  | .hbm, ⟨28, _⟩ => ⟨S1024x2120, .f32⟩
  | .hbm, ⟨29, _⟩ => ⟨S1024x2120, .f32⟩
  | .hbm, ⟨30, _⟩ => ⟨S_, .f32⟩
  | .hbm, ⟨31, _⟩ => ⟨S1024x2120, .f32⟩
  | .hbm, ⟨32, _⟩ => ⟨S1024x2120, .f32⟩
  | .hbm, ⟨33, _⟩ => ⟨S1024x2120, .f32⟩
  | .hbm, ⟨34, _⟩ => ⟨S_, .f32⟩
  | .hbm, ⟨35, _⟩ => ⟨S1024x2120, .f32⟩
  | .hbm, ⟨36, _⟩ => ⟨S1024x2120, .f32⟩
  | _, _ => ⟨S1024x2120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranchSsm.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchSsmRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranchAttn.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBranchAttnRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsmConv.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsmConvRefIdeal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnConv.lean ====
abbrev S3x1408 : Shape := ⟨2, ![3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnConvRefIdeal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S416x128 : Shape := ⟨2, ![416, 128]⟩
abbrev S3328x128 : Shape := ⟨2, ![3328, 128]⟩

abbrev nBuf : Space → Nat
  | .hbm => 8
  | .vmem => 8
  | .smem => 0
  | _ => 0

abbrev bufTy : (tb : Table) → Fin (tcTables nBuf tb) → BufTy
  | .hbm, ⟨0, _⟩ => ⟨S416x128, .f32⟩
  | .hbm, ⟨1, _⟩ => ⟨S3328x128, .f32⟩
  | .hbm, ⟨2, _⟩ => ⟨S416x128, .f32⟩
  | .hbm, ⟨3, _⟩ => ⟨S416x128, .f32⟩
  | .hbm, ⟨4, _⟩ => ⟨S416x128, .f32⟩
  | .hbm, ⟨5, _⟩ => ⟨S416x128, .f32⟩
  | .hbm, ⟨6, _⟩ => ⟨S416x128, .f32⟩
  | .hbm, ⟨7, _⟩ => ⟨S416x128, .f32⟩
  | .local _ .vmem, ⟨0, _⟩ => ⟨S416x128, .f32⟩
  | .local _ .vmem, ⟨1, _⟩ => ⟨S3328x128, .f32⟩
  | .local _ .vmem, ⟨2, _⟩ => ⟨S416x128, .f32⟩
  | .local _ .vmem, ⟨3, _⟩ => ⟨S416x128, .f32⟩
  | .local _ .vmem, ⟨4, _⟩ => ⟨S416x128, .f32⟩
  | .local _ .vmem, ⟨5, _⟩ => ⟨S416x128, .f32⟩
  | .local _ .vmem, ⟨6, _⟩ => ⟨S416x128, .f32⟩
  | .local _ .vmem, ⟨7, _⟩ => ⟨S416x128, .f32⟩
  | _, _ => ⟨S416x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3328x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S416x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S416x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S416x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S416x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S416x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S416x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamSmallRefIdeal.lean ====
abbrev S416x128 : Shape := ⟨2, ![416, 128]⟩
abbrev S3328x128 : Shape := ⟨2, ![3328, 128]⟩
abbrev S8x416x128 : Shape := ⟨3, ![8, 416, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S416x128, .f32⟩
  | .hbm, ⟨1, _⟩ => ⟨S3328x128, .f32⟩
  | .hbm, ⟨2, _⟩ => ⟨S416x128, .f32⟩
  | .hbm, ⟨3, _⟩ => ⟨S416x128, .f32⟩
  | .hbm, ⟨4, _⟩ => ⟨S8x416x128, .f32⟩
  | .hbm, ⟨5, _⟩ => ⟨S_, .f32⟩
  | .hbm, ⟨6, _⟩ => ⟨S416x128, .f32⟩
  | .hbm, ⟨7, _⟩ => ⟨S_, .f32⟩
  | .hbm, ⟨8, _⟩ => ⟨S416x128, .f32⟩
  | .hbm, ⟨9, _⟩ => ⟨S416x128, .f32⟩
  | .hbm, ⟨10, _⟩ => ⟨S_, .f32⟩
  | .hbm, ⟨11, _⟩ => ⟨S416x128, .f32⟩
  | .hbm, ⟨12, _⟩ => ⟨S416x128, .f32⟩
  | .hbm, ⟨13, _⟩ => ⟨S416x128, .f32⟩
  | .hbm, ⟨14, _⟩ => ⟨S_, .f32⟩
  | .hbm, ⟨15, _⟩ => ⟨S416x128, .f32⟩
  | .hbm, ⟨16, _⟩ => ⟨S416x128, .f32⟩
  | .hbm, ⟨17, _⟩ => ⟨S416x128, .f32⟩
  | .hbm, ⟨18, _⟩ => ⟨S_, .f32⟩
  | .hbm, ⟨19, _⟩ => ⟨S416x128, .f32⟩
  | .hbm, ⟨20, _⟩ => ⟨S416x128, .f32⟩
  | .hbm, ⟨21, _⟩ => ⟨S416x128, .f32⟩
  | .hbm, ⟨22, _⟩ => ⟨S_, .f32⟩
  | .hbm, ⟨23, _⟩ => ⟨S416x128, .f32⟩
  | .hbm, ⟨24, _⟩ => ⟨S416x128, .f32⟩
  | .hbm, ⟨25, _⟩ => ⟨S_, .f32⟩
  | .hbm, ⟨26, _⟩ => ⟨S416x128, .f32⟩
  | .hbm, ⟨27, _⟩ => ⟨S416x128, .f32⟩
  | .hbm, ⟨28, _⟩ => ⟨S416x128, .f32⟩
  | .hbm, ⟨29, _⟩ => ⟨S_, .f32⟩
  | .hbm, ⟨30, _⟩ => ⟨S416x128, .f32⟩
  | .hbm, ⟨31, _⟩ => ⟨S416x128, .f32⟩
  | .hbm, ⟨32, _⟩ => ⟨S416x128, .f32⟩
  | .hbm, ⟨33, _⟩ => ⟨S_, .f32⟩
  | .hbm, ⟨34, _⟩ => ⟨S416x128, .f32⟩
  | .hbm, ⟨35, _⟩ => ⟨S416x128, .f32⟩
  | .hbm, ⟨36, _⟩ => ⟨S416x128, .f32⟩
  | .hbm, ⟨37, _⟩ => ⟨S_, .f32⟩
  | .hbm, ⟨38, _⟩ => ⟨S416x128, .f32⟩
  | .hbm, ⟨39, _⟩ => ⟨S416x128, .f32⟩
  | _, _ => ⟨S416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.FfnAct.Spec.lean ====
module
public import Idealize.ShloMosaic.Lib.Pointwise

@[expose] public section

noncomputable section

/-! The gradient of the ConvFFN's gated activation, as functions of array elements over the extended
reals. Nothing here mentions a program. Rows and columns are natural numbers, and an array reads as
zero outside its extents, so that the shifts of the convolution need no case distinctions. -/

namespace Cert.FfnAct

open Idealize.ShloMosaic

/-- The logistic function, spelt with the exponential as both programs spell it. -/
def sg (x : EReal) : EReal := Ideal.div 1 (1 + Ideal.exp (0 - x))

/-- The gradient at the gate `g` of `silu g * v`, for the cotangent `a`. -/
def dGate (a v g : EReal) : EReal := a * v * (sg g * (1 + g * (1 - sg g)))

/-- The gradient at the value of `silu g * v`, for the cotangent `a`. -/
def dVal (a g : EReal) : EReal := a * g * sg g

/-- A matrix read at row `t` and column `k`; zero outside the matrix. -/
def at2 {m n : ℕ} (X : (⟨2, ![m, n]⟩ : Shape).Idx → EReal) (t k : ℕ) : EReal :=
  if h : t < m ∧ k < n then X (ix2 ⟨t, h.1⟩ ⟨k, h.2⟩) else 0

theorem at2_ix {m n : ℕ} (X : (⟨2, ![m, n]⟩ : Shape).Idx → EReal) (t : Fin m) (k : Fin n) :
    at2 X t.val k.val = X (ix2 t k) := by
  unfold at2; rw [dif_pos ⟨t.isLt, k.isLt⟩]

theorem at2_lt {m n : ℕ} (X : (⟨2, ![m, n]⟩ : Shape).Idx → EReal) {t k : ℕ} (ht : t < m) (hk : k < n) :
    at2 X t k = X (ix2 ⟨t, ht⟩ ⟨k, hk⟩) := by
  unfold at2; rw [dif_pos ⟨ht, hk⟩]

theorem at2_out {m n : ℕ} (X : (⟨2, ![m, n]⟩ : Shape).Idx → EReal) {t : ℕ} (k : ℕ) (ht : m ≤ t) :
    at2 X t k = 0 := by
  unfold at2; rw [dif_neg (fun h => absurd h.1 (by omega))]

/-- The logistic function of a real number is a real number. -/
theorem sg_coe (x : ℝ) : sg (x : EReal) = ((1 / (1 + Real.exp (-x)) : ℝ) : EReal) := by
  have h : (0 : EReal) - (x : EReal) = ((-x : ℝ) : EReal) := by rw [zero_sub, EReal.coe_neg]
  have h1 : (1 : EReal) + ((Real.exp (-x) : ℝ) : EReal) = ((1 + Real.exp (-x) : ℝ) : EReal) := by
    rw [EReal.coe_add, EReal.coe_one]
  unfold sg
  rw [h, Ideal.exp_coe, h1, Ideal.div_coe (by positivity), one_mul]

/-- The gate's gradient as the product rule writes it, `a * v * s + g * (a * v) * (s * (1 - s))`, is the factored form,
    for real numbers. -/
theorem dGate_eq (a v g : ℝ) :
    (a : EReal) * v * sg g + g * (a * v) * (sg g * (1 - sg g)) = dGate a v g := by
  unfold dGate
  rw [sg_coe]
  norm_cast
  ring

variable (U : (⟨2, ![16384, 5632]⟩ : Shape).Idx → EReal) (D : (⟨2, ![16384, 2816]⟩ : Shape).Idx → EReal)
  (X : (⟨2, ![16384, 5632]⟩ : Shape).Idx → EReal) (W : (⟨2, ![3, 5632]⟩ : Shape).Idx → EReal)

/-- The gradient at the convolution's result, row `t` and column `c`: the first 2816 columns are the gate, the
    others the value. `U` is the convolution's result and `D` the cotangent of the gated product. -/
def dU (t c : ℕ) : EReal :=
  if c < 2816 then dGate (at2 D t c) (at2 U t (2816 + c)) (at2 U t c)
  else dVal (at2 D t (c - 2816)) (at2 U t (c - 2816))

theorem dU_gate (t c : ℕ) (h : c < 2816) : dU U D t c = dGate (at2 D t c) (at2 U t (2816 + c)) (at2 U t c) :=
  if_pos h

theorem dU_val (t c : ℕ) : dU U D t (2816 + c) = dVal (at2 D t c) (at2 U t c) := by
  unfold dU; rw [if_neg (by omega), Nat.add_sub_cancel_left]

/-- Below the last row the gradient is zero. -/
theorem dU_out {t : ℕ} (c : ℕ) (h : 16384 ≤ t) : dU U D t c = 0 := by
  unfold dU dGate dVal
  rw [at2_out D c h, at2_out D (c - 2816) h]
  split <;> simp only [zero_mul]

/-- The gradient at the convolution's input: the three taps of the causal convolution, transposed. -/
def dIn (t c : ℕ) : EReal :=
  dU U D t c * at2 W 2 c + dU U D (t + 1) c * at2 W 1 c + dU U D (t + 2) c * at2 W 0 c

/-- What token `t` gives to row `r` of the packed gradient of taps and bias: rows 0 to 2 are the taps, row 3 the
    bias, the others nothing. `X` is the convolution's input. -/
def term (r t c : ℕ) : EReal :=
  match r with
  | 0 => dU U D (t + 2) c * at2 X t c
  | 1 => dU U D (t + 1) c * at2 X t c
  | 2 => dU U D t c * at2 X t c
  | 3 => dU U D t c
  | _ => 0

/-- The packed gradient of taps and bias: the sum over all tokens. -/
def dTaps (r c : ℕ) : EReal := ∑ t ∈ Finset.range 16384, term U D X r t c

theorem dTaps_0 (c : ℕ) : dTaps U D X 0 c = ∑ t ∈ Finset.range 16384, dU U D (t + 2) c * at2 X t c := rfl
theorem dTaps_1 (c : ℕ) : dTaps U D X 1 c = ∑ t ∈ Finset.range 16384, dU U D (t + 1) c * at2 X t c := rfl
theorem dTaps_2 (c : ℕ) : dTaps U D X 2 c = ∑ t ∈ Finset.range 16384, dU U D t c * at2 X t c := rfl
theorem dTaps_3 (c : ℕ) : dTaps U D X 3 c = ∑ t ∈ Finset.range 16384, dU U D t c := rfl
theorem dTaps_out (r c : ℕ) (h : 4 ≤ r) : dTaps U D X r c = 0 :=
  Finset.sum_eq_zero fun t _ => by
    obtain ⟨n, rfl⟩ := Nat.exists_eq_add_of_le' h
    rfl

/-- A sum over the rows of a block, at its place among all rows. -/
theorem sum_block (f : ℕ → EReal) (n : ℕ) :
    ∑ t ∈ Finset.range (256 * n), f t + ∑ x : Fin 256, f (256 * n + x.val) = ∑ t ∈ Finset.range (256 * (n + 1)), f t := by
  rw [Nat.mul_add, Nat.mul_one, Finset.sum_range_add, Finset.sum_range (fun x => f (256 * n + x))]

/-- A sum against a shifted factor: moving the shift to the other factor leaves the sum as it is, where the first factor
    is zero from `n` on and the second counts as zero before its first element. -/
theorem sum_shift (f g : ℕ → EReal) (n s : ℕ) (hf : ∀ t, n ≤ t → f t = 0) :
    ∑ t ∈ Finset.range n, f (t + s) * g t = ∑ t ∈ Finset.range n, f t * (if t < s then 0 else g (t - s)) := by
  let h : ℕ → EReal := fun t => f t * (if t < s then 0 else g (t - s))
  have h1 : ∑ t ∈ Finset.range n, f (t + s) * g t = ∑ t ∈ Finset.range n, h (s + t) :=
    Finset.sum_congr rfl fun t _ => by
      show _ = f (s + t) * (if s + t < s then 0 else g (s + t - s))
      rw [if_neg (by omega), Nat.add_sub_cancel_left, Nat.add_comm]
  have h2 : ∑ t ∈ Finset.range s, h t = 0 := Finset.sum_eq_zero fun t ht => by
    show f t * (if t < s then 0 else g (t - s)) = 0
    rw [if_pos (Finset.mem_range.mp ht), mul_zero]
  have h3 : ∑ t ∈ Finset.range s, h (n + t) = 0 := Finset.sum_eq_zero fun t _ => by
    show f (n + t) * _ = 0
    rw [hf _ (by omega), zero_mul]
  have h4 := Finset.sum_range_add h s n
  have h5 := Finset.sum_range_add h n s
  rw [h2, zero_add] at h4
  rw [h3, add_zero] at h5
  rw [h1, ← h4, Nat.add_comm s n, h5]

/-- A real number among the extended reals. -/
def IsReal (x : EReal) : Prop := ∃ r : ℝ, x = (r : EReal)

theorem IsReal.zero : IsReal 0 := ⟨0, by rw [EReal.coe_zero]⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

/-- A number whose absolute value is below infinity is real. -/
theorem IsReal.of_abs {x : EReal} (h : max x (-x) < ⊤) : IsReal x := by
  induction x with
  | bot => simp at h
  | top => simp at h
  | coe r => exact ⟨r, rfl⟩

end Cert.FfnAct

end
-- ==== Proof.Prod.Spec.lean ====
module
public import proofs.«01_k».proof.Proof.FfnAct.Spec

@[expose] public section

noncomputable section

/-! Products of matrices, element by element, and sums taken block by block. Nothing here mentions a program. -/

namespace Cert.Prod

open Idealize.ShloMosaic Cert.FfnAct

/-- Row `i` of `A` against column `j` of `B`, over the first `n` inner positions. -/
def nn {a b c d : ℕ} (n : ℕ) (A : (⟨2, ![a, b]⟩ : Shape).Idx → EReal) (B : (⟨2, ![c, d]⟩ : Shape).Idx → EReal)
    (i j : ℕ) : EReal := ∑ q ∈ Finset.range n, at2 A i q * at2 B q j

/-- Column `i` of `A` against column `j` of `B`, over the first `n` rows. -/
def tn {a b c d : ℕ} (n : ℕ) (A : (⟨2, ![a, b]⟩ : Shape).Idx → EReal) (B : (⟨2, ![c, d]⟩ : Shape).Idx → EReal)
    (i j : ℕ) : EReal := ∑ q ∈ Finset.range n, at2 A q i * at2 B q j

/-- One more block of `b` terms. -/
theorem sum_more (f : ℕ → EReal) (b n : ℕ) :
    ∑ t ∈ Finset.range (b * n), f t + ∑ x : Fin b, f (b * n + x.val) = ∑ t ∈ Finset.range (b * (n + 1)), f t := by
  rw [Nat.mul_add, Nat.mul_one, Finset.sum_range_add, Finset.sum_range (fun x => f (b * n + x))]

/-- The first block of `b` terms. -/
theorem sum_first (f : ℕ → EReal) (b : ℕ) :
    ∑ x : Fin b, f (b * 0 + x.val) = ∑ t ∈ Finset.range (b * (0 + 1)), f t := by
  rw [← sum_more f b 0, Nat.mul_zero, Finset.sum_range_zero, zero_add]

/-- A single block of `b` terms. -/
theorem sum_all (f : ℕ → EReal) (b : ℕ) : ∑ x : Fin b, f (b * 0 + x.val) = ∑ t ∈ Finset.range b, f t := by
  rw [sum_first, Nat.zero_add, Nat.mul_one]

/-- Every index of a matrix is a row and a column. -/
theorem ix2_surj {m n : ℕ} (j : (⟨2, ![m, n]⟩ : Shape).Idx) : ∃ (t : Fin m) (k : Fin n), j = ix2 t k :=
  ⟨j 0, j 1, funext fun a => by match a with | ⟨0, _⟩ => rfl | ⟨1, _⟩ => rfl⟩

end Cert.Prod
end
-- ==== Proof.Prod.DwDown.lean ====
module
public import proofs.«01_k».proof.Defs
public import proofs.«01_k».proof.Proof.Gen.DwDown
public import proofs.«01_k».proof.Proof.Gen.DwDown.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DwDown`: its result is one product of matrices, element by element that of its reference. -/

namespace Cert.Prod.DwDown

open Idealize.ShloMosaic Idealize.ShloMosaic.TcCoe Idealize.SL.Sem Cert.DwDownIdeal Cert.DwDownIdeal.Gen Cert.FfnAct
open Idealize.ShloMosaic.Pipeline (Dat)

/-- The product of the two blocks that a point reads. -/
theorem block_at (x0 : Vec Ideal S2048x1408 .bf16) (x1 : Vec Ideal S2048x1024 .bf16) (r : Fin 1408) (k : Fin 1024) :
    (k0_pay1 x0 x1 : S1408x1024.Idx → EReal) (ix2 r k)
      = ∑ q : Fin 2048, (x0 : S2048x1408.Idx → EReal) (ix2 q r) * (x1 : S2048x1024.Idx → EReal) (ix2 q k) := by
  pointwise [k0_pay1]

section point
variable (c : Dev nD) (i : grid0.Coords) (arg3 : Memref sig .tc .vmem S2048x1408 .bf16) (harg3 : arg3.IsWhole) (arg4 : Memref sig .tc .vmem S2048x1024 .bf16) (harg4 : arg4.IsWhole)
  (arg5 : Memref sig .tc .vmem S1408x1024 .f32) (harg5 : arg5.IsWhole) (arg6 : Memref sig .tc .vmem S1408x1024 .f32) (harg6 : arg6.IsWhole)
  (x0 : Vec Ideal S2048x1408 .bf16) (x1 : Vec Ideal S2048x1024 .bf16) (xs : Vec Ideal S1408x1024 .f32)

/-- The first inner block puts its product in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_junk_eq_canon]
  unfold kernelRun0_A
  dsimp only
  sl_unfold_run_names
  simp only [View.readAt_eq_ld, Memref.IsWhole.read_unread]
  rw [View.canon_unit_zero (S := S1408x1024) (funext fun a => by fin_cases a <;> rfl)]
  repeat rw [View.ld_unit_zero (S := S2048x1408) (funext fun a => by fin_cases a <;> rfl)]
  repeat rw [View.ld_unit_zero (S := S2048x1024) (funext fun a => by fin_cases a <;> rfl)]

/-- A later inner block adds its product to the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_junk_eq_canon]
  unfold kernelRun0_B
  dsimp only
  sl_unfold_run_names
  simp only [View.readAt_eq_ld, Memref.IsWhole.read_unread]
  rw [View.canon_unit_zero (S := S1408x1024) (funext fun a => by fin_cases a <;> rfl)]
  repeat rw [View.ld_unit_zero (S := S2048x1408) (funext fun a => by fin_cases a <;> rfl)]
  repeat rw [View.ld_unit_zero (S := S2048x1024) (funext fun a => by fin_cases a <;> rfl)]
  repeat rw [View.ld_unit_zero (S := S1408x1024) (funext fun a => by fin_cases a <;> rfl)]

/-- The last inner block adds its product to the accumulator. -/
theorem acc_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0
  rw [View.read_writes_junk_eq_canon]
  unfold kernelRun0_C
  dsimp only
  sl_unfold_run_names
  simp only [View.readAt_eq_ld, Memref.IsWhole.read_unread]
  rw [View.canon_unit_zero (S := S1408x1024) (funext fun a => by fin_cases a <;> rfl)]
  repeat rw [View.ld_unit_zero (S := S2048x1408) (funext fun a => by fin_cases a <;> rfl)]
  repeat rw [View.ld_unit_zero (S := S2048x1024) (funext fun a => by fin_cases a <;> rfl)]
  repeat rw [View.ld_unit_zero (S := S1408x1024) (funext fun a => by fin_cases a <;> rfl)]

/-- The last inner block leaves the accumulator in the block of the result. -/
theorem out_eq (hc0 : ¬cond0_0 i) (hc1 : cond0_1 i) (hc2 : cond0_2 i) :
    (out0_C_2 c i arg3 harg3 arg4 harg4 arg5 harg5 arg6 harg6 hc0 hc1 hc2 x0 x1 xs : S1408x1024.Idx → EReal) = (k0_pay3 x0 x1 xs : S1408x1024.Idx → EReal) := by
  unfold out0_C_2
  rw [View.read_writes_junk_eq_canon]
  unfold kernelRun0_C
  dsimp only
  sl_unfold_words
  simp (disch := decide) only [View.readAt_eq_ld, Memref.IsWhole.read_unread, View.readCov_skip, View.readCov_fill]
  rw [View.canon_unit_zero (S := S1408x1024) (funext fun a => by fin_cases a <;> rfl)]
  repeat rw [View.ld_unit_zero (S := S2048x1408) (funext fun a => by fin_cases a <;> rfl)]
  repeat rw [View.ld_unit_zero (S := S2048x1024) (funext fun a => by fin_cases a <;> rfl)]
  repeat rw [View.ld_unit_zero (S := S1408x1024) (funext fun a => by fin_cases a <;> rfl)]

end point

variable (m : (ℓ : Loc nD τ sig) → Buf (Elt Ideal) ℓ) (c : Dev nD)

/-- The two factors, as the launch finds them. -/
abbrev lhs : S16384x2816.Idx → EReal := V m c main_arg0
abbrev rhs : S16384x1024.Idx → EReal := V m c main_arg1

theorem idx0 : ∀ t : Fin grid0.N, win0_0.index t 0 = t.val % 8 ∧ win0_0.index t 1 = t.val / 8 := by decide +kernel

/-- The block of the left factor at point `t`. -/
theorem blk0_at (t : Fin cfg0.N) (r : Fin 2048) (k : Fin 1408) :
    (iblk m c 0 t : S2048x1408.Idx → EReal) (ix2 r k)
      = at2 (lhs m c) (2048 * (t.val % 8) + r.val) (1408 * (t.val / 8) + k.val) := by
  have hN : t.val < 16 := lt_of_lt_of_eq t.isLt N_0
  have hi := idx0 t
  rw [at2_lt _ (t := 2048 * (t.val % 8) + r.val) (k := 1408 * (t.val / 8) + k.val) (by omega) (by omega)]
  unfold iblk
  rw [View.read_apply]
  refine congrArg (lhs m c) (funext fun a => Fin.ext ?_)
  match a with
  | ⟨0, _⟩ => show win0_0.index t 0 * 2048 + 1 * r.val = 2048 * (t.val % 8) + r.val; rw [hi.1]; omega
  | ⟨1, _⟩ => show win0_0.index t 1 * 1408 + 1 * k.val = 1408 * (t.val / 8) + k.val; rw [hi.2]; omega

theorem idx1 : ∀ t : Fin grid0.N, win0_1.index t 0 = t.val % 8 ∧ win0_1.index t 1 = t.val / 8 % 1 := by decide +kernel

/-- The block of the right factor at point `t`. -/
theorem blk1_at (t : Fin cfg0.N) (r : Fin 2048) (k : Fin 1024) :
    (iblk m c 1 t : S2048x1024.Idx → EReal) (ix2 r k)
      = at2 (rhs m c) (2048 * (t.val % 8) + r.val) (1024 * (t.val / 8 % 1) + k.val) := by
  have hN : t.val < 16 := lt_of_lt_of_eq t.isLt N_0
  have hi := idx1 t
  rw [at2_lt _ (t := 2048 * (t.val % 8) + r.val) (k := 1024 * (t.val / 8 % 1) + k.val) (by omega) (by omega)]
  unfold iblk
  rw [View.read_apply]
  refine congrArg (rhs m c) (funext fun a => Fin.ext ?_)
  match a with
  | ⟨0, _⟩ => show win0_1.index t 0 * 2048 + 1 * r.val = 2048 * (t.val % 8) + r.val; rw [hi.1]; omega
  | ⟨1, _⟩ => show win0_1.index t 1 * 1024 + 1 * k.val = 1024 * (t.val / 8 % 1) + k.val; rw [hi.2]; omega

/-- The products that make element `(i, j)` of the result. -/
def pr (i j q : ℕ) : EReal := at2 (lhs m c) q i * at2 (rhs m c) q j

/-- The product of the blocks at point `t`, by elements of the factors. -/
theorem part_at (t : Fin cfg0.N) (r : Fin 1408) (k : Fin 1024) :
    (k0_pay1 (iblk m c 0 t) (iblk m c 1 t) : S1408x1024.Idx → EReal) (ix2 r k)
      = ∑ q : Fin 2048, pr m c (1408 * (t.val / 8) + r.val) (1024 * (t.val / 8 % 1) + k.val) (2048 * (t.val % 8) + q.val) :=
  (block_at _ _ r k).trans (Finset.sum_congr rfl fun q _ => congrArg₂ (· * ·) (blk0_at m c t q r) (blk1_at m c t q k))

/-- The result: every element of the product. -/
def res : S2816x1024.Idx → EReal := fun j => tn 16384 (lhs m c) (rhs m c) (j 0).val (j 1).val

/-- Adding a point's product to an accumulator. -/
theorem add_at (xs : Vec Ideal S1408x1024 .f32) (x0 : Vec Ideal S2048x1408 .bf16) (x1 : Vec Ideal S2048x1024 .bf16) (r : Fin 1408) (k : Fin 1024) :
    (k0_pay3 x0 x1 xs : S1408x1024.Idx → EReal) (ix2 r k)
      = (xs : S1408x1024.Idx → EReal) (ix2 r k) + (k0_pay1 x0 x1 : S1408x1024.Idx → EReal) (ix2 r k) := by
  unfold k0_pay3
  generalize k0_pay1 x0 x1 = y
  pointwise []

theorem first_at (x0 : Vec Ideal S2048x1408 .bf16) (x1 : Vec Ideal S2048x1024 .bf16) (r : Fin 1408) (k : Fin 1024) :
    (k0_pay2 x0 x1 : S1408x1024.Idx → EReal) (ix2 r k) = (k0_pay1 x0 x1 : S1408x1024.Idx → EReal) (ix2 r k) := by
  unfold k0_pay2
  generalize k0_pay1 x0 x1 = y
  pointwise []

/-- A point's product, added to the inner blocks before it. -/
theorem sum_step (n : ℕ) (h : n + 1 < cfg0.N) (h0 : ¬(n + 1) % 8 = 0) (xs : Vec Ideal S1408x1024 .f32) (r : Fin 1408) (k : Fin 1024)
    (hx : (xs : S1408x1024.Idx → EReal) (ix2 r k) = ∑ q ∈ Finset.range (2048 * (n % 8 + 1)), pr m c (1408 * (n / 8) + r.val) (1024 * (n / 8 % 1) + k.val) q) :
    (k0_pay3 (iblk m c 0 ⟨n + 1, h⟩) (iblk m c 1 ⟨n + 1, h⟩) xs : S1408x1024.Idx → EReal) (ix2 r k)
      = ∑ q ∈ Finset.range (2048 * ((n + 1) % 8 + 1)), pr m c (1408 * ((n + 1) / 8) + r.val) (1024 * ((n + 1) / 8 % 1) + k.val) q := by
  rw [add_at, part_at, hx, ← sum_more _ 2048 ((n + 1) % 8)]
  dsimp only
  rw [show (n + 1) / 8 = n / 8 from by omega,  show (n + 1) % 8 = n % 8 + 1 from by omega]

/-- After point `n` the accumulator holds the sum over the inner blocks seen so far. -/
theorem acc_after : ∀ (n : ℕ) (h : n < cfg0.N) (r : Fin 1408) (k : Fin 1024),
    ((outsAt0 m c n h).2 : S1408x1024.Idx → EReal) (ix2 r k)
      = ∑ q ∈ Finset.range (2048 * (n % 8 + 1)), pr m c (1408 * (n / 8) + r.val) (1024 * (n / 8 % 1) + k.val) q
  | 0, h, r, k => by
    rw [outsAt0_A m c ⟨0, h⟩ (by dsimp only) (by dsimp only; omega) (by dsimp only; omega)]
    dsimp only
    rw [acc_A, first_at, part_at]
    exact sum_first (pr m c (1408 * (0 / 8) + r.val) (1024 * (0 / 8 % 1) + k.val)) 2048
  | n + 1, h, r, k => by
    by_cases h0 : (n + 1) % 8 = 0
    · rw [outsAt0_A m c ⟨n + 1, h⟩ h0 (by dsimp only; omega) (by dsimp only; omega)]
      dsimp only
      rw [acc_A, first_at, part_at]
      dsimp only
      rw [h0]
      exact sum_first (pr m c (1408 * ((n + 1) / 8) + r.val) (1024 * ((n + 1) / 8 % 1) + k.val)) 2048
    have step := sum_step m c n h h0 _ r k (acc_after n (by omega) r k)
    by_cases h7 : (n + 1) % 8 = 7
    · rw [outsAt0_C m c ⟨n + 1, h⟩ h0 (by dsimp only; omega) h7]
      dsimp only
      rw [acc_C]
      exact step
    · rw [outsAt0_B m c ⟨n + 1, h⟩ h0 (by dsimp only; omega) h7]
      dsimp only
      rw [acc_B]
      exact step

theorem out_at (t : Fin cfg0.N) (ht : t.val % 8 = 7) (r : Fin 1408) (k : Fin 1024) :
    ((outsAt0 m c t.val t.isLt).1 : S1408x1024.Idx → EReal) (ix2 r k)
      = tn 16384 (lhs m c) (rhs m c) (1408 * (t.val / 8) + r.val) (1024 * (t.val / 8 % 1) + k.val) := by
  obtain ⟨t, h⟩ := t
  cases t with
  | zero => exfalso; dsimp only at ht; omega
  | succ n =>
    dsimp only at ht ⊢
    rw [outsAt0_C m c ⟨n + 1, h⟩ (by dsimp only; omega) (by dsimp only; omega) ht]
    dsimp only
    rw [out_eq]
    refine (sum_step m c n h (by omega) _ r k (acc_after m c n (by omega) r k)).trans ?_
    rw [ht]
    rfl

theorem idx2 : ∀ t : Fin grid0.N, win0_2.index t 0 = t.val / 8 ∧ win0_2.index t 1 = t.val / 8 % 1 := by decide +kernel

attribute [local irreducible] tn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1408) (n := 1024) j
  refine (out_at m c t ((flush0_2 t).mp hf) r k).trans ?_
  have hi := idx2 t
  refine congrArg₂ (tn 16384 (lhs m c) (rhs m c)) ?_ ?_
  · show _ = win0_2.index t 0 * 1408 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 2816 := (i 0).isLt
    have h1 : (i 1 : Nat) < 1024 := (i 1).isLt
    let t : Fin cfg0.N := ⟨8 * (1 * ((i 0).val / 1408) + (i 1).val / 1024) + 7, lt_of_lt_of_eq (by omega : _ < 16) N_0.symm⟩
    have hi := idx2 t
    refine ⟨t, (flush0_2 t).mpr (by dsimp only [t]; omega), ?_⟩
    show i ∈ ((View.whole main_v0).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + 1408
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x2816.Idx → EReal := m ((c : Thread nD τ).loc main_arg0)
abbrev arg1 : S16384x1024.Idx → EReal := m ((c : Thread nD τ).loc main_arg1)

/-- The result, by elements of the arguments. -/
theorem res_at (t : Fin 2816) (k : Fin 1024) : res m c (ix2 t k)
    = ∑ q : Fin 16384, arg0 m c (ix2 q t) * arg1 m c (ix2 q k) := by
  show tn 16384 (lhs m c) (rhs m c) t.val k.val = _
  unfold tn
  rw [Finset.sum_range]
  refine Finset.sum_congr rfl fun q _ => ?_
  refine (congrArg₂ (· * ·) (at2_ix (lhs m c) q t) (at2_ix (rhs m c) q k)).trans ?_
  exact congrArg₂ (· * ·) (congrFun (V_main_arg0 m c) (ix2 q t)) (congrFun (V_main_arg1 m c) (ix2 q k))

/-- The reference's result, by elements of the arguments. -/
theorem ref_at (x0 : S16384x2816.Idx → EReal) (x1 : S16384x1024.Idx → EReal) (t : Fin 2816) (k : Fin 1024) :
    (Cert.DwDownRefIdeal.Read.val_main_v5 (F := Ideal) x0 x1 : S2816x1024.Idx → EReal) (ix2 t k)
      = ∑ q : Fin 16384, x0 (ix2 q t) * x1 (ix2 q k) := by
  pointwise [Cert.DwDownRefIdeal.Read.val_main_cst, Cert.DwDownRefIdeal.Read.val_main_v0, Cert.DwDownRefIdeal.Read.val_main_v1, Cert.DwDownRefIdeal.Read.val_main_v2, Cert.DwDownRefIdeal.Read.val_main_v3, Cert.DwDownRefIdeal.Read.val_main_v4, Cert.DwDownRefIdeal.Read.val_main_v5, Cert.DwDownRefIdeal.Read.val_main_v6]
  exact Finset.sum_congr rfl fun q _ => mul_comm _ _

/-- The reference runs, leaves its arguments and ends with every counter at zero: it has no semaphores. -/
theorem referenceFrame : Cert.quiescent_DwDownRefIdeal (hDwDownRefIdeal := Cert.DwDownRefIdeal.Gen.facts) :=
  fun m ρ _ => (θ_run Cert.DwDownRefIdeal.defs _ _).mono (fun r h => And.intro (fun c => (h c).2)
      (Idealize.ShloMosaic.sem_eq_zero_of_no_sems (by decide) r.2))
    (Cert.DwDownRefIdeal.Value.run (F := Ideal) m ρ)

/-- The program and its reference give the same result, element by element. -/
theorem values : Cert.algebraic_DwDownIdeal_DwDownRefIdeal (hDwDownIdeal := Cert.DwDownIdeal.Gen.facts)
    (hDwDownRefIdeal := Cert.DwDownRefIdeal.Gen.facts) := by
  intro m g m' g' _ hargs
  refine ⟨fun c => res m c, ?_, ?_⟩
  · refine (θ_run Cert.DwDownIdeal.defs _ _).mono (fun r h c => ?_) (Cert.DwDownIdeal.Value.run_blocks m g)
    obtain ⟨h0, h1⟩ := h c
    exact ⟨h0.trans (final m c), h1⟩
  · refine (θ_run Cert.DwDownRefIdeal.defs _ _).mono (fun r h c => ?_) (Cert.DwDownRefIdeal.Value.run m' g')
    obtain ⟨h0, h1⟩ := h c
    obtain ⟨a0, a1⟩ := hargs c
    refine ⟨h0.trans ?_, h1⟩
    rw [Cert.DwDownRefIdeal.Read.val_main_v5_eq, a0, a1]
    funext j
    obtain ⟨t, k, rfl⟩ := ix2_surj (m := 2816) (n := 1024) j
    exact (ref_at _ _ t k).trans (res_at m c t k).symm

end Cert.Prod.DwDown
end
-- ==== Proof.Prod.DAct.lean ====
module
public import proofs.«01_k».proof.Defs
public import proofs.«01_k».proof.Proof.Gen.DAct
public import proofs.«01_k».proof.Proof.Gen.DAct.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DActRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DAct`: its result is one product of matrices, element by element that of its reference. -/

namespace Cert.Prod.DAct

open Idealize.ShloMosaic Idealize.ShloMosaic.TcCoe Idealize.SL.Sem Cert.DActIdeal Cert.DActIdeal.Gen Cert.FfnAct
open Idealize.ShloMosaic.Pipeline (Dat)

/-- The product of the two blocks that a point reads. -/
theorem block_at (x0 : Vec Ideal S1024x1024 .bf16) (x1 : Vec Ideal S1024x1408 .bf16) (r : Fin 1024) (k : Fin 1408) :
    (k0_pay1 x0 x1 : S1024x1408.Idx → EReal) (ix2 r k)
      = ∑ q : Fin 1024, (x0 : S1024x1024.Idx → EReal) (ix2 r q) * (x1 : S1024x1408.Idx → EReal) (ix2 q k) := by
  pointwise [k0_pay1]

/-- What a point leaves in its block of the result is that product. -/
theorem out_eq (x0 : Vec Ideal S1024x1024 .bf16) (x1 : Vec Ideal S1024x1408 .bf16) : out0_2 x0 x1 = k0_pay1 x0 x1 := by
  unfold out0_2
  rw [View.canon_unit_zero (S := S1024x1408) (funext fun a => by fin_cases a <;> rfl)]
  repeat rw [View.ld_unit_zero (S := S1024x1024) (funext fun a => by fin_cases a <;> rfl)]
  repeat rw [View.ld_unit_zero (S := S1024x1408) (funext fun a => by fin_cases a <;> rfl)]

variable (m : (ℓ : Loc nD τ sig) → Buf (Elt Ideal) ℓ) (c : Dev nD)

/-- The two factors, as the launch finds them. -/
abbrev lhs : S16384x1024.Idx → EReal := V m c main_arg1
abbrev rhs : S1024x2816.Idx → EReal := V m c main_v0

theorem idx0 : ∀ t : Fin grid0.N, win0_0.index t 0 = t.val / 2 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 2) + r.val) (1024 * (t.val % 1) + k.val) := by
  have hN : t.val < 32 := lt_of_lt_of_eq t.isLt N_0
  have hi := idx0 t
  rw [at2_lt _ (t := 1024 * (t.val / 2) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 2) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 2 := by decide +kernel

/-- The block of the right factor at point `t`. -/
theorem blk1_at (t : Fin cfg0.N) (r : Fin 1024) (k : Fin 1408) :
    (iblk m c 1 t : S1024x1408.Idx → EReal) (ix2 r k)
      = at2 (rhs m c) (1024 * (t.val % 1) + r.val) (1408 * (t.val / 1 % 2) + k.val) := by
  have hN : t.val < 32 := lt_of_lt_of_eq t.isLt N_0
  have hi := idx1 t
  rw [at2_lt _ (t := 1024 * (t.val % 1) + r.val) (k := 1408 * (t.val / 1 % 2) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 1408 + 1 * k.val = 1408 * (t.val / 1 % 2) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1408) :
    (k0_pay1 (iblk m c 0 t) (iblk m c 1 t) : S1024x1408.Idx → EReal) (ix2 r k)
      = ∑ q : Fin 1024, pr m c (1024 * (t.val / 2) + r.val) (1408 * (t.val / 1 % 2) + k.val) (1024 * (t.val % 1) + q.val) :=
  (block_at _ _ r k).trans (Finset.sum_congr rfl fun q _ => congrArg₂ (· * ·) (blk0_at m c t r q) (blk1_at m c t q k))

/-- The result: every element of the product. -/
def res : S16384x2816.Idx → EReal := fun j => nn 1024 (lhs m c) (rhs m c) (j 0).val (j 1).val

theorem out_at (t : Fin cfg0.N) (r : Fin 1024) (k : Fin 1408) :
    (out0_2 (iblk m c 0 t) (iblk m c 1 t) : S1024x1408.Idx → EReal) (ix2 r k)
      = nn 1024 (lhs m c) (rhs m c) (1024 * (t.val / 2) + r.val) (1408 * (t.val / 1 % 2) + k.val) := by
  rw [out_eq, part_at]
  unfold nn
  rw [show t.val % 1 = 0 from Nat.mod_one _]
  exact sum_all (pr m c (1024 * (t.val / 2) + r.val) (1408 * (t.val / 1 % 2) + k.val)) 1024

theorem idx2 : ∀ t : Fin grid0.N, win0_2.index t 0 = t.val / 2 ∧ win0_2.index t 1 = t.val / 1 % 2 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1408) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 1408 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 2816 := (i 1).isLt
    let t : Fin cfg0.N := ⟨2 * ((i 0).val / 1024) + (i 1).val / 1408, lt_of_lt_of_eq (by omega : _ < 32) N_0.symm⟩
    have hi := idx2 t
    refine ⟨t, flush0_2 t, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1408 ≤ (i 1 : Nat) ∧ (i 1 : Nat) < win0_2.index t 1 * 1408 + 1408
                rw [hi.2]; dsimp only [t]; omega

/-- The right factor is the transposed weight. -/
theorem rhs_at (q : Fin 1024) (k : Fin 2816) : rhs m c (ix2 q k) = (m ((c : Thread nD τ).loc main_arg0) : S2816x1024.Idx → EReal) (ix2 k q) := by
  unfold rhs
  unfold_abbrev_sides
  after_results
  pointwise []

/-- The two arguments. -/
abbrev arg0 : S2816x1024.Idx → EReal := m ((c : Thread nD τ).loc main_arg0)
abbrev arg1 : S16384x1024.Idx → EReal := m ((c : Thread nD τ).loc main_arg1)

/-- The result, by elements of the arguments. -/
theorem res_at (t : Fin 16384) (k : Fin 2816) : res m c (ix2 t k)
    = ∑ q : Fin 1024, arg1 m c (ix2 t q) * arg0 m c (ix2 k q) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg1 m c) (ix2 t q)) (rhs_at m c q k)

/-- The reference's result, by elements of the arguments. -/
theorem ref_at (x0 : S2816x1024.Idx → EReal) (x1 : S16384x1024.Idx → EReal) (t : Fin 16384) (k : Fin 2816) :
    (Cert.DActRefIdeal.Read.val_main_v7 (F := Ideal) x0 x1 : S16384x2816.Idx → EReal) (ix2 t k)
      = ∑ q : Fin 1024, x1 (ix2 t q) * x0 (ix2 k q) := by
  pointwise [Cert.DActRefIdeal.Read.val_main_cst, Cert.DActRefIdeal.Read.val_main_v0, Cert.DActRefIdeal.Read.val_main_v1, Cert.DActRefIdeal.Read.val_main_v2, Cert.DActRefIdeal.Read.val_main_v3, Cert.DActRefIdeal.Read.val_main_v4, Cert.DActRefIdeal.Read.val_main_v5, Cert.DActRefIdeal.Read.val_main_v6, Cert.DActRefIdeal.Read.val_main_v7]

/-- The reference runs, leaves its arguments and ends with every counter at zero: it has no semaphores. -/
theorem referenceFrame : Cert.quiescent_DActRefIdeal (hDActRefIdeal := Cert.DActRefIdeal.Gen.facts) :=
  fun m ρ _ => (θ_run Cert.DActRefIdeal.defs _ _).mono (fun r h => And.intro (fun c => (h c).2)
      (Idealize.ShloMosaic.sem_eq_zero_of_no_sems (by decide) r.2))
    (Cert.DActRefIdeal.Value.run (F := Ideal) m ρ)

/-- The program and its reference give the same result, element by element. -/
theorem values : Cert.algebraic_DActIdeal_DActRefIdeal (hDActIdeal := Cert.DActIdeal.Gen.facts)
    (hDActRefIdeal := Cert.DActRefIdeal.Gen.facts) := by
  intro m g m' g' _ hargs
  refine ⟨fun c => res m c, ?_, ?_⟩
  · refine (θ_run Cert.DActIdeal.defs _ _).mono (fun r h c => ?_) (Cert.DActIdeal.Value.run_blocks m g)
    obtain ⟨h0, h1⟩ := h c
    exact ⟨h0.trans (final m c), h1⟩
  · refine (θ_run Cert.DActRefIdeal.defs _ _).mono (fun r h c => ?_) (Cert.DActRefIdeal.Value.run m' g')
    obtain ⟨h0, h1⟩ := h c
    obtain ⟨a0, a1⟩ := hargs c
    refine ⟨h0.trans ?_, h1⟩
    rw [Cert.DActRefIdeal.Read.val_main_v7_eq, a0, a1]
    funext j
    obtain ⟨t, k, rfl⟩ := ix2_surj (m := 16384) (n := 2816) j
    exact (ref_at _ _ t k).trans (res_at m c t k).symm

end Cert.Prod.DAct
end
-- ==== Proof.Prod.DwUp.lean ====
module
public import proofs.«01_k».proof.Defs
public import proofs.«01_k».proof.Proof.Gen.DwUp
public import proofs.«01_k».proof.Proof.Gen.DwUp.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DwUp`: its result is one product of matrices, element by element that of its reference. -/

namespace Cert.Prod.DwUp

open Idealize.ShloMosaic Idealize.ShloMosaic.TcCoe Idealize.SL.Sem Cert.DwUpIdeal Cert.DwUpIdeal.Gen Cert.FfnAct
open Idealize.ShloMosaic.Pipeline (Dat)

/-- The product of the two blocks that a point reads. -/
theorem block_at (x0 : Vec Ideal S2048x1024 .bf16) (x1 : Vec Ideal S2048x1408 .bf16) (r : Fin 1024) (k : Fin 1408) :
    (k0_pay1 x0 x1 : S1024x1408.Idx → EReal) (ix2 r k)
      = ∑ q : Fin 2048, (x0 : S2048x1024.Idx → EReal) (ix2 q r) * (x1 : S2048x1408.Idx → EReal) (ix2 q k) := by
  pointwise [k0_pay1]

section point
variable (c : Dev nD) (i : grid0.Coords) (arg3 : Memref sig .tc .vmem S2048x1024 .bf16) (harg3 : arg3.IsWhole) (arg4 : Memref sig .tc .vmem S2048x1408 .bf16) (harg4 : arg4.IsWhole)
  (arg5 : Memref sig .tc .vmem S1024x1408 .f32) (harg5 : arg5.IsWhole) (arg6 : Memref sig .tc .vmem S1024x1408 .f32) (harg6 : arg6.IsWhole)
  (x0 : Vec Ideal S2048x1024 .bf16) (x1 : Vec Ideal S2048x1408 .bf16) (xs : Vec Ideal S1024x1408 .f32)

/-- The first inner block puts its product in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_junk_eq_canon]
  unfold kernelRun0_A
  dsimp only
  sl_unfold_run_names
  simp only [View.readAt_eq_ld, Memref.IsWhole.read_unread]
  rw [View.canon_unit_zero (S := S1024x1408) (funext fun a => by fin_cases a <;> rfl)]
  repeat rw [View.ld_unit_zero (S := S2048x1024) (funext fun a => by fin_cases a <;> rfl)]
  repeat rw [View.ld_unit_zero (S := S2048x1408) (funext fun a => by fin_cases a <;> rfl)]

/-- A later inner block adds its product to the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_junk_eq_canon]
  unfold kernelRun0_B
  dsimp only
  sl_unfold_run_names
  simp only [View.readAt_eq_ld, Memref.IsWhole.read_unread]
  rw [View.canon_unit_zero (S := S1024x1408) (funext fun a => by fin_cases a <;> rfl)]
  repeat rw [View.ld_unit_zero (S := S2048x1024) (funext fun a => by fin_cases a <;> rfl)]
  repeat rw [View.ld_unit_zero (S := S2048x1408) (funext fun a => by fin_cases a <;> rfl)]
  repeat rw [View.ld_unit_zero (S := S1024x1408) (funext fun a => by fin_cases a <;> rfl)]

/-- The last inner block adds its product to the accumulator. -/
theorem acc_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0
  rw [View.read_writes_junk_eq_canon]
  unfold kernelRun0_C
  dsimp only
  sl_unfold_run_names
  simp only [View.readAt_eq_ld, Memref.IsWhole.read_unread]
  rw [View.canon_unit_zero (S := S1024x1408) (funext fun a => by fin_cases a <;> rfl)]
  repeat rw [View.ld_unit_zero (S := S2048x1024) (funext fun a => by fin_cases a <;> rfl)]
  repeat rw [View.ld_unit_zero (S := S2048x1408) (funext fun a => by fin_cases a <;> rfl)]
  repeat rw [View.ld_unit_zero (S := S1024x1408) (funext fun a => by fin_cases a <;> rfl)]

/-- The last inner block leaves the accumulator in the block of the result. -/
theorem out_eq (hc0 : ¬cond0_0 i) (hc1 : cond0_1 i) (hc2 : cond0_2 i) :
    (out0_C_2 c i arg3 harg3 arg4 harg4 arg5 harg5 arg6 harg6 hc0 hc1 hc2 x0 x1 xs : S1024x1408.Idx → EReal) = (k0_pay3 x0 x1 xs : S1024x1408.Idx → EReal) := by
  unfold out0_C_2
  rw [View.read_writes_junk_eq_canon]
  unfold kernelRun0_C
  dsimp only
  sl_unfold_words
  simp (disch := decide) only [View.readAt_eq_ld, Memref.IsWhole.read_unread, View.readCov_skip, View.readCov_fill]
  rw [View.canon_unit_zero (S := S1024x1408) (funext fun a => by fin_cases a <;> rfl)]
  repeat rw [View.ld_unit_zero (S := S2048x1024) (funext fun a => by fin_cases a <;> rfl)]
  repeat rw [View.ld_unit_zero (S := S2048x1408) (funext fun a => by fin_cases a <;> rfl)]
  repeat rw [View.ld_unit_zero (S := S1024x1408) (funext fun a => by fin_cases a <;> rfl)]

end point

variable (m : (ℓ : Loc nD τ sig) → Buf (Elt Ideal) ℓ) (c : Dev nD)

/-- The two factors, as the launch finds them. -/
abbrev lhs : S16384x1024.Idx → EReal := V m c main_arg0
abbrev rhs : S16384x5632.Idx → EReal := V m c main_arg1

theorem idx0 : ∀ t : Fin grid0.N, win0_0.index t 0 = t.val % 8 ∧ win0_0.index t 1 = t.val / 32 := by decide +kernel

/-- The block of the left factor at point `t`. -/
theorem blk0_at (t : Fin cfg0.N) (r : Fin 2048) (k : Fin 1024) :
    (iblk m c 0 t : S2048x1024.Idx → EReal) (ix2 r k)
      = at2 (lhs m c) (2048 * (t.val % 8) + r.val) (1024 * (t.val / 32) + k.val) := by
  have hN : t.val < 32 := lt_of_lt_of_eq t.isLt N_0
  have hi := idx0 t
  rw [at2_lt _ (t := 2048 * (t.val % 8) + r.val) (k := 1024 * (t.val / 32) + k.val) (by omega) (by omega)]
  unfold iblk
  rw [View.read_apply]
  refine congrArg (lhs m c) (funext fun a => Fin.ext ?_)
  match a with
  | ⟨0, _⟩ => show win0_0.index t 0 * 2048 + 1 * r.val = 2048 * (t.val % 8) + r.val; rw [hi.1]; omega
  | ⟨1, _⟩ => show win0_0.index t 1 * 1024 + 1 * k.val = 1024 * (t.val / 32) + k.val; rw [hi.2]; omega

theorem idx1 : ∀ t : Fin grid0.N, win0_1.index t 0 = t.val % 8 ∧ win0_1.index t 1 = t.val / 8 % 4 := by decide +kernel

/-- The block of the right factor at point `t`. -/
theorem blk1_at (t : Fin cfg0.N) (r : Fin 2048) (k : Fin 1408) :
    (iblk m c 1 t : S2048x1408.Idx → EReal) (ix2 r k)
      = at2 (rhs m c) (2048 * (t.val % 8) + r.val) (1408 * (t.val / 8 % 4) + k.val) := by
  have hN : t.val < 32 := lt_of_lt_of_eq t.isLt N_0
  have hi := idx1 t
  rw [at2_lt _ (t := 2048 * (t.val % 8) + r.val) (k := 1408 * (t.val / 8 % 4) + k.val) (by omega) (by omega)]
  unfold iblk
  rw [View.read_apply]
  refine congrArg (rhs m c) (funext fun a => Fin.ext ?_)
  match a with
  | ⟨0, _⟩ => show win0_1.index t 0 * 2048 + 1 * r.val = 2048 * (t.val % 8) + r.val; rw [hi.1]; omega
  | ⟨1, _⟩ => show win0_1.index t 1 * 1408 + 1 * k.val = 1408 * (t.val / 8 % 4) + k.val; rw [hi.2]; omega

/-- The products that make element `(i, j)` of the result. -/
def pr (i j q : ℕ) : EReal := at2 (lhs m c) q i * at2 (rhs m c) q j

/-- The product of the blocks at point `t`, by elements of the factors. -/
theorem part_at (t : Fin cfg0.N) (r : Fin 1024) (k : Fin 1408) :
    (k0_pay1 (iblk m c 0 t) (iblk m c 1 t) : S1024x1408.Idx → EReal) (ix2 r k)
      = ∑ q : Fin 2048, pr m c (1024 * (t.val / 32) + r.val) (1408 * (t.val / 8 % 4) + k.val) (2048 * (t.val % 8) + q.val) :=
  (block_at _ _ r k).trans (Finset.sum_congr rfl fun q _ => congrArg₂ (· * ·) (blk0_at m c t q r) (blk1_at m c t q k))

/-- The result: every element of the product. -/
def res : S1024x5632.Idx → EReal := fun j => tn 16384 (lhs m c) (rhs m c) (j 0).val (j 1).val

/-- Adding a point's product to an accumulator. -/
theorem add_at (xs : Vec Ideal S1024x1408 .f32) (x0 : Vec Ideal S2048x1024 .bf16) (x1 : Vec Ideal S2048x1408 .bf16) (r : Fin 1024) (k : Fin 1408) :
    (k0_pay3 x0 x1 xs : S1024x1408.Idx → EReal) (ix2 r k)
      = (xs : S1024x1408.Idx → EReal) (ix2 r k) + (k0_pay1 x0 x1 : S1024x1408.Idx → EReal) (ix2 r k) := by
  unfold k0_pay3
  generalize k0_pay1 x0 x1 = y
  pointwise []

theorem first_at (x0 : Vec Ideal S2048x1024 .bf16) (x1 : Vec Ideal S2048x1408 .bf16) (r : Fin 1024) (k : Fin 1408) :
    (k0_pay2 x0 x1 : S1024x1408.Idx → EReal) (ix2 r k) = (k0_pay1 x0 x1 : S1024x1408.Idx → EReal) (ix2 r k) := by
  unfold k0_pay2
  generalize k0_pay1 x0 x1 = y
  pointwise []

/-- A point's product, added to the inner blocks before it. -/
theorem sum_step (n : ℕ) (h : n + 1 < cfg0.N) (h0 : ¬(n + 1) % 8 = 0) (xs : Vec Ideal S1024x1408 .f32) (r : Fin 1024) (k : Fin 1408)
    (hx : (xs : S1024x1408.Idx → EReal) (ix2 r k) = ∑ q ∈ Finset.range (2048 * (n % 8 + 1)), pr m c (1024 * (n / 32) + r.val) (1408 * (n / 8 % 4) + k.val) q) :
    (k0_pay3 (iblk m c 0 ⟨n + 1, h⟩) (iblk m c 1 ⟨n + 1, h⟩) xs : S1024x1408.Idx → EReal) (ix2 r k)
      = ∑ q ∈ Finset.range (2048 * ((n + 1) % 8 + 1)), pr m c (1024 * ((n + 1) / 32) + r.val) (1408 * ((n + 1) / 8 % 4) + k.val) q := by
  rw [add_at, part_at, hx, ← sum_more _ 2048 ((n + 1) % 8)]
  dsimp only
  rw [show (n + 1) / 32 = n / 32 from by omega, show (n + 1) / 8 = n / 8 from by omega, show (n + 1) % 8 = n % 8 + 1 from by omega]

/-- After point `n` the accumulator holds the sum over the inner blocks seen so far. -/
theorem acc_after : ∀ (n : ℕ) (h : n < cfg0.N) (r : Fin 1024) (k : Fin 1408),
    ((outsAt0 m c n h).2 : S1024x1408.Idx → EReal) (ix2 r k)
      = ∑ q ∈ Finset.range (2048 * (n % 8 + 1)), pr m c (1024 * (n / 32) + r.val) (1408 * (n / 8 % 4) + k.val) q
  | 0, h, r, k => by
    rw [outsAt0_A m c ⟨0, h⟩ (by dsimp only) (by dsimp only; omega) (by dsimp only; omega)]
    dsimp only
    rw [acc_A, first_at, part_at]
    exact sum_first (pr m c (1024 * (0 / 32) + r.val) (1408 * (0 / 8 % 4) + k.val)) 2048
  | n + 1, h, r, k => by
    by_cases h0 : (n + 1) % 8 = 0
    · rw [outsAt0_A m c ⟨n + 1, h⟩ h0 (by dsimp only; omega) (by dsimp only; omega)]
      dsimp only
      rw [acc_A, first_at, part_at]
      dsimp only
      rw [h0]
      exact sum_first (pr m c (1024 * ((n + 1) / 32) + r.val) (1408 * ((n + 1) / 8 % 4) + k.val)) 2048
    have step := sum_step m c n h h0 _ r k (acc_after n (by omega) r k)
    by_cases h7 : (n + 1) % 8 = 7
    · rw [outsAt0_C m c ⟨n + 1, h⟩ h0 (by dsimp only; omega) h7]
      dsimp only
      rw [acc_C]
      exact step
    · rw [outsAt0_B m c ⟨n + 1, h⟩ h0 (by dsimp only; omega) h7]
      dsimp only
      rw [acc_B]
      exact step

theorem out_at (t : Fin cfg0.N) (ht : t.val % 8 = 7) (r : Fin 1024) (k : Fin 1408) :
    ((outsAt0 m c t.val t.isLt).1 : S1024x1408.Idx → EReal) (ix2 r k)
      = tn 16384 (lhs m c) (rhs m c) (1024 * (t.val / 32) + r.val) (1408 * (t.val / 8 % 4) + k.val) := by
  obtain ⟨t, h⟩ := t
  cases t with
  | zero => exfalso; dsimp only at ht; omega
  | succ n =>
    dsimp only at ht ⊢
    rw [outsAt0_C m c ⟨n + 1, h⟩ (by dsimp only; omega) (by dsimp only; omega) ht]
    dsimp only
    rw [out_eq]
    refine (sum_step m c n h (by omega) _ r k (acc_after m c n (by omega) r k)).trans ?_
    rw [ht]
    rfl

theorem idx2 : ∀ t : Fin grid0.N, win0_2.index t 0 = t.val / 32 ∧ win0_2.index t 1 = t.val / 8 % 4 := by decide +kernel

attribute [local irreducible] tn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1408) j
  refine (out_at m c t ((flush0_2 t).mp hf) r k).trans ?_
  have hi := idx2 t
  refine congrArg₂ (tn 16384 (lhs m c) (rhs m c)) ?_ ?_
  · show _ = win0_2.index t 0 * 1024 + 1 * r.val; rw [hi.1]; omega
  · show _ = win0_2.index t 1 * 1408 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 1024 := (i 0).isLt
    have h1 : (i 1 : Nat) < 5632 := (i 1).isLt
    let t : Fin cfg0.N := ⟨8 * (4 * ((i 0).val / 1024) + (i 1).val / 1408) + 7, lt_of_lt_of_eq (by omega : _ < 32) N_0.symm⟩
    have hi := idx2 t
    refine ⟨t, (flush0_2 t).mpr (by dsimp only [t]; omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1408 ≤ (i 1 : Nat) ∧ (i 1 : Nat) < win0_2.index t 1 * 1408 + 1408
                rw [hi.2]; dsimp only [t]; omega

/-- The two arguments. -/
abbrev arg0 : S16384x1024.Idx → EReal := m ((c : Thread nD τ).loc main_arg0)
abbrev arg1 : S16384x5632.Idx → EReal := m ((c : Thread nD τ).loc main_arg1)

/-- The result, by elements of the arguments. -/
theorem res_at (t : Fin 1024) (k : Fin 5632) : res m c (ix2 t k)
    = ∑ q : Fin 16384, arg0 m c (ix2 q t) * arg1 m c (ix2 q k) := by
  show tn 16384 (lhs m c) (rhs m c) t.val k.val = _
  unfold tn
  rw [Finset.sum_range]
  refine Finset.sum_congr rfl fun q _ => ?_
  refine (congrArg₂ (· * ·) (at2_ix (lhs m c) q t) (at2_ix (rhs m c) q k)).trans ?_
  exact congrArg₂ (· * ·) (congrFun (V_main_arg0 m c) (ix2 q t)) (congrFun (V_main_arg1 m c) (ix2 q k))

/-- The reference's result, by elements of the arguments. -/
theorem ref_at (x0 : S16384x1024.Idx → EReal) (x1 : S16384x5632.Idx → EReal) (t : Fin 1024) (k : Fin 5632) :
    (Cert.DwUpRefIdeal.Read.val_main_v5 (F := Ideal) x0 x1 : S1024x5632.Idx → EReal) (ix2 t k)
      = ∑ q : Fin 16384, x0 (ix2 q t) * x1 (ix2 q k) := by
  pointwise [Cert.DwUpRefIdeal.Read.val_main_cst, Cert.DwUpRefIdeal.Read.val_main_v0, Cert.DwUpRefIdeal.Read.val_main_v1, Cert.DwUpRefIdeal.Read.val_main_v2, Cert.DwUpRefIdeal.Read.val_main_v3, Cert.DwUpRefIdeal.Read.val_main_v4, Cert.DwUpRefIdeal.Read.val_main_v5, Cert.DwUpRefIdeal.Read.val_main_v6]
  exact Finset.sum_congr rfl fun q _ => mul_comm _ _

/-- The reference runs, leaves its arguments and ends with every counter at zero: it has no semaphores. -/
theorem referenceFrame : Cert.quiescent_DwUpRefIdeal (hDwUpRefIdeal := Cert.DwUpRefIdeal.Gen.facts) :=
  fun m ρ _ => (θ_run Cert.DwUpRefIdeal.defs _ _).mono (fun r h => And.intro (fun c => (h c).2)
      (Idealize.ShloMosaic.sem_eq_zero_of_no_sems (by decide) r.2))
    (Cert.DwUpRefIdeal.Value.run (F := Ideal) m ρ)

/-- The program and its reference give the same result, element by element. -/
theorem values : Cert.algebraic_DwUpIdeal_DwUpRefIdeal (hDwUpIdeal := Cert.DwUpIdeal.Gen.facts)
    (hDwUpRefIdeal := Cert.DwUpRefIdeal.Gen.facts) := by
  intro m g m' g' _ hargs
  refine ⟨fun c => res m c, ?_, ?_⟩
  · refine (θ_run Cert.DwUpIdeal.defs _ _).mono (fun r h c => ?_) (Cert.DwUpIdeal.Value.run_blocks m g)
    obtain ⟨h0, h1⟩ := h c
    exact ⟨h0.trans (final m c), h1⟩
  · refine (θ_run Cert.DwUpRefIdeal.defs _ _).mono (fun r h c => ?_) (Cert.DwUpRefIdeal.Value.run m' g')
    obtain ⟨h0, h1⟩ := h c
    obtain ⟨a0, a1⟩ := hargs c
    refine ⟨h0.trans ?_, h1⟩
    rw [Cert.DwUpRefIdeal.Read.val_main_v5_eq, a0, a1]
    funext j
    obtain ⟨t, k, rfl⟩ := ix2_surj (m := 1024) (n := 5632) j
    exact (ref_at _ _ t k).trans (res_at m c t k).symm

end Cert.Prod.DwUp
end
-- ==== Proof.Prod.DHid.lean ====
module
public import proofs.«01_k».proof.Defs
public import proofs.«01_k».proof.Proof.Gen.DHid
public import proofs.«01_k».proof.Proof.Gen.DHid.Frame
public import proofs.«01_k».proof.Proof.Gen.DHidIdeal.Value
public import proofs.«01_k».proof.Proof.Gen.DHidRefIdeal
public import proofs.«01_k».proof.Proof.Gen.DHidRefIdeal.Run
public import proofs.«01_k».proof.Proof.Gen.DHidRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DHid`: its result is one product of matrices, element by element that of its reference. -/

namespace Cert.Prod.DHid

open Idealize.ShloMosaic Idealize.ShloMosaic.TcCoe Idealize.SL.Sem Cert.DHidIdeal Cert.DHidIdeal.Gen Cert.FfnAct
open Idealize.ShloMosaic.Pipeline (Dat)

/-- The product of the two blocks that a point reads. -/
theorem block_at (x0 : Vec Ideal S1024x2816 .bf16) (x1 : Vec Ideal S2816x1024 .bf16) (r : Fin 1024) (k : Fin 1024) :
    (k0_pay1 x0 x1 : S1024x1024.Idx → EReal) (ix2 r k)
      = ∑ q : Fin 2816, (x0 : S1024x2816.Idx → EReal) (ix2 r q) * (x1 : S2816x1024.Idx → EReal) (ix2 q k) := by
  pointwise [k0_pay1]

section point
variable (c : Dev nD) (i : grid0.Coords) (arg3 : Memref sig .tc .vmem S1024x2816 .bf16) (harg3 : arg3.IsWhole) (arg4 : Memref sig .tc .vmem S2816x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S1024x2816 .bf16) (x1 : Vec Ideal S2816x1024 .bf16) (xs : Vec Ideal S1024x1024 .f32)

/-- The first inner block puts its product in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_junk_eq_canon]
  unfold kernelRun0_A
  dsimp only
  sl_unfold_run_names
  simp only [View.readAt_eq_ld, Memref.IsWhole.read_unread]
  rw [View.canon_unit_zero (S := S1024x1024) (funext fun a => by fin_cases a <;> rfl)]
  repeat rw [View.ld_unit_zero (S := S1024x2816) (funext fun a => by fin_cases a <;> rfl)]
  repeat rw [View.ld_unit_zero (S := S2816x1024) (funext fun a => by fin_cases a <;> rfl)]

/-- The last inner block adds its product to the accumulator. -/
theorem acc_B (hc0 : ¬cond0_0 i) (hc1 : cond0_1 i) (hc2 : cond0_2 i) :
    sout0_B_0 c i arg3 harg3 arg4 harg4 arg5 harg5 arg6 harg6 hc0 hc1 hc2 x0 x1 xs = k0_pay3 x0 x1 xs := by
  unfold sout0_B_0
  rw [View.read_writes_junk_eq_canon]
  unfold kernelRun0_B
  dsimp only
  sl_unfold_run_names
  simp only [View.readAt_eq_ld, Memref.IsWhole.read_unread]
  rw [View.canon_unit_zero (S := S1024x1024) (funext fun a => by fin_cases a <;> rfl)]
  repeat rw [View.ld_unit_zero (S := S1024x2816) (funext fun a => by fin_cases a <;> rfl)]
  repeat rw [View.ld_unit_zero (S := S2816x1024) (funext fun a => by fin_cases a <;> rfl)]
  repeat rw [View.ld_unit_zero (S := S1024x1024) (funext fun a => by fin_cases a <;> rfl)]

/-- The last inner block leaves the accumulator in the block of the result. -/
theorem out_eq (hc0 : ¬cond0_0 i) (hc1 : cond0_1 i) (hc2 : cond0_2 i) :
    (out0_B_2 c i arg3 harg3 arg4 harg4 arg5 harg5 arg6 harg6 hc0 hc1 hc2 x0 x1 xs : S1024x1024.Idx → EReal) = (k0_pay3 x0 x1 xs : S1024x1024.Idx → EReal) := by
  unfold out0_B_2
  rw [View.read_writes_junk_eq_canon]
  unfold kernelRun0_B
  dsimp only
  sl_unfold_words
  simp (disch := decide) only [View.readAt_eq_ld, Memref.IsWhole.read_unread, View.readCov_skip, View.readCov_fill]
  rw [View.canon_unit_zero (S := S1024x1024) (funext fun a => by fin_cases a <;> rfl)]
  repeat rw [View.ld_unit_zero (S := S1024x2816) (funext fun a => by fin_cases a <;> rfl)]
  repeat rw [View.ld_unit_zero (S := S2816x1024) (funext fun a => by fin_cases a <;> rfl)]
  repeat rw [View.ld_unit_zero (S := S1024x1024) (funext fun a => by fin_cases a <;> rfl)]
  rfl

end point

variable (m : (ℓ : Loc nD τ sig) → Buf (Elt Ideal) ℓ) (c : Dev nD)

/-- The two factors, as the launch finds them. -/
abbrev lhs : S16384x5632.Idx → EReal := V m c main_arg1
abbrev rhs : S5632x1024.Idx → EReal := V m c main_v0

theorem idx0 : ∀ t : Fin grid0.N, win0_0.index t 0 = t.val / 2 ∧ win0_0.index t 1 = t.val % 2 := by decide +kernel

/-- The block of the left factor at point `t`. -/
theorem blk0_at (t : Fin cfg0.N) (r : Fin 1024) (k : Fin 2816) :
    (iblk m c 0 t : S1024x2816.Idx → EReal) (ix2 r k)
      = at2 (lhs m c) (1024 * (t.val / 2) + r.val) (2816 * (t.val % 2) + k.val) := by
  have hN : t.val < 32 := lt_of_lt_of_eq t.isLt N_0
  have hi := idx0 t
  rw [at2_lt _ (t := 1024 * (t.val / 2) + r.val) (k := 2816 * (t.val % 2) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 2) + r.val; rw [hi.1]; omega
  | ⟨1, _⟩ => show win0_0.index t 1 * 2816 + 1 * k.val = 2816 * (t.val % 2) + k.val; rw [hi.2]; omega

theorem idx1 : ∀ t : Fin grid0.N, win0_1.index t 0 = t.val % 2 ∧ win0_1.index t 1 = t.val / 2 % 1 := by decide +kernel

/-- The block of the right factor at point `t`. -/
theorem blk1_at (t : Fin cfg0.N) (r : Fin 2816) (k : Fin 1024) :
    (iblk m c 1 t : S2816x1024.Idx → EReal) (ix2 r k)
      = at2 (rhs m c) (2816 * (t.val % 2) + r.val) (1024 * (t.val / 2 % 1) + k.val) := by
  have hN : t.val < 32 := lt_of_lt_of_eq t.isLt N_0
  have hi := idx1 t
  rw [at2_lt _ (t := 2816 * (t.val % 2) + r.val) (k := 1024 * (t.val / 2 % 1) + k.val) (by omega) (by omega)]
  unfold iblk
  rw [View.read_apply]
  refine congrArg (rhs m c) (funext fun a => Fin.ext ?_)
  match a with
  | ⟨0, _⟩ => show win0_1.index t 0 * 2816 + 1 * r.val = 2816 * (t.val % 2) + r.val; rw [hi.1]; omega
  | ⟨1, _⟩ => show win0_1.index t 1 * 1024 + 1 * k.val = 1024 * (t.val / 2 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 2816, pr m c (1024 * (t.val / 2) + r.val) (1024 * (t.val / 2 % 1) + k.val) (2816 * (t.val % 2) + q.val) :=
  (block_at _ _ r k).trans (Finset.sum_congr rfl fun q _ => congrArg₂ (· * ·) (blk0_at m c t r q) (blk1_at m c t q k))

/-- The result: every element of the product. -/
def res : S16384x1024.Idx → EReal := fun j => nn 5632 (lhs m c) (rhs m c) (j 0).val (j 1).val

/-- Adding a point's product to an accumulator. -/
theorem add_at (xs : Vec Ideal S1024x1024 .f32) (x0 : Vec Ideal S1024x2816 .bf16) (x1 : Vec Ideal S2816x1024 .bf16) (r : Fin 1024) (k : Fin 1024) :
    (k0_pay3 x0 x1 xs : S1024x1024.Idx → EReal) (ix2 r k)
      = (xs : S1024x1024.Idx → EReal) (ix2 r k) + (k0_pay1 x0 x1 : S1024x1024.Idx → EReal) (ix2 r k) := by
  unfold k0_pay3
  generalize k0_pay1 x0 x1 = y
  pointwise []

theorem first_at (x0 : Vec Ideal S1024x2816 .bf16) (x1 : Vec Ideal S2816x1024 .bf16) (r : Fin 1024) (k : Fin 1024) :
    (k0_pay2 x0 x1 : S1024x1024.Idx → EReal) (ix2 r k) = (k0_pay1 x0 x1 : S1024x1024.Idx → EReal) (ix2 r k) := by
  unfold k0_pay2
  generalize k0_pay1 x0 x1 = y
  pointwise []

/-- A point's product, added to the inner blocks before it. -/
theorem sum_step (n : ℕ) (h : n + 1 < cfg0.N) (h0 : ¬(n + 1) % 2 = 0) (xs : Vec Ideal S1024x1024 .f32) (r : Fin 1024) (k : Fin 1024)
    (hx : (xs : S1024x1024.Idx → EReal) (ix2 r k) = ∑ q ∈ Finset.range (2816 * (n % 2 + 1)), pr m c (1024 * (n / 2) + r.val) (1024 * (n / 2 % 1) + k.val) q) :
    (k0_pay3 (iblk m c 0 ⟨n + 1, h⟩) (iblk m c 1 ⟨n + 1, h⟩) xs : S1024x1024.Idx → EReal) (ix2 r k)
      = ∑ q ∈ Finset.range (2816 * ((n + 1) % 2 + 1)), pr m c (1024 * ((n + 1) / 2) + r.val) (1024 * ((n + 1) / 2 % 1) + k.val) q := by
  rw [add_at, part_at, hx, ← sum_more _ 2816 ((n + 1) % 2)]
  dsimp only
  rw [show (n + 1) / 2 = n / 2 from by omega,  show (n + 1) % 2 = n % 2 + 1 from by omega]

/-- After point `n` the accumulator holds the sum over the inner blocks seen so far. -/
theorem acc_after : ∀ (n : ℕ) (h : n < cfg0.N) (r : Fin 1024) (k : Fin 1024),
    ((outsAt0 m c n h).2 : S1024x1024.Idx → EReal) (ix2 r k)
      = ∑ q ∈ Finset.range (2816 * (n % 2 + 1)), pr m c (1024 * (n / 2) + r.val) (1024 * (n / 2 % 1) + k.val) q
  | 0, h, r, k => by
    rw [outsAt0_A m c ⟨0, h⟩ (by dsimp only) (by dsimp only; omega) (by dsimp only; omega)]
    dsimp only
    rw [acc_A, first_at, part_at]
    exact sum_first (pr m c (1024 * (0 / 2) + r.val) (1024 * (0 / 2 % 1) + k.val)) 2816
  | n + 1, h, r, k => by
    by_cases h0 : (n + 1) % 2 = 0
    · rw [outsAt0_A m c ⟨n + 1, h⟩ h0 (by dsimp only; omega) (by dsimp only; omega)]
      dsimp only
      rw [acc_A, first_at, part_at]
      dsimp only
      rw [h0]
      exact sum_first (pr m c (1024 * ((n + 1) / 2) + r.val) (1024 * ((n + 1) / 2 % 1) + k.val)) 2816
    have step := sum_step m c n h h0 _ r k (acc_after n (by omega) r k)
    rw [outsAt0_B m c ⟨n + 1, h⟩ h0 (by dsimp only; omega) (by dsimp only; omega)]
    dsimp only
    rw [acc_B]
    exact step

theorem out_at (t : Fin cfg0.N) (ht : t.val % 2 = 1) (r : Fin 1024) (k : Fin 1024) :
    ((outsAt0 m c t.val t.isLt).1 : S1024x1024.Idx → EReal) (ix2 r k)
      = nn 5632 (lhs m c) (rhs m c) (1024 * (t.val / 2) + r.val) (1024 * (t.val / 2 % 1) + k.val) := by
  obtain ⟨t, h⟩ := t
  cases t with
  | zero => exfalso; dsimp only at ht; omega
  | succ n =>
    dsimp only at ht ⊢
    rw [outsAt0_B m c ⟨n + 1, h⟩ (by dsimp only; omega) (by dsimp only; omega) ht]
    dsimp only
    rw [out_eq]
    refine (sum_step m c n h (by omega) _ r k (acc_after m c n (by omega) r k)).trans ?_
    rw [ht]
    rfl

theorem idx2 : ∀ t : Fin grid0.N, win0_2.index t 0 = t.val / 2 ∧ win0_2.index t 1 = t.val / 2 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t ((flush0_2 t).mp hf) r k).trans ?_
  have hi := idx2 t
  refine congrArg₂ (nn 5632 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 1024 := (i 1).isLt
    let t : Fin cfg0.N := ⟨2 * (1 * ((i 0).val / 1024) + (i 1).val / 1024) + 1, lt_of_lt_of_eq (by omega : _ < 32) N_0.symm⟩
    have hi := idx2 t
    refine ⟨t, (flush0_2 t).mpr (by dsimp only [t]; omega), ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The right factor is the transposed weight. -/
theorem rhs_at (q : Fin 5632) (k : Fin 1024) : rhs m c (ix2 q k) = (m ((c : Thread nD τ).loc main_arg0) : S1024x5632.Idx → EReal) (ix2 k q) := by
  unfold rhs
  unfold_abbrev_sides
  after_results
  pointwise []

/-- The two arguments. -/
abbrev arg0 : S1024x5632.Idx → EReal := m ((c : Thread nD τ).loc main_arg0)
abbrev arg1 : S16384x5632.Idx → EReal := m ((c : Thread nD τ).loc main_arg1)

/-- The result, by elements of the arguments. -/
theorem res_at (t : Fin 16384) (k : Fin 1024) : res m c (ix2 t k)
    = ∑ q : Fin 5632, arg1 m c (ix2 t q) * arg0 m c (ix2 k q) := by
  show nn 5632 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg1 m c) (ix2 t q)) (rhs_at m c q k)

/-- The reference's result, by elements of the arguments. -/
theorem ref_at (x0 : S1024x5632.Idx → EReal) (x1 : S16384x5632.Idx → EReal) (t : Fin 16384) (k : Fin 1024) :
    (Cert.DHidRefIdeal.Read.val_main_v7 (F := Ideal) x0 x1 : S16384x1024.Idx → EReal) (ix2 t k)
      = ∑ q : Fin 5632, x1 (ix2 t q) * x0 (ix2 k q) := by
  pointwise [Cert.DHidRefIdeal.Read.val_main_cst, Cert.DHidRefIdeal.Read.val_main_v0, Cert.DHidRefIdeal.Read.val_main_v1, Cert.DHidRefIdeal.Read.val_main_v2, Cert.DHidRefIdeal.Read.val_main_v3, Cert.DHidRefIdeal.Read.val_main_v4, Cert.DHidRefIdeal.Read.val_main_v5, Cert.DHidRefIdeal.Read.val_main_v6, Cert.DHidRefIdeal.Read.val_main_v7]

/-- The reference runs, leaves its arguments and ends with every counter at zero: it has no semaphores. -/
theorem referenceFrame : Cert.quiescent_DHidRefIdeal (hDHidRefIdeal := Cert.DHidRefIdeal.Gen.facts) :=
  fun m ρ _ => (θ_run Cert.DHidRefIdeal.defs _ _).mono (fun r h => And.intro (fun c => (h c).2)
      (Idealize.ShloMosaic.sem_eq_zero_of_no_sems (by decide) r.2))
    (Cert.DHidRefIdeal.Value.run (F := Ideal) m ρ)

/-- The program and its reference give the same result, element by element. -/
theorem values : Cert.algebraic_DHidIdeal_DHidRefIdeal (hDHidIdeal := Cert.DHidIdeal.Gen.facts)
    (hDHidRefIdeal := Cert.DHidRefIdeal.Gen.facts) := by
  intro m g m' g' _ hargs
  refine ⟨fun c => res m c, ?_, ?_⟩
  · refine (θ_run Cert.DHidIdeal.defs _ _).mono (fun r h c => ?_) (Cert.DHidIdeal.Value.run_blocks m g)
    obtain ⟨h0, h1⟩ := h c
    exact ⟨h0.trans (final m c), h1⟩
  · refine (θ_run Cert.DHidRefIdeal.defs _ _).mono (fun r h c => ?_) (Cert.DHidRefIdeal.Value.run m' g')
    obtain ⟨h0, h1⟩ := h c
    obtain ⟨a0, a1⟩ := hargs c
    refine ⟨h0.trans ?_, h1⟩
    rw [Cert.DHidRefIdeal.Read.val_main_v7_eq, a0, a1]
    funext j
    obtain ⟨t, k, rfl⟩ := ix2_surj (m := 16384) (n := 1024) j
    exact (ref_at _ _ t k).trans (res_at m c t k).symm

end Cert.Prod.DHid
end
-- ==== Proof.Prod.DwMix.lean ====
module
public import proofs.«01_k».proof.Defs
public import proofs.«01_k».proof.Proof.Gen.DwMix
public import proofs.«01_k».proof.Proof.Gen.DwMix.Frame
public import proofs.«01_k».proof.Proof.Gen.DwMixIdeal.Value
public import proofs.«01_k».proof.Proof.Gen.DwMixRefIdeal
public import proofs.«01_k».proof.Proof.Gen.DwMixRefIdeal.Run
public import proofs.«01_k».proof.Proof.Gen.DwMixRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DwMix`: its result is one product of matrices, element by element that of its reference. -/

namespace Cert.Prod.DwMix

open Idealize.ShloMosaic Idealize.ShloMosaic.TcCoe Idealize.SL.Sem Cert.DwMixIdeal Cert.DwMixIdeal.Gen Cert.FfnAct
open Idealize.ShloMosaic.Pipeline (Dat)

/-- The product of the two blocks that a point reads. -/
theorem block_at (x0 : Vec Ideal S2048x1024 .bf16) (x1 : Vec Ideal S2048x1024 .bf16) (r : Fin 1024) (k : Fin 1024) :
    (k0_pay1 x0 x1 : S1024x1024.Idx → EReal) (ix2 r k)
      = ∑ q : Fin 2048, (x0 : S2048x1024.Idx → EReal) (ix2 q r) * (x1 : S2048x1024.Idx → EReal) (ix2 q k) := by
  pointwise [k0_pay1]

section point
variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

/-- The first inner block puts its product in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_junk_eq_canon]
  unfold kernelRun0_A
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]

/-- A later inner block adds its product to the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_junk_eq_canon]
  unfold kernelRun0_B
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

/-- The last inner block adds its product to the accumulator. -/
theorem acc_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0
  rw [View.read_writes_junk_eq_canon]
  unfold kernelRun0_C
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

/-- The last inner block leaves the accumulator in the block of the result. -/
theorem out_eq (hc0 : ¬cond0_0 i) (hc1 : cond0_1 i) (hc2 : cond0_2 i) :
    (out0_C_2 c i arg3 harg3 arg4 harg4 arg5 harg5 arg6 harg6 hc0 hc1 hc2 x0 x1 xs : S1024x1024.Idx → EReal) = (k0_pay3 x0 x1 xs : S1024x1024.Idx → EReal) := by
  unfold out0_C_2
  rw [View.read_writes_junk_eq_canon]
  unfold kernelRun0_C
  dsimp only
  sl_unfold_words
  simp (disch := decide) only [View.readAt_eq_ld, Memref.IsWhole.read_unread, View.readCov_skip, View.readCov_fill]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

end point

variable (m : (ℓ : Loc nD τ sig) → Buf (Elt Ideal) ℓ) (c : Dev nD)

/-- The two factors, as the launch finds them. -/
abbrev lhs : S16384x1024.Idx → EReal := V m c main_arg0
abbrev rhs : S16384x1024.Idx → EReal := V m c main_arg1

theorem idx0 : ∀ t : Fin grid0.N, win0_0.index t 0 = t.val % 8 ∧ win0_0.index t 1 = t.val / 8 := by decide +kernel

/-- The block of the left factor at point `t`. -/
theorem blk0_at (t : Fin cfg0.N) (r : Fin 2048) (k : Fin 1024) :
    (iblk m c 0 t : S2048x1024.Idx → EReal) (ix2 r k)
      = at2 (lhs m c) (2048 * (t.val % 8) + r.val) (1024 * (t.val / 8) + k.val) := by
  have hN : t.val < 8 := lt_of_lt_of_eq t.isLt N_0
  have hi := idx0 t
  rw [at2_lt _ (t := 2048 * (t.val % 8) + r.val) (k := 1024 * (t.val / 8) + k.val) (by omega) (by omega)]
  unfold iblk
  rw [View.read_apply]
  refine congrArg (lhs m c) (funext fun a => Fin.ext ?_)
  match a with
  | ⟨0, _⟩ => show win0_0.index t 0 * 2048 + 1 * r.val = 2048 * (t.val % 8) + r.val; rw [hi.1]; omega
  | ⟨1, _⟩ => show win0_0.index t 1 * 1024 + 1 * k.val = 1024 * (t.val / 8) + k.val; rw [hi.2]; omega

theorem idx1 : ∀ t : Fin grid0.N, win0_1.index t 0 = t.val % 8 ∧ win0_1.index t 1 = t.val / 8 % 1 := by decide +kernel

/-- The block of the right factor at point `t`. -/
theorem blk1_at (t : Fin cfg0.N) (r : Fin 2048) (k : Fin 1024) :
    (iblk m c 1 t : S2048x1024.Idx → EReal) (ix2 r k)
      = at2 (rhs m c) (2048 * (t.val % 8) + r.val) (1024 * (t.val / 8 % 1) + k.val) := by
  have hN : t.val < 8 := lt_of_lt_of_eq t.isLt N_0
  have hi := idx1 t
  rw [at2_lt _ (t := 2048 * (t.val % 8) + r.val) (k := 1024 * (t.val / 8 % 1) + k.val) (by omega) (by omega)]
  unfold iblk
  rw [View.read_apply]
  refine congrArg (rhs m c) (funext fun a => Fin.ext ?_)
  match a with
  | ⟨0, _⟩ => show win0_1.index t 0 * 2048 + 1 * r.val = 2048 * (t.val % 8) + r.val; rw [hi.1]; omega
  | ⟨1, _⟩ => show win0_1.index t 1 * 1024 + 1 * k.val = 1024 * (t.val / 8 % 1) + k.val; rw [hi.2]; omega

/-- The products that make element `(i, j)` of the result. -/
def pr (i j q : ℕ) : EReal := at2 (lhs m c) q i * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 2048, pr m c (1024 * (t.val / 8) + r.val) (1024 * (t.val / 8 % 1) + k.val) (2048 * (t.val % 8) + q.val) :=
  (block_at _ _ r k).trans (Finset.sum_congr rfl fun q _ => congrArg₂ (· * ·) (blk0_at m c t q r) (blk1_at m c t q k))

/-- The result: every element of the product. -/
def res : S1024x1024.Idx → EReal := fun j => tn 16384 (lhs m c) (rhs m c) (j 0).val (j 1).val

/-- Adding a point's product to an accumulator. -/
theorem add_at (xs : Vec Ideal S1024x1024 .f32) (x0 : Vec Ideal S2048x1024 .bf16) (x1 : Vec Ideal S2048x1024 .bf16) (r : Fin 1024) (k : Fin 1024) :
    (k0_pay3 x0 x1 xs : S1024x1024.Idx → EReal) (ix2 r k)
      = (xs : S1024x1024.Idx → EReal) (ix2 r k) + (k0_pay1 x0 x1 : S1024x1024.Idx → EReal) (ix2 r k) := by
  unfold k0_pay3
  generalize k0_pay1 x0 x1 = y
  pointwise []

theorem first_at (x0 : Vec Ideal S2048x1024 .bf16) (x1 : Vec Ideal S2048x1024 .bf16) (r : Fin 1024) (k : Fin 1024) :
    (k0_pay2 x0 x1 : S1024x1024.Idx → EReal) (ix2 r k) = (k0_pay1 x0 x1 : S1024x1024.Idx → EReal) (ix2 r k) := by
  unfold k0_pay2
  generalize k0_pay1 x0 x1 = y
  pointwise []

/-- A point's product, added to the inner blocks before it. -/
theorem sum_step (n : ℕ) (h : n + 1 < cfg0.N) (h0 : ¬(n + 1) % 8 = 0) (xs : Vec Ideal S1024x1024 .f32) (r : Fin 1024) (k : Fin 1024)
    (hx : (xs : S1024x1024.Idx → EReal) (ix2 r k) = ∑ q ∈ Finset.range (2048 * (n % 8 + 1)), pr m c (1024 * (n / 8) + r.val) (1024 * (n / 8 % 1) + k.val) q) :
    (k0_pay3 (iblk m c 0 ⟨n + 1, h⟩) (iblk m c 1 ⟨n + 1, h⟩) xs : S1024x1024.Idx → EReal) (ix2 r k)
      = ∑ q ∈ Finset.range (2048 * ((n + 1) % 8 + 1)), pr m c (1024 * ((n + 1) / 8) + r.val) (1024 * ((n + 1) / 8 % 1) + k.val) q := by
  rw [add_at, part_at, hx, ← sum_more _ 2048 ((n + 1) % 8)]
  dsimp only
  have hn : n + 1 < 8 := h
  rw [show (n + 1) / 8 = n / 8 from by omega,  show (n + 1) % 8 = n % 8 + 1 from by omega]

/-- After point `n` the accumulator holds the sum over the inner blocks seen so far. -/
theorem acc_after : ∀ (n : ℕ) (h : n < cfg0.N) (r : Fin 1024) (k : Fin 1024),
    ((outsAt0 m c n h).2 : S1024x1024.Idx → EReal) (ix2 r k)
      = ∑ q ∈ Finset.range (2048 * (n % 8 + 1)), pr m c (1024 * (n / 8) + r.val) (1024 * (n / 8 % 1) + k.val) q
  | 0, h, r, k => by
    rw [outsAt0_A m c ⟨0, h⟩ (by dsimp only) (by dsimp only; omega) (by dsimp only; omega)]
    dsimp only
    rw [acc_A, first_at, part_at]
    exact sum_first (pr m c (1024 * (0 / 8) + r.val) (1024 * (0 / 8 % 1) + k.val)) 2048
  | n + 1, h, r, k => by
    have hn : n + 1 < 8 := h
    by_cases h0 : (n + 1) % 8 = 0
    · rw [outsAt0_A m c ⟨n + 1, h⟩ h0 (by dsimp only; omega) (by dsimp only; omega)]
      dsimp only
      rw [acc_A, first_at, part_at]
      dsimp only
      rw [h0]
      exact sum_first (pr m c (1024 * ((n + 1) / 8) + r.val) (1024 * ((n + 1) / 8 % 1) + k.val)) 2048
    have step := sum_step m c n h h0 _ r k (acc_after n (by omega) r k)
    by_cases h7 : (n + 1) % 8 = 7
    · rw [outsAt0_C m c ⟨n + 1, h⟩ h0 (by dsimp only; omega) h7]
      dsimp only
      rw [acc_C]
      exact step
    · rw [outsAt0_B m c ⟨n + 1, h⟩ h0 (by dsimp only; omega) h7]
      dsimp only
      rw [acc_B]
      exact step

theorem out_at (t : Fin cfg0.N) (ht : t.val % 8 = 7) (r : Fin 1024) (k : Fin 1024) :
    ((outsAt0 m c t.val t.isLt).1 : S1024x1024.Idx → EReal) (ix2 r k)
      = tn 16384 (lhs m c) (rhs m c) (1024 * (t.val / 8) + r.val) (1024 * (t.val / 8 % 1) + k.val) := by
  obtain ⟨t, h⟩ := t
  cases t with
  | zero => exfalso; dsimp only at ht; omega
  | succ n =>
    dsimp only at ht ⊢
    rw [outsAt0_C m c ⟨n + 1, h⟩ (by dsimp only; omega) (by dsimp only; omega) ht]
    dsimp only
    rw [out_eq]
    refine (sum_step m c n h (by omega) _ r k (acc_after m c n (by omega) r k)).trans ?_
    rw [ht]
    rfl

theorem idx2 : ∀ t : Fin grid0.N, win0_2.index t 0 = t.val / 8 ∧ win0_2.index t 1 = t.val / 8 % 1 := by decide +kernel

attribute [local irreducible] tn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t ((flush0_2 t).mp hf) r k).trans ?_
  have hi := idx2 t
  refine congrArg₂ (tn 16384 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 1024 := (i 0).isLt
    have h1 : (i 1 : Nat) < 1024 := (i 1).isLt
    let t : Fin cfg0.N := ⟨8 * (1 * ((i 0).val / 1024) + (i 1).val / 1024) + 7, lt_of_lt_of_eq (by omega : _ < 8) N_0.symm⟩
    have hi := idx2 t
    refine ⟨t, (flush0_2 t).mpr (by dsimp only [t]; omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x1024.Idx → EReal := m ((c : Thread nD τ).loc main_arg0)
abbrev arg1 : S16384x1024.Idx → EReal := m ((c : Thread nD τ).loc main_arg1)

/-- The result, by elements of the arguments. -/
theorem res_at (t : Fin 1024) (k : Fin 1024) : res m c (ix2 t k)
    = ∑ q : Fin 16384, arg0 m c (ix2 q t) * arg1 m c (ix2 q k) := by
  show tn 16384 (lhs m c) (rhs m c) t.val k.val = _
  unfold tn
  rw [Finset.sum_range]
  refine Finset.sum_congr rfl fun q _ => ?_
  refine (congrArg₂ (· * ·) (at2_ix (lhs m c) q t) (at2_ix (rhs m c) q k)).trans ?_
  exact congrArg₂ (· * ·) (congrFun (V_main_arg0 m c) (ix2 q t)) (congrFun (V_main_arg1 m c) (ix2 q k))

/-- The reference's result, by elements of the arguments. -/
theorem ref_at (x0 : S16384x1024.Idx → EReal) (x1 : S16384x1024.Idx → EReal) (t : Fin 1024) (k : Fin 1024) :
    (Cert.DwMixRefIdeal.Read.val_main_v5 (F := Ideal) x0 x1 : S1024x1024.Idx → EReal) (ix2 t k)
      = ∑ q : Fin 16384, x0 (ix2 q t) * x1 (ix2 q k) := by
  pointwise [Cert.DwMixRefIdeal.Read.val_main_cst, Cert.DwMixRefIdeal.Read.val_main_v0, Cert.DwMixRefIdeal.Read.val_main_v1, Cert.DwMixRefIdeal.Read.val_main_v2, Cert.DwMixRefIdeal.Read.val_main_v3, Cert.DwMixRefIdeal.Read.val_main_v4, Cert.DwMixRefIdeal.Read.val_main_v5, Cert.DwMixRefIdeal.Read.val_main_v6]
  exact Finset.sum_congr rfl fun q _ => mul_comm _ _

/-- The reference runs, leaves its arguments and ends with every counter at zero: it has no semaphores. -/
theorem referenceFrame : Cert.quiescent_DwMixRefIdeal (hDwMixRefIdeal := Cert.DwMixRefIdeal.Gen.facts) :=
  fun m ρ _ => (θ_run Cert.DwMixRefIdeal.defs _ _).mono (fun r h => And.intro (fun c => (h c).2)
      (Idealize.ShloMosaic.sem_eq_zero_of_no_sems (by decide) r.2))
    (Cert.DwMixRefIdeal.Value.run (F := Ideal) m ρ)

/-- The program and its reference give the same result, element by element. -/
theorem values : Cert.algebraic_DwMixIdeal_DwMixRefIdeal (hDwMixIdeal := Cert.DwMixIdeal.Gen.facts)
    (hDwMixRefIdeal := Cert.DwMixRefIdeal.Gen.facts) := by
  intro m g m' g' _ hargs
  refine ⟨fun c => res m c, ?_, ?_⟩
  · refine (θ_run Cert.DwMixIdeal.defs _ _).mono (fun r h c => ?_) (Cert.DwMixIdeal.Value.run_blocks m g)
    obtain ⟨h0, h1⟩ := h c
    exact ⟨h0.trans (final m c), h1⟩
  · refine (θ_run Cert.DwMixRefIdeal.defs _ _).mono (fun r h c => ?_) (Cert.DwMixRefIdeal.Value.run m' g')
    obtain ⟨h0, h1⟩ := h c
    obtain ⟨a0, a1⟩ := hargs c
    refine ⟨h0.trans ?_, h1⟩
    rw [Cert.DwMixRefIdeal.Read.val_main_v5_eq, a0, a1]
    funext j
    obtain ⟨t, k, rfl⟩ := ix2_surj (m := 1024) (n := 1024) j
    exact (ref_at _ _ t k).trans (res_at m c t k).symm

end Cert.Prod.DwMix
end
-- ==== Proof.Prod.DMerged.lean ====
module
public import proofs.«01_k».proof.Defs
public import proofs.«01_k».proof.Proof.Gen.DMerged
public import proofs.«01_k».proof.Proof.Gen.DMerged.Frame
public import proofs.«01_k».proof.Proof.Gen.DMergedIdeal.Value
public import proofs.«01_k».proof.Proof.Gen.DMergedRefIdeal
public import proofs.«01_k».proof.Proof.Gen.DMergedRefIdeal.Run
public import proofs.«01_k».proof.Proof.Gen.DMergedRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DMerged`: its result is one product of matrices, element by element that of its reference. -/

namespace Cert.Prod.DMerged

open Idealize.ShloMosaic Idealize.ShloMosaic.TcCoe Idealize.SL.Sem Cert.DMergedIdeal Cert.DMergedIdeal.Gen Cert.FfnAct
open Idealize.ShloMosaic.Pipeline (Dat)

/-- The product of the two blocks that a point reads. -/
theorem block_at (x0 : Vec Ideal S1024x1024 .bf16) (x1 : Vec Ideal S1024x1024 .bf16) (r : Fin 1024) (k : Fin 1024) :
    (k0_pay1 x0 x1 : S1024x1024.Idx → EReal) (ix2 r k)
      = ∑ q : Fin 1024, (x0 : S1024x1024.Idx → EReal) (ix2 r q) * (x1 : S1024x1024.Idx → EReal) (ix2 q k) := by
  pointwise [k0_pay1]

/-- What a point leaves in its block of the result is that product. -/
theorem out_eq (x0 : Vec Ideal S1024x1024 .bf16) (x1 : Vec Ideal S1024x1024 .bf16) : out0_2 x0 x1 = k0_pay1 x0 x1 := by
  unfold out0_2
  rw [View.canon_unit_zero (S := S1024x1024) (funext fun a => by fin_cases a <;> rfl)]
  repeat rw [View.ld_unit_zero (S := S1024x1024) (funext fun a => by fin_cases a <;> rfl)]
  repeat rw [View.ld_unit_zero (S := S1024x1024) (funext fun a => by fin_cases a <;> rfl)]

variable (m : (ℓ : Loc nD τ sig) → Buf (Elt Ideal) ℓ) (c : Dev nD)

/-- The two factors, as the launch finds them. -/
abbrev lhs : S16384x1024.Idx → EReal := V m c main_arg1
abbrev rhs : S1024x1024.Idx → EReal := V m c main_v0

theorem idx0 : ∀ t : Fin grid0.N, win0_0.index t 0 = t.val / 1 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 1) + r.val) (1024 * (t.val % 1) + k.val) := by
  have hN : t.val < 16 := lt_of_lt_of_eq t.isLt N_0
  have hi := idx0 t
  rw [at2_lt _ (t := 1024 * (t.val / 1) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 1) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 1 := by decide +kernel

/-- The block of the right factor at point `t`. -/
theorem blk1_at (t : Fin cfg0.N) (r : Fin 1024) (k : Fin 1024) :
    (iblk m c 1 t : S1024x1024.Idx → EReal) (ix2 r k)
      = at2 (rhs m c) (1024 * (t.val % 1) + r.val) (1024 * (t.val / 1 % 1) + k.val) := by
  have hN : t.val < 16 := lt_of_lt_of_eq t.isLt N_0
  have hi := idx1 t
  rw [at2_lt _ (t := 1024 * (t.val % 1) + r.val) (k := 1024 * (t.val / 1 % 1) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 1024 + 1 * k.val = 1024 * (t.val / 1 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 1024, pr m c (1024 * (t.val / 1) + r.val) (1024 * (t.val / 1 % 1) + k.val) (1024 * (t.val % 1) + q.val) :=
  (block_at _ _ r k).trans (Finset.sum_congr rfl fun q _ => congrArg₂ (· * ·) (blk0_at m c t r q) (blk1_at m c t q k))

/-- The result: every element of the product. -/
def res : S16384x1024.Idx → EReal := fun j => nn 1024 (lhs m c) (rhs m c) (j 0).val (j 1).val

theorem out_at (t : Fin cfg0.N) (r : Fin 1024) (k : Fin 1024) :
    (out0_2 (iblk m c 0 t) (iblk m c 1 t) : S1024x1024.Idx → EReal) (ix2 r k)
      = nn 1024 (lhs m c) (rhs m c) (1024 * (t.val / 1) + r.val) (1024 * (t.val / 1 % 1) + k.val) := by
  rw [out_eq, part_at]
  unfold nn
  rw [show t.val % 1 = 0 from Nat.mod_one _]
  exact sum_all (pr m c (1024 * (t.val / 1) + r.val) (1024 * (t.val / 1 % 1) + k.val)) 1024

theorem idx2 : ∀ t : Fin grid0.N, win0_2.index t 0 = t.val / 1 ∧ win0_2.index t 1 = t.val / 1 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 1024 := (i 1).isLt
    let t : Fin cfg0.N := ⟨1 * ((i 0).val / 1024) + (i 1).val / 1024, lt_of_lt_of_eq (by omega : _ < 16) N_0.symm⟩
    have hi := idx2 t
    refine ⟨t, flush0_2 t, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The right factor is the transposed weight. -/
theorem rhs_at (q : Fin 1024) (k : Fin 1024) : rhs m c (ix2 q k) = (m ((c : Thread nD τ).loc main_arg0) : S1024x1024.Idx → EReal) (ix2 k q) := by
  unfold rhs
  unfold_abbrev_sides
  after_results
  pointwise []

/-- The two arguments. -/
abbrev arg0 : S1024x1024.Idx → EReal := m ((c : Thread nD τ).loc main_arg0)
abbrev arg1 : S16384x1024.Idx → EReal := m ((c : Thread nD τ).loc main_arg1)

/-- The result, by elements of the arguments. -/
theorem res_at (t : Fin 16384) (k : Fin 1024) : res m c (ix2 t k)
    = ∑ q : Fin 1024, arg1 m c (ix2 t q) * arg0 m c (ix2 k q) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg1 m c) (ix2 t q)) (rhs_at m c q k)

/-- The reference's result, by elements of the arguments. -/
theorem ref_at (x0 : S1024x1024.Idx → EReal) (x1 : S16384x1024.Idx → EReal) (t : Fin 16384) (k : Fin 1024) :
    (Cert.DMergedRefIdeal.Read.val_main_v7 (F := Ideal) x0 x1 : S16384x1024.Idx → EReal) (ix2 t k)
      = ∑ q : Fin 1024, x1 (ix2 t q) * x0 (ix2 k q) := by
  pointwise [Cert.DMergedRefIdeal.Read.val_main_cst, Cert.DMergedRefIdeal.Read.val_main_v0, Cert.DMergedRefIdeal.Read.val_main_v1, Cert.DMergedRefIdeal.Read.val_main_v2, Cert.DMergedRefIdeal.Read.val_main_v3, Cert.DMergedRefIdeal.Read.val_main_v4, Cert.DMergedRefIdeal.Read.val_main_v5, Cert.DMergedRefIdeal.Read.val_main_v6, Cert.DMergedRefIdeal.Read.val_main_v7]

/-- The reference runs, leaves its arguments and ends with every counter at zero: it has no semaphores. -/
theorem referenceFrame : Cert.quiescent_DMergedRefIdeal (hDMergedRefIdeal := Cert.DMergedRefIdeal.Gen.facts) :=
  fun m ρ _ => (θ_run Cert.DMergedRefIdeal.defs _ _).mono (fun r h => And.intro (fun c => (h c).2)
      (Idealize.ShloMosaic.sem_eq_zero_of_no_sems (by decide) r.2))
    (Cert.DMergedRefIdeal.Value.run (F := Ideal) m ρ)

/-- The program and its reference give the same result, element by element. -/
theorem values : Cert.algebraic_DMergedIdeal_DMergedRefIdeal (hDMergedIdeal := Cert.DMergedIdeal.Gen.facts)
    (hDMergedRefIdeal := Cert.DMergedRefIdeal.Gen.facts) := by
  intro m g m' g' _ hargs
  refine ⟨fun c => res m c, ?_, ?_⟩
  · refine (θ_run Cert.DMergedIdeal.defs _ _).mono (fun r h c => ?_) (Cert.DMergedIdeal.Value.run_blocks m g)
    obtain ⟨h0, h1⟩ := h c
    exact ⟨h0.trans (final m c), h1⟩
  · refine (θ_run Cert.DMergedRefIdeal.defs _ _).mono (fun r h c => ?_) (Cert.DMergedRefIdeal.Value.run m' g')
    obtain ⟨h0, h1⟩ := h c
    obtain ⟨a0, a1⟩ := hargs c
    refine ⟨h0.trans ?_, h1⟩
    rw [Cert.DMergedRefIdeal.Read.val_main_v7_eq, a0, a1]
    funext j
    obtain ⟨t, k, rfl⟩ := ix2_surj (m := 16384) (n := 1024) j
    exact (ref_at _ _ t k).trans (res_at m c t k).symm

end Cert.Prod.DMerged
end
-- ==== Proof.Prod.DwBs.lean ====
module
public import proofs.«01_k».proof.Defs
public import proofs.«01_k».proof.Proof.Gen.DwBs
public import proofs.«01_k».proof.Proof.Gen.DwBs.Frame
public import proofs.«01_k».proof.Proof.Gen.DwBsIdeal.Value
public import proofs.«01_k».proof.Proof.Gen.DwBsRefIdeal
public import proofs.«01_k».proof.Proof.Gen.DwBsRefIdeal.Run
public import proofs.«01_k».proof.Proof.Gen.DwBsRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DwBs`: its result is one product of matrices, element by element that of its reference. -/

namespace Cert.Prod.DwBs

open Idealize.ShloMosaic Idealize.ShloMosaic.TcCoe Idealize.SL.Sem Cert.DwBsIdeal Cert.DwBsIdeal.Gen Cert.FfnAct
open Idealize.ShloMosaic.Pipeline (Dat)

/-- The product of the two blocks that a point reads. -/
theorem block_at (x0 : Vec Ideal S2048x1024 .bf16) (x1 : Vec Ideal S2048x1024 .bf16) (r : Fin 1024) (k : Fin 1024) :
    (k0_pay1 x0 x1 : S1024x1024.Idx → EReal) (ix2 r k)
      = ∑ q : Fin 2048, (x0 : S2048x1024.Idx → EReal) (ix2 q r) * (x1 : S2048x1024.Idx → EReal) (ix2 q k) := by
  pointwise [k0_pay1]

section point
variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

/-- The first inner block puts its product in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_junk_eq_canon]
  unfold kernelRun0_A
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]

/-- A later inner block adds its product to the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_junk_eq_canon]
  unfold kernelRun0_B
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

/-- The last inner block adds its product to the accumulator. -/
theorem acc_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0
  rw [View.read_writes_junk_eq_canon]
  unfold kernelRun0_C
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

/-- The last inner block leaves the accumulator in the block of the result. -/
theorem out_eq (hc0 : ¬cond0_0 i) (hc1 : cond0_1 i) (hc2 : cond0_2 i) :
    (out0_C_2 c i arg3 harg3 arg4 harg4 arg5 harg5 arg6 harg6 hc0 hc1 hc2 x0 x1 xs : S1024x1024.Idx → EReal) = (k0_pay3 x0 x1 xs : S1024x1024.Idx → EReal) := by
  unfold out0_C_2
  rw [View.read_writes_junk_eq_canon]
  unfold kernelRun0_C
  dsimp only
  sl_unfold_words
  simp (disch := decide) only [View.readAt_eq_ld, Memref.IsWhole.read_unread, View.readCov_skip, View.readCov_fill]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

end point

variable (m : (ℓ : Loc nD τ sig) → Buf (Elt Ideal) ℓ) (c : Dev nD)

/-- The two factors, as the launch finds them. -/
abbrev lhs : S16384x2048.Idx → EReal := V m c main_arg0
abbrev rhs : S16384x1024.Idx → EReal := V m c main_arg1

theorem idx0 : ∀ t : Fin grid0.N, win0_0.index t 0 = t.val % 8 ∧ win0_0.index t 1 = t.val / 8 := by decide +kernel

/-- The block of the left factor at point `t`. -/
theorem blk0_at (t : Fin cfg0.N) (r : Fin 2048) (k : Fin 1024) :
    (iblk m c 0 t : S2048x1024.Idx → EReal) (ix2 r k)
      = at2 (lhs m c) (2048 * (t.val % 8) + r.val) (1024 * (t.val / 8) + k.val) := by
  have hN : t.val < 16 := lt_of_lt_of_eq t.isLt N_0
  have hi := idx0 t
  rw [at2_lt _ (t := 2048 * (t.val % 8) + r.val) (k := 1024 * (t.val / 8) + k.val) (by omega) (by omega)]
  unfold iblk
  rw [View.read_apply]
  refine congrArg (lhs m c) (funext fun a => Fin.ext ?_)
  match a with
  | ⟨0, _⟩ => show win0_0.index t 0 * 2048 + 1 * r.val = 2048 * (t.val % 8) + r.val; rw [hi.1]; omega
  | ⟨1, _⟩ => show win0_0.index t 1 * 1024 + 1 * k.val = 1024 * (t.val / 8) + k.val; rw [hi.2]; omega

theorem idx1 : ∀ t : Fin grid0.N, win0_1.index t 0 = t.val % 8 ∧ win0_1.index t 1 = t.val / 8 % 1 := by decide +kernel

/-- The block of the right factor at point `t`. -/
theorem blk1_at (t : Fin cfg0.N) (r : Fin 2048) (k : Fin 1024) :
    (iblk m c 1 t : S2048x1024.Idx → EReal) (ix2 r k)
      = at2 (rhs m c) (2048 * (t.val % 8) + r.val) (1024 * (t.val / 8 % 1) + k.val) := by
  have hN : t.val < 16 := lt_of_lt_of_eq t.isLt N_0
  have hi := idx1 t
  rw [at2_lt _ (t := 2048 * (t.val % 8) + r.val) (k := 1024 * (t.val / 8 % 1) + k.val) (by omega) (by omega)]
  unfold iblk
  rw [View.read_apply]
  refine congrArg (rhs m c) (funext fun a => Fin.ext ?_)
  match a with
  | ⟨0, _⟩ => show win0_1.index t 0 * 2048 + 1 * r.val = 2048 * (t.val % 8) + r.val; rw [hi.1]; omega
  | ⟨1, _⟩ => show win0_1.index t 1 * 1024 + 1 * k.val = 1024 * (t.val / 8 % 1) + k.val; rw [hi.2]; omega

/-- The products that make element `(i, j)` of the result. -/
def pr (i j q : ℕ) : EReal := at2 (lhs m c) q i * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 2048, pr m c (1024 * (t.val / 8) + r.val) (1024 * (t.val / 8 % 1) + k.val) (2048 * (t.val % 8) + q.val) :=
  (block_at _ _ r k).trans (Finset.sum_congr rfl fun q _ => congrArg₂ (· * ·) (blk0_at m c t q r) (blk1_at m c t q k))

/-- The result: every element of the product. -/
def res : S2048x1024.Idx → EReal := fun j => tn 16384 (lhs m c) (rhs m c) (j 0).val (j 1).val

/-- Adding a point's product to an accumulator. -/
theorem add_at (xs : Vec Ideal S1024x1024 .f32) (x0 : Vec Ideal S2048x1024 .bf16) (x1 : Vec Ideal S2048x1024 .bf16) (r : Fin 1024) (k : Fin 1024) :
    (k0_pay3 x0 x1 xs : S1024x1024.Idx → EReal) (ix2 r k)
      = (xs : S1024x1024.Idx → EReal) (ix2 r k) + (k0_pay1 x0 x1 : S1024x1024.Idx → EReal) (ix2 r k) := by
  unfold k0_pay3
  generalize k0_pay1 x0 x1 = y
  pointwise []

theorem first_at (x0 : Vec Ideal S2048x1024 .bf16) (x1 : Vec Ideal S2048x1024 .bf16) (r : Fin 1024) (k : Fin 1024) :
    (k0_pay2 x0 x1 : S1024x1024.Idx → EReal) (ix2 r k) = (k0_pay1 x0 x1 : S1024x1024.Idx → EReal) (ix2 r k) := by
  unfold k0_pay2
  generalize k0_pay1 x0 x1 = y
  pointwise []

/-- A point's product, added to the inner blocks before it. -/
theorem sum_step (n : ℕ) (h : n + 1 < cfg0.N) (h0 : ¬(n + 1) % 8 = 0) (xs : Vec Ideal S1024x1024 .f32) (r : Fin 1024) (k : Fin 1024)
    (hx : (xs : S1024x1024.Idx → EReal) (ix2 r k) = ∑ q ∈ Finset.range (2048 * (n % 8 + 1)), pr m c (1024 * (n / 8) + r.val) (1024 * (n / 8 % 1) + k.val) q) :
    (k0_pay3 (iblk m c 0 ⟨n + 1, h⟩) (iblk m c 1 ⟨n + 1, h⟩) xs : S1024x1024.Idx → EReal) (ix2 r k)
      = ∑ q ∈ Finset.range (2048 * ((n + 1) % 8 + 1)), pr m c (1024 * ((n + 1) / 8) + r.val) (1024 * ((n + 1) / 8 % 1) + k.val) q := by
  rw [add_at, part_at, hx, ← sum_more _ 2048 ((n + 1) % 8)]
  dsimp only
  rw [show (n + 1) / 8 = n / 8 from by omega,  show (n + 1) % 8 = n % 8 + 1 from by omega]

/-- After point `n` the accumulator holds the sum over the inner blocks seen so far. -/
theorem acc_after : ∀ (n : ℕ) (h : n < cfg0.N) (r : Fin 1024) (k : Fin 1024),
    ((outsAt0 m c n h).2 : S1024x1024.Idx → EReal) (ix2 r k)
      = ∑ q ∈ Finset.range (2048 * (n % 8 + 1)), pr m c (1024 * (n / 8) + r.val) (1024 * (n / 8 % 1) + k.val) q
  | 0, h, r, k => by
    rw [outsAt0_A m c ⟨0, h⟩ (by dsimp only) (by dsimp only; omega) (by dsimp only; omega)]
    dsimp only
    rw [acc_A, first_at, part_at]
    exact sum_first (pr m c (1024 * (0 / 8) + r.val) (1024 * (0 / 8 % 1) + k.val)) 2048
  | n + 1, h, r, k => by
    by_cases h0 : (n + 1) % 8 = 0
    · rw [outsAt0_A m c ⟨n + 1, h⟩ h0 (by dsimp only; omega) (by dsimp only; omega)]
      dsimp only
      rw [acc_A, first_at, part_at]
      dsimp only
      rw [h0]
      exact sum_first (pr m c (1024 * ((n + 1) / 8) + r.val) (1024 * ((n + 1) / 8 % 1) + k.val)) 2048
    have step := sum_step m c n h h0 _ r k (acc_after n (by omega) r k)
    by_cases h7 : (n + 1) % 8 = 7
    · rw [outsAt0_C m c ⟨n + 1, h⟩ h0 (by dsimp only; omega) h7]
      dsimp only
      rw [acc_C]
      exact step
    · rw [outsAt0_B m c ⟨n + 1, h⟩ h0 (by dsimp only; omega) h7]
      dsimp only
      rw [acc_B]
      exact step

theorem out_at (t : Fin cfg0.N) (ht : t.val % 8 = 7) (r : Fin 1024) (k : Fin 1024) :
    ((outsAt0 m c t.val t.isLt).1 : S1024x1024.Idx → EReal) (ix2 r k)
      = tn 16384 (lhs m c) (rhs m c) (1024 * (t.val / 8) + r.val) (1024 * (t.val / 8 % 1) + k.val) := by
  obtain ⟨t, h⟩ := t
  cases t with
  | zero => exfalso; dsimp only at ht; omega
  | succ n =>
    dsimp only at ht ⊢
    rw [outsAt0_C m c ⟨n + 1, h⟩ (by dsimp only; omega) (by dsimp only; omega) ht]
    dsimp only
    rw [out_eq]
    refine (sum_step m c n h (by omega) _ r k (acc_after m c n (by omega) r k)).trans ?_
    rw [ht]
    rfl

theorem idx2 : ∀ t : Fin grid0.N, win0_2.index t 0 = t.val / 8 ∧ win0_2.index t 1 = t.val / 8 % 1 := by decide +kernel

attribute [local irreducible] tn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t ((flush0_2 t).mp hf) r k).trans ?_
  have hi := idx2 t
  refine congrArg₂ (tn 16384 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 2048 := (i 0).isLt
    have h1 : (i 1 : Nat) < 1024 := (i 1).isLt
    let t : Fin cfg0.N := ⟨8 * (1 * ((i 0).val / 1024) + (i 1).val / 1024) + 7, lt_of_lt_of_eq (by omega : _ < 16) N_0.symm⟩
    have hi := idx2 t
    refine ⟨t, (flush0_2 t).mpr (by dsimp only [t]; omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x2048.Idx → EReal := m ((c : Thread nD τ).loc main_arg0)
abbrev arg1 : S16384x1024.Idx → EReal := m ((c : Thread nD τ).loc main_arg1)

/-- The result, by elements of the arguments. -/
theorem res_at (t : Fin 2048) (k : Fin 1024) : res m c (ix2 t k)
    = ∑ q : Fin 16384, arg0 m c (ix2 q t) * arg1 m c (ix2 q k) := by
  show tn 16384 (lhs m c) (rhs m c) t.val k.val = _
  unfold tn
  rw [Finset.sum_range]
  refine Finset.sum_congr rfl fun q _ => ?_
  refine (congrArg₂ (· * ·) (at2_ix (lhs m c) q t) (at2_ix (rhs m c) q k)).trans ?_
  exact congrArg₂ (· * ·) (congrFun (V_main_arg0 m c) (ix2 q t)) (congrFun (V_main_arg1 m c) (ix2 q k))

/-- The reference's result, by elements of the arguments. -/
theorem ref_at (x0 : S16384x2048.Idx → EReal) (x1 : S16384x1024.Idx → EReal) (t : Fin 2048) (k : Fin 1024) :
    (Cert.DwBsRefIdeal.Read.val_main_v5 (F := Ideal) x0 x1 : S2048x1024.Idx → EReal) (ix2 t k)
      = ∑ q : Fin 16384, x0 (ix2 q t) * x1 (ix2 q k) := by
  pointwise [Cert.DwBsRefIdeal.Read.val_main_cst, Cert.DwBsRefIdeal.Read.val_main_v0, Cert.DwBsRefIdeal.Read.val_main_v1, Cert.DwBsRefIdeal.Read.val_main_v2, Cert.DwBsRefIdeal.Read.val_main_v3, Cert.DwBsRefIdeal.Read.val_main_v4, Cert.DwBsRefIdeal.Read.val_main_v5, Cert.DwBsRefIdeal.Read.val_main_v6]
  exact Finset.sum_congr rfl fun q _ => mul_comm _ _

/-- The reference runs, leaves its arguments and ends with every counter at zero: it has no semaphores. -/
theorem referenceFrame : Cert.quiescent_DwBsRefIdeal (hDwBsRefIdeal := Cert.DwBsRefIdeal.Gen.facts) :=
  fun m ρ _ => (θ_run Cert.DwBsRefIdeal.defs _ _).mono (fun r h => And.intro (fun c => (h c).2)
      (Idealize.ShloMosaic.sem_eq_zero_of_no_sems (by decide) r.2))
    (Cert.DwBsRefIdeal.Value.run (F := Ideal) m ρ)

/-- The program and its reference give the same result, element by element. -/
theorem values : Cert.algebraic_DwBsIdeal_DwBsRefIdeal (hDwBsIdeal := Cert.DwBsIdeal.Gen.facts)
    (hDwBsRefIdeal := Cert.DwBsRefIdeal.Gen.facts) := by
  intro m g m' g' _ hargs
  refine ⟨fun c => res m c, ?_, ?_⟩
  · refine (θ_run Cert.DwBsIdeal.defs _ _).mono (fun r h c => ?_) (Cert.DwBsIdeal.Value.run_blocks m g)
    obtain ⟨h0, h1⟩ := h c
    exact ⟨h0.trans (final m c), h1⟩
  · refine (θ_run Cert.DwBsRefIdeal.defs _ _).mono (fun r h c => ?_) (Cert.DwBsRefIdeal.Value.run m' g')
    obtain ⟨h0, h1⟩ := h c
    obtain ⟨a0, a1⟩ := hargs c
    refine ⟨h0.trans ?_, h1⟩
    rw [Cert.DwBsRefIdeal.Read.val_main_v5_eq, a0, a1]
    funext j
    obtain ⟨t, k, rfl⟩ := ix2_surj (m := 2048) (n := 1024) j
    exact (ref_at _ _ t k).trans (res_at m c t k).symm

end Cert.Prod.DwBs
end
-- ==== Proof.Prod.DwBa.lean ====
module
public import proofs.«01_k».proof.Defs
public import proofs.«01_k».proof.Proof.Gen.DwBa
public import proofs.«01_k».proof.Proof.Gen.DwBa.Frame
public import proofs.«01_k».proof.Proof.Gen.DwBaIdeal.Value
public import proofs.«01_k».proof.Proof.Gen.DwBaRefIdeal
public import proofs.«01_k».proof.Proof.Gen.DwBaRefIdeal.Run
public import proofs.«01_k».proof.Proof.Gen.DwBaRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DwBa`: its result is one product of matrices, element by element that of its reference. -/

namespace Cert.Prod.DwBa

open Idealize.ShloMosaic Idealize.ShloMosaic.TcCoe Idealize.SL.Sem Cert.DwBaIdeal Cert.DwBaIdeal.Gen Cert.FfnAct
open Idealize.ShloMosaic.Pipeline (Dat)

/-- The product of the two blocks that a point reads. -/
theorem block_at (x0 : Vec Ideal S2048x1024 .bf16) (x1 : Vec Ideal S2048x1024 .bf16) (r : Fin 1024) (k : Fin 1024) :
    (k0_pay1 x0 x1 : S1024x1024.Idx → EReal) (ix2 r k)
      = ∑ q : Fin 2048, (x0 : S2048x1024.Idx → EReal) (ix2 q r) * (x1 : S2048x1024.Idx → EReal) (ix2 q k) := by
  pointwise [k0_pay1]

section point
variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

/-- The first inner block puts its product in the accumulator. -/
theorem acc_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_junk_eq_canon]
  unfold kernelRun0_A
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]

/-- A later inner block adds its product to the accumulator. -/
theorem acc_B (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_junk_eq_canon]
  unfold kernelRun0_B
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

/-- The last inner block adds its product to the accumulator. -/
theorem acc_C (hc0 : ¬cond0_0 i) (hc1 : cond0_1 i) (hc2 : cond0_2 i) :
    sout0_C_0 c i arg3 harg3 arg4 harg4 arg5 harg5 arg6 harg6 hc0 hc1 hc2 x0 x1 xs = k0_pay3 x0 x1 xs := by
  unfold sout0_C_0
  rw [View.read_writes_junk_eq_canon]
  unfold kernelRun0_C
  dsimp only
  sl_unfold_run_names
  simp only [View.readAt_eq_ld, Memref.IsWhole.read_unread]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

/-- The last inner block leaves the accumulator in the block of the result. -/
theorem out_eq (hc0 : ¬cond0_0 i) (hc1 : cond0_1 i) (hc2 : cond0_2 i) :
    (out0_C_2 c i arg3 harg3 arg4 harg4 arg5 harg5 arg6 harg6 hc0 hc1 hc2 x0 x1 xs : S1024x1024.Idx → EReal) = (k0_pay3 x0 x1 xs : S1024x1024.Idx → EReal) := by
  unfold out0_C_2
  rw [View.read_writes_junk_eq_canon]
  unfold kernelRun0_C
  dsimp only
  sl_unfold_words
  simp (disch := decide) only [View.readAt_eq_ld, Memref.IsWhole.read_unread, View.readCov_skip, View.readCov_fill]
  rw [View.canon_unit_zero (S := S1024x1024) (funext fun a => by fin_cases a <;> rfl)]
  repeat rw [View.ld_unit_zero (S := S2048x1024) (funext fun a => by fin_cases a <;> rfl)]
  repeat rw [View.ld_unit_zero (S := S2048x1024) (funext fun a => by fin_cases a <;> rfl)]
  repeat rw [View.ld_unit_zero (S := S1024x1024) (funext fun a => by fin_cases a <;> rfl)]

end point

variable (m : (ℓ : Loc nD τ sig) → Buf (Elt Ideal) ℓ) (c : Dev nD)

/-- The two factors, as the launch finds them. -/
abbrev lhs : S16384x1024.Idx → EReal := V m c main_arg0
abbrev rhs : S16384x1024.Idx → EReal := V m c main_arg1

theorem idx0 : ∀ t : Fin grid0.N, win0_0.index t 0 = t.val % 8 ∧ win0_0.index t 1 = t.val / 8 := by decide +kernel

/-- The block of the left factor at point `t`. -/
theorem blk0_at (t : Fin cfg0.N) (r : Fin 2048) (k : Fin 1024) :
    (iblk m c 0 t : S2048x1024.Idx → EReal) (ix2 r k)
      = at2 (lhs m c) (2048 * (t.val % 8) + r.val) (1024 * (t.val / 8) + k.val) := by
  have hN : t.val < 8 := lt_of_lt_of_eq t.isLt N_0
  have hi := idx0 t
  rw [at2_lt _ (t := 2048 * (t.val % 8) + r.val) (k := 1024 * (t.val / 8) + k.val) (by omega) (by omega)]
  unfold iblk
  rw [View.read_apply]
  refine congrArg (lhs m c) (funext fun a => Fin.ext ?_)
  match a with
  | ⟨0, _⟩ => show win0_0.index t 0 * 2048 + 1 * r.val = 2048 * (t.val % 8) + r.val; rw [hi.1]; omega
  | ⟨1, _⟩ => show win0_0.index t 1 * 1024 + 1 * k.val = 1024 * (t.val / 8) + k.val; rw [hi.2]; omega

theorem idx1 : ∀ t : Fin grid0.N, win0_1.index t 0 = t.val % 8 ∧ win0_1.index t 1 = t.val / 8 % 1 := by decide +kernel

/-- The block of the right factor at point `t`. -/
theorem blk1_at (t : Fin cfg0.N) (r : Fin 2048) (k : Fin 1024) :
    (iblk m c 1 t : S2048x1024.Idx → EReal) (ix2 r k)
      = at2 (rhs m c) (2048 * (t.val % 8) + r.val) (1024 * (t.val / 8 % 1) + k.val) := by
  have hN : t.val < 8 := lt_of_lt_of_eq t.isLt N_0
  have hi := idx1 t
  rw [at2_lt _ (t := 2048 * (t.val % 8) + r.val) (k := 1024 * (t.val / 8 % 1) + k.val) (by omega) (by omega)]
  unfold iblk
  rw [View.read_apply]
  refine congrArg (rhs m c) (funext fun a => Fin.ext ?_)
  match a with
  | ⟨0, _⟩ => show win0_1.index t 0 * 2048 + 1 * r.val = 2048 * (t.val % 8) + r.val; rw [hi.1]; omega
  | ⟨1, _⟩ => show win0_1.index t 1 * 1024 + 1 * k.val = 1024 * (t.val / 8 % 1) + k.val; rw [hi.2]; omega

/-- The products that make element `(i, j)` of the result. -/
def pr (i j q : ℕ) : EReal := at2 (lhs m c) q i * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 2048, pr m c (1024 * (t.val / 8) + r.val) (1024 * (t.val / 8 % 1) + k.val) (2048 * (t.val % 8) + q.val) :=
  (block_at _ _ r k).trans (Finset.sum_congr rfl fun q _ => congrArg₂ (· * ·) (blk0_at m c t q r) (blk1_at m c t q k))

/-- The result: every element of the product. -/
def res : S1024x1024.Idx → EReal := fun j => tn 16384 (lhs m c) (rhs m c) (j 0).val (j 1).val

/-- Adding a point's product to an accumulator. -/
theorem add_at (xs : Vec Ideal S1024x1024 .f32) (x0 : Vec Ideal S2048x1024 .bf16) (x1 : Vec Ideal S2048x1024 .bf16) (r : Fin 1024) (k : Fin 1024) :
    (k0_pay3 x0 x1 xs : S1024x1024.Idx → EReal) (ix2 r k)
      = (xs : S1024x1024.Idx → EReal) (ix2 r k) + (k0_pay1 x0 x1 : S1024x1024.Idx → EReal) (ix2 r k) := by
  unfold k0_pay3
  generalize k0_pay1 x0 x1 = y
  pointwise []

theorem first_at (x0 : Vec Ideal S2048x1024 .bf16) (x1 : Vec Ideal S2048x1024 .bf16) (r : Fin 1024) (k : Fin 1024) :
    (k0_pay2 x0 x1 : S1024x1024.Idx → EReal) (ix2 r k) = (k0_pay1 x0 x1 : S1024x1024.Idx → EReal) (ix2 r k) := by
  unfold k0_pay2
  generalize k0_pay1 x0 x1 = y
  pointwise []

/-- A point's product, added to the inner blocks before it. -/
theorem sum_step (n : ℕ) (h : n + 1 < cfg0.N) (h0 : ¬(n + 1) % 8 = 0) (xs : Vec Ideal S1024x1024 .f32) (r : Fin 1024) (k : Fin 1024)
    (hx : (xs : S1024x1024.Idx → EReal) (ix2 r k) = ∑ q ∈ Finset.range (2048 * (n % 8 + 1)), pr m c (1024 * (n / 8) + r.val) (1024 * (n / 8 % 1) + k.val) q) :
    (k0_pay3 (iblk m c 0 ⟨n + 1, h⟩) (iblk m c 1 ⟨n + 1, h⟩) xs : S1024x1024.Idx → EReal) (ix2 r k)
      = ∑ q ∈ Finset.range (2048 * ((n + 1) % 8 + 1)), pr m c (1024 * ((n + 1) / 8) + r.val) (1024 * ((n + 1) / 8 % 1) + k.val) q := by
  rw [add_at, part_at, hx, ← sum_more _ 2048 ((n + 1) % 8)]
  dsimp only
  have hn : n + 1 < 8 := h
  rw [show (n + 1) / 8 = n / 8 from by omega,  show (n + 1) % 8 = n % 8 + 1 from by omega]

/-- After point `n` the accumulator holds the sum over the inner blocks seen so far. -/
theorem acc_after : ∀ (n : ℕ) (h : n < cfg0.N) (r : Fin 1024) (k : Fin 1024),
    ((outsAt0 m c n h).2 : S1024x1024.Idx → EReal) (ix2 r k)
      = ∑ q ∈ Finset.range (2048 * (n % 8 + 1)), pr m c (1024 * (n / 8) + r.val) (1024 * (n / 8 % 1) + k.val) q
  | 0, h, r, k => by
    rw [outsAt0_A m c ⟨0, h⟩ (by dsimp only) (by dsimp only; omega) (by dsimp only; omega)]
    dsimp only
    rw [acc_A, first_at, part_at]
    exact sum_first (pr m c (1024 * (0 / 8) + r.val) (1024 * (0 / 8 % 1) + k.val)) 2048
  | n + 1, h, r, k => by
    have hn : n + 1 < 8 := h
    by_cases h0 : (n + 1) % 8 = 0
    · rw [outsAt0_A m c ⟨n + 1, h⟩ h0 (by dsimp only; omega) (by dsimp only; omega)]
      dsimp only
      rw [acc_A, first_at, part_at]
      dsimp only
      rw [h0]
      exact sum_first (pr m c (1024 * ((n + 1) / 8) + r.val) (1024 * ((n + 1) / 8 % 1) + k.val)) 2048
    have step := sum_step m c n h h0 _ r k (acc_after n (by omega) r k)
    by_cases h7 : (n + 1) % 8 = 7
    · rw [outsAt0_C m c ⟨n + 1, h⟩ h0 (by dsimp only; omega) h7]
      dsimp only
      rw [acc_C]
      exact step
    · rw [outsAt0_B m c ⟨n + 1, h⟩ h0 (by dsimp only; omega) h7]
      dsimp only
      rw [acc_B]
      exact step

theorem out_at (t : Fin cfg0.N) (ht : t.val % 8 = 7) (r : Fin 1024) (k : Fin 1024) :
    ((outsAt0 m c t.val t.isLt).1 : S1024x1024.Idx → EReal) (ix2 r k)
      = tn 16384 (lhs m c) (rhs m c) (1024 * (t.val / 8) + r.val) (1024 * (t.val / 8 % 1) + k.val) := by
  obtain ⟨t, h⟩ := t
  cases t with
  | zero => exfalso; dsimp only at ht; omega
  | succ n =>
    dsimp only at ht ⊢
    rw [outsAt0_C m c ⟨n + 1, h⟩ (by dsimp only; omega) (by dsimp only; omega) ht]
    dsimp only
    rw [out_eq]
    refine (sum_step m c n h (by omega) _ r k (acc_after m c n (by omega) r k)).trans ?_
    rw [ht]
    rfl

theorem idx2 : ∀ t : Fin grid0.N, win0_2.index t 0 = t.val / 8 ∧ win0_2.index t 1 = t.val / 8 % 1 := by decide +kernel

attribute [local irreducible] tn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t ((flush0_2 t).mp hf) r k).trans ?_
  have hi := idx2 t
  refine congrArg₂ (tn 16384 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 1024 := (i 0).isLt
    have h1 : (i 1 : Nat) < 1024 := (i 1).isLt
    let t : Fin cfg0.N := ⟨8 * (1 * ((i 0).val / 1024) + (i 1).val / 1024) + 7, lt_of_lt_of_eq (by omega : _ < 8) N_0.symm⟩
    have hi := idx2 t
    refine ⟨t, (flush0_2 t).mpr (by dsimp only [t]; omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x1024.Idx → EReal := m ((c : Thread nD τ).loc main_arg0)
abbrev arg1 : S16384x1024.Idx → EReal := m ((c : Thread nD τ).loc main_arg1)

/-- The result, by elements of the arguments. -/
theorem res_at (t : Fin 1024) (k : Fin 1024) : res m c (ix2 t k)
    = ∑ q : Fin 16384, arg0 m c (ix2 q t) * arg1 m c (ix2 q k) := by
  show tn 16384 (lhs m c) (rhs m c) t.val k.val = _
  unfold tn
  rw [Finset.sum_range]
  refine Finset.sum_congr rfl fun q _ => ?_
  refine (congrArg₂ (· * ·) (at2_ix (lhs m c) q t) (at2_ix (rhs m c) q k)).trans ?_
  exact congrArg₂ (· * ·) (congrFun (V_main_arg0 m c) (ix2 q t)) (congrFun (V_main_arg1 m c) (ix2 q k))

/-- The reference's result, by elements of the arguments. -/
theorem ref_at (x0 : S16384x1024.Idx → EReal) (x1 : S16384x1024.Idx → EReal) (t : Fin 1024) (k : Fin 1024) :
    (Cert.DwBaRefIdeal.Read.val_main_v5 (F := Ideal) x0 x1 : S1024x1024.Idx → EReal) (ix2 t k)
      = ∑ q : Fin 16384, x0 (ix2 q t) * x1 (ix2 q k) := by
  pointwise [Cert.DwBaRefIdeal.Read.val_main_cst, Cert.DwBaRefIdeal.Read.val_main_v0, Cert.DwBaRefIdeal.Read.val_main_v1, Cert.DwBaRefIdeal.Read.val_main_v2, Cert.DwBaRefIdeal.Read.val_main_v3, Cert.DwBaRefIdeal.Read.val_main_v4, Cert.DwBaRefIdeal.Read.val_main_v5, Cert.DwBaRefIdeal.Read.val_main_v6]
  exact Finset.sum_congr rfl fun q _ => mul_comm _ _

/-- The reference runs, leaves its arguments and ends with every counter at zero: it has no semaphores. -/
theorem referenceFrame : Cert.quiescent_DwBaRefIdeal (hDwBaRefIdeal := Cert.DwBaRefIdeal.Gen.facts) :=
  fun m ρ _ => (θ_run Cert.DwBaRefIdeal.defs _ _).mono (fun r h => And.intro (fun c => (h c).2)
      (Idealize.ShloMosaic.sem_eq_zero_of_no_sems (by decide) r.2))
    (Cert.DwBaRefIdeal.Value.run (F := Ideal) m ρ)

/-- The program and its reference give the same result, element by element. -/
theorem values : Cert.algebraic_DwBaIdeal_DwBaRefIdeal (hDwBaIdeal := Cert.DwBaIdeal.Gen.facts)
    (hDwBaRefIdeal := Cert.DwBaRefIdeal.Gen.facts) := by
  intro m g m' g' _ hargs
  refine ⟨fun c => res m c, ?_, ?_⟩
  · refine (θ_run Cert.DwBaIdeal.defs _ _).mono (fun r h c => ?_) (Cert.DwBaIdeal.Value.run_blocks m g)
    obtain ⟨h0, h1⟩ := h c
    exact ⟨h0.trans (final m c), h1⟩
  · refine (θ_run Cert.DwBaRefIdeal.defs _ _).mono (fun r h c => ?_) (Cert.DwBaRefIdeal.Value.run m' g')
    obtain ⟨h0, h1⟩ := h c
    obtain ⟨a0, a1⟩ := hargs c
    refine ⟨h0.trans ?_, h1⟩
    rw [Cert.DwBaRefIdeal.Read.val_main_v5_eq, a0, a1]
    funext j
    obtain ⟨t, k, rfl⟩ := ix2_surj (m := 1024) (n := 1024) j
    exact (ref_at _ _ t k).trans (res_at m c t k).symm

end Cert.Prod.DwBa
end
-- ==== Proof.Prod.DYssm.lean ====
module
public import proofs.«01_k».proof.Defs
public import proofs.«01_k».proof.Proof.Gen.DYssm
public import proofs.«01_k».proof.Proof.Gen.DYssm.Frame
public import proofs.«01_k».proof.Proof.Gen.DYssmIdeal.Value
public import proofs.«01_k».proof.Proof.Gen.DYssmRefIdeal
public import proofs.«01_k».proof.Proof.Gen.DYssmRefIdeal.Run
public import proofs.«01_k».proof.Proof.Gen.DYssmRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DYssm`: its result is one product of matrices, element by element that of its reference. -/

namespace Cert.Prod.DYssm

open Idealize.ShloMosaic Idealize.ShloMosaic.TcCoe Idealize.SL.Sem Cert.DYssmIdeal Cert.DYssmIdeal.Gen Cert.FfnAct
open Idealize.ShloMosaic.Pipeline (Dat)

/-- The product of the two blocks that a point reads. -/
theorem block_at (x0 : Vec Ideal S1024x1024 .bf16) (x1 : Vec Ideal S1024x1024 .bf16) (r : Fin 1024) (k : Fin 1024) :
    (k0_pay1 x0 x1 : S1024x1024.Idx → EReal) (ix2 r k)
      = ∑ q : Fin 1024, (x0 : S1024x1024.Idx → EReal) (ix2 r q) * (x1 : S1024x1024.Idx → EReal) (ix2 q k) := by
  pointwise [k0_pay1]

/-- What a point leaves in its block of the result is that product. -/
theorem out_eq (x0 : Vec Ideal S1024x1024 .bf16) (x1 : Vec Ideal S1024x1024 .bf16) : out0_2 x0 x1 = k0_pay1 x0 x1 := by
  unfold out0_2
  rw [View.canon_unit_zero (S := S1024x1024) (funext fun a => by fin_cases a <;> rfl)]
  repeat rw [View.ld_unit_zero (S := S1024x1024) (funext fun a => by fin_cases a <;> rfl)]
  repeat rw [View.ld_unit_zero (S := S1024x1024) (funext fun a => by fin_cases a <;> rfl)]

variable (m : (ℓ : Loc nD τ sig) → Buf (Elt Ideal) ℓ) (c : Dev nD)

/-- The two factors, as the launch finds them. -/
abbrev lhs : S16384x1024.Idx → EReal := V m c main_arg1
abbrev rhs : S1024x2048.Idx → EReal := V m c main_v0

theorem idx0 : ∀ t : Fin grid0.N, win0_0.index t 0 = t.val / 2 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 2) + r.val) (1024 * (t.val % 1) + k.val) := by
  have hN : t.val < 32 := lt_of_lt_of_eq t.isLt N_0
  have hi := idx0 t
  rw [at2_lt _ (t := 1024 * (t.val / 2) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 2) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 2 := by decide +kernel

/-- The block of the right factor at point `t`. -/
theorem blk1_at (t : Fin cfg0.N) (r : Fin 1024) (k : Fin 1024) :
    (iblk m c 1 t : S1024x1024.Idx → EReal) (ix2 r k)
      = at2 (rhs m c) (1024 * (t.val % 1) + r.val) (1024 * (t.val / 1 % 2) + k.val) := by
  have hN : t.val < 32 := lt_of_lt_of_eq t.isLt N_0
  have hi := idx1 t
  rw [at2_lt _ (t := 1024 * (t.val % 1) + r.val) (k := 1024 * (t.val / 1 % 2) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 1024 + 1 * k.val = 1024 * (t.val / 1 % 2) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 1024, pr m c (1024 * (t.val / 2) + r.val) (1024 * (t.val / 1 % 2) + k.val) (1024 * (t.val % 1) + q.val) :=
  (block_at _ _ r k).trans (Finset.sum_congr rfl fun q _ => congrArg₂ (· * ·) (blk0_at m c t r q) (blk1_at m c t q k))

/-- The result: every element of the product. -/
def res : S16384x2048.Idx → EReal := fun j => nn 1024 (lhs m c) (rhs m c) (j 0).val (j 1).val

theorem out_at (t : Fin cfg0.N) (r : Fin 1024) (k : Fin 1024) :
    (out0_2 (iblk m c 0 t) (iblk m c 1 t) : S1024x1024.Idx → EReal) (ix2 r k)
      = nn 1024 (lhs m c) (rhs m c) (1024 * (t.val / 2) + r.val) (1024 * (t.val / 1 % 2) + k.val) := by
  rw [out_eq, part_at]
  unfold nn
  rw [show t.val % 1 = 0 from Nat.mod_one _]
  exact sum_all (pr m c (1024 * (t.val / 2) + r.val) (1024 * (t.val / 1 % 2) + k.val)) 1024

theorem idx2 : ∀ t : Fin grid0.N, win0_2.index t 0 = t.val / 2 ∧ win0_2.index t 1 = t.val / 1 % 2 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 2048 := (i 1).isLt
    let t : Fin cfg0.N := ⟨2 * ((i 0).val / 1024) + (i 1).val / 1024, lt_of_lt_of_eq (by omega : _ < 32) N_0.symm⟩
    have hi := idx2 t
    refine ⟨t, flush0_2 t, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The right factor is the transposed weight. -/
theorem rhs_at (q : Fin 1024) (k : Fin 2048) : rhs m c (ix2 q k) = (m ((c : Thread nD τ).loc main_arg0) : S2048x1024.Idx → EReal) (ix2 k q) := by
  unfold rhs
  unfold_abbrev_sides
  after_results
  pointwise []

/-- The two arguments. -/
abbrev arg0 : S2048x1024.Idx → EReal := m ((c : Thread nD τ).loc main_arg0)
abbrev arg1 : S16384x1024.Idx → EReal := m ((c : Thread nD τ).loc main_arg1)

/-- The result, by elements of the arguments. -/
theorem res_at (t : Fin 16384) (k : Fin 2048) : res m c (ix2 t k)
    = ∑ q : Fin 1024, arg1 m c (ix2 t q) * arg0 m c (ix2 k q) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg1 m c) (ix2 t q)) (rhs_at m c q k)

/-- The reference's result, by elements of the arguments. -/
theorem ref_at (x0 : S2048x1024.Idx → EReal) (x1 : S16384x1024.Idx → EReal) (t : Fin 16384) (k : Fin 2048) :
    (Cert.DYssmRefIdeal.Read.val_main_v7 (F := Ideal) x0 x1 : S16384x2048.Idx → EReal) (ix2 t k)
      = ∑ q : Fin 1024, x1 (ix2 t q) * x0 (ix2 k q) := by
  pointwise [Cert.DYssmRefIdeal.Read.val_main_cst, Cert.DYssmRefIdeal.Read.val_main_v0, Cert.DYssmRefIdeal.Read.val_main_v1, Cert.DYssmRefIdeal.Read.val_main_v2, Cert.DYssmRefIdeal.Read.val_main_v3, Cert.DYssmRefIdeal.Read.val_main_v4, Cert.DYssmRefIdeal.Read.val_main_v5, Cert.DYssmRefIdeal.Read.val_main_v6, Cert.DYssmRefIdeal.Read.val_main_v7]

/-- The reference runs, leaves its arguments and ends with every counter at zero: it has no semaphores. -/
theorem referenceFrame : Cert.quiescent_DYssmRefIdeal (hDYssmRefIdeal := Cert.DYssmRefIdeal.Gen.facts) :=
  fun m ρ _ => (θ_run Cert.DYssmRefIdeal.defs _ _).mono (fun r h => And.intro (fun c => (h c).2)
      (Idealize.ShloMosaic.sem_eq_zero_of_no_sems (by decide) r.2))
    (Cert.DYssmRefIdeal.Value.run (F := Ideal) m ρ)

/-- The program and its reference give the same result, element by element. -/
theorem values : Cert.algebraic_DYssmIdeal_DYssmRefIdeal (hDYssmIdeal := Cert.DYssmIdeal.Gen.facts)
    (hDYssmRefIdeal := Cert.DYssmRefIdeal.Gen.facts) := by
  intro m g m' g' _ hargs
  refine ⟨fun c => res m c, ?_, ?_⟩
  · refine (θ_run Cert.DYssmIdeal.defs _ _).mono (fun r h c => ?_) (Cert.DYssmIdeal.Value.run_blocks m g)
    obtain ⟨h0, h1⟩ := h c
    exact ⟨h0.trans (final m c), h1⟩
  · refine (θ_run Cert.DYssmRefIdeal.defs _ _).mono (fun r h c => ?_) (Cert.DYssmRefIdeal.Value.run m' g')
    obtain ⟨h0, h1⟩ := h c
    obtain ⟨a0, a1⟩ := hargs c
    refine ⟨h0.trans ?_, h1⟩
    rw [Cert.DYssmRefIdeal.Read.val_main_v7_eq, a0, a1]
    funext j
    obtain ⟨t, k, rfl⟩ := ix2_surj (m := 16384) (n := 2048) j
    exact (ref_at _ _ t k).trans (res_at m c t k).symm

end Cert.Prod.DYssm
end
-- ==== Proof.Prod.DYattn.lean ====
module
public import proofs.«01_k».proof.Defs
public import proofs.«01_k».proof.Proof.Gen.DYattn
public import proofs.«01_k».proof.Proof.Gen.DYattn.Frame
public import proofs.«01_k».proof.Proof.Gen.DYattnIdeal.Value
public import proofs.«01_k».proof.Proof.Gen.DYattnRefIdeal
public import proofs.«01_k».proof.Proof.Gen.DYattnRefIdeal.Run
public import proofs.«01_k».proof.Proof.Gen.DYattnRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `DYattn`: its result is one product of matrices, element by element that of its reference. -/

namespace Cert.Prod.DYattn

open Idealize.ShloMosaic Idealize.ShloMosaic.TcCoe Idealize.SL.Sem Cert.DYattnIdeal Cert.DYattnIdeal.Gen Cert.FfnAct
open Idealize.ShloMosaic.Pipeline (Dat)

/-- The product of the two blocks that a point reads. -/
theorem block_at (x0 : Vec Ideal S1024x1024 .bf16) (x1 : Vec Ideal S1024x1024 .bf16) (r : Fin 1024) (k : Fin 1024) :
    (k0_pay1 x0 x1 : S1024x1024.Idx → EReal) (ix2 r k)
      = ∑ q : Fin 1024, (x0 : S1024x1024.Idx → EReal) (ix2 r q) * (x1 : S1024x1024.Idx → EReal) (ix2 q k) := by
  pointwise [k0_pay1]

/-- What a point leaves in its block of the result is that product. -/
theorem out_eq (x0 : Vec Ideal S1024x1024 .bf16) (x1 : Vec Ideal S1024x1024 .bf16) : out0_2 x0 x1 = k0_pay1 x0 x1 := by
  unfold out0_2
  rw [View.canon_unit_zero (S := S1024x1024) (funext fun a => by fin_cases a <;> rfl)]
  repeat rw [View.ld_unit_zero (S := S1024x1024) (funext fun a => by fin_cases a <;> rfl)]
  repeat rw [View.ld_unit_zero (S := S1024x1024) (funext fun a => by fin_cases a <;> rfl)]

variable (m : (ℓ : Loc nD τ sig) → Buf (Elt Ideal) ℓ) (c : Dev nD)

/-- The two factors, as the launch finds them. -/
abbrev lhs : S16384x1024.Idx → EReal := V m c main_arg1
abbrev rhs : S1024x1024.Idx → EReal := V m c main_v0

theorem idx0 : ∀ t : Fin grid0.N, win0_0.index t 0 = t.val / 1 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 1) + r.val) (1024 * (t.val % 1) + k.val) := by
  have hN : t.val < 16 := lt_of_lt_of_eq t.isLt N_0
  have hi := idx0 t
  rw [at2_lt _ (t := 1024 * (t.val / 1) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 1) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 1 := by decide +kernel

/-- The block of the right factor at point `t`. -/
theorem blk1_at (t : Fin cfg0.N) (r : Fin 1024) (k : Fin 1024) :
    (iblk m c 1 t : S1024x1024.Idx → EReal) (ix2 r k)
      = at2 (rhs m c) (1024 * (t.val % 1) + r.val) (1024 * (t.val / 1 % 1) + k.val) := by
  have hN : t.val < 16 := lt_of_lt_of_eq t.isLt N_0
  have hi := idx1 t
  rw [at2_lt _ (t := 1024 * (t.val % 1) + r.val) (k := 1024 * (t.val / 1 % 1) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 1024 + 1 * k.val = 1024 * (t.val / 1 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 1024, pr m c (1024 * (t.val / 1) + r.val) (1024 * (t.val / 1 % 1) + k.val) (1024 * (t.val % 1) + q.val) :=
  (block_at _ _ r k).trans (Finset.sum_congr rfl fun q _ => congrArg₂ (· * ·) (blk0_at m c t r q) (blk1_at m c t q k))

/-- The result: every element of the product. -/
def res : S16384x1024.Idx → EReal := fun j => nn 1024 (lhs m c) (rhs m c) (j 0).val (j 1).val

theorem out_at (t : Fin cfg0.N) (r : Fin 1024) (k : Fin 1024) :
    (out0_2 (iblk m c 0 t) (iblk m c 1 t) : S1024x1024.Idx → EReal) (ix2 r k)
      = nn 1024 (lhs m c) (rhs m c) (1024 * (t.val / 1) + r.val) (1024 * (t.val / 1 % 1) + k.val) := by
  rw [out_eq, part_at]
  unfold nn
  rw [show t.val % 1 = 0 from Nat.mod_one _]
  exact sum_all (pr m c (1024 * (t.val / 1) + r.val) (1024 * (t.val / 1 % 1) + k.val)) 1024

theorem idx2 : ∀ t : Fin grid0.N, win0_2.index t 0 = t.val / 1 ∧ win0_2.index t 1 = t.val / 1 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 1024 := (i 1).isLt
    let t : Fin cfg0.N := ⟨1 * ((i 0).val / 1024) + (i 1).val / 1024, lt_of_lt_of_eq (by omega : _ < 16) N_0.symm⟩
    have hi := idx2 t
    refine ⟨t, flush0_2 t, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The right factor is the transposed weight. -/
theorem rhs_at (q : Fin 1024) (k : Fin 1024) : rhs m c (ix2 q k) = (m ((c : Thread nD τ).loc main_arg0) : S1024x1024.Idx → EReal) (ix2 k q) := by
  unfold rhs
  unfold_abbrev_sides
  after_results
  pointwise []

/-- The two arguments. -/
abbrev arg0 : S1024x1024.Idx → EReal := m ((c : Thread nD τ).loc main_arg0)
abbrev arg1 : S16384x1024.Idx → EReal := m ((c : Thread nD τ).loc main_arg1)

/-- The result, by elements of the arguments. -/
theorem res_at (t : Fin 16384) (k : Fin 1024) : res m c (ix2 t k)
    = ∑ q : Fin 1024, arg1 m c (ix2 t q) * arg0 m c (ix2 k q) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg1 m c) (ix2 t q)) (rhs_at m c q k)

/-- The reference's result, by elements of the arguments. -/
theorem ref_at (x0 : S1024x1024.Idx → EReal) (x1 : S16384x1024.Idx → EReal) (t : Fin 16384) (k : Fin 1024) :
    (Cert.DYattnRefIdeal.Read.val_main_v7 (F := Ideal) x0 x1 : S16384x1024.Idx → EReal) (ix2 t k)
      = ∑ q : Fin 1024, x1 (ix2 t q) * x0 (ix2 k q) := by
  pointwise [Cert.DYattnRefIdeal.Read.val_main_cst, Cert.DYattnRefIdeal.Read.val_main_v0, Cert.DYattnRefIdeal.Read.val_main_v1, Cert.DYattnRefIdeal.Read.val_main_v2, Cert.DYattnRefIdeal.Read.val_main_v3, Cert.DYattnRefIdeal.Read.val_main_v4, Cert.DYattnRefIdeal.Read.val_main_v5, Cert.DYattnRefIdeal.Read.val_main_v6, Cert.DYattnRefIdeal.Read.val_main_v7]

/-- The reference runs, leaves its arguments and ends with every counter at zero: it has no semaphores. -/
theorem referenceFrame : Cert.quiescent_DYattnRefIdeal (hDYattnRefIdeal := Cert.DYattnRefIdeal.Gen.facts) :=
  fun m ρ _ => (θ_run Cert.DYattnRefIdeal.defs _ _).mono (fun r h => And.intro (fun c => (h c).2)
      (Idealize.ShloMosaic.sem_eq_zero_of_no_sems (by decide) r.2))
    (Cert.DYattnRefIdeal.Value.run (F := Ideal) m ρ)

/-- The program and its reference give the same result, element by element. -/
theorem values : Cert.algebraic_DYattnIdeal_DYattnRefIdeal (hDYattnIdeal := Cert.DYattnIdeal.Gen.facts)
    (hDYattnRefIdeal := Cert.DYattnRefIdeal.Gen.facts) := by
  intro m g m' g' _ hargs
  refine ⟨fun c => res m c, ?_, ?_⟩
  · refine (θ_run Cert.DYattnIdeal.defs _ _).mono (fun r h c => ?_) (Cert.DYattnIdeal.Value.run_blocks m g)
    obtain ⟨h0, h1⟩ := h c
    exact ⟨h0.trans (final m c), h1⟩
  · refine (θ_run Cert.DYattnRefIdeal.defs _ _).mono (fun r h c => ?_) (Cert.DYattnRefIdeal.Value.run m' g')
    obtain ⟨h0, h1⟩ := h c
    obtain ⟨a0, a1⟩ := hargs c
    refine ⟨h0.trans ?_, h1⟩
    rw [Cert.DYattnRefIdeal.Read.val_main_v7_eq, a0, a1]
    funext j
    obtain ⟨t, k, rfl⟩ := ix2_surj (m := 16384) (n := 1024) j
    exact (ref_at _ _ t k).trans (res_at m c t k).symm

end Cert.Prod.DYattn
end
-- ==== Proof.Prod.Up.lean ====
module
public import proofs.«01_k».proof.Defs
public import proofs.«01_k».proof.Proof.Gen.Up
public import proofs.«01_k».proof.Proof.Gen.Up.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `Up`: its result is one product of matrices, element by element that of its reference. -/

namespace Cert.Prod.Up

open Idealize.ShloMosaic Idealize.ShloMosaic.TcCoe Idealize.SL.Sem Cert.UpIdeal Cert.UpIdeal.Gen Cert.FfnAct
open Idealize.ShloMosaic.Pipeline (Dat)

/-- The product of the two blocks that a point reads. -/
theorem block_at (x0 : Vec Ideal S1024x1024 .bf16) (x1 : Vec Ideal S1024x1408 .bf16) (r : Fin 1024) (k : Fin 1408) :
    (k0_pay1 x0 x1 : S1024x1408.Idx → EReal) (ix2 r k)
      = ∑ q : Fin 1024, (x0 : S1024x1024.Idx → EReal) (ix2 r q) * (x1 : S1024x1408.Idx → EReal) (ix2 q k) := by
  pointwise [k0_pay1]

/-- What a point leaves in its block of the result is that product. -/
theorem out_eq (x0 : Vec Ideal S1024x1024 .bf16) (x1 : Vec Ideal S1024x1408 .bf16) : out0_2 x0 x1 = k0_pay1 x0 x1 := by
  unfold out0_2
  rw [View.canon_unit_zero (S := S1024x1408) (funext fun a => by fin_cases a <;> rfl)]
  repeat rw [View.ld_unit_zero (S := S1024x1024) (funext fun a => by fin_cases a <;> rfl)]
  repeat rw [View.ld_unit_zero (S := S1024x1408) (funext fun a => by fin_cases a <;> rfl)]

variable (m : (ℓ : Loc nD τ sig) → Buf (Elt Ideal) ℓ) (c : Dev nD)

/-- The two factors, as the launch finds them. -/
abbrev lhs : S16384x1024.Idx → EReal := V m c main_arg0
abbrev rhs : S1024x5632.Idx → EReal := V m c main_arg1

theorem idx0 : ∀ t : Fin grid0.N, win0_0.index t 0 = t.val / 4 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 4) + r.val) (1024 * (t.val % 1) + k.val) := by
  have hN : t.val < 64 := lt_of_lt_of_eq t.isLt N_0
  have hi := idx0 t
  rw [at2_lt _ (t := 1024 * (t.val / 4) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 4) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 4 := by decide +kernel

/-- The block of the right factor at point `t`. -/
theorem blk1_at (t : Fin cfg0.N) (r : Fin 1024) (k : Fin 1408) :
    (iblk m c 1 t : S1024x1408.Idx → EReal) (ix2 r k)
      = at2 (rhs m c) (1024 * (t.val % 1) + r.val) (1408 * (t.val / 1 % 4) + k.val) := by
  have hN : t.val < 64 := lt_of_lt_of_eq t.isLt N_0
  have hi := idx1 t
  rw [at2_lt _ (t := 1024 * (t.val % 1) + r.val) (k := 1408 * (t.val / 1 % 4) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 1408 + 1 * k.val = 1408 * (t.val / 1 % 4) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1408) :
    (k0_pay1 (iblk m c 0 t) (iblk m c 1 t) : S1024x1408.Idx → EReal) (ix2 r k)
      = ∑ q : Fin 1024, pr m c (1024 * (t.val / 4) + r.val) (1408 * (t.val / 1 % 4) + k.val) (1024 * (t.val % 1) + q.val) :=
  (block_at _ _ r k).trans (Finset.sum_congr rfl fun q _ => congrArg₂ (· * ·) (blk0_at m c t r q) (blk1_at m c t q k))

/-- The result: every element of the product. -/
def res : S16384x5632.Idx → EReal := fun j => nn 1024 (lhs m c) (rhs m c) (j 0).val (j 1).val

theorem out_at (t : Fin cfg0.N) (r : Fin 1024) (k : Fin 1408) :
    (out0_2 (iblk m c 0 t) (iblk m c 1 t) : S1024x1408.Idx → EReal) (ix2 r k)
      = nn 1024 (lhs m c) (rhs m c) (1024 * (t.val / 4) + r.val) (1408 * (t.val / 1 % 4) + k.val) := by
  rw [out_eq, part_at]
  unfold nn
  rw [show t.val % 1 = 0 from Nat.mod_one _]
  exact sum_all (pr m c (1024 * (t.val / 4) + r.val) (1408 * (t.val / 1 % 4) + k.val)) 1024

theorem idx2 : ∀ t : Fin grid0.N, win0_2.index t 0 = t.val / 4 ∧ win0_2.index t 1 = t.val / 1 % 4 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1408) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 1408 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 5632 := (i 1).isLt
    let t : Fin cfg0.N := ⟨4 * ((i 0).val / 1024) + (i 1).val / 1408, lt_of_lt_of_eq (by omega : _ < 64) N_0.symm⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1408 ≤ (i 1 : Nat) ∧ (i 1 : Nat) < win0_2.index t 1 * 1408 + 1408
                rw [hi.2]; dsimp only [t]; omega

/-- The two arguments. -/
abbrev arg0 : S16384x1024.Idx → EReal := m ((c : Thread nD τ).loc main_arg0)
abbrev arg1 : S1024x5632.Idx → EReal := m ((c : Thread nD τ).loc main_arg1)

/-- The result, by elements of the arguments. -/
theorem res_at (t : Fin 16384) (k : Fin 5632) : res m c (ix2 t k)
    = ∑ q : Fin 1024, arg0 m c (ix2 t q) * arg1 m c (ix2 q k) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg0 m c) (ix2 t q)) (congrFun (V_main_arg1 m c) (ix2 q k))

/-- The reference's result, by elements of the arguments. -/
theorem ref_at (x0 : S16384x1024.Idx → EReal) (x1 : S1024x5632.Idx → EReal) (t : Fin 16384) (k : Fin 5632) :
    (Cert.UpRefIdeal.Read.val_main_v3 (F := Ideal) x0 x1 : S16384x5632.Idx → EReal) (ix2 t k)
      = ∑ q : Fin 1024, x0 (ix2 t q) * x1 (ix2 q k) := by
  pointwise [Cert.UpRefIdeal.Read.val_main_v0, Cert.UpRefIdeal.Read.val_main_v1, Cert.UpRefIdeal.Read.val_main_v2, Cert.UpRefIdeal.Read.val_main_v3]

/-- The reference runs, leaves its arguments and ends with every counter at zero: it has no semaphores. -/
theorem referenceFrame : Cert.quiescent_UpRefIdeal (hUpRefIdeal := Cert.UpRefIdeal.Gen.facts) :=
  fun m ρ _ => (θ_run Cert.UpRefIdeal.defs _ _).mono (fun r h => And.intro (fun c => (h c).2)
      (Idealize.ShloMosaic.sem_eq_zero_of_no_sems (by decide) r.2))
    (Cert.UpRefIdeal.Value.run (F := Ideal) m ρ)

/-- The program and its reference give the same result, element by element. -/
theorem values : Cert.algebraic_UpIdeal_UpRefIdeal (hUpIdeal := Cert.UpIdeal.Gen.facts)
    (hUpRefIdeal := Cert.UpRefIdeal.Gen.facts) := by
  intro m g m' g' _ hargs
  refine ⟨fun c => res m c, ?_, ?_⟩
  · refine (θ_run Cert.UpIdeal.defs _ _).mono (fun r h c => ?_) (Cert.UpIdeal.Value.run_blocks m g)
    obtain ⟨h0, h1⟩ := h c
    exact ⟨h0.trans (final m c), h1⟩
  · refine (θ_run Cert.UpRefIdeal.defs _ _).mono (fun r h c => ?_) (Cert.UpRefIdeal.Value.run m' g')
    obtain ⟨h0, h1⟩ := h c
    obtain ⟨a0, a1⟩ := hargs c
    refine ⟨h0.trans ?_, h1⟩
    rw [Cert.UpRefIdeal.Read.val_main_v3_eq, a0, a1]
    funext j
    obtain ⟨t, k, rfl⟩ := ix2_surj (m := 16384) (n := 5632) j
    exact (ref_at _ _ t k).trans (res_at m c t k).symm

end Cert.Prod.Up
end
-- ==== Proof.Prod.Down.lean ====
module
public import proofs.«01_k».proof.Defs
public import proofs.«01_k».proof.Proof.Gen.Down
public import proofs.«01_k».proof.Proof.Gen.Down.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `Down`: its result is one product of matrices, element by element that of its reference. -/

namespace Cert.Prod.Down

open Idealize.ShloMosaic Idealize.ShloMosaic.TcCoe Idealize.SL.Sem Cert.DownIdeal Cert.DownIdeal.Gen Cert.FfnAct
open Idealize.ShloMosaic.Pipeline (Dat)

/-- The product of the two blocks that a point reads. -/
theorem block_at (x0 : Vec Ideal S1024x2816 .bf16) (x1 : Vec Ideal S2816x1024 .bf16) (r : Fin 1024) (k : Fin 1024) :
    (k0_pay1 x0 x1 : S1024x1024.Idx → EReal) (ix2 r k)
      = ∑ q : Fin 2816, (x0 : S1024x2816.Idx → EReal) (ix2 r q) * (x1 : S2816x1024.Idx → EReal) (ix2 q k) := by
  pointwise [k0_pay1]

/-- What a point leaves in its block of the result is that product. -/
theorem out_eq (x0 : Vec Ideal S1024x2816 .bf16) (x1 : Vec Ideal S2816x1024 .bf16) : out0_2 x0 x1 = k0_pay1 x0 x1 := by
  unfold out0_2
  rw [View.canon_unit_zero (S := S1024x1024) (funext fun a => by fin_cases a <;> rfl)]
  repeat rw [View.ld_unit_zero (S := S1024x2816) (funext fun a => by fin_cases a <;> rfl)]
  repeat rw [View.ld_unit_zero (S := S2816x1024) (funext fun a => by fin_cases a <;> rfl)]

variable (m : (ℓ : Loc nD τ sig) → Buf (Elt Ideal) ℓ) (c : Dev nD)

/-- The two factors, as the launch finds them. -/
abbrev lhs : S16384x2816.Idx → EReal := V m c main_arg0
abbrev rhs : S2816x1024.Idx → EReal := V m c main_arg1

theorem idx0 : ∀ t : Fin grid0.N, win0_0.index t 0 = t.val / 1 ∧ win0_0.index t 1 = t.val % 1 := by decide +kernel

/-- The block of the left factor at point `t`. -/
theorem blk0_at (t : Fin cfg0.N) (r : Fin 1024) (k : Fin 2816) :
    (iblk m c 0 t : S1024x2816.Idx → EReal) (ix2 r k)
      = at2 (lhs m c) (1024 * (t.val / 1) + r.val) (2816 * (t.val % 1) + k.val) := by
  have hN : t.val < 16 := lt_of_lt_of_eq t.isLt N_0
  have hi := idx0 t
  rw [at2_lt _ (t := 1024 * (t.val / 1) + r.val) (k := 2816 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 1) + r.val; rw [hi.1]; omega
  | ⟨1, _⟩ => show win0_0.index t 1 * 2816 + 1 * k.val = 2816 * (t.val % 1) + k.val; rw [hi.2]; omega

theorem idx1 : ∀ t : Fin grid0.N, win0_1.index t 0 = t.val % 1 ∧ win0_1.index t 1 = t.val / 1 % 1 := by decide +kernel

/-- The block of the right factor at point `t`. -/
theorem blk1_at (t : Fin cfg0.N) (r : Fin 2816) (k : Fin 1024) :
    (iblk m c 1 t : S2816x1024.Idx → EReal) (ix2 r k)
      = at2 (rhs m c) (2816 * (t.val % 1) + r.val) (1024 * (t.val / 1 % 1) + k.val) := by
  have hN : t.val < 16 := lt_of_lt_of_eq t.isLt N_0
  have hi := idx1 t
  rw [at2_lt _ (t := 2816 * (t.val % 1) + r.val) (k := 1024 * (t.val / 1 % 1) + k.val) (by omega) (by omega)]
  unfold iblk
  rw [View.read_apply]
  refine congrArg (rhs m c) (funext fun a => Fin.ext ?_)
  match a with
  | ⟨0, _⟩ => show win0_1.index t 0 * 2816 + 1 * r.val = 2816 * (t.val % 1) + r.val; rw [hi.1]; omega
  | ⟨1, _⟩ => show win0_1.index t 1 * 1024 + 1 * k.val = 1024 * (t.val / 1 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 2816, pr m c (1024 * (t.val / 1) + r.val) (1024 * (t.val / 1 % 1) + k.val) (2816 * (t.val % 1) + q.val) :=
  (block_at _ _ r k).trans (Finset.sum_congr rfl fun q _ => congrArg₂ (· * ·) (blk0_at m c t r q) (blk1_at m c t q k))

/-- The result: every element of the product. -/
def res : S16384x1024.Idx → EReal := fun j => nn 2816 (lhs m c) (rhs m c) (j 0).val (j 1).val

theorem out_at (t : Fin cfg0.N) (r : Fin 1024) (k : Fin 1024) :
    (out0_2 (iblk m c 0 t) (iblk m c 1 t) : S1024x1024.Idx → EReal) (ix2 r k)
      = nn 2816 (lhs m c) (rhs m c) (1024 * (t.val / 1) + r.val) (1024 * (t.val / 1 % 1) + k.val) := by
  rw [out_eq, part_at]
  unfold nn
  rw [show t.val % 1 = 0 from Nat.mod_one _]
  exact sum_all (pr m c (1024 * (t.val / 1) + r.val) (1024 * (t.val / 1 % 1) + k.val)) 2816

theorem idx2 : ∀ t : Fin grid0.N, win0_2.index t 0 = t.val / 1 ∧ win0_2.index t 1 = t.val / 1 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t r k).trans ?_
  have hi := idx2 t
  refine congrArg₂ (nn 2816 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 1024 := (i 1).isLt
    let t : Fin cfg0.N := ⟨1 * ((i 0).val / 1024) + (i 1).val / 1024, lt_of_lt_of_eq (by omega : _ < 16) N_0.symm⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x2816.Idx → EReal := m ((c : Thread nD τ).loc main_arg0)
abbrev arg1 : S2816x1024.Idx → EReal := m ((c : Thread nD τ).loc main_arg1)

/-- The result, by elements of the arguments. -/
theorem res_at (t : Fin 16384) (k : Fin 1024) : res m c (ix2 t k)
    = ∑ q : Fin 2816, arg0 m c (ix2 t q) * arg1 m c (ix2 q k) := by
  show nn 2816 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg0 m c) (ix2 t q)) (congrFun (V_main_arg1 m c) (ix2 q k))

/-- The reference's result, by elements of the arguments. -/
theorem ref_at (x0 : S16384x2816.Idx → EReal) (x1 : S2816x1024.Idx → EReal) (t : Fin 16384) (k : Fin 1024) :
    (Cert.DownRefIdeal.Read.val_main_v3 (F := Ideal) x0 x1 : S16384x1024.Idx → EReal) (ix2 t k)
      = ∑ q : Fin 2816, x0 (ix2 t q) * x1 (ix2 q k) := by
  pointwise [Cert.DownRefIdeal.Read.val_main_v0, Cert.DownRefIdeal.Read.val_main_v1, Cert.DownRefIdeal.Read.val_main_v2, Cert.DownRefIdeal.Read.val_main_v3]

/-- The reference runs, leaves its arguments and ends with every counter at zero: it has no semaphores. -/
theorem referenceFrame : Cert.quiescent_DownRefIdeal (hDownRefIdeal := Cert.DownRefIdeal.Gen.facts) :=
  fun m ρ _ => (θ_run Cert.DownRefIdeal.defs _ _).mono (fun r h => And.intro (fun c => (h c).2)
      (Idealize.ShloMosaic.sem_eq_zero_of_no_sems (by decide) r.2))
    (Cert.DownRefIdeal.Value.run (F := Ideal) m ρ)

/-- The program and its reference give the same result, element by element. -/
theorem values : Cert.algebraic_DownIdeal_DownRefIdeal (hDownIdeal := Cert.DownIdeal.Gen.facts)
    (hDownRefIdeal := Cert.DownRefIdeal.Gen.facts) := by
  intro m g m' g' _ hargs
  refine ⟨fun c => res m c, ?_, ?_⟩
  · refine (θ_run Cert.DownIdeal.defs _ _).mono (fun r h c => ?_) (Cert.DownIdeal.Value.run_blocks m g)
    obtain ⟨h0, h1⟩ := h c
    exact ⟨h0.trans (final m c), h1⟩
  · refine (θ_run Cert.DownRefIdeal.defs _ _).mono (fun r h c => ?_) (Cert.DownRefIdeal.Value.run m' g')
    obtain ⟨h0, h1⟩ := h c
    obtain ⟨a0, a1⟩ := hargs c
    refine ⟨h0.trans ?_, h1⟩
    rw [Cert.DownRefIdeal.Read.val_main_v3_eq, a0, a1]
    funext j
    obtain ⟨t, k, rfl⟩ := ix2_surj (m := 16384) (n := 1024) j
    exact (ref_at _ _ t k).trans (res_at m c t k).symm

end Cert.Prod.Down
end
-- ==== Proof.Prod.Bs.lean ====
module
public import proofs.«01_k».proof.Defs
public import proofs.«01_k».proof.Proof.Gen.Bs
public import proofs.«01_k».proof.Proof.Gen.Bs.Frame
public import proofs.«01_k».proof.Proof.Gen.BsIdeal.Value
public import proofs.«01_k».proof.Proof.Gen.BsRefIdeal
public import proofs.«01_k».proof.Proof.Gen.BsRefIdeal.Run
public import proofs.«01_k».proof.Proof.Gen.BsRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `Bs`: its result is one product of matrices, element by element that of its reference. -/

namespace Cert.Prod.Bs

open Idealize.ShloMosaic Idealize.ShloMosaic.TcCoe Idealize.SL.Sem Cert.BsIdeal Cert.BsIdeal.Gen Cert.FfnAct
open Idealize.ShloMosaic.Pipeline (Dat)

/-- The product of the two blocks that a point reads. -/
theorem block_at (x0 : Vec Ideal S1024x2048 .bf16) (x1 : Vec Ideal S2048x1024 .bf16) (r : Fin 1024) (k : Fin 1024) :
    (k0_pay1 x0 x1 : S1024x1024.Idx → EReal) (ix2 r k)
      = ∑ q : Fin 2048, (x0 : S1024x2048.Idx → EReal) (ix2 r q) * (x1 : S2048x1024.Idx → EReal) (ix2 q k) := by
  pointwise [k0_pay1]

/-- What a point leaves in its block of the result is that product. -/
theorem out_eq (x0 : Vec Ideal S1024x2048 .bf16) (x1 : Vec Ideal S2048x1024 .bf16) : out0_2 x0 x1 = k0_pay1 x0 x1 := by
  unfold out0_2
  rw [View.canon_unit_zero (S := S1024x1024) (funext fun a => by fin_cases a <;> rfl)]
  repeat rw [View.ld_unit_zero (S := S1024x2048) (funext fun a => by fin_cases a <;> rfl)]
  repeat rw [View.ld_unit_zero (S := S2048x1024) (funext fun a => by fin_cases a <;> rfl)]

variable (m : (ℓ : Loc nD τ sig) → Buf (Elt Ideal) ℓ) (c : Dev nD)

/-- The two factors, as the launch finds them. -/
abbrev lhs : S16384x2048.Idx → EReal := V m c main_arg0
abbrev rhs : S2048x1024.Idx → EReal := V m c main_arg1

theorem idx0 : ∀ t : Fin grid0.N, win0_0.index t 0 = t.val / 1 ∧ win0_0.index t 1 = t.val % 1 := by decide +kernel

/-- The block of the left factor at point `t`. -/
theorem blk0_at (t : Fin cfg0.N) (r : Fin 1024) (k : Fin 2048) :
    (iblk m c 0 t : S1024x2048.Idx → EReal) (ix2 r k)
      = at2 (lhs m c) (1024 * (t.val / 1) + r.val) (2048 * (t.val % 1) + k.val) := by
  have hN : t.val < 16 := lt_of_lt_of_eq t.isLt N_0
  have hi := idx0 t
  rw [at2_lt _ (t := 1024 * (t.val / 1) + r.val) (k := 2048 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 1) + r.val; rw [hi.1]; omega
  | ⟨1, _⟩ => show win0_0.index t 1 * 2048 + 1 * k.val = 2048 * (t.val % 1) + k.val; rw [hi.2]; omega

theorem idx1 : ∀ t : Fin grid0.N, win0_1.index t 0 = t.val % 1 ∧ win0_1.index t 1 = t.val / 1 % 1 := by decide +kernel

/-- The block of the right factor at point `t`. -/
theorem blk1_at (t : Fin cfg0.N) (r : Fin 2048) (k : Fin 1024) :
    (iblk m c 1 t : S2048x1024.Idx → EReal) (ix2 r k)
      = at2 (rhs m c) (2048 * (t.val % 1) + r.val) (1024 * (t.val / 1 % 1) + k.val) := by
  have hN : t.val < 16 := lt_of_lt_of_eq t.isLt N_0
  have hi := idx1 t
  rw [at2_lt _ (t := 2048 * (t.val % 1) + r.val) (k := 1024 * (t.val / 1 % 1) + k.val) (by omega) (by omega)]
  unfold iblk
  rw [View.read_apply]
  refine congrArg (rhs m c) (funext fun a => Fin.ext ?_)
  match a with
  | ⟨0, _⟩ => show win0_1.index t 0 * 2048 + 1 * r.val = 2048 * (t.val % 1) + r.val; rw [hi.1]; omega
  | ⟨1, _⟩ => show win0_1.index t 1 * 1024 + 1 * k.val = 1024 * (t.val / 1 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 2048, pr m c (1024 * (t.val / 1) + r.val) (1024 * (t.val / 1 % 1) + k.val) (2048 * (t.val % 1) + q.val) :=
  (block_at _ _ r k).trans (Finset.sum_congr rfl fun q _ => congrArg₂ (· * ·) (blk0_at m c t r q) (blk1_at m c t q k))

/-- The result: every element of the product. -/
def res : S16384x1024.Idx → EReal := fun j => nn 2048 (lhs m c) (rhs m c) (j 0).val (j 1).val

theorem out_at (t : Fin cfg0.N) (r : Fin 1024) (k : Fin 1024) :
    (out0_2 (iblk m c 0 t) (iblk m c 1 t) : S1024x1024.Idx → EReal) (ix2 r k)
      = nn 2048 (lhs m c) (rhs m c) (1024 * (t.val / 1) + r.val) (1024 * (t.val / 1 % 1) + k.val) := by
  rw [out_eq, part_at]
  unfold nn
  rw [show t.val % 1 = 0 from Nat.mod_one _]
  exact sum_all (pr m c (1024 * (t.val / 1) + r.val) (1024 * (t.val / 1 % 1) + k.val)) 2048

theorem idx2 : ∀ t : Fin grid0.N, win0_2.index t 0 = t.val / 1 ∧ win0_2.index t 1 = t.val / 1 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t r k).trans ?_
  have hi := idx2 t
  refine congrArg₂ (nn 2048 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 1024 := (i 1).isLt
    let t : Fin cfg0.N := ⟨1 * ((i 0).val / 1024) + (i 1).val / 1024, lt_of_lt_of_eq (by omega : _ < 16) N_0.symm⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x2048.Idx → EReal := m ((c : Thread nD τ).loc main_arg0)
abbrev arg1 : S2048x1024.Idx → EReal := m ((c : Thread nD τ).loc main_arg1)

/-- The result, by elements of the arguments. -/
theorem res_at (t : Fin 16384) (k : Fin 1024) : res m c (ix2 t k)
    = ∑ q : Fin 2048, arg0 m c (ix2 t q) * arg1 m c (ix2 q k) := by
  show nn 2048 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg0 m c) (ix2 t q)) (congrFun (V_main_arg1 m c) (ix2 q k))

/-- The reference's result, by elements of the arguments. -/
theorem ref_at (x0 : S16384x2048.Idx → EReal) (x1 : S2048x1024.Idx → EReal) (t : Fin 16384) (k : Fin 1024) :
    (Cert.BsRefIdeal.Read.val_main_v3 (F := Ideal) x0 x1 : S16384x1024.Idx → EReal) (ix2 t k)
      = ∑ q : Fin 2048, x0 (ix2 t q) * x1 (ix2 q k) := by
  pointwise [Cert.BsRefIdeal.Read.val_main_v0, Cert.BsRefIdeal.Read.val_main_v1, Cert.BsRefIdeal.Read.val_main_v2, Cert.BsRefIdeal.Read.val_main_v3]

/-- The reference runs, leaves its arguments and ends with every counter at zero: it has no semaphores. -/
theorem referenceFrame : Cert.quiescent_BsRefIdeal (hBsRefIdeal := Cert.BsRefIdeal.Gen.facts) :=
  fun m ρ _ => (θ_run Cert.BsRefIdeal.defs _ _).mono (fun r h => And.intro (fun c => (h c).2)
      (Idealize.ShloMosaic.sem_eq_zero_of_no_sems (by decide) r.2))
    (Cert.BsRefIdeal.Value.run (F := Ideal) m ρ)

/-- The program and its reference give the same result, element by element. -/
theorem values : Cert.algebraic_BsIdeal_BsRefIdeal (hBsIdeal := Cert.BsIdeal.Gen.facts)
    (hBsRefIdeal := Cert.BsRefIdeal.Gen.facts) := by
  intro m g m' g' _ hargs
  refine ⟨fun c => res m c, ?_, ?_⟩
  · refine (θ_run Cert.BsIdeal.defs _ _).mono (fun r h c => ?_) (Cert.BsIdeal.Value.run_blocks m g)
    obtain ⟨h0, h1⟩ := h c
    exact ⟨h0.trans (final m c), h1⟩
  · refine (θ_run Cert.BsRefIdeal.defs _ _).mono (fun r h c => ?_) (Cert.BsRefIdeal.Value.run m' g')
    obtain ⟨h0, h1⟩ := h c
    obtain ⟨a0, a1⟩ := hargs c
    refine ⟨h0.trans ?_, h1⟩
    rw [Cert.BsRefIdeal.Read.val_main_v3_eq, a0, a1]
    funext j
    obtain ⟨t, k, rfl⟩ := ix2_surj (m := 16384) (n := 1024) j
    exact (ref_at _ _ t k).trans (res_at m c t k).symm

end Cert.Prod.Bs
end
-- ==== Proof.Prod.Ba.lean ====
module
public import proofs.«01_k».proof.Defs
public import proofs.«01_k».proof.Proof.Gen.Ba
public import proofs.«01_k».proof.Proof.Gen.Ba.Frame
public import proofs.«01_k».proof.Proof.Gen.BaIdeal.Value
public import proofs.«01_k».proof.Proof.Gen.BaRefIdeal
public import proofs.«01_k».proof.Proof.Gen.BaRefIdeal.Run
public import proofs.«01_k».proof.Proof.Gen.BaRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `Ba`: its result is one product of matrices, element by element that of its reference. -/

namespace Cert.Prod.Ba

open Idealize.ShloMosaic Idealize.ShloMosaic.TcCoe Idealize.SL.Sem Cert.BaIdeal Cert.BaIdeal.Gen Cert.FfnAct
open Idealize.ShloMosaic.Pipeline (Dat)

/-- The product of the two blocks that a point reads. -/
theorem block_at (x0 : Vec Ideal S1024x1024 .bf16) (x1 : Vec Ideal S1024x1024 .bf16) (r : Fin 1024) (k : Fin 1024) :
    (k0_pay1 x0 x1 : S1024x1024.Idx → EReal) (ix2 r k)
      = ∑ q : Fin 1024, (x0 : S1024x1024.Idx → EReal) (ix2 r q) * (x1 : S1024x1024.Idx → EReal) (ix2 q k) := by
  pointwise [k0_pay1]

/-- What a point leaves in its block of the result is that product. -/
theorem out_eq (x0 : Vec Ideal S1024x1024 .bf16) (x1 : Vec Ideal S1024x1024 .bf16) : out0_2 x0 x1 = k0_pay1 x0 x1 := by
  unfold out0_2
  rw [View.canon_unit_zero (S := S1024x1024) (funext fun a => by fin_cases a <;> rfl)]
  repeat rw [View.ld_unit_zero (S := S1024x1024) (funext fun a => by fin_cases a <;> rfl)]
  repeat rw [View.ld_unit_zero (S := S1024x1024) (funext fun a => by fin_cases a <;> rfl)]

variable (m : (ℓ : Loc nD τ sig) → Buf (Elt Ideal) ℓ) (c : Dev nD)

/-- The two factors, as the launch finds them. -/
abbrev lhs : S16384x1024.Idx → EReal := V m c main_arg0
abbrev rhs : S1024x1024.Idx → EReal := V m c main_arg1

theorem idx0 : ∀ t : Fin grid0.N, win0_0.index t 0 = t.val / 1 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 1) + r.val) (1024 * (t.val % 1) + k.val) := by
  have hN : t.val < 16 := lt_of_lt_of_eq t.isLt N_0
  have hi := idx0 t
  rw [at2_lt _ (t := 1024 * (t.val / 1) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 1) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 1 := by decide +kernel

/-- The block of the right factor at point `t`. -/
theorem blk1_at (t : Fin cfg0.N) (r : Fin 1024) (k : Fin 1024) :
    (iblk m c 1 t : S1024x1024.Idx → EReal) (ix2 r k)
      = at2 (rhs m c) (1024 * (t.val % 1) + r.val) (1024 * (t.val / 1 % 1) + k.val) := by
  have hN : t.val < 16 := lt_of_lt_of_eq t.isLt N_0
  have hi := idx1 t
  rw [at2_lt _ (t := 1024 * (t.val % 1) + r.val) (k := 1024 * (t.val / 1 % 1) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 1024 + 1 * k.val = 1024 * (t.val / 1 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 1024, pr m c (1024 * (t.val / 1) + r.val) (1024 * (t.val / 1 % 1) + k.val) (1024 * (t.val % 1) + q.val) :=
  (block_at _ _ r k).trans (Finset.sum_congr rfl fun q _ => congrArg₂ (· * ·) (blk0_at m c t r q) (blk1_at m c t q k))

/-- The result: every element of the product. -/
def res : S16384x1024.Idx → EReal := fun j => nn 1024 (lhs m c) (rhs m c) (j 0).val (j 1).val

theorem out_at (t : Fin cfg0.N) (r : Fin 1024) (k : Fin 1024) :
    (out0_2 (iblk m c 0 t) (iblk m c 1 t) : S1024x1024.Idx → EReal) (ix2 r k)
      = nn 1024 (lhs m c) (rhs m c) (1024 * (t.val / 1) + r.val) (1024 * (t.val / 1 % 1) + k.val) := by
  rw [out_eq, part_at]
  unfold nn
  rw [show t.val % 1 = 0 from Nat.mod_one _]
  exact sum_all (pr m c (1024 * (t.val / 1) + r.val) (1024 * (t.val / 1 % 1) + k.val)) 1024

theorem idx2 : ∀ t : Fin grid0.N, win0_2.index t 0 = t.val / 1 ∧ win0_2.index t 1 = t.val / 1 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 1024 := (i 1).isLt
    let t : Fin cfg0.N := ⟨1 * ((i 0).val / 1024) + (i 1).val / 1024, lt_of_lt_of_eq (by omega : _ < 16) N_0.symm⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x1024.Idx → EReal := m ((c : Thread nD τ).loc main_arg0)
abbrev arg1 : S1024x1024.Idx → EReal := m ((c : Thread nD τ).loc main_arg1)

/-- The result, by elements of the arguments. -/
theorem res_at (t : Fin 16384) (k : Fin 1024) : res m c (ix2 t k)
    = ∑ q : Fin 1024, arg0 m c (ix2 t q) * arg1 m c (ix2 q k) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg0 m c) (ix2 t q)) (congrFun (V_main_arg1 m c) (ix2 q k))

/-- The reference's result, by elements of the arguments. -/
theorem ref_at (x0 : S16384x1024.Idx → EReal) (x1 : S1024x1024.Idx → EReal) (t : Fin 16384) (k : Fin 1024) :
    (Cert.BaRefIdeal.Read.val_main_v3 (F := Ideal) x0 x1 : S16384x1024.Idx → EReal) (ix2 t k)
      = ∑ q : Fin 1024, x0 (ix2 t q) * x1 (ix2 q k) := by
  pointwise [Cert.BaRefIdeal.Read.val_main_v0, Cert.BaRefIdeal.Read.val_main_v1, Cert.BaRefIdeal.Read.val_main_v2, Cert.BaRefIdeal.Read.val_main_v3]

/-- The reference runs, leaves its arguments and ends with every counter at zero: it has no semaphores. -/
theorem referenceFrame : Cert.quiescent_BaRefIdeal (hBaRefIdeal := Cert.BaRefIdeal.Gen.facts) :=
  fun m ρ _ => (θ_run Cert.BaRefIdeal.defs _ _).mono (fun r h => And.intro (fun c => (h c).2)
      (Idealize.ShloMosaic.sem_eq_zero_of_no_sems (by decide) r.2))
    (Cert.BaRefIdeal.Value.run (F := Ideal) m ρ)

/-- The program and its reference give the same result, element by element. -/
theorem values : Cert.algebraic_BaIdeal_BaRefIdeal (hBaIdeal := Cert.BaIdeal.Gen.facts)
    (hBaRefIdeal := Cert.BaRefIdeal.Gen.facts) := by
  intro m g m' g' _ hargs
  refine ⟨fun c => res m c, ?_, ?_⟩
  · refine (θ_run Cert.BaIdeal.defs _ _).mono (fun r h c => ?_) (Cert.BaIdeal.Value.run_blocks m g)
    obtain ⟨h0, h1⟩ := h c
    exact ⟨h0.trans (final m c), h1⟩
  · refine (θ_run Cert.BaRefIdeal.defs _ _).mono (fun r h c => ?_) (Cert.BaRefIdeal.Value.run m' g')
    obtain ⟨h0, h1⟩ := h c
    obtain ⟨a0, a1⟩ := hargs c
    refine ⟨h0.trans ?_, h1⟩
    rw [Cert.BaRefIdeal.Read.val_main_v3_eq, a0, a1]
    funext j
    obtain ⟨t, k, rfl⟩ := ix2_surj (m := 16384) (n := 1024) j
    exact (ref_at _ _ t k).trans (res_at m c t k).symm

end Cert.Prod.Ba
end
-- ==== Proof.Prod.Mix.lean ====
module
public import proofs.«01_k».proof.Defs
public import proofs.«01_k».proof.Proof.Gen.Mix
public import proofs.«01_k».proof.Proof.Gen.Mix.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `Mix`: its result is one product of matrices, element by element that of its reference. -/

namespace Cert.Prod.Mix

open Idealize.ShloMosaic Idealize.ShloMosaic.TcCoe Idealize.SL.Sem Cert.MixIdeal Cert.MixIdeal.Gen Cert.FfnAct
open Idealize.ShloMosaic.Pipeline (Dat)

/-- The product of the two blocks that a point reads. -/
theorem block_at (x0 : Vec Ideal S1024x1024 .bf16) (x1 : Vec Ideal S1024x1024 .bf16) (r : Fin 1024) (k : Fin 1024) :
    (k0_pay1 x0 x1 : S1024x1024.Idx → EReal) (ix2 r k)
      = ∑ q : Fin 1024, (x0 : S1024x1024.Idx → EReal) (ix2 r q) * (x1 : S1024x1024.Idx → EReal) (ix2 q k) := by
  pointwise [k0_pay1]

/-- What a point leaves in its block of the result is that product. -/
theorem out_eq (x0 : Vec Ideal S1024x1024 .bf16) (x1 : Vec Ideal S1024x1024 .bf16) : out0_2 x0 x1 = k0_pay1 x0 x1 := by
  unfold out0_2
  rw [View.canon_unit_zero (S := S1024x1024) (funext fun a => by fin_cases a <;> rfl)]
  repeat rw [View.ld_unit_zero (S := S1024x1024) (funext fun a => by fin_cases a <;> rfl)]
  repeat rw [View.ld_unit_zero (S := S1024x1024) (funext fun a => by fin_cases a <;> rfl)]

variable (m : (ℓ : Loc nD τ sig) → Buf (Elt Ideal) ℓ) (c : Dev nD)

/-- The two factors, as the launch finds them. -/
abbrev lhs : S16384x1024.Idx → EReal := V m c main_arg0
abbrev rhs : S1024x1024.Idx → EReal := V m c main_arg1

theorem idx0 : ∀ t : Fin grid0.N, win0_0.index t 0 = t.val / 1 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 1) + r.val) (1024 * (t.val % 1) + k.val) := by
  have hN : t.val < 16 := lt_of_lt_of_eq t.isLt N_0
  have hi := idx0 t
  rw [at2_lt _ (t := 1024 * (t.val / 1) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 1) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 1 := by decide +kernel

/-- The block of the right factor at point `t`. -/
theorem blk1_at (t : Fin cfg0.N) (r : Fin 1024) (k : Fin 1024) :
    (iblk m c 1 t : S1024x1024.Idx → EReal) (ix2 r k)
      = at2 (rhs m c) (1024 * (t.val % 1) + r.val) (1024 * (t.val / 1 % 1) + k.val) := by
  have hN : t.val < 16 := lt_of_lt_of_eq t.isLt N_0
  have hi := idx1 t
  rw [at2_lt _ (t := 1024 * (t.val % 1) + r.val) (k := 1024 * (t.val / 1 % 1) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 1024 + 1 * k.val = 1024 * (t.val / 1 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 1024) :
    (k0_pay1 (iblk m c 0 t) (iblk m c 1 t) : S1024x1024.Idx → EReal) (ix2 r k)
      = ∑ q : Fin 1024, pr m c (1024 * (t.val / 1) + r.val) (1024 * (t.val / 1 % 1) + k.val) (1024 * (t.val % 1) + q.val) :=
  (block_at _ _ r k).trans (Finset.sum_congr rfl fun q _ => congrArg₂ (· * ·) (blk0_at m c t r q) (blk1_at m c t q k))

/-- The result: every element of the product. -/
def res : S16384x1024.Idx → EReal := fun j => nn 1024 (lhs m c) (rhs m c) (j 0).val (j 1).val

theorem out_at (t : Fin cfg0.N) (r : Fin 1024) (k : Fin 1024) :
    (out0_2 (iblk m c 0 t) (iblk m c 1 t) : S1024x1024.Idx → EReal) (ix2 r k)
      = nn 1024 (lhs m c) (rhs m c) (1024 * (t.val / 1) + r.val) (1024 * (t.val / 1 % 1) + k.val) := by
  rw [out_eq, part_at]
  unfold nn
  rw [show t.val % 1 = 0 from Nat.mod_one _]
  exact sum_all (pr m c (1024 * (t.val / 1) + r.val) (1024 * (t.val / 1 % 1) + k.val)) 1024

theorem idx2 : ∀ t : Fin grid0.N, win0_2.index t 0 = t.val / 1 ∧ win0_2.index t 1 = t.val / 1 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 1024) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 1024 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 1024 := (i 1).isLt
    let t : Fin cfg0.N := ⟨1 * ((i 0).val / 1024) + (i 1).val / 1024, lt_of_lt_of_eq (by omega : _ < 16) N_0.symm⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 1024 ≤ (i 1 : Nat) ∧ (i 1 : Nat) < win0_2.index t 1 * 1024 + 1024
                rw [hi.2]; dsimp only [t]; omega

/-- The two arguments. -/
abbrev arg0 : S16384x1024.Idx → EReal := m ((c : Thread nD τ).loc main_arg0)
abbrev arg1 : S1024x1024.Idx → EReal := m ((c : Thread nD τ).loc main_arg1)

/-- The result, by elements of the arguments. -/
theorem res_at (t : Fin 16384) (k : Fin 1024) : res m c (ix2 t k)
    = ∑ q : Fin 1024, arg0 m c (ix2 t q) * arg1 m c (ix2 q k) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg0 m c) (ix2 t q)) (congrFun (V_main_arg1 m c) (ix2 q k))

/-- The reference's result, by elements of the arguments. -/
theorem ref_at (x0 : S16384x1024.Idx → EReal) (x1 : S1024x1024.Idx → EReal) (t : Fin 16384) (k : Fin 1024) :
    (Cert.MixRefIdeal.Read.val_main_v3 (F := Ideal) x0 x1 : S16384x1024.Idx → EReal) (ix2 t k)
      = ∑ q : Fin 1024, x0 (ix2 t q) * x1 (ix2 q k) := by
  pointwise [Cert.MixRefIdeal.Read.val_main_v0, Cert.MixRefIdeal.Read.val_main_v1, Cert.MixRefIdeal.Read.val_main_v2, Cert.MixRefIdeal.Read.val_main_v3]

/-- The reference runs, leaves its arguments and ends with every counter at zero: it has no semaphores. -/
theorem referenceFrame : Cert.quiescent_MixRefIdeal (hMixRefIdeal := Cert.MixRefIdeal.Gen.facts) :=
  fun m ρ _ => (θ_run Cert.MixRefIdeal.defs _ _).mono (fun r h => And.intro (fun c => (h c).2)
      (Idealize.ShloMosaic.sem_eq_zero_of_no_sems (by decide) r.2))
    (Cert.MixRefIdeal.Value.run (F := Ideal) m ρ)

/-- The program and its reference give the same result, element by element. -/
theorem values : Cert.algebraic_MixIdeal_MixRefIdeal (hMixIdeal := Cert.MixIdeal.Gen.facts)
    (hMixRefIdeal := Cert.MixRefIdeal.Gen.facts) := by
  intro m g m' g' _ hargs
  refine ⟨fun c => res m c, ?_, ?_⟩
  · refine (θ_run Cert.MixIdeal.defs _ _).mono (fun r h c => ?_) (Cert.MixIdeal.Value.run_blocks m g)
    obtain ⟨h0, h1⟩ := h c
    exact ⟨h0.trans (final m c), h1⟩
  · refine (θ_run Cert.MixRefIdeal.defs _ _).mono (fun r h c => ?_) (Cert.MixRefIdeal.Value.run m' g')
    obtain ⟨h0, h1⟩ := h c
    obtain ⟨a0, a1⟩ := hargs c
    refine ⟨h0.trans ?_, h1⟩
    rw [Cert.MixRefIdeal.Read.val_main_v3_eq, a0, a1]
    funext j
    obtain ⟨t, k, rfl⟩ := ix2_surj (m := 16384) (n := 1024) j
    exact (ref_at _ _ t k).trans (res_at m c t k).symm

end Cert.Prod.Mix
end
-- ==== Proof.Prod.InTail.lean ====
module
public import proofs.«01_k».proof.Defs
public import proofs.«01_k».proof.Proof.Gen.InTail
public import proofs.«01_k».proof.Proof.Gen.InTail.Frame
public import proofs.«01_k».proof.Proof.Gen.InTailIdeal.Value
public import proofs.«01_k».proof.Proof.Gen.InTailRefIdeal
public import proofs.«01_k».proof.Proof.Gen.InTailRefIdeal.Run
public import proofs.«01_k».proof.Proof.Gen.InTailRefIdeal.Read
public import proofs.«01_k».proof.Proof.Prod.Spec
public import Idealize.ShloMosaic.Lib.Pipeline.ReadBack
public import Idealize.ShloMosaic.Lib.Quiescent

@[expose] public section

set_option maxRecDepth 16384

noncomputable section

/-! The program `InTail`: its result is one product of matrices, element by element that of its reference. -/

namespace Cert.Prod.InTail

open Idealize.ShloMosaic Idealize.ShloMosaic.TcCoe Idealize.SL.Sem Cert.InTailIdeal Cert.InTailIdeal.Gen Cert.FfnAct
open Idealize.ShloMosaic.Pipeline (Dat)

/-- The product of the two blocks that a point reads. -/
theorem block_at (x0 : Vec Ideal S1024x1024 .bf16) (x1 : Vec Ideal S1024x512 .bf16) (r : Fin 1024) (k : Fin 512) :
    (k0_pay1 x0 x1 : S1024x512.Idx → EReal) (ix2 r k)
      = ∑ q : Fin 1024, (x0 : S1024x1024.Idx → EReal) (ix2 r q) * (x1 : S1024x512.Idx → EReal) (ix2 q k) := by
  pointwise [k0_pay1]

/-- What a point leaves in its block of the result is that product. -/
theorem out_eq (x0 : Vec Ideal S1024x1024 .bf16) (x1 : Vec Ideal S1024x512 .bf16) : out0_2 x0 x1 = k0_pay1 x0 x1 := by
  unfold out0_2
  rw [View.canon_unit_zero (S := S1024x512) (funext fun a => by fin_cases a <;> rfl)]
  repeat rw [View.ld_unit_zero (S := S1024x1024) (funext fun a => by fin_cases a <;> rfl)]
  repeat rw [View.ld_unit_zero (S := S1024x512) (funext fun a => by fin_cases a <;> rfl)]

variable (m : (ℓ : Loc nD τ sig) → Buf (Elt Ideal) ℓ) (c : Dev nD)

/-- The two factors, as the launch finds them. -/
abbrev lhs : S16384x1024.Idx → EReal := V m c main_arg0
abbrev rhs : S1024x512.Idx → EReal := V m c main_arg1

theorem idx0 : ∀ t : Fin grid0.N, win0_0.index t 0 = t.val / 1 ∧ win0_0.index t 1 = t.val % 1 := by decide +kernel

/-- The block of the left factor at point `t`. -/
theorem blk0_at (t : Fin cfg0.N) (r : Fin 1024) (k : Fin 1024) :
    (iblk m c 0 t : S1024x1024.Idx → EReal) (ix2 r k)
      = at2 (lhs m c) (1024 * (t.val / 1) + r.val) (1024 * (t.val % 1) + k.val) := by
  have hN : t.val < 16 := lt_of_lt_of_eq t.isLt N_0
  have hi := idx0 t
  rw [at2_lt _ (t := 1024 * (t.val / 1) + r.val) (k := 1024 * (t.val % 1) + k.val) (by omega) (by omega)]
  unfold iblk
  rw [View.read_apply]
  refine congrArg (lhs m c) (funext fun a => Fin.ext ?_)
  match a with
  | ⟨0, _⟩ => show win0_0.index t 0 * 1024 + 1 * r.val = 1024 * (t.val / 1) + r.val; rw [hi.1]; omega
  | ⟨1, _⟩ => show win0_0.index t 1 * 1024 + 1 * k.val = 1024 * (t.val % 1) + k.val; rw [hi.2]; omega

theorem idx1 : ∀ t : Fin grid0.N, win0_1.index t 0 = t.val % 1 ∧ win0_1.index t 1 = t.val / 1 % 1 := by decide +kernel

/-- The block of the right factor at point `t`. -/
theorem blk1_at (t : Fin cfg0.N) (r : Fin 1024) (k : Fin 512) :
    (iblk m c 1 t : S1024x512.Idx → EReal) (ix2 r k)
      = at2 (rhs m c) (1024 * (t.val % 1) + r.val) (512 * (t.val / 1 % 1) + k.val) := by
  have hN : t.val < 16 := lt_of_lt_of_eq t.isLt N_0
  have hi := idx1 t
  rw [at2_lt _ (t := 1024 * (t.val % 1) + r.val) (k := 512 * (t.val / 1 % 1) + k.val) (by omega) (by omega)]
  unfold iblk
  rw [View.read_apply]
  refine congrArg (rhs m c) (funext fun a => Fin.ext ?_)
  match a with
  | ⟨0, _⟩ => show win0_1.index t 0 * 1024 + 1 * r.val = 1024 * (t.val % 1) + r.val; rw [hi.1]; omega
  | ⟨1, _⟩ => show win0_1.index t 1 * 512 + 1 * k.val = 512 * (t.val / 1 % 1) + k.val; rw [hi.2]; omega

/-- The products that make element `(i, j)` of the result. -/
def pr (i j q : ℕ) : EReal := at2 (lhs m c) i q * at2 (rhs m c) q j

/-- The product of the blocks at point `t`, by elements of the factors. -/
theorem part_at (t : Fin cfg0.N) (r : Fin 1024) (k : Fin 512) :
    (k0_pay1 (iblk m c 0 t) (iblk m c 1 t) : S1024x512.Idx → EReal) (ix2 r k)
      = ∑ q : Fin 1024, pr m c (1024 * (t.val / 1) + r.val) (512 * (t.val / 1 % 1) + k.val) (1024 * (t.val % 1) + q.val) :=
  (block_at _ _ r k).trans (Finset.sum_congr rfl fun q _ => congrArg₂ (· * ·) (blk0_at m c t r q) (blk1_at m c t q k))

/-- The result: every element of the product. -/
def res : S16384x512.Idx → EReal := fun j => nn 1024 (lhs m c) (rhs m c) (j 0).val (j 1).val

theorem out_at (t : Fin cfg0.N) (r : Fin 1024) (k : Fin 512) :
    (out0_2 (iblk m c 0 t) (iblk m c 1 t) : S1024x512.Idx → EReal) (ix2 r k)
      = nn 1024 (lhs m c) (rhs m c) (1024 * (t.val / 1) + r.val) (512 * (t.val / 1 % 1) + k.val) := by
  rw [out_eq, part_at]
  unfold nn
  rw [show t.val % 1 = 0 from Nat.mod_one _]
  exact sum_all (pr m c (1024 * (t.val / 1) + r.val) (512 * (t.val / 1 % 1) + k.val)) 1024

theorem idx2 : ∀ t : Fin grid0.N, win0_2.index t 0 = t.val / 1 ∧ win0_2.index t 1 = t.val / 1 % 1 := by decide +kernel

attribute [local irreducible] nn in
theorem flushed (t : Fin cfg0.N) (hf : (cfg0.win 2).flush t = true) :
    (dats m 0 c).flushed 2 t = ((cfg0.win 2).blk t).view.read (Elt Ideal) (res m c) := by
  rw [Value.flushed2]
  funext j
  rw [View.read_apply]
  obtain ⟨r, k, rfl⟩ := ix2_surj (m := 1024) (n := 512) j
  refine (out_at m c t r k).trans ?_
  have hi := idx2 t
  refine congrArg₂ (nn 1024 (lhs m c) (rhs m c)) ?_ ?_
  · show _ = win0_2.index t 0 * 1024 + 1 * r.val; rw [hi.1]; omega
  · show _ = win0_2.index t 1 * 512 + 1 * k.val; rw [hi.2]; omega

/-- The result array after the run. -/
theorem final : (dats m 0 c).arrAt 2 cfg0.N = res m c :=
  (dats m 0 c).arrAt_eq_of_cover 2 (res m c) (flushed m c) fun i => by
    have h0 : (i 0 : Nat) < 16384 := (i 0).isLt
    have h1 : (i 1 : Nat) < 512 := (i 1).isLt
    let t : Fin cfg0.N := ⟨1 * ((i 0).val / 1024) + (i 1).val / 512, lt_of_lt_of_eq (by omega : _ < 16) N_0.symm⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; dsimp only [t]; omega
    | ⟨1, _⟩ => show win0_2.index t 1 * 512 ≤ (i 1 : Nat) ∧ (i 1 : Nat) < win0_2.index t 1 * 512 + 512
                rw [hi.2]; dsimp only [t]; omega

/-- The two arguments. -/
abbrev arg0 : S16384x1024.Idx → EReal := m ((c : Thread nD τ).loc main_arg0)
abbrev arg1 : S1024x512.Idx → EReal := m ((c : Thread nD τ).loc main_arg1)

/-- The result, by elements of the arguments. -/
theorem res_at (t : Fin 16384) (k : Fin 512) : res m c (ix2 t k)
    = ∑ q : Fin 1024, arg0 m c (ix2 t q) * arg1 m c (ix2 q k) := by
  show nn 1024 (lhs m c) (rhs m c) t.val k.val = _
  unfold nn
  rw [Finset.sum_range]
  refine Finset.sum_congr rfl fun q _ => ?_
  refine (congrArg₂ (· * ·) (at2_ix (lhs m c) t q) (at2_ix (rhs m c) q k)).trans ?_
  exact congrArg₂ (· * ·) (congrFun (V_main_arg0 m c) (ix2 t q)) (congrFun (V_main_arg1 m c) (ix2 q k))

/-- The reference's result, by elements of the arguments. -/
theorem ref_at (x0 : S16384x1024.Idx → EReal) (x1 : S1024x512.Idx → EReal) (t : Fin 16384) (k : Fin 512) :
    (Cert.InTailRefIdeal.Read.val_main_v2 (F := Ideal) x0 x1 : S16384x512.Idx → EReal) (ix2 t k)
      = ∑ q : Fin 1024, x0 (ix2 t q) * x1 (ix2 q k) := by
  pointwise [Cert.InTailRefIdeal.Read.val_main_v0, Cert.InTailRefIdeal.Read.val_main_v1, Cert.InTailRefIdeal.Read.val_main_v2]

/-- The reference runs, leaves its arguments and ends with every counter at zero: it has no semaphores. -/
theorem referenceFrame : Cert.quiescent_InTailRefIdeal (hInTailRefIdeal := Cert.InTailRefIdeal.Gen.facts) :=
  fun m ρ _ => (θ_run Cert.InTailRefIdeal.defs _ _).mono (fun r h => And.intro (fun c => (h c).2)
      (Idealize.ShloMosaic.sem_eq_zero_of_no_sems (by decide) r.2))
    (Cert.InTailRefIdeal.Value.run (F := Ideal) m ρ)

/-- The program and its reference give the same result, element by element. -/
theorem values : Cert.algebraic_InTailIdeal_InTailRefIdeal (hInTailIdeal := Cert.InTailIdeal.Gen.facts)
    (hInTailRefIdeal := Cert.InTailRefIdeal.Gen.facts) := by
  intro m g m' g' _ hargs
  refine ⟨fun c => res m c, ?_, ?_⟩
  · refine (θ_run Cert.InTailIdeal.defs _ _).mono (fun r h c => ?_) (Cert.InTailIdeal.Value.run_blocks m g)
    obtain ⟨h0, h1⟩ := h c
    exact ⟨h0.trans (final m c), h1⟩
  · refine (θ_run Cert.InTailRefIdeal.defs _ _).mono (fun r h c => ?_) (Cert.InTailRefIdeal.Value.run m' g')
    obtain ⟨h0, h1⟩ := h c
    obtain ⟨a0, a1⟩ := hargs c
    refine ⟨h0.trans ?_, h1⟩
    rw [Cert.InTailRefIdeal.Read.val_main_v2_eq, a0, a1]
    funext j
    obtain ⟨t, k, rfl⟩ := ix2_surj (m := 16384) (n := 512) j
    exact (ref_at _ _ t k).trans (res_at m c t k).symm

end Cert.Prod.InTail
end
-- ==== Proof.FfnAct.Body.lean ====
module
public import proofs.«01_k».proof.Proof.Gen.KernelIdeal.Skeleton
public import proofs.«01_k».proof.Proof.FfnAct.Spec

@[expose] public section

noncomputable section

/-! What the kernel body computes from the blocks it loads, read element by element. -/

namespace Cert.FfnAct

open Idealize.ShloMosaic Idealize.SL.Sem Cert.KernelIdeal Cert.KernelIdeal.Gen
variable [Cert.KernelIdeal.Facts]
set_option maxRecDepth 16384

/-- The gate's gradient on the block's own rows. -/
theorem gate_at (g v a : FVec Ideal S256x2816 .bf16) (r : Fin 256) (k : Fin 2816) :
    k0_pay7 (F := Ideal) g v a (ix2 r k) = dGate (a (ix2 r k)) (v (ix2 r k)) (g (ix2 r k)) := by
  pointwise [k0_pay7, k0_pay5, k0_pay6]; rfl

/-- The value's gradient on the block's own rows. -/
theorem val_at (g a : FVec Ideal S256x2816 .bf16) (r : Fin 256) (k : Fin 2816) :
    k0_pay8 (F := Ideal) g a (ix2 r k) = dVal (a (ix2 r k)) (g (ix2 r k)) := by
  pointwise [k0_pay8, k0_pay5, k0_pay6]; rfl

/-- The gate's gradient on the rows after the block; zero after the last block. -/
theorem gate_next_at (i : BitVec 32) (g v a : FVec Ideal S8x2816 .bf16) (r : Fin 8) (k : Fin 2816) :
    k0_pay12 (F := Ideal) i (k0_pay9 g) v a (ix2 r k)
      = Scalar.select (Scalar.cmpi .eq i 63#32) 0 (dGate (a (ix2 r k)) (v (ix2 r k)) (g (ix2 r k))) := by
  pointwise [k0_pay12, k0_pay9, k0_pay10]; rfl

/-- The value's gradient on the rows after the block; zero after the last block. -/
theorem val_next_at (i : BitVec 1) (g a : FVec Ideal S8x2816 .bf16) (r : Fin 8) (k : Fin 2816) :
    k0_pay26 (F := Ideal) (k0_pay11 (k0_pay9 g) a) i (ix2 r k)
      = Scalar.select i 0 (dVal (a (ix2 r k)) (g (ix2 r k))) := by
  pointwise [k0_pay26, k0_pay11, k0_pay9, k0_pay10]; rfl

/-- A row index inside the last eight rows of a block, compared with a small number. -/
theorem sge_small (n b : ℕ) (hn : n < 8) (hb : b < 8) :
    IntOp.cmpi .sge (BitVec.ofNat 32 n) (BitVec.ofNat 32 b) = if b ≤ n then 1#1 else 0#1 := by
  interval_cases n <;> interval_cases b <;> rfl

/-- The block moved up by one row, the row after the block coming in below. -/
theorem up1_at (x : FVec Ideal S256x2816 .f32) (y : FVec Ideal S8x2816 .f32) (f : ℕ → ℕ → EReal)
    (hx : ∀ (r : Fin 256) (k : Fin 2816), x (ix2 r k) = f r.val k.val)
    (hy : ∀ (r : Fin 8) (k : Fin 2816), y (ix2 r k) = f (256 + r.val) k.val) (r : Fin 256) (k : Fin 2816) :
    k0_pay19 (F := Ideal) x y (ix2 r k) = f (r.val + 1) k.val := by
  pointwise [k0_pay19]
  split
  · rw [hx]; congr 1; dsimp only; omega
  · rw [sge_small _ 7 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

/-- The block moved up by two rows, the two rows after the block coming in below. -/
theorem up2_at (x : FVec Ideal S256x2816 .f32) (y : FVec Ideal S8x2816 .f32) (f : ℕ → ℕ → EReal)
    (hx : ∀ (r : Fin 256) (k : Fin 2816), x (ix2 r k) = f r.val k.val)
    (hy : ∀ (r : Fin 8) (k : Fin 2816), y (ix2 r k) = f (256 + r.val) k.val) (r : Fin 256) (k : Fin 2816) :
    k0_pay23 (F := Ideal) y (k0_pay22 x) (ix2 r k) = f (r.val + 2) k.val := by
  pointwise [k0_pay23, k0_pay22]
  split
  · rw [hx]; congr 1; dsimp only; omega
  · rw [sge_small _ 6 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

/-- The value half spells the two moves with its own, equal, expressions. -/
theorem up1_val (x : FVec Ideal S256x2816 .f32) (y : FVec Ideal S8x2816 .f32) :
    k0_pay34 (F := Ideal) x y = k0_pay19 (F := Ideal) x y := rfl

theorem up2_val (x : FVec Ideal S256x2816 .f32) (y : FVec Ideal S8x2816 .f32) :
    k0_pay1 (F := Ideal) (k0_pay37 x) (k0_pay38 y) (iota .tc S8x1 32 [0] iota_S8x1_d0_w32)
      = k0_pay23 (F := Ideal) y (k0_pay22 x) := rfl

section block
variable (x : FVec Ideal S256x2816 .f32) (y : FVec Ideal S8x2816 .f32) (f : ℕ → ℕ → EReal)
  (hx : ∀ (r : Fin 256) (k : Fin 2816), x (ix2 r k) = f r.val k.val)
  (hy : ∀ (r : Fin 8) (k : Fin 2816), y (ix2 r k) = f (256 + r.val) k.val)
include hx hy

/-- The gate half of the gradient at the convolution's input, from its own rows and the rows after them. -/
theorem din_gate_at (w2 w1 w0 : FVec Ideal S1x2816 .f32) (r : Fin 256) (k : Fin 2816) :
    k0_pay25 (F := Ideal) y (k0_pay20 x y (k0_pay15 x w2) w1) (k0_pay22 x) w0 (ix2 r k)
      = f r.val k.val * w2 (ix2 0 k) + f (r.val + 1) k.val * w1 (ix2 0 k) + f (r.val + 2) k.val * w0 (ix2 0 k) := by
  pointwise [k0_pay25, k0_pay20, k0_pay15]
  rw [up1_at x y f hx hy, up2_at x y f hx hy, hx]

/-- The value half of the gradient at the convolution's input. -/
theorem din_val_at (w2 w1 w0 : FVec Ideal S1x2816 .f32) (r : Fin 256) (k : Fin 2816) :
    k0_pay3 (F := Ideal) (k0_pay35 x y (k0_pay29 x w2) w1) (k0_pay37 x) (k0_pay38 y)
        (iota .tc S8x1 32 [0] iota_S8x1_d0_w32) w0 (ix2 r k)
      = f r.val k.val * w2 (ix2 0 k) + f (r.val + 1) k.val * w1 (ix2 0 k) + f (r.val + 2) k.val * w0 (ix2 0 k) := by
  pointwise [k0_pay3, k0_pay35, k0_pay29]
  rw [up2_val, up1_val, up1_at x y f hx hy, up2_at x y f hx hy, hx]

omit hy in
/-- The bias row of the gate half: what it held and the sum of the block's rows. -/
theorem row3_gate_at (p : FVec Ideal S1x2816 .f32) (k : Fin 2816) :
    k0_pay17 (F := Ideal) x k0_pay14 (k0_pay16 p) (ix2 0 k) = p (ix2 0 k) + ∑ t : Fin 256, f t.val k.val := by
  pointwise [k0_pay17, k0_pay14, k0_pay16]
  exact congrArg _ (Finset.sum_congr rfl fun t _ => hx t k)

omit hy in
/-- The bias row of the value half. -/
theorem row3_val_at (p : FVec Ideal S1x2816 .f32) (k : Fin 2816) :
    k0_pay32 (F := Ideal) (k0_pay30 p) (k0_pay31 x) (ix2 0 k) = p (ix2 0 k) + ∑ t : Fin 256, f t.val k.val := by
  pointwise [k0_pay32, k0_pay30, k0_pay31, k0_pay28]
  exact congrArg _ (Finset.sum_congr rfl fun t _ => hx t k)

variable (z : FVec Ideal S256x2816 .bf16)

omit hy in
/-- The last tap's row of the gate half: the rows times the convolution's input. -/
theorem row2_gate_at (p : FVec Ideal S1x2816 .f32) (k : Fin 2816) :
    k0_pay18 (F := Ideal) x (k0_pay13 z) k0_pay14 p (ix2 0 k)
      = p (ix2 0 k) + ∑ t : Fin 256, f t.val k.val * z (ix2 t k) := by
  pointwise [k0_pay18, k0_pay14, k0_pay13]
  exact congrArg _ (Finset.sum_congr rfl fun t _ => by rw [hx t k])

omit hy in
/-- The last tap's row of the value half. -/
theorem row2_val_at (p : FVec Ideal S1x2816 .f32) (k : Fin 2816) :
    k0_pay33 (F := Ideal) x (k0_pay27 z) k0_pay28 p (ix2 0 k)
      = p (ix2 0 k) + ∑ t : Fin 256, f t.val k.val * z (ix2 t k) := by
  pointwise [k0_pay33, k0_pay27, k0_pay28]
  exact congrArg _ (Finset.sum_congr rfl fun t _ => by rw [hx t k])

/-- The middle tap's row of the gate half: the rows one further down, times the convolution's input. -/
theorem row1_gate_at (p : FVec Ideal S1x2816 .f32) (k : Fin 2816) :
    k0_pay21 (F := Ideal) x y (k0_pay13 z) k0_pay14 p (ix2 0 k)
      = p (ix2 0 k) + ∑ t : Fin 256, f (t.val + 1) k.val * z (ix2 t k) := by
  pointwise [k0_pay21, k0_pay14, k0_pay13]
  exact congrArg _ (Finset.sum_congr rfl fun t _ => by rw [up1_at x y f hx hy])

/-- The middle tap's row of the value half. -/
theorem row1_val_at (p : FVec Ideal S1x2816 .f32) (k : Fin 2816) :
    k0_pay36 (F := Ideal) x y (k0_pay27 z) k0_pay28 p (ix2 0 k)
      = p (ix2 0 k) + ∑ t : Fin 256, f (t.val + 1) k.val * z (ix2 t k) := by
  pointwise [k0_pay36, k0_pay27, k0_pay28]
  exact congrArg _ (Finset.sum_congr rfl fun t _ => by rw [up1_val, up1_at x y f hx hy])

/-- The first tap's row of the gate half: the rows two further down, times the convolution's input. -/
theorem row0_gate_at (p : FVec Ideal S1x2816 .f32) (k : Fin 2816) :
    k0_pay24 (F := Ideal) y (k0_pay13 z) k0_pay14 (k0_pay22 x) p (ix2 0 k)
      = p (ix2 0 k) + ∑ t : Fin 256, f (t.val + 2) k.val * z (ix2 t k) := by
  pointwise [k0_pay24, k0_pay14, k0_pay13]
  exact congrArg _ (Finset.sum_congr rfl fun t _ => by rw [up2_at x y f hx hy])

/-- The first tap's row of the value half. -/
theorem row0_val_at (p : FVec Ideal S1x2816 .f32) (k : Fin 2816) :
    k0_pay2 (F := Ideal) (k0_pay27 z) k0_pay28 (k0_pay37 x) (k0_pay38 y)
        (iota .tc S8x1 32 [0] iota_S8x1_d0_w32) p (ix2 0 k)
      = p (ix2 0 k) + ∑ t : Fin 256, f (t.val + 2) k.val * z (ix2 t k) := by
  pointwise [k0_pay2, k0_pay27, k0_pay28]
  exact congrArg _ (Finset.sum_congr rfl fun t _ => by rw [up2_val, up2_at x y f hx hy])

end block

end Cert.FfnAct

end
-- ==== Proof.FfnAct.Pieces.lean ====
module
public import proofs.«01_k».proof.Proof.Gen.KernelIdeal.Value
public import proofs.«01_k».proof.Proof.FfnAct.Body
public import Idealize.ShloMosaic.Lib.Pipeline.ReadBack

@[expose] public section

set_option maxRecDepth 16384

noncomputable section

/-! What one grid point leaves in the kernel's two output blocks, as lists of stored pieces over the blocks it read. -/

namespace Cert.FfnAct

open Idealize.ShloMosaic Idealize.ShloMosaic.TcCoe Idealize.SL.Sem Cert.KernelIdeal Cert.KernelIdeal.Gen

/-- A whole block of 256 rows. -/
abbrev all256 : Rect S256x2816 := Rect.unit ![0, 0] ![256, 2816] inb_S256x2816_S256x2816_0_0
/-- The first eight rows of a block of sixteen. -/
abbrev top8 : Rect S16x2816 := Rect.unit ![0, 0] ![8, 2816] inb_S16x2816_S8x2816_0_0

variable (i : grid0.Coords) (x0 : Vec Ideal S256x2816 .bf16) (x1 : Vec Ideal S256x2816 .bf16) (x2 : Vec Ideal S256x2816 .bf16) (x3 : Vec Ideal S16x2816 .bf16) (x4 : Vec Ideal S256x2816 .bf16) (x5 : Vec Ideal S16x2816 .bf16) (x6 : Vec Ideal S8x2816 .f32) (x7 : Vec Ideal S8x2816 .f32) (x8 : Vec Ideal S256x2816 .bf16) (x9 : Vec Ideal S16x2816 .bf16)

/-- The gradient at the gate on the block's rows. -/
def gateCur : FVec Ideal S256x2816 .f32 := k0_pay7 (View.ld x2 all256) (View.ld x4 all256) (View.ld x8 all256)
/-- The gradient at the value on the block's rows. -/
def valCur : FVec Ideal S256x2816 .f32 := k0_pay8 (View.ld x2 all256) (View.ld x8 all256)
/-- The gradient at the gate on the eight rows after the block. -/
def gateNext : FVec Ideal S8x2816 .f32 :=
  k0_pay12 (BitVec.ofNat 32 (i 0).val) (k0_pay9 (View.ld x3 top8)) (View.ld x5 top8) (View.ld x9 top8)
/-- The gradient at the value on the eight rows after the block. -/
def valNext : FVec Ideal S8x2816 .f32 :=
  k0_pay26 (k0_pay11 (k0_pay9 (View.ld x3 top8)) (View.ld x9 top8))
    (Scalar.cmpi CmpIPredicate.eq (BitVec.ofNat 32 (i 0).val) 63#32)

/-- The two stores that make up the block of the gradient at the convolution's input: the value half, then the gate half. -/
def inPieces : List (View.Piece (Elt Ideal) S256x5632 .bf16) :=
  [⟨Rect.unit ![0, 2816] ![256, 2816] inb_S256x5632_S256x2816_0_2816,
      k0_pay3 (k0_pay35 (valCur x2 x8) (valNext i x3 x9)
          (k0_pay29 (valCur x2 x8) (View.ld x7 (Rect.unit ![2, 0] ![1, 2816] inb_S8x2816_S1x2816_2_0)))
          (View.ld x7 (Rect.unit ![1, 0] ![1, 2816] inb_S8x2816_S1x2816_1_0)))
        (k0_pay37 (valCur x2 x8)) (k0_pay38 (valNext i x3 x9)) (iota .tc S8x1 32 [0] iota_S8x1_d0_w32)
        (View.ld x7 (Rect.unit ![0, 0] ![1, 2816] inb_S8x2816_S1x2816_0_0))⟩,
    ⟨Rect.unit ![0, 0] ![256, 2816] inb_S256x5632_S256x2816_0_0,
      k0_pay25 (gateNext i x3 x5 x9)
        (k0_pay20 (gateCur x2 x4 x8) (gateNext i x3 x5 x9)
          (k0_pay15 (gateCur x2 x4 x8) (View.ld x6 (Rect.unit ![2, 0] ![1, 2816] inb_S8x2816_S1x2816_2_0)))
          (View.ld x6 (Rect.unit ![1, 0] ![1, 2816] inb_S8x2816_S1x2816_1_0)))
        (k0_pay22 (gateCur x2 x4 x8)) (View.ld x6 (Rect.unit ![0, 0] ![1, 2816] inb_S8x2816_S1x2816_0_0))⟩]

/-- The eight row stores into the packed gradient of taps and bias, the last one first, over the contents `xo` that
    the block had. -/
def accPieces (xo : Vec Ideal S8x5632 .f32) : List (View.Piece (Elt Ideal) S8x5632 .f32) :=
  [⟨Rect.unit ![0, 2816] ![1, 2816] inb_S8x5632_S1x2816_0_2816,
      k0_pay2 (k0_pay27 (View.ld x1 all256)) k0_pay28 (k0_pay37 (valCur x2 x8)) (k0_pay38 (valNext i x3 x9))
        (iota .tc S8x1 32 [0] iota_S8x1_d0_w32)
        (View.ld xo (Rect.unit ![0, 2816] ![1, 2816] inb_S8x5632_S1x2816_0_2816))⟩,
    ⟨Rect.unit ![1, 2816] ![1, 2816] inb_S8x5632_S1x2816_1_2816,
      k0_pay36 (valCur x2 x8) (valNext i x3 x9) (k0_pay27 (View.ld x1 all256)) k0_pay28
        (View.ld xo (Rect.unit ![1, 2816] ![1, 2816] inb_S8x5632_S1x2816_1_2816))⟩,
    ⟨Rect.unit ![2, 2816] ![1, 2816] inb_S8x5632_S1x2816_2_2816,
      k0_pay33 (valCur x2 x8) (k0_pay27 (View.ld x1 all256)) k0_pay28
        (View.ld xo (Rect.unit ![2, 2816] ![1, 2816] inb_S8x5632_S1x2816_2_2816))⟩,
    ⟨Rect.unit ![3, 2816] ![1, 2816] inb_S8x5632_S1x2816_3_2816,
      k0_pay32 (k0_pay30 (View.ld xo (Rect.unit ![3, 2816] ![1, 2816] inb_S8x5632_S1x2816_3_2816)))
        (k0_pay31 (valCur x2 x8))⟩,
    ⟨Rect.unit ![0, 0] ![1, 2816] inb_S8x5632_S1x2816_0_0,
      k0_pay24 (gateNext i x3 x5 x9) (k0_pay13 (View.ld x0 all256)) k0_pay14 (k0_pay22 (gateCur x2 x4 x8))
        (View.ld xo (Rect.unit ![0, 0] ![1, 2816] inb_S8x5632_S1x2816_0_0))⟩,
    ⟨Rect.unit ![1, 0] ![1, 2816] inb_S8x5632_S1x2816_1_0,
      k0_pay21 (gateCur x2 x4 x8) (gateNext i x3 x5 x9) (k0_pay13 (View.ld x0 all256)) k0_pay14
        (View.ld xo (Rect.unit ![1, 0] ![1, 2816] inb_S8x5632_S1x2816_1_0))⟩,
    ⟨Rect.unit ![2, 0] ![1, 2816] inb_S8x5632_S1x2816_2_0,
      k0_pay18 (gateCur x2 x4 x8) (k0_pay13 (View.ld x0 all256)) k0_pay14
        (View.ld xo (Rect.unit ![2, 0] ![1, 2816] inb_S8x5632_S1x2816_2_0))⟩,
    ⟨Rect.unit ![3, 0] ![1, 2816] inb_S8x5632_S1x2816_3_0,
      k0_pay17 (gateCur x2 x4 x8) k0_pay14
        (k0_pay16 (View.ld xo (Rect.unit ![3, 0] ![1, 2816] inb_S8x5632_S1x2816_3_0)))⟩]

variable (c : Dev nD) (arg1 : Memref sig .tc .vmem S256x2816 .bf16) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x2816 .bf16) (harg5 : arg5.IsWhole) (arg6 : Memref sig .tc .vmem S16x2816 .bf16) (harg6 : arg6.IsWhole) (arg7 : Memref sig .tc .vmem S8x2816 .f32) (harg7 : arg7.IsWhole) (arg8 : Memref sig .tc .vmem S8x2816 .f32) (harg8 : arg8.IsWhole) (arg9 : Memref sig .tc .vmem S256x2816 .bf16) (harg9 : arg9.IsWhole) (arg10 : Memref sig .tc .vmem S16x2816 .bf16) (harg10 : arg10.IsWhole) (arg11 : Memref sig .tc .vmem S256x5632 .bf16) (harg11 : arg11.IsWhole) (arg12 : Memref sig .tc .vmem S8x5632 .f32) (harg12 : arg12.IsWhole)

/-- At a later point the first output's block is the two stores. -/
theorem out_in_B (hc0 : ¬cond0_0 i) (xo : Vec Ideal S8x5632 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo = View.canon (inPieces i x2 x3 x4 x5 x6 x7 x8 x9) := by
  unfold out0_B_10
  rw [View.read_writes_junk_eq_canon]
  unfold kernelRun0_B
  dsimp only
  sl_unfold_run_names
  simp only [View.readAt_eq_ld, Memref.IsWhole.read_unread]
  rfl

/-- At the first point too. -/
theorem out_in_A (hc0 : cond0_0 i) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = View.canon (inPieces i x2 x3 x4 x5 x6 x7 x8 x9) := by
  unfold out0_A_10
  rw [View.read_writes_junk_eq_canon]
  unfold kernelRun0_A
  dsimp only
  sl_unfold_run_names
  simp only [View.readAt_eq_ld, Memref.IsWhole.read_unread]
  rfl

/-- A buffer holding `xo` and then written by a list of stores reads as the list over one store of `xo`. -/
theorem read_over (L : List (View.Piece (Elt Ideal) S8x5632 .f32)) (xo : Vec Ideal S8x5632 .f32) :
    arg12.view.read (Elt Ideal) (arg12.view.writes (Elt Ideal) (harg12.unread xo) L)
      = View.canon (L ++ [⟨Rect.unit ![0, 0] ![8, 5632] inb_S8x5632_S8x5632_0_0, xo⟩]) := by
  funext y
  induction L with
  | nil =>
    rw [List.nil_append, View.canon_unit_zero (S := S8x5632) (funext fun a => by fin_cases a <;> rfl)]
    exact congrFun (harg12.read_unread xo) y
  | cons p L ih =>
    by_cases h : y ∈ p.1.set
    · obtain ⟨x, rfl⟩ := LoadRect.exists_idx_of_mem _ h
      obtain ⟨r, w⟩ := p
      refine Eq.trans ?_ (View.canon_cons_emb r w _ x).symm
      exact View.read_writes_cons_hit _ _ r w L x _ rfl
    · rw [List.cons_append, View.canon_cons_of_not_mem _ _ h, ← ih]
      exact View.read_writes_cons_miss _ _ p L y h

/-- At a later point the second output's block is the eight row stores over what it held. -/
theorem out_acc_B (hc0 : ¬cond0_0 i) (xo : Vec Ideal S8x5632 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo = View.canon (accPieces i x0 x1 x2 x3 x4 x5 x8 x9 xo
        ++ [⟨Rect.unit ![0, 0] ![8, 5632] inb_S8x5632_S8x5632_0_0, xo⟩]) := by
  rw [← read_over arg12 harg12]
  unfold out0_B_11
  unfold kernelRun0_B
  dsimp only
  sl_unfold_run_names
  simp only [View.readAt_eq_ld, Memref.IsWhole.read_unread]
  rfl

/-- At the first point it is the eight row stores over zeros. -/
theorem out_acc_A (hc0 : cond0_0 i) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = View.canon (accPieces i x0 x1 x2 x3 x4 x5 x8 x9 (k0_pay4 (F := Ideal))
        ++ [⟨Rect.unit ![0, 0] ![8, 5632] inb_S8x5632_S8x5632_0_0, k0_pay4 (F := Ideal)⟩]) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9)]
  unfold kernelRun0_A
  dsimp only
  sl_unfold_words
  simp (disch := decide) only [View.readAt_eq_ld, Memref.IsWhole.read_unread, View.readCov_skip, View.readCov_fill]
  rfl

end Cert.FfnAct
end
-- ==== Proof.Lib.Places.lean ====
module
public import Idealize.ShloMosaic.Lib.Pointwise
public import Idealize.ShloMosaic.Lib.Pipeline.Value
public import Idealize.ShloMosaic.Lib.Pipeline.ReadBack

@[expose] public section

noncomputable section

/-! Reading blocks that are loaded and stored by rectangles, and sums over blocks of rows: what the proofs of several
kernels share. -/

namespace Cert.Lib

open Idealize.ShloMosaic Idealize.ShloMosaic.TcCoe Idealize.SL.Sem

section places
variable {e : EltTy} {m n a b p q : ℕ}
  (h : ∀ x, ![a, b] x + ![p, q] x ≤ (⟨2, ![m, n]⟩ : Shape).size x)

/-- A load through a rectangle, at row `r` and column `k` of the rectangle. -/
theorem ld_at (x : (⟨2, ![m, n]⟩ : Shape).Idx → Elt Ideal e) (r : Fin p) (k : Fin q) (R : Fin m) (C : Fin n)
    (hR : R.val = a + r.val) (hC : C.val = b + k.val) :
    View.ld x (Rect.unit (s := ⟨2, ![m, n]⟩) ![a, b] ![p, q] h) (ix2 r k) = x (ix2 R C) := by
  refine congrArg x (funext fun i => Fin.ext ?_)
  match i with
  | ⟨0, _⟩ => show a + 1 * r.val = R.val; omega
  | ⟨1, _⟩ => show b + 1 * k.val = C.val; omega

variable (w : (⟨2, ![p, q]⟩ : Shape).Idx → Elt Ideal e) (L : List (View.Piece (Elt Ideal) ⟨2, ![m, n]⟩ e))

/-- Inside the last store's rectangle the contents are the store's. -/
theorem canon_hit (r : Fin p) (k : Fin q) (R : Fin m) (C : Fin n) (hR : R.val = a + r.val) (hC : C.val = b + k.val) :
    View.canon (⟨Rect.unit (s := ⟨2, ![m, n]⟩) ![a, b] ![p, q] h, w⟩ :: L) (ix2 R C) = w (ix2 r k) := by
  have hx : (Rect.unit (s := ⟨2, ![m, n]⟩) ![a, b] ![p, q] h).emb (ix2 r k) = ix2 R C := by
    refine funext fun i => Fin.ext ?_
    match i with
    | ⟨0, _⟩ => show a + 1 * r.val = R.val; omega
    | ⟨1, _⟩ => show b + 1 * k.val = C.val; omega
  rw [← hx]
  exact View.canon_cons_emb (Rect.unit (s := ⟨2, ![m, n]⟩) ![a, b] ![p, q] h) w L (ix2 r k)

/-- Outside it they are the earlier stores'. -/
theorem canon_miss (R : Fin m) (C : Fin n) (hRC : R.val < a ∨ a + p ≤ R.val ∨ C.val < b ∨ b + q ≤ C.val) :
    View.canon (⟨Rect.unit (s := ⟨2, ![m, n]⟩) ![a, b] ![p, q] h, w⟩ :: L) (ix2 R C) = View.canon L (ix2 R C) := by
  refine View.canon_cons_of_not_mem _ L fun hm => ?_
  have hm := (Rect.mem_set_unit (inb := h)).mp hm
  have h0 : a ≤ R.val ∧ R.val < a + p := hm 0
  have h1 : b ≤ C.val ∧ C.val < b + q := hm 1
  omega

end places

/-- Every index of a matrix is a row and a column. -/
theorem ix2_surj {m n : ℕ} (j : (⟨2, ![m, n]⟩ : Shape).Idx) : ∃ (r : Fin m) (k : Fin n), j = ix2 r k :=
  ⟨j 0, j 1, funext fun a => by match a with | ⟨0, _⟩ => rfl | ⟨1, _⟩ => rfl⟩

/-- A sum over the first `n` blocks of `b` rows and the sum over the next block. -/
theorem sum_block (b : ℕ) (f : ℕ → EReal) (n : ℕ) :
    ∑ t ∈ Finset.range (b * n), f t + ∑ x : Fin b, f (b * n + x.val) = ∑ t ∈ Finset.range (b * (n + 1)), f t := by
  rw [Nat.mul_add, Nat.mul_one, Finset.sum_range_add, Finset.sum_range (fun x => f (b * n + x))]

/-- A buffer holding `xo` and then written by a list of stores reads as the list over one store of `xo`. -/
theorem read_over {sig : RefSig} {κ : Kind} {S : Shape} {e : EltTy} (arg : Memref sig κ .vmem S e) (harg : arg.IsWhole)
    (L : List (View.Piece (Elt Ideal) S e)) (xo : S.Idx → Elt Ideal e) {off : Fin S.rank → ℕ}
    (h : ∀ a, off a + S.size a ≤ S.size a) (hz : off = 0) :
    arg.view.read (Elt Ideal) (arg.view.writes (Elt Ideal) (harg.unread xo) L)
      = View.canon (L ++ [⟨Rect.unit off S.size h, xo⟩]) := by
  funext y
  induction L with
  | nil =>
    rw [List.nil_append, View.canon_unit_zero hz]
    exact congrFun (harg.read_unread xo) y
  | cons p L ih =>
    by_cases h : y ∈ p.1.set
    · obtain ⟨x, rfl⟩ := LoadRect.exists_idx_of_mem _ h
      obtain ⟨r, w⟩ := p
      refine Eq.trans ?_ (View.canon_cons_emb r w _ x).symm
      exact View.read_writes_cons_hit _ _ r w L x _ rfl
    · rw [List.cons_append, View.canon_cons_of_not_mem _ _ h, ← ih]
      exact View.read_writes_cons_miss _ _ p L y h

end Cert.Lib
end
-- ==== Proof.FfnAct.Point.lean ====
module
public import proofs.«01_k».proof.Proof.FfnAct.Pieces
public import proofs.«01_k».proof.Proof.FfnAct.Spec
public import proofs.«01_k».proof.Proof.Lib.Places

@[expose] public section

noncomputable section

/-! What one grid point leaves, element by element: the gradient at the convolution's input on its 256 rows, and those
rows' share of the gradient of taps and bias. -/

namespace Cert.FfnAct

open Idealize.ShloMosaic Idealize.ShloMosaic.TcCoe Idealize.SL.Sem Cert.KernelIdeal Cert.KernelIdeal.Gen Cert.Lib

/-- Whether the point is the last one, as the program tests it. -/
theorem last_test (t : ℕ) (h : t < 64) :
    Scalar.cmpi CmpIPredicate.eq (BitVec.ofNat 32 t) 63#32 = if t = 63 then 1#1 else 0#1 := by
  interval_cases t <;> rfl

section point
variable (i : grid0.Coords) (x0 : Vec Ideal S256x2816 .bf16) (x1 : Vec Ideal S256x2816 .bf16) (x2 : Vec Ideal S256x2816 .bf16) (x3 : Vec Ideal S16x2816 .bf16) (x4 : Vec Ideal S256x2816 .bf16) (x5 : Vec Ideal S16x2816 .bf16) (x6 : Vec Ideal S8x2816 .f32) (x7 : Vec Ideal S8x2816 .f32) (x8 : Vec Ideal S256x2816 .bf16) (x9 : Vec Ideal S16x2816 .bf16)
  (U : S16384x5632.Idx → EReal) (D : S16384x2816.Idx → EReal) (X : S16384x5632.Idx → EReal) (W : S3x5632.Idx → EReal)
  (t : ℕ)

/-- The ten input blocks at point `t` are the arrays' rows `256 t …`; the blocks of following rows matter only before
    the last point. -/
structure Blocks : Prop where
  lt : t < 64
  at_i : (i 0).val = t
  h0 : ∀ (r : Fin 256) (k : Fin 2816), x0 (ix2 r k) = at2 X (256 * t + r.val) k.val
  h1 : ∀ (r : Fin 256) (k : Fin 2816), x1 (ix2 r k) = at2 X (256 * t + r.val) (2816 + k.val)
  h2 : ∀ (r : Fin 256) (k : Fin 2816), x2 (ix2 r k) = at2 U (256 * t + r.val) k.val
  h3 : t < 63 → ∀ (r : Fin 16) (k : Fin 2816), x3 (ix2 r k) = at2 U (256 * t + (256 + r.val)) k.val
  h4 : ∀ (r : Fin 256) (k : Fin 2816), x4 (ix2 r k) = at2 U (256 * t + r.val) (2816 + k.val)
  h5 : t < 63 → ∀ (r : Fin 16) (k : Fin 2816), x5 (ix2 r k) = at2 U (256 * t + (256 + r.val)) (2816 + k.val)
  h6 : ∀ (r : Fin 3) (k : Fin 2816), x6 (ix2 (r.castLE (by decide) : Fin 8) k) = at2 W r.val k.val
  h7 : ∀ (r : Fin 3) (k : Fin 2816), x7 (ix2 (r.castLE (by decide) : Fin 8) k) = at2 W r.val (2816 + k.val)
  h8 : ∀ (r : Fin 256) (k : Fin 2816), x8 (ix2 r k) = at2 D (256 * t + r.val) k.val
  h9 : t < 63 → ∀ (r : Fin 16) (k : Fin 2816), x9 (ix2 r k) = at2 D (256 * t + (256 + r.val)) k.val

variable {i x0 x1 x2 x3 x4 x5 x6 x7 x8 x9 U D X W t}
variable (H : Blocks i x0 x1 x2 x3 x4 x5 x6 x7 x8 x9 U D X W t)
include H

theorem gateCur_at (r : Fin 256) (k : Fin 2816) :
    gateCur x2 x4 x8 (ix2 r k) = dU U D (256 * t + r.val) k.val := by
  unfold gateCur
  rw [gate_at, ld_at _ x2 r k r k (by omega) (by omega), ld_at _ x4 r k r k (by omega) (by omega),
    ld_at _ x8 r k r k (by omega) (by omega), H.h2, H.h4, H.h8, dU_gate _ _ _ _ k.isLt]

theorem valCur_at (r : Fin 256) (k : Fin 2816) :
    valCur x2 x8 (ix2 r k) = dU U D (256 * t + r.val) (2816 + k.val) := by
  unfold valCur
  rw [val_at, ld_at _ x2 r k r k (by omega) (by omega), ld_at _ x8 r k r k (by omega) (by omega), H.h2, H.h8, dU_val]

theorem gateNext_at (r : Fin 8) (k : Fin 2816) :
    gateNext i x3 x5 x9 (ix2 r k) = dU U D (256 * t + (256 + r.val)) k.val := by
  have := H.lt
  unfold gateNext
  rw [gate_next_at, H.at_i, last_test t H.lt]
  split
  · rw [dU_out _ _ _ (by omega)]; rfl
  · rw [ld_at _ x3 r k (r.castLE (by decide)) k (by simp) (by omega),
      ld_at _ x5 r k (r.castLE (by decide)) k (by simp) (by omega),
      ld_at _ x9 r k (r.castLE (by decide)) k (by simp) (by omega),
      H.h3 (by omega), H.h5 (by omega), H.h9 (by omega), dU_gate _ _ _ _ k.isLt]
    rfl

theorem valNext_at (r : Fin 8) (k : Fin 2816) :
    valNext i x3 x9 (ix2 r k) = dU U D (256 * t + (256 + r.val)) (2816 + k.val) := by
  have := H.lt
  unfold valNext
  rw [val_next_at, H.at_i, last_test t H.lt]
  split
  · rw [dU_out _ _ _ (by omega)]; rfl
  · rw [ld_at _ x3 r k (r.castLE (by decide)) k (by simp) (by omega),
      ld_at _ x9 r k (r.castLE (by decide)) k (by simp) (by omega),
      H.h3 (by omega), H.h9 (by omega), dU_val]
    rfl

/-- The point's block of the gradient at the convolution's input. -/
theorem in_at (r : Fin 256) (c : Fin 5632) :
    View.canon (inPieces i x2 x3 x4 x5 x6 x7 x8 x9) (ix2 r c) = dIn U D W (256 * t + r.val) c.val := by
  unfold inPieces dIn
  by_cases hc : c.val < 2816
  · rw [canon_miss _ _ _ _ _ (by omega), canon_hit _ _ _ r ⟨c.val, hc⟩ r c (by omega) (by simp)]
    rw [din_gate_at (gateCur x2 x4 x8) (gateNext i x3 x5 x9) (fun s k => dU U D (256 * t + s) k) (gateCur_at H) (gateNext_at H),
      ld_at _ x6 0 ⟨c.val, hc⟩ 2 ⟨c.val, hc⟩ rfl (by simp), ld_at _ x6 0 ⟨c.val, hc⟩ 1 ⟨c.val, hc⟩ rfl (by simp),
      ld_at _ x6 0 ⟨c.val, hc⟩ 0 ⟨c.val, hc⟩ rfl (by simp)]
    exact congr_arg₂ _ (congr_arg₂ _ (congrArg _ (H.h6 2 _)) (congrArg _ (H.h6 1 _))) (congrArg _ (H.h6 0 _))
  · obtain ⟨k, hk⟩ : ∃ k : Fin 2816, c.val = 2816 + k.val := ⟨⟨c.val - 2816, by omega⟩, by dsimp only; omega⟩
    rw [canon_hit _ _ _ r k r c (by omega) hk, hk]
    rw [din_val_at (valCur x2 x8) (valNext i x3 x9) (fun s k => dU U D (256 * t + s) (2816 + k)) (valCur_at H) (valNext_at H),
      ld_at _ x7 0 k 2 k rfl (by omega), ld_at _ x7 0 k 1 k rfl (by omega), ld_at _ x7 0 k 0 k rfl (by omega)]
    exact congr_arg₂ _ (congr_arg₂ _ (congrArg _ (H.h7 2 _)) (congrArg _ (H.h7 1 _))) (congrArg _ (H.h7 0 _))

/-- The block of taps and bias after the point: what it held and the point's rows' share. -/
theorem acc_at (xo : Vec Ideal S8x5632 .f32) (r : Fin 8) (c : Fin 5632) :
    View.canon (accPieces i x0 x1 x2 x3 x4 x5 x8 x9 xo
        ++ [⟨Rect.unit ![0, 0] ![8, 5632] inb_S8x5632_S8x5632_0_0, xo⟩]) (ix2 r c)
      = xo (ix2 r c) + ∑ s : Fin 256, term U D X r.val (256 * t + s.val) c.val := by
  unfold accPieces
  simp only [List.cons_append, List.nil_append]
  by_cases hr : 4 ≤ r.val
  · iterate 8 rw [canon_miss _ _ _ _ _ (by omega)]
    rw [canon_hit _ _ _ r c r c (by omega) (by omega)]
    rw [Finset.sum_eq_zero, add_zero]
    intro s _
    obtain ⟨n, hn⟩ := Nat.exists_eq_add_of_le' hr
    rw [hn]; rfl
  by_cases hc : c.val < 2816
  · obtain ⟨k, hk⟩ : ∃ k : Fin 2816, c.val = k.val := ⟨⟨c.val, hc⟩, rfl⟩
    iterate 4 rw [canon_miss _ _ _ _ _ (by omega)]
    obtain h | h | h | h : r = 0 ∨ r = 1 ∨ r = 2 ∨ r = 3 := by omega
    all_goals subst h
    · rw [canon_hit _ _ _ 0 k 0 c rfl (by omega), row0_gate_at (gateCur x2 x4 x8) (gateNext i x3 x5 x9) (fun s k => dU U D (256 * t + s) k) (gateCur_at H) (gateNext_at H), ld_at _ xo 0 k 0 c rfl (by omega), hk]
      exact congrArg _ (Finset.sum_congr rfl fun s _ => by rw [ld_at _ x0 s k s k (by omega) (by omega), H.h0]; rfl)
    · iterate 1 rw [canon_miss _ _ _ _ _ (by first | omega | exact Or.inr (Or.inl (by decide)) | exact Or.inl (by decide))]
      rw [canon_hit _ _ _ 0 k 1 c rfl (by omega), row1_gate_at (gateCur x2 x4 x8) (gateNext i x3 x5 x9) (fun s k => dU U D (256 * t + s) k) (gateCur_at H) (gateNext_at H), ld_at _ xo 0 k 1 c rfl (by omega), hk]
      exact congrArg _ (Finset.sum_congr rfl fun s _ => by rw [ld_at _ x0 s k s k (by omega) (by omega), H.h0]; rfl)
    · iterate 2 rw [canon_miss _ _ _ _ _ (by first | omega | exact Or.inr (Or.inl (by decide)) | exact Or.inl (by decide))]
      rw [canon_hit _ _ _ 0 k 2 c rfl (by omega), row2_gate_at (gateCur x2 x4 x8) (fun s k => dU U D (256 * t + s) k) (gateCur_at H), ld_at _ xo 0 k 2 c rfl (by omega), hk]
      exact congrArg _ (Finset.sum_congr rfl fun s _ => by rw [ld_at _ x0 s k s k (by omega) (by omega), H.h0]; rfl)
    · iterate 3 rw [canon_miss _ _ _ _ _ (by first | omega | exact Or.inr (Or.inl (by decide)) | exact Or.inl (by decide))]
      rw [canon_hit _ _ _ 0 k 3 c rfl (by omega), row3_gate_at (gateCur x2 x4 x8) (fun s k => dU U D (256 * t + s) k) (gateCur_at H), ld_at _ xo 0 k 3 c rfl (by omega), hk]
      exact congrArg _ (Finset.sum_congr rfl fun s _ => by rfl)
  · obtain ⟨k, hk⟩ : ∃ k : Fin 2816, c.val = 2816 + k.val := ⟨⟨c.val - 2816, by omega⟩, by dsimp only; omega⟩
    obtain h | h | h | h : r = 0 ∨ r = 1 ∨ r = 2 ∨ r = 3 := by omega
    all_goals subst h
    · rw [canon_hit _ _ _ 0 k 0 c rfl (by omega), row0_val_at (valCur x2 x8) (valNext i x3 x9) (fun s k => dU U D (256 * t + s) (2816 + k)) (valCur_at H) (valNext_at H), ld_at _ xo 0 k 0 c rfl (by omega), hk]
      exact congrArg _ (Finset.sum_congr rfl fun s _ => by rw [ld_at _ x1 s k s k (by omega) (by omega), H.h1]; rfl)
    · iterate 1 rw [canon_miss _ _ _ _ _ (by first | omega | exact Or.inr (Or.inl (by decide)) | exact Or.inl (by decide))]
      rw [canon_hit _ _ _ 0 k 1 c rfl (by omega), row1_val_at (valCur x2 x8) (valNext i x3 x9) (fun s k => dU U D (256 * t + s) (2816 + k)) (valCur_at H) (valNext_at H), ld_at _ xo 0 k 1 c rfl (by omega), hk]
      exact congrArg _ (Finset.sum_congr rfl fun s _ => by rw [ld_at _ x1 s k s k (by omega) (by omega), H.h1]; rfl)
    · iterate 2 rw [canon_miss _ _ _ _ _ (by first | omega | exact Or.inr (Or.inl (by decide)) | exact Or.inl (by decide))]
      rw [canon_hit _ _ _ 0 k 2 c rfl (by omega), row2_val_at (valCur x2 x8) (fun s k => dU U D (256 * t + s) (2816 + k)) (valCur_at H), ld_at _ xo 0 k 2 c rfl (by omega), hk]
      exact congrArg _ (Finset.sum_congr rfl fun s _ => by rw [ld_at _ x1 s k s k (by omega) (by omega), H.h1]; rfl)
    · iterate 3 rw [canon_miss _ _ _ _ _ (by first | omega | exact Or.inr (Or.inl (by decide)) | exact Or.inl (by decide))]
      rw [canon_hit _ _ _ 0 k 3 c rfl (by omega), row3_val_at (valCur x2 x8) (fun s k => dU U D (256 * t + s) (2816 + k)) (valCur_at H), ld_at _ xo 0 k 3 c rfl (by omega), hk]
      exact congrArg _ (Finset.sum_congr rfl fun s _ => by rfl)

end point
end Cert.FfnAct
end
-- ==== Proof.FfnAct.Ref.lean ====
module
public import proofs.«01_k».proof.Proof.Gen.ReferenceIdeal.Read
public import proofs.«01_k».proof.Proof.FfnAct.Spec

@[expose] public section

noncomputable section

/-! The reference's two results, element by element: the gradients of the specification, where every argument is real. -/

namespace Cert.FfnAct

open Idealize.ShloMosaic Idealize.SL.Sem Cert.ReferenceIdeal Cert.ReferenceIdeal.Gen Cert.ReferenceIdeal.Read
set_option maxRecDepth 16384

variable (x0 : FVec Ideal S16384x5632 .bf16) (x1 : FVec Ideal S3x5632 .f32) (x2 : FVec Ideal S1x5632 .f32)
  (x3 : FVec Ideal S16384x2816 .bf16)

/-- The convolution's result, as the reference computes it on the way forward. -/
abbrev conv : (⟨2, ![16384, 5632]⟩ : Shape).Idx → EReal := val_main_v29 (F := Ideal) x0 x1 x2

/-- The convolution of real numbers is real. -/
theorem conv_real (h0 : ∀ i, IsReal (x0 i)) (h1 : ∀ i, IsReal (x1 i)) (h2 : ∀ i, IsReal (x2 i))
    (r : Fin 16384) (k : Fin 5632) : IsReal (conv x0 x1 x2 (ix2 r k)) := by
  unfold conv
  pointwise [val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v3, val_main_v2, val_main_v1, val_main_v0, val_main_cst, val_main_cst_1]
  refine .add (.add (.add ((h1 _).mul ?_) ((h1 _).mul ?_)) ((h1 _).mul (h0 _))) (h2 _)
  · split
    · exact .zero
    · exact h0 _
  · split
    · exact .zero
    · exact h0 _

section real
variable (h0 : ∀ i, IsReal (x0 i)) (h1 : ∀ i, IsReal (x1 i)) (h2 : ∀ i, IsReal (x2 i)) (h3 : ∀ i, IsReal (x3 i))
include h0 h1 h2 h3

/-- The gate's gradient in the reference, by the product rule, is the factored form. -/
theorem ref_gate (r : Fin 16384) (k : Fin 2816) :
    val_main_v37 (F := Ideal) x0 x1 x2 x3 (ix2 r k) = dU (conv x0 x1 x2) x3 r.val k.val := by
  rw [dU_gate _ _ _ _ k.isLt, at2_ix, at2_lt _ r.isLt (by omega), at2_lt _ r.isLt (by omega)]
  obtain ⟨a, ha⟩ := h3 (ix2 r k)
  obtain ⟨v, hv⟩ := conv_real x0 x1 x2 h0 h1 h2 r ⟨2816 + k.val, by omega⟩
  obtain ⟨g, hg⟩ := conv_real x0 x1 x2 h0 h1 h2 r ⟨k.val, by omega⟩
  pointwise [val_main_v37, val_main_call1_v1, val_main_call1_v2, val_main_call1_v0, val_main_v36, val_main_v34,
    val_main_v30, val_main_v31, val_main_v32_2, val_main_v32_1, val_main_call0_v4, val_main_call0_v3,
    val_main_call0_v2, val_main_call0_v1, val_main_call0_v0, val_main_call0_cst, val_main_call0_cst_0,
    val_main_call0_cst_1, val_main_call0_v6, val_main_call0_v7]
  unfold conv at *
  rw [ha, hv, hg, ← dGate_eq]
  unfold sg
  rw [zero_sub]

omit h0 h1 h2 h3 in
/-- The value's gradient in the reference. -/
theorem ref_val (r : Fin 16384) (k : Fin 2816) :
    val_main_v35 (F := Ideal) x0 x1 x2 x3 (ix2 r k) = dU (conv x0 x1 x2) x3 r.val (2816 + k.val) := by
  rw [dU_val, at2_ix, at2_lt _ r.isLt (by omega)]
  pointwise [val_main_v35, val_main_v32_0, val_main_v34, val_main_v30, val_main_v32_2, val_main_call0_v4,
    val_main_call0_v3, val_main_call0_v2, val_main_call0_v1, val_main_call0_v0, val_main_call0_cst,
    val_main_call0_cst_0]
  unfold conv dVal sg
  rw [zero_sub]
  ac_rfl

/-- The gradient at the convolution's result. -/
theorem ref_du (r : Fin 16384) (k : Fin 5632) :
    val_main_v38 (F := Ideal) x0 x1 x2 x3 (ix2 r k) = dU (conv x0 x1 x2) x3 r.val k.val := by
  pointwise [val_main_v38]
  split
  · next h => exact ref_gate x0 x1 x2 x3 h0 h1 h2 h3 r ⟨k.val, h⟩
  · next h =>
    rw [ref_val x0 x1 x2 x3 r ⟨k.val - 2816, by omega⟩]
    congr 1; show 2816 + (k.val - 2816) = k.val; omega

/-- The reference's first result is the gradient at the convolution's input. -/
theorem ref_din (r : Fin 16384) (k : Fin 5632) :
    val_main_v75 (F := Ideal) x0 x1 x2 x3 (ix2 r k) = dIn (conv x0 x1 x2) x3 x1 r.val k.val := by
  unfold dIn
  rw [at2_lt x1 (t := 2) (by omega) k.isLt, at2_lt x1 (t := 1) (by omega) k.isLt, at2_lt x1 (t := 0) (by omega) k.isLt]
  pointwise [val_main_v75, val_main_v74, val_main_v69, val_main_v68, val_main_v63, val_main_v62, val_main_v58,
    val_main_v57, val_main_v52, val_main_v51, val_main_v48, val_main_v43, val_main_v42, val_main_v8, val_main_v6,
    val_main_v5, val_main_v13, val_main_v14, val_main_v16, val_main_v20, val_main_v21, val_main_v23,
    val_main_cst_6, val_main_cst_14, val_main_cst_10]
  refine congrArg₂ _ (congrArg₂ _ ?_ ?_) ?_
  · rw [ref_du x0 x1 x2 x3 h0 h1 h2 h3, mul_comm]
  · split
    · rw [ref_du x0 x1 x2 x3 h0 h1 h2 h3, mul_comm]
      congr 2; show 2 + r.val - 1 = r.val + 1; omega
    · rw [dU_out _ _ _ (by omega), zero_mul]
  · split
    · rw [ref_du x0 x1 x2 x3 h0 h1 h2 h3, mul_comm]
      congr 2; show 2 + r.val = r.val + 2; omega
    · rw [dU_out _ _ _ (by omega), zero_mul]

/-- The sum of the last tap's products over all tokens. -/
theorem ref_tap2 (k : Fin 5632) :
    ∑ t, val_main_v44 (F := Ideal) x0 x1 x2 x3 (ix2 t k) = dTaps (conv x0 x1 x2) x3 x0 2 k.val := by
  rw [dTaps_2, Finset.sum_range]
  refine Finset.sum_congr rfl fun t _ => ?_
  pointwise [val_main_v44, val_main_v22, val_main_v3, val_main_v0, val_main_v2, val_main_cst]
  rw [ref_du x0 x1 x2 x3 h0 h1 h2 h3, at2_ix x0]

/-- The sum of the middle tap's products over all tokens. -/
theorem ref_tap1 (k : Fin 5632) :
    ∑ t, val_main_v53 (F := Ideal) x0 x1 x2 x3 (ix2 t k) = dTaps (conv x0 x1 x2) x3 x0 1 k.val := by
  rw [dTaps_1, sum_shift (fun t => dU (conv x0 x1 x2) x3 t k.val) (fun t => at2 x0 t k.val) _ _ (fun t h => dU_out _ _ _ h),
    Finset.sum_range]
  refine Finset.sum_congr rfl fun t _ => ?_
  pointwise [val_main_v53, val_main_v15, val_main_v3, val_main_v0, val_main_v2, val_main_cst]
  rw [ref_du x0 x1 x2 x3 h0 h1 h2 h3]
  refine congrArg _ ?_
  split
  · rename_i h; change 1 + t.val < 2 at h; rw [if_pos (by omega)]
  · rename_i h; change ¬1 + t.val < 2 at h; refine Eq.trans ?_ (if_neg (by omega)).symm
    refine Eq.trans ?_ (at2_lt x0 (t := t.val - 1) (by omega) k.isLt).symm
    congr 2; apply Fin.ext; show 1 + t.val - 2 = t.val - 1; omega

/-- The sum of the first tap's products over all tokens. -/
theorem ref_tap0 (k : Fin 5632) :
    ∑ t, val_main_v64 (F := Ideal) x0 x1 x2 x3 (ix2 t k) = dTaps (conv x0 x1 x2) x3 x0 0 k.val := by
  rw [dTaps_0, sum_shift (fun t => dU (conv x0 x1 x2) x3 t k.val) (fun t => at2 x0 t k.val) _ _ (fun t h => dU_out _ _ _ h),
    Finset.sum_range]
  refine Finset.sum_congr rfl fun t _ => ?_
  pointwise [val_main_v64, val_main_v7, val_main_v3, val_main_v0, val_main_v2, val_main_cst]
  rw [ref_du x0 x1 x2 x3 h0 h1 h2 h3]
  refine congrArg _ ?_
  split
  · rfl
  · exact (at2_lt x0 (t := t.val - 2) (by omega) k.isLt).symm

/-- The sum of the gradient over all tokens. -/
theorem ref_bias (k : Fin 5632) :
    ∑ t, val_main_v38 (F := Ideal) x0 x1 x2 x3 (ix2 t k) = dTaps (conv x0 x1 x2) x3 x0 3 k.val := by
  rw [dTaps_3, Finset.sum_range]
  exact Finset.sum_congr rfl fun t _ => ref_du x0 x1 x2 x3 h0 h1 h2 h3 t k

/-- The reference's second result is the packed gradient of taps and bias. -/
theorem ref_taps (r : Fin 8) (k : Fin 5632) :
    val_main_v78 (F := Ideal) x0 x1 x2 x3 (ix2 r k) = dTaps (conv x0 x1 x2) x3 x0 r.val k.val := by
  pointwise [val_main_v78, val_main_v77, val_main_v76, val_main_v72, val_main_v71, val_main_v70, val_main_v67,
    val_main_v66, val_main_v65, val_main_v61, val_main_v60, val_main_v59, val_main_v50, val_main_v49, val_main_v47,
    val_main_v46, val_main_v45, val_main_v56, val_main_v55, val_main_v54, val_main_v41, val_main_v40, val_main_v39,
    val_main_cst_2, val_main_cst_3, val_main_cst_4, val_main_cst_5, val_main_cst_7, val_main_cst_8, val_main_cst_9,
    val_main_cst_11, val_main_cst_12, val_main_cst_13, val_main_cst_15, val_main_cst_16]
  have e0 := ref_tap0 x0 x1 x2 x3 h0 h1 h2 h3 k
  have e1 := ref_tap1 x0 x1 x2 x3 h0 h1 h2 h3 k
  have e2 := ref_tap2 x0 x1 x2 x3 h0 h1 h2 h3 k
  have e3 := ref_bias x0 x1 x2 x3 h0 h1 h2 h3 k
  fin_vals r with hr
  all_goals simp [hr, e0, e1, e2, e3]
  all_goals exact (dTaps_out _ _ _ _ _ (by omega)).symm

end real

end Cert.FfnAct

end
-- ==== Proof.FfnAct.Host.lean ====
module
public import proofs.«01_k».proof.Proof.Gen.KernelIdeal.Value
public import proofs.«01_k».proof.Proof.FfnAct.Ref

@[expose] public section

set_option maxRecDepth 16384

noncomputable section

/-! The arrays that the host lines prepare for the kernel: the convolution's result and the padded taps. -/

namespace Cert.FfnAct

open Idealize.ShloMosaic Idealize.ShloMosaic.TcCoe Idealize.SL.Sem Cert.KernelIdeal Cert.KernelIdeal.Gen

variable (m : (ℓ : Loc nD τ sig) → Buf (Elt Ideal) ℓ) (c : Dev nD)

/-- The convolution's result that the kernel is given is the reference's. -/
theorem V_conv : (V m c main_v29 : S16384x5632.Idx → EReal) = conv (m ((c : Thread nD τ).loc main_arg0))
    (m ((c : Thread nD τ).loc main_arg1)) (m ((c : Thread nD τ).loc main_arg2)) := by
  unfold_abbrev_sides
  after_results
  rfl

/-- The first three rows of the padded taps are the taps. -/
theorem V_taps (r : Fin 3) (k : Fin 5632) : (V m c main_v31 : S8x5632.Idx → EReal) (ix2 (r.castLE (by decide) : Fin 8) k)
    = (m ((c : Thread nD τ).loc main_arg1) : S3x5632.Idx → EReal) (ix2 r k) := by
  unfold_abbrev_sides
  after_results
  pointwise []
  exact (dif_pos (show r.val < 3 from r.isLt)).trans rfl

end Cert.FfnAct
end
-- ==== Proof.FfnAct.Arrays.lean ====
module
public import proofs.«01_k».proof.Proof.FfnAct.Point
public import proofs.«01_k».proof.Proof.FfnAct.Host

@[expose] public section

set_option maxRecDepth 16384

noncomputable section

/-! The kernel's two result arrays, element by element. -/

namespace Cert.FfnAct

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-! ## What each window's block holds at a point -/

theorem idx0 : ∀ t : Fin grid0.N, win0_0.index t 0 = t.val ∧ win0_0.index t 1 = 0 := by decide +kernel

theorem blk0_at (t : Fin cfg0.N) (r : Fin 256) (k : Fin 2816) :
    (iblk m c 0 t : S256x2816.Idx → EReal) (ix2 r k)
      = at2 (m := 16384) (n := 5632) (V m c main_arg0) (256 * t.val + r.val) (k.val) := by
  have hN : t.val < 64 := lt_of_lt_of_eq t.isLt N_0
  have hi := idx0 t
  rw [at2_lt (m := 16384) (n := 5632) _ (t := 256 * t.val + r.val) (k := k.val) (by omega) (by omega)]
  unfold iblk
  rw [View.read_apply]
  refine congrArg (V m c main_arg0) (funext fun a => Fin.ext ?_)
  match a with
  | ⟨0, _⟩ => show win0_0.index t 0 * 256 + 1 * r.val = 256 * t.val + r.val; rw [hi.1]; omega
  | ⟨1, _⟩ => show win0_0.index t 1 * 2816 + 1 * k.val = k.val; rw [hi.2]; omega

theorem idx1 : ∀ t : Fin grid0.N, win0_1.index t 0 = t.val ∧ win0_1.index t 1 = 1 := by decide +kernel

theorem blk1_at (t : Fin cfg0.N) (r : Fin 256) (k : Fin 2816) :
    (iblk m c 1 t : S256x2816.Idx → EReal) (ix2 r k)
      = at2 (m := 16384) (n := 5632) (V m c main_arg0) (256 * t.val + r.val) (2816 + k.val) := by
  have hN : t.val < 64 := lt_of_lt_of_eq t.isLt N_0
  have hi := idx1 t
  rw [at2_lt (m := 16384) (n := 5632) _ (t := 256 * t.val + r.val) (k := 2816 + k.val) (by omega) (by omega)]
  unfold iblk
  rw [View.read_apply]
  refine congrArg (V m c main_arg0) (funext fun a => Fin.ext ?_)
  match a with
  | ⟨0, _⟩ => show win0_1.index t 0 * 256 + 1 * r.val = 256 * t.val + r.val; rw [hi.1]; omega
  | ⟨1, _⟩ => show win0_1.index t 1 * 2816 + 1 * k.val = 2816 + k.val; rw [hi.2]; omega

theorem idx2 : ∀ t : Fin grid0.N, win0_2.index t 0 = t.val ∧ win0_2.index t 1 = 0 := by decide +kernel

theorem blk2_at (t : Fin cfg0.N) (r : Fin 256) (k : Fin 2816) :
    (iblk m c 2 t : S256x2816.Idx → EReal) (ix2 r k)
      = at2 (m := 16384) (n := 5632) (V m c main_v29) (256 * t.val + r.val) (k.val) := by
  have hN : t.val < 64 := lt_of_lt_of_eq t.isLt N_0
  have hi := idx2 t
  rw [at2_lt (m := 16384) (n := 5632) _ (t := 256 * t.val + r.val) (k := k.val) (by omega) (by omega)]
  unfold iblk
  rw [View.read_apply]
  refine congrArg (V m c main_v29) (funext fun a => Fin.ext ?_)
  match a with
  | ⟨0, _⟩ => show win0_2.index t 0 * 256 + 1 * r.val = 256 * t.val + r.val; rw [hi.1]; omega
  | ⟨1, _⟩ => show win0_2.index t 1 * 2816 + 1 * k.val = k.val; rw [hi.2]; omega

theorem idx3 : ∀ t : Fin grid0.N, t.val < 63 → win0_3.index t 0 = 16 * (t.val + 1) ∧ win0_3.index t 1 = 0 := by decide +kernel

theorem blk3_at (t : Fin cfg0.N) (h : t.val < 63) (r : Fin 16) (k : Fin 2816) :
    (iblk m c 3 t : S16x2816.Idx → EReal) (ix2 r k)
      = at2 (m := 16384) (n := 5632) (V m c main_v29) (256 * t.val + (256 + r.val)) (k.val) := by
  have hN : t.val < 64 := lt_of_lt_of_eq t.isLt N_0
  have hi := idx3 t h
  rw [at2_lt (m := 16384) (n := 5632) _ (t := 256 * t.val + (256 + r.val)) (k := k.val) (by omega) (by omega)]
  unfold iblk
  rw [View.read_apply]
  refine congrArg (V m c main_v29) (funext fun a => Fin.ext ?_)
  match a with
  | ⟨0, _⟩ => show win0_3.index t 0 * 16 + 1 * r.val = 256 * t.val + (256 + r.val); rw [hi.1]; omega
  | ⟨1, _⟩ => show win0_3.index t 1 * 2816 + 1 * k.val = k.val; rw [hi.2]; omega

theorem idx4 : ∀ t : Fin grid0.N, win0_4.index t 0 = t.val ∧ win0_4.index t 1 = 1 := by decide +kernel

theorem blk4_at (t : Fin cfg0.N) (r : Fin 256) (k : Fin 2816) :
    (iblk m c 4 t : S256x2816.Idx → EReal) (ix2 r k)
      = at2 (m := 16384) (n := 5632) (V m c main_v29) (256 * t.val + r.val) (2816 + k.val) := by
  have hN : t.val < 64 := lt_of_lt_of_eq t.isLt N_0
  have hi := idx4 t
  rw [at2_lt (m := 16384) (n := 5632) _ (t := 256 * t.val + r.val) (k := 2816 + k.val) (by omega) (by omega)]
  unfold iblk
  rw [View.read_apply]
  refine congrArg (V m c main_v29) (funext fun a => Fin.ext ?_)
  match a with
  | ⟨0, _⟩ => show win0_4.index t 0 * 256 + 1 * r.val = 256 * t.val + r.val; rw [hi.1]; omega
  | ⟨1, _⟩ => show win0_4.index t 1 * 2816 + 1 * k.val = 2816 + k.val; rw [hi.2]; omega

theorem idx5 : ∀ t : Fin grid0.N, t.val < 63 → win0_5.index t 0 = 16 * (t.val + 1) ∧ win0_5.index t 1 = 1 := by decide +kernel

theorem blk5_at (t : Fin cfg0.N) (h : t.val < 63) (r : Fin 16) (k : Fin 2816) :
    (iblk m c 5 t : S16x2816.Idx → EReal) (ix2 r k)
      = at2 (m := 16384) (n := 5632) (V m c main_v29) (256 * t.val + (256 + r.val)) (2816 + k.val) := by
  have hN : t.val < 64 := lt_of_lt_of_eq t.isLt N_0
  have hi := idx5 t h
  rw [at2_lt (m := 16384) (n := 5632) _ (t := 256 * t.val + (256 + r.val)) (k := 2816 + k.val) (by omega) (by omega)]
  unfold iblk
  rw [View.read_apply]
  refine congrArg (V m c main_v29) (funext fun a => Fin.ext ?_)
  match a with
  | ⟨0, _⟩ => show win0_5.index t 0 * 16 + 1 * r.val = 256 * t.val + (256 + r.val); rw [hi.1]; omega
  | ⟨1, _⟩ => show win0_5.index t 1 * 2816 + 1 * k.val = 2816 + k.val; rw [hi.2]; omega

theorem idx6 : ∀ t : Fin grid0.N, win0_6.index t 0 = 0 ∧ win0_6.index t 1 = 0 := by decide +kernel

theorem blk6_at (t : Fin cfg0.N) (r : Fin 8) (k : Fin 2816) :
    (iblk m c 6 t : S8x2816.Idx → EReal) (ix2 r k)
      = at2 (m := 8) (n := 5632) (V m c main_v31) (r.val) (k.val) := by
  have hN : t.val < 64 := lt_of_lt_of_eq t.isLt N_0
  have hi := idx6 t
  rw [at2_lt (m := 8) (n := 5632) _ (t := r.val) (k := k.val) (by omega) (by omega)]
  unfold iblk
  rw [View.read_apply]
  refine congrArg (V m c main_v31) (funext fun a => Fin.ext ?_)
  match a with
  | ⟨0, _⟩ => show win0_6.index t 0 * 8 + 1 * r.val = r.val; rw [hi.1]; omega
  | ⟨1, _⟩ => show win0_6.index t 1 * 2816 + 1 * k.val = k.val; rw [hi.2]; omega

theorem idx7 : ∀ t : Fin grid0.N, win0_7.index t 0 = 0 ∧ win0_7.index t 1 = 1 := by decide +kernel

theorem blk7_at (t : Fin cfg0.N) (r : Fin 8) (k : Fin 2816) :
    (iblk m c 7 t : S8x2816.Idx → EReal) (ix2 r k)
      = at2 (m := 8) (n := 5632) (V m c main_v31) (r.val) (2816 + k.val) := by
  have hN : t.val < 64 := lt_of_lt_of_eq t.isLt N_0
  have hi := idx7 t
  rw [at2_lt (m := 8) (n := 5632) _ (t := r.val) (k := 2816 + k.val) (by omega) (by omega)]
  unfold iblk
  rw [View.read_apply]
  refine congrArg (V m c main_v31) (funext fun a => Fin.ext ?_)
  match a with
  | ⟨0, _⟩ => show win0_7.index t 0 * 8 + 1 * r.val = r.val; rw [hi.1]; omega
  | ⟨1, _⟩ => show win0_7.index t 1 * 2816 + 1 * k.val = 2816 + k.val; rw [hi.2]; omega

theorem idx8 : ∀ t : Fin grid0.N, win0_8.index t 0 = t.val ∧ win0_8.index t 1 = 0 := by decide +kernel

theorem blk8_at (t : Fin cfg0.N) (r : Fin 256) (k : Fin 2816) :
    (iblk m c 8 t : S256x2816.Idx → EReal) (ix2 r k)
      = at2 (m := 16384) (n := 2816) (V m c main_arg3) (256 * t.val + r.val) (k.val) := by
  have hN : t.val < 64 := lt_of_lt_of_eq t.isLt N_0
  have hi := idx8 t
  rw [at2_lt (m := 16384) (n := 2816) _ (t := 256 * t.val + r.val) (k := k.val) (by omega) (by omega)]
  unfold iblk
  rw [View.read_apply]
  refine congrArg (V m c main_arg3) (funext fun a => Fin.ext ?_)
  match a with
  | ⟨0, _⟩ => show win0_8.index t 0 * 256 + 1 * r.val = 256 * t.val + r.val; rw [hi.1]; omega
  | ⟨1, _⟩ => show win0_8.index t 1 * 2816 + 1 * k.val = k.val; rw [hi.2]; omega

theorem idx9 : ∀ t : Fin grid0.N, t.val < 63 → win0_9.index t 0 = 16 * (t.val + 1) ∧ win0_9.index t 1 = 0 := by decide +kernel

theorem blk9_at (t : Fin cfg0.N) (h : t.val < 63) (r : Fin 16) (k : Fin 2816) :
    (iblk m c 9 t : S16x2816.Idx → EReal) (ix2 r k)
      = at2 (m := 16384) (n := 2816) (V m c main_arg3) (256 * t.val + (256 + r.val)) (k.val) := by
  have hN : t.val < 64 := lt_of_lt_of_eq t.isLt N_0
  have hi := idx9 t h
  rw [at2_lt (m := 16384) (n := 2816) _ (t := 256 * t.val + (256 + r.val)) (k := k.val) (by omega) (by omega)]
  unfold iblk
  rw [View.read_apply]
  refine congrArg (V m c main_arg3) (funext fun a => Fin.ext ?_)
  match a with
  | ⟨0, _⟩ => show win0_9.index t 0 * 16 + 1 * r.val = 256 * t.val + (256 + r.val); rw [hi.1]; omega
  | ⟨1, _⟩ => show win0_9.index t 1 * 2816 + 1 * k.val = k.val; rw [hi.2]; omega

/-! ## The arrays -/

/-- The convolution's input, the activation's cotangent and the taps, as the launch finds them. -/
abbrev arrX : S16384x5632.Idx → EReal := m ((c : Thread nD τ).loc main_arg0)
abbrev arrW : S3x5632.Idx → EReal := m ((c : Thread nD τ).loc main_arg1)
abbrev arrD : S16384x2816.Idx → EReal := m ((c : Thread nD τ).loc main_arg3)
/-- The convolution's result. -/
abbrev arrU : S16384x5632.Idx → EReal := conv (m ((c : Thread nD τ).loc main_arg0))
    (m ((c : Thread nD τ).loc main_arg1)) (m ((c : Thread nD τ).loc main_arg2))

/-- A row of the padded taps, read as a row of the taps. -/
theorem taps_at (r : Fin 3) (k : ℕ) (h : k < 5632) :
    at2 (m := 8) (n := 5632) (V m c main_v31) r.val k = at2 (arrW m c) r.val k := by
  rw [at2_lt (m := 8) (n := 5632) _ (t := r.val) (k := k) (by omega) h, at2_lt _ (t := r.val) (k := k) r.isLt h]
  exact V_taps m c r ⟨k, h⟩

/-- The ten blocks at point `t`. -/
theorem blocks (t : Fin cfg0.N) : Blocks (grid0.coords t) (iblk m c 0 t) (iblk m c 1 t) (iblk m c 2 t) (iblk m c 3 t)
    (iblk m c 4 t) (iblk m c 5 t) (iblk m c 6 t) (iblk m c 7 t) (iblk m c 8 t) (iblk m c 9 t)
    (arrU m c) (arrD m c) (arrX m c) (arrW m c) t.val where
  lt := lt_of_lt_of_eq t.isLt N_0
  at_i := (by decide +kernel : ∀ t : Fin grid0.N, (grid0.coords t 0).val = t.val) t
  h0 r k := (blk0_at m c t r k).trans (by rw [V_main_arg0])
  h1 r k := (blk1_at m c t r k).trans (by rw [V_main_arg0])
  h2 r k := (blk2_at m c t r k).trans (by rw [V_conv])
  h3 h r k := (blk3_at m c t h r k).trans (by rw [V_conv])
  h4 r k := (blk4_at m c t r k).trans (by rw [V_conv])
  h5 h r k := (blk5_at m c t h r k).trans (by rw [V_conv])
  h6 r k := (blk6_at m c t (r.castLE (by decide)) k).trans (taps_at m c r _ (by omega))
  h7 r k := (blk7_at m c t (r.castLE (by decide)) k).trans (taps_at m c r _ (by omega))
  h8 r k := (blk8_at m c t r k).trans (by rw [V_main_arg3])
  h9 h r k := (blk9_at m c t h r k).trans (by rw [V_main_arg3])

/-- After point `n` the packed gradient of taps and bias is the sum over the tokens seen so far. -/
theorem acc_after : ∀ (n : ℕ) (h : n < cfg0.N) (r : Fin 8) (k : Fin 5632),
    ((outsAt0 m c n h).2 : S8x5632.Idx → EReal) (ix2 r k)
      = ∑ t ∈ Finset.range (256 * (n + 1)), term (arrU m c) (arrD m c) (arrX m c) r.val t k.val
  | 0, h, r, k => by
    rw [outsAt0_A m c ⟨0, h⟩ rfl]
    dsimp only
    rw [out_acc_A, acc_at (blocks m c ⟨0, h⟩), ← sum_block _ 0]
    refine congrArg (· + _) ?_
    pointwise [k0_pay4]
    rfl
  | n + 1, h, r, k => by
    have hN : n + 1 < 64 := lt_of_lt_of_eq h N_0
    rw [outsAt0_B m c ⟨n + 1, h⟩ (by dsimp only; omega)]
    dsimp only
    rw [out_acc_B, acc_at (blocks m c ⟨n + 1, h⟩)]
    rw [← sum_block _ (n + 1)]
    exact congrArg (· + _) (acc_after n _ r k)

/-- The first result: the gradient at the convolution's input. -/
abbrev resIn : S16384x5632.Idx → EReal := fun j => dIn (arrU m c) (arrD m c) (arrW m c) (j 0).val (j 1).val
/-- The second result: the packed gradient of taps and bias. -/
abbrev resAcc : S8x5632.Idx → EReal := fun j => dTaps (arrU m c) (arrD m c) (arrX m c) (j 0).val (j 1).val

theorem out10_at (t : Fin cfg0.N) (r : Fin 256) (k : Fin 5632) :
    ((outsAt0 m c t.val t.isLt).1 : S256x5632.Idx → EReal) (ix2 r k)
      = dIn (arrU m c) (arrD m c) (arrW m c) (256 * t.val + r.val) k.val := by
  by_cases h0 : t.val % 64 = 0
  · rw [outsAt0_A m c t h0]
    dsimp only
    rw [out_in_A, in_at (blocks m c t)]
  · rw [outsAt0_B m c t h0]
    dsimp only
    rw [out_in_B, in_at (blocks m c t)]

theorem idx10 : ∀ t : Fin grid0.N, win0_10.index t 0 = t.val ∧ win0_10.index t 1 = 0 := by decide +kernel

theorem flushed_in (t : Fin cfg0.N) (_ : (cfg0.win 10).flush t = true) :
    (dats m 0 c).flushed 10 t = ((cfg0.win 10).blk t).view.read (Elt Ideal) (resIn m c) := by
  rw [Value.flushed10]
  funext j
  rw [View.read_apply]
  obtain ⟨r, k, rfl⟩ : ∃ (r : Fin 256) (k : Fin 5632), j = ix2 r k := ⟨j 0, j 1, funext fun a => by match a with | ⟨0, _⟩ => rfl | ⟨1, _⟩ => rfl⟩
  refine (out10_at m c t r k).trans ?_
  have hi := idx10 t
  refine congrArg₂ (dIn (arrU m c) (arrD m c) (arrW m c)) ?_ ?_
  · show _ = win0_10.index t 0 * 256 + 1 * r.val; rw [hi.1]; omega
  · show _ = win0_10.index t 1 * 5632 + 1 * k.val; rw [hi.2]; omega

theorem final_in : (dats m 0 c).arrAt 10 cfg0.N = resIn m c :=
  (dats m 0 c).arrAt_eq_of_cover 10 (resIn m c) (flushed_in m c) fun i => by
    have h0 : (i 0 : Nat) < 16384 := (i 0).isLt
    have h1 : (i 1 : Nat) < 5632 := (i 1).isLt
    let t : Fin cfg0.N := ⟨(i 0).val / 256, lt_of_lt_of_eq (by omega : _ < 64) N_0.symm⟩
    have hi := idx10 t
    refine ⟨t, flush0_10 t, ?_⟩
    show i ∈ ((View.whole main_v32_0).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256
                rw [hi.1]; dsimp only [t]; omega
    | ⟨1, _⟩ => show win0_10.index t 1 * 5632 ≤ (i 1 : Nat) ∧ (i 1 : Nat) < win0_10.index t 1 * 5632 + 5632
                rw [hi.2]; omega

/-- The accumulator's block is the whole array. -/
theorem idx11 : ∀ t : Fin grid0.N, win0_11.index t 0 = 0 ∧ win0_11.index t 1 = 0 := by decide +kernel

theorem out11_at (t : Fin cfg0.N) (ht : t.val = 63) (r : Fin 8) (k : Fin 5632) :
    ((outsAt0 m c t.val t.isLt).2 : S8x5632.Idx → EReal) (ix2 r k) = dTaps (arrU m c) (arrD m c) (arrX m c) r.val k.val := by
  rw [acc_after m c t.val t.isLt r k, ht, show 256 * (63 + 1) = 16384 from by norm_num]
  unfold dTaps
  rfl

attribute [local irreducible] dTaps in
theorem flushed_acc (t : Fin cfg0.N) (hf : (cfg0.win 11).flush t = true) :
    (dats m 0 c).flushed 11 t = ((cfg0.win 11).blk t).view.read (Elt Ideal) (resAcc m c) := by
  have hN : t.val < 64 := lt_of_lt_of_eq t.isLt N_0
  have ht : t.val = 63 := by have := (flush0_11 t).mp hf; omega
  rw [Value.flushed11]
  funext j
  rw [View.read_apply]
  obtain ⟨r, k, rfl⟩ : ∃ (r : Fin 8) (k : Fin 5632), j = ix2 r k := ⟨j 0, j 1, funext fun a => by match a with | ⟨0, _⟩ => rfl | ⟨1, _⟩ => rfl⟩
  refine (out11_at m c t ht r k).trans ?_
  have hi := idx11 t
  refine congrArg₂ (dTaps (arrU m c) (arrD m c) (arrX m c)) ?_ ?_
  · show _ = win0_11.index t 0 * 8 + 1 * r.val; rw [hi.1]; omega
  · show _ = win0_11.index t 1 * 5632 + 1 * k.val; rw [hi.2]; omega

theorem final_acc : (dats m 0 c).arrAt 11 cfg0.N = resAcc m c :=
  (dats m 0 c).arrAt_eq_of_cover 11 (resAcc m c) (flushed_acc m c) fun i => by
    have h0 : (i 0 : Nat) < 8 := (i 0).isLt
    have h1 : (i 1 : Nat) < 5632 := (i 1).isLt
    let t : Fin cfg0.N := ⟨63, lt_of_lt_of_eq (by omega : _ < 64) N_0.symm⟩
    have hi := idx11 t
    refine ⟨t, (flush0_11 t).mpr rfl, ?_⟩
    show i ∈ ((View.whole main_v32_1).slice (win0_11.rect t)).set
    rw [View.set_slice_whole, Rect.mem_set_unit]
    intro a
    match a with
    | ⟨0, _⟩ => show win0_11.index t 0 * 8 ≤ (i 0 : Nat) ∧ (i 0 : Nat) < win0_11.index t 0 * 8 + 8
                rw [hi.1]; omega
    | ⟨1, _⟩ => show win0_11.index t 1 * 5632 ≤ (i 1 : Nat) ∧ (i 1 : Nat) < win0_11.index t 1 * 5632 + 5632
                rw [hi.2]; omega

end Cert.FfnAct
end
-- ==== Proof.FfnAct.Pre.lean ====
module
public import proofs.«01_k».proof.Pre_finite
public import proofs.«01_k».proof.Proof.FfnAct.Spec
public import Idealize.ShloMosaic.Lib.ReduceAll
public import Idealize.ShloMosaic.Lib.Pointwise

@[expose] public section

noncomputable section

/-! The precondition read back: where it holds, every element of the four arguments is a real number. -/

namespace Cert.FfnAct

open Idealize.ShloMosaic Cert.Pre_finite

/-- The shape relations that the precondition's function takes. -/
theorem preFacts : Cert.Pre_finite.Facts where
  bitsLt_bf16_f32 := by decide
  bcast_S_S16384x5632 := by decide
  reducesTo_S16384x5632_S_d0_1 := by decide
  h_S_ := by decide
  bcast_S_S3x5632 := by decide
  reducesTo_S3x5632_S_d0_1 := by decide
  bcast_S_S1x5632 := by decide
  reducesTo_S1x5632_S_d0_1 := by decide
  bcast_S_S16384x2816 := by decide
  reducesTo_S16384x2816_S_d0_1 := by decide

/-- One comparison with infinity, read back. -/
theorem real_of_lt {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    IsReal (x i) := by
  have e' : Ideal.cmp .olt (max (x i) (-(x i))) (Ideal.ofBits .f32 0x7F800000#32) = 1#1 := e
  have htop : Ideal.ofBits .f32 0x7F800000#32 = ⊤ := by simp [Ideal.ofBits, Ideal.ieee]
  rw [htop] at e'
  refine IsReal.of_abs (by_contra fun hn => ?_)
  have e2 : BitVec.ofBool (decide (max (x i) (-(x i)) < (⊤ : EReal))) = 1#1 := e'
  rw [decide_eq_false hn] at e2
  exact absurd e2 (by decide)

variable [Cert.Pre_finite.Facts]

theorem real_of_pre (x0 : FVec Ideal S16384x5632 .bf16) (x1 : FVec Ideal S3x5632 .f32) (x2 : FVec Ideal S1x5632 .f32)
    (x3 : FVec Ideal S16384x2816 .bf16) (e : Cert.Pre_finite.fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun e (fun a => nomatch a)
  haveI : Subsingleton S_.Idx := ⟨fun a b => funext fun i => nomatch i⟩
  unfold Cert.Pre_finite.fn Cert.Pre_finite.fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨fun i => real_of_lt _ _ i (Host.reduce_andi_all _ _ _ _ _ e0 i), fun i => real_of_lt _ _ i (Host.reduce_andi_all _ _ _ _ _ e1 i),
    fun i => real_of_lt _ _ i (Host.reduce_andi_all _ _ _ _ _ e2 i), fun i => real_of_lt _ _ i (Host.reduce_andi_all _ _ _ _ _ e3 i)⟩

end Cert.FfnAct
end
-- ==== Proof.Merge.Pieces.lean ====
module
public import proofs.«01_k».proof.Proof.Gen.MergeBwdIdeal.Value
public import proofs.«01_k».proof.Proof.Lib.Places

@[expose] public section

set_option maxRecDepth 16384

noncomputable section

/-! What one grid point leaves in the output blocks, over the blocks it read. -/

namespace Cert.Merge

open Idealize.ShloMosaic Idealize.ShloMosaic.TcCoe Idealize.SL.Sem Cert.MergeBwdIdeal Cert.MergeBwdIdeal.Gen Cert.Lib

/-- The first row of a block of eight. -/
abbrev top : Rect S8x1024 := Rect.unit ![0, 0] ![1, 1024] inb_S8x1024_S1x1024_0_0

variable (i : grid0.Coords) (x0 : Vec Ideal S512x1024 .bf16) (x1 : Vec Ideal S512x1024 .bf16) (x2 : Vec Ideal S512x1024 .bf16) (x3 : Vec Ideal S512x1024 .bf16) (x4 : Vec Ideal S512x1024 .bf16) (x5 : Vec Ideal S8x1024 .f32) (x6 : Vec Ideal S8x1024 .f32)

/-- A whole block of 512 rows. -/
abbrev all512 : Rect S512x1024 := Rect.unit ![0, 0] ![512, 1024] inb_S512x1024_S512x1024_0_0

/-- A load of a whole block gives the block. -/
theorem ld_all (x : Vec Ideal S512x1024 .bf16) : View.ld x all512 = x := by
  rw [View.ld_unit_zero (S := S512x1024) (funext fun a => by fin_cases a <;> rfl)]

/-- The two row stores into the packed gradient of the bias, the last one first, over the contents `xo` of the block. -/
def accPieces (xo : Vec Ideal S8x2048 .f32) : List (View.Piece (Elt Ideal) S8x2048 .f32) :=
  [⟨Rect.unit ![0, 1024] ![1, 1024] inb_S8x2048_S1x1024_0_1024,
      k0_pay6 (k0_pay8 (View.ld x0 all512)) (k0_pay10 (View.ld x4 all512) (View.ld x6 top)) (View.ld x2 all512)
        (View.ld xo (Rect.unit ![0, 1024] ![1, 1024] inb_S8x2048_S1x1024_0_1024))⟩,
    ⟨Rect.unit ![0, 0] ![1, 1024] inb_S8x2048_S1x1024_0_0,
      k0_pay5 (k0_pay8 (View.ld x0 all512)) (k0_pay9 (View.ld x3 all512) (View.ld x5 top)) (View.ld x1 all512)
        (View.ld xo (Rect.unit ![0, 0] ![1, 1024] inb_S8x2048_S1x1024_0_0))⟩]

variable (c : Dev nD) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S8x1024 .f32) (harg6 : arg6.IsWhole) (arg7 : Memref sig .tc .vmem S8x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x2048 .bf16) (harg10 : arg10.IsWhole) (arg11 : Memref sig .tc .vmem S8x2048 .f32) (harg11 : arg11.IsWhole)

theorem out_s_A (hc0 : cond0_0 i) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 = k0_pay11 (View.ld x0 all512) (View.ld x3 all512) (View.ld x5 top) := by
  unfold out0_A_7
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]

theorem out_s_B (hc0 : ¬cond0_0 i) (xo : Vec Ideal S8x2048 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xo = k0_pay11 (View.ld x0 all512) (View.ld x3 all512) (View.ld x5 top) := by
  unfold out0_B_7
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]

theorem out_a_A (hc0 : cond0_0 i) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 = k0_pay12 (View.ld x0 all512) (View.ld x4 all512) (View.ld x6 top) := by
  unfold out0_A_8
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]

theorem out_a_B (hc0 : ¬cond0_0 i) (xo : Vec Ideal S8x2048 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 xo = k0_pay12 (View.ld x0 all512) (View.ld x4 all512) (View.ld x6 top) := by
  unfold out0_B_8
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]

/-- At a later point the accumulator is the two row stores over what it held. -/
theorem out_acc_B (hc0 : ¬cond0_0 i) (xo : Vec Ideal S8x2048 .f32) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 xo = View.canon (accPieces x0 x1 x2 x3 x4 x5 x6 xo
        ++ [⟨Rect.unit ![0, 0] S8x2048.size inb_S8x2048_S8x2048_0_0, xo⟩]) := by
  rw [← read_over arg11 harg11 _ xo inb_S8x2048_S8x2048_0_0 (funext fun a => by fin_cases a <;> rfl)]
  unfold out0_B_10
  unfold kernelRun0_B
  dsimp only
  sl_unfold_run_names
  simp only [View.readAt_eq_ld, Memref.IsWhole.read_unread]
  rfl

/-- At the first point it is the two row stores over zeros. -/
theorem out_acc_A (hc0 : cond0_0 i) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 = View.canon (accPieces x0 x1 x2 x3 x4 x5 x6 (k0_pay7 (F := Ideal))
        ++ [⟨Rect.unit ![0, 0] S8x2048.size inb_S8x2048_S8x2048_0_0, k0_pay7 (F := Ideal)⟩]) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp (disch := decide) only [View.readAt_eq_ld, Memref.IsWhole.read_unread, View.readCov_skip, View.readCov_fill]
  rfl

end Cert.Merge
end
-- ==== Proof.Merge.Spec.lean ====
module
public import proofs.«01_k».proof.Proof.FfnAct.Spec

@[expose] public section

noncomputable section

/-! The gradient of the gates that merge the two branches, as functions of array elements over the extended reals. Rows
and columns are natural numbers. Nothing here mentions a program. -/

namespace Cert.Merge

open Idealize.ShloMosaic
open Cert.FfnAct (sg at2 at2_ix at2_lt at2_out)

variable (D S A : (⟨2, ![16384, 1024]⟩ : Shape).Idx → EReal) (P : (⟨2, ![16384, 8192]⟩ : Shape).Idx → EReal)
  (B : (⟨2, ![1, 2048]⟩ : Shape).Idx → EReal)

/-- The gate of column `c` of 2048: the first half gates the recurrent branch, the second half the attention branch. -/
def gate (t c : ℕ) : EReal := sg (at2 P t (4096 + c) + at2 B 0 c)

/-- The gradient at the recurrent branch. -/
def dS (t k : ℕ) : EReal := at2 D t k * gate P B t k
/-- The gradient at the attention branch. -/
def dA (t k : ℕ) : EReal := at2 D t k * gate P B t (1024 + k)

/-- Token `t`'s part of the gradient of the gate's bias at column `c`. -/
def part (t c : ℕ) : EReal :=
  (if c < 1024 then at2 D t c * at2 S t c else at2 D t (c - 1024) * at2 A t (c - 1024)) * gate P B t c * (1 - gate P B t c)

theorem part_left (t k : ℕ) (h : k < 1024) :
    part D S A P B t k = at2 D t k * at2 S t k * gate P B t k * (1 - gate P B t k) := by
  unfold part; rw [if_pos h]

theorem part_right (t k : ℕ) :
    part D S A P B t (1024 + k) = at2 D t k * at2 A t k * gate P B t (1024 + k) * (1 - gate P B t (1024 + k)) := by
  unfold part; rw [if_neg (by omega), Nat.add_sub_cancel_left]

/-- Row `r` of the packed gradient of the bias gets this from token `t`: row 0 holds the gradient, the others nothing. -/
def term (r t c : ℕ) : EReal := if r = 0 then part D S A P B t c else 0

/-- The packed gradient of the bias. -/
def dBias (r c : ℕ) : EReal := ∑ t ∈ Finset.range 16384, term D S A P B r t c

end Cert.Merge
end
-- ==== Proof.Merge.Point.lean ====
module
public import proofs.«01_k».proof.Proof.Merge.Pieces
public import proofs.«01_k».proof.Proof.Merge.Spec

@[expose] public section

set_option maxRecDepth 16384

noncomputable section

/-! What one grid point leaves, element by element: the two branches' gradients on its 512 rows, and those rows' share of
the gradient of the bias. -/

namespace Cert.Merge

open Idealize.ShloMosaic Idealize.ShloMosaic.TcCoe Idealize.SL.Sem Cert.MergeBwdIdeal Cert.MergeBwdIdeal.Gen Cert.Lib
open Cert.FfnAct (sg at2 at2_ix at2_lt at2_out)

variable (d : Vec Ideal S512x1024 .bf16) (y : Vec Ideal S512x1024 .bf16) (p : Vec Ideal S512x1024 .bf16)
  (b : FVec Ideal S1x1024 .f32) (o : FVec Ideal S1x1024 .f32)

theorem pay11_at (r : Fin 512) (k : Fin 1024) :
    k0_pay11 (F := Ideal) d p b (ix2 r k) = d (ix2 r k) * sg (p (ix2 r k) + b (ix2 0 k)) := by
  pointwise [k0_pay11, k0_pay8, k0_pay9]
  rfl

theorem pay12_at (r : Fin 512) (k : Fin 1024) :
    k0_pay12 (F := Ideal) d p b (ix2 r k) = d (ix2 r k) * sg (p (ix2 r k) + b (ix2 0 k)) := by
  pointwise [k0_pay12, k0_pay8, k0_pay10]
  rfl

theorem pay5_at (k : Fin 1024) :
    k0_pay5 (F := Ideal) (k0_pay8 d) (k0_pay9 p b) y o (ix2 0 k) = o (ix2 0 k)
      + ∑ s : Fin 512, d (ix2 s k) * y (ix2 s k) * sg (p (ix2 s k) + b (ix2 0 k)) * (1 - sg (p (ix2 s k) + b (ix2 0 k))) := by
  pointwise [k0_pay5, k0_pay1, k0_pay8, k0_pay9]
  rfl

theorem pay6_at (k : Fin 1024) :
    k0_pay6 (F := Ideal) (k0_pay8 d) (k0_pay10 p b) y o (ix2 0 k) = o (ix2 0 k)
      + ∑ s : Fin 512, d (ix2 s k) * y (ix2 s k) * sg (p (ix2 s k) + b (ix2 0 k)) * (1 - sg (p (ix2 s k) + b (ix2 0 k))) := by
  pointwise [k0_pay6, k0_pay2, k0_pay8, k0_pay10]
  rfl

section point
variable (x0 : Vec Ideal S512x1024 .bf16) (x1 : Vec Ideal S512x1024 .bf16) (x2 : Vec Ideal S512x1024 .bf16) (x3 : Vec Ideal S512x1024 .bf16) (x4 : Vec Ideal S512x1024 .bf16) (x5 : Vec Ideal S8x1024 .f32) (x6 : Vec Ideal S8x1024 .f32)
  (D S A : S16384x1024.Idx → EReal) (P : S16384x8192.Idx → EReal) (B : S1x2048.Idx → EReal) (t : ℕ)

/-- The seven input blocks at point `t` are rows `512 t …` of the arrays. -/
structure Blocks : Prop where
  h0 : ∀ (r : Fin 512) (k : Fin 1024), x0 (ix2 r k) = at2 D (512 * t + r.val) k.val
  h1 : ∀ (r : Fin 512) (k : Fin 1024), x1 (ix2 r k) = at2 S (512 * t + r.val) k.val
  h2 : ∀ (r : Fin 512) (k : Fin 1024), x2 (ix2 r k) = at2 A (512 * t + r.val) k.val
  h3 : ∀ (r : Fin 512) (k : Fin 1024), x3 (ix2 r k) = at2 P (512 * t + r.val) (4096 + k.val)
  h4 : ∀ (r : Fin 512) (k : Fin 1024), x4 (ix2 r k) = at2 P (512 * t + r.val) (4096 + (1024 + k.val))
  h5 : ∀ k : Fin 1024, x5 (ix2 (0 : Fin 8) k) = at2 B 0 k.val
  h6 : ∀ k : Fin 1024, x6 (ix2 (0 : Fin 8) k) = at2 B 0 (1024 + k.val)

variable {x0 x1 x2 x3 x4 x5 x6 D S A P B t}
variable (H : Blocks x0 x1 x2 x3 x4 x5 x6 D S A P B t)
include H

theorem s_at (r : Fin 512) (k : Fin 1024) :
    k0_pay11 (F := Ideal) x0 x3 (View.ld x5 top) (ix2 r k) = dS D P B (512 * t + r.val) k.val := by
  rw [pay11_at, ld_at _ x5 0 k 0 k rfl (by omega), H.h0, H.h3, H.h5]
  rfl

theorem a_at (r : Fin 512) (k : Fin 1024) :
    k0_pay12 (F := Ideal) x0 x4 (View.ld x6 top) (ix2 r k) = dA D P B (512 * t + r.val) k.val := by
  rw [pay12_at, ld_at _ x6 0 k 0 k rfl (by omega), H.h0, H.h4, H.h6]
  rfl

/-- The accumulator after the point: what it held and the point's rows' share. -/
theorem acc_at (xo : Vec Ideal S8x2048 .f32) (r : Fin 8) (c : Fin 2048) :
    View.canon (accPieces x0 x1 x2 x3 x4 x5 x6 xo ++ [⟨Rect.unit ![0, 0] S8x2048.size inb_S8x2048_S8x2048_0_0, xo⟩]) (ix2 r c)
      = xo (ix2 r c) + ∑ s : Fin 512, term D S A P B r.val (512 * t + s.val) c.val := by
  unfold accPieces term
  simp only [List.cons_append, List.nil_append, ld_all]
  by_cases hr : r.val = 0
  · obtain rfl : r = 0 := Fin.ext hr
    simp only [hr, if_true]
    by_cases hc : c.val < 1024
    · rw [canon_miss _ _ _ _ _ (by omega), canon_hit _ _ _ 0 ⟨c.val, hc⟩ 0 c rfl (by dsimp only; omega), pay5_at,
        ld_at _ xo 0 ⟨c.val, hc⟩ 0 c rfl (by dsimp only; omega)]
      refine congrArg _ (Finset.sum_congr rfl fun s _ => ?_)
      rw [part_left _ _ _ _ _ _ _ hc, ld_at _ x5 0 ⟨c.val, hc⟩ 0 ⟨c.val, hc⟩ rfl (by dsimp only; omega), H.h0, H.h1, H.h3, H.h5]
      rfl
    · obtain ⟨k, hk⟩ : ∃ k : Fin 1024, c.val = 1024 + k.val := ⟨⟨c.val - 1024, by omega⟩, by dsimp only; omega⟩
      rw [canon_hit _ _ _ 0 k 0 c rfl hk, pay6_at, ld_at _ xo 0 k 0 c rfl hk, hk]
      refine congrArg _ (Finset.sum_congr rfl fun s _ => ?_)
      rw [part_right, ld_at _ x6 0 k 0 k rfl (by omega), H.h0, H.h2, H.h4, H.h6]
      rfl
  · rw [canon_miss _ _ _ _ _ (by omega), canon_miss _ _ _ _ _ (by omega),
      canon_hit _ _ _ r c r c (by omega) (by omega)]
    simp only [if_neg hr, Finset.sum_const_zero, add_zero]

end point
end Cert.Merge
end
-- ==== Proof.Merge.Arrays.lean ====
module
public import proofs.«01_k».proof.Proof.Merge.Point

@[expose] public section

set_option maxRecDepth 16384

noncomputable section

/-! The kernel's result arrays, element by element. -/

namespace Cert.Merge

open Idealize.ShloMosaic Idealize.ShloMosaic.TcCoe Idealize.SL.Sem Cert.MergeBwdIdeal Cert.MergeBwdIdeal.Gen Cert.Lib
open Cert.FfnAct (sg at2 at2_ix at2_lt at2_out)
open Idealize.ShloMosaic.Pipeline (Dat)

variable (m : (ℓ : Loc nD τ sig) → Buf (Elt Ideal) ℓ) (c : Dev nD)

/-- The arguments as the launch finds them: the gradient at the merged array, the two branches, the projection that
    holds the gates, and the gates' bias. -/
abbrev arrD : S16384x1024.Idx → EReal := m ((c : Thread nD τ).loc main_arg0)
abbrev arrS : S16384x1024.Idx → EReal := m ((c : Thread nD τ).loc main_arg1)
abbrev arrA : S16384x1024.Idx → EReal := m ((c : Thread nD τ).loc main_arg2)
abbrev arrP : S16384x8192.Idx → EReal := m ((c : Thread nD τ).loc main_arg3)
abbrev arrB : S1x2048.Idx → EReal := m ((c : Thread nD τ).loc main_arg4)

/-- The first row of the padded bias is the bias. -/
theorem V_bias (k : Fin 2048) : (V m c main_v1 : S8x2048.Idx → EReal) (ix2 0 k) = arrB m c (ix2 0 k) := by
  unfold_abbrev_sides
  after_results
  pointwise []
  first | done | rfl

theorem bias_at (k : ℕ) (h : k < 2048) : at2 (m := 8) (n := 2048) (V m c main_v1) 0 k = at2 (arrB m c) 0 k := by
  rw [at2_lt (m := 8) (n := 2048) _ (t := 0) (k := k) (by omega) h, at2_lt _ (t := 0) (k := k) (by omega) h]
  exact V_bias m c ⟨k, h⟩

/-! ## What each window's block holds at a point -/

theorem idx0 : ∀ t : Fin grid0.N, win0_0.index t 0 = t.val ∧ win0_0.index t 1 = 0 := by decide +kernel

theorem blk0_at (t : Fin cfg0.N) (r : Fin 512) (k : Fin 1024) :
    (iblk m c 0 t : S512x1024.Idx → EReal) (ix2 r k)
      = at2 (m := 16384) (n := 1024) (V m c main_arg0) (512 * t.val + r.val) (k.val) := by
  have hN : t.val < 32 := lt_of_lt_of_eq t.isLt N_0
  have hi := idx0 t
  rw [at2_lt (m := 16384) (n := 1024) _ (t := 512 * t.val + r.val) (k := k.val) (by omega) (by omega)]
  unfold iblk
  rw [View.read_apply]
  refine congrArg (V m c main_arg0) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem idx1 : ∀ t : Fin grid0.N, win0_1.index t 0 = t.val ∧ win0_1.index t 1 = 0 := by decide +kernel

theorem blk1_at (t : Fin cfg0.N) (r : Fin 512) (k : Fin 1024) :
    (iblk m c 1 t : S512x1024.Idx → EReal) (ix2 r k)
      = at2 (m := 16384) (n := 1024) (V m c main_arg1) (512 * t.val + r.val) (k.val) := by
  have hN : t.val < 32 := lt_of_lt_of_eq t.isLt N_0
  have hi := idx1 t
  rw [at2_lt (m := 16384) (n := 1024) _ (t := 512 * t.val + r.val) (k := k.val) (by omega) (by omega)]
  unfold iblk
  rw [View.read_apply]
  refine congrArg (V m c main_arg1) (funext fun a => Fin.ext ?_)
  match a with
  | ⟨0, _⟩ => show win0_1.index t 0 * 512 + 1 * r.val = 512 * t.val + r.val; rw [hi.1]; omega
  | ⟨1, _⟩ => show win0_1.index t 1 * 1024 + 1 * k.val = k.val; rw [hi.2]; omega

theorem idx2 : ∀ t : Fin grid0.N, win0_2.index t 0 = t.val ∧ win0_2.index t 1 = 0 := by decide +kernel

theorem blk2_at (t : Fin cfg0.N) (r : Fin 512) (k : Fin 1024) :
    (iblk m c 2 t : S512x1024.Idx → EReal) (ix2 r k)
      = at2 (m := 16384) (n := 1024) (V m c main_arg2) (512 * t.val + r.val) (k.val) := by
  have hN : t.val < 32 := lt_of_lt_of_eq t.isLt N_0
  have hi := idx2 t
  rw [at2_lt (m := 16384) (n := 1024) _ (t := 512 * t.val + r.val) (k := k.val) (by omega) (by omega)]
  unfold iblk
  rw [View.read_apply]
  refine congrArg (V m c main_arg2) (funext fun a => Fin.ext ?_)
  match a with
  | ⟨0, _⟩ => show win0_2.index t 0 * 512 + 1 * r.val = 512 * t.val + r.val; rw [hi.1]; omega
  | ⟨1, _⟩ => show win0_2.index t 1 * 1024 + 1 * k.val = k.val; rw [hi.2]; omega

theorem idx3 : ∀ t : Fin grid0.N, win0_3.index t 0 = t.val ∧ win0_3.index t 1 = 4 := by decide +kernel

theorem blk3_at (t : Fin cfg0.N) (r : Fin 512) (k : Fin 1024) :
    (iblk m c 3 t : S512x1024.Idx → EReal) (ix2 r k)
      = at2 (m := 16384) (n := 8192) (V m c main_arg3) (512 * t.val + r.val) (4096 + k.val) := by
  have hN : t.val < 32 := lt_of_lt_of_eq t.isLt N_0
  have hi := idx3 t
  rw [at2_lt (m := 16384) (n := 8192) _ (t := 512 * t.val + r.val) (k := 4096 + k.val) (by omega) (by omega)]
  unfold iblk
  rw [View.read_apply]
  refine congrArg (V m c main_arg3) (funext fun a => Fin.ext ?_)
  match a with
  | ⟨0, _⟩ => show win0_3.index t 0 * 512 + 1 * r.val = 512 * t.val + r.val; rw [hi.1]; omega
  | ⟨1, _⟩ => show win0_3.index t 1 * 1024 + 1 * k.val = 4096 + k.val; rw [hi.2]; omega

theorem idx4 : ∀ t : Fin grid0.N, win0_4.index t 0 = t.val ∧ win0_4.index t 1 = 5 := by decide +kernel

theorem blk4_at (t : Fin cfg0.N) (r : Fin 512) (k : Fin 1024) :
    (iblk m c 4 t : S512x1024.Idx → EReal) (ix2 r k)
      = at2 (m := 16384) (n := 8192) (V m c main_arg3) (512 * t.val + r.val) (5120 + k.val) := by
  have hN : t.val < 32 := lt_of_lt_of_eq t.isLt N_0
  have hi := idx4 t
  rw [at2_lt (m := 16384) (n := 8192) _ (t := 512 * t.val + r.val) (k := 5120 + k.val) (by omega) (by omega)]
  unfold iblk
  rw [View.read_apply]
  refine congrArg (V m c main_arg3) (funext fun a => Fin.ext ?_)
  match a with
  | ⟨0, _⟩ => show win0_4.index t 0 * 512 + 1 * r.val = 512 * t.val + r.val; rw [hi.1]; omega
  | ⟨1, _⟩ => show win0_4.index t 1 * 1024 + 1 * k.val = 5120 + k.val; rw [hi.2]; omega

theorem idx5 : ∀ t : Fin grid0.N, win0_5.index t 0 = 0 ∧ win0_5.index t 1 = 0 := by decide +kernel

theorem blk5_at (t : Fin cfg0.N) (r : Fin 8) (k : Fin 1024) :
    (iblk m c 5 t : S8x1024.Idx → EReal) (ix2 r k)
      = at2 (m := 8) (n := 2048) (V m c main_v1) (r.val) (k.val) := by
  have hN : t.val < 32 := lt_of_lt_of_eq t.isLt N_0
  have hi := idx5 t
  rw [at2_lt (m := 8) (n := 2048) _ (t := r.val) (k := k.val) (by omega) (by omega)]
  unfold iblk
  rw [View.read_apply]
  refine congrArg (V m c main_v1) (funext fun a => Fin.ext ?_)
  match a with
  | ⟨0, _⟩ => show win0_5.index t 0 * 8 + 1 * r.val = r.val; rw [hi.1]; omega
  | ⟨1, _⟩ => show win0_5.index t 1 * 1024 + 1 * k.val = k.val; rw [hi.2]; omega

theorem idx6 : ∀ t : Fin grid0.N, win0_6.index t 0 = 0 ∧ win0_6.index t 1 = 1 := by decide +kernel

theorem blk6_at (t : Fin cfg0.N) (r : Fin 8) (k : Fin 1024) :
    (iblk m c 6 t : S8x1024.Idx → EReal) (ix2 r k)
      = at2 (m := 8) (n := 2048) (V m c main_v1) (r.val) (1024 + k.val) := by
  have hN : t.val < 32 := lt_of_lt_of_eq t.isLt N_0
  have hi := idx6 t
  rw [at2_lt (m := 8) (n := 2048) _ (t := r.val) (k := 1024 + k.val) (by omega) (by omega)]
  unfold iblk
  rw [View.read_apply]
  refine congrArg (V m c main_v1) (funext fun a => Fin.ext ?_)
  match a with
  | ⟨0, _⟩ => show win0_6.index t 0 * 8 + 1 * r.val = r.val; rw [hi.1]; omega
  | ⟨1, _⟩ => show win0_6.index t 1 * 1024 + 1 * k.val = 1024 + k.val; rw [hi.2]; omega

theorem blocks (t : Fin cfg0.N) : Blocks (iblk m c 0 t) (iblk m c 1 t) (iblk m c 2 t) (iblk m c 3 t) (iblk m c 4 t) (iblk m c 5 t) (iblk m c 6 t)
    (arrD m c) (arrS m c) (arrA m c) (arrP m c) (arrB m c) t.val where
  h0 r k := (blk0_at m c t r k).trans (by rw [V_main_arg0])
  h1 r k := (blk1_at m c t r k).trans (by rw [V_main_arg1])
  h2 r k := (blk2_at m c t r k).trans (by rw [V_main_arg2])
  h3 r k := (blk3_at m c t r k).trans (by rw [V_main_arg3])
  h4 r k := (blk4_at m c t r k).trans (by rw [V_main_arg3, show 5120 + k.val = 4096 + (1024 + k.val) by omega])
  h5 k := (blk5_at m c t 0 k).trans (bias_at m c _ (by omega))
  h6 k := (blk6_at m c t 0 k).trans (bias_at m c _ (by omega))

/-! ## The arrays -/

/-- After point `n` the packed gradient of the bias is the sum over the tokens seen so far. -/
theorem acc_after : ∀ (n : ℕ) (h : n < cfg0.N) (r : Fin 8) (k : Fin 2048),
    ((outsAt0 m c n h).2.2.2 : S8x2048.Idx → EReal) (ix2 r k)
      = ∑ t ∈ Finset.range (512 * (n + 1)), term (arrD m c) (arrS m c) (arrA m c) (arrP m c) (arrB m c) r.val t k.val
  | 0, h, r, k => by
    rw [outsAt0_A m c ⟨0, h⟩ rfl]
    dsimp only
    rw [out_acc_A, acc_at (blocks m c ⟨0, h⟩), ← sum_block 512 _ 0]
    refine congrArg (· + _) ?_
    pointwise [k0_pay7]
    rfl
  | n + 1, h, r, k => by
    have hN : n + 1 < 32 := lt_of_lt_of_eq h N_0
    rw [outsAt0_B m c ⟨n + 1, h⟩ (by dsimp only; omega)]
    dsimp only
    rw [out_acc_B, acc_at (blocks m c ⟨n + 1, h⟩)]
    rw [← sum_block 512 _ (n + 1)]
    exact congrArg (· + _) (acc_after n _ r k)

/-- The gradient at the recurrent branch, at the attention branch, and the packed gradient of the bias. -/
abbrev resS : S16384x1024.Idx → EReal := fun j => dS (arrD m c) (arrP m c) (arrB m c) (j 0).val (j 1).val
abbrev resA : S16384x1024.Idx → EReal := fun j => dA (arrD m c) (arrP m c) (arrB m c) (j 0).val (j 1).val
abbrev resB : S8x2048.Idx → EReal := fun j =>
  dBias (arrD m c) (arrS m c) (arrA m c) (arrP m c) (arrB m c) (j 0).val (j 1).val

theorem out_s_at (t : Fin cfg0.N) (r : Fin 512) (k : Fin 1024) :
    ((outsAt0 m c t.val t.isLt).1 : S512x1024.Idx → EReal) (ix2 r k)
      = dS (arrD m c) (arrP m c) (arrB m c) (512 * t.val + r.val) k.val := by
  by_cases h0 : t.val % 32 = 0
  · rw [outsAt0_A m c t h0]
    dsimp only
    rw [out_s_A, ld_all, ld_all, s_at (blocks m c t)]
  · rw [outsAt0_B m c t h0]
    dsimp only
    rw [out_s_B, ld_all, ld_all, s_at (blocks m c t)]

theorem idx7 : ∀ t : Fin grid0.N, win0_7.index t 0 = t.val ∧ win0_7.index t 1 = 0 := by decide +kernel

theorem flushed_s (t : Fin cfg0.N) (_ : (cfg0.win 7).flush t = true) :
    (dats m 0 c).flushed 7 t = ((cfg0.win 7).blk t).view.read (Elt Ideal) (resS m c) := by
  rw [Value.flushed7]
  funext j
  rw [View.read_apply]
  obtain ⟨r, k, rfl⟩ := ix2_surj (m := 512) (n := 1024) j
  refine (out_s_at m c t r k).trans ?_
  have hi := idx7 t
  refine congrArg₂ (dS (arrD m c) (arrP m c) (arrB m c)) ?_ ?_
  · show _ = win0_7.index t 0 * 512 + 1 * r.val; rw [hi.1]; omega
  · show _ = win0_7.index t 1 * 1024 + 1 * k.val; rw [hi.2]; omega

/-- The gradient at the recurrent branch after the launch. -/
theorem final_s : (dats m 0 c).arrAt 7 cfg0.N = resS m c :=
  (dats m 0 c).arrAt_eq_of_cover 7 (resS m c) (flushed_s m c) fun i => by
    have h0 : (i 0 : Nat) < 16384 := (i 0).isLt
    have h1 : (i 1 : Nat) < 1024 := (i 1).isLt
    let t : Fin cfg0.N := ⟨(i 0).val / 512, lt_of_lt_of_eq (by omega : _ < 32) N_0.symm⟩
    have hi := idx7 t
    refine ⟨t, flush0_7 t, ?_⟩
    show i ∈ ((View.whole main_v2_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [hi.1]; dsimp only [t]; omega
    | ⟨1, _⟩ => show win0_7.index t 1 * 1024 ≤ (i 1 : Nat) ∧ (i 1 : Nat) < win0_7.index t 1 * 1024 + 1024
                rw [hi.2]; omega

theorem out_a_at (t : Fin cfg0.N) (r : Fin 512) (k : Fin 1024) :
    ((outsAt0 m c t.val t.isLt).2.1 : S512x1024.Idx → EReal) (ix2 r k)
      = dA (arrD m c) (arrP m c) (arrB m c) (512 * t.val + r.val) k.val := by
  by_cases h0 : t.val % 32 = 0
  · rw [outsAt0_A m c t h0]
    dsimp only
    rw [out_a_A, ld_all, ld_all, a_at (blocks m c t)]
  · rw [outsAt0_B m c t h0]
    dsimp only
    rw [out_a_B, ld_all, ld_all, a_at (blocks m c t)]

theorem idx8 : ∀ t : Fin grid0.N, win0_8.index t 0 = t.val ∧ win0_8.index t 1 = 0 := by decide +kernel

theorem flushed_a (t : Fin cfg0.N) (_ : (cfg0.win 8).flush t = true) :
    (dats m 0 c).flushed 8 t = ((cfg0.win 8).blk t).view.read (Elt Ideal) (resA m c) := by
  rw [Value.flushed8]
  funext j
  rw [View.read_apply]
  obtain ⟨r, k, rfl⟩ := ix2_surj (m := 512) (n := 1024) j
  refine (out_a_at m c t r k).trans ?_
  have hi := idx8 t
  refine congrArg₂ (dA (arrD m c) (arrP m c) (arrB m c)) ?_ ?_
  · show _ = win0_8.index t 0 * 512 + 1 * r.val; rw [hi.1]; omega
  · show _ = win0_8.index t 1 * 1024 + 1 * k.val; rw [hi.2]; omega

/-- The gradient at the attention branch after the launch. -/
theorem final_a : (dats m 0 c).arrAt 8 cfg0.N = resA m c :=
  (dats m 0 c).arrAt_eq_of_cover 8 (resA m c) (flushed_a m c) fun i => by
    have h0 : (i 0 : Nat) < 16384 := (i 0).isLt
    have h1 : (i 1 : Nat) < 1024 := (i 1).isLt
    let t : Fin cfg0.N := ⟨(i 0).val / 512, lt_of_lt_of_eq (by omega : _ < 32) N_0.symm⟩
    have hi := idx8 t
    refine ⟨t, flush0_8 t, ?_⟩
    show i ∈ ((View.whole main_v2_1).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [hi.1]; dsimp only [t]; omega
    | ⟨1, _⟩ => show win0_8.index t 1 * 1024 ≤ (i 1 : Nat) ∧ (i 1 : Nat) < win0_8.index t 1 * 1024 + 1024
                rw [hi.2]; omega

theorem out_b_at (t : Fin cfg0.N) (ht : t.val = 31) (r : Fin 8) (k : Fin 2048) :
    ((outsAt0 m c t.val t.isLt).2.2.2 : S8x2048.Idx → EReal) (ix2 r k)
      = dBias (arrD m c) (arrS m c) (arrA m c) (arrP m c) (arrB m c) r.val k.val := by
  rw [acc_after m c t.val t.isLt r k, ht, show 512 * (31 + 1) = 16384 from by norm_num]
  unfold dBias
  rfl

section
attribute [local irreducible] dBias
theorem idx10 : ∀ t : Fin grid0.N, win0_10.index t 0 = 0 ∧ win0_10.index t 1 = 0 := by decide +kernel

theorem flushed_b (t : Fin cfg0.N) (hf : (cfg0.win 10).flush t = true) :
    (dats m 0 c).flushed 10 t = ((cfg0.win 10).blk t).view.read (Elt Ideal) (resB m c) := by
  have hN : t.val < 32 := lt_of_lt_of_eq t.isLt N_0
  have ht : t.val = 31 := by have := (flush0_10 t).mp hf; omega
  rw [Value.flushed10]
  funext j
  rw [View.read_apply]
  obtain ⟨r, k, rfl⟩ := ix2_surj (m := 8) (n := 2048) j
  refine (out_b_at m c t ht r k).trans ?_
  have hi := idx10 t
  refine congrArg₂ (dBias (arrD m c) (arrS m c) (arrA m c) (arrP m c) (arrB m c)) ?_ ?_
  · show _ = win0_10.index t 0 * 8 + 1 * r.val; rw [hi.1]; omega
  · show _ = win0_10.index t 1 * 2048 + 1 * k.val; rw [hi.2]; omega

/-- The packed gradient of the bias after the launch. -/
theorem final_b : (dats m 0 c).arrAt 10 cfg0.N = resB m c :=
  (dats m 0 c).arrAt_eq_of_cover 10 (resB m c) (flushed_b m c) fun i => by
    have h0 : (i 0 : Nat) < 8 := (i 0).isLt
    have h1 : (i 1 : Nat) < 2048 := (i 1).isLt
    let t : Fin cfg0.N := ⟨31, lt_of_lt_of_eq (by omega : _ < 32) N_0.symm⟩
    have hi := idx10 t
    refine ⟨t, (flush0_10 t).mpr rfl, ?_⟩
    show i ∈ ((View.whole main_v2_3).slice (win0_10.rect t)).set
    rw [View.set_slice_whole, Rect.mem_set_unit]
    intro a
    match a with
    | ⟨0, _⟩ => show win0_10.index t 0 * 8 ≤ (i 0 : Nat) ∧ (i 0 : Nat) < win0_10.index t 0 * 8 + 8
                rw [hi.1]; omega
    | ⟨1, _⟩ => show win0_10.index t 1 * 2048 ≤ (i 1 : Nat) ∧ (i 1 : Nat) < win0_10.index t 1 * 2048 + 2048
                rw [hi.2]; omega
end

end Cert.Merge
end
-- ==== Proof.Merge.Ref.lean ====
module
public import proofs.«01_k».proof.Proof.Gen.MergeBwdRefIdeal.Read
public import proofs.«01_k».proof.Proof.Merge.Spec
public import proofs.«01_k».proof.Proof.Lib.Places

@[expose] public section

set_option maxRecDepth 16384

noncomputable section

/-! The reference's results, element by element: the gradients of the specification. -/

namespace Cert.Merge

open Idealize.ShloMosaic Idealize.SL.Sem Cert.MergeBwdRefIdeal Cert.MergeBwdRefIdeal.Gen Cert.MergeBwdRefIdeal.Read Cert.Lib
open Cert.FfnAct (sg at2 at2_ix at2_lt at2_out)

variable (x0 x1 x2 : FVec Ideal S16384x1024 .bf16) (x3 : FVec Ideal S16384x8192 .bf16) (x4 : FVec Ideal S1x2048 .f32)

/-- The gates. -/
theorem ref_gate (t : Fin 16384) (c : Fin 2048) :
    val_main_v13 (F := Ideal) x3 x4 (ix2 t c) = gate x3 x4 t.val c.val := by
  unfold gate sg
  rw [at2_lt x3 t.isLt (by omega), at2_lt x4 (by omega) c.isLt]
  pointwise [val_main_v13, val_main_v12, val_main_cst_0, val_main_v11, val_main_v10, val_main_cst, val_main_v9, val_main_v8,
    val_main_v7, val_main_v6, val_main_v5, val_main_v4, val_main_v3, val_main_v0]
  rw [zero_sub]

theorem ref_s (t : Fin 16384) (k : Fin 1024) :
    val_main_v32 (F := Ideal) x0 x3 x4 (ix2 t k) = dS x0 x3 x4 t.val k.val := by
  unfold dS
  rw [at2_ix x0]
  pointwise [val_main_v32, val_main_v25, val_main_v22, val_main_v17]
  rw [ref_gate, mul_comm]
  first | done | rfl

theorem ref_a (t : Fin 16384) (k : Fin 1024) :
    val_main_v33 (F := Ideal) x0 x3 x4 (ix2 t k) = dA x0 x3 x4 t.val k.val := by
  unfold dA
  rw [at2_ix x0]
  pointwise [val_main_v33, val_main_v23, val_main_v22, val_main_v18]
  rw [ref_gate, mul_comm]
  first | done | rfl

theorem ref_part (t : Fin 16384) (c : Fin 2048) :
    val_main_v28 (F := Ideal) x0 x1 x2 x3 x4 (ix2 t c) = part x0 x1 x2 x3 x4 t.val c.val := by
  unfold part
  pointwise [val_main_v28, val_main_v27, val_main_v26, val_main_v24, val_main_v22, val_main_v1, val_main_v2, val_main_v16,
    val_main_v15, val_main_v14, val_main_cst_1]
  rw [ref_gate, mul_assoc]
  refine congrArg (· * _) ?_
  split
  · rw [at2_lt x0 t.isLt (by omega), at2_lt x1 t.isLt (by omega)]
  · rw [at2_lt x0 t.isLt (by omega), at2_lt x2 t.isLt (by omega)]

theorem ref_b (r : Fin 8) (c : Fin 2048) :
    val_main_v36 (F := Ideal) x0 x1 x2 x3 x4 (ix2 r c) = dBias x0 x1 x2 x3 x4 r.val c.val := by
  unfold dBias term
  rw [Finset.sum_range]
  pointwise [val_main_v36, val_main_v35, val_main_v34, val_main_v31, val_main_v30, val_main_v29, val_main_cst_4,
    val_main_cst_3, val_main_cst_2]
  by_cases hr : r.val = 0
  · simp [hr, ref_part]
  · simp [hr]

end Cert.Merge
end
-- ==== Proof.Merge.Main.lean ====
module
public import proofs.«01_k».proof.Proof.Merge.Arrays
public import proofs.«01_k».proof.Proof.Merge.Ref
public import proofs.«01_k».proof.Proof.Gen.MergeBwdRefIdeal.Run
public import proofs.«01_k».proof.Defs
public import Idealize.ShloMosaic.Lib.Quiescent

@[expose] public section

set_option maxRecDepth 16384

noncomputable section

/-! The claims about the gradient of the merging gates. -/

namespace Cert.Merge

open Idealize.ShloMosaic Idealize.ShloMosaic.TcCoe Idealize.SL.Sem Cert.Lib

/-- The reference runs, leaves its arguments and ends with every counter at zero: it has no semaphores. -/
theorem referenceFrame : Cert.quiescent_MergeBwdRefIdeal (hMergeBwdRefIdeal := Cert.MergeBwdRefIdeal.Gen.facts) :=
  fun m ρ _ => (θ_run Cert.MergeBwdRefIdeal.defs _ _).mono (fun r h => And.intro (fun c => (h c).2.2.2)
      (Idealize.ShloMosaic.sem_eq_zero_of_no_sems (by decide) r.2))
    (Cert.MergeBwdRefIdeal.Value.run (F := Ideal) m ρ)

/-- The kernel's three results are the reference's: the gradients at the two branches and the packed gradient of the
    gates' bias. -/
theorem values : Cert.algebraic_MergeBwdIdeal_MergeBwdRefIdeal (hMergeBwdIdeal := Cert.MergeBwdIdeal.Gen.facts)
    (hMergeBwdRefIdeal := Cert.MergeBwdRefIdeal.Gen.facts) := by
  intro m g m' g' _ hargs
  refine ⟨fun c => resS m c, fun c => resA m c, fun c => resB m c, ?_, ?_⟩
  · refine (θ_run Cert.MergeBwdIdeal.defs _ _).mono (fun r h c => ?_) (Cert.MergeBwdIdeal.Value.run_blocks m g)
    obtain ⟨h0, h1, -, h2, h3⟩ := h c
    exact ⟨h0.trans (final_s m c), h1.trans (final_a m c), h2.trans (final_b m c), h3⟩
  · refine (θ_run Cert.MergeBwdRefIdeal.defs _ _).mono (fun r h c => ?_) (Cert.MergeBwdRefIdeal.Value.run m' g')
    obtain ⟨h0, h1, h2, h3⟩ := h c
    obtain ⟨a0, a1, a2, a3, a4⟩ := hargs c
    refine ⟨h0.trans ?_, h1.trans ?_, h2.trans ?_, h3⟩
    · rw [Cert.MergeBwdRefIdeal.Read.val_main_v32_eq, a0, a3, a4]
      funext j
      obtain ⟨t, k, rfl⟩ := ix2_surj (m := 16384) (n := 1024) j
      exact ref_s _ _ _ t k
    · rw [Cert.MergeBwdRefIdeal.Read.val_main_v33_eq, a0, a3, a4]
      funext j
      obtain ⟨t, k, rfl⟩ := ix2_surj (m := 16384) (n := 1024) j
      exact ref_a _ _ _ t k
    · rw [Cert.MergeBwdRefIdeal.Read.val_main_v36_eq, a0, a1, a2, a3, a4]
      funext j
      obtain ⟨t, k, rfl⟩ := ix2_surj (m := 8) (n := 2048) j
      exact ref_b _ _ _ _ _ t k

end Cert.Merge
end
-- ==== Proof.LnBwd.Pieces.lean ====
module
public import proofs.«01_k».proof.Proof.Gen.LnBwdIdeal.Value
public import proofs.«01_k».proof.Proof.Lib.Places

@[expose] public section

set_option maxRecDepth 16384

noncomputable section

/-! What one grid point leaves in the output blocks, over the blocks it read. -/

namespace Cert.LnBwd

open Idealize.ShloMosaic Idealize.ShloMosaic.TcCoe Idealize.SL.Sem Cert.LnBwdIdeal Cert.LnBwdIdeal.Gen Cert.Lib

/-- The first row of a block of eight. -/
abbrev top : Rect S8x1024 := Rect.unit ![0, 0] ![1, 1024] inb_S8x1024_S1x1024_0_0
/-- A whole block of 512 rows. -/
abbrev all512 : Rect S512x1024 := Rect.unit ![0, 0] ![512, 1024] inb_S512x1024_S512x1024_0_0
/-- A whole column of 512 rows. -/
abbrev allCol : Rect S512x1 := Rect.unit ![0, 0] ![512, 1] inb_S512x1_S512x1_0_0

/-- A load of a whole block gives the block. -/
theorem ld_all {t : EltTy} (x : Vec Ideal S512x1024 t) : View.ld x all512 = x := by
  rw [View.ld_unit_zero (S := S512x1024) (funext fun a => by fin_cases a <;> rfl)]

theorem ld_col (x : Vec Ideal S512x1 .f32) : View.ld x allCol = x := by
  rw [View.ld_unit_zero (S := S512x1) (funext fun a => by fin_cases a <;> rfl)]

variable (i : grid0.Coords) (x0 : Vec Ideal S512x1024 .f32) (x1 : Vec Ideal S512x1024 .bf16) (x2 : Vec Ideal S512x1024 .f32) (x3 : Vec Ideal S512x1 .f32) (x4 : Vec Ideal S8x1024 .f32)

/-- The row stores into the packed gradients, the last one first, over the contents `xo` of the block. -/
def accPieces (xo : Vec Ideal S8x1024 .f32) : List (View.Piece (Elt Ideal) S8x1024 .f32) :=
  [⟨Rect.unit ![1, 0] ![1, 1024] inb_S8x1024_S1x1024_1_0,
      k0_pay7 (View.ld x0 all512) (View.ld x1 all512) (View.ld xo (Rect.unit ![1, 0] ![1, 1024] inb_S8x1024_S1x1024_1_0))⟩,
    ⟨Rect.unit ![0, 0] ![1, 1024] inb_S8x1024_S1x1024_0_0,
      k0_pay6 (View.ld x0 all512) (View.ld x1 all512) (View.ld x2 all512)
        (View.ld xo (Rect.unit ![0, 0] ![1, 1024] inb_S8x1024_S1x1024_0_0))⟩]

variable (c : Dev nD) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole)

theorem out_d_A (hc0 : cond0_0 i) :
    out0_A_5 c i arg1 harg1 arg2 harg2 arg3 harg3 arg4 harg4 arg5 harg5 arg6 harg6 arg7 harg7 arg8 harg8 hc0 x0 x1 x2 x3 x4 = k0_pay1 (k0_pay5 (View.ld x2 all512)) (k0_pay8 (View.ld x0 all512) (View.ld x1 all512) (View.ld x4 top)) (k0_pay9 (View.ld x3 allCol))
      (k0_pay10 (View.ld x0 all512) (View.ld x1 all512) (View.ld x4 top)) := by
  unfold out0_A_5
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]

theorem out_d_B (hc0 : ¬cond0_0 i) (xo : Vec Ideal S8x1024 .f32) :
    out0_B_5 c i arg1 harg1 arg2 harg2 arg3 harg3 arg4 harg4 arg5 harg5 arg6 harg6 arg7 harg7 arg8 harg8 hc0 x0 x1 x2 x3 x4 xo = k0_pay1 (k0_pay5 (View.ld x2 all512)) (k0_pay8 (View.ld x0 all512) (View.ld x1 all512) (View.ld x4 top)) (k0_pay9 (View.ld x3 allCol))
      (k0_pay10 (View.ld x0 all512) (View.ld x1 all512) (View.ld x4 top)) := by
  unfold out0_B_5
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]

theorem out_e_A (hc0 : cond0_0 i) :
    out0_A_6 c i arg1 harg1 arg2 harg2 arg3 harg3 arg4 harg4 arg5 harg5 arg6 harg6 arg7 harg7 arg8 harg8 hc0 x0 x1 x2 x3 x4 = k0_pay2 (k0_pay5 (View.ld x2 all512)) (k0_pay8 (View.ld x0 all512) (View.ld x1 all512) (View.ld x4 top)) (k0_pay9 (View.ld x3 allCol))
      (k0_pay10 (View.ld x0 all512) (View.ld x1 all512) (View.ld x4 top)) := by
  unfold out0_A_6
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]

theorem out_e_B (hc0 : ¬cond0_0 i) (xo : Vec Ideal S8x1024 .f32) :
    out0_B_6 c i arg1 harg1 arg2 harg2 arg3 harg3 arg4 harg4 arg5 harg5 arg6 harg6 arg7 harg7 arg8 harg8 hc0 x0 x1 x2 x3 x4 xo = k0_pay2 (k0_pay5 (View.ld x2 all512)) (k0_pay8 (View.ld x0 all512) (View.ld x1 all512) (View.ld x4 top)) (k0_pay9 (View.ld x3 allCol))
      (k0_pay10 (View.ld x0 all512) (View.ld x1 all512) (View.ld x4 top)) := by
  unfold out0_B_6
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]

/-- At a later point the accumulator is the row stores over what it held. -/
theorem out_acc_B (hc0 : ¬cond0_0 i) (xo : Vec Ideal S8x1024 .f32) :
    out0_B_7 c i arg1 harg1 arg2 harg2 arg3 harg3 arg4 harg4 arg5 harg5 arg6 harg6 arg7 harg7 arg8 harg8 hc0 x0 x1 x2 x3 x4 xo = View.canon (accPieces x0 x1 x2 xo
        ++ [⟨Rect.unit ![0, 0] S8x1024.size inb_S8x1024_S8x1024_0_0, xo⟩]) := by
  rw [← read_over arg8 harg8 _ xo inb_S8x1024_S8x1024_0_0 (funext fun a => by fin_cases a <;> rfl)]
  unfold out0_B_7
  unfold kernelRun0_B
  dsimp only
  sl_unfold_run_names
  simp only [View.readAt_eq_ld, Memref.IsWhole.read_unread]
  rfl

/-- At the first point it is the row stores over zeros. -/
theorem out_acc_A (hc0 : cond0_0 i) :
    out0_A_7 c i arg1 harg1 arg2 harg2 arg3 harg3 arg4 harg4 arg5 harg5 arg6 harg6 arg7 harg7 arg8 harg8 hc0 x0 x1 x2 x3 x4 = View.canon (accPieces x0 x1 x2 (k0_pay3 (F := Ideal))
        ++ [⟨Rect.unit ![0, 0] S8x1024.size inb_S8x1024_S8x1024_0_0, k0_pay3 (F := Ideal)⟩]) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  simp (disch := decide) only [View.readAt_eq_ld, Memref.IsWhole.read_unread, View.readCov_skip, View.readCov_fill]
  rfl

end Cert.LnBwd
end
-- ==== Proof.Ln.Real.lean ====
module
public import proofs.«01_k».proof.Proof.FfnAct.Spec

@[expose] public section

noncomputable section

/-! The gradient of layer normalisation along one row of 1024 elements, over the extended reals: the compact form that
subtracts two means, and the form that the chain rule gives through the mean and the variance. On rows of real numbers
they agree. Nothing here mentions a program. -/

namespace Cert.Ln

open Idealize.ShloMosaic Cert.FfnAct

/-- The row's length, the number added to the variance and the constant in the derivative of the inverse square root,
    as the programs spell them. -/
abbrev len : EReal := Ideal.ofBits .f32 0x44800000#32
abbrev eps : EReal := Ideal.ofBits .f32 0x3727C5AC#32
abbrev negHalf : EReal := Ideal.ofBits .f32 0xBF000000#32

/-- The mean of a row. -/
def mean (f : ℕ → EReal) : EReal := Ideal.div (∑ j : Fin 1024, f j.val) len
/-- A row less its mean. -/
def cen (r : ℕ → EReal) (j : ℕ) : EReal := r j - mean r
/-- The variance with the small number added. -/
def var (r : ℕ → EReal) : EReal := mean (fun j => cen r j * cen r j) + eps
/-- The normalised row. -/
def hat (r : ℕ → EReal) (j : ℕ) : EReal := cen r j * Ideal.rsqrt (var r)

/-- The gradient at the row, from the normalised row `h`, the inverse deviation `s` and the gradient `u` at the
    normalised row. -/
def grad (h u : ℕ → EReal) (s : EReal) (j : ℕ) : EReal :=
  s * (u j - mean u - h j * mean fun l => u l * h l)

/-- The gradient at the mean of the squares. -/
def dVar (r u : ℕ → EReal) : EReal :=
  Ideal.div ((∑ j : Fin 1024, cen r j.val * u j.val) * (negHalf * Ideal.div (Ideal.rsqrt (var r)) (var r))) len
/-- The gradient at the centred row. -/
def dCen (r u : ℕ → EReal) (j : ℕ) : EReal :=
  u j * Ideal.rsqrt (var r) + cen r j * dVar r u + dVar r u * cen r j
/-- The gradient at the row by the chain rule. -/
def chain (r u : ℕ → EReal) (j : ℕ) : EReal := dCen r u j + Ideal.div (∑ l : Fin 1024, -dCen r u l.val) len

/-- The factor of the residual branch. -/
abbrev alpha : EReal := Ideal.ofBits .f32 0x3F9837F0#32

theorem alpha_real : IsReal alpha := ⟨_, by simp [alpha, Ideal.ofBits, Ideal.ieee]; rfl⟩

/-- An array of real numbers is real at every position, also outside. -/
theorem at2_real {m n : ℕ} {f : (⟨2, ![m, n]⟩ : Shape).Idx → EReal} (h : ∀ i, IsReal (f i)) (t k : ℕ) : IsReal (at2 f t k) := by
  unfold at2
  split
  · exact h _
  · exact .zero

theorem len_eq : len = ((1024 : ℝ) : EReal) := by
  simp [len, Ideal.ofBits, Ideal.ieee]
  rw [← EReal.coe_mul]; norm_num
theorem negHalf_eq : negHalf = ((-(1 / 2) : ℝ) : EReal) := by
  simp [negHalf, Ideal.ofBits, Ideal.ieee]
  rw [← EReal.coe_mul]; norm_num
theorem eps_pos : ∃ e : ℝ, 0 < e ∧ eps = (e : EReal) := by
  refine ⟨_, ?_, by simp [eps, Ideal.ofBits, Ideal.ieee]; rfl⟩
  norm_num

theorem coe_sum {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem div_len (x : ℝ) : Ideal.div (x : EReal) len = ((x / 1024 : ℝ) : EReal) := by
  rw [len_eq, Ideal.div_coe (by norm_num), ← EReal.coe_mul]; congr 1; ring

theorem mean_coe (f : ℕ → ℝ) : mean (fun j => (f j : EReal)) = (((∑ j : Fin 1024, f j.val) / 1024 : ℝ) : EReal) := by
  unfold mean; rw [coe_sum, div_len]

theorem sub_real {x y : EReal} : IsReal x → IsReal y → IsReal (x - y)
  | ⟨a, ha⟩, ⟨b, hb⟩ => ⟨a - b, by rw [ha, hb, EReal.coe_sub]⟩

theorem mean_real {f : ℕ → EReal} (h : ∀ j, IsReal (f j)) : IsReal (mean f) := by
  choose x hx using h
  obtain rfl : f = fun j => ((x j : ℝ) : EReal) := funext hx
  exact ⟨_, mean_coe x⟩

/-- The variance of a real row with the small number added is a positive real number. -/
theorem var_pos {r : ℕ → EReal} (hr : ∀ j, IsReal (r j)) : ∃ v : ℝ, 0 < v ∧ var r = (v : EReal) := by
  choose y hy using fun j => sub_real (hr j) (mean_real hr)
  obtain ⟨e, he, heps⟩ := eps_pos
  refine ⟨(∑ j : Fin 1024, y j.val * y j.val) / 1024 + e, ?_, ?_⟩
  · have : 0 ≤ ∑ j : Fin 1024, y j.val * y j.val := Finset.sum_nonneg fun j _ => mul_self_nonneg _
    positivity
  · have hc : ∀ j, cen r j = (y j : EReal) := hy
    unfold var
    simp only [hc, ← EReal.coe_mul]
    rw [mean_coe, heps, ← EReal.coe_add]

/-- The normalised row of a real row is real. -/
theorem hat_real {r : ℕ → EReal} (hr : ∀ j, IsReal (r j)) (j : ℕ) : IsReal (hat r j) := by
  obtain ⟨v, hv, e⟩ := var_pos hr
  refine (sub_real (hr j) (mean_real hr)).mul ⟨(Real.sqrt v)⁻¹, ?_⟩
  rw [e, Ideal.rsqrt_coe, if_neg (by linarith), if_neg (by linarith)]

/-- On real rows the chain rule's gradient is the compact form. -/
theorem chain_eq (r u : ℕ → EReal) (hr : ∀ j, IsReal (r j)) (hu : ∀ j, IsReal (u j)) (j : ℕ) :
    chain r u j = grad (hat r) u (Ideal.rsqrt (var r)) j := by
  choose x hx using hr
  choose w hw using hu
  obtain rfl : r = fun j => ((x j : ℝ) : EReal) := funext hx
  obtain rfl : u = fun j => ((w j : ℝ) : EReal) := funext hw
  obtain ⟨e, he, heps⟩ := eps_pos
  set μ : ℝ := (∑ j : Fin 1024, x j.val) / 1024 with hμ
  have hc : ∀ j, cen (fun j => ((x j : ℝ) : EReal)) j = ((x j - μ : ℝ) : EReal) := fun j => by
    unfold cen; rw [mean_coe, ← EReal.coe_sub]
  set v : ℝ := (∑ j : Fin 1024, (x j.val - μ) * (x j.val - μ)) / 1024 + e with hv
  have hvar : var (fun j => ((x j : ℝ) : EReal)) = (v : EReal) := by
    unfold var
    simp only [hc, ← EReal.coe_mul]
    rw [mean_coe, heps, ← EReal.coe_add]
  have hvpos : 0 < v := by
    have : 0 ≤ ∑ j : Fin 1024, (x j.val - μ) * (x j.val - μ) := Finset.sum_nonneg fun j _ => mul_self_nonneg _
    positivity
  set s : ℝ := (Real.sqrt v)⁻¹ with hs
  have hrs : Ideal.rsqrt (v : EReal) = (s : EReal) := by
    rw [Ideal.rsqrt_coe, if_neg (by linarith), if_neg (by linarith)]
  have hss : s * s = 1 / v := by
    rw [hs, ← mul_inv, Real.mul_self_sqrt hvpos.le, one_div]
  have hzero : ∑ j : Fin 1024, (x j.val - μ) = 0 := by
    rw [Finset.sum_sub_distrib, Finset.sum_const, Finset.card_univ, Fintype.card_fin, hμ, nsmul_eq_mul]
    push_cast; ring
  have hdiv : Ideal.div (s : EReal) (v : EReal) = ((s * (s * s) : ℝ) : EReal) := by
    rw [Ideal.div_coe hvpos.ne', ← EReal.coe_mul, hss]
  set q : ℝ := ((∑ j : Fin 1024, (x j.val - μ) * w j.val) * (-(1 / 2) * (s * (s * s)))) / 1024 with hq
  have hdv : dVar (fun j => ((x j : ℝ) : EReal)) (fun j => ((w j : ℝ) : EReal)) = (q : EReal) := by
    unfold dVar
    simp only [hc, hvar, hrs, hdiv, negHalf_eq, ← EReal.coe_mul, coe_sum, div_len]
    rw [hq]
  have hdc : ∀ j, dCen (fun j => ((x j : ℝ) : EReal)) (fun j => ((w j : ℝ) : EReal)) j
      = ((w j * s + (x j - μ) * q + q * (x j - μ) : ℝ) : EReal) := fun j => by
    unfold dCen
    simp only [hc, hvar, hrs, hdv, ← EReal.coe_mul, ← EReal.coe_add]
  have hsum : ∑ l : Fin 1024, -(w l.val * s + (x l.val - μ) * q + q * (x l.val - μ)) = -(s * ∑ l : Fin 1024, w l.val) := by
    have : ∀ l : ℕ, -(w l * s + (x l - μ) * q + q * (x l - μ)) = -(s * w l) + (-(2 * q)) * (x l - μ) := fun l => by ring
    simp only [this]
    rw [Finset.sum_add_distrib, ← Finset.mul_sum, hzero, Finset.sum_neg_distrib, ← Finset.mul_sum]; ring
  unfold chain grad hat
  simp only [hdc, hc, hvar, hrs, ← EReal.coe_mul, ← EReal.coe_neg, mean_coe, coe_sum, div_len, hsum, ← EReal.coe_add,
    ← EReal.coe_sub]
  have hm : ∑ l : Fin 1024, w l.val * ((x l.val - μ) * s) = s * ∑ l : Fin 1024, (x l.val - μ) * w l.val := by
    rw [Finset.mul_sum]; exact Finset.sum_congr rfl fun l _ => by ring
  rw [hm, hq]
  congr 1
  ring

end Cert.Ln
end
-- ==== Proof.LnBwd.Spec.lean ====
module
public import proofs.«01_k».proof.Proof.Ln.Real

@[expose] public section

noncomputable section

/-! The gradient of the first layer normalisation, as functions of array elements over the extended reals. Rows and columns
are natural numbers: `X` and `M` add up to the normalised row, `D` and `H` to the gradient at the result, and `G` is the gain.
Nothing here mentions a program. -/

namespace Cert.LnBwd

open Idealize.ShloMosaic
open Cert.FfnAct (at2 at2_ix at2_lt IsReal)
open Cert.Ln

variable (X : (⟨2, ![16384, 1024]⟩ : Shape).Idx → EReal) (M : (⟨2, ![16384, 1024]⟩ : Shape).Idx → EReal) (D : (⟨2, ![16384, 1024]⟩ : Shape).Idx → EReal) (H : (⟨2, ![16384, 1024]⟩ : Shape).Idx → EReal) (G : (⟨2, ![1, 1024]⟩ : Shape).Idx → EReal)

/-- The residual sum that is normalised. -/
def row (t j : ℕ) : EReal := alpha * at2 X t j + at2 M t j
/-- The gradient at the result. -/
def ct (t k : ℕ) : EReal := alpha * at2 D t k + at2 H t k
/-- The gradient at the normalised row. -/
def dHat (t k : ℕ) : EReal := ct D H t k * at2 G 0 k
/-- The gradient at the residual sum. -/
def dR (t k : ℕ) : EReal := grad (hat (row X M t)) (dHat D H G t) (Ideal.rsqrt (var (row X M t))) k

/-- Row `r` of the packed gradients gets this from token `t`: row 0 is the gain's, row 1 the offset's. -/
def term (r t c : ℕ) : EReal := if r = 0 then ct D H t c * hat (row X M t) c else if r = 1 then ct D H t c else 0

/-- The packed gradients over all tokens. -/
def acc (r c : ℕ) : EReal := ∑ t ∈ Finset.range 16384, term X M D H r t c

end Cert.LnBwd
end
-- ==== Proof.LnBwd.Point.lean ====
module
public import proofs.«01_k».proof.Proof.LnBwd.Pieces
public import proofs.«01_k».proof.Proof.LnBwd.Spec

@[expose] public section

set_option maxRecDepth 16384

noncomputable section

/-! What one grid point leaves, element by element: the gradient at the residual sum on its 512 rows, and those rows' share of
the gradients of the gain and the offset. -/

namespace Cert.LnBwd

open Idealize.ShloMosaic Idealize.ShloMosaic.TcCoe Idealize.SL.Sem Cert.LnBwdIdeal Cert.LnBwdIdeal.Gen Cert.Lib
open Cert.FfnAct (at2 at2_ix at2_lt IsReal)
open Cert.Ln

variable (d : Vec Ideal S512x1024 .f32) (e : Vec Ideal S512x1024 .bf16) (h : Vec Ideal S512x1024 .f32) (s : Vec Ideal S512x1 .f32)
  (g o : FVec Ideal S1x1024 .f32)

theorem pay6_at (k : Fin 1024) : k0_pay6 (F := Ideal) d e h o (ix2 0 k) = o (ix2 0 k)
    + ∑ s : Fin 512, (alpha * d (ix2 s k) + e (ix2 s k)) * h (ix2 s k) := by
  pointwise [k0_pay6, k0_pay5, k0_pay4]
  first | done | rfl

theorem pay7_at (k : Fin 1024) : k0_pay7 (F := Ideal) d e o (ix2 0 k) = o (ix2 0 k)
    + ∑ s : Fin 512, (alpha * d (ix2 s k) + e (ix2 s k)) := by
  pointwise [k0_pay7, k0_pay4]
  first | done | rfl

/-- The element of the gradient, before the blocks are known. -/
def body (r : Fin 512) (k : Fin 1024) : EReal :=
  s (ix2 r 0) * ((alpha * d (ix2 r k) + e (ix2 r k)) * g (ix2 0 k)
    - Ideal.div (∑ x : Fin 1024, (alpha * d (ix2 r x) + e (ix2 r x)) * g (ix2 0 x)) len
    - h (ix2 r k) * Ideal.div (∑ x : Fin 1024, (alpha * d (ix2 r x) + e (ix2 r x)) * g (ix2 0 x) * h (ix2 r x)) len)

theorem pay1_at (r : Fin 512) (k : Fin 1024) :
    k0_pay1 (F := Ideal) (k0_pay5 h) (k0_pay8 d e g) (k0_pay9 s) (k0_pay10 d e g) (ix2 r k) = body d e h s g r k := by
  unfold body
  pointwise [k0_pay1, k0_pay5, k0_pay8, k0_pay9, k0_pay10, k0_pay4]

theorem pay2_at (r : Fin 512) (k : Fin 1024) :
    k0_pay2 (F := Ideal) (k0_pay5 h) (k0_pay8 d e g) (k0_pay9 s) (k0_pay10 d e g) (ix2 r k) = body d e h s g r k :=
  Eq.trans (by pointwise [k0_pay2]; first | done | rfl) (pay1_at d e h s g r k)

section point
variable (x0 : Vec Ideal S512x1024 .f32) (x1 : Vec Ideal S512x1024 .bf16) (x2 : Vec Ideal S512x1024 .f32) (x3 : Vec Ideal S512x1 .f32) (x4 : Vec Ideal S8x1024 .f32)
  (X : S16384x1024.Idx → EReal) (M : S16384x1024.Idx → EReal) (D : S16384x1024.Idx → EReal) (H : S16384x1024.Idx → EReal) (G : S1x1024.Idx → EReal) (t : ℕ)

/-- The input blocks at point `t` are rows `512 t …` of the arrays. -/
structure Blocks : Prop where
  h0 : ∀ (r : Fin 512) (k : Fin 1024), x0 (ix2 r k) = at2 D (512 * t + r.val) k.val
  h1 : ∀ (r : Fin 512) (k : Fin 1024), x1 (ix2 r k) = at2 H (512 * t + r.val) k.val
  h2 : ∀ (r : Fin 512) (k : Fin 1024), x2 (ix2 r k) = hat (row X M (512 * t + r.val)) k.val
  h3 : ∀ r : Fin 512, x3 (ix2 r 0) = Ideal.rsqrt (var (row X M (512 * t + r.val)))
  h4 : ∀ k : Fin 1024, x4 (ix2 (0 : Fin 8) k) = at2 G 0 k.val

variable {x0 x1 x2 x3 x4 X M D H G t}
variable (hB : Blocks x0 x1 x2 x3 x4 X M D H G t)
include hB

theorem body_at (r : Fin 512) (k : Fin 1024) : body x0 x1 x2 x3 (View.ld x4 top) r k = dR X M D H G (512 * t + r.val) k.val := by
  have hg : ∀ k : Fin 1024, View.ld x4 top (ix2 (0 : Fin 1) k) = at2 G 0 k.val := fun k => by
    rw [ld_at _ x4 0 k 0 k rfl (by omega), hB.h4]
  unfold body dR grad mean dHat ct
  simp only [hB.h0, hB.h1, hB.h2, hB.h3, hg]

theorem d_at (r : Fin 512) (k : Fin 1024) :
    k0_pay1 (F := Ideal) (k0_pay5 (View.ld x2 all512)) (k0_pay8 (View.ld x0 all512) (View.ld x1 all512) (View.ld x4 top))
      (k0_pay9 (View.ld x3 allCol)) (k0_pay10 (View.ld x0 all512) (View.ld x1 all512) (View.ld x4 top)) (ix2 r k)
      = dR X M D H G (512 * t + r.val) k.val := by
  rw [ld_all, ld_all, ld_all, ld_col, pay1_at]
  exact body_at hB r k

theorem e_at (r : Fin 512) (k : Fin 1024) :
    k0_pay2 (F := Ideal) (k0_pay5 (View.ld x2 all512)) (k0_pay8 (View.ld x0 all512) (View.ld x1 all512) (View.ld x4 top))
      (k0_pay9 (View.ld x3 allCol)) (k0_pay10 (View.ld x0 all512) (View.ld x1 all512) (View.ld x4 top)) (ix2 r k)
      = dR X M D H G (512 * t + r.val) k.val := by
  rw [ld_all, ld_all, ld_all, ld_col, pay2_at]
  exact body_at hB r k

/-- The accumulator after the point: what it held and the point's rows' share. -/
theorem acc_at (xo : Vec Ideal S8x1024 .f32) (r : Fin 8) (c : Fin 1024) :
    View.canon (accPieces x0 x1 x2 xo ++ [⟨Rect.unit ![0, 0] S8x1024.size inb_S8x1024_S8x1024_0_0, xo⟩]) (ix2 r c)
      = xo (ix2 r c) + ∑ s : Fin 512, term X M D H r.val (512 * t + s.val) c.val := by
  unfold accPieces term
  simp only [List.cons_append, List.nil_append, ld_all]
  by_cases h0 : r.val = 0
  · obtain rfl : r = 0 := Fin.ext h0
    simp only [h0, if_true]
    rw [canon_miss _ _ _ _ _ (by omega), canon_hit _ _ _ 0 c 0 c rfl (by omega), pay6_at, ld_at _ xo 0 c 0 c rfl (by omega)]
    refine congrArg _ (Finset.sum_congr rfl fun s _ => ?_)
    rw [hB.h0, hB.h1, hB.h2]
    rfl
  · by_cases h1 : r.val = 1
    · obtain rfl : r = 1 := Fin.ext h1
      simp only [if_neg h0, if_pos h1]
      rw [canon_hit _ _ _ 0 c 1 c rfl (by omega), pay7_at, ld_at _ xo 0 c 1 c rfl (by omega)]
      refine congrArg _ (Finset.sum_congr rfl fun s _ => ?_)
      rw [hB.h0, hB.h1]
      rfl
    · rw [canon_miss _ _ _ _ _ (by omega), canon_miss _ _ _ _ _ (by omega), canon_hit _ _ _ r c r c (by omega) (by omega)]
      simp only [if_neg h0, if_neg h1, Finset.sum_const_zero, add_zero]

end point
end Cert.LnBwd
end
-- ==== Proof.LnBwd.Ref.lean ====
module
public import proofs.«01_k».proof.Proof.Gen.LnBwdRefIdeal.Read
public import proofs.«01_k».proof.Proof.LnBwd.Spec
public import proofs.«01_k».proof.Proof.Lib.Places

@[expose] public section

set_option maxRecDepth 16384

noncomputable section

/-! The reference's results, element by element. -/

namespace Cert.LnBwd

open Idealize.ShloMosaic Idealize.SL.Sem Cert.LnBwdRefIdeal Cert.LnBwdRefIdeal.Gen Cert.LnBwdRefIdeal.Read Cert.Lib
open Cert.FfnAct (at2 at2_ix at2_lt IsReal)
open Cert.Ln

variable (X : FVec Ideal S16384x1024 .f32) (M : FVec Ideal S16384x1024 .bf16) (D : FVec Ideal S16384x1024 .f32) (H : FVec Ideal S16384x1024 .bf16) (G : FVec Ideal S1x1024 .f32)

theorem ref_row (t : Fin 16384) (k : Fin 1024) : val_main_v3 (F := Ideal) X M (ix2 t k) = row X M t.val k.val := by
  unfold row
  rw [at2_ix X, at2_ix M]
  pointwise [val_main_v3, val_main_v2, val_main_v1, val_main_v0, val_main_cst]
  first | done | rfl

theorem ref_cen (t : Fin 16384) (k : Fin 1024) : val_main_v11 (F := Ideal) X M (ix2 t k) = cen (row X M t.val) k.val := by
  unfold cen mean
  pointwise [val_main_v11, val_main_v10, val_main_v9, val_main_v8, val_main_v7, val_main_v6, val_main_cst_2, val_main_cst_1]
  simp only [ref_row]

theorem ref_var (t : Fin 16384) : val_main_v18 (F := Ideal) X M (ix2 t 0) = var (row X M t.val) := by
  unfold var mean
  pointwise [val_main_v18, val_main_v17, val_main_v16, val_main_v15, val_main_v14, val_main_v13, val_main_v12, val_main_cst_5,
    val_main_cst_4, val_main_cst_3]
  simp only [ref_cen]

/-- The inverse deviation of a row. -/
theorem ref_inv (t : Fin 16384) : val_main_v19 (F := Ideal) X M (ix2 t 0) = Ideal.rsqrt (var (row X M t.val)) := by
  pointwise [val_main_v19]
  rw [ref_var]
  first | done | rfl

/-- The normalised row. -/
theorem ref_hat (t : Fin 16384) (k : Fin 1024) : val_main_v24 (F := Ideal) X M (ix2 t k) = hat (row X M t.val) k.val := by
  unfold hat
  pointwise [val_main_v24, val_main_v23]
  rw [ref_cen, ref_inv]

theorem ref_ct (t : Fin 16384) (k : Fin 1024) : val_main_v34 (F := Ideal) D H (ix2 t k) = ct D H t.val k.val := by
  unfold ct
  rw [at2_ix D, at2_ix H]
  pointwise [val_main_v34, val_main_v33, val_main_v32, val_main_v31, val_main_cst_7]
  first | done | rfl

theorem ref_dHat (t : Fin 16384) (k : Fin 1024) : val_main_v42 (F := Ideal) D H G (ix2 t k) = dHat D H G t.val k.val := by
  unfold dHat
  rw [at2_lt G (t := 0) (by omega) k.isLt]
  pointwise [val_main_v42, val_main_v41, val_main_v25, val_main_v4]
  rw [ref_ct]
  first | done | rfl

theorem ref_factor (t : Fin 16384) : val_main_v22 (F := Ideal) X M (ix2 t 0)
    = negHalf * Ideal.div (Ideal.rsqrt (var (row X M t.val))) (var (row X M t.val)) := by
  pointwise [val_main_v22, val_main_v21, val_main_v20, val_main_cst_6]
  rw [ref_var, ref_inv]

/-- The gradient at the centred row. -/
theorem ref_dCen (t : Fin 16384) (k : Fin 1024) :
    val_main_v57 (F := Ideal) X M D H G (ix2 t k) = dCen (row X M t.val) (dHat D H G t.val) k.val := by
  unfold dCen dVar
  pointwise [val_main_v57, val_main_v56, val_main_v55, val_main_v54, val_main_v53, val_main_v52, val_main_v51, val_main_v50,
    val_main_v49, val_main_v48, val_main_v47, val_main_v46, val_main_v45, val_main_v44, val_main_cst_14, val_main_cst_13,
    val_main_cst_12]
  have h0 : ∀ x : Fin 1, val_main_v22 (F := Ideal) X M (ix2 t x)
      = negHalf * Ideal.div (Ideal.rsqrt (var (row X M t.val))) (var (row X M t.val)) := fun x => by
    obtain rfl : x = 0 := Subsingleton.elim _ _
    exact ref_factor X M t
  simp only [ref_cen, ref_dHat, ref_inv, h0, Finset.univ_unique, Finset.sum_singleton]

/-- The gradient at the residual sum: where the arguments are real the chain rule gives the compact form. -/
theorem ref_d (hX : ∀ i, IsReal (X i)) (hM : ∀ i, IsReal (M i)) (hD : ∀ i, IsReal (D i)) (hH : ∀ i, IsReal (H i))
    (hG : ∀ i, IsReal (G i)) (t : Fin 16384) (k : Fin 1024) :
    val_main_v65 (F := Ideal) X M D H G (ix2 t k) = dR X M D H G t.val k.val := by
  unfold dR
  rw [← chain_eq (row X M t.val) (dHat D H G t.val) (fun j => (alpha_real.mul (at2_real hX _ _)).add (at2_real hM _ _))
    (fun j => ((alpha_real.mul (at2_real hD _ _)).add (at2_real hH _ _)).mul (at2_real hG _ _))]
  unfold chain
  pointwise [val_main_v65, val_main_v64, val_main_v63, val_main_v62, val_main_v61, val_main_v60, val_main_v59, val_main_v58,
    val_main_cst_17, val_main_cst_16, val_main_cst_15]
  simp only [ref_dCen, Finset.univ_unique, Finset.sum_singleton]

theorem ref_e (hX : ∀ i, IsReal (X i)) (hM : ∀ i, IsReal (M i)) (hD : ∀ i, IsReal (D i)) (hH : ∀ i, IsReal (H i))
    (hG : ∀ i, IsReal (G i)) (t : Fin 16384) (k : Fin 1024) :
    val_main_v66 (F := Ideal) X M D H G (ix2 t k) = dR X M D H G t.val k.val :=
  Eq.trans (by pointwise [val_main_v66]; first | done | rfl) (ref_d X M D H G hX hM hD hH hG t k)

theorem ref_g (r : Fin 8) (c : Fin 1024) : val_main_v70 (F := Ideal) X M D H (ix2 r c) = acc X M D H r.val c.val := by
  unfold acc term
  rw [Finset.sum_range]
  pointwise [val_main_v70, val_main_v69, val_main_v68, val_main_v67, val_main_v43, val_main_v40, val_main_v39, val_main_v38,
    val_main_v37, val_main_v36, val_main_v35, val_main_cst_18, val_main_cst_11, val_main_cst_10, val_main_cst_9, val_main_cst_8]
  by_cases h0 : r.val = 0
  · simp [h0, ref_hat, ref_ct, mul_comm]
  · by_cases h1 : r.val = 1
    · simp [h1, ref_ct]
    · have h2 : ¬r.val < 1 := by omega
      have h3 : ¬r.val - 1 < 1 := by omega
      simp [h0, h1, h2, h3]

end Cert.LnBwd
end
-- ==== Proof.LnBwd.Arrays.lean ====
module
public import proofs.«01_k».proof.Proof.LnBwd.Point
public import proofs.«01_k».proof.Proof.LnBwd.Ref

@[expose] public section

set_option maxRecDepth 16384

noncomputable section

/-! The kernel's result arrays, element by element. -/

namespace Cert.LnBwd

open Idealize.ShloMosaic Idealize.ShloMosaic.TcCoe Idealize.SL.Sem Cert.LnBwdIdeal Cert.LnBwdIdeal.Gen Cert.Lib
open Cert.FfnAct (at2 at2_ix at2_lt IsReal)
open Cert.Ln
open Idealize.ShloMosaic.Pipeline (Dat)

variable (m : (ℓ : Loc nD τ sig) → Buf (Elt Ideal) ℓ) (c : Dev nD)

/-! The arguments as the launch finds them. -/
abbrev arrX : S16384x1024.Idx → EReal := m ((c : Thread nD τ).loc main_arg0)
abbrev arrM : S16384x1024.Idx → EReal := m ((c : Thread nD τ).loc main_arg1)
abbrev arrD : S16384x1024.Idx → EReal := m ((c : Thread nD τ).loc main_arg2)
abbrev arrH : S16384x1024.Idx → EReal := m ((c : Thread nD τ).loc main_arg3)
abbrev arrG : S1x1024.Idx → EReal := m ((c : Thread nD τ).loc main_arg4)

/-- The normalised row, its inverse deviation and the gain as the launch finds them. -/
theorem V_hat : (V m c main_v19 : S16384x1024.Idx → EReal)
    = Cert.LnBwdRefIdeal.Read.val_main_v24 (F := Ideal) (arrX m c) (arrM m c) := by
  unfold_abbrev_sides
  after_results
  rfl

theorem V_inv : (V m c main_v17 : S16384x1.Idx → EReal)
    = Cert.LnBwdRefIdeal.Read.val_main_v19 (F := Ideal) (arrX m c) (arrM m c) := by
  unfold_abbrev_sides
  after_results
  rfl

theorem V_gain (k : Fin 1024) : (V m c main_v21 : S8x1024.Idx → EReal) (ix2 0 k) = arrG m c (ix2 0 k) := by
  unfold_abbrev_sides
  after_results
  pointwise []
  first | done | rfl

theorem hat_at (t k : ℕ) (ht : t < 16384) (hk : k < 1024) :
    at2 (m := 16384) (n := 1024) (V m c main_v19) t k = hat (row (arrX m c) (arrM m c) t) k := by
  rw [at2_lt (m := 16384) (n := 1024) _ ht hk, V_hat]
  exact ref_hat _ _ ⟨t, ht⟩ ⟨k, hk⟩

theorem inv_at (t : ℕ) (ht : t < 16384) :
    at2 (m := 16384) (n := 1) (V m c main_v17) t 0 = Ideal.rsqrt (var (row (arrX m c) (arrM m c) t)) := by
  rw [at2_lt (m := 16384) (n := 1) _ ht (by omega), V_inv]
  exact ref_inv _ _ ⟨t, ht⟩

theorem gain_at (k : ℕ) (h : k < 1024) : at2 (m := 8) (n := 1024) (V m c main_v21) 0 k = at2 (arrG m c) 0 k := by
  rw [at2_lt (m := 8) (n := 1024) _ (t := 0) (k := k) (by omega) h, at2_lt _ (t := 0) (k := k) (by omega) h]
  exact V_gain m c ⟨k, h⟩

/-! ## What each window's block holds at a point -/

theorem idx0 : ∀ t : Fin grid0.N, win0_0.index t 0 = t.val ∧ win0_0.index t 1 = 0 := by decide +kernel

theorem blk0_at (t : Fin cfg0.N) (r : Fin 512) (k : Fin 1024) :
    (iblk m c 0 t : S512x1024.Idx → EReal) (ix2 r k)
      = at2 (m := 16384) (n := 1024) (V m c main_arg2) (512 * t.val + r.val) (k.val) := by
  have hN : t.val < 32 := lt_of_lt_of_eq t.isLt N_0
  have hi := idx0 t
  rw [at2_lt (m := 16384) (n := 1024) _ (t := 512 * t.val + r.val) (k := k.val) (by omega) (by omega)]
  unfold iblk
  rw [View.read_apply]
  refine congrArg (V m c main_arg2) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem idx1 : ∀ t : Fin grid0.N, win0_1.index t 0 = t.val ∧ win0_1.index t 1 = 0 := by decide +kernel

theorem blk1_at (t : Fin cfg0.N) (r : Fin 512) (k : Fin 1024) :
    (iblk m c 1 t : S512x1024.Idx → EReal) (ix2 r k)
      = at2 (m := 16384) (n := 1024) (V m c main_arg3) (512 * t.val + r.val) (k.val) := by
  have hN : t.val < 32 := lt_of_lt_of_eq t.isLt N_0
  have hi := idx1 t
  rw [at2_lt (m := 16384) (n := 1024) _ (t := 512 * t.val + r.val) (k := k.val) (by omega) (by omega)]
  unfold iblk
  rw [View.read_apply]
  refine congrArg (V m c main_arg3) (funext fun a => Fin.ext ?_)
  match a with
  | ⟨0, _⟩ => show win0_1.index t 0 * 512 + 1 * r.val = 512 * t.val + r.val; rw [hi.1]; omega
  | ⟨1, _⟩ => show win0_1.index t 1 * 1024 + 1 * k.val = k.val; rw [hi.2]; omega

theorem idx2 : ∀ t : Fin grid0.N, win0_2.index t 0 = t.val ∧ win0_2.index t 1 = 0 := by decide +kernel

theorem blk2_at (t : Fin cfg0.N) (r : Fin 512) (k : Fin 1024) :
    (iblk m c 2 t : S512x1024.Idx → EReal) (ix2 r k)
      = at2 (m := 16384) (n := 1024) (V m c main_v19) (512 * t.val + r.val) (k.val) := by
  have hN : t.val < 32 := lt_of_lt_of_eq t.isLt N_0
  have hi := idx2 t
  rw [at2_lt (m := 16384) (n := 1024) _ (t := 512 * t.val + r.val) (k := k.val) (by omega) (by omega)]
  unfold iblk
  rw [View.read_apply]
  refine congrArg (V m c main_v19) (funext fun a => Fin.ext ?_)
  match a with
  | ⟨0, _⟩ => show win0_2.index t 0 * 512 + 1 * r.val = 512 * t.val + r.val; rw [hi.1]; omega
  | ⟨1, _⟩ => show win0_2.index t 1 * 1024 + 1 * k.val = k.val; rw [hi.2]; omega

theorem idx3 : ∀ t : Fin grid0.N, win0_3.index t 0 = t.val ∧ win0_3.index t 1 = 0 := by decide +kernel

theorem blk3_at (t : Fin cfg0.N) (r : Fin 512) (k : Fin 1) :
    (iblk m c 3 t : S512x1.Idx → EReal) (ix2 r k)
      = at2 (m := 16384) (n := 1) (V m c main_v17) (512 * t.val + r.val) (k.val) := by
  have hN : t.val < 32 := lt_of_lt_of_eq t.isLt N_0
  have hi := idx3 t
  rw [at2_lt (m := 16384) (n := 1) _ (t := 512 * t.val + r.val) (k := k.val) (by omega) (by omega)]
  unfold iblk
  rw [View.read_apply]
  refine congrArg (V m c main_v17) (funext fun a => Fin.ext ?_)
  match a with
  | ⟨0, _⟩ => show win0_3.index t 0 * 512 + 1 * r.val = 512 * t.val + r.val; rw [hi.1]; omega
  | ⟨1, _⟩ => show win0_3.index t 1 * 1 + 1 * k.val = k.val; rw [hi.2]; omega

theorem idx4 : ∀ t : Fin grid0.N, win0_4.index t 0 = 0 ∧ win0_4.index t 1 = 0 := by decide +kernel

theorem blk4_at (t : Fin cfg0.N) (r : Fin 8) (k : Fin 1024) :
    (iblk m c 4 t : S8x1024.Idx → EReal) (ix2 r k)
      = at2 (m := 8) (n := 1024) (V m c main_v21) (r.val) (k.val) := by
  have hN : t.val < 32 := lt_of_lt_of_eq t.isLt N_0
  have hi := idx4 t
  rw [at2_lt (m := 8) (n := 1024) _ (t := r.val) (k := k.val) (by omega) (by omega)]
  unfold iblk
  rw [View.read_apply]
  refine congrArg (V m c main_v21) (funext fun a => Fin.ext ?_)
  match a with
  | ⟨0, _⟩ => show win0_4.index t 0 * 8 + 1 * r.val = r.val; rw [hi.1]; omega
  | ⟨1, _⟩ => show win0_4.index t 1 * 1024 + 1 * k.val = k.val; rw [hi.2]; omega

theorem blocks (t : Fin cfg0.N) : Blocks (iblk m c 0 t) (iblk m c 1 t) (iblk m c 2 t) (iblk m c 3 t) (iblk m c 4 t)
    (arrX m c) (arrM m c) (arrD m c) (arrH m c) (arrG m c) t.val where
  h0 r k := (blk0_at m c t r k).trans (by rw [V_main_arg2])
  h1 r k := (blk1_at m c t r k).trans (by rw [V_main_arg3])
  h2 r k := (blk2_at m c t r k).trans (hat_at m c _ _ (by have := lt_of_lt_of_eq t.isLt N_0; omega) k.isLt)
  h3 r := (blk3_at m c t r 0).trans (inv_at m c _ (by have := lt_of_lt_of_eq t.isLt N_0; omega))
  h4 k := (blk4_at m c t 0 k).trans (gain_at m c _ k.isLt)

/-! ## The arrays -/

/-- After point `n` the packed gradients are the sums over the tokens seen so far. -/
theorem acc_after : ∀ (n : ℕ) (h : n < cfg0.N) (r : Fin 8) (k : Fin 1024),
    ((outsAt0 m c n h).2.2 : S8x1024.Idx → EReal) (ix2 r k)
      = ∑ t ∈ Finset.range (512 * (n + 1)), term (arrX m c) (arrM m c) (arrD m c) (arrH m c) r.val t k.val
  | 0, h, r, k => by
    rw [outsAt0_A m c ⟨0, h⟩ rfl]
    dsimp only
    rw [out_acc_A, acc_at (blocks m c ⟨0, h⟩), ← sum_block 512 _ 0]
    refine congrArg (· + _) ?_
    pointwise [k0_pay3]
    rfl
  | n + 1, h, r, k => by
    have hN : n + 1 < 32 := lt_of_lt_of_eq h N_0
    rw [outsAt0_B m c ⟨n + 1, h⟩ (by dsimp only; omega)]
    dsimp only
    rw [out_acc_B, acc_at (blocks m c ⟨n + 1, h⟩)]
    rw [← sum_block 512 _ (n + 1)]
    exact congrArg (· + _) (acc_after n _ r k)

/-! The gradient at the residual sum, and the packed gradients. -/
abbrev resD : S16384x1024.Idx → EReal := fun j => dR (arrX m c) (arrM m c) (arrD m c) (arrH m c) (arrG m c) (j 0).val (j 1).val
abbrev resG : S8x1024.Idx → EReal := fun j => acc (arrX m c) (arrM m c) (arrD m c) (arrH m c) (j 0).val (j 1).val

theorem out_d_at (t : Fin cfg0.N) (r : Fin 512) (k : Fin 1024) :
    ((outsAt0 m c t.val t.isLt).1 : S512x1024.Idx → EReal) (ix2 r k)
      = dR (arrX m c) (arrM m c) (arrD m c) (arrH m c) (arrG m c) (512 * t.val + r.val) k.val := by
  by_cases h0 : t.val % 32 = 0
  · rw [outsAt0_A m c t h0]
    dsimp only
    rw [out_d_A]
    exact d_at (blocks m c t) r k
  · rw [outsAt0_B m c t h0]
    dsimp only
    rw [out_d_B]
    exact d_at (blocks m c t) r k

theorem idx5 : ∀ t : Fin grid0.N, win0_5.index t 0 = t.val ∧ win0_5.index t 1 = 0 := by decide +kernel

theorem flushed_d (t : Fin cfg0.N) (_ : (cfg0.win 5).flush t = true) :
    (dats m 0 c).flushed 5 t = ((cfg0.win 5).blk t).view.read (Elt Ideal) (resD m c) := by
  rw [Value.flushed5]
  funext j
  rw [View.read_apply]
  obtain ⟨r, k, rfl⟩ := ix2_surj (m := 512) (n := 1024) j
  refine (out_d_at m c t r k).trans ?_
  have hi := idx5 t
  refine congrArg₂ (dR (arrX m c) (arrM m c) (arrD m c) (arrH m c) (arrG m c)) ?_ ?_
  · show _ = win0_5.index t 0 * 512 + 1 * r.val; rw [hi.1]; omega
  · show _ = win0_5.index t 1 * 1024 + 1 * k.val; rw [hi.2]; omega

/-- The gradient at the residual sum after the launch. -/
theorem final_d : (dats m 0 c).arrAt 5 cfg0.N = resD m c :=
  (dats m 0 c).arrAt_eq_of_cover 5 (resD m c) (flushed_d m c) fun i => by
    have h0 : (i 0 : Nat) < 16384 := (i 0).isLt
    have h1 : (i 1 : Nat) < 1024 := (i 1).isLt
    let t : Fin cfg0.N := ⟨(i 0).val / 512, lt_of_lt_of_eq (by omega : _ < 32) N_0.symm⟩
    have hi := idx5 t
    refine ⟨t, flush0_5 t, ?_⟩
    show i ∈ ((View.whole main_v22_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [hi.1]; dsimp only [t]; omega
    | ⟨1, _⟩ => show win0_5.index t 1 * 1024 ≤ (i 1 : Nat) ∧ (i 1 : Nat) < win0_5.index t 1 * 1024 + 1024
                rw [hi.2]; omega

theorem out_e_at (t : Fin cfg0.N) (r : Fin 512) (k : Fin 1024) :
    ((outsAt0 m c t.val t.isLt).2.1 : S512x1024.Idx → EReal) (ix2 r k)
      = dR (arrX m c) (arrM m c) (arrD m c) (arrH m c) (arrG m c) (512 * t.val + r.val) k.val := by
  by_cases h0 : t.val % 32 = 0
  · rw [outsAt0_A m c t h0]
    dsimp only
    rw [out_e_A]
    exact e_at (blocks m c t) r k
  · rw [outsAt0_B m c t h0]
    dsimp only
    rw [out_e_B]
    exact e_at (blocks m c t) r k

theorem idx6 : ∀ t : Fin grid0.N, win0_6.index t 0 = t.val ∧ win0_6.index t 1 = 0 := by decide +kernel

theorem flushed_e (t : Fin cfg0.N) (_ : (cfg0.win 6).flush t = true) :
    (dats m 0 c).flushed 6 t = ((cfg0.win 6).blk t).view.read (Elt Ideal) (resD m c) := by
  rw [Value.flushed6]
  funext j
  rw [View.read_apply]
  obtain ⟨r, k, rfl⟩ := ix2_surj (m := 512) (n := 1024) j
  refine (out_e_at m c t r k).trans ?_
  have hi := idx6 t
  refine congrArg₂ (dR (arrX m c) (arrM m c) (arrD m c) (arrH m c) (arrG m c)) ?_ ?_
  · show _ = win0_6.index t 0 * 512 + 1 * r.val; rw [hi.1]; omega
  · show _ = win0_6.index t 1 * 1024 + 1 * k.val; rw [hi.2]; omega

/-- The gradient at the residual sum after the launch, stored a second time. -/
theorem final_e : (dats m 0 c).arrAt 6 cfg0.N = resD m c :=
  (dats m 0 c).arrAt_eq_of_cover 6 (resD m c) (flushed_e m c) fun i => by
    have h0 : (i 0 : Nat) < 16384 := (i 0).isLt
    have h1 : (i 1 : Nat) < 1024 := (i 1).isLt
    let t : Fin cfg0.N := ⟨(i 0).val / 512, lt_of_lt_of_eq (by omega : _ < 32) N_0.symm⟩
    have hi := idx6 t
    refine ⟨t, flush0_6 t, ?_⟩
    show i ∈ ((View.whole main_v22_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [hi.1]; dsimp only [t]; omega
    | ⟨1, _⟩ => show win0_6.index t 1 * 1024 ≤ (i 1 : Nat) ∧ (i 1 : Nat) < win0_6.index t 1 * 1024 + 1024
                rw [hi.2]; omega

theorem out_g_at (t : Fin cfg0.N) (ht : t.val = 31) (r : Fin 8) (k : Fin 1024) :
    ((outsAt0 m c t.val t.isLt).2.2 : S8x1024.Idx → EReal) (ix2 r k) = acc (arrX m c) (arrM m c) (arrD m c) (arrH m c) r.val k.val := by
  rw [acc_after m c t.val t.isLt r k, ht, show 512 * (31 + 1) = 16384 from by norm_num]
  unfold acc
  rfl

section
attribute [local irreducible] acc
theorem idx7 : ∀ t : Fin grid0.N, win0_7.index t 0 = 0 ∧ win0_7.index t 1 = 0 := by decide +kernel

theorem flushed_g (t : Fin cfg0.N) (hf : (cfg0.win 7).flush t = true) :
    (dats m 0 c).flushed 7 t = ((cfg0.win 7).blk t).view.read (Elt Ideal) (resG m c) := by
  have hN : t.val < 32 := lt_of_lt_of_eq t.isLt N_0
  have ht : t.val = 31 := by have := (flush0_7 t).mp hf; omega
  rw [Value.flushed7]
  funext j
  rw [View.read_apply]
  obtain ⟨r, k, rfl⟩ := ix2_surj (m := 8) (n := 1024) j
  refine (out_g_at m c t ht r k).trans ?_
  have hi := idx7 t
  refine congrArg₂ (acc (arrX m c) (arrM m c) (arrD m c) (arrH m c)) ?_ ?_
  · show _ = win0_7.index t 0 * 8 + 1 * r.val; rw [hi.1]; omega
  · show _ = win0_7.index t 1 * 1024 + 1 * k.val; rw [hi.2]; omega

/-- The packed gradients after the launch. -/
theorem final_g : (dats m 0 c).arrAt 7 cfg0.N = resG m c :=
  (dats m 0 c).arrAt_eq_of_cover 7 (resG m c) (flushed_g m c) fun i => by
    have h0 : (i 0 : Nat) < 8 := (i 0).isLt
    have h1 : (i 1 : Nat) < 1024 := (i 1).isLt
    let t : Fin cfg0.N := ⟨31, lt_of_lt_of_eq (by omega : _ < 32) N_0.symm⟩
    have hi := idx7 t
    refine ⟨t, (flush0_7 t).mpr rfl, ?_⟩
    show i ∈ ((View.whole main_v22_2).slice (win0_7.rect t)).set
    rw [View.set_slice_whole, Rect.mem_set_unit]
    intro a
    match a with
    | ⟨0, _⟩ => show win0_7.index t 0 * 8 ≤ (i 0 : Nat) ∧ (i 0 : Nat) < win0_7.index t 0 * 8 + 8
                rw [hi.1]; omega
    | ⟨1, _⟩ => show win0_7.index t 1 * 1024 ≤ (i 1 : Nat) ∧ (i 1 : Nat) < win0_7.index t 1 * 1024 + 1024
                rw [hi.2]; omega
end

end Cert.LnBwd
end
-- ==== Proof.LnBwd.Pre.lean ====
module
public import proofs.«01_k».proof.Pre_ln1_bwd_finite
public import proofs.«01_k».proof.Proof.FfnAct.Pre

@[expose] public section

noncomputable section

/-! The precondition read back: where it holds, every element of the arguments is a real number. -/

namespace Cert.LnBwd

open Idealize.ShloMosaic Cert.Pre_ln1_bwd_finite Cert.FfnAct

/-- The shape relations that the precondition's function takes. -/
theorem preFacts : Cert.Pre_ln1_bwd_finite.Facts where
  bcast_S_S16384x1024 := by decide
  reducesTo_S16384x1024_S_d0_1 := by decide
  h_S_ := by decide
  bitsLt_bf16_f32 := by decide
  bcast_S_S1x1024 := by decide
  reducesTo_S1x1024_S_d0_1 := by decide

variable [Cert.Pre_ln1_bwd_finite.Facts]

theorem real_of_pre (x0 : FVec Ideal S16384x1024 .f32) (x1 : FVec Ideal S16384x1024 .bf16) (x2 : FVec Ideal S16384x1024 .f32) (x3 : FVec Ideal S16384x1024 .bf16) (x4 : FVec Ideal S1x1024 .f32)
    (e : Cert.Pre_ln1_bwd_finite.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e := congrFun e (fun a => nomatch a)
  haveI : Subsingleton S_.Idx := ⟨fun a b => funext fun i => nomatch i⟩
  unfold Cert.Pre_ln1_bwd_finite.fn Cert.Pre_ln1_bwd_finite.fn_part1 at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => Cert.FfnAct.real_of_lt _ _ i (Host.reduce_andi_all _ _ _ _ _ e0 i), fun i => Cert.FfnAct.real_of_lt _ _ i (Host.reduce_andi_all _ _ _ _ _ e1 i), fun i => Cert.FfnAct.real_of_lt _ _ i (Host.reduce_andi_all _ _ _ _ _ e2 i), fun i => Cert.FfnAct.real_of_lt _ _ i (Host.reduce_andi_all _ _ _ _ _ e3 i), fun i => Cert.FfnAct.real_of_lt _ _ i (Host.reduce_andi_all _ _ _ _ _ e4 i)⟩

end Cert.LnBwd
end
-- ==== Proof.LnBwd.Main.lean ====
module
public import proofs.«01_k».proof.Proof.LnBwd.Arrays
public import proofs.«01_k».proof.Proof.LnBwd.Pre
public import proofs.«01_k».proof.Proof.Gen.LnBwdRefIdeal.Run
public import proofs.«01_k».proof.Defs
public import Idealize.ShloMosaic.Lib.Quiescent

@[expose] public section

set_option maxRecDepth 16384

noncomputable section

/-! The claims about the gradient of the first layer normalisation. -/

namespace Cert.LnBwd

open Idealize.ShloMosaic Idealize.ShloMosaic.TcCoe Idealize.SL.Sem Cert.Lib

/-- The reference runs, leaves its arguments and ends with every counter at zero: it has no semaphores. -/
theorem referenceFrame : Cert.quiescent_LnBwdRefIdeal (hLnBwdRefIdeal := Cert.LnBwdRefIdeal.Gen.facts) :=
  fun m ρ _ => (θ_run Cert.LnBwdRefIdeal.defs _ _).mono (fun r h => And.intro (fun c => (h c).2.2.2)
      (Idealize.ShloMosaic.sem_eq_zero_of_no_sems (by decide) r.2))
    (Cert.LnBwdRefIdeal.Value.run (F := Ideal) m ρ)

/-- The kernel's three results are the reference's: the gradient at the residual sum in both formats, and the packed
    gradients. -/
theorem values : letI := preFacts
    Cert.algebraic_LnBwdIdeal_LnBwdRefIdeal_pre_ln1_bwd_finite (hLnBwdIdeal := Cert.LnBwdIdeal.Gen.facts) (hLnBwdRefIdeal := Cert.LnBwdRefIdeal.Gen.facts) := by
  letI := preFacts
  intro m g m' g' hpre hargs
  refine ⟨fun c => resD m c, fun c => resD m c, fun c => resG m c, ?_, ?_⟩
  · refine (θ_run Cert.LnBwdIdeal.defs _ _).mono (fun r h c => ?_) (Cert.LnBwdIdeal.Value.run_blocks m g)
    obtain ⟨h0, h1, h2, h3⟩ := h c
    exact ⟨h0.trans (final_d m c), h1.trans (final_e m c), h2.trans (final_g m c), h3⟩
  · refine (θ_run Cert.LnBwdRefIdeal.defs _ _).mono (fun r h c => ?_) (Cert.LnBwdRefIdeal.Value.run m' g')
    obtain ⟨h0, h1, h2, h3⟩ := h c
    obtain ⟨a0, a1, a2, a3, a4⟩ := hargs c
    obtain ⟨p0, p1, p2, p3, p4⟩ := real_of_pre _ _ _ _ _ (hpre c)
    refine ⟨h0.trans ?_, h1.trans ?_, h2.trans ?_, h3⟩
    · rw [Cert.LnBwdRefIdeal.Read.val_main_v65_eq, a0, a1, a2, a3, a4]
      funext j
      obtain ⟨t, k, rfl⟩ := ix2_surj (m := 16384) (n := 1024) j
      exact ref_d _ _ _ _ _ p0 p1 p2 p3 p4 t k
    · rw [Cert.LnBwdRefIdeal.Read.val_main_v66_eq, a0, a1, a2, a3, a4]
      funext j
      obtain ⟨t, k, rfl⟩ := ix2_surj (m := 16384) (n := 1024) j
      exact ref_e _ _ _ _ _ p0 p1 p2 p3 p4 t k
    · rw [Cert.LnBwdRefIdeal.Read.val_main_v70_eq, a0, a1, a2, a3]
      funext j
      obtain ⟨t, k, rfl⟩ := ix2_surj (m := 8) (n := 1024) j
      exact ref_g _ _ _ _ t k

end Cert.LnBwd
end
-- ==== Proof.LnLoss.Pieces.lean ====
module
public import proofs.«01_k».proof.Proof.Gen.LnLossIdeal.Value
public import proofs.«01_k».proof.Proof.Lib.Places

@[expose] public section

set_option maxRecDepth 16384

noncomputable section

/-! What one grid point leaves in the output blocks, over the blocks it read. -/

namespace Cert.LnLoss

open Idealize.ShloMosaic Idealize.ShloMosaic.TcCoe Idealize.SL.Sem Cert.LnLossIdeal Cert.LnLossIdeal.Gen Cert.Lib

/-- The first row of a block of eight. -/
abbrev top : Rect S8x1024 := Rect.unit ![0, 0] ![1, 1024] inb_S8x1024_S1x1024_0_0
/-- A whole block of 512 rows. -/
abbrev all512 : Rect S512x1024 := Rect.unit ![0, 0] ![512, 1024] inb_S512x1024_S512x1024_0_0

/-- A load of a whole block gives the block. -/
theorem ld_all {t : EltTy} (x : Vec Ideal S512x1024 t) : View.ld x all512 = x := by
  rw [View.ld_unit_zero (S := S512x1024) (funext fun a => by fin_cases a <;> rfl)]

variable (i : grid0.Coords) (x0 : Vec Ideal S512x1024 .f32) (x1 : Vec Ideal S512x1024 .bf16) (x2 : Vec Ideal S512x1024 .f32) (x3 : Vec Ideal S8x1024 .f32) (x4 : Vec Ideal S8x1024 .f32) (x5 : Vec Ideal S8x1024 .f32) (x6 : Vec Ideal S8x1024 .f32)

/-- The row stores into the packed gradients, the last one first, over the contents `xo` of the block. -/
def accPieces (xo : Vec Ideal S8x1024 .f32) : List (View.Piece (Elt Ideal) S8x1024 .f32) :=
  [⟨Rect.unit ![2, 0] ![1, 1024] inb_S8x1024_S1x1024_2_0,
      k0_pay12 (k0_pay7 (View.ld x0 all512) (View.ld x3 top) (View.ld x4 top) (View.ld x1 all512) (View.ld x5 top)) (View.ld x6 top) (View.ld x2 all512)
        (View.ld xo (Rect.unit ![2, 0] ![1, 1024] inb_S8x1024_S1x1024_2_0))⟩,
    ⟨Rect.unit ![1, 0] ![1, 1024] inb_S8x1024_S1x1024_1_0,
      k0_pay11 (k0_pay7 (View.ld x0 all512) (View.ld x3 top) (View.ld x4 top) (View.ld x1 all512) (View.ld x5 top)) (View.ld x6 top) (View.ld x2 all512)
        (View.ld xo (Rect.unit ![1, 0] ![1, 1024] inb_S8x1024_S1x1024_1_0))⟩,
    ⟨Rect.unit ![0, 0] ![1, 1024] inb_S8x1024_S1x1024_0_0,
      k0_pay10 (k0_pay6 (View.ld x0 all512) (View.ld x3 top) (View.ld x4 top) (View.ld x1 all512)) (k0_pay7 (View.ld x0 all512) (View.ld x3 top) (View.ld x4 top) (View.ld x1 all512) (View.ld x5 top)) (View.ld x6 top) (View.ld x2 all512)
        (View.ld xo (Rect.unit ![0, 0] ![1, 1024] inb_S8x1024_S1x1024_0_0))⟩]

variable (c : Dev nD) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole)

theorem out_d_A (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 x6 = k0_pay1 (k0_pay5 (View.ld x0 all512) (View.ld x3 top) (View.ld x4 top) (View.ld x1 all512)) (k0_pay6 (View.ld x0 all512) (View.ld x3 top) (View.ld x4 top) (View.ld x1 all512))
      (k0_pay13 (k0_pay7 (View.ld x0 all512) (View.ld x3 top) (View.ld x4 top) (View.ld x1 all512) (View.ld x5 top)) (View.ld x6 top) (View.ld x2 all512) (View.ld x5 top))
      (k0_pay14 (k0_pay7 (View.ld x0 all512) (View.ld x3 top) (View.ld x4 top) (View.ld x1 all512) (View.ld x5 top)) (View.ld x6 top) (View.ld x2 all512) (View.ld x5 top)) := by
  unfold out0_A_7
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]

theorem out_d_B (hc0 : ¬cond0_0 i) (xo : Vec Ideal S8x1024 .f32) :
    out0_B_7 c i arg1 harg1 arg2 harg2 arg3 harg3 arg4 harg4 arg5 harg5 arg6 harg6 arg7 harg7 arg8 harg8 arg9 harg9 arg10 harg10 hc0 x0 x1 x2 x3 x4 x5 x6 xo = k0_pay1 (k0_pay5 (View.ld x0 all512) (View.ld x3 top) (View.ld x4 top) (View.ld x1 all512)) (k0_pay6 (View.ld x0 all512) (View.ld x3 top) (View.ld x4 top) (View.ld x1 all512))
      (k0_pay13 (k0_pay7 (View.ld x0 all512) (View.ld x3 top) (View.ld x4 top) (View.ld x1 all512) (View.ld x5 top)) (View.ld x6 top) (View.ld x2 all512) (View.ld x5 top))
      (k0_pay14 (k0_pay7 (View.ld x0 all512) (View.ld x3 top) (View.ld x4 top) (View.ld x1 all512) (View.ld x5 top)) (View.ld x6 top) (View.ld x2 all512) (View.ld x5 top)) := by
  unfold out0_B_7
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]

theorem out_e_A (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 x6 = k0_pay2 (k0_pay5 (View.ld x0 all512) (View.ld x3 top) (View.ld x4 top) (View.ld x1 all512)) (k0_pay6 (View.ld x0 all512) (View.ld x3 top) (View.ld x4 top) (View.ld x1 all512))
      (k0_pay13 (k0_pay7 (View.ld x0 all512) (View.ld x3 top) (View.ld x4 top) (View.ld x1 all512) (View.ld x5 top)) (View.ld x6 top) (View.ld x2 all512) (View.ld x5 top))
      (k0_pay14 (k0_pay7 (View.ld x0 all512) (View.ld x3 top) (View.ld x4 top) (View.ld x1 all512) (View.ld x5 top)) (View.ld x6 top) (View.ld x2 all512) (View.ld x5 top)) := by
  unfold out0_A_8
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]

theorem out_e_B (hc0 : ¬cond0_0 i) (xo : Vec Ideal S8x1024 .f32) :
    out0_B_8 c i arg1 harg1 arg2 harg2 arg3 harg3 arg4 harg4 arg5 harg5 arg6 harg6 arg7 harg7 arg8 harg8 arg9 harg9 arg10 harg10 hc0 x0 x1 x2 x3 x4 x5 x6 xo = k0_pay2 (k0_pay5 (View.ld x0 all512) (View.ld x3 top) (View.ld x4 top) (View.ld x1 all512)) (k0_pay6 (View.ld x0 all512) (View.ld x3 top) (View.ld x4 top) (View.ld x1 all512))
      (k0_pay13 (k0_pay7 (View.ld x0 all512) (View.ld x3 top) (View.ld x4 top) (View.ld x1 all512) (View.ld x5 top)) (View.ld x6 top) (View.ld x2 all512) (View.ld x5 top))
      (k0_pay14 (k0_pay7 (View.ld x0 all512) (View.ld x3 top) (View.ld x4 top) (View.ld x1 all512) (View.ld x5 top)) (View.ld x6 top) (View.ld x2 all512) (View.ld x5 top)) := by
  unfold out0_B_8
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]

/-- At a later point the accumulator is the row stores over what it held. -/
theorem out_acc_B (hc0 : ¬cond0_0 i) (xo : Vec Ideal S8x1024 .f32) :
    out0_B_9 c i arg1 harg1 arg2 harg2 arg3 harg3 arg4 harg4 arg5 harg5 arg6 harg6 arg7 harg7 arg8 harg8 arg9 harg9 arg10 harg10 hc0 x0 x1 x2 x3 x4 x5 x6 xo = View.canon (accPieces x0 x1 x2 x3 x4 x5 x6 xo
        ++ [⟨Rect.unit ![0, 0] S8x1024.size inb_S8x1024_S8x1024_0_0, xo⟩]) := by
  rw [← read_over arg10 harg10 _ xo inb_S8x1024_S8x1024_0_0 (funext fun a => by fin_cases a <;> rfl)]
  unfold out0_B_9
  unfold kernelRun0_B
  dsimp only
  sl_unfold_run_names
  simp only [View.readAt_eq_ld, Memref.IsWhole.read_unread]
  rfl

/-- At the first point it is the row stores over zeros. -/
theorem out_acc_A (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5 x6 = View.canon (accPieces x0 x1 x2 x3 x4 x5 x6 (k0_pay3 (F := Ideal))
        ++ [⟨Rect.unit ![0, 0] S8x1024.size inb_S8x1024_S8x1024_0_0, k0_pay3 (F := Ideal)⟩]) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp (disch := decide) only [View.readAt_eq_ld, Memref.IsWhole.read_unread, View.readCov_skip, View.readCov_fill]
  rfl

end Cert.LnLoss
end
-- ==== Proof.LnLoss.Spec.lean ====
module
public import proofs.«01_k».proof.Proof.Ln.Real

@[expose] public section

noncomputable section

/-! The loss's gradient through the second layer normalisation, as functions of array elements over the extended reals. Rows
and columns are natural numbers: `X` is the first normalised array with its gain `A` and offset `B`, `F` the feed-forward
branch, `T` the target, and `G`, `O` are the second gain and offset. Nothing here mentions a program. -/

namespace Cert.LnLoss

open Idealize.ShloMosaic
open Cert.FfnAct (at2 at2_ix at2_lt IsReal)
open Cert.Ln

variable (X : (⟨2, ![16384, 1024]⟩ : Shape).Idx → EReal) (F : (⟨2, ![16384, 1024]⟩ : Shape).Idx → EReal) (T : (⟨2, ![16384, 1024]⟩ : Shape).Idx → EReal) (A : (⟨2, ![1, 1024]⟩ : Shape).Idx → EReal) (B : (⟨2, ![1, 1024]⟩ : Shape).Idx → EReal) (G : (⟨2, ![1, 1024]⟩ : Shape).Idx → EReal) (O : (⟨2, ![1, 1024]⟩ : Shape).Idx → EReal)

/-- The factor that the loss's gradient has: twice a half over the row's length. -/
abbrev scale : EReal := Ideal.ofBits .f32 0x3A800000#32

/-- The residual sum that is normalised. -/
def row (t j : ℕ) : EReal := alpha * (at2 X t j * at2 A 0 j + at2 B 0 j) + at2 F t j
/-- The result less the target. -/
def diff (t k : ℕ) : EReal := hat (row X F A B t) k * at2 G 0 k + at2 O 0 k - at2 T t k
/-- The gradient at the result. -/
def ct (t k : ℕ) : EReal := diff X F T A B G O t k * scale
/-- The gradient at the normalised row. -/
def dHat (t k : ℕ) : EReal := ct X F T A B G O t k * at2 G 0 k
/-- The gradient at the residual sum. -/
def dR (t k : ℕ) : EReal :=
  grad (hat (row X F A B t)) (dHat X F T A B G O t) (Ideal.rsqrt (var (row X F A B t))) k

/-- Row `r` of the packed sums gets this from token `t`: row 0 is the gain's gradient, row 1 the offset's, row 2 the
    squared error. -/
def term (r t c : ℕ) : EReal :=
  if r = 0 then ct X F T A B G O t c * hat (row X F A B t) c else if r = 1 then ct X F T A B G O t c
  else if r = 2 then diff X F T A B G O t c * diff X F T A B G O t c else 0

/-- The packed gradients over all tokens. -/
def acc (r c : ℕ) : EReal := ∑ t ∈ Finset.range 16384, term X F T A B G O r t c

end Cert.LnLoss
end
-- ==== Proof.LnLoss.Point.lean ====
module
public import proofs.«01_k».proof.Proof.LnLoss.Pieces
public import proofs.«01_k».proof.Proof.LnLoss.Spec

@[expose] public section

set_option maxRecDepth 16384

noncomputable section

/-! What one grid point leaves, element by element: the gradient at the residual sum on its 512 rows, and those rows' share of
the gradients of the gain and the offset and of the squared error. -/

namespace Cert.LnLoss

open Idealize.ShloMosaic Idealize.ShloMosaic.TcCoe Idealize.SL.Sem Cert.LnLossIdeal Cert.LnLossIdeal.Gen Cert.Lib
open Cert.FfnAct (at2 at2_ix at2_lt IsReal)
open Cert.Ln

variable (x : Vec Ideal S512x1024 .f32) (f : Vec Ideal S512x1024 .bf16) (y : Vec Ideal S512x1024 .f32)
  (a b g p o : FVec Ideal S1x1024 .f32)

/-- One block's rows, elements and differences, before the blocks are known. -/
def bRow (r : Fin 512) (k : Fin 1024) : EReal := alpha * (x (ix2 r k) * a (ix2 0 k) + b (ix2 0 k)) + f (ix2 r k)
def bCen (r : Fin 512) (k : Fin 1024) : EReal := bRow x f a b r k - Ideal.div (∑ j : Fin 1024, bRow x f a b r j) len
def bInv (r : Fin 512) : EReal := Ideal.rsqrt (Ideal.div (∑ j : Fin 1024, bCen x f a b r j * bCen x f a b r j) len + eps)
def bDiff (r : Fin 512) (k : Fin 1024) : EReal :=
  bCen x f a b r k * bInv x f a b r * g (ix2 0 k) + p (ix2 0 k) - y (ix2 r k)

theorem pay4_at (r : Fin 512) (k : Fin 1024) : k0_pay4 (F := Ideal) x a b f (ix2 r k) = bCen x f a b r k := by
  unfold bCen bRow
  pointwise [k0_pay4]
  first | done | rfl

theorem pay5_at (r : Fin 512) : k0_pay5 (F := Ideal) x a b f (ix2 r 0) = bInv x f a b r := by
  unfold bInv
  pointwise [k0_pay5]
  simp only [pay4_at]
  first | done | rfl

theorem pay6_at (r : Fin 512) (k : Fin 1024) : k0_pay6 (F := Ideal) x a b f (ix2 r k) = bCen x f a b r k * bInv x f a b r := by
  pointwise [k0_pay6]
  rw [pay4_at, pay5_at]

theorem pay8_at (r : Fin 512) (k : Fin 1024) : k0_pay8 (F := Ideal) (k0_pay7 x a b f g) p y (ix2 r k) = bDiff x f y a b g p r k := by
  unfold bDiff
  pointwise [k0_pay8, k0_pay7]
  rw [pay6_at]

theorem pay9_at (r : Fin 512) (k : Fin 1024) :
    k0_pay9 (F := Ideal) (k0_pay7 x a b f g) p y (ix2 r k) = bDiff x f y a b g p r k * scale := by
  pointwise [k0_pay9]
  rw [pay8_at]

theorem pay13_at (r : Fin 512) (k : Fin 1024) :
    k0_pay13 (F := Ideal) (k0_pay7 x a b f g) p y g (ix2 r k) = bDiff x f y a b g p r k * scale * g (ix2 0 k) := by
  pointwise [k0_pay13]
  rw [pay9_at]

theorem pay14_at (r : Fin 512) : k0_pay14 (F := Ideal) (k0_pay7 x a b f g) p y g (ix2 r 0)
    = Ideal.div (∑ k : Fin 1024, bDiff x f y a b g p r k * scale * g (ix2 0 k)) len := by
  pointwise [k0_pay14]
  simp only [pay13_at]

theorem pay10_at (k : Fin 1024) : k0_pay10 (F := Ideal) (k0_pay6 x a b f) (k0_pay7 x a b f g) p y o (ix2 0 k) = o (ix2 0 k)
    + ∑ s : Fin 512, bDiff x f y a b g p s k * scale * (bCen x f a b s k * bInv x f a b s) := by
  pointwise [k0_pay10]
  simp only [pay9_at, pay6_at]

theorem pay11_at (k : Fin 1024) : k0_pay11 (F := Ideal) (k0_pay7 x a b f g) p y o (ix2 0 k) = o (ix2 0 k)
    + ∑ s : Fin 512, bDiff x f y a b g p s k * scale := by
  pointwise [k0_pay11]
  simp only [pay9_at]

theorem pay12_at (k : Fin 1024) : k0_pay12 (F := Ideal) (k0_pay7 x a b f g) p y o (ix2 0 k) = o (ix2 0 k)
    + ∑ s : Fin 512, bDiff x f y a b g p s k * bDiff x f y a b g p s k := by
  pointwise [k0_pay12]
  simp only [pay8_at]

/-- The element of the gradient, before the blocks are known. -/
def body (r : Fin 512) (k : Fin 1024) : EReal :=
  bInv x f a b r * (bDiff x f y a b g p r k * scale * g (ix2 0 k)
    - Ideal.div (∑ k : Fin 1024, bDiff x f y a b g p r k * scale * g (ix2 0 k)) len
    - bCen x f a b r k * bInv x f a b r
      * Ideal.div (∑ k : Fin 1024, bDiff x f y a b g p r k * scale * g (ix2 0 k) * (bCen x f a b r k * bInv x f a b r)) len)

theorem pay1_at (r : Fin 512) (k : Fin 1024) :
    k0_pay1 (F := Ideal) (k0_pay5 x a b f) (k0_pay6 x a b f)
      (k0_pay13 (k0_pay7 x a b f g) p y g)
      (k0_pay14 (k0_pay7 x a b f g) p y g) (ix2 r k) = body x f y a b g p r k := by
  unfold body
  pointwise [k0_pay1]
  simp only [pay5_at, pay6_at, pay13_at, pay14_at]

theorem pay2_at (r : Fin 512) (k : Fin 1024) :
    k0_pay2 (F := Ideal) (k0_pay5 x a b f) (k0_pay6 x a b f)
      (k0_pay13 (k0_pay7 x a b f g) p y g)
      (k0_pay14 (k0_pay7 x a b f g) p y g) (ix2 r k) = body x f y a b g p r k :=
  Eq.trans (by pointwise [k0_pay2]; first | done | rfl) (pay1_at x f y a b g p r k)

section point
variable (x0 : Vec Ideal S512x1024 .f32) (x1 : Vec Ideal S512x1024 .bf16) (x2 : Vec Ideal S512x1024 .f32) (x3 : Vec Ideal S8x1024 .f32) (x4 : Vec Ideal S8x1024 .f32) (x5 : Vec Ideal S8x1024 .f32) (x6 : Vec Ideal S8x1024 .f32)
  (X : S16384x1024.Idx → EReal) (F : S16384x1024.Idx → EReal) (T : S16384x1024.Idx → EReal) (A : S1x1024.Idx → EReal) (B : S1x1024.Idx → EReal) (G : S1x1024.Idx → EReal) (O : S1x1024.Idx → EReal) (t : ℕ)

/-- The input blocks at point `t` are rows `512 t …` of the arrays. -/
structure Blocks : Prop where
  h0 : ∀ (r : Fin 512) (k : Fin 1024), x0 (ix2 r k) = at2 X (512 * t + r.val) k.val
  h1 : ∀ (r : Fin 512) (k : Fin 1024), x1 (ix2 r k) = at2 F (512 * t + r.val) k.val
  h2 : ∀ (r : Fin 512) (k : Fin 1024), x2 (ix2 r k) = at2 T (512 * t + r.val) k.val
  h3 : ∀ k : Fin 1024, x3 (ix2 (0 : Fin 8) k) = at2 A 0 k.val
  h4 : ∀ k : Fin 1024, x4 (ix2 (0 : Fin 8) k) = at2 B 0 k.val
  h5 : ∀ k : Fin 1024, x5 (ix2 (0 : Fin 8) k) = at2 G 0 k.val
  h6 : ∀ k : Fin 1024, x6 (ix2 (0 : Fin 8) k) = at2 O 0 k.val

variable {x0 x1 x2 x3 x4 x5 x6 X F T A B G O t}
variable (hB : Blocks x0 x1 x2 x3 x4 x5 x6 X F T A B G O t)
include hB

theorem row_at (r : Fin 512) (k : Fin 1024) : bRow x0 x1 (View.ld x3 top) (View.ld x4 top) r k = row X F A B (512 * t + r.val) k.val := by
  unfold bRow row
  rw [ld_at _ x3 0 k 0 k rfl (by omega), ld_at _ x4 0 k 0 k rfl (by omega), hB.h0, hB.h1, hB.h3, hB.h4]

theorem cen_at (r : Fin 512) (k : Fin 1024) :
    bCen x0 x1 (View.ld x3 top) (View.ld x4 top) r k = cen (row X F A B (512 * t + r.val)) k.val := by
  unfold bCen cen mean
  simp only [row_at hB]

theorem inv_at (r : Fin 512) :
    bInv x0 x1 (View.ld x3 top) (View.ld x4 top) r = Ideal.rsqrt (var (row X F A B (512 * t + r.val))) := by
  unfold bInv var mean
  simp only [cen_at hB]

theorem diff_at (r : Fin 512) (k : Fin 1024) :
    bDiff x0 x1 x2 (View.ld x3 top) (View.ld x4 top) (View.ld x5 top) (View.ld x6 top) r k
      = diff X F T A B G O (512 * t + r.val) k.val := by
  unfold bDiff diff hat
  rw [cen_at hB, inv_at hB, ld_at _ x5 0 k 0 k rfl (by omega), ld_at _ x6 0 k 0 k rfl (by omega), hB.h2, hB.h5, hB.h6]

theorem body_at (r : Fin 512) (k : Fin 1024) :
    body x0 x1 x2 (View.ld x3 top) (View.ld x4 top) (View.ld x5 top) (View.ld x6 top) r k
      = dR X F T A B G O (512 * t + r.val) k.val := by
  have hg : ∀ k : Fin 1024, View.ld x5 top (ix2 (0 : Fin 1) k) = at2 G 0 k.val := fun k => by
    rw [ld_at _ x5 0 k 0 k rfl (by omega), hB.h5]
  unfold body dR grad mean dHat ct hat
  simp only [cen_at hB, inv_at hB, diff_at hB, hg]

theorem d_at (r : Fin 512) (k : Fin 1024) :
    k0_pay1 (k0_pay5 (View.ld x0 all512) (View.ld x3 top) (View.ld x4 top) (View.ld x1 all512)) (k0_pay6 (View.ld x0 all512) (View.ld x3 top) (View.ld x4 top) (View.ld x1 all512))
      (k0_pay13 (k0_pay7 (View.ld x0 all512) (View.ld x3 top) (View.ld x4 top) (View.ld x1 all512) (View.ld x5 top)) (View.ld x6 top) (View.ld x2 all512) (View.ld x5 top))
      (k0_pay14 (k0_pay7 (View.ld x0 all512) (View.ld x3 top) (View.ld x4 top) (View.ld x1 all512) (View.ld x5 top)) (View.ld x6 top) (View.ld x2 all512) (View.ld x5 top)) (ix2 r k) = dR X F T A B G O (512 * t + r.val) k.val := by
  simp only [ld_all]
  rw [pay1_at]
  exact body_at hB r k

theorem e_at (r : Fin 512) (k : Fin 1024) :
    k0_pay2 (k0_pay5 (View.ld x0 all512) (View.ld x3 top) (View.ld x4 top) (View.ld x1 all512)) (k0_pay6 (View.ld x0 all512) (View.ld x3 top) (View.ld x4 top) (View.ld x1 all512))
      (k0_pay13 (k0_pay7 (View.ld x0 all512) (View.ld x3 top) (View.ld x4 top) (View.ld x1 all512) (View.ld x5 top)) (View.ld x6 top) (View.ld x2 all512) (View.ld x5 top))
      (k0_pay14 (k0_pay7 (View.ld x0 all512) (View.ld x3 top) (View.ld x4 top) (View.ld x1 all512) (View.ld x5 top)) (View.ld x6 top) (View.ld x2 all512) (View.ld x5 top)) (ix2 r k) = dR X F T A B G O (512 * t + r.val) k.val := by
  simp only [ld_all]
  rw [pay2_at]
  exact body_at hB r k

/-- The accumulator after the point: what it held and the point's rows' share. -/
theorem acc_at (xo : Vec Ideal S8x1024 .f32) (r : Fin 8) (c : Fin 1024) :
    View.canon (accPieces x0 x1 x2 x3 x4 x5 x6 xo ++ [⟨Rect.unit ![0, 0] S8x1024.size inb_S8x1024_S8x1024_0_0, xo⟩]) (ix2 r c)
      = xo (ix2 r c) + ∑ s : Fin 512, term X F T A B G O r.val (512 * t + s.val) c.val := by
  unfold accPieces term
  simp only [List.cons_append, List.nil_append, ld_all]
  by_cases h0 : r.val = 0
  · obtain rfl : r = 0 := Fin.ext h0
    simp only [h0, if_true]
    rw [canon_miss _ _ _ _ _ (by omega), canon_miss _ _ _ _ _ (by omega), canon_hit _ _ _ 0 c 0 c rfl (by omega), pay10_at,
      ld_at _ xo 0 c 0 c rfl (by omega)]
    refine congrArg _ (Finset.sum_congr rfl fun s _ => ?_)
    rw [cen_at hB, inv_at hB, diff_at hB]
    rfl
  · by_cases h1 : r.val = 1
    · obtain rfl : r = 1 := Fin.ext h1
      simp only [if_neg h0, if_pos h1]
      rw [canon_miss _ _ _ _ _ (by omega), canon_hit _ _ _ 0 c 1 c rfl (by omega), pay11_at, ld_at _ xo 0 c 1 c rfl (by omega)]
      refine congrArg _ (Finset.sum_congr rfl fun s _ => ?_)
      rw [diff_at hB]
      rfl
    · by_cases h2 : r.val = 2
      · obtain rfl : r = 2 := Fin.ext h2
        simp only [if_neg h0, if_neg h1, if_pos h2]
        rw [canon_hit _ _ _ 0 c 2 c rfl (by omega), pay12_at, ld_at _ xo 0 c 2 c rfl (by omega)]
        refine congrArg _ (Finset.sum_congr rfl fun s _ => ?_)
        rw [diff_at hB]
      · rw [canon_miss _ _ _ _ _ (by omega), canon_miss _ _ _ _ _ (by omega), canon_miss _ _ _ _ _ (by omega),
          canon_hit _ _ _ r c r c (by omega) (by omega)]
        simp only [if_neg h0, if_neg h1, if_neg h2, Finset.sum_const_zero, add_zero]

end point
end Cert.LnLoss
end
-- ==== Proof.LnLoss.Ref.lean ====
module
public import proofs.«01_k».proof.Proof.Gen.LnLossRefIdeal.Read
public import proofs.«01_k».proof.Proof.LnLoss.Spec
public import proofs.«01_k».proof.Proof.Lib.Places

@[expose] public section

set_option maxRecDepth 16384

noncomputable section

/-! The reference's results, element by element. -/

namespace Cert.LnLoss

open Idealize.ShloMosaic Idealize.SL.Sem Cert.LnLossRefIdeal Cert.LnLossRefIdeal.Gen Cert.LnLossRefIdeal.Read Cert.Lib
open Cert.FfnAct (at2 at2_ix at2_lt IsReal)
open Cert.Ln

variable (X : FVec Ideal S16384x1024 .f32) (F : FVec Ideal S16384x1024 .bf16) (T : FVec Ideal S16384x1024 .f32) (A : FVec Ideal S1x1024 .f32) (B : FVec Ideal S1x1024 .f32) (G : FVec Ideal S1x1024 .f32) (O : FVec Ideal S1x1024 .f32)

theorem ref_row (t : Fin 16384) (k : Fin 1024) : val_main_v7 (F := Ideal) X F A B (ix2 t k) = row X F A B t.val k.val := by
  unfold row
  rw [at2_ix X, at2_ix F, at2_lt A (t := 0) (by omega) k.isLt, at2_lt B (t := 0) (by omega) k.isLt]
  pointwise [val_main_v7, val_main_v6, val_main_v5, val_main_v4, val_main_v3, val_main_v2, val_main_v1, val_main_v0, val_main_cst]
  first | done | rfl

theorem ref_cen (t : Fin 16384) (k : Fin 1024) : val_main_v15 (F := Ideal) X F A B (ix2 t k) = cen (row X F A B t.val) k.val := by
  unfold cen mean
  pointwise [val_main_v15, val_main_v14, val_main_v13, val_main_v12, val_main_v11, val_main_v10, val_main_cst_1, val_main_cst_0]
  simp only [ref_row]

theorem ref_var (t : Fin 16384) : val_main_v22 (F := Ideal) X F A B (ix2 t 0) = var (row X F A B t.val) := by
  unfold var mean
  pointwise [val_main_v22, val_main_v21, val_main_v20, val_main_v19, val_main_v18, val_main_v17, val_main_v16, val_main_cst_4,
    val_main_cst_3, val_main_cst_2]
  simp only [ref_cen]

/-- The inverse deviation of a row. -/
theorem ref_inv (t : Fin 16384) : val_main_v23 (F := Ideal) X F A B (ix2 t 0) = Ideal.rsqrt (var (row X F A B t.val)) := by
  pointwise [val_main_v23]
  rw [ref_var]
  first | done | rfl

/-- The normalised row. -/
theorem ref_hat (t : Fin 16384) (k : Fin 1024) : val_main_v28 (F := Ideal) X F A B (ix2 t k) = hat (row X F A B t.val) k.val := by
  unfold hat
  pointwise [val_main_v28, val_main_v27]
  rw [ref_cen, ref_inv]

theorem ref_diff (t : Fin 16384) (k : Fin 1024) :
    val_main_v35 (F := Ideal) X F T A B G O (ix2 t k) = diff X F T A B G O t.val k.val := by
  unfold diff
  rw [at2_ix T, at2_lt G (t := 0) (by omega) k.isLt, at2_lt O (t := 0) (by omega) k.isLt]
  pointwise [val_main_v35, val_main_v34, val_main_v33, val_main_v32, val_main_v31, val_main_v30, val_main_v29, val_main_v9,
    val_main_v8]
  rw [ref_hat]
  first | done | rfl

/-- Half of the loss's gradient over the row's length, times two, is the kernel's one factor. -/
theorem scale_eq (d : EReal) : Ideal.div (Ideal.ofBits .f32 0x3F000000#32 * 1) len * (Ideal.ofBits .f32 0x40000000#32 * d)
    = d * scale := by
  have h1 : Ideal.ofBits .f32 0x3F000000#32 = ((1 / 2 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have h3 : scale = ((1 / 1024 : ℝ) : EReal) := by
    simp [scale, Ideal.ofBits, Ideal.ieee]
    rw [← EReal.coe_mul]; norm_num
  rw [mul_one, h1, div_len, ← mul_assoc, h2, ← EReal.coe_mul, h3, mul_comm]
  norm_num

theorem ref_ct (t : Fin 16384) (k : Fin 1024) :
    val_main_v49 (F := Ideal) X F T A B G O (ix2 t k) = ct X F T A B G O t.val k.val := by
  unfold ct
  rw [← scale_eq]
  pointwise [val_main_v49, val_main_v48, val_main_v47, val_main_v46, val_main_v45, val_main_v44, val_main_v38, val_main_v37,
    val_main_cst_13, val_main_cst_12, val_main_cst_11, val_main_cst_6]
  rw [ref_diff]
  first | done | rfl | simp

theorem ref_dHat (t : Fin 16384) (k : Fin 1024) :
    val_main_v57 (F := Ideal) X F T A B G O (ix2 t k) = dHat X F T A B G O t.val k.val := by
  unfold dHat
  rw [at2_lt G (t := 0) (by omega) k.isLt]
  pointwise [val_main_v57, val_main_v56, val_main_v29, val_main_v8]
  rw [ref_ct]
  first | done | rfl

theorem ref_factor (t : Fin 16384) : val_main_v26 (F := Ideal) X F A B (ix2 t 0)
    = negHalf * Ideal.div (Ideal.rsqrt (var (row X F A B t.val))) (var (row X F A B t.val)) := by
  pointwise [val_main_v26, val_main_v25, val_main_v24, val_main_cst_5]
  rw [ref_var, ref_inv]

/-- The gradient at the centred row. -/
theorem ref_dCen (t : Fin 16384) (k : Fin 1024) : val_main_v72 (F := Ideal) X F T A B G O (ix2 t k)
    = dCen (row X F A B t.val) (dHat X F T A B G O t.val) k.val := by
  unfold dCen dVar
  pointwise [val_main_v72, val_main_v71, val_main_v70, val_main_v69, val_main_v68, val_main_v67, val_main_v66, val_main_v65,
    val_main_v64, val_main_v63, val_main_v62, val_main_v61, val_main_v60, val_main_v59, val_main_cst_20, val_main_cst_19,
    val_main_cst_18]
  have h0 : ∀ x : Fin 1, val_main_v26 (F := Ideal) X F A B (ix2 t x)
      = negHalf * Ideal.div (Ideal.rsqrt (var (row X F A B t.val))) (var (row X F A B t.val)) := fun x => by
    obtain rfl : x = 0 := Subsingleton.elim _ _
    exact ref_factor X F A B t
  simp only [ref_cen, ref_dHat, ref_inv, h0, Finset.univ_unique, Finset.sum_singleton]

section real
variable (hX : ∀ i, IsReal (X i)) (hF : ∀ i, IsReal (F i)) (hT : ∀ i, IsReal (T i)) (hA : ∀ i, IsReal (A i))
  (hB : ∀ i, IsReal (B i)) (hG : ∀ i, IsReal (G i)) (hO : ∀ i, IsReal (O i))
include hX hF hT hA hB hG hO

theorem row_real (t j : ℕ) : IsReal (row X F A B t j) :=
  (alpha_real.mul (((at2_real hX _ _).mul (at2_real hA _ _)).add (at2_real hB _ _))).add (at2_real hF _ _)

theorem dHat_real (t j : ℕ) : IsReal (dHat X F T A B G O t j) :=
  ((sub_real (((hat_real (row_real X F T A B G O hX hF hT hA hB hG hO t) j).mul (at2_real hG _ _)).add (at2_real hO _ _))
    (at2_real hT _ _)).mul ⟨_, by simp [scale, Ideal.ofBits, Ideal.ieee]; rfl⟩).mul (at2_real hG _ _)

/-- The gradient at the residual sum: where the arguments are real the chain rule gives the compact form. -/
theorem ref_d (t : Fin 16384) (k : Fin 1024) :
    val_main_v80 (F := Ideal) X F T A B G O (ix2 t k) = dR X F T A B G O t.val k.val := by
  unfold dR
  rw [← chain_eq (row X F A B t.val) (dHat X F T A B G O t.val) (row_real X F T A B G O hX hF hT hA hB hG hO t.val)
    (dHat_real X F T A B G O hX hF hT hA hB hG hO t.val)]
  unfold chain
  pointwise [val_main_v80, val_main_v79, val_main_v78, val_main_v77, val_main_v76, val_main_v75, val_main_v74, val_main_v73,
    val_main_cst_23, val_main_cst_22, val_main_cst_21]
  simp only [ref_dCen, Finset.univ_unique, Finset.sum_singleton]

theorem ref_e (t : Fin 16384) (k : Fin 1024) :
    val_main_v108 (F := Ideal) X F T A B G O (ix2 t k) = dR X F T A B G O t.val k.val :=
  Eq.trans (by pointwise [val_main_v108]; first | done | rfl) (ref_d X F T A B G O hX hF hT hA hB hG hO t k)
end real

/-- The second computation of the difference, which the squared error uses, is the first. -/
theorem diff_again : val_main_v105 (F := Ideal) X F T A B G O = val_main_v35 (F := Ideal) X F T A B G O := rfl

theorem ref_g (r : Fin 8) (c : Fin 1024) :
    val_main_v113 (F := Ideal) X F T A B G O (ix2 r c) = acc X F T A B G O r.val c.val := by
  unfold acc term
  rw [Finset.sum_range]
  pointwise [val_main_v113, val_main_v112, val_main_v111, val_main_v110, val_main_v109, val_main_v107, val_main_v106,
    val_main_v58, val_main_v55, val_main_v54, val_main_v53, val_main_v52, val_main_v51, val_main_v50, val_main_cst_30,
    val_main_cst_29, val_main_cst_17, val_main_cst_16, val_main_cst_15, val_main_cst_14]
  by_cases h0 : r.val = 0
  · simp [h0, ref_hat, ref_ct, mul_comm]
  · by_cases h1 : r.val = 1
    · simp [h1, ref_ct]
    · by_cases h2 : r.val = 2
      · simp [h2, diff_again, ref_diff]
      · have h3 : ¬r.val < 1 := by omega
        have h4 : ¬r.val - 1 < 1 := by omega
        have h5 : ¬r.val - 1 - 1 < 1 := by omega
        simp [h0, h1, h2, h3, h4, h5]

end Cert.LnLoss
end
-- ==== Proof.LnLoss.Arrays.lean ====
module
public import proofs.«01_k».proof.Proof.LnLoss.Point
public import proofs.«01_k».proof.Proof.LnLoss.Ref

@[expose] public section

set_option maxRecDepth 16384

noncomputable section

/-! The kernel's result arrays, element by element. -/

namespace Cert.LnLoss

open Idealize.ShloMosaic Idealize.ShloMosaic.TcCoe Idealize.SL.Sem Cert.LnLossIdeal Cert.LnLossIdeal.Gen Cert.Lib
open Cert.FfnAct (at2 at2_ix at2_lt IsReal)
open Cert.Ln
open Idealize.ShloMosaic.Pipeline (Dat)

variable (m : (ℓ : Loc nD τ sig) → Buf (Elt Ideal) ℓ) (c : Dev nD)

/-! The arguments as the launch finds them. -/
abbrev arrX : S16384x1024.Idx → EReal := m ((c : Thread nD τ).loc main_arg0)
abbrev arrF : S16384x1024.Idx → EReal := m ((c : Thread nD τ).loc main_arg1)
abbrev arrT : S16384x1024.Idx → EReal := m ((c : Thread nD τ).loc main_arg2)
abbrev arrA : S1x1024.Idx → EReal := m ((c : Thread nD τ).loc main_arg3)
abbrev arrB : S1x1024.Idx → EReal := m ((c : Thread nD τ).loc main_arg4)
abbrev arrG : S1x1024.Idx → EReal := m ((c : Thread nD τ).loc main_arg5)
abbrev arrO : S1x1024.Idx → EReal := m ((c : Thread nD τ).loc main_arg6)

/-! The first row of each padded vector is the vector. -/

theorem V_A (k : Fin 1024) : (V m c main_v1 : S8x1024.Idx → EReal) (ix2 0 k) = arrA m c (ix2 0 k) := by
  unfold_abbrev_sides
  after_results
  pointwise []
  first | done | rfl

theorem vec_A (k : ℕ) (h : k < 1024) : at2 (m := 8) (n := 1024) (V m c main_v1) 0 k = at2 (arrA m c) 0 k := by
  rw [at2_lt (m := 8) (n := 1024) _ (t := 0) (k := k) (by omega) h, at2_lt _ (t := 0) (k := k) (by omega) h]
  exact V_A m c ⟨k, h⟩

theorem V_B (k : Fin 1024) : (V m c main_v3 : S8x1024.Idx → EReal) (ix2 0 k) = arrB m c (ix2 0 k) := by
  unfold_abbrev_sides
  after_results
  pointwise []
  first | done | rfl

theorem vec_B (k : ℕ) (h : k < 1024) : at2 (m := 8) (n := 1024) (V m c main_v3) 0 k = at2 (arrB m c) 0 k := by
  rw [at2_lt (m := 8) (n := 1024) _ (t := 0) (k := k) (by omega) h, at2_lt _ (t := 0) (k := k) (by omega) h]
  exact V_B m c ⟨k, h⟩

theorem V_G (k : Fin 1024) : (V m c main_v5 : S8x1024.Idx → EReal) (ix2 0 k) = arrG m c (ix2 0 k) := by
  unfold_abbrev_sides
  after_results
  pointwise []
  first | done | rfl

theorem vec_G (k : ℕ) (h : k < 1024) : at2 (m := 8) (n := 1024) (V m c main_v5) 0 k = at2 (arrG m c) 0 k := by
  rw [at2_lt (m := 8) (n := 1024) _ (t := 0) (k := k) (by omega) h, at2_lt _ (t := 0) (k := k) (by omega) h]
  exact V_G m c ⟨k, h⟩

theorem V_O (k : Fin 1024) : (V m c main_v7 : S8x1024.Idx → EReal) (ix2 0 k) = arrO m c (ix2 0 k) := by
  unfold_abbrev_sides
  after_results
  pointwise []
  first | done | rfl

theorem vec_O (k : ℕ) (h : k < 1024) : at2 (m := 8) (n := 1024) (V m c main_v7) 0 k = at2 (arrO m c) 0 k := by
  rw [at2_lt (m := 8) (n := 1024) _ (t := 0) (k := k) (by omega) h, at2_lt _ (t := 0) (k := k) (by omega) h]
  exact V_O m c ⟨k, h⟩

/-! ## What each window's block holds at a point -/

theorem idx0 : ∀ t : Fin grid0.N, win0_0.index t 0 = t.val ∧ win0_0.index t 1 = 0 := by decide +kernel

theorem blk0_at (t : Fin cfg0.N) (r : Fin 512) (k : Fin 1024) :
    (iblk m c 0 t : S512x1024.Idx → EReal) (ix2 r k)
      = at2 (m := 16384) (n := 1024) (V m c main_arg0) (512 * t.val + r.val) (k.val) := by
  have hN : t.val < 32 := lt_of_lt_of_eq t.isLt N_0
  have hi := idx0 t
  rw [at2_lt (m := 16384) (n := 1024) _ (t := 512 * t.val + r.val) (k := k.val) (by omega) (by omega)]
  unfold iblk
  rw [View.read_apply]
  refine congrArg (V m c main_arg0) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem idx1 : ∀ t : Fin grid0.N, win0_1.index t 0 = t.val ∧ win0_1.index t 1 = 0 := by decide +kernel

theorem blk1_at (t : Fin cfg0.N) (r : Fin 512) (k : Fin 1024) :
    (iblk m c 1 t : S512x1024.Idx → EReal) (ix2 r k)
      = at2 (m := 16384) (n := 1024) (V m c main_arg1) (512 * t.val + r.val) (k.val) := by
  have hN : t.val < 32 := lt_of_lt_of_eq t.isLt N_0
  have hi := idx1 t
  rw [at2_lt (m := 16384) (n := 1024) _ (t := 512 * t.val + r.val) (k := k.val) (by omega) (by omega)]
  unfold iblk
  rw [View.read_apply]
  refine congrArg (V m c main_arg1) (funext fun a => Fin.ext ?_)
  match a with
  | ⟨0, _⟩ => show win0_1.index t 0 * 512 + 1 * r.val = 512 * t.val + r.val; rw [hi.1]; omega
  | ⟨1, _⟩ => show win0_1.index t 1 * 1024 + 1 * k.val = k.val; rw [hi.2]; omega

theorem idx2 : ∀ t : Fin grid0.N, win0_2.index t 0 = t.val ∧ win0_2.index t 1 = 0 := by decide +kernel

theorem blk2_at (t : Fin cfg0.N) (r : Fin 512) (k : Fin 1024) :
    (iblk m c 2 t : S512x1024.Idx → EReal) (ix2 r k)
      = at2 (m := 16384) (n := 1024) (V m c main_arg2) (512 * t.val + r.val) (k.val) := by
  have hN : t.val < 32 := lt_of_lt_of_eq t.isLt N_0
  have hi := idx2 t
  rw [at2_lt (m := 16384) (n := 1024) _ (t := 512 * t.val + r.val) (k := k.val) (by omega) (by omega)]
  unfold iblk
  rw [View.read_apply]
  refine congrArg (V m c main_arg2) (funext fun a => Fin.ext ?_)
  match a with
  | ⟨0, _⟩ => show win0_2.index t 0 * 512 + 1 * r.val = 512 * t.val + r.val; rw [hi.1]; omega
  | ⟨1, _⟩ => show win0_2.index t 1 * 1024 + 1 * k.val = k.val; rw [hi.2]; omega

theorem idx3 : ∀ t : Fin grid0.N, win0_3.index t 0 = 0 ∧ win0_3.index t 1 = 0 := by decide +kernel

theorem blk3_at (t : Fin cfg0.N) (r : Fin 8) (k : Fin 1024) :
    (iblk m c 3 t : S8x1024.Idx → EReal) (ix2 r k)
      = at2 (m := 8) (n := 1024) (V m c main_v1) (r.val) (k.val) := by
  have hN : t.val < 32 := lt_of_lt_of_eq t.isLt N_0
  have hi := idx3 t
  rw [at2_lt (m := 8) (n := 1024) _ (t := r.val) (k := k.val) (by omega) (by omega)]
  unfold iblk
  rw [View.read_apply]
  refine congrArg (V m c main_v1) (funext fun a => Fin.ext ?_)
  match a with
  | ⟨0, _⟩ => show win0_3.index t 0 * 8 + 1 * r.val = r.val; rw [hi.1]; omega
  | ⟨1, _⟩ => show win0_3.index t 1 * 1024 + 1 * k.val = k.val; rw [hi.2]; omega

theorem idx4 : ∀ t : Fin grid0.N, win0_4.index t 0 = 0 ∧ win0_4.index t 1 = 0 := by decide +kernel

theorem blk4_at (t : Fin cfg0.N) (r : Fin 8) (k : Fin 1024) :
    (iblk m c 4 t : S8x1024.Idx → EReal) (ix2 r k)
      = at2 (m := 8) (n := 1024) (V m c main_v3) (r.val) (k.val) := by
  have hN : t.val < 32 := lt_of_lt_of_eq t.isLt N_0
  have hi := idx4 t
  rw [at2_lt (m := 8) (n := 1024) _ (t := r.val) (k := k.val) (by omega) (by omega)]
  unfold iblk
  rw [View.read_apply]
  refine congrArg (V m c main_v3) (funext fun a => Fin.ext ?_)
  match a with
  | ⟨0, _⟩ => show win0_4.index t 0 * 8 + 1 * r.val = r.val; rw [hi.1]; omega
  | ⟨1, _⟩ => show win0_4.index t 1 * 1024 + 1 * k.val = k.val; rw [hi.2]; omega

theorem idx5 : ∀ t : Fin grid0.N, win0_5.index t 0 = 0 ∧ win0_5.index t 1 = 0 := by decide +kernel

theorem blk5_at (t : Fin cfg0.N) (r : Fin 8) (k : Fin 1024) :
    (iblk m c 5 t : S8x1024.Idx → EReal) (ix2 r k)
      = at2 (m := 8) (n := 1024) (V m c main_v5) (r.val) (k.val) := by
  have hN : t.val < 32 := lt_of_lt_of_eq t.isLt N_0
  have hi := idx5 t
  rw [at2_lt (m := 8) (n := 1024) _ (t := r.val) (k := k.val) (by omega) (by omega)]
  unfold iblk
  rw [View.read_apply]
  refine congrArg (V m c main_v5) (funext fun a => Fin.ext ?_)
  match a with
  | ⟨0, _⟩ => show win0_5.index t 0 * 8 + 1 * r.val = r.val; rw [hi.1]; omega
  | ⟨1, _⟩ => show win0_5.index t 1 * 1024 + 1 * k.val = k.val; rw [hi.2]; omega

theorem idx6 : ∀ t : Fin grid0.N, win0_6.index t 0 = 0 ∧ win0_6.index t 1 = 0 := by decide +kernel

theorem blk6_at (t : Fin cfg0.N) (r : Fin 8) (k : Fin 1024) :
    (iblk m c 6 t : S8x1024.Idx → EReal) (ix2 r k)
      = at2 (m := 8) (n := 1024) (V m c main_v7) (r.val) (k.val) := by
  have hN : t.val < 32 := lt_of_lt_of_eq t.isLt N_0
  have hi := idx6 t
  rw [at2_lt (m := 8) (n := 1024) _ (t := r.val) (k := k.val) (by omega) (by omega)]
  unfold iblk
  rw [View.read_apply]
  refine congrArg (V m c main_v7) (funext fun a => Fin.ext ?_)
  match a with
  | ⟨0, _⟩ => show win0_6.index t 0 * 8 + 1 * r.val = r.val; rw [hi.1]; omega
  | ⟨1, _⟩ => show win0_6.index t 1 * 1024 + 1 * k.val = k.val; rw [hi.2]; omega

theorem blocks (t : Fin cfg0.N) : Blocks (iblk m c 0 t) (iblk m c 1 t) (iblk m c 2 t) (iblk m c 3 t) (iblk m c 4 t) (iblk m c 5 t) (iblk m c 6 t)
    (arrX m c) (arrF m c) (arrT m c) (arrA m c) (arrB m c) (arrG m c) (arrO m c) t.val where
  h0 r k := (blk0_at m c t r k).trans (by rw [V_main_arg0])
  h1 r k := (blk1_at m c t r k).trans (by rw [V_main_arg1])
  h2 r k := (blk2_at m c t r k).trans (by rw [V_main_arg2])
  h3 k := (blk3_at m c t 0 k).trans (vec_A m c _ k.isLt)
  h4 k := (blk4_at m c t 0 k).trans (vec_B m c _ k.isLt)
  h5 k := (blk5_at m c t 0 k).trans (vec_G m c _ k.isLt)
  h6 k := (blk6_at m c t 0 k).trans (vec_O m c _ k.isLt)

/-! ## The arrays -/

/-- After point `n` the packed gradients are the sums over the tokens seen so far. -/
theorem acc_after : ∀ (n : ℕ) (h : n < cfg0.N) (r : Fin 8) (k : Fin 1024),
    ((outsAt0 m c n h).2.2 : S8x1024.Idx → EReal) (ix2 r k)
      = ∑ t ∈ Finset.range (512 * (n + 1)), term (arrX m c) (arrF m c) (arrT m c) (arrA m c) (arrB m c) (arrG m c) (arrO m c) r.val t k.val
  | 0, h, r, k => by
    rw [outsAt0_A m c ⟨0, h⟩ rfl]
    dsimp only
    rw [out_acc_A, acc_at (blocks m c ⟨0, h⟩), ← sum_block 512 _ 0]
    refine congrArg (· + _) ?_
    pointwise [k0_pay3]
    rfl
  | n + 1, h, r, k => by
    have hN : n + 1 < 32 := lt_of_lt_of_eq h N_0
    rw [outsAt0_B m c ⟨n + 1, h⟩ (by dsimp only; omega)]
    dsimp only
    rw [out_acc_B, acc_at (blocks m c ⟨n + 1, h⟩)]
    rw [← sum_block 512 _ (n + 1)]
    exact congrArg (· + _) (acc_after n _ r k)

/-! The gradient at the residual sum, and the packed gradients. -/
abbrev resD : S16384x1024.Idx → EReal := fun j => dR (arrX m c) (arrF m c) (arrT m c) (arrA m c) (arrB m c) (arrG m c) (arrO m c) (j 0).val (j 1).val
abbrev resG : S8x1024.Idx → EReal := fun j => acc (arrX m c) (arrF m c) (arrT m c) (arrA m c) (arrB m c) (arrG m c) (arrO m c) (j 0).val (j 1).val

theorem out_d_at (t : Fin cfg0.N) (r : Fin 512) (k : Fin 1024) :
    ((outsAt0 m c t.val t.isLt).1 : S512x1024.Idx → EReal) (ix2 r k)
      = dR (arrX m c) (arrF m c) (arrT m c) (arrA m c) (arrB m c) (arrG m c) (arrO m c) (512 * t.val + r.val) k.val := by
  by_cases h0 : t.val % 32 = 0
  · rw [outsAt0_A m c t h0]
    dsimp only
    rw [out_d_A]
    exact d_at (blocks m c t) r k
  · rw [outsAt0_B m c t h0]
    dsimp only
    rw [out_d_B]
    exact d_at (blocks m c t) r k

theorem idx7 : ∀ t : Fin grid0.N, win0_7.index t 0 = t.val ∧ win0_7.index t 1 = 0 := by decide +kernel

theorem flushed_d (t : Fin cfg0.N) (_ : (cfg0.win 7).flush t = true) :
    (dats m 0 c).flushed 7 t = ((cfg0.win 7).blk t).view.read (Elt Ideal) (resD m c) := by
  rw [Value.flushed7]
  funext j
  rw [View.read_apply]
  obtain ⟨r, k, rfl⟩ := ix2_surj (m := 512) (n := 1024) j
  refine (out_d_at m c t r k).trans ?_
  have hi := idx7 t
  refine congrArg₂ (dR (arrX m c) (arrF m c) (arrT m c) (arrA m c) (arrB m c) (arrG m c) (arrO m c)) ?_ ?_
  · show _ = win0_7.index t 0 * 512 + 1 * r.val; rw [hi.1]; omega
  · show _ = win0_7.index t 1 * 1024 + 1 * k.val; rw [hi.2]; omega

/-- The gradient at the residual sum after the launch. -/
theorem final_d : (dats m 0 c).arrAt 7 cfg0.N = resD m c :=
  (dats m 0 c).arrAt_eq_of_cover 7 (resD m c) (flushed_d m c) fun i => by
    have h0 : (i 0 : Nat) < 16384 := (i 0).isLt
    have h1 : (i 1 : Nat) < 1024 := (i 1).isLt
    let t : Fin cfg0.N := ⟨(i 0).val / 512, lt_of_lt_of_eq (by omega : _ < 32) N_0.symm⟩
    have hi := idx7 t
    refine ⟨t, flush0_7 t, ?_⟩
    show i ∈ ((View.whole main_v8_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [hi.1]; dsimp only [t]; omega
    | ⟨1, _⟩ => show win0_7.index t 1 * 1024 ≤ (i 1 : Nat) ∧ (i 1 : Nat) < win0_7.index t 1 * 1024 + 1024
                rw [hi.2]; omega

theorem out_e_at (t : Fin cfg0.N) (r : Fin 512) (k : Fin 1024) :
    ((outsAt0 m c t.val t.isLt).2.1 : S512x1024.Idx → EReal) (ix2 r k)
      = dR (arrX m c) (arrF m c) (arrT m c) (arrA m c) (arrB m c) (arrG m c) (arrO m c) (512 * t.val + r.val) k.val := by
  by_cases h0 : t.val % 32 = 0
  · rw [outsAt0_A m c t h0]
    dsimp only
    rw [out_e_A]
    exact e_at (blocks m c t) r k
  · rw [outsAt0_B m c t h0]
    dsimp only
    rw [out_e_B]
    exact e_at (blocks m c t) r k

theorem idx8 : ∀ t : Fin grid0.N, win0_8.index t 0 = t.val ∧ win0_8.index t 1 = 0 := by decide +kernel

theorem flushed_e (t : Fin cfg0.N) (_ : (cfg0.win 8).flush t = true) :
    (dats m 0 c).flushed 8 t = ((cfg0.win 8).blk t).view.read (Elt Ideal) (resD m c) := by
  rw [Value.flushed8]
  funext j
  rw [View.read_apply]
  obtain ⟨r, k, rfl⟩ := ix2_surj (m := 512) (n := 1024) j
  refine (out_e_at m c t r k).trans ?_
  have hi := idx8 t
  refine congrArg₂ (dR (arrX m c) (arrF m c) (arrT m c) (arrA m c) (arrB m c) (arrG m c) (arrO m c)) ?_ ?_
  · show _ = win0_8.index t 0 * 512 + 1 * r.val; rw [hi.1]; omega
  · show _ = win0_8.index t 1 * 1024 + 1 * k.val; rw [hi.2]; omega

/-- The gradient at the residual sum after the launch, stored a second time. -/
theorem final_e : (dats m 0 c).arrAt 8 cfg0.N = resD m c :=
  (dats m 0 c).arrAt_eq_of_cover 8 (resD m c) (flushed_e m c) fun i => by
    have h0 : (i 0 : Nat) < 16384 := (i 0).isLt
    have h1 : (i 1 : Nat) < 1024 := (i 1).isLt
    let t : Fin cfg0.N := ⟨(i 0).val / 512, lt_of_lt_of_eq (by omega : _ < 32) N_0.symm⟩
    have hi := idx8 t
    refine ⟨t, flush0_8 t, ?_⟩
    show i ∈ ((View.whole main_v8_1).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [hi.1]; dsimp only [t]; omega
    | ⟨1, _⟩ => show win0_8.index t 1 * 1024 ≤ (i 1 : Nat) ∧ (i 1 : Nat) < win0_8.index t 1 * 1024 + 1024
                rw [hi.2]; omega

theorem out_g_at (t : Fin cfg0.N) (ht : t.val = 31) (r : Fin 8) (k : Fin 1024) :
    ((outsAt0 m c t.val t.isLt).2.2 : S8x1024.Idx → EReal) (ix2 r k) = acc (arrX m c) (arrF m c) (arrT m c) (arrA m c) (arrB m c) (arrG m c) (arrO m c) r.val k.val := by
  rw [acc_after m c t.val t.isLt r k, ht, show 512 * (31 + 1) = 16384 from by norm_num]
  unfold acc
  rfl

section
attribute [local irreducible] acc
theorem idx9 : ∀ t : Fin grid0.N, win0_9.index t 0 = 0 ∧ win0_9.index t 1 = 0 := by decide +kernel

theorem flushed_g (t : Fin cfg0.N) (hf : (cfg0.win 9).flush t = true) :
    (dats m 0 c).flushed 9 t = ((cfg0.win 9).blk t).view.read (Elt Ideal) (resG m c) := by
  have hN : t.val < 32 := lt_of_lt_of_eq t.isLt N_0
  have ht : t.val = 31 := by have := (flush0_9 t).mp hf; omega
  rw [Value.flushed9]
  funext j
  rw [View.read_apply]
  obtain ⟨r, k, rfl⟩ := ix2_surj (m := 8) (n := 1024) j
  refine (out_g_at m c t ht r k).trans ?_
  have hi := idx9 t
  refine congrArg₂ (acc (arrX m c) (arrF m c) (arrT m c) (arrA m c) (arrB m c) (arrG m c) (arrO m c)) ?_ ?_
  · show _ = win0_9.index t 0 * 8 + 1 * r.val; rw [hi.1]; omega
  · show _ = win0_9.index t 1 * 1024 + 1 * k.val; rw [hi.2]; omega

/-- The packed gradients after the launch. -/
theorem final_g : (dats m 0 c).arrAt 9 cfg0.N = resG m c :=
  (dats m 0 c).arrAt_eq_of_cover 9 (resG m c) (flushed_g m c) fun i => by
    have h0 : (i 0 : Nat) < 8 := (i 0).isLt
    have h1 : (i 1 : Nat) < 1024 := (i 1).isLt
    let t : Fin cfg0.N := ⟨31, lt_of_lt_of_eq (by omega : _ < 32) N_0.symm⟩
    have hi := idx9 t
    refine ⟨t, (flush0_9 t).mpr rfl, ?_⟩
    show i ∈ ((View.whole main_v8_2).slice (win0_9.rect t)).set
    rw [View.set_slice_whole, Rect.mem_set_unit]
    intro a
    match a with
    | ⟨0, _⟩ => show win0_9.index t 0 * 8 ≤ (i 0 : Nat) ∧ (i 0 : Nat) < win0_9.index t 0 * 8 + 8
                rw [hi.1]; omega
    | ⟨1, _⟩ => show win0_9.index t 1 * 1024 ≤ (i 1 : Nat) ∧ (i 1 : Nat) < win0_9.index t 1 * 1024 + 1024
                rw [hi.2]; omega
end

end Cert.LnLoss
end
-- ==== Proof.LnLoss.Pre.lean ====
module
public import proofs.«01_k».proof.Pre_ln2_loss_finite
public import proofs.«01_k».proof.Proof.FfnAct.Pre

@[expose] public section

noncomputable section

/-! The precondition read back: where it holds, every element of the arguments is a real number. -/

namespace Cert.LnLoss

open Idealize.ShloMosaic Cert.Pre_ln2_loss_finite Cert.FfnAct

/-- The shape relations that the precondition's function takes. -/
theorem preFacts : Cert.Pre_ln2_loss_finite.Facts where
  bcast_S_S16384x1024 := by decide
  reducesTo_S16384x1024_S_d0_1 := by decide
  h_S_ := by decide
  bitsLt_bf16_f32 := by decide
  bcast_S_S1x1024 := by decide
  reducesTo_S1x1024_S_d0_1 := by decide

variable [Cert.Pre_ln2_loss_finite.Facts]

theorem real_of_pre (x0 : FVec Ideal S16384x1024 .f32) (x1 : FVec Ideal S16384x1024 .bf16) (x2 : FVec Ideal S16384x1024 .f32) (x3 : FVec Ideal S1x1024 .f32) (x4 : FVec Ideal S1x1024 .f32) (x5 : FVec Ideal S1x1024 .f32) (x6 : FVec Ideal S1x1024 .f32)
    (e : Cert.Pre_ln2_loss_finite.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) := by
  have e := congrFun e (fun a => nomatch a)
  haveI : Subsingleton S_.Idx := ⟨fun a b => funext fun i => nomatch i⟩
  unfold Cert.Pre_ln2_loss_finite.fn Cert.Pre_ln2_loss_finite.fn_part1 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => Cert.FfnAct.real_of_lt _ _ i (Host.reduce_andi_all _ _ _ _ _ e0 i), fun i => Cert.FfnAct.real_of_lt _ _ i (Host.reduce_andi_all _ _ _ _ _ e1 i), fun i => Cert.FfnAct.real_of_lt _ _ i (Host.reduce_andi_all _ _ _ _ _ e2 i), fun i => Cert.FfnAct.real_of_lt _ _ i (Host.reduce_andi_all _ _ _ _ _ e3 i), fun i => Cert.FfnAct.real_of_lt _ _ i (Host.reduce_andi_all _ _ _ _ _ e4 i), fun i => Cert.FfnAct.real_of_lt _ _ i (Host.reduce_andi_all _ _ _ _ _ e5 i), fun i => Cert.FfnAct.real_of_lt _ _ i (Host.reduce_andi_all _ _ _ _ _ e6 i)⟩

end Cert.LnLoss
end
-- ==== Proof.LnLoss.Main.lean ====
module
public import proofs.«01_k».proof.Proof.LnLoss.Arrays
public import proofs.«01_k».proof.Proof.LnLoss.Pre
public import proofs.«01_k».proof.Proof.Gen.LnLossRefIdeal.Run
public import proofs.«01_k».proof.Defs
public import Idealize.ShloMosaic.Lib.Quiescent

@[expose] public section

set_option maxRecDepth 16384

noncomputable section

/-! The claims about the loss's gradient through the second layer normalisation. -/

namespace Cert.LnLoss

open Idealize.ShloMosaic Idealize.ShloMosaic.TcCoe Idealize.SL.Sem Cert.Lib

/-- The reference runs, leaves its arguments and ends with every counter at zero: it has no semaphores. -/
theorem referenceFrame : Cert.quiescent_LnLossRefIdeal (hLnLossRefIdeal := Cert.LnLossRefIdeal.Gen.facts) :=
  fun m ρ _ => (θ_run Cert.LnLossRefIdeal.defs _ _).mono (fun r h => And.intro (fun c => (h c).2.2.2)
      (Idealize.ShloMosaic.sem_eq_zero_of_no_sems (by decide) r.2))
    (Cert.LnLossRefIdeal.Value.run (F := Ideal) m ρ)

/-- The kernel's three results are the reference's: the gradient at the residual sum in both formats, and the packed
    gradients. -/
theorem values : letI := preFacts
    Cert.algebraic_LnLossIdeal_LnLossRefIdeal_pre_ln2_loss_finite (hLnLossIdeal := Cert.LnLossIdeal.Gen.facts) (hLnLossRefIdeal := Cert.LnLossRefIdeal.Gen.facts) := by
  letI := preFacts
  intro m g m' g' hpre hargs
  refine ⟨fun c => resD m c, fun c => resD m c, fun c => resG m c, ?_, ?_⟩
  · refine (θ_run Cert.LnLossIdeal.defs _ _).mono (fun r h c => ?_) (Cert.LnLossIdeal.Value.run_blocks m g)
    obtain ⟨h0, h1, h2, h3⟩ := h c
    exact ⟨h0.trans (final_d m c), h1.trans (final_e m c), h2.trans (final_g m c), h3⟩
  · refine (θ_run Cert.LnLossRefIdeal.defs _ _).mono (fun r h c => ?_) (Cert.LnLossRefIdeal.Value.run m' g')
    obtain ⟨h0, h1, h2, h3⟩ := h c
    obtain ⟨a0, a1, a2, a3, a4, a5, a6⟩ := hargs c
    obtain ⟨p0, p1, p2, p3, p4, p5, p6⟩ := real_of_pre _ _ _ _ _ _ _ (hpre c)
    refine ⟨h0.trans ?_, h1.trans ?_, h2.trans ?_, h3⟩
    · rw [Cert.LnLossRefIdeal.Read.val_main_v80_eq, a0, a1, a2, a3, a4, a5, a6]
      funext j
      obtain ⟨t, k, rfl⟩ := ix2_surj (m := 16384) (n := 1024) j
      exact ref_d _ _ _ _ _ _ _ p0 p1 p2 p3 p4 p5 p6 t k
    · rw [Cert.LnLossRefIdeal.Read.val_main_v108_eq, a0, a1, a2, a3, a4, a5, a6]
      funext j
      obtain ⟨t, k, rfl⟩ := ix2_surj (m := 16384) (n := 1024) j
      exact ref_e _ _ _ _ _ _ _ p0 p1 p2 p3 p4 p5 p6 t k
    · rw [Cert.LnLossRefIdeal.Read.val_main_v113_eq, a0, a1, a2, a3, a4, a5, a6]
      funext j
      obtain ⟨t, k, rfl⟩ := ix2_surj (m := 8) (n := 1024) j
      exact ref_g _ _ _ _ _ _ _ t k

end Cert.LnLoss
end
-- ==== Proof.ConvXs.Pieces.lean ====
module
public import proofs.«01_k».proof.Proof.Gen.ConvXsIdeal.Value
public import proofs.«01_k».proof.Proof.Lib.Places

@[expose] public section

set_option maxRecDepth 16384

noncomputable section

/-! What one grid point leaves in the output blocks, over the blocks it read. -/

namespace Cert.ConvXs

open Idealize.ShloMosaic Idealize.ShloMosaic.TcCoe Idealize.SL.Sem Cert.ConvXsIdeal Cert.ConvXsIdeal.Gen Cert.Lib

/-- A whole block of 512 rows. -/
abbrev all512 : Rect S512x1024 := Rect.unit ![0, 0] ![512, 1024] inb_S512x1024_S512x1024_0_0
/-- The first eight rows of a block of sixteen. -/
abbrev top8 : Rect S16x1024 := Rect.unit ![0, 0] ![8, 1024] inb_S16x1024_S8x1024_0_0

/-- A load of a whole block gives the block. -/
theorem ld_all {t : EltTy} (x : Vec Ideal S512x1024 t) : View.ld x all512 = x := by
  rw [View.ld_unit_zero (S := S512x1024) (funext fun a => by fin_cases a <;> rfl)]

variable (i : grid0.Coords) (x0 : Vec Ideal S512x1024 .bf16) (x1 : Vec Ideal S512x1024 .bf16) (x2 : Vec Ideal S16x1024 .bf16) (x3 : Vec Ideal S8x1024 .f32) (x4 : Vec Ideal S512x1024 .f32) (x5 : Vec Ideal S16x1024 .f32)

/-- Whether the point is before the last one of its column block, as the body tests it. -/
abbrev before : BitVec 1 := Scalar.cmpi .slt (BitVec.ofNat 32 (i 1).val) 31#32
/-- The gradient on the block's own rows. -/
def cur : Vec Ideal S512x1024 .f32 := k0_pay5 (F := Ideal) (View.ld x4 all512) (View.ld x1 all512)
/-- The gradient on the eight rows after the block. -/
def nxt : Vec Ideal S8x1024 .f32 := k0_pay9 (F := Ideal) (before i) (View.ld x5 top8) (k0_pay7 (View.ld x2 top8)) (k0_pay8 (View.ld x2 top8)) (Scalar.ofBits (F := Ideal) .f32 0x3F800000#32)
/-- The block's own rows moved up by one. -/
def up : Vec Ideal S512x1024 .f32 :=
  k0_pay15 (F := Ideal) (cur x1 x4) (before i) (View.ld x5 top8) (k0_pay7 (View.ld x2 top8)) (k0_pay8 (View.ld x2 top8)) (Scalar.ofBits (F := Ideal) .f32 0x3F800000#32)

/-- The point's block of the gradient at the convolution's input. -/
def outBlk : Vec Ideal S512x1024 .bf16 :=
  k0_pay3 (F := Ideal) (k0_pay18 (cur x1 x4) (nxt i x2 x5) (k0_pay12 (cur x1 x4) (View.ld x3 (Rect.unit ![3, 0] ![1, 1024] inb_S8x1024_S1x1024_3_0))) (up i x1 x2 x4 x5)
      (View.ld x3 (Rect.unit ![2, 0] ![1, 1024] inb_S8x1024_S1x1024_2_0)) (View.ld x3 (Rect.unit ![1, 0] ![1, 1024] inb_S8x1024_S1x1024_1_0)))
    (k0_pay20 (cur x1 x4)) (k0_pay21 (nxt i x2 x5)) (View.ld x3 (Rect.unit ![0, 0] ![1, 1024] inb_S8x1024_S1x1024_0_0))

/-- The row stores into the packed gradient, the last one first, over the contents `xo` of the block. -/
def accPieces (xo : Vec Ideal S8x1024 .f32) : List (View.Piece (Elt Ideal) S8x1024 .f32) :=
  [⟨Rect.unit ![0, 0] ![1, 1024] inb_S8x1024_S1x1024_0_0,
      k0_pay2 (k0_pay10 (View.ld x0 all512)) k0_pay11 (k0_pay20 (cur x1 x4)) (k0_pay21 (nxt i x2 x5)) (View.ld xo (Rect.unit ![0, 0] ![1, 1024] inb_S8x1024_S1x1024_0_0))⟩,
    ⟨Rect.unit ![1, 0] ![1, 1024] inb_S8x1024_S1x1024_1_0,
      k0_pay19 (cur x1 x4) (nxt i x2 x5) (k0_pay10 (View.ld x0 all512)) k0_pay11 (View.ld xo (Rect.unit ![1, 0] ![1, 1024] inb_S8x1024_S1x1024_1_0))⟩,
    ⟨Rect.unit ![2, 0] ![1, 1024] inb_S8x1024_S1x1024_2_0,
      k0_pay16 (k0_pay10 (View.ld x0 all512)) k0_pay11 (up i x1 x2 x4 x5) (View.ld xo (Rect.unit ![2, 0] ![1, 1024] inb_S8x1024_S1x1024_2_0))⟩,
    ⟨Rect.unit ![3, 0] ![1, 1024] inb_S8x1024_S1x1024_3_0,
      k0_pay14 (cur x1 x4) (View.ld x0 all512) (View.ld xo (Rect.unit ![3, 0] ![1, 1024] inb_S8x1024_S1x1024_3_0))⟩,
    ⟨Rect.unit ![4, 0] ![1, 1024] inb_S8x1024_S1x1024_4_0, k0_pay13 (cur x1 x4) (View.ld xo (Rect.unit ![4, 0] ![1, 1024] inb_S8x1024_S1x1024_4_0))⟩]

variable (c : Dev nD) (arg2 : Memref sig .tc .vmem S512x1024 .bf16) (harg2 : arg2.IsWhole) (arg3 : Memref sig .tc .vmem S512x1024 .bf16) (harg3 : arg3.IsWhole) (arg4 : Memref sig .tc .vmem S16x1024 .bf16) (harg4 : arg4.IsWhole) (arg5 : Memref sig .tc .vmem S8x1024 .f32) (harg5 : arg5.IsWhole) (arg6 : Memref sig .tc .vmem S512x1024 .f32) (harg6 : arg6.IsWhole) (arg7 : Memref sig .tc .vmem S16x1024 .f32) (harg7 : arg7.IsWhole) (arg9 : Memref sig .tc .vmem S512x1024 .bf16) (harg9 : arg9.IsWhole) (arg10 : Memref sig .tc .vmem S8x1024 .f32) (harg10 : arg10.IsWhole)

theorem out_in_A (hc0 : cond0_0 i) :
    out0_A_6 c i arg2 harg2 arg3 harg3 arg4 harg4 arg5 harg5 arg6 harg6 arg7 harg7 arg9 harg9 arg10 harg10 hc0 x0 x1 x2 x3 x4 x5 = outBlk i x1 x2 x3 x4 x5 := by
  unfold out0_A_6
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]
  rfl

theorem out_in_B (hc0 : ¬cond0_0 i) (xo : Vec Ideal S8x1024 .f32) :
    out0_B_6 c i arg2 harg2 arg3 harg3 arg4 harg4 arg5 harg5 arg6 harg6 arg7 harg7 arg9 harg9 arg10 harg10 hc0 x0 x1 x2 x3 x4 x5 xo = outBlk i x1 x2 x3 x4 x5 := by
  unfold out0_B_6
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]
  rfl

/-- After the first point of a column block the accumulator is the row stores over what it held. -/
theorem out_acc_B (hc0 : ¬cond0_0 i) (xo : Vec Ideal S8x1024 .f32) :
    out0_B_7 c i arg2 harg2 arg3 harg3 arg4 harg4 arg5 harg5 arg6 harg6 arg7 harg7 arg9 harg9 arg10 harg10 hc0 x0 x1 x2 x3 x4 x5 xo = View.canon (accPieces i x0 x1 x2 x4 x5 xo
        ++ [⟨Rect.unit ![0, 0] S8x1024.size inb_S8x1024_S8x1024_0_0, xo⟩]) := by
  rw [← read_over arg10 harg10 _ xo inb_S8x1024_S8x1024_0_0 (funext fun a => by fin_cases a <;> rfl)]
  unfold out0_B_7
  unfold kernelRun0_B
  dsimp only
  sl_unfold_run_names
  simp only [View.readAt_eq_ld, Memref.IsWhole.read_unread]
  rfl

/-- At the first point of a column block it is the row stores over zeros. -/
theorem out_acc_A (hc0 : cond0_0 i) :
    out0_A_7 c i arg2 harg2 arg3 harg3 arg4 harg4 arg5 harg5 arg6 harg6 arg7 harg7 arg9 harg9 arg10 harg10 hc0 x0 x1 x2 x3 x4 x5 = View.canon (accPieces i x0 x1 x2 x4 x5 (k0_pay4 (F := Ideal))
        ++ [⟨Rect.unit ![0, 0] S8x1024.size inb_S8x1024_S8x1024_0_0, k0_pay4 (F := Ideal)⟩]) := by
  unfold out0_A_7
  rw [View.read_writes_eq_canon _ _ _ (cover0_A_7 c i arg2 harg2 arg3 harg3 arg4 harg4 arg5 harg5 arg6 harg6 arg7 harg7 arg9 harg9 arg10 harg10 hc0 x0 x1 x2 x3 x4 x5)]
  unfold kernelRun0_A
  dsimp only
  sl_unfold_words
  simp (disch := decide) only [View.readAt_eq_ld, Memref.IsWhole.read_unread, View.readCov_skip, View.readCov_fill]
  rfl

end Cert.ConvXs
end
-- ==== Proof.Conv.Spec.lean ====
module
public import proofs.«01_k».proof.Proof.FfnAct.Spec

@[expose] public section

noncomputable section

/-! The gradient of a causal convolution of four taps followed by the activation `silu`, as functions of array elements
over the extended reals. Nothing here mentions a program. The convolution runs over the columns of one part of a wider
array: `p` is that part's first column in the wide array, `q` its first column in the array of taps. -/

namespace Cert.Conv

open Idealize.ShloMosaic
open Cert.FfnAct (sg sg_coe at2 at2_ix at2_out)

/-- The gradient of `silu g`, for the cotangent `d`. -/
def dSilu (d g : EReal) : EReal := d * (sg g * (1 + g * (1 - sg g)))

/-- The gradient as the product rule writes it is the factored form, for real numbers. -/
theorem dSilu_eq (d g : ℝ) : (d : EReal) * sg g + g * d * (sg g * (1 - sg g)) = dSilu d g := by
  unfold dSilu
  rw [sg_coe]
  norm_cast
  ring

/-- An array's element, by the numbers of its row and column. -/
theorem at2_eq {m n : ℕ} (A : (⟨2, ![m, n]⟩ : Shape).Idx → EReal) (r : Fin m) (k : Fin n) {t c : ℕ} (ht : r.val = t)
    (hc : k.val = c) : A (ix2 r k) = at2 A t c := by
  subst ht hc
  exact (at2_ix A r k).symm

variable {n : ℕ} (U D : (⟨2, ![16384, n]⟩ : Shape).Idx → EReal) (X : (⟨2, ![16384, 8192]⟩ : Shape).Idx → EReal)
  (W : (⟨2, ![4, 3072]⟩ : Shape).Idx → EReal) (p q : ℕ)

/-- The gradient at the convolution's result, row `t` and column `c`. `U` is the convolution's result and `D` the
    cotangent of its activation. -/
def dPre (t c : ℕ) : EReal := dSilu (at2 D t c) (at2 U t c)

/-- Below the last row the gradient is zero. -/
theorem dPre_out {t : ℕ} (c : ℕ) (h : 16384 ≤ t) : dPre U D t c = 0 := by
  unfold dPre dSilu
  rw [at2_out D c h, zero_mul]

/-- The gradient at the convolution's input: the four taps of the causal convolution, transposed. -/
def dIn (t c : ℕ) : EReal :=
  dPre U D t c * at2 W 3 (q + c) + dPre U D (t + 1) c * at2 W 2 (q + c) + dPre U D (t + 2) c * at2 W 1 (q + c)
    + dPre U D (t + 3) c * at2 W 0 (q + c)

/-- What token `t` gives to row `r` of the packed gradient of taps and bias: rows 0 to 3 are the taps, row 4 the
    bias, the others nothing. `X` holds the convolution's input. -/
def term (r t c : ℕ) : EReal :=
  match r with
  | 0 => dPre U D (t + 3) c * at2 X t (p + c)
  | 1 => dPre U D (t + 2) c * at2 X t (p + c)
  | 2 => dPre U D (t + 1) c * at2 X t (p + c)
  | 3 => dPre U D t c * at2 X t (p + c)
  | 4 => dPre U D t c
  | _ => 0

/-- The packed gradient of taps and bias: the sum over all tokens. -/
def dTaps (r c : ℕ) : EReal := ∑ t ∈ Finset.range 16384, term U D X p r t c

theorem dTaps_0 (c : ℕ) : dTaps U D X p 0 c = ∑ t ∈ Finset.range 16384, dPre U D (t + 3) c * at2 X t (p + c) := rfl
theorem dTaps_1 (c : ℕ) : dTaps U D X p 1 c = ∑ t ∈ Finset.range 16384, dPre U D (t + 2) c * at2 X t (p + c) := rfl
theorem dTaps_2 (c : ℕ) : dTaps U D X p 2 c = ∑ t ∈ Finset.range 16384, dPre U D (t + 1) c * at2 X t (p + c) := rfl
theorem dTaps_3 (c : ℕ) : dTaps U D X p 3 c = ∑ t ∈ Finset.range 16384, dPre U D t c * at2 X t (p + c) := rfl
theorem dTaps_4 (c : ℕ) : dTaps U D X p 4 c = ∑ t ∈ Finset.range 16384, dPre U D t c := rfl
theorem dTaps_out (r c : ℕ) (h : 5 ≤ r) : dTaps U D X p r c = 0 :=
  Finset.sum_eq_zero fun t _ => by
    obtain ⟨n, rfl⟩ := Nat.exists_eq_add_of_le' h
    rfl

end Cert.Conv
end
-- ==== Proof.ConvXs.Body.lean ====
module
public import proofs.«01_k».proof.Proof.Gen.ConvXsIdeal.Skeleton
public import proofs.«01_k».proof.Proof.Conv.Spec
public import proofs.«01_k».proof.Proof.FfnAct.Body

@[expose] public section

set_option maxRecDepth 16384

noncomputable section

/-! What the kernel body computes from the blocks it loads, read element by element. -/

namespace Cert.ConvXs

open Idealize.ShloMosaic Idealize.SL.Sem Cert.ConvXsIdeal Cert.ConvXsIdeal.Gen
open Cert.FfnAct (sg at2 sge_small)
open Cert.Conv
variable [Cert.ConvXsIdeal.Facts]

/-- The gradient at the convolution's result on the block's own rows. -/
theorem pre_at (d : FVec Ideal S512x1024 .f32) (g : FVec Ideal S512x1024 .bf16) (r : Fin 512) (k : Fin 1024) :
    k0_pay5 (F := Ideal) d g (ix2 r k) = dSilu (d (ix2 r k)) (g (ix2 r k)) := by
  pointwise [k0_pay5]; rfl

/-- The gradient on the rows after the block; zero after the last block. -/
theorem pre_next_at (i : BitVec 1) (d : FVec Ideal S8x1024 .f32) (g : FVec Ideal S8x1024 .bf16) (r : Fin 8) (k : Fin 1024) :
    k0_pay9 (F := Ideal) i d (k0_pay7 g) (k0_pay8 g) (Scalar.ofBits (F := Ideal) .f32 0x3F800000#32) (ix2 r k)
      = Scalar.select i (dSilu (d (ix2 r k)) (g (ix2 r k))) 0 := by
  pointwise [k0_pay9, k0_pay7, k0_pay8, k0_pay6]; rfl

section block
variable (x : FVec Ideal S512x1024 .f32) (y : FVec Ideal S8x1024 .f32) (f : ℕ → ℕ → EReal)
  (hx : ∀ (r : Fin 512) (k : Fin 1024), x (ix2 r k) = f r.val k.val)
  (hy : ∀ (r : Fin 8) (k : Fin 1024), y (ix2 r k) = f (512 + r.val) k.val)
include hx

/-- The block moved up by one row, the row after the block coming in below. -/
theorem up1_at (i : BitVec 1) (d v w : FVec Ideal S8x1024 .f32) (o : Ideal .f32)
    (hn : ∀ (r : Fin 8) (k : Fin 1024), k0_pay9 (F := Ideal) i d v w o (ix2 r k) = f (512 + r.val) k.val)
    (r : Fin 512) (k : Fin 1024) :
    k0_pay15 (F := Ideal) x i d v w o (ix2 r k) = f (r.val + 1) k.val := by
  have hy := hn
  pointwise [k0_pay15]
  split
  · rw [hx]; congr 1; dsimp only; omega
  · rw [sge_small _ 7 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

include hy

/-- The block moved up by two rows, the two rows after the block coming in below. -/
theorem up2_at (r : Fin 512) (k : Fin 1024) : k0_pay17 (F := Ideal) x y (ix2 r k) = f (r.val + 2) k.val := by
  pointwise [k0_pay17]
  split
  · rw [hx]; congr 1; dsimp only; omega
  · rw [sge_small _ 6 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

/-- The block moved up by three rows, the three rows after the block coming in below. -/
theorem up3_at (r : Fin 512) (k : Fin 1024) :
    k0_pay1 (F := Ideal) (k0_pay20 x) (k0_pay21 y) (ix2 r k) = f (r.val + 3) k.val := by
  pointwise [k0_pay1, k0_pay20, k0_pay21]
  split
  · rw [hx]; congr 1; dsimp only; omega
  · rw [sge_small _ 5 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

variable (u : FVec Ideal S512x1024 .f32) (hu : ∀ (r : Fin 512) (k : Fin 1024), u (ix2 r k) = f (r.val + 1) k.val)
include hu

/-- The gradient at the convolution's input, from the block's own rows and the rows after them. -/
theorem din_at (w3 w2 w1 w0 : FVec Ideal S1x1024 .f32) (r : Fin 512) (k : Fin 1024) :
    k0_pay3 (F := Ideal) (k0_pay18 x y (k0_pay12 x w3) u w2 w1) (k0_pay20 x) (k0_pay21 y) w0 (ix2 r k)
      = f r.val k.val * w3 (ix2 0 k) + f (r.val + 1) k.val * w2 (ix2 0 k) + f (r.val + 2) k.val * w1 (ix2 0 k)
        + f (r.val + 3) k.val * w0 (ix2 0 k) := by
  pointwise [k0_pay3, k0_pay18, k0_pay12]
  rw [hx, hu, up2_at x y f hx hy, up3_at x y f hx hy]

variable (z : FVec Ideal S512x1024 .bf16)

omit hy hu in
/-- The bias row: what it held and the sum of the block's rows. -/
theorem row4_at (p : FVec Ideal S1x1024 .f32) (k : Fin 1024) :
    k0_pay13 (F := Ideal) x p (ix2 0 k) = p (ix2 0 k) + ∑ t : Fin 512, f t.val k.val := by
  pointwise [k0_pay13, k0_pay11]
  exact congrArg _ (Finset.sum_congr rfl fun t _ => by rw [hx t k])

omit hy hu in
/-- The last tap's row: the rows times the convolution's input. -/
theorem row3_at (p : FVec Ideal S1x1024 .f32) (k : Fin 1024) :
    k0_pay14 (F := Ideal) x z p (ix2 0 k) = p (ix2 0 k) + ∑ t : Fin 512, f t.val k.val * z (ix2 t k) := by
  pointwise [k0_pay14, k0_pay10, k0_pay11]
  exact congrArg _ (Finset.sum_congr rfl fun t _ => by rw [hx t k])

omit hx hy in
/-- The third tap's row: the rows one further down. -/
theorem row2_at (p : FVec Ideal S1x1024 .f32) (k : Fin 1024) :
    k0_pay16 (F := Ideal) (k0_pay10 z) k0_pay11 u p (ix2 0 k) = p (ix2 0 k) + ∑ t : Fin 512, f (t.val + 1) k.val * z (ix2 t k) := by
  pointwise [k0_pay16, k0_pay10, k0_pay11]
  exact congrArg _ (Finset.sum_congr rfl fun t _ => by rw [hu t k])

omit hu in
/-- The second tap's row: the rows two further down. -/
theorem row1_at (p : FVec Ideal S1x1024 .f32) (k : Fin 1024) :
    k0_pay19 (F := Ideal) x y (k0_pay10 z) k0_pay11 p (ix2 0 k) = p (ix2 0 k) + ∑ t : Fin 512, f (t.val + 2) k.val * z (ix2 t k) := by
  pointwise [k0_pay19, k0_pay10, k0_pay11]
  exact congrArg _ (Finset.sum_congr rfl fun t _ => by rw [up2_at x y f hx hy])

omit hu in
/-- The first tap's row: the rows three further down. -/
theorem row0_at (p : FVec Ideal S1x1024 .f32) (k : Fin 1024) :
    k0_pay2 (F := Ideal) (k0_pay10 z) k0_pay11 (k0_pay20 x) (k0_pay21 y) p (ix2 0 k) = p (ix2 0 k) + ∑ t : Fin 512, f (t.val + 3) k.val * z (ix2 t k) := by
  pointwise [k0_pay2, k0_pay10, k0_pay11]
  exact congrArg _ (Finset.sum_congr rfl fun t _ => by rw [up3_at x y f hx hy])

end block
end Cert.ConvXs
end
-- ==== Proof.ConvXs.Point.lean ====
module
public import proofs.«01_k».proof.Proof.ConvXs.Pieces
public import proofs.«01_k».proof.Proof.ConvXs.Body

@[expose] public section

set_option maxRecDepth 16384

noncomputable section

/-! What one grid point leaves, element by element: the gradient at the convolution's input on its 512 rows, and those
rows' share of the gradient of taps and bias. -/

namespace Cert.ConvXs

open Idealize.ShloMosaic Idealize.ShloMosaic.TcCoe Idealize.SL.Sem Cert.ConvXsIdeal Cert.ConvXsIdeal.Gen Cert.Lib
open Cert.FfnAct (at2)
open Cert.Conv

/-- Whether the point is before the last one of its column block, as the program tests it. -/
theorem before_test (t : ℕ) (h : t < 32) :
    Scalar.cmpi CmpIPredicate.slt (BitVec.ofNat 32 t) 31#32 = if t < 31 then 1#1 else 0#1 := by
  interval_cases t <;> rfl

section point
variable (i : grid0.Coords) (x0 : Vec Ideal S512x1024 .bf16) (x1 : Vec Ideal S512x1024 .bf16) (x2 : Vec Ideal S16x1024 .bf16) (x3 : Vec Ideal S8x1024 .f32) (x4 : Vec Ideal S512x1024 .f32) (x5 : Vec Ideal S16x1024 .f32)
  {n : ℕ} (U D : (⟨2, ![16384, n]⟩ : Shape).Idx → EReal) (X : S16384x8192.Idx → EReal) (W : S4x3072.Idx → EReal)
  (p q t b : ℕ)

/-- The six input blocks of point `t` of the column block that starts at column `b` are the arrays' rows `512 t …`; the
    blocks of following rows matter only before the last point. -/
structure Blocks : Prop where
  lt : t < 32
  at_i : (i 1).val = t
  h0 : ∀ (r : Fin 512) (k : Fin 1024), x0 (ix2 r k) = at2 X (512 * t + r.val) (p + (b + k.val))
  h1 : ∀ (r : Fin 512) (k : Fin 1024), x1 (ix2 r k) = at2 U (512 * t + r.val) (b + k.val)
  h2 : t < 31 → ∀ (r : Fin 16) (k : Fin 1024), x2 (ix2 r k) = at2 U (512 * t + (512 + r.val)) (b + k.val)
  h3 : ∀ (r : Fin 4) (k : Fin 1024), x3 (ix2 (r.castLE (by decide) : Fin 8) k) = at2 W r.val (q + (b + k.val))
  h4 : ∀ (r : Fin 512) (k : Fin 1024), x4 (ix2 r k) = at2 D (512 * t + r.val) (b + k.val)
  h5 : t < 31 → ∀ (r : Fin 16) (k : Fin 1024), x5 (ix2 r k) = at2 D (512 * t + (512 + r.val)) (b + k.val)

variable {i x0 x1 x2 x3 x4 x5 U D X W p q t b}
variable (H : Blocks i x0 x1 x2 x3 x4 x5 U D X W p q t b)
include H

theorem cur_at (r : Fin 512) (k : Fin 1024) : cur x1 x4 (ix2 r k) = dPre U D (512 * t + r.val) (b + k.val) := by
  unfold cur
  rw [pre_at, ld_all, ld_all, H.h1, H.h4]
  rfl

theorem nxt_at (r : Fin 8) (k : Fin 1024) : nxt i x2 x5 (ix2 r k) = dPre U D (512 * t + (512 + r.val)) (b + k.val) := by
  have := H.lt
  unfold nxt before
  rw [pre_next_at, H.at_i, before_test t H.lt]
  split
  · rw [ld_at _ x5 r k (r.castLE (by decide)) k (by simp) (by omega),
      ld_at _ x2 r k (r.castLE (by decide)) k (by simp) (by omega), H.h2 (by omega), H.h5 (by omega)]
    rfl
  · rw [dPre_out _ _ _ (by omega)]; rfl

theorem up_at (r : Fin 512) (k : Fin 1024) : up i x1 x2 x4 x5 (ix2 r k) = dPre U D (512 * t + (r.val + 1)) (b + k.val) :=
  up1_at (cur x1 x4) (fun s k => dPre U D (512 * t + s) (b + k)) (cur_at H) _ _ _ _ _ (nxt_at H) r k

/-- The point's block of the gradient at the convolution's input. -/
theorem in_at (r : Fin 512) (k : Fin 1024) :
    outBlk i x1 x2 x3 x4 x5 (ix2 r k) = dIn U D W q (512 * t + r.val) (b + k.val) := by
  unfold outBlk dIn
  rw [din_at (cur x1 x4) (nxt i x2 x5) (fun s k => dPre U D (512 * t + s) (b + k)) (cur_at H) (nxt_at H) (up i x1 x2 x4 x5) (up_at H),
    ld_at _ x3 0 k 3 k rfl (by omega), ld_at _ x3 0 k 2 k rfl (by omega), ld_at _ x3 0 k 1 k rfl (by omega),
    ld_at _ x3 0 k 0 k rfl (by omega)]
  exact congr_arg₂ _ (congr_arg₂ _ (congr_arg₂ _ (congrArg _ (H.h3 3 _)) (congrArg _ (H.h3 2 _))) (congrArg _ (H.h3 1 _)))
    (congrArg _ (H.h3 0 _))

/-- The block of taps and bias after the point: what it held and the point's rows' share. -/
theorem acc_at (xo : Vec Ideal S8x1024 .f32) (r : Fin 8) (k : Fin 1024) :
    View.canon (accPieces i x0 x1 x2 x4 x5 xo
        ++ [⟨Rect.unit ![0, 0] ![8, 1024] inb_S8x1024_S8x1024_0_0, xo⟩]) (ix2 r k)
      = xo (ix2 r k) + ∑ s : Fin 512, term U D X p r.val (512 * t + s.val) (b + k.val) := by
  unfold accPieces
  simp only [List.cons_append, List.nil_append, ld_all]
  by_cases hr : 5 ≤ r.val
  · iterate 5 rw [canon_miss _ _ _ _ _ (by omega)]
    rw [canon_hit _ _ _ r k r k (by omega) (by omega)]
    rw [Finset.sum_eq_zero, add_zero]
    intro s _
    obtain ⟨n, hn⟩ := Nat.exists_eq_add_of_le' hr
    rw [hn]; rfl
  obtain h | h | h | h | h : r = 0 ∨ r = 1 ∨ r = 2 ∨ r = 3 ∨ r = 4 := by omega
  all_goals subst h
  · rw [canon_hit _ _ _ 0 k 0 k rfl (by omega), row0_at (cur x1 x4) (nxt i x2 x5) (fun s k => dPre U D (512 * t + s) (b + k)) (cur_at H) (nxt_at H), ld_at _ xo 0 k 0 k rfl (by omega)]
    exact congrArg _ (Finset.sum_congr rfl fun s _ => by rw [H.h0]; rfl)
  · iterate 1 rw [canon_miss _ _ _ _ _ (by first | omega | exact Or.inr (Or.inl (by decide)) | exact Or.inl (by decide))]
    rw [canon_hit _ _ _ 0 k 1 k rfl (by omega), row1_at (cur x1 x4) (nxt i x2 x5) (fun s k => dPre U D (512 * t + s) (b + k)) (cur_at H) (nxt_at H), ld_at _ xo 0 k 1 k rfl (by omega)]
    exact congrArg _ (Finset.sum_congr rfl fun s _ => by rw [H.h0]; rfl)
  · iterate 2 rw [canon_miss _ _ _ _ _ (by first | omega | exact Or.inr (Or.inl (by decide)) | exact Or.inl (by decide))]
    rw [canon_hit _ _ _ 0 k 2 k rfl (by omega), row2_at (fun s k => dPre U D (512 * t + s) (b + k)) (up i x1 x2 x4 x5) (up_at H), ld_at _ xo 0 k 2 k rfl (by omega)]
    exact congrArg _ (Finset.sum_congr rfl fun s _ => by rw [H.h0]; rfl)
  · iterate 3 rw [canon_miss _ _ _ _ _ (by first | omega | exact Or.inr (Or.inl (by decide)) | exact Or.inl (by decide))]
    rw [canon_hit _ _ _ 0 k 3 k rfl (by omega), row3_at (cur x1 x4) (fun s k => dPre U D (512 * t + s) (b + k)) (cur_at H), ld_at _ xo 0 k 3 k rfl (by omega)]
    exact congrArg _ (Finset.sum_congr rfl fun s _ => by rw [H.h0]; rfl)
  · iterate 4 rw [canon_miss _ _ _ _ _ (by first | omega | exact Or.inr (Or.inl (by decide)) | exact Or.inl (by decide))]
    rw [canon_hit _ _ _ 0 k 4 k rfl (by omega), row4_at (cur x1 x4) (fun s k => dPre U D (512 * t + s) (b + k)) (cur_at H), ld_at _ xo 0 k 4 k rfl (by omega)]
    exact congrArg _ (Finset.sum_congr rfl fun s _ => by rfl)

end point
end Cert.ConvXs
end
-- ==== Proof.ConvXs.Ref.lean ====
module
public import proofs.«01_k».proof.Proof.Gen.ConvXsRefIdeal.Read
public import proofs.«01_k».proof.Proof.Conv.Spec
public import proofs.«01_k».proof.Proof.Lib.Places

@[expose] public section

set_option maxRecDepth 16384

noncomputable section

/-! The reference's two results, element by element: the gradients of the specification, where every argument is real. -/

namespace Cert.ConvXs

open Idealize.ShloMosaic Idealize.SL.Sem Cert.ConvXsRefIdeal Cert.ConvXsRefIdeal.Gen Cert.ConvXsRefIdeal.Read Cert.Lib
open Cert.FfnAct (sg at2 at2_ix at2_lt IsReal sum_shift)
open Cert.Conv

variable (x0 : FVec Ideal S16384x8192 .bf16) (x1 : FVec Ideal S4x3072 .f32) (x2 : FVec Ideal S1x3072 .f32)
  (x3 : FVec Ideal S16384x2048 .f32) (x4 : FVec Ideal S16384x8704 .bf16)

/-- The convolution's result, as the reference computes it on the way forward. -/
abbrev conv : (⟨2, ![16384, 2048]⟩ : Shape).Idx → EReal := val_main_v39 (F := Ideal) x0 x1 x2

/-- The convolution of real numbers is real. -/
theorem conv_real (h0 : ∀ i, IsReal (x0 i)) (h1 : ∀ i, IsReal (x1 i)) (h2 : ∀ i, IsReal (x2 i))
    (r : Fin 16384) (k : Fin 2048) : IsReal (conv x0 x1 x2 (ix2 r k)) := by
  unfold conv
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v4, val_main_v3, val_main_v2, val_main_v1, val_main_v0, val_main_cst, val_main_cst_1]
  refine .add (.add (.add (.add ((h1 _).mul ?_) ((h1 _).mul ?_)) ((h1 _).mul ?_)) ((h1 _).mul (h0 _))) (h2 _)
  all_goals
    split
    · exact .zero
    · exact h0 _

section real
variable (h0 : ∀ i, IsReal (x0 i)) (h1 : ∀ i, IsReal (x1 i)) (h2 : ∀ i, IsReal (x2 i)) (h3 : ∀ i, IsReal (x3 i))
include h0 h1 h2 h3

/-- The gradient at the convolution's result, by the product rule, is the factored form. -/
theorem ref_du (r : Fin 16384) (k : Fin 2048) :
    val_main_v41 (F := Ideal) x0 x1 x2 x3 (ix2 r k) = dPre (conv x0 x1 x2) x3 r.val k.val := by
  unfold dPre
  rw [at2_ix, at2_ix]
  obtain ⟨d, hd⟩ := h3 (ix2 r k)
  obtain ⟨g, hg⟩ := conv_real x0 x1 x2 h0 h1 h2 r k
  pointwise [val_main_v41, val_main_call1_v1, val_main_call1_v2, val_main_call1_v0, val_main_v40_1, val_main_v40_2, val_main_call0_v4, val_main_call0_v3, val_main_call0_v2, val_main_call0_v1, val_main_call0_v0, val_main_call0_cst, val_main_call0_cst_0, val_main_call0_cst_1, val_main_call0_v6, val_main_call0_v7]
  unfold conv at *
  rw [hd, hg, ← dSilu_eq]
  unfold sg
  rw [zero_sub]

/-- The reference's gradient at the convolution's input, in the rows after the padding. -/
theorem ref_din (r : Fin 16384) (k : Fin 2048) :
    val_main_v88 (F := Ideal) x0 x1 x2 x3 (ix2 r k) = dIn (conv x0 x1 x2) x3 x1 0 r.val k.val := by
  unfold dIn
  pointwise [val_main_v88, val_main_v83, val_main_v82, val_main_v77, val_main_v76, val_main_v72, val_main_v71, val_main_v66, val_main_v65, val_main_v61, val_main_v60, val_main_v55, val_main_v54, val_main_v51, val_main_v46, val_main_v45, val_main_v33, val_main_v31, val_main_v30, val_main_v26, val_main_v24, val_main_v23, val_main_v19, val_main_v17, val_main_v16, val_main_v11, val_main_v9, val_main_v8, val_main_v2, val_main_cst_6, val_main_cst_10, val_main_cst_14, val_main_cst_18]
  refine congrArg₂ _ (congrArg₂ _ (congrArg₂ _ ?_ ?_) ?_) ?_
  · rw [ref_du x0 x1 x2 x3 h0 h1 h2 h3, mul_comm]
    exact congrArg _ (at2_eq x1 _ _ rfl (by dsimp only <;> omega))
  · split
    · rw [ref_du x0 x1 x2 x3 h0 h1 h2 h3, mul_comm]
      exact congrArg₂ _ (congrArg₂ (dPre _ _) (by dsimp only; omega) rfl) (at2_eq x1 _ _ rfl (by dsimp only <;> omega))
    · rw [dPre_out _ _ _ (by omega), zero_mul]
  · split
    · rw [ref_du x0 x1 x2 x3 h0 h1 h2 h3, mul_comm]
      exact congrArg₂ _ (congrArg₂ (dPre _ _) (by dsimp only; omega) rfl) (at2_eq x1 _ _ rfl (by dsimp only <;> omega))
    · rw [dPre_out _ _ _ (by omega), zero_mul]
  · split
    · rw [ref_du x0 x1 x2 x3 h0 h1 h2 h3, mul_comm]
      exact congrArg₂ _ (congrArg₂ (dPre _ _) (by dsimp only; omega) rfl) (at2_eq x1 _ _ rfl (by dsimp only <;> omega))
    · rw [dPre_out _ _ _ (by omega), zero_mul]

/-- The reference's first result: the gradient at the convolution's input in its own columns, the given array elsewhere. -/
theorem ref_in (r : Fin 16384) (k : Fin 8704) :
    val_main_v92 (F := Ideal) x0 x1 x2 x3 x4 (ix2 r k)
      = if 2048 ≤ k.val ∧ k.val < 4096 then dIn (conv x0 x1 x2) x3 x1 0 r.val (k.val - 2048) else x4 (ix2 r k) := by
  pointwise [val_main_v92, val_main_v91, val_main_v90, val_main_v89]
  split
  · rename_i h
    have h' : k.val < 2048 := h
    refine Eq.trans ?_ (if_neg (by omega)).symm
    rfl
  · rename_i h
    have h' : ¬k.val < 2048 := h
    split
    · rename_i g
      have g' : k.val - 2048 < 2048 := g
      exact (ref_din x0 x1 x2 x3 h0 h1 h2 h3 r ⟨k.val - 2048, g'⟩).trans (if_pos (by omega)).symm
    · rename_i g
      have g' : ¬k.val - 2048 < 2048 := g
      refine Eq.trans ?_ (if_neg (by omega)).symm
      exact (at2_eq x4 _ _ (t := r.val) (c := k.val) rfl (by dsimp only <;> omega)).trans (at2_ix x4 r k)

/-- The sum of the last tap's products over all tokens. -/
theorem ref_tap3 (k : Fin 2048) :
    ∑ t, val_main_v47 (F := Ideal) x0 x1 x2 x3 (ix2 t k) = dTaps (conv x0 x1 x2) x3 x0 2048 3 k.val := by
  rw [dTaps_3, Finset.sum_range]
  refine Finset.sum_congr rfl fun t _ => ?_
  pointwise [val_main_v47, val_main_v32, val_main_v6, val_main_v1, val_main_v0, val_main_v5, val_main_cst]
  rw [ref_du x0 x1 x2 x3 h0 h1 h2 h3]
  exact congrArg _ (at2_eq x0 _ _ rfl rfl)

/-- The sum of the third tap's products over all tokens. -/
theorem ref_tap2 (k : Fin 2048) :
    ∑ t, val_main_v56 (F := Ideal) x0 x1 x2 x3 (ix2 t k) = dTaps (conv x0 x1 x2) x3 x0 2048 2 k.val := by
  rw [dTaps_2, sum_shift (fun t => dPre (conv x0 x1 x2) x3 t k.val) (fun t => at2 x0 t (2048 + k.val)) _ _ (fun t h => dPre_out _ _ _ h),
    Finset.sum_range]
  refine Finset.sum_congr rfl fun t _ => ?_
  pointwise [val_main_v56, val_main_v25, val_main_v6, val_main_v1, val_main_v0, val_main_v5, val_main_cst]
  rw [ref_du x0 x1 x2 x3 h0 h1 h2 h3]
  refine congrArg _ ?_
  obtain ⟨R, hR⟩ : ∃ R : EReal, R = if t.val < 1 then 0 else at2 x0 (t.val - 1) (2048 + k.val) := ⟨_, rfl⟩
  refine Eq.trans ?_ hR
  split
  · rename_i h
    have h' : 2 + t.val < 3 := h
    exact ((if_pos (by omega)).symm).trans hR.symm
  · rename_i h
    have h' : ¬2 + t.val < 3 := h
    exact ((at2_eq x0 _ _ (by first | rfl | (dsimp only; omega)) rfl).trans (if_neg (by omega)).symm).trans hR.symm

/-- The sum of the second tap's products over all tokens. -/
theorem ref_tap1 (k : Fin 2048) :
    ∑ t, val_main_v67 (F := Ideal) x0 x1 x2 x3 (ix2 t k) = dTaps (conv x0 x1 x2) x3 x0 2048 1 k.val := by
  rw [dTaps_1, sum_shift (fun t => dPre (conv x0 x1 x2) x3 t k.val) (fun t => at2 x0 t (2048 + k.val)) _ _ (fun t h => dPre_out _ _ _ h),
    Finset.sum_range]
  refine Finset.sum_congr rfl fun t _ => ?_
  pointwise [val_main_v67, val_main_v18, val_main_v6, val_main_v1, val_main_v0, val_main_v5, val_main_cst]
  rw [ref_du x0 x1 x2 x3 h0 h1 h2 h3]
  refine congrArg _ ?_
  obtain ⟨R, hR⟩ : ∃ R : EReal, R = if t.val < 2 then 0 else at2 x0 (t.val - 2) (2048 + k.val) := ⟨_, rfl⟩
  refine Eq.trans ?_ hR
  split
  · rename_i h
    have h' : 1 + t.val < 3 := h
    exact ((if_pos (by omega)).symm).trans hR.symm
  · rename_i h
    have h' : ¬1 + t.val < 3 := h
    exact ((at2_eq x0 _ _ (by first | rfl | (dsimp only; omega)) rfl).trans (if_neg (by omega)).symm).trans hR.symm

/-- The sum of the first tap's products over all tokens. -/
theorem ref_tap0 (k : Fin 2048) :
    ∑ t, val_main_v78 (F := Ideal) x0 x1 x2 x3 (ix2 t k) = dTaps (conv x0 x1 x2) x3 x0 2048 0 k.val := by
  rw [dTaps_0, sum_shift (fun t => dPre (conv x0 x1 x2) x3 t k.val) (fun t => at2 x0 t (2048 + k.val)) _ _ (fun t h => dPre_out _ _ _ h),
    Finset.sum_range]
  refine Finset.sum_congr rfl fun t _ => ?_
  pointwise [val_main_v78, val_main_v10, val_main_v6, val_main_v1, val_main_v0, val_main_v5, val_main_cst]
  rw [ref_du x0 x1 x2 x3 h0 h1 h2 h3]
  refine congrArg _ ?_
  obtain ⟨R, hR⟩ : ∃ R : EReal, R = if t.val < 3 then 0 else at2 x0 (t.val - 3) (2048 + k.val) := ⟨_, rfl⟩
  refine Eq.trans ?_ hR
  split
  · rename_i h
    have h' : t.val < 3 := h
    exact ((if_pos (by omega)).symm).trans hR.symm
  · rename_i h
    have h' : ¬t.val < 3 := h
    exact ((at2_eq x0 _ _ (by first | rfl | (dsimp only; omega)) rfl).trans (if_neg (by omega)).symm).trans hR.symm

/-- The sum of the gradient over all tokens. -/
theorem ref_bias (k : Fin 2048) :
    ∑ t, val_main_v41 (F := Ideal) x0 x1 x2 x3 (ix2 t k) = dTaps (conv x0 x1 x2) x3 x0 2048 4 k.val := by
  rw [dTaps_4, Finset.sum_range]
  exact Finset.sum_congr rfl fun t _ => ref_du x0 x1 x2 x3 h0 h1 h2 h3 t k

/-- The reference's second result is the packed gradient of taps and bias. -/
theorem ref_taps (r : Fin 8) (k : Fin 2048) :
    val_main_v95 (F := Ideal) x0 x1 x2 x3 (ix2 r k) = dTaps (conv x0 x1 x2) x3 x0 2048 r.val k.val := by
  pointwise [val_main_v95, val_main_v94, val_main_v93, val_main_v86, val_main_v85, val_main_v84, val_main_v81, val_main_v80, val_main_v79, val_main_v75, val_main_v74, val_main_v73, val_main_v70, val_main_v69, val_main_v68, val_main_v64, val_main_v63, val_main_v62, val_main_v59, val_main_v58, val_main_v57, val_main_v53, val_main_v52, val_main_v50, val_main_v49, val_main_v48, val_main_v44, val_main_v43, val_main_v42, val_main_cst_2, val_main_cst_3, val_main_cst_4, val_main_cst_5, val_main_cst_7, val_main_cst_8, val_main_cst_9, val_main_cst_11, val_main_cst_12, val_main_cst_13, val_main_cst_15, val_main_cst_16, val_main_cst_17, val_main_cst_19, val_main_cst_20]
  have e0 := ref_tap0 x0 x1 x2 x3 h0 h1 h2 h3 k
  have e1 := ref_tap1 x0 x1 x2 x3 h0 h1 h2 h3 k
  have e2 := ref_tap2 x0 x1 x2 x3 h0 h1 h2 h3 k
  have e3 := ref_tap3 x0 x1 x2 x3 h0 h1 h2 h3 k
  have e4 := ref_bias x0 x1 x2 x3 h0 h1 h2 h3 k
  fin_vals r with hr
  all_goals simp [hr, e0, e1, e2, e3, e4]
  all_goals exact (dTaps_out _ _ _ _ _ _ (by omega)).symm

end real

end Cert.ConvXs
end
-- ==== Proof.ConvXs.Arrays.lean ====
module
public import proofs.«01_k».proof.Proof.ConvXs.Point
public import proofs.«01_k».proof.Proof.ConvXs.Ref
public import Idealize.ShloMosaic.Lib.Pipeline.ValueKit.Partial

@[expose] public section

set_option maxRecDepth 16384

noncomputable section

/-! The kernel's two result arrays, element by element. -/

namespace Cert.ConvXs

open Idealize.ShloMosaic Idealize.ShloMosaic.TcCoe Idealize.SL.Sem Cert.ConvXsIdeal Cert.ConvXsIdeal.Gen Cert.Lib
open Cert.FfnAct (at2 at2_ix at2_lt IsReal)
open Cert.Conv
open Idealize.ShloMosaic.Pipeline (Dat)

variable (m : (ℓ : Loc nD τ sig) → Buf (Elt Ideal) ℓ) (c : Dev nD)

/-! ## The arrays -/

/-- The projections, the taps, the cotangent and the array updated in place, as the launch finds them. -/
abbrev arrX : S16384x8192.Idx → EReal := m ((c : Thread nD τ).loc main_arg0)
abbrev arrW : S4x3072.Idx → EReal := m ((c : Thread nD τ).loc main_arg1)
abbrev arrD : S16384x2048.Idx → EReal := m ((c : Thread nD τ).loc main_arg3)
abbrev arrP : S16384x8704.Idx → EReal := m ((c : Thread nD τ).loc main_arg4)
/-- The convolution's result. -/
abbrev arrU : S16384x2048.Idx → EReal := conv (m ((c : Thread nD τ).loc main_arg0))
    (m ((c : Thread nD τ).loc main_arg1)) (m ((c : Thread nD τ).loc main_arg2))

/-- The convolution's result that the kernel is given is the reference's. -/
theorem V_conv : (V m c main_v39 : S16384x2048.Idx → EReal) = arrU m c := by
  unfold_abbrev_sides
  after_results
  rfl

/-- The first four rows of the padded taps are the taps of these columns. -/
theorem V_taps (r : Fin 4) (k : Fin 2048) : (V m c main_v41 : S8x2048.Idx → EReal) (ix2 (r.castLE (by decide) : Fin 8) k)
    = at2 (arrW m c) r.val (0 + k.val) := by
  unfold_abbrev_sides
  after_results
  pointwise []
  exact (dif_pos (show r.val < 4 from r.isLt)).trans (at2_eq _ _ _ rfl (by dsimp only <;> omega))

/-- The array updated in place holds its argument when the launch starts. -/
theorem V_into : (V m c main_v42_0 : S16384x8704.Idx → EReal) = arrP m c := by
  unfold_abbrev_sides
  after_results
  try rfl

/-! ## What each window's block holds at a point -/

theorem idx0 : ∀ t : Fin grid0.N, win0_0.index t 0 = t.val % 32 ∧ win0_0.index t 1 = 2 + t.val / 32 := by decide +kernel

theorem blk0_at (t : Fin cfg0.N) (r : Fin 512) (k : Fin 1024) :
    (iblk m c 0 t : S512x1024.Idx → EReal) (ix2 r k)
      = at2 (m := 16384) (n := 8192) (V m c main_arg0) (512 * (t.val % 32) + r.val) (2048 + (1024 * (t.val / 32) + k.val)) := by
  have hN : t.val < 64 := lt_of_lt_of_eq t.isLt N_0
  have hi := idx0 t
  rw [at2_lt (m := 16384) (n := 8192) _ (t := 512 * (t.val % 32) + r.val) (k := 2048 + (1024 * (t.val / 32) + k.val)) (by omega) (by omega)]
  unfold iblk
  rw [View.read_apply]
  refine congrArg (V m c main_arg0) (funext fun a => Fin.ext ?_)
  match a with
  | ⟨0, _⟩ => show win0_0.index t 0 * 512 + 1 * r.val = 512 * (t.val % 32) + r.val; rw [hi.1]; omega
  | ⟨1, _⟩ => show win0_0.index t 1 * 1024 + 1 * k.val = 2048 + (1024 * (t.val / 32) + k.val); rw [hi.2]; omega

theorem idx1 : ∀ t : Fin grid0.N, win0_1.index t 0 = t.val % 32 ∧ win0_1.index t 1 = t.val / 32 := by decide +kernel

theorem blk1_at (t : Fin cfg0.N) (r : Fin 512) (k : Fin 1024) :
    (iblk m c 1 t : S512x1024.Idx → EReal) (ix2 r k)
      = at2 (m := 16384) (n := 2048) (V m c main_v39) (512 * (t.val % 32) + r.val) (1024 * (t.val / 32) + k.val) := by
  have hN : t.val < 64 := lt_of_lt_of_eq t.isLt N_0
  have hi := idx1 t
  rw [at2_lt (m := 16384) (n := 2048) _ (t := 512 * (t.val % 32) + r.val) (k := 1024 * (t.val / 32) + k.val) (by omega) (by omega)]
  unfold iblk
  rw [View.read_apply]
  refine congrArg (V m c main_v39) (funext fun a => Fin.ext ?_)
  match a with
  | ⟨0, _⟩ => show win0_1.index t 0 * 512 + 1 * r.val = 512 * (t.val % 32) + r.val; rw [hi.1]; omega
  | ⟨1, _⟩ => show win0_1.index t 1 * 1024 + 1 * k.val = 1024 * (t.val / 32) + k.val; rw [hi.2]; omega

theorem idx2 : ∀ t : Fin grid0.N, t.val % 32 < 31 → win0_2.index t 0 = 32 * (t.val % 32 + 1) ∧ win0_2.index t 1 = t.val / 32 := by decide +kernel

theorem blk2_at (t : Fin cfg0.N) (h : t.val % 32 < 31) (r : Fin 16) (k : Fin 1024) :
    (iblk m c 2 t : S16x1024.Idx → EReal) (ix2 r k)
      = at2 (m := 16384) (n := 2048) (V m c main_v39) (512 * (t.val % 32) + (512 + r.val)) (1024 * (t.val / 32) + k.val) := by
  have hN : t.val < 64 := lt_of_lt_of_eq t.isLt N_0
  have hi := idx2 t h
  rw [at2_lt (m := 16384) (n := 2048) _ (t := 512 * (t.val % 32) + (512 + r.val)) (k := 1024 * (t.val / 32) + k.val) (by omega) (by omega)]
  unfold iblk
  rw [View.read_apply]
  refine congrArg (V m c main_v39) (funext fun a => Fin.ext ?_)
  match a with
  | ⟨0, _⟩ => show win0_2.index t 0 * 16 + 1 * r.val = 512 * (t.val % 32) + (512 + r.val); rw [hi.1]; omega
  | ⟨1, _⟩ => show win0_2.index t 1 * 1024 + 1 * k.val = 1024 * (t.val / 32) + k.val; rw [hi.2]; omega

theorem idx3 : ∀ t : Fin grid0.N, win0_3.index t 0 = 0 ∧ win0_3.index t 1 = t.val / 32 := by decide +kernel

theorem blk3_at (t : Fin cfg0.N) (r : Fin 8) (k : Fin 1024) :
    (iblk m c 3 t : S8x1024.Idx → EReal) (ix2 r k)
      = at2 (m := 8) (n := 2048) (V m c main_v41) (r.val) (1024 * (t.val / 32) + k.val) := by
  have hN : t.val < 64 := lt_of_lt_of_eq t.isLt N_0
  have hi := idx3 t
  rw [at2_lt (m := 8) (n := 2048) _ (t := r.val) (k := 1024 * (t.val / 32) + k.val) (by omega) (by omega)]
  unfold iblk
  rw [View.read_apply]
  refine congrArg (V m c main_v41) (funext fun a => Fin.ext ?_)
  match a with
  | ⟨0, _⟩ => show win0_3.index t 0 * 8 + 1 * r.val = r.val; rw [hi.1]; omega
  | ⟨1, _⟩ => show win0_3.index t 1 * 1024 + 1 * k.val = 1024 * (t.val / 32) + k.val; rw [hi.2]; omega

theorem idx4 : ∀ t : Fin grid0.N, win0_4.index t 0 = t.val % 32 ∧ win0_4.index t 1 = t.val / 32 := by decide +kernel

theorem blk4_at (t : Fin cfg0.N) (r : Fin 512) (k : Fin 1024) :
    (iblk m c 4 t : S512x1024.Idx → EReal) (ix2 r k)
      = at2 (m := 16384) (n := 2048) (V m c main_arg3) (512 * (t.val % 32) + r.val) (1024 * (t.val / 32) + k.val) := by
  have hN : t.val < 64 := lt_of_lt_of_eq t.isLt N_0
  have hi := idx4 t
  rw [at2_lt (m := 16384) (n := 2048) _ (t := 512 * (t.val % 32) + r.val) (k := 1024 * (t.val / 32) + k.val) (by omega) (by omega)]
  unfold iblk
  rw [View.read_apply]
  refine congrArg (V m c main_arg3) (funext fun a => Fin.ext ?_)
  match a with
  | ⟨0, _⟩ => show win0_4.index t 0 * 512 + 1 * r.val = 512 * (t.val % 32) + r.val; rw [hi.1]; omega
  | ⟨1, _⟩ => show win0_4.index t 1 * 1024 + 1 * k.val = 1024 * (t.val / 32) + k.val; rw [hi.2]; omega

theorem idx5 : ∀ t : Fin grid0.N, t.val % 32 < 31 → win0_5.index t 0 = 32 * (t.val % 32 + 1) ∧ win0_5.index t 1 = t.val / 32 := by decide +kernel

theorem blk5_at (t : Fin cfg0.N) (h : t.val % 32 < 31) (r : Fin 16) (k : Fin 1024) :
    (iblk m c 5 t : S16x1024.Idx → EReal) (ix2 r k)
      = at2 (m := 16384) (n := 2048) (V m c main_arg3) (512 * (t.val % 32) + (512 + r.val)) (1024 * (t.val / 32) + k.val) := by
  have hN : t.val < 64 := lt_of_lt_of_eq t.isLt N_0
  have hi := idx5 t h
  rw [at2_lt (m := 16384) (n := 2048) _ (t := 512 * (t.val % 32) + (512 + r.val)) (k := 1024 * (t.val / 32) + k.val) (by omega) (by omega)]
  unfold iblk
  rw [View.read_apply]
  refine congrArg (V m c main_arg3) (funext fun a => Fin.ext ?_)
  match a with
  | ⟨0, _⟩ => show win0_5.index t 0 * 16 + 1 * r.val = 512 * (t.val % 32) + (512 + r.val); rw [hi.1]; omega
  | ⟨1, _⟩ => show win0_5.index t 1 * 1024 + 1 * k.val = 1024 * (t.val / 32) + k.val; rw [hi.2]; omega

/-- A row of the padded taps, read as a row of the taps. -/
theorem taps_at (r : Fin 4) (k : ℕ) (h : k < 2048) :
    at2 (m := 8) (n := 2048) (V m c main_v41) r.val k = at2 (arrW m c) r.val (0 + k) := by
  rw [at2_lt (m := 8) (n := 2048) _ (t := r.val) (k := k) (by omega) h]
  exact V_taps m c r ⟨k, h⟩

/-- The six blocks at point `t`. -/
theorem blocks (t : Fin cfg0.N) : Blocks (grid0.coords t) (iblk m c 0 t) (iblk m c 1 t) (iblk m c 2 t) (iblk m c 3 t)
    (iblk m c 4 t) (iblk m c 5 t) (arrU m c) (arrD m c) (arrX m c) (arrW m c) 2048 0 (t.val % 32) (1024 * (t.val / 32)) where
  lt := Nat.mod_lt _ (by decide)
  at_i := (by decide +kernel : ∀ t : Fin grid0.N, (grid0.coords t 1).val = t.val % 32) t
  h0 r k := (blk0_at m c t r k).trans (by rw [V_main_arg0])
  h1 r k := (blk1_at m c t r k).trans (by rw [V_conv])
  h2 h r k := (blk2_at m c t h r k).trans (by rw [V_conv])
  h3 r k := (blk3_at m c t (r.castLE (by decide)) k).trans (taps_at m c r _ (by have := lt_of_lt_of_eq t.isLt N_0; omega))
  h4 r k := (blk4_at m c t r k).trans (by rw [V_main_arg3])
  h5 h r k := (blk5_at m c t h r k).trans (by rw [V_main_arg3])

/-- At the first point of a column block the packed gradient is that point's share. -/
theorem acc_first (t : Fin cfg0.N) (h : t.val % 32 = 0) (r : Fin 8) (k : Fin 1024) :
    ((outsAt0 m c t.val t.isLt).2 : S8x1024.Idx → EReal) (ix2 r k)
      = ∑ s ∈ Finset.range (512 * (t.val % 32 + 1)), term (arrU m c) (arrD m c) (arrX m c) 2048 r.val s (1024 * (t.val / 32) + k.val) := by
  rw [outsAt0_A m c t h]
  dsimp only
  rw [out_acc_A, acc_at (blocks m c t), ← sum_block 512 _ (t.val % 32)]
  refine congrArg (· + _) ?_
  rw [h]
  pointwise [k0_pay4]
  rfl

/-- After point `n` the packed gradient of taps and bias is the sum over the tokens of the column block seen so far. -/
theorem acc_after : ∀ (n : ℕ) (h : n < cfg0.N) (r : Fin 8) (k : Fin 1024),
    ((outsAt0 m c n h).2 : S8x1024.Idx → EReal) (ix2 r k)
      = ∑ t ∈ Finset.range (512 * (n % 32 + 1)), term (arrU m c) (arrD m c) (arrX m c) 2048 r.val t (1024 * (n / 32) + k.val)
  | 0, h, r, k => acc_first m c ⟨0, h⟩ rfl r k
  | n + 1, h, r, k => by
    by_cases h0 : (n + 1) % 32 = 0
    · exact acc_first m c ⟨n + 1, h⟩ h0 r k
    · rw [outsAt0_B m c ⟨n + 1, h⟩ h0]
      dsimp only
      rw [out_acc_B, acc_at (blocks m c ⟨n + 1, h⟩), ← sum_block 512 _ ((n + 1) % 32)]
      refine congrArg (· + _) ((acc_after n _ r k).trans ?_)
      rw [show n % 32 + 1 = (n + 1) % 32 by omega, show n / 32 = (n + 1) / 32 by omega]

/-- The first result: the gradient at the convolution's input in its own columns, the given array elsewhere. -/
abbrev resIn : S16384x8704.Idx → EReal := fun j =>
  if 2048 ≤ (j 1).val ∧ (j 1).val < 4096 then dIn (arrU m c) (arrD m c) (arrW m c) 0 (j 0).val ((j 1).val - 2048) else arrP m c j
/-- The second result: the packed gradient of taps and bias. -/
abbrev resAcc : S8x2048.Idx → EReal := fun j => dTaps (arrU m c) (arrD m c) (arrX m c) 2048 (j 0).val (j 1).val

theorem out6_at (t : Fin cfg0.N) (r : Fin 512) (k : Fin 1024) :
    ((outsAt0 m c t.val t.isLt).1 : S512x1024.Idx → EReal) (ix2 r k)
      = dIn (arrU m c) (arrD m c) (arrW m c) 0 (512 * (t.val % 32) + r.val) (1024 * (t.val / 32) + k.val) := by
  by_cases h0 : t.val % 32 = 0
  · rw [outsAt0_A m c t h0]
    dsimp only
    rw [out_in_A, in_at (blocks m c t)]
  · rw [outsAt0_B m c t h0]
    dsimp only
    rw [out_in_B, in_at (blocks m c t)]

theorem idx6 : ∀ t : Fin grid0.N, win0_6.index t 0 = t.val % 32 ∧ win0_6.index t 1 = 2 + t.val / 32 := by decide +kernel

/-- The first result array: every written block is the gradient, and the columns in no block keep what they held. -/
theorem final_in : (dats m 0 c).arrAt 6 cfg0.N = resIn m c := by
  refine (dats m 0 c).arrAt_eq_of_coversWhere_of_agree 6 (resIn m c)
    (fun β => 2 ≤ β (1 : Fin 2) ∧ β (1 : Fin 2) < 4) (by decide +kernel) (fun t hf y => ?_) (fun j hj => ?_)
  · have hi := idx6 t
    have hN : t.val < 64 := lt_of_lt_of_eq t.isLt N_0
    obtain ⟨r, k, hy⟩ := ix2_surj (m := 512) (n := 1024) ((cfg0.win 6).xinj (grid0.coords t) y)
    have e0 : (y 0).val = r.val := congrArg (fun i : S512x1024.Idx => (i 0).val) hy
    have e1 : (y 1).val = k.val := congrArg (fun i : S512x1024.Idx => (i 1).val) hy
    have p0 : ((((cfg0.win 6).blk t).view.emb y : S16384x8704.Idx) 0).val = 512 * (t.val % 32) + r.val := by
      show win0_6.index t 0 * 512 + 1 * (y 0).val = _
      rw [hi.1, e0]; omega
    have p1 : ((((cfg0.win 6).blk t).view.emb y : S16384x8704.Idx) 1).val = 2048 + (1024 * (t.val / 32) + k.val) := by
      show win0_6.index t 1 * 1024 + 1 * (y 1).val = _
      rw [hi.2, e1]; omega
    show (dats m 0 c).after 6 t ((cfg0.win 6).xinj (grid0.coords t) y) = _
    rw [after0_6, hy]
    refine (out6_at m c t r k).trans ?_
    unfold resIn
    rw [p0, p1, if_pos (by omega), Nat.add_sub_cancel_left]
  · have hj : ¬(2 ≤ (j 1).val / 1024 ∧ (j 1).val / 1024 < 4) := hj
    rw [A_eq]
    refine (congrFun (V_into m c) _).trans ?_
    have hc : ¬(2048 ≤ (j 1).val ∧ (j 1).val < 4096) := by omega
    exact (if_neg hc).symm

theorem idx7 : ∀ t : Fin grid0.N, win0_7.index t 0 = 0 ∧ win0_7.index t 1 = t.val / 32 := by decide +kernel

theorem out7_at (t : Fin cfg0.N) (ht : t.val % 32 = 31) (r : Fin 8) (k : Fin 1024) :
    ((outsAt0 m c t.val t.isLt).2 : S8x1024.Idx → EReal) (ix2 r k)
      = dTaps (arrU m c) (arrD m c) (arrX m c) 2048 r.val (1024 * (t.val / 32) + k.val) := by
  rw [acc_after m c t.val t.isLt r k, ht, show 512 * (31 + 1) = 16384 from by norm_num]
  unfold dTaps
  rfl

attribute [local irreducible] dTaps in
theorem flushed_acc (t : Fin cfg0.N) (hf : (cfg0.win 7).flush t = true) :
    (dats m 0 c).flushed 7 t = ((cfg0.win 7).blk t).view.read (Elt Ideal) (resAcc m c) := by
  rw [Value.flushed7]
  funext j
  rw [View.read_apply]
  obtain ⟨r, k, rfl⟩ := ix2_surj (m := 8) (n := 1024) j
  refine (out7_at m c t ((flush0_7 t).mp hf) r k).trans ?_
  have hi := idx7 t
  refine congrArg₂ (dTaps (arrU m c) (arrD m c) (arrX m c) 2048) ?_ ?_
  · show _ = win0_7.index t 0 * 8 + 1 * r.val; rw [hi.1]; omega
  · show _ = win0_7.index t 1 * 1024 + 1 * k.val; rw [hi.2]; omega

theorem final_acc : (dats m 0 c).arrAt 7 cfg0.N = resAcc m c :=
  (dats m 0 c).arrAt_eq_of_cover 7 (resAcc m c) (flushed_acc m c) fun i => by
    have h0 : (i 0 : Nat) < 8 := (i 0).isLt
    have h1 : (i 1 : Nat) < 2048 := (i 1).isLt
    let t : Fin cfg0.N := ⟨32 * ((i 1 : Nat) / 1024) + 31, lt_of_lt_of_eq (by omega : _ < 64) N_0.symm⟩
    have hi := idx7 t
    refine ⟨t, (flush0_7 t).mpr (by dsimp only [t]; omega), ?_⟩
    show i ∈ ((View.whole main_v42_1).slice (win0_7.rect t)).set
    rw [View.set_slice_whole, Rect.mem_set_unit]
    intro a
    match a with
    | ⟨0, _⟩ => show win0_7.index t 0 * 8 ≤ (i 0 : Nat) ∧ (i 0 : Nat) < win0_7.index t 0 * 8 + 8
                rw [hi.1]; omega
    | ⟨1, _⟩ => show win0_7.index t 1 * 1024 ≤ (i 1 : Nat) ∧ (i 1 : Nat) < win0_7.index t 1 * 1024 + 1024
                rw [hi.2]; dsimp only [t]; omega

end Cert.ConvXs
end
-- ==== Proof.ConvXs.Pre.lean ====
module
public import proofs.«01_k».proof.Pre_conv_xs_bwd_finite
public import proofs.«01_k».proof.Proof.FfnAct.Pre

@[expose] public section

noncomputable section

/-! The precondition read back: where it holds, every element of the four arguments that the gradient reads is real. -/

namespace Cert.ConvXs

open Idealize.ShloMosaic Cert.Pre_conv_xs_bwd_finite Cert.FfnAct

/-- The shape relations that the precondition's function takes. -/
theorem preFacts : Cert.Pre_conv_xs_bwd_finite.Facts where
  bitsLt_bf16_f32 := by decide
  bcast_S_S16384x8192 := by decide
  reducesTo_S16384x8192_S_d0_1 := by decide
  h_S_ := by decide
  bcast_S_S4x3072 := by decide
  reducesTo_S4x3072_S_d0_1 := by decide
  bcast_S_S1x3072 := by decide
  reducesTo_S1x3072_S_d0_1 := by decide
  bcast_S_S16384x2048 := by decide
  reducesTo_S16384x2048_S_d0_1 := by decide

variable [Cert.Pre_conv_xs_bwd_finite.Facts]

theorem real_of_pre (x0 : FVec Ideal S16384x8192 .bf16) (x1 : FVec Ideal S4x3072 .f32) (x2 : FVec Ideal S1x3072 .f32)
    (x3 : FVec Ideal S16384x2048 .f32) (x4 : FVec Ideal S16384x8704 .bf16)
    (e : Cert.Pre_conv_xs_bwd_finite.fn (F := Ideal) x0 x1 x2 x3 x4 = fun _ => 1#1) :
    (∀ i, IsReal (x0 i)) ∧ (∀ i, IsReal (x1 i)) ∧ (∀ i, IsReal (x2 i)) ∧ ∀ i, IsReal (x3 i) := by
  have e := congrFun e (fun a => nomatch a)
  haveI : Subsingleton S_.Idx := ⟨fun a b => funext fun i => nomatch i⟩
  unfold Cert.Pre_conv_xs_bwd_finite.fn Cert.Pre_conv_xs_bwd_finite.fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨fun i => Cert.FfnAct.real_of_lt _ _ i (Host.reduce_andi_all _ _ _ _ _ e0 i),
    fun i => Cert.FfnAct.real_of_lt _ _ i (Host.reduce_andi_all _ _ _ _ _ e1 i),
    fun i => Cert.FfnAct.real_of_lt _ _ i (Host.reduce_andi_all _ _ _ _ _ e2 i),
    fun i => Cert.FfnAct.real_of_lt _ _ i (Host.reduce_andi_all _ _ _ _ _ e3 i)⟩

end Cert.ConvXs
end
-- ==== Proof.ConvXs.Main.lean ====
module
public import proofs.«01_k».proof.Proof.ConvXs.Arrays
public import proofs.«01_k».proof.Proof.ConvXs.Pre
public import proofs.«01_k».proof.Proof.Gen.ConvXsRefIdeal.Run
public import proofs.«01_k».proof.Defs
public import Idealize.ShloMosaic.Lib.Quiescent

@[expose] public section

set_option maxRecDepth 16384

noncomputable section

/-! The claims about the gradient of the convolution that makes the inputs of the recurrence. -/

namespace Cert.ConvXs

open Idealize.ShloMosaic Idealize.ShloMosaic.TcCoe Idealize.SL.Sem Cert.Lib

/-- The reference runs, leaves its arguments and ends with every counter at zero: it has no semaphores. -/
theorem referenceFrame : Cert.quiescent_ConvXsRefIdeal (hConvXsRefIdeal := Cert.ConvXsRefIdeal.Gen.facts) :=
  fun m ρ _ => (θ_run Cert.ConvXsRefIdeal.defs _ _).mono (fun r h => And.intro (fun c => (h c).2.2)
      (Idealize.ShloMosaic.sem_eq_zero_of_no_sems (by decide) r.2))
    (Cert.ConvXsRefIdeal.Value.run (F := Ideal) m ρ)

/-- The kernel's two results are the reference's: the array updated in place, and the packed gradient of taps and bias. -/
theorem values : letI := preFacts
    Cert.algebraic_ConvXsIdeal_ConvXsRefIdeal_pre_conv_xs_bwd_finite (hConvXsIdeal := Cert.ConvXsIdeal.Gen.facts) (hConvXsRefIdeal := Cert.ConvXsRefIdeal.Gen.facts) := by
  letI := preFacts
  intro m g m' g' hpre hargs
  refine ⟨fun c => resIn m c, fun c => resAcc m c, ?_, ?_⟩
  · refine (θ_run Cert.ConvXsIdeal.defs _ _).mono (fun r h c => ?_) (Cert.ConvXsIdeal.Value.run_blocks m g)
    obtain ⟨h0, h1, h2⟩ := h c
    exact ⟨h0.trans (final_in m c), h1.trans (final_acc m c), h2⟩
  · refine (θ_run Cert.ConvXsRefIdeal.defs _ _).mono (fun r h c => ?_) (Cert.ConvXsRefIdeal.Value.run m' g')
    obtain ⟨h0, h1, h2⟩ := h c
    obtain ⟨a0, a1, a2, a3, a4⟩ := hargs c
    obtain ⟨p0, p1, p2, p3⟩ := real_of_pre _ _ _ _ _ (hpre c)
    refine ⟨h0.trans ?_, h1.trans ?_, h2⟩
    · rw [Cert.ConvXsRefIdeal.Read.val_main_v92_eq, a0, a1, a2, a3, a4]
      funext j
      obtain ⟨t, k, rfl⟩ := ix2_surj (m := 16384) (n := 8704) j
      exact ref_in _ _ _ _ _ p0 p1 p2 p3 t k
    · rw [Cert.ConvXsRefIdeal.Read.val_main_v95_eq, a0, a1, a2, a3]
      funext j
      obtain ⟨t, k, rfl⟩ := ix2_surj (m := 8) (n := 2048) j
      exact ref_taps _ _ _ _ p0 p1 p2 p3 t k

end Cert.ConvXs
end
-- ==== Proof.ConvBc.Pieces.lean ====
module
public import proofs.«01_k».proof.Proof.Gen.ConvBcIdeal.Value
public import proofs.«01_k».proof.Proof.Lib.Places

@[expose] public section

set_option maxRecDepth 16384

noncomputable section

/-! What one grid point leaves in the output blocks, over the blocks it read. -/

namespace Cert.ConvBc

open Idealize.ShloMosaic Idealize.ShloMosaic.TcCoe Idealize.SL.Sem Cert.ConvBcIdeal Cert.ConvBcIdeal.Gen Cert.Lib

/-- A whole block of 512 rows. -/
abbrev all512 : Rect S512x1024 := Rect.unit ![0, 0] ![512, 1024] inb_S512x1024_S512x1024_0_0
/-- The first eight rows of a block of sixteen. -/
abbrev top8 : Rect S16x1024 := Rect.unit ![0, 0] ![8, 1024] inb_S16x1024_S8x1024_0_0

/-- A load of a whole block gives the block. -/
theorem ld_all {t : EltTy} (x : Vec Ideal S512x1024 t) : View.ld x all512 = x := by
  rw [View.ld_unit_zero (S := S512x1024) (funext fun a => by fin_cases a <;> rfl)]

variable (i : grid0.Coords) (x0 : Vec Ideal S512x1024 .bf16) (x1 : Vec Ideal S512x1024 .bf16) (x2 : Vec Ideal S16x1024 .bf16) (x3 : Vec Ideal S8x1024 .f32) (x4 : Vec Ideal S512x1024 .f32) (x5 : Vec Ideal S16x1024 .f32)

/-- Whether the point is before the last one of its column block, as the body tests it. -/
abbrev before : BitVec 1 := Scalar.cmpi .slt (BitVec.ofNat 32 (i 1).val) 31#32
/-- The gradient on the block's own rows. -/
def cur : Vec Ideal S512x1024 .f32 := k0_pay5 (F := Ideal) (View.ld x4 all512) (View.ld x1 all512)
/-- The gradient on the eight rows after the block. -/
def nxt : Vec Ideal S8x1024 .f32 := k0_pay9 (F := Ideal) (before i) (View.ld x5 top8) (k0_pay7 (View.ld x2 top8)) (k0_pay8 (View.ld x2 top8)) (Scalar.ofBits (F := Ideal) .f32 0x3F800000#32)
/-- The block's own rows moved up by one. -/
def up : Vec Ideal S512x1024 .f32 :=
  k0_pay15 (F := Ideal) (cur x1 x4) (before i) (View.ld x5 top8) (k0_pay7 (View.ld x2 top8)) (k0_pay8 (View.ld x2 top8)) (Scalar.ofBits (F := Ideal) .f32 0x3F800000#32)

/-- The point's block of the gradient at the convolution's input. -/
def outBlk : Vec Ideal S512x1024 .bf16 :=
  k0_pay3 (F := Ideal) (k0_pay18 (cur x1 x4) (nxt i x2 x5) (k0_pay12 (cur x1 x4) (View.ld x3 (Rect.unit ![3, 0] ![1, 1024] inb_S8x1024_S1x1024_3_0))) (up i x1 x2 x4 x5)
      (View.ld x3 (Rect.unit ![2, 0] ![1, 1024] inb_S8x1024_S1x1024_2_0)) (View.ld x3 (Rect.unit ![1, 0] ![1, 1024] inb_S8x1024_S1x1024_1_0)))
    (k0_pay20 (cur x1 x4)) (k0_pay21 (nxt i x2 x5)) (View.ld x3 (Rect.unit ![0, 0] ![1, 1024] inb_S8x1024_S1x1024_0_0))

/-- The row stores into the packed gradient, the last one first, over the contents `xo` of the block. -/
def accPieces (xo : Vec Ideal S8x1024 .f32) : List (View.Piece (Elt Ideal) S8x1024 .f32) :=
  [⟨Rect.unit ![0, 0] ![1, 1024] inb_S8x1024_S1x1024_0_0,
      k0_pay2 (k0_pay10 (View.ld x0 all512)) k0_pay11 (k0_pay20 (cur x1 x4)) (k0_pay21 (nxt i x2 x5)) (View.ld xo (Rect.unit ![0, 0] ![1, 1024] inb_S8x1024_S1x1024_0_0))⟩,
    ⟨Rect.unit ![1, 0] ![1, 1024] inb_S8x1024_S1x1024_1_0,
      k0_pay19 (cur x1 x4) (nxt i x2 x5) (k0_pay10 (View.ld x0 all512)) k0_pay11 (View.ld xo (Rect.unit ![1, 0] ![1, 1024] inb_S8x1024_S1x1024_1_0))⟩,
    ⟨Rect.unit ![2, 0] ![1, 1024] inb_S8x1024_S1x1024_2_0,
      k0_pay16 (k0_pay10 (View.ld x0 all512)) k0_pay11 (up i x1 x2 x4 x5) (View.ld xo (Rect.unit ![2, 0] ![1, 1024] inb_S8x1024_S1x1024_2_0))⟩,
    ⟨Rect.unit ![3, 0] ![1, 1024] inb_S8x1024_S1x1024_3_0,
      k0_pay14 (cur x1 x4) (View.ld x0 all512) (View.ld xo (Rect.unit ![3, 0] ![1, 1024] inb_S8x1024_S1x1024_3_0))⟩,
    ⟨Rect.unit ![4, 0] ![1, 1024] inb_S8x1024_S1x1024_4_0, k0_pay13 (cur x1 x4) (View.ld xo (Rect.unit ![4, 0] ![1, 1024] inb_S8x1024_S1x1024_4_0))⟩]

variable (c : Dev nD) (arg2 : Memref sig .tc .vmem S512x1024 .bf16) (harg2 : arg2.IsWhole) (arg3 : Memref sig .tc .vmem S512x1024 .bf16) (harg3 : arg3.IsWhole) (arg4 : Memref sig .tc .vmem S16x1024 .bf16) (harg4 : arg4.IsWhole) (arg5 : Memref sig .tc .vmem S8x1024 .f32) (harg5 : arg5.IsWhole) (arg6 : Memref sig .tc .vmem S512x1024 .f32) (harg6 : arg6.IsWhole) (arg7 : Memref sig .tc .vmem S16x1024 .f32) (harg7 : arg7.IsWhole) (arg9 : Memref sig .tc .vmem S512x1024 .bf16) (harg9 : arg9.IsWhole) (arg10 : Memref sig .tc .vmem S8x1024 .f32) (harg10 : arg10.IsWhole)

theorem out_in_A (hc0 : cond0_0 i) :
    out0_A_6 c i arg2 harg2 arg3 harg3 arg4 harg4 arg5 harg5 arg6 harg6 arg7 harg7 arg9 harg9 arg10 harg10 hc0 x0 x1 x2 x3 x4 x5 = outBlk i x1 x2 x3 x4 x5 := by
  unfold out0_A_6
  rw [View.read_writes_junk_eq_canon]
  unfold kernelRun0_A
  dsimp only
  sl_unfold_run_names
  simp only [View.readAt_eq_ld, Memref.IsWhole.read_unread]
  rw [View.canon_unit_zero (S := S512x1024) (funext fun a => by fin_cases a <;> rfl)]
  rfl

theorem out_in_B (hc0 : ¬cond0_0 i) (xo : Vec Ideal S8x1024 .f32) :
    out0_B_6 c i arg2 harg2 arg3 harg3 arg4 harg4 arg5 harg5 arg6 harg6 arg7 harg7 arg9 harg9 arg10 harg10 hc0 x0 x1 x2 x3 x4 x5 xo = outBlk i x1 x2 x3 x4 x5 := by
  unfold out0_B_6
  rw [View.read_writes_junk_eq_canon]
  unfold kernelRun0_B
  dsimp only
  sl_unfold_run_names
  simp only [View.readAt_eq_ld, Memref.IsWhole.read_unread]
  rw [View.canon_unit_zero (S := S512x1024) (funext fun a => by fin_cases a <;> rfl)]
  rfl

/-- After the first point of a column block the accumulator is the row stores over what it held. -/
theorem out_acc_B (hc0 : ¬cond0_0 i) (xo : Vec Ideal S8x1024 .f32) :
    out0_B_7 c i arg2 harg2 arg3 harg3 arg4 harg4 arg5 harg5 arg6 harg6 arg7 harg7 arg9 harg9 arg10 harg10 hc0 x0 x1 x2 x3 x4 x5 xo = View.canon (accPieces i x0 x1 x2 x4 x5 xo
        ++ [⟨Rect.unit ![0, 0] S8x1024.size inb_S8x1024_S8x1024_0_0, xo⟩]) := by
  rw [← read_over arg10 harg10 _ xo inb_S8x1024_S8x1024_0_0 (funext fun a => by fin_cases a <;> rfl)]
  unfold out0_B_7
  unfold kernelRun0_B
  dsimp only
  sl_unfold_run_names
  simp only [View.readAt_eq_ld, Memref.IsWhole.read_unread]
  rfl

/-- At the first point of a column block it is the row stores over zeros. -/
theorem out_acc_A (hc0 : cond0_0 i) :
    out0_A_7 c i arg2 harg2 arg3 harg3 arg4 harg4 arg5 harg5 arg6 harg6 arg7 harg7 arg9 harg9 arg10 harg10 hc0 x0 x1 x2 x3 x4 x5 = View.canon (accPieces i x0 x1 x2 x4 x5 (k0_pay4 (F := Ideal))
        ++ [⟨Rect.unit ![0, 0] S8x1024.size inb_S8x1024_S8x1024_0_0, k0_pay4 (F := Ideal)⟩]) := by
  unfold out0_A_7
  rw [View.read_writes_eq_canon _ _ _ (cover0_A_7 c i arg2 harg2 arg3 harg3 arg4 harg4 arg5 harg5 arg6 harg6 arg7 harg7 arg9 harg9 arg10 harg10 hc0 x0 x1 x2 x3 x4 x5)]
  unfold kernelRun0_A
  dsimp only
  sl_unfold_words
  simp (disch := decide) only [View.readAt_eq_ld, Memref.IsWhole.read_unread, View.readCov_skip, View.readCov_fill]
  rfl

end Cert.ConvBc
end
-- ==== Proof.ConvBc.Body.lean ====
module
public import proofs.«01_k».proof.Proof.Gen.ConvBcIdeal.Skeleton
public import proofs.«01_k».proof.Proof.Conv.Spec
public import proofs.«01_k».proof.Proof.FfnAct.Body

@[expose] public section

set_option maxRecDepth 16384

noncomputable section

/-! What the kernel body computes from the blocks it loads, read element by element. -/

namespace Cert.ConvBc

open Idealize.ShloMosaic Idealize.SL.Sem Cert.ConvBcIdeal Cert.ConvBcIdeal.Gen
open Cert.FfnAct (sg at2 sge_small)
open Cert.Conv
variable [Cert.ConvBcIdeal.Facts]

/-- The gradient at the convolution's result on the block's own rows. -/
theorem pre_at (d : FVec Ideal S512x1024 .f32) (g : FVec Ideal S512x1024 .bf16) (r : Fin 512) (k : Fin 1024) :
    k0_pay5 (F := Ideal) d g (ix2 r k) = dSilu (d (ix2 r k)) (g (ix2 r k)) := by
  pointwise [k0_pay5]; rfl

/-- The gradient on the rows after the block; zero after the last block. -/
theorem pre_next_at (i : BitVec 1) (d : FVec Ideal S8x1024 .f32) (g : FVec Ideal S8x1024 .bf16) (r : Fin 8) (k : Fin 1024) :
    k0_pay9 (F := Ideal) i d (k0_pay7 g) (k0_pay8 g) (Scalar.ofBits (F := Ideal) .f32 0x3F800000#32) (ix2 r k)
      = Scalar.select i (dSilu (d (ix2 r k)) (g (ix2 r k))) 0 := by
  pointwise [k0_pay9, k0_pay7, k0_pay8, k0_pay6]; rfl

section block
variable (x : FVec Ideal S512x1024 .f32) (y : FVec Ideal S8x1024 .f32) (f : ℕ → ℕ → EReal)
  (hx : ∀ (r : Fin 512) (k : Fin 1024), x (ix2 r k) = f r.val k.val)
  (hy : ∀ (r : Fin 8) (k : Fin 1024), y (ix2 r k) = f (512 + r.val) k.val)
include hx

/-- The block moved up by one row, the row after the block coming in below. -/
theorem up1_at (i : BitVec 1) (d v w : FVec Ideal S8x1024 .f32) (o : Ideal .f32)
    (hn : ∀ (r : Fin 8) (k : Fin 1024), k0_pay9 (F := Ideal) i d v w o (ix2 r k) = f (512 + r.val) k.val)
    (r : Fin 512) (k : Fin 1024) :
    k0_pay15 (F := Ideal) x i d v w o (ix2 r k) = f (r.val + 1) k.val := by
  have hy := hn
  pointwise [k0_pay15]
  split
  · rw [hx]; congr 1; dsimp only; omega
  · rw [sge_small _ 7 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

include hy

/-- The block moved up by two rows, the two rows after the block coming in below. -/
theorem up2_at (r : Fin 512) (k : Fin 1024) : k0_pay17 (F := Ideal) x y (ix2 r k) = f (r.val + 2) k.val := by
  pointwise [k0_pay17]
  split
  · rw [hx]; congr 1; dsimp only; omega
  · rw [sge_small _ 6 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

/-- The block moved up by three rows, the three rows after the block coming in below. -/
theorem up3_at (r : Fin 512) (k : Fin 1024) :
    k0_pay1 (F := Ideal) (k0_pay20 x) (k0_pay21 y) (ix2 r k) = f (r.val + 3) k.val := by
  pointwise [k0_pay1, k0_pay20, k0_pay21]
  split
  · rw [hx]; congr 1; dsimp only; omega
  · rw [sge_small _ 5 (by omega) (by omega)]
    split
    · rw [show ∀ a b : EReal, Scalar.select 1#1 a b = a from fun _ _ => rfl, hy]; congr 1; dsimp only; omega
    · rw [show ∀ a b : EReal, Scalar.select 0#1 a b = b from fun _ _ => rfl, hx]; congr 1; dsimp only; omega

variable (u : FVec Ideal S512x1024 .f32) (hu : ∀ (r : Fin 512) (k : Fin 1024), u (ix2 r k) = f (r.val + 1) k.val)
include hu

/-- The gradient at the convolution's input, from the block's own rows and the rows after them. -/
theorem din_at (w3 w2 w1 w0 : FVec Ideal S1x1024 .f32) (r : Fin 512) (k : Fin 1024) :
    k0_pay3 (F := Ideal) (k0_pay18 x y (k0_pay12 x w3) u w2 w1) (k0_pay20 x) (k0_pay21 y) w0 (ix2 r k)
      = f r.val k.val * w3 (ix2 0 k) + f (r.val + 1) k.val * w2 (ix2 0 k) + f (r.val + 2) k.val * w1 (ix2 0 k)
        + f (r.val + 3) k.val * w0 (ix2 0 k) := by
  pointwise [k0_pay3, k0_pay18, k0_pay12]
  rw [hx, hu, up2_at x y f hx hy, up3_at x y f hx hy]

variable (z : FVec Ideal S512x1024 .bf16)

omit hy hu in
/-- The bias row: what it held and the sum of the block's rows. -/
theorem row4_at (p : FVec Ideal S1x1024 .f32) (k : Fin 1024) :
    k0_pay13 (F := Ideal) x p (ix2 0 k) = p (ix2 0 k) + ∑ t : Fin 512, f t.val k.val := by
  pointwise [k0_pay13, k0_pay11]
  exact congrArg _ (Finset.sum_congr rfl fun t _ => by rw [hx t k])

omit hy hu in
/-- The last tap's row: the rows times the convolution's input. -/
theorem row3_at (p : FVec Ideal S1x1024 .f32) (k : Fin 1024) :
    k0_pay14 (F := Ideal) x z p (ix2 0 k) = p (ix2 0 k) + ∑ t : Fin 512, f t.val k.val * z (ix2 t k) := by
  pointwise [k0_pay14, k0_pay10, k0_pay11]
  exact congrArg _ (Finset.sum_congr rfl fun t _ => by rw [hx t k])

omit hx hy in
/-- The third tap's row: the rows one further down. -/
theorem row2_at (p : FVec Ideal S1x1024 .f32) (k : Fin 1024) :
    k0_pay16 (F := Ideal) (k0_pay10 z) k0_pay11 u p (ix2 0 k) = p (ix2 0 k) + ∑ t : Fin 512, f (t.val + 1) k.val * z (ix2 t k) := by
  pointwise [k0_pay16, k0_pay10, k0_pay11]
  exact congrArg _ (Finset.sum_congr rfl fun t _ => by rw [hu t k])

omit hu in
/-- The second tap's row: the rows two further down. -/
theorem row1_at (p : FVec Ideal S1x1024 .f32) (k : Fin 1024) :
    k0_pay19 (F := Ideal) x y (k0_pay10 z) k0_pay11 p (ix2 0 k) = p (ix2 0 k) + ∑ t : Fin 512, f (t.val + 2) k.val * z (ix2 t k) := by
  pointwise [k0_pay19, k0_pay10, k0_pay11]
  exact congrArg _ (Finset.sum_congr rfl fun t _ => by rw [up2_at x y f hx hy])

omit hu in
/-- The first tap's row: the rows three further down. -/
theorem row0_at (p : FVec Ideal S1x1024 .f32) (k : Fin 1024) :
    k0_pay2 (F := Ideal) (k0_pay10 z) k0_pay11 (k0_pay20 x) (k0_pay21 y) p (ix2 0 k) = p (ix2 0 k) + ∑ t : Fin 512, f (t.val + 3) k.val * z (ix2 t k) := by
  pointwise [k0_pay2, k0_pay10, k0_pay11]
  exact congrArg _ (Finset.sum_congr rfl fun t _ => by rw [up3_at x y f hx hy])

end block
end Cert.ConvBc
end
-- ==== Proof.ConvBc.Point.lean ====
module
public import proofs.«01_k».proof.Proof.ConvBc.Pieces
public import proofs.«01_k».proof.Proof.ConvBc.Body

@[expose] public section

set_option maxRecDepth 16384

noncomputable section

/-! What one grid point leaves, element by element: the gradient at the convolution's input on its 512 rows, and those
rows' share of the gradient of taps and bias. -/

namespace Cert.ConvBc

open Idealize.ShloMosaic Idealize.ShloMosaic.TcCoe Idealize.SL.Sem Cert.ConvBcIdeal Cert.ConvBcIdeal.Gen Cert.Lib
open Cert.FfnAct (at2)
open Cert.Conv

/-- Whether the point is before the last one of its column block, as the program tests it. -/
theorem before_test (t : ℕ) (h : t < 32) :
    Scalar.cmpi CmpIPredicate.slt (BitVec.ofNat 32 t) 31#32 = if t < 31 then 1#1 else 0#1 := by
  interval_cases t <;> rfl

section point
variable (i : grid0.Coords) (x0 : Vec Ideal S512x1024 .bf16) (x1 : Vec Ideal S512x1024 .bf16) (x2 : Vec Ideal S16x1024 .bf16) (x3 : Vec Ideal S8x1024 .f32) (x4 : Vec Ideal S512x1024 .f32) (x5 : Vec Ideal S16x1024 .f32)
  {n : ℕ} (U D : (⟨2, ![16384, n]⟩ : Shape).Idx → EReal) (X : S16384x8192.Idx → EReal) (W : S4x3072.Idx → EReal)
  (p q t b : ℕ)

/-- The six input blocks of point `t` of the column block that starts at column `b` are the arrays' rows `512 t …`; the
    blocks of following rows matter only before the last point. -/
structure Blocks : Prop where
  lt : t < 32
  at_i : (i 1).val = t
  h0 : ∀ (r : Fin 512) (k : Fin 1024), x0 (ix2 r k) = at2 X (512 * t + r.val) (p + (b + k.val))
  h1 : ∀ (r : Fin 512) (k : Fin 1024), x1 (ix2 r k) = at2 U (512 * t + r.val) (b + k.val)
  h2 : t < 31 → ∀ (r : Fin 16) (k : Fin 1024), x2 (ix2 r k) = at2 U (512 * t + (512 + r.val)) (b + k.val)
  h3 : ∀ (r : Fin 4) (k : Fin 1024), x3 (ix2 (r.castLE (by decide) : Fin 8) k) = at2 W r.val (q + (b + k.val))
  h4 : ∀ (r : Fin 512) (k : Fin 1024), x4 (ix2 r k) = at2 D (512 * t + r.val) (b + k.val)
  h5 : t < 31 → ∀ (r : Fin 16) (k : Fin 1024), x5 (ix2 r k) = at2 D (512 * t + (512 + r.val)) (b + k.val)

variable {i x0 x1 x2 x3 x4 x5 U D X W p q t b}
variable (H : Blocks i x0 x1 x2 x3 x4 x5 U D X W p q t b)
include H

theorem cur_at (r : Fin 512) (k : Fin 1024) : cur x1 x4 (ix2 r k) = dPre U D (512 * t + r.val) (b + k.val) := by
  unfold cur
  rw [pre_at, ld_all, ld_all, H.h1, H.h4]
  rfl

theorem nxt_at (r : Fin 8) (k : Fin 1024) : nxt i x2 x5 (ix2 r k) = dPre U D (512 * t + (512 + r.val)) (b + k.val) := by
  have := H.lt
  unfold nxt before
  rw [pre_next_at, H.at_i, before_test t H.lt]
  split
  · rw [ld_at _ x5 r k (r.castLE (by decide)) k (by simp) (by omega),
      ld_at _ x2 r k (r.castLE (by decide)) k (by simp) (by omega), H.h2 (by omega), H.h5 (by omega)]
    rfl
  · rw [dPre_out _ _ _ (by omega)]; rfl

theorem up_at (r : Fin 512) (k : Fin 1024) : up i x1 x2 x4 x5 (ix2 r k) = dPre U D (512 * t + (r.val + 1)) (b + k.val) :=
  up1_at (cur x1 x4) (fun s k => dPre U D (512 * t + s) (b + k)) (cur_at H) _ _ _ _ _ (nxt_at H) r k

/-- The point's block of the gradient at the convolution's input. -/
theorem in_at (r : Fin 512) (k : Fin 1024) :
    outBlk i x1 x2 x3 x4 x5 (ix2 r k) = dIn U D W q (512 * t + r.val) (b + k.val) := by
  unfold outBlk dIn
  rw [din_at (cur x1 x4) (nxt i x2 x5) (fun s k => dPre U D (512 * t + s) (b + k)) (cur_at H) (nxt_at H) (up i x1 x2 x4 x5) (up_at H),
    ld_at _ x3 0 k 3 k rfl (by omega), ld_at _ x3 0 k 2 k rfl (by omega), ld_at _ x3 0 k 1 k rfl (by omega),
    ld_at _ x3 0 k 0 k rfl (by omega)]
  exact congr_arg₂ _ (congr_arg₂ _ (congr_arg₂ _ (congrArg _ (H.h3 3 _)) (congrArg _ (H.h3 2 _))) (congrArg _ (H.h3 1 _)))
    (congrArg _ (H.h3 0 _))

/-- The block of taps and bias after the point: what it held and the point's rows' share. -/
theorem acc_at (xo : Vec Ideal S8x1024 .f32) (r : Fin 8) (k : Fin 1024) :
    View.canon (accPieces i x0 x1 x2 x4 x5 xo
        ++ [⟨Rect.unit ![0, 0] ![8, 1024] inb_S8x1024_S8x1024_0_0, xo⟩]) (ix2 r k)
      = xo (ix2 r k) + ∑ s : Fin 512, term U D X p r.val (512 * t + s.val) (b + k.val) := by
  unfold accPieces
  simp only [List.cons_append, List.nil_append, ld_all]
  by_cases hr : 5 ≤ r.val
  · iterate 5 rw [canon_miss _ _ _ _ _ (by omega)]
    rw [canon_hit _ _ _ r k r k (by omega) (by omega)]
    rw [Finset.sum_eq_zero, add_zero]
    intro s _
    obtain ⟨n, hn⟩ := Nat.exists_eq_add_of_le' hr
    rw [hn]; rfl
  obtain h | h | h | h | h : r = 0 ∨ r = 1 ∨ r = 2 ∨ r = 3 ∨ r = 4 := by omega
  all_goals subst h
  · rw [canon_hit _ _ _ 0 k 0 k rfl (by omega), row0_at (cur x1 x4) (nxt i x2 x5) (fun s k => dPre U D (512 * t + s) (b + k)) (cur_at H) (nxt_at H), ld_at _ xo 0 k 0 k rfl (by omega)]
    exact congrArg _ (Finset.sum_congr rfl fun s _ => by rw [H.h0]; rfl)
  · iterate 1 rw [canon_miss _ _ _ _ _ (by first | omega | exact Or.inr (Or.inl (by decide)) | exact Or.inl (by decide))]
    rw [canon_hit _ _ _ 0 k 1 k rfl (by omega), row1_at (cur x1 x4) (nxt i x2 x5) (fun s k => dPre U D (512 * t + s) (b + k)) (cur_at H) (nxt_at H), ld_at _ xo 0 k 1 k rfl (by omega)]
    exact congrArg _ (Finset.sum_congr rfl fun s _ => by rw [H.h0]; rfl)
  · iterate 2 rw [canon_miss _ _ _ _ _ (by first | omega | exact Or.inr (Or.inl (by decide)) | exact Or.inl (by decide))]
    rw [canon_hit _ _ _ 0 k 2 k rfl (by omega), row2_at (fun s k => dPre U D (512 * t + s) (b + k)) (up i x1 x2 x4 x5) (up_at H), ld_at _ xo 0 k 2 k rfl (by omega)]
    exact congrArg _ (Finset.sum_congr rfl fun s _ => by rw [H.h0]; rfl)
  · iterate 3 rw [canon_miss _ _ _ _ _ (by first | omega | exact Or.inr (Or.inl (by decide)) | exact Or.inl (by decide))]
    rw [canon_hit _ _ _ 0 k 3 k rfl (by omega), row3_at (cur x1 x4) (fun s k => dPre U D (512 * t + s) (b + k)) (cur_at H), ld_at _ xo 0 k 3 k rfl (by omega)]
    exact congrArg _ (Finset.sum_congr rfl fun s _ => by rw [H.h0]; rfl)
  · iterate 4 rw [canon_miss _ _ _ _ _ (by first | omega | exact Or.inr (Or.inl (by decide)) | exact Or.inl (by decide))]
    rw [canon_hit _ _ _ 0 k 4 k rfl (by omega), row4_at (cur x1 x4) (fun s k => dPre U D (512 * t + s) (b + k)) (cur_at H), ld_at _ xo 0 k 4 k rfl (by omega)]
    exact congrArg _ (Finset.sum_congr rfl fun s _ => by rfl)

end point
end Cert.ConvBc
end
-- ==== Proof.ConvBc.Ref.lean ====
module
public import proofs.«01_k».proof.Proof.Gen.ConvBcRefIdeal.Read
public import proofs.«01_k».proof.Proof.Conv.Spec
public import proofs.«01_k».proof.Proof.Lib.Places

@[expose] public section

set_option maxRecDepth 16384

noncomputable section

/-! The reference's two results, element by element: the gradients of the specification, where every argument is real. -/

namespace Cert.ConvBc

open Idealize.ShloMosaic Idealize.SL.Sem Cert.ConvBcRefIdeal Cert.ConvBcRefIdeal.Gen Cert.ConvBcRefIdeal.Read Cert.Lib
open Cert.FfnAct (sg at2 at2_ix at2_lt IsReal sum_shift)
open Cert.Conv

variable (x0 : FVec Ideal S16384x8192 .bf16) (x1 : FVec Ideal S4x3072 .f32) (x2 : FVec Ideal S1x3072 .f32)
  (x3 : FVec Ideal S16384x1024 .f32) (x4 : FVec Ideal S16384x8704 .bf16)

/-- The convolution's result, as the reference computes it on the way forward. -/
abbrev conv : (⟨2, ![16384, 1024]⟩ : Shape).Idx → EReal := val_main_v39 (F := Ideal) x0 x1 x2

/-- The convolution of real numbers is real. -/
theorem conv_real (h0 : ∀ i, IsReal (x0 i)) (h1 : ∀ i, IsReal (x1 i)) (h2 : ∀ i, IsReal (x2 i))
    (r : Fin 16384) (k : Fin 1024) : IsReal (conv x0 x1 x2 (ix2 r k)) := by
  unfold conv
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v4, val_main_v3, val_main_v2, val_main_v1, val_main_v0, val_main_cst, val_main_cst_1]
  refine .add (.add (.add (.add ((h1 _).mul ?_) ((h1 _).mul ?_)) ((h1 _).mul ?_)) ((h1 _).mul (h0 _))) (h2 _)
  all_goals
    split
    · exact .zero
    · exact h0 _

section real
variable (h0 : ∀ i, IsReal (x0 i)) (h1 : ∀ i, IsReal (x1 i)) (h2 : ∀ i, IsReal (x2 i)) (h3 : ∀ i, IsReal (x3 i))
include h0 h1 h2 h3

/-- The gradient at the convolution's result, by the product rule, is the factored form. -/
theorem ref_du (r : Fin 16384) (k : Fin 1024) :
    val_main_v41 (F := Ideal) x0 x1 x2 x3 (ix2 r k) = dPre (conv x0 x1 x2) x3 r.val k.val := by
  unfold dPre
  rw [at2_ix, at2_ix]
  obtain ⟨d, hd⟩ := h3 (ix2 r k)
  obtain ⟨g, hg⟩ := conv_real x0 x1 x2 h0 h1 h2 r k
  pointwise [val_main_v41, val_main_call1_v1, val_main_call1_v2, val_main_call1_v0, val_main_v40_1, val_main_v40_2, val_main_call0_v4, val_main_call0_v3, val_main_call0_v2, val_main_call0_v1, val_main_call0_v0, val_main_call0_cst, val_main_call0_cst_0, val_main_call0_cst_1, val_main_call0_v6, val_main_call0_v7]
  unfold conv at *
  rw [hd, hg, ← dSilu_eq]
  unfold sg
  rw [zero_sub]

/-- The reference's gradient at the convolution's input, in the rows after the padding. -/
theorem ref_din (r : Fin 16384) (k : Fin 1024) :
    val_main_v88 (F := Ideal) x0 x1 x2 x3 (ix2 r k) = dIn (conv x0 x1 x2) x3 x1 2048 r.val k.val := by
  unfold dIn
  pointwise [val_main_v88, val_main_v83, val_main_v82, val_main_v77, val_main_v76, val_main_v72, val_main_v71, val_main_v66, val_main_v65, val_main_v61, val_main_v60, val_main_v55, val_main_v54, val_main_v51, val_main_v46, val_main_v45, val_main_v33, val_main_v31, val_main_v30, val_main_v26, val_main_v24, val_main_v23, val_main_v19, val_main_v17, val_main_v16, val_main_v11, val_main_v9, val_main_v8, val_main_v2, val_main_cst_6, val_main_cst_10, val_main_cst_14, val_main_cst_18]
  refine congrArg₂ _ (congrArg₂ _ (congrArg₂ _ ?_ ?_) ?_) ?_
  · rw [ref_du x0 x1 x2 x3 h0 h1 h2 h3, mul_comm]
    exact congrArg _ (at2_eq x1 _ _ rfl (by dsimp only <;> omega))
  · split
    · rw [ref_du x0 x1 x2 x3 h0 h1 h2 h3, mul_comm]
      exact congrArg₂ _ (congrArg₂ (dPre _ _) (by dsimp only; omega) rfl) (at2_eq x1 _ _ rfl (by dsimp only <;> omega))
    · rw [dPre_out _ _ _ (by omega), zero_mul]
  · split
    · rw [ref_du x0 x1 x2 x3 h0 h1 h2 h3, mul_comm]
      exact congrArg₂ _ (congrArg₂ (dPre _ _) (by dsimp only; omega) rfl) (at2_eq x1 _ _ rfl (by dsimp only <;> omega))
    · rw [dPre_out _ _ _ (by omega), zero_mul]
  · split
    · rw [ref_du x0 x1 x2 x3 h0 h1 h2 h3, mul_comm]
      exact congrArg₂ _ (congrArg₂ (dPre _ _) (by dsimp only; omega) rfl) (at2_eq x1 _ _ rfl (by dsimp only <;> omega))
    · rw [dPre_out _ _ _ (by omega), zero_mul]

/-- The reference's first result: the gradient at the convolution's input in its own columns, the given array elsewhere. -/
theorem ref_in (r : Fin 16384) (k : Fin 8704) :
    val_main_v92 (F := Ideal) x0 x1 x2 x3 x4 (ix2 r k)
      = if 7168 ≤ k.val ∧ k.val < 8192 then dIn (conv x0 x1 x2) x3 x1 2048 r.val (k.val - 7168) else x4 (ix2 r k) := by
  pointwise [val_main_v92, val_main_v91, val_main_v90, val_main_v89]
  split
  · rename_i h
    have h' : k.val < 7168 := h
    refine Eq.trans ?_ (if_neg (by omega)).symm
    rfl
  · rename_i h
    have h' : ¬k.val < 7168 := h
    split
    · rename_i g
      have g' : k.val - 7168 < 1024 := g
      exact (ref_din x0 x1 x2 x3 h0 h1 h2 h3 r ⟨k.val - 7168, g'⟩).trans (if_pos (by omega)).symm
    · rename_i g
      have g' : ¬k.val - 7168 < 1024 := g
      refine Eq.trans ?_ (if_neg (by omega)).symm
      exact (at2_eq x4 _ _ (t := r.val) (c := k.val) rfl (by dsimp only <;> omega)).trans (at2_ix x4 r k)

/-- The sum of the last tap's products over all tokens. -/
theorem ref_tap3 (k : Fin 1024) :
    ∑ t, val_main_v47 (F := Ideal) x0 x1 x2 x3 (ix2 t k) = dTaps (conv x0 x1 x2) x3 x0 7168 3 k.val := by
  rw [dTaps_3, Finset.sum_range]
  refine Finset.sum_congr rfl fun t _ => ?_
  pointwise [val_main_v47, val_main_v32, val_main_v6, val_main_v1, val_main_v0, val_main_v5, val_main_cst]
  rw [ref_du x0 x1 x2 x3 h0 h1 h2 h3]
  exact congrArg _ (at2_eq x0 _ _ rfl rfl)

/-- The sum of the third tap's products over all tokens. -/
theorem ref_tap2 (k : Fin 1024) :
    ∑ t, val_main_v56 (F := Ideal) x0 x1 x2 x3 (ix2 t k) = dTaps (conv x0 x1 x2) x3 x0 7168 2 k.val := by
  rw [dTaps_2, sum_shift (fun t => dPre (conv x0 x1 x2) x3 t k.val) (fun t => at2 x0 t (7168 + k.val)) _ _ (fun t h => dPre_out _ _ _ h),
    Finset.sum_range]
  refine Finset.sum_congr rfl fun t _ => ?_
  pointwise [val_main_v56, val_main_v25, val_main_v6, val_main_v1, val_main_v0, val_main_v5, val_main_cst]
  rw [ref_du x0 x1 x2 x3 h0 h1 h2 h3]
  refine congrArg _ ?_
  obtain ⟨R, hR⟩ : ∃ R : EReal, R = if t.val < 1 then 0 else at2 x0 (t.val - 1) (7168 + k.val) := ⟨_, rfl⟩
  refine Eq.trans ?_ hR
  split
  · rename_i h
    have h' : 2 + t.val < 3 := h
    exact ((if_pos (by omega)).symm).trans hR.symm
  · rename_i h
    have h' : ¬2 + t.val < 3 := h
    exact ((at2_eq x0 _ _ (by first | rfl | (dsimp only; omega)) rfl).trans (if_neg (by omega)).symm).trans hR.symm

/-- The sum of the second tap's products over all tokens. -/
theorem ref_tap1 (k : Fin 1024) :
    ∑ t, val_main_v67 (F := Ideal) x0 x1 x2 x3 (ix2 t k) = dTaps (conv x0 x1 x2) x3 x0 7168 1 k.val := by
  rw [dTaps_1, sum_shift (fun t => dPre (conv x0 x1 x2) x3 t k.val) (fun t => at2 x0 t (7168 + k.val)) _ _ (fun t h => dPre_out _ _ _ h),
    Finset.sum_range]
  refine Finset.sum_congr rfl fun t _ => ?_
  pointwise [val_main_v67, val_main_v18, val_main_v6, val_main_v1, val_main_v0, val_main_v5, val_main_cst]
  rw [ref_du x0 x1 x2 x3 h0 h1 h2 h3]
  refine congrArg _ ?_
  obtain ⟨R, hR⟩ : ∃ R : EReal, R = if t.val < 2 then 0 else at2 x0 (t.val - 2) (7168 + k.val) := ⟨_, rfl⟩
  refine Eq.trans ?_ hR
  split
  · rename_i h
    have h' : 1 + t.val < 3 := h
    exact ((if_pos (by omega)).symm).trans hR.symm
  · rename_i h
    have h' : ¬1 + t.val < 3 := h
    exact ((at2_eq x0 _ _ (by first | rfl | (dsimp only; omega)) rfl).trans (if_neg (by omega)).symm).trans hR.symm

/-- The sum of the first tap's products over all tokens. -/
theorem ref_tap0 (k : Fin 1024) :
    ∑ t, val_main_v78 (F := Ideal) x0 x1 x2 x3 (ix2 t k) = dTaps (conv x0 x1 x2) x3 x0 7168 0 k.val := by
  rw [dTaps_0, sum_shift (fun t => dPre (conv x0 x1 x2) x3 t k.val) (fun t => at2 x0 t (7168 + k.val)) _ _ (fun t h => dPre_out _ _ _ h),
    Finset.sum_range]
  refine Finset.sum_congr rfl fun t _ => ?_
  pointwise [val_main_v78, val_main_v10, val_main_v6, val_main_v1, val_main_v0, val_main_v5, val_main_cst]
  rw [ref_du x0 x1 x2 x3 h0 h1 h2 h3]
  refine congrArg _ ?_
  obtain ⟨R, hR⟩ : ∃ R : EReal, R = if t.val < 3 then 0 else at2 x0 (t.val - 3) (7168 + k.val) := ⟨_, rfl⟩
  refine Eq.trans ?_ hR
  split
  · rename_i h
    have h' : t.val < 3 := h
    exact ((if_pos (by omega)).symm).trans hR.symm
  · rename_i h
    have h' : ¬t.val < 3 := h
    exact ((at2_eq x0 _ _ (by first | rfl | (dsimp only; omega)) rfl).trans (if_neg (by omega)).symm).trans hR.symm

/-- The sum of the gradient over all tokens. -/
theorem ref_bias (k : Fin 1024) :
    ∑ t, val_main_v41 (F := Ideal) x0 x1 x2 x3 (ix2 t k) = dTaps (conv x0 x1 x2) x3 x0 7168 4 k.val := by
  rw [dTaps_4, Finset.sum_range]
  exact Finset.sum_congr rfl fun t _ => ref_du x0 x1 x2 x3 h0 h1 h2 h3 t k

/-- The reference's second result is the packed gradient of taps and bias. -/
theorem ref_taps (r : Fin 8) (k : Fin 1024) :
    val_main_v95 (F := Ideal) x0 x1 x2 x3 (ix2 r k) = dTaps (conv x0 x1 x2) x3 x0 7168 r.val k.val := by
  pointwise [val_main_v95, val_main_v94, val_main_v93, val_main_v86, val_main_v85, val_main_v84, val_main_v81, val_main_v80, val_main_v79, val_main_v75, val_main_v74, val_main_v73, val_main_v70, val_main_v69, val_main_v68, val_main_v64, val_main_v63, val_main_v62, val_main_v59, val_main_v58, val_main_v57, val_main_v53, val_main_v52, val_main_v50, val_main_v49, val_main_v48, val_main_v44, val_main_v43, val_main_v42, val_main_cst_2, val_main_cst_3, val_main_cst_4, val_main_cst_5, val_main_cst_7, val_main_cst_8, val_main_cst_9, val_main_cst_11, val_main_cst_12, val_main_cst_13, val_main_cst_15, val_main_cst_16, val_main_cst_17, val_main_cst_19, val_main_cst_20]
  have e0 := ref_tap0 x0 x1 x2 x3 h0 h1 h2 h3 k
  have e1 := ref_tap1 x0 x1 x2 x3 h0 h1 h2 h3 k
  have e2 := ref_tap2 x0 x1 x2 x3 h0 h1 h2 h3 k
  have e3 := ref_tap3 x0 x1 x2 x3 h0 h1 h2 h3 k
  have e4 := ref_bias x0 x1 x2 x3 h0 h1 h2 h3 k
  fin_vals r with hr
  all_goals simp [hr, e0, e1, e2, e3, e4]
  all_goals exact (dTaps_out _ _ _ _ _ _ (by omega)).symm

end real

end Cert.ConvBc
end
-- ==== Proof.ConvBc.Arrays.lean ====
module
public import proofs.«01_k».proof.Proof.ConvBc.Point
public import proofs.«01_k».proof.Proof.ConvBc.Ref
public import Idealize.ShloMosaic.Lib.Pipeline.ValueKit.Partial

@[expose] public section

set_option maxRecDepth 16384

noncomputable section

/-! The kernel's two result arrays, element by element. -/

namespace Cert.ConvBc

open Idealize.ShloMosaic Idealize.ShloMosaic.TcCoe Idealize.SL.Sem Cert.ConvBcIdeal Cert.ConvBcIdeal.Gen Cert.Lib
open Cert.FfnAct (at2 at2_ix at2_lt IsReal)
open Cert.Conv
open Idealize.ShloMosaic.Pipeline (Dat)

variable (m : (ℓ : Loc nD τ sig) → Buf (Elt Ideal) ℓ) (c : Dev nD)

/-! ## The arrays -/

/-- The projections, the taps, the cotangent and the array updated in place, as the launch finds them. -/
abbrev arrX : S16384x8192.Idx → EReal := m ((c : Thread nD τ).loc main_arg0)
abbrev arrW : S4x3072.Idx → EReal := m ((c : Thread nD τ).loc main_arg1)
abbrev arrD : S16384x1024.Idx → EReal := m ((c : Thread nD τ).loc main_arg3)
abbrev arrP : S16384x8704.Idx → EReal := m ((c : Thread nD τ).loc main_arg4)
/-- The convolution's result. -/
abbrev arrU : S16384x1024.Idx → EReal := conv (m ((c : Thread nD τ).loc main_arg0))
    (m ((c : Thread nD τ).loc main_arg1)) (m ((c : Thread nD τ).loc main_arg2))

/-- The convolution's result that the kernel is given is the reference's. -/
theorem V_conv : (V m c main_v39 : S16384x1024.Idx → EReal) = arrU m c := by
  unfold_abbrev_sides
  after_results
  rfl

/-- The first four rows of the padded taps are the taps of these columns. -/
theorem V_taps (r : Fin 4) (k : Fin 1024) : (V m c main_v41 : S8x1024.Idx → EReal) (ix2 (r.castLE (by decide) : Fin 8) k)
    = at2 (arrW m c) r.val (2048 + k.val) := by
  unfold_abbrev_sides
  after_results
  pointwise []
  exact (dif_pos (show r.val < 4 from r.isLt)).trans (at2_eq _ _ _ rfl (by dsimp only <;> omega))

/-- The array updated in place holds its argument when the launch starts. -/
theorem V_into : (V m c main_v42_0 : S16384x8704.Idx → EReal) = arrP m c := by
  unfold_abbrev_sides
  after_results
  try rfl

/-! ## What each window's block holds at a point -/

theorem idx0 : ∀ t : Fin grid0.N, win0_0.index t 0 = t.val % 32 ∧ win0_0.index t 1 = 7 + t.val / 32 := by decide +kernel

theorem blk0_at (t : Fin cfg0.N) (r : Fin 512) (k : Fin 1024) :
    (iblk m c 0 t : S512x1024.Idx → EReal) (ix2 r k)
      = at2 (m := 16384) (n := 8192) (V m c main_arg0) (512 * (t.val % 32) + r.val) (7168 + (1024 * (t.val / 32) + k.val)) := by
  have hN : t.val < 32 := lt_of_lt_of_eq t.isLt N_0
  have hi := idx0 t
  rw [at2_lt (m := 16384) (n := 8192) _ (t := 512 * (t.val % 32) + r.val) (k := 7168 + (1024 * (t.val / 32) + k.val)) (by omega) (by omega)]
  unfold iblk
  rw [View.read_apply]
  refine congrArg (V m c main_arg0) (funext fun a => Fin.ext ?_)
  match a with
  | ⟨0, _⟩ => show win0_0.index t 0 * 512 + 1 * r.val = 512 * (t.val % 32) + r.val; rw [hi.1]; omega
  | ⟨1, _⟩ => show win0_0.index t 1 * 1024 + 1 * k.val = 7168 + (1024 * (t.val / 32) + k.val); rw [hi.2]; omega

theorem idx1 : ∀ t : Fin grid0.N, win0_1.index t 0 = t.val % 32 ∧ win0_1.index t 1 = t.val / 32 := by decide +kernel

theorem blk1_at (t : Fin cfg0.N) (r : Fin 512) (k : Fin 1024) :
    (iblk m c 1 t : S512x1024.Idx → EReal) (ix2 r k)
      = at2 (m := 16384) (n := 1024) (V m c main_v39) (512 * (t.val % 32) + r.val) (1024 * (t.val / 32) + k.val) := by
  have hN : t.val < 32 := lt_of_lt_of_eq t.isLt N_0
  have hi := idx1 t
  rw [at2_lt (m := 16384) (n := 1024) _ (t := 512 * (t.val % 32) + r.val) (k := 1024 * (t.val / 32) + k.val) (by omega) (by omega)]
  unfold iblk
  rw [View.read_apply]
  refine congrArg (V m c main_v39) (funext fun a => Fin.ext ?_)
  match a with
  | ⟨0, _⟩ => show win0_1.index t 0 * 512 + 1 * r.val = 512 * (t.val % 32) + r.val; rw [hi.1]; omega
  | ⟨1, _⟩ => show win0_1.index t 1 * 1024 + 1 * k.val = 1024 * (t.val / 32) + k.val; rw [hi.2]; omega

theorem idx2 : ∀ t : Fin grid0.N, t.val % 32 < 31 → win0_2.index t 0 = 32 * (t.val % 32 + 1) ∧ win0_2.index t 1 = t.val / 32 := by decide +kernel

theorem blk2_at (t : Fin cfg0.N) (h : t.val % 32 < 31) (r : Fin 16) (k : Fin 1024) :
    (iblk m c 2 t : S16x1024.Idx → EReal) (ix2 r k)
      = at2 (m := 16384) (n := 1024) (V m c main_v39) (512 * (t.val % 32) + (512 + r.val)) (1024 * (t.val / 32) + k.val) := by
  have hN : t.val < 32 := lt_of_lt_of_eq t.isLt N_0
  have hi := idx2 t h
  rw [at2_lt (m := 16384) (n := 1024) _ (t := 512 * (t.val % 32) + (512 + r.val)) (k := 1024 * (t.val / 32) + k.val) (by omega) (by omega)]
  unfold iblk
  rw [View.read_apply]
  refine congrArg (V m c main_v39) (funext fun a => Fin.ext ?_)
  match a with
  | ⟨0, _⟩ => show win0_2.index t 0 * 16 + 1 * r.val = 512 * (t.val % 32) + (512 + r.val); rw [hi.1]; omega
  | ⟨1, _⟩ => show win0_2.index t 1 * 1024 + 1 * k.val = 1024 * (t.val / 32) + k.val; rw [hi.2]; omega

theorem idx3 : ∀ t : Fin grid0.N, win0_3.index t 0 = 0 ∧ win0_3.index t 1 = t.val / 32 := by decide +kernel

theorem blk3_at (t : Fin cfg0.N) (r : Fin 8) (k : Fin 1024) :
    (iblk m c 3 t : S8x1024.Idx → EReal) (ix2 r k)
      = at2 (m := 8) (n := 1024) (V m c main_v41) (r.val) (1024 * (t.val / 32) + k.val) := by
  have hN : t.val < 32 := lt_of_lt_of_eq t.isLt N_0
  have hi := idx3 t
  rw [at2_lt (m := 8) (n := 1024) _ (t := r.val) (k := 1024 * (t.val / 32) + k.val) (by omega) (by omega)]
  unfold iblk
  rw [View.read_apply]
  refine congrArg (V m c main_v41) (funext fun a => Fin.ext ?_)
  match a with
  | ⟨0, _⟩ => show win0_3.index t 0 * 8 + 1 * r.val = r.val; rw [hi.1]; omega
  | ⟨1, _⟩ => show win0_3.index t 1 * 1024 + 1 * k.val = 1024 * (t.val / 32) + k.val; rw [hi.2]; omega

theorem idx4 : ∀ t : Fin grid0.N, win0_4.index t 0 = t.val % 32 ∧ win0_4.index t 1 = t.val / 32 := by decide +kernel

theorem blk4_at (t : Fin cfg0.N) (r : Fin 512) (k : Fin 1024) :
    (iblk m c 4 t : S512x1024.Idx → EReal) (ix2 r k)
      = at2 (m := 16384) (n := 1024) (V m c main_arg3) (512 * (t.val % 32) + r.val) (1024 * (t.val / 32) + k.val) := by
  have hN : t.val < 32 := lt_of_lt_of_eq t.isLt N_0
  have hi := idx4 t
  rw [at2_lt (m := 16384) (n := 1024) _ (t := 512 * (t.val % 32) + r.val) (k := 1024 * (t.val / 32) + k.val) (by omega) (by omega)]
  unfold iblk
  rw [View.read_apply]
  refine congrArg (V m c main_arg3) (funext fun a => Fin.ext ?_)
  match a with
  | ⟨0, _⟩ => show win0_4.index t 0 * 512 + 1 * r.val = 512 * (t.val % 32) + r.val; rw [hi.1]; omega
  | ⟨1, _⟩ => show win0_4.index t 1 * 1024 + 1 * k.val = 1024 * (t.val / 32) + k.val; rw [hi.2]; omega

theorem idx5 : ∀ t : Fin grid0.N, t.val % 32 < 31 → win0_5.index t 0 = 32 * (t.val % 32 + 1) ∧ win0_5.index t 1 = t.val / 32 := by decide +kernel

theorem blk5_at (t : Fin cfg0.N) (h : t.val % 32 < 31) (r : Fin 16) (k : Fin 1024) :
    (iblk m c 5 t : S16x1024.Idx → EReal) (ix2 r k)
      = at2 (m := 16384) (n := 1024) (V m c main_arg3) (512 * (t.val % 32) + (512 + r.val)) (1024 * (t.val / 32) + k.val) := by
  have hN : t.val < 32 := lt_of_lt_of_eq t.isLt N_0
  have hi := idx5 t h
  rw [at2_lt (m := 16384) (n := 1024) _ (t := 512 * (t.val % 32) + (512 + r.val)) (k := 1024 * (t.val / 32) + k.val) (by omega) (by omega)]
  unfold iblk
  rw [View.read_apply]
  refine congrArg (V m c main_arg3) (funext fun a => Fin.ext ?_)
  match a with
  | ⟨0, _⟩ => show win0_5.index t 0 * 16 + 1 * r.val = 512 * (t.val % 32) + (512 + r.val); rw [hi.1]; omega
  | ⟨1, _⟩ => show win0_5.index t 1 * 1024 + 1 * k.val = 1024 * (t.val / 32) + k.val; rw [hi.2]; omega

/-- A row of the padded taps, read as a row of the taps. -/
theorem taps_at (r : Fin 4) (k : ℕ) (h : k < 1024) :
    at2 (m := 8) (n := 1024) (V m c main_v41) r.val k = at2 (arrW m c) r.val (2048 + k) := by
  rw [at2_lt (m := 8) (n := 1024) _ (t := r.val) (k := k) (by omega) h]
  exact V_taps m c r ⟨k, h⟩

/-- The six blocks at point `t`. -/
theorem blocks (t : Fin cfg0.N) : Blocks (grid0.coords t) (iblk m c 0 t) (iblk m c 1 t) (iblk m c 2 t) (iblk m c 3 t)
    (iblk m c 4 t) (iblk m c 5 t) (arrU m c) (arrD m c) (arrX m c) (arrW m c) 7168 2048 (t.val % 32) (1024 * (t.val / 32)) where
  lt := Nat.mod_lt _ (by decide)
  at_i := (by decide +kernel : ∀ t : Fin grid0.N, (grid0.coords t 1).val = t.val % 32) t
  h0 r k := (blk0_at m c t r k).trans (by rw [V_main_arg0])
  h1 r k := (blk1_at m c t r k).trans (by rw [V_conv])
  h2 h r k := (blk2_at m c t h r k).trans (by rw [V_conv])
  h3 r k := (blk3_at m c t (r.castLE (by decide)) k).trans (taps_at m c r _ (by have := lt_of_lt_of_eq t.isLt N_0; omega))
  h4 r k := (blk4_at m c t r k).trans (by rw [V_main_arg3])
  h5 h r k := (blk5_at m c t h r k).trans (by rw [V_main_arg3])

/-- At the first point of a column block the packed gradient is that point's share. -/
theorem acc_first (t : Fin cfg0.N) (h : t.val % 32 = 0) (r : Fin 8) (k : Fin 1024) :
    ((outsAt0 m c t.val t.isLt).2 : S8x1024.Idx → EReal) (ix2 r k)
      = ∑ s ∈ Finset.range (512 * (t.val % 32 + 1)), term (arrU m c) (arrD m c) (arrX m c) 7168 r.val s (1024 * (t.val / 32) + k.val) := by
  rw [outsAt0_A m c t h]
  dsimp only
  rw [out_acc_A, acc_at (blocks m c t), ← sum_block 512 _ (t.val % 32)]
  refine congrArg (· + _) ?_
  rw [h]
  pointwise [k0_pay4]
  rfl

/-- After point `n` the packed gradient of taps and bias is the sum over the tokens of the column block seen so far. -/
theorem acc_after : ∀ (n : ℕ) (h : n < cfg0.N) (r : Fin 8) (k : Fin 1024),
    ((outsAt0 m c n h).2 : S8x1024.Idx → EReal) (ix2 r k)
      = ∑ t ∈ Finset.range (512 * (n % 32 + 1)), term (arrU m c) (arrD m c) (arrX m c) 7168 r.val t (1024 * (n / 32) + k.val)
  | 0, h, r, k => acc_first m c ⟨0, h⟩ rfl r k
  | n + 1, h, r, k => by
    by_cases h0 : (n + 1) % 32 = 0
    · exact acc_first m c ⟨n + 1, h⟩ h0 r k
    · rw [outsAt0_B m c ⟨n + 1, h⟩ h0]
      dsimp only
      rw [out_acc_B, acc_at (blocks m c ⟨n + 1, h⟩), ← sum_block 512 _ ((n + 1) % 32)]
      refine congrArg (· + _) ((acc_after n _ r k).trans ?_)
      rw [show n % 32 + 1 = (n + 1) % 32 by omega, show n / 32 = (n + 1) / 32 by omega]

/-- The first result: the gradient at the convolution's input in its own columns, the given array elsewhere. -/
abbrev resIn : S16384x8704.Idx → EReal := fun j =>
  if 7168 ≤ (j 1).val ∧ (j 1).val < 8192 then dIn (arrU m c) (arrD m c) (arrW m c) 2048 (j 0).val ((j 1).val - 7168) else arrP m c j
/-- The second result: the packed gradient of taps and bias. -/
abbrev resAcc : S8x1024.Idx → EReal := fun j => dTaps (arrU m c) (arrD m c) (arrX m c) 7168 (j 0).val (j 1).val

theorem out6_at (t : Fin cfg0.N) (r : Fin 512) (k : Fin 1024) :
    ((outsAt0 m c t.val t.isLt).1 : S512x1024.Idx → EReal) (ix2 r k)
      = dIn (arrU m c) (arrD m c) (arrW m c) 2048 (512 * (t.val % 32) + r.val) (1024 * (t.val / 32) + k.val) := by
  by_cases h0 : t.val % 32 = 0
  · rw [outsAt0_A m c t h0]
    dsimp only
    rw [out_in_A, in_at (blocks m c t)]
  · rw [outsAt0_B m c t h0]
    dsimp only
    rw [out_in_B, in_at (blocks m c t)]

theorem idx6 : ∀ t : Fin grid0.N, win0_6.index t 0 = t.val % 32 ∧ win0_6.index t 1 = 7 + t.val / 32 := by decide +kernel

/-- The first result array: every written block is the gradient, and the columns in no block keep what they held. -/
theorem final_in : (dats m 0 c).arrAt 6 cfg0.N = resIn m c := by
  refine (dats m 0 c).arrAt_eq_of_coversWhere_of_agree 6 (resIn m c)
    (fun β => 7 ≤ β (1 : Fin 2) ∧ β (1 : Fin 2) < 8) (by decide +kernel) (fun t hf y => ?_) (fun j hj => ?_)
  · have hi := idx6 t
    have hN : t.val < 32 := lt_of_lt_of_eq t.isLt N_0
    obtain ⟨r, k, hy⟩ := ix2_surj (m := 512) (n := 1024) ((cfg0.win 6).xinj (grid0.coords t) y)
    have e0 : (y 0).val = r.val := congrArg (fun i : S512x1024.Idx => (i 0).val) hy
    have e1 : (y 1).val = k.val := congrArg (fun i : S512x1024.Idx => (i 1).val) hy
    have p0 : ((((cfg0.win 6).blk t).view.emb y : S16384x8704.Idx) 0).val = 512 * (t.val % 32) + r.val := by
      show win0_6.index t 0 * 512 + 1 * (y 0).val = _
      rw [hi.1, e0]; omega
    have p1 : ((((cfg0.win 6).blk t).view.emb y : S16384x8704.Idx) 1).val = 7168 + (1024 * (t.val / 32) + k.val) := by
      show win0_6.index t 1 * 1024 + 1 * (y 1).val = _
      rw [hi.2, e1]; omega
    show (dats m 0 c).after 6 t ((cfg0.win 6).xinj (grid0.coords t) y) = _
    rw [after0_6, hy]
    refine (out6_at m c t r k).trans ?_
    unfold resIn
    rw [p0, p1, if_pos (by omega), Nat.add_sub_cancel_left]
  · have hj : ¬(7 ≤ (j 1).val / 1024 ∧ (j 1).val / 1024 < 8) := hj
    rw [A_eq]
    refine (congrFun (V_into m c) _).trans ?_
    have hc : ¬(7168 ≤ (j 1).val ∧ (j 1).val < 8192) := by omega
    exact (if_neg hc).symm

theorem idx7 : ∀ t : Fin grid0.N, win0_7.index t 0 = 0 ∧ win0_7.index t 1 = t.val / 32 := by decide +kernel

theorem out7_at (t : Fin cfg0.N) (ht : t.val % 32 = 31) (r : Fin 8) (k : Fin 1024) :
    ((outsAt0 m c t.val t.isLt).2 : S8x1024.Idx → EReal) (ix2 r k)
      = dTaps (arrU m c) (arrD m c) (arrX m c) 7168 r.val (1024 * (t.val / 32) + k.val) := by
  rw [acc_after m c t.val t.isLt r k, ht, show 512 * (31 + 1) = 16384 from by norm_num]
  unfold dTaps
  rfl

attribute [local irreducible] dTaps in
theorem flushed_acc (t : Fin cfg0.N) (hf : (cfg0.win 7).flush t = true) :
    (dats m 0 c).flushed 7 t = ((cfg0.win 7).blk t).view.read (Elt Ideal) (resAcc m c) := by
  rw [Value.flushed7]
  funext j
  rw [View.read_apply]
  obtain ⟨r, k, rfl⟩ := ix2_surj (m := 8) (n := 1024) j
  refine (out7_at m c t ((flush0_7 t).mp hf) r k).trans ?_
  have hi := idx7 t
  refine congrArg₂ (dTaps (arrU m c) (arrD m c) (arrX m c) 7168) ?_ ?_
  · show _ = win0_7.index t 0 * 8 + 1 * r.val; rw [hi.1]; omega
  · show _ = win0_7.index t 1 * 1024 + 1 * k.val; rw [hi.2]; omega

theorem final_acc : (dats m 0 c).arrAt 7 cfg0.N = resAcc m c :=
  (dats m 0 c).arrAt_eq_of_cover 7 (resAcc m c) (flushed_acc m c) fun i => by
    have h0 : (i 0 : Nat) < 8 := (i 0).isLt
    have h1 : (i 1 : Nat) < 1024 := (i 1).isLt
    let t : Fin cfg0.N := ⟨32 * ((i 1 : Nat) / 1024) + 31, lt_of_lt_of_eq (by omega : _ < 32) N_0.symm⟩
    have hi := idx7 t
    refine ⟨t, (flush0_7 t).mpr (by dsimp only [t]; omega), ?_⟩
    show i ∈ ((View.whole main_v42_1).slice (win0_7.rect t)).set
    rw [View.set_slice_whole, Rect.mem_set_unit]
    intro a
    match a with
    | ⟨0, _⟩ => show win0_7.index t 0 * 8 ≤ (i 0 : Nat) ∧ (i 0 : Nat) < win0_7.index t 0 * 8 + 8
                rw [hi.1]; omega
    | ⟨1, _⟩ => show win0_7.index t 1 * 1024 ≤ (i 1 : Nat) ∧ (i 1 : Nat) < win0_7.index t 1 * 1024 + 1024
                rw [hi.2]; dsimp only [t]; omega

end Cert.ConvBc
end
-- ==== Proof.ConvBc.Pre.lean ====
module
public import proofs.«01_k».proof.Pre_conv_bc_bwd_finite
public import proofs.«01_k».proof.Proof.FfnAct.Pre

@[expose] public section

noncomputable section

/-! The precondition read back: where it holds, every element of the four arguments that the gradient reads is real. -/

namespace Cert.ConvBc

open Idealize.ShloMosaic Cert.Pre_conv_bc_bwd_finite Cert.FfnAct

/-- The shape relations that the precondition's function takes. -/
theorem preFacts : Cert.Pre_conv_bc_bwd_finite.Facts where
  bitsLt_bf16_f32 := by decide
  bcast_S_S16384x8192 := by decide
  reducesTo_S16384x8192_S_d0_1 := by decide
  h_S_ := by decide
  bcast_S_S4x3072 := by decide
  reducesTo_S4x3072_S_d0_1 := by decide
  bcast_S_S1x3072 := by decide
  reducesTo_S1x3072_S_d0_1 := by decide
  bcast_S_S16384x1024 := by decide
  reducesTo_S16384x1024_S_d0_1 := by decide

variable [Cert.Pre_conv_bc_bwd_finite.Facts]

theorem real_of_pre (x0 : FVec Ideal S16384x8192 .bf16) (x1 : FVec Ideal S4x3072 .f32) (x2 : FVec Ideal S1x3072 .f32)
    (x3 : FVec Ideal S16384x1024 .f32) (x4 : FVec Ideal S16384x8704 .bf16)
    (e : Cert.Pre_conv_bc_bwd_finite.fn (F := Ideal) x0 x1 x2 x3 x4 = fun _ => 1#1) :
    (∀ i, IsReal (x0 i)) ∧ (∀ i, IsReal (x1 i)) ∧ (∀ i, IsReal (x2 i)) ∧ ∀ i, IsReal (x3 i) := by
  have e := congrFun e (fun a => nomatch a)
  haveI : Subsingleton S_.Idx := ⟨fun a b => funext fun i => nomatch i⟩
  unfold Cert.Pre_conv_bc_bwd_finite.fn Cert.Pre_conv_bc_bwd_finite.fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨fun i => Cert.FfnAct.real_of_lt _ _ i (Host.reduce_andi_all _ _ _ _ _ e0 i),
    fun i => Cert.FfnAct.real_of_lt _ _ i (Host.reduce_andi_all _ _ _ _ _ e1 i),
    fun i => Cert.FfnAct.real_of_lt _ _ i (Host.reduce_andi_all _ _ _ _ _ e2 i),
    fun i => Cert.FfnAct.real_of_lt _ _ i (Host.reduce_andi_all _ _ _ _ _ e3 i)⟩

end Cert.ConvBc
end
-- ==== Proof.ConvBc.Main.lean ====
module
public import proofs.«01_k».proof.Proof.ConvBc.Arrays
public import proofs.«01_k».proof.Proof.ConvBc.Pre
public import proofs.«01_k».proof.Proof.Gen.ConvBcRefIdeal.Run
public import proofs.«01_k».proof.Defs
public import Idealize.ShloMosaic.Lib.Quiescent

@[expose] public section

set_option maxRecDepth 16384

noncomputable section

/-! The claims about the gradient of the convolution that makes the two matrices of the recurrence. -/

namespace Cert.ConvBc

open Idealize.ShloMosaic Idealize.ShloMosaic.TcCoe Idealize.SL.Sem Cert.Lib

/-- The reference runs, leaves its arguments and ends with every counter at zero: it has no semaphores. -/
theorem referenceFrame : Cert.quiescent_ConvBcRefIdeal (hConvBcRefIdeal := Cert.ConvBcRefIdeal.Gen.facts) :=
  fun m ρ _ => (θ_run Cert.ConvBcRefIdeal.defs _ _).mono (fun r h => And.intro (fun c => (h c).2.2)
      (Idealize.ShloMosaic.sem_eq_zero_of_no_sems (by decide) r.2))
    (Cert.ConvBcRefIdeal.Value.run (F := Ideal) m ρ)

/-- The kernel's two results are the reference's: the array updated in place, and the packed gradient of taps and bias. -/
theorem values : letI := preFacts
    Cert.algebraic_ConvBcIdeal_ConvBcRefIdeal_pre_conv_bc_bwd_finite (hConvBcIdeal := Cert.ConvBcIdeal.Gen.facts) (hConvBcRefIdeal := Cert.ConvBcRefIdeal.Gen.facts) := by
  letI := preFacts
  intro m g m' g' hpre hargs
  refine ⟨fun c => resIn m c, fun c => resAcc m c, ?_, ?_⟩
  · refine (θ_run Cert.ConvBcIdeal.defs _ _).mono (fun r h c => ?_) (Cert.ConvBcIdeal.Value.run_blocks m g)
    obtain ⟨h0, h1, h2⟩ := h c
    exact ⟨h0.trans (final_in m c), h1.trans (final_acc m c), h2⟩
  · refine (θ_run Cert.ConvBcRefIdeal.defs _ _).mono (fun r h c => ?_) (Cert.ConvBcRefIdeal.Value.run m' g')
    obtain ⟨h0, h1, h2⟩ := h c
    obtain ⟨a0, a1, a2, a3, a4⟩ := hargs c
    obtain ⟨p0, p1, p2, p3⟩ := real_of_pre _ _ _ _ _ (hpre c)
    refine ⟨h0.trans ?_, h1.trans ?_, h2⟩
    · rw [Cert.ConvBcRefIdeal.Read.val_main_v92_eq, a0, a1, a2, a3, a4]
      funext j
      obtain ⟨t, k, rfl⟩ := ix2_surj (m := 16384) (n := 8704) j
      exact ref_in _ _ _ _ _ p0 p1 p2 p3 t k
    · rw [Cert.ConvBcRefIdeal.Read.val_main_v95_eq, a0, a1, a2, a3]
      funext j
      obtain ⟨t, k, rfl⟩ := ix2_surj (m := 8) (n := 1024) j
      exact ref_taps _ _ _ _ p0 p1 p2 p3 t k

end Cert.ConvBc
end
-- ==== Proof.Adam.In.lean ====
module
public import proofs.«01_k».proof.Proof.Gen.AdamInIdeal.Value
public import proofs.«01_k».proof.Proof.Gen.AdamInRefIdeal.Run
public import proofs.«01_k».proof.Proof.Gen.AdamInRefIdeal.Read
public import proofs.«01_k».proof.Defs
public import Idealize.ShloMosaic.Lib.Quiescent

@[expose] public section

set_option maxRecDepth 16384

noncomputable section

/-! The AdamW step of the weight of the input projection: every result array is one formula at each element, in the kernel over the
blocks of rows and in the reference over the whole array. -/

namespace Cert.AdamIn

open Idealize.ShloMosaic Idealize.ShloMosaic.TcCoe Idealize.SL.Sem Cert.AdamInRefIdeal.Read

variable (w g m v : Cert.AdamInIdeal.S1024x2120.Idx → EReal)

/-- The new first moment. -/
theorem moment1 : val_main_v4 (F := Ideal) g m = Cert.AdamInIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamInIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamInIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamInRefIdeal (hAdamInRefIdeal := Cert.AdamInRefIdeal.Gen.facts) :=
  fun m ρ _ => (θ_run Cert.AdamInRefIdeal.defs _ _).mono (fun r h => And.intro (fun c => (h c).2.2.2)
      (Idealize.ShloMosaic.sem_eq_zero_of_no_sems (by decide) r.2))
    (Cert.AdamInRefIdeal.Value.run (F := Ideal) m ρ)

/-- The kernel's three results are the reference's: the change of the weight and both new moments. -/
theorem values : Cert.algebraic_AdamInIdeal_AdamInRefIdeal (hAdamInIdeal := Cert.AdamInIdeal.Gen.facts)
    (hAdamInRefIdeal := Cert.AdamInRefIdeal.Gen.facts) := by
  intro m g m' g' _ hargs
  refine ⟨_, _, _, Cert.AdamInIdeal.Value.run m g, ?_⟩
  refine (θ_run Cert.AdamInRefIdeal.defs _ _).mono (fun r h c => ?_) (Cert.AdamInRefIdeal.Value.run m' g')
  obtain ⟨h0, h1, h2, h3⟩ := h c
  obtain ⟨a0, a1, a2, a3⟩ := hargs c
  refine ⟨h0.trans ?_, h1.trans ?_, h2.trans ?_, h3⟩
  · rw [Cert.AdamInRefIdeal.Read.val_main_v23_eq, a0, a1, a2, a3]
    exact change _ _ _ _
  · rw [Cert.AdamInRefIdeal.Read.val_main_v4_eq, a1, a2]
    exact moment1 _ _
  · rw [Cert.AdamInRefIdeal.Read.val_main_v10_eq, a1, a3]
    exact moment2 _ _

end Cert.AdamIn
end
-- ==== Proof.Adam.BranchSsm.lean ====
module
public import proofs.«01_k».proof.Proof.Gen.AdamBranchSsmIdeal.Value
public import proofs.«01_k».proof.Proof.Gen.AdamBranchSsmRefIdeal.Run
public import proofs.«01_k».proof.Proof.Gen.AdamBranchSsmRefIdeal.Read
public import proofs.«01_k».proof.Defs
public import Idealize.ShloMosaic.Lib.Quiescent

@[expose] public section

set_option maxRecDepth 16384

noncomputable section

/-! The AdamW step of the weight of the recurrence branch's output projection: every result array is one formula at each element, in the kernel over the
blocks of rows and in the reference over the whole array. -/

namespace Cert.AdamBranchSsm

open Idealize.ShloMosaic Idealize.ShloMosaic.TcCoe Idealize.SL.Sem Cert.AdamBranchSsmRefIdeal.Read

variable (w g m v : Cert.AdamBranchSsmIdeal.S512x1024.Idx → EReal)

/-- The new first moment. -/
theorem moment1 : val_main_v4 (F := Ideal) g m = Cert.AdamBranchSsmIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamBranchSsmIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamBranchSsmIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamBranchSsmRefIdeal (hAdamBranchSsmRefIdeal := Cert.AdamBranchSsmRefIdeal.Gen.facts) :=
  fun m ρ _ => (θ_run Cert.AdamBranchSsmRefIdeal.defs _ _).mono (fun r h => And.intro (fun c => (h c).2.2.2)
      (Idealize.ShloMosaic.sem_eq_zero_of_no_sems (by decide) r.2))
    (Cert.AdamBranchSsmRefIdeal.Value.run (F := Ideal) m ρ)

/-- The kernel's three results are the reference's: the change of the weight and both new moments. -/
theorem values : Cert.algebraic_AdamBranchSsmIdeal_AdamBranchSsmRefIdeal (hAdamBranchSsmIdeal := Cert.AdamBranchSsmIdeal.Gen.facts)
    (hAdamBranchSsmRefIdeal := Cert.AdamBranchSsmRefIdeal.Gen.facts) := by
  intro m g m' g' _ hargs
  refine ⟨_, _, _, Cert.AdamBranchSsmIdeal.Value.run m g, ?_⟩
  refine (θ_run Cert.AdamBranchSsmRefIdeal.defs _ _).mono (fun r h c => ?_) (Cert.AdamBranchSsmRefIdeal.Value.run m' g')
  obtain ⟨h0, h1, h2, h3⟩ := h c
  obtain ⟨a0, a1, a2, a3⟩ := hargs c
  refine ⟨h0.trans ?_, h1.trans ?_, h2.trans ?_, h3⟩
  · rw [Cert.AdamBranchSsmRefIdeal.Read.val_main_v23_eq, a0, a1, a2, a3]
    exact change _ _ _ _
  · rw [Cert.AdamBranchSsmRefIdeal.Read.val_main_v4_eq, a1, a2]
    exact moment1 _ _
  · rw [Cert.AdamBranchSsmRefIdeal.Read.val_main_v10_eq, a1, a3]
    exact moment2 _ _

end Cert.AdamBranchSsm
end
-- ==== Proof.Adam.BranchAttn.lean ====
module
public import proofs.«01_k».proof.Proof.Gen.AdamBranchAttnIdeal.Value
public import proofs.«01_k».proof.Proof.Gen.AdamBranchAttnRefIdeal.Run
public import proofs.«01_k».proof.Proof.Gen.AdamBranchAttnRefIdeal.Read
public import proofs.«01_k».proof.Defs
public import Idealize.ShloMosaic.Lib.Quiescent

@[expose] public section

set_option maxRecDepth 16384

noncomputable section

/-! The AdamW step of the weight of the attention branch's output projection: every result array is one formula at each element, in the kernel over the
blocks of rows and in the reference over the whole array. -/

namespace Cert.AdamBranchAttn

open Idealize.ShloMosaic Idealize.ShloMosaic.TcCoe Idealize.SL.Sem Cert.AdamBranchAttnRefIdeal.Read

variable (w g m v : Cert.AdamBranchAttnIdeal.S256x1024.Idx → EReal)

/-- The new first moment. -/
theorem moment1 : val_main_v4 (F := Ideal) g m = Cert.AdamBranchAttnIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamBranchAttnIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamBranchAttnIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamBranchAttnRefIdeal (hAdamBranchAttnRefIdeal := Cert.AdamBranchAttnRefIdeal.Gen.facts) :=
  fun m ρ _ => (θ_run Cert.AdamBranchAttnRefIdeal.defs _ _).mono (fun r h => And.intro (fun c => (h c).2.2.2)
      (Idealize.ShloMosaic.sem_eq_zero_of_no_sems (by decide) r.2))
    (Cert.AdamBranchAttnRefIdeal.Value.run (F := Ideal) m ρ)

/-- The kernel's three results are the reference's: the change of the weight and both new moments. -/
theorem values : Cert.algebraic_AdamBranchAttnIdeal_AdamBranchAttnRefIdeal (hAdamBranchAttnIdeal := Cert.AdamBranchAttnIdeal.Gen.facts)
    (hAdamBranchAttnRefIdeal := Cert.AdamBranchAttnRefIdeal.Gen.facts) := by
  intro m g m' g' _ hargs
  refine ⟨_, _, _, Cert.AdamBranchAttnIdeal.Value.run m g, ?_⟩
  refine (θ_run Cert.AdamBranchAttnRefIdeal.defs _ _).mono (fun r h c => ?_) (Cert.AdamBranchAttnRefIdeal.Value.run m' g')
  obtain ⟨h0, h1, h2, h3⟩ := h c
  obtain ⟨a0, a1, a2, a3⟩ := hargs c
  refine ⟨h0.trans ?_, h1.trans ?_, h2.trans ?_, h3⟩
  · rw [Cert.AdamBranchAttnRefIdeal.Read.val_main_v23_eq, a0, a1, a2, a3]
    exact change _ _ _ _
  · rw [Cert.AdamBranchAttnRefIdeal.Read.val_main_v4_eq, a1, a2]
    exact moment1 _ _
  · rw [Cert.AdamBranchAttnRefIdeal.Read.val_main_v10_eq, a1, a3]
    exact moment2 _ _

end Cert.AdamBranchAttn
end
-- ==== Proof.Adam.MixOut.lean ====
module
public import proofs.«01_k».proof.Proof.Gen.AdamMixOutIdeal.Value
public import proofs.«01_k».proof.Proof.Gen.AdamMixOutRefIdeal.Run
public import proofs.«01_k».proof.Proof.Gen.AdamMixOutRefIdeal.Read
public import proofs.«01_k».proof.Defs
public import Idealize.ShloMosaic.Lib.Quiescent

@[expose] public section

set_option maxRecDepth 16384

noncomputable section

/-! The AdamW step of the weight of the mixing projection: every result array is one formula at each element, in the kernel over the
blocks of rows and in the reference over the whole array. -/

namespace Cert.AdamMixOut

open Idealize.ShloMosaic Idealize.ShloMosaic.TcCoe Idealize.SL.Sem Cert.AdamMixOutRefIdeal.Read

variable (w g m v : Cert.AdamMixOutIdeal.S256x1024.Idx → EReal)

/-- The new first moment. -/
theorem moment1 : val_main_v4 (F := Ideal) g m = Cert.AdamMixOutIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamMixOutIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamMixOutIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamMixOutRefIdeal (hAdamMixOutRefIdeal := Cert.AdamMixOutRefIdeal.Gen.facts) :=
  fun m ρ _ => (θ_run Cert.AdamMixOutRefIdeal.defs _ _).mono (fun r h => And.intro (fun c => (h c).2.2.2)
      (Idealize.ShloMosaic.sem_eq_zero_of_no_sems (by decide) r.2))
    (Cert.AdamMixOutRefIdeal.Value.run (F := Ideal) m ρ)

/-- The kernel's three results are the reference's: the change of the weight and both new moments. -/
theorem values : Cert.algebraic_AdamMixOutIdeal_AdamMixOutRefIdeal (hAdamMixOutIdeal := Cert.AdamMixOutIdeal.Gen.facts)
    (hAdamMixOutRefIdeal := Cert.AdamMixOutRefIdeal.Gen.facts) := by
  intro m g m' g' _ hargs
  refine ⟨_, _, _, Cert.AdamMixOutIdeal.Value.run m g, ?_⟩
  refine (θ_run Cert.AdamMixOutRefIdeal.defs _ _).mono (fun r h c => ?_) (Cert.AdamMixOutRefIdeal.Value.run m' g')
  obtain ⟨h0, h1, h2, h3⟩ := h c
  obtain ⟨a0, a1, a2, a3⟩ := hargs c
  refine ⟨h0.trans ?_, h1.trans ?_, h2.trans ?_, h3⟩
  · rw [Cert.AdamMixOutRefIdeal.Read.val_main_v23_eq, a0, a1, a2, a3]
    exact change _ _ _ _
  · rw [Cert.AdamMixOutRefIdeal.Read.val_main_v4_eq, a1, a2]
    exact moment1 _ _
  · rw [Cert.AdamMixOutRefIdeal.Read.val_main_v10_eq, a1, a3]
    exact moment2 _ _

end Cert.AdamMixOut
end
-- ==== Proof.Adam.Up.lean ====
module
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Defs
public import Idealize.ShloMosaic.Lib.Quiescent

@[expose] public section

set_option maxRecDepth 16384

noncomputable section

/-! The AdamW step of the weight of the up-projection: every result array is one formula at each element, in the kernel over the
blocks of rows and in the reference over the whole array. -/

namespace Cert.AdamUp

open Idealize.ShloMosaic Idealize.ShloMosaic.TcCoe Idealize.SL.Sem Cert.AdamUpRefIdeal.Read

variable (w g m v : Cert.AdamUpIdeal.S1024x1408.Idx → EReal)

/-- The new first moment. -/
theorem moment1 : val_main_v4 (F := Ideal) g m = Cert.AdamUpIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamUpIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamUpIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamUpRefIdeal (hAdamUpRefIdeal := Cert.AdamUpRefIdeal.Gen.facts) :=
  fun m ρ _ => (θ_run Cert.AdamUpRefIdeal.defs _ _).mono (fun r h => And.intro (fun c => (h c).2.2.2)
      (Idealize.ShloMosaic.sem_eq_zero_of_no_sems (by decide) r.2))
    (Cert.AdamUpRefIdeal.Value.run (F := Ideal) m ρ)

/-- The kernel's three results are the reference's: the change of the weight and both new moments. -/
theorem values : Cert.algebraic_AdamUpIdeal_AdamUpRefIdeal (hAdamUpIdeal := Cert.AdamUpIdeal.Gen.facts)
    (hAdamUpRefIdeal := Cert.AdamUpRefIdeal.Gen.facts) := by
  intro m g m' g' _ hargs
  refine ⟨_, _, _, Cert.AdamUpIdeal.Value.run m g, ?_⟩
  refine (θ_run Cert.AdamUpRefIdeal.defs _ _).mono (fun r h c => ?_) (Cert.AdamUpRefIdeal.Value.run m' g')
  obtain ⟨h0, h1, h2, h3⟩ := h c
  obtain ⟨a0, a1, a2, a3⟩ := hargs c
  refine ⟨h0.trans ?_, h1.trans ?_, h2.trans ?_, h3⟩
  · rw [Cert.AdamUpRefIdeal.Read.val_main_v23_eq, a0, a1, a2, a3]
    exact change _ _ _ _
  · rw [Cert.AdamUpRefIdeal.Read.val_main_v4_eq, a1, a2]
    exact moment1 _ _
  · rw [Cert.AdamUpRefIdeal.Read.val_main_v10_eq, a1, a3]
    exact moment2 _ _

end Cert.AdamUp
end
-- ==== Proof.Adam.Down.lean ====
module
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Defs
public import Idealize.ShloMosaic.Lib.Quiescent

@[expose] public section

set_option maxRecDepth 16384

noncomputable section

/-! The AdamW step of the weight of the down-projection: every result array is one formula at each element, in the kernel over the
blocks of rows and in the reference over the whole array. -/

namespace Cert.AdamDown

open Idealize.ShloMosaic Idealize.ShloMosaic.TcCoe Idealize.SL.Sem Cert.AdamDownRefIdeal.Read

variable (w g m v : Cert.AdamDownIdeal.S704x1024.Idx → EReal)

/-- The new first moment. -/
theorem moment1 : val_main_v4 (F := Ideal) g m = Cert.AdamDownIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamDownIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamDownIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamDownRefIdeal (hAdamDownRefIdeal := Cert.AdamDownRefIdeal.Gen.facts) :=
  fun m ρ _ => (θ_run Cert.AdamDownRefIdeal.defs _ _).mono (fun r h => And.intro (fun c => (h c).2.2.2)
      (Idealize.ShloMosaic.sem_eq_zero_of_no_sems (by decide) r.2))
    (Cert.AdamDownRefIdeal.Value.run (F := Ideal) m ρ)

/-- The kernel's three results are the reference's: the change of the weight and both new moments. -/
theorem values : Cert.algebraic_AdamDownIdeal_AdamDownRefIdeal (hAdamDownIdeal := Cert.AdamDownIdeal.Gen.facts)
    (hAdamDownRefIdeal := Cert.AdamDownRefIdeal.Gen.facts) := by
  intro m g m' g' _ hargs
  refine ⟨_, _, _, Cert.AdamDownIdeal.Value.run m g, ?_⟩
  refine (θ_run Cert.AdamDownRefIdeal.defs _ _).mono (fun r h c => ?_) (Cert.AdamDownRefIdeal.Value.run m' g')
  obtain ⟨h0, h1, h2, h3⟩ := h c
  obtain ⟨a0, a1, a2, a3⟩ := hargs c
  refine ⟨h0.trans ?_, h1.trans ?_, h2.trans ?_, h3⟩
  · rw [Cert.AdamDownRefIdeal.Read.val_main_v23_eq, a0, a1, a2, a3]
    exact change _ _ _ _
  · rw [Cert.AdamDownRefIdeal.Read.val_main_v4_eq, a1, a2]
    exact moment1 _ _
  · rw [Cert.AdamDownRefIdeal.Read.val_main_v10_eq, a1, a3]
    exact moment2 _ _

end Cert.AdamDown
end
-- ==== Proof.Adam.SsmConv.lean ====
module
public import proofs.«01_k».proof.Proof.Gen.AdamSsmConvIdeal.Value
public import proofs.«01_k».proof.Proof.Gen.AdamSsmConvRefIdeal.Run
public import proofs.«01_k».proof.Proof.Gen.AdamSsmConvRefIdeal.Read
public import proofs.«01_k».proof.Defs
public import Idealize.ShloMosaic.Lib.Quiescent

@[expose] public section

set_option maxRecDepth 16384

noncomputable section

/-! The AdamW step of the weight of the recurrence's convolution taps: every result array is one formula at each element, in the kernel over the
blocks of rows and in the reference over the whole array. -/

namespace Cert.AdamSsmConv

open Idealize.ShloMosaic Idealize.ShloMosaic.TcCoe Idealize.SL.Sem Cert.AdamSsmConvRefIdeal.Read

variable (w g m v : Cert.AdamSsmConvIdeal.S4x768.Idx → EReal)

/-- The new first moment. -/
theorem moment1 : val_main_v4 (F := Ideal) g m = Cert.AdamSsmConvIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamSsmConvIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamSsmConvIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamSsmConvRefIdeal (hAdamSsmConvRefIdeal := Cert.AdamSsmConvRefIdeal.Gen.facts) :=
  fun m ρ _ => (θ_run Cert.AdamSsmConvRefIdeal.defs _ _).mono (fun r h => And.intro (fun c => (h c).2.2.2)
      (Idealize.ShloMosaic.sem_eq_zero_of_no_sems (by decide) r.2))
    (Cert.AdamSsmConvRefIdeal.Value.run (F := Ideal) m ρ)

/-- The kernel's three results are the reference's: the change of the weight and both new moments. -/
theorem values : Cert.algebraic_AdamSsmConvIdeal_AdamSsmConvRefIdeal (hAdamSsmConvIdeal := Cert.AdamSsmConvIdeal.Gen.facts)
    (hAdamSsmConvRefIdeal := Cert.AdamSsmConvRefIdeal.Gen.facts) := by
  intro m g m' g' _ hargs
  refine ⟨_, _, _, Cert.AdamSsmConvIdeal.Value.run m g, ?_⟩
  refine (θ_run Cert.AdamSsmConvRefIdeal.defs _ _).mono (fun r h c => ?_) (Cert.AdamSsmConvRefIdeal.Value.run m' g')
  obtain ⟨h0, h1, h2, h3⟩ := h c
  obtain ⟨a0, a1, a2, a3⟩ := hargs c
  refine ⟨h0.trans ?_, h1.trans ?_, h2.trans ?_, h3⟩
  · rw [Cert.AdamSsmConvRefIdeal.Read.val_main_v23_eq, a0, a1, a2, a3]
    exact change _ _ _ _
  · rw [Cert.AdamSsmConvRefIdeal.Read.val_main_v4_eq, a1, a2]
    exact moment1 _ _
  · rw [Cert.AdamSsmConvRefIdeal.Read.val_main_v10_eq, a1, a3]
    exact moment2 _ _

end Cert.AdamSsmConv
end
-- ==== Proof.Adam.FfnConv.lean ====
module
public import proofs.«01_k».proof.Proof.Gen.AdamFfnConvIdeal.Value
public import proofs.«01_k».proof.Proof.Gen.AdamFfnConvRefIdeal.Run
public import proofs.«01_k».proof.Proof.Gen.AdamFfnConvRefIdeal.Read
public import proofs.«01_k».proof.Defs
public import Idealize.ShloMosaic.Lib.Quiescent

@[expose] public section

set_option maxRecDepth 16384

noncomputable section

/-! The AdamW step of the weight of the ConvFFN's convolution taps: every result array is one formula at each element, in the kernel over the
blocks of rows and in the reference over the whole array. -/

namespace Cert.AdamFfnConv

open Idealize.ShloMosaic Idealize.ShloMosaic.TcCoe Idealize.SL.Sem Cert.AdamFfnConvRefIdeal.Read

variable (w g m v : Cert.AdamFfnConvIdeal.S3x1408.Idx → EReal)

/-- The new first moment. -/
theorem moment1 : val_main_v4 (F := Ideal) g m = Cert.AdamFfnConvIdeal.Value.G5 (F := Ideal) g m := by
  funext i
  simp only [val_main_v4_apply, val_main_v3_apply, val_main_v2_apply, val_main_v1_apply, val_main_v0_apply, val_main_cst_apply, val_main_cst_0_apply]

/-- The new second moment. -/
theorem moment2 : val_main_v10 (F := Ideal) g v = Cert.AdamFfnConvIdeal.Value.G6 (F := Ideal) g v := by
  funext i
  simp only [val_main_v10_apply, val_main_v9_apply, val_main_v8_apply, val_main_v7_apply, val_main_v6_apply, val_main_v5_apply, val_main_cst_1_apply, val_main_cst_2_apply]

/-- The change of the weight. -/
theorem change : val_main_v23 (F := Ideal) w g m v = Cert.AdamFfnConvIdeal.Value.G4 (F := Ideal) w g m v := by
  funext i
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply, val_main_cst_5_apply, val_main_cst_6_apply, val_main_cst_7_apply]
  rfl

/-- The reference runs, leaves its arguments and ends with every counter at zero: it has no semaphores. -/
theorem referenceFrame : Cert.quiescent_AdamFfnConvRefIdeal (hAdamFfnConvRefIdeal := Cert.AdamFfnConvRefIdeal.Gen.facts) :=
  fun m ρ _ => (θ_run Cert.AdamFfnConvRefIdeal.defs _ _).mono (fun r h => And.intro (fun c => (h c).2.2.2)
      (Idealize.ShloMosaic.sem_eq_zero_of_no_sems (by decide) r.2))
    (Cert.AdamFfnConvRefIdeal.Value.run (F := Ideal) m ρ)

/-- The kernel's three results are the reference's: the change of the weight and both new moments. -/
theorem values : Cert.algebraic_AdamFfnConvIdeal_AdamFfnConvRefIdeal (hAdamFfnConvIdeal := Cert.AdamFfnConvIdeal.Gen.facts)
    (hAdamFfnConvRefIdeal := Cert.AdamFfnConvRefIdeal.Gen.facts) := by
  intro m g m' g' _ hargs
  refine ⟨_, _, _, Cert.AdamFfnConvIdeal.Value.run m g, ?_⟩
  refine (θ_run Cert.AdamFfnConvRefIdeal.defs _ _).mono (fun r h c => ?_) (Cert.AdamFfnConvRefIdeal.Value.run m' g')
  obtain ⟨h0, h1, h2, h3⟩ := h c
  obtain ⟨a0, a1, a2, a3⟩ := hargs c
  refine ⟨h0.trans ?_, h1.trans ?_, h2.trans ?_, h3⟩
  · rw [Cert.AdamFfnConvRefIdeal.Read.val_main_v23_eq, a0, a1, a2, a3]
    exact change _ _ _ _
  · rw [Cert.AdamFfnConvRefIdeal.Read.val_main_v4_eq, a1, a2]
    exact moment1 _ _
  · rw [Cert.AdamFfnConvRefIdeal.Read.val_main_v10_eq, a1, a3]
    exact moment2 _ _

end Cert.AdamFfnConv
end
-- ==== Proof.Adam.Small.lean ====
module
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Lib.Places
public import Idealize.ShloMosaic.Lib.Pointwise
public import proofs.«01_k».proof.Defs
public import Idealize.ShloMosaic.Lib.Quiescent

@[expose] public section

set_option maxRecDepth 16384

noncomputable section

/-! The sum of the eight devices' gradients of the small parameters, packed in rows of 128, and the AdamW step with it. -/

namespace Cert.AdamSmall

open Idealize.ShloMosaic Idealize.ShloMosaic.TcCoe Idealize.SL.Sem Cert.Lib Cert.AdamSmallRefIdeal.Read
open Cert.AdamSmallIdeal.Gen (k0_pay1 k0_pay2 k0_pay3 k0_pay4 k0_pay5 k0_pay6 r0_0 r0_1 r0_2 r0_3 r0_4 r0_5 r0_6 r0_7 r0_8)

variable (w m v : Vec Ideal Cert.AdamSmallIdeal.S416x128 .f32) (a : Vec Ideal Cert.AdamSmallIdeal.S3328x128 .f32)

/-- The sum of the eight devices' blocks of rows. -/
theorem gradient : val_main_v1 (F := Ideal) a = Cert.AdamSmallIdeal.Value.G4 (F := Ideal) w a m v := by
  funext i
  obtain ⟨r, k, rfl⟩ := ix2_surj (m := 416) (n := 128) i
  have hr := r.isLt
  have hk := k.isLt
  rw [val_main_v1_apply, val_main_cst_apply, Fin.sum_univ_eight]
  simp only [val_main_v0_apply]
  have hld : Cert.AdamSmallIdeal.Value.G4 (F := Ideal) w a m v (ix2 r k)
      = View.ld a r0_0 (ix2 r k) + View.ld a r0_1 (ix2 r k) + View.ld a r0_2 (ix2 r k) + View.ld a r0_3 (ix2 r k)
        + View.ld a r0_4 (ix2 r k) + View.ld a r0_5 (ix2 r k) + View.ld a r0_6 (ix2 r k) + View.ld a r0_7 (ix2 r k) := rfl
  rw [hld]
  rw [ld_at _ a r k ⟨0 + r.val, by omega⟩ k (by dsimp only <;> omega) (by omega)]
  rw [ld_at _ a r k ⟨416 + r.val, by omega⟩ k (by dsimp only <;> omega) (by omega)]
  rw [ld_at _ a r k ⟨832 + r.val, by omega⟩ k (by dsimp only <;> omega) (by omega)]
  rw [ld_at _ a r k ⟨1248 + r.val, by omega⟩ k (by dsimp only <;> omega) (by omega)]
  rw [ld_at _ a r k ⟨1664 + r.val, by omega⟩ k (by dsimp only <;> omega) (by omega)]
  rw [ld_at _ a r k ⟨2080 + r.val, by omega⟩ k (by dsimp only <;> omega) (by omega)]
  rw [ld_at _ a r k ⟨2496 + r.val, by omega⟩ k (by dsimp only <;> omega) (by omega)]
  rw [ld_at _ a r k ⟨2912 + r.val, by omega⟩ k (by dsimp only <;> omega) (by omega)]
  rw [show (FloatOps.ofBits .f32 0#32 : Ideal .f32) = (0 : EReal) by show Ideal.ofBits .f32 0#32 = 0; simp [Ideal.ofBits, Ideal.ieee]]
  refine (zero_add (_ : EReal)).trans ?_
  have hj : ∀ (d : Fin 8) (R : Fin 3328), R.val = 416 * d.val + r.val → idx_main_v0 (idx_main_v1 (ix2 r k) d) = ix2 R k := by
    intro d R hR
    funext x
    refine Fin.ext ?_
    match x with
    | ⟨0, _⟩ => show ((d.val * 416 + r.val) * 128 + k.val) / 128 = R.val; omega
    | ⟨1, _⟩ => show ((d.val * 416 + r.val) * 128 + k.val) % 128 = k.val; omega
  rw [hj 0 ⟨0 + r.val, by omega⟩ (by rfl), hj 1 ⟨416 + r.val, by omega⟩ (by rfl), hj 2 ⟨832 + r.val, by omega⟩ (by rfl), hj 3 ⟨1248 + r.val, by omega⟩ (by rfl), hj 4 ⟨1664 + r.val, by omega⟩ (by rfl), hj 5 ⟨2080 + r.val, by omega⟩ (by rfl), hj 6 ⟨2496 + r.val, by omega⟩ (by rfl), hj 7 ⟨2912 + r.val, by omega⟩ (by rfl)]

/-- A load of the whole array gives the array. -/
theorem ld_all (x : Vec Ideal Cert.AdamSmallIdeal.S416x128 .f32) : View.ld x r0_8 = x := by
  rw [View.ld_unit_zero (S := Cert.AdamSmallIdeal.S416x128) (funext fun a => by fin_cases a <;> rfl)]

/-- The new first moment. -/
theorem moment1 : val_main_v6 (F := Ideal) a m = Cert.AdamSmallIdeal.Value.G6 (F := Ideal) w a m v := by
  show _ = k0_pay5 (F := Ideal) w a m v
  funext i
  unfold k0_pay5
  rw [ld_all]
  simp only [val_main_v6_apply, val_main_v5_apply, val_main_v4_apply, val_main_v3_apply, val_main_v2_apply, val_main_cst_apply, val_main_cst_0_apply, val_main_cst_1_apply, val_main_cst_2_apply, val_main_cst_3_apply, val_main_cst_4_apply, val_main_cst_5_apply, val_main_cst_6_apply, val_main_cst_7_apply, val_main_cst_8_apply]
  rw [gradient w m v a]
  rfl

/-- The new second moment. -/
theorem moment2 : val_main_v12 (F := Ideal) a v = Cert.AdamSmallIdeal.Value.G7 (F := Ideal) w a m v := by
  show _ = k0_pay6 (F := Ideal) w a m v
  funext i
  unfold k0_pay6
  rw [ld_all]
  simp only [val_main_v12_apply, val_main_v11_apply, val_main_v10_apply, val_main_v9_apply, val_main_v8_apply, val_main_v7_apply, val_main_cst_apply, val_main_cst_0_apply, val_main_cst_1_apply, val_main_cst_2_apply, val_main_cst_3_apply, val_main_cst_4_apply, val_main_cst_5_apply, val_main_cst_6_apply, val_main_cst_7_apply, val_main_cst_8_apply]
  rw [gradient w m v a]
  rfl

/-- The change of the parameters. -/
theorem change : val_main_v25 (F := Ideal) w a m v = Cert.AdamSmallIdeal.Value.G5 (F := Ideal) w a m v := by
  have h1 : val_main_v6 (F := Ideal) a m = k0_pay5 (F := Ideal) w a m v := moment1 w m v a
  have h2 : val_main_v12 (F := Ideal) a v = k0_pay6 (F := Ideal) w a m v := moment2 w m v a
  funext i
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_cst_apply, val_main_cst_0_apply, val_main_cst_1_apply, val_main_cst_2_apply, val_main_cst_3_apply, val_main_cst_4_apply, val_main_cst_5_apply, val_main_cst_6_apply, val_main_cst_7_apply, val_main_cst_8_apply, h1, h2]
  rfl

/-- The reference runs, leaves its arguments and ends with every counter at zero: it has no semaphores. -/
theorem referenceFrame : Cert.quiescent_AdamSmallRefIdeal (hAdamSmallRefIdeal := Cert.AdamSmallRefIdeal.Gen.facts) :=
  fun m ρ _ => (θ_run Cert.AdamSmallRefIdeal.defs _ _).mono (fun r h => And.intro (fun c => (h c).2.2.2.2)
      (Idealize.ShloMosaic.sem_eq_zero_of_no_sems (by decide) r.2))
    (Cert.AdamSmallRefIdeal.Value.run (F := Ideal) m ρ)

/-- The kernel's four results are the reference's: the summed gradient, the change of the parameters and both new
    moments. -/
theorem values : Cert.algebraic_AdamSmallIdeal_AdamSmallRefIdeal (hAdamSmallIdeal := Cert.AdamSmallIdeal.Gen.facts)
    (hAdamSmallRefIdeal := Cert.AdamSmallRefIdeal.Gen.facts) := by
  intro m g m' g' _ hargs
  refine ⟨_, _, _, _, Cert.AdamSmallIdeal.Value.run m g, ?_⟩
  refine (θ_run Cert.AdamSmallRefIdeal.defs _ _).mono (fun r h c => ?_) (Cert.AdamSmallRefIdeal.Value.run m' g')
  obtain ⟨h0, h1, h2, h3, h4⟩ := h c
  obtain ⟨a0, a1, a2, a3⟩ := hargs c
  refine ⟨h0.trans ?_, h1.trans ?_, h2.trans ?_, h3.trans ?_, h4⟩
  · rw [Cert.AdamSmallRefIdeal.Read.val_main_v1_eq, a1]
    exact gradient _ _ _ _
  · rw [Cert.AdamSmallRefIdeal.Read.val_main_v25_eq, a0, a1, a2, a3]
    exact change _ _ _ _
  · rw [Cert.AdamSmallRefIdeal.Read.val_main_v6_eq, a1, a2]
    exact moment1 _ _ _ _
  · rw [Cert.AdamSmallRefIdeal.Read.val_main_v12_eq, a1, a3]
    exact moment2 _ _ _ _

end Cert.AdamSmall
end
-- ==== Proof.lean ====
module

public import proofs.«01_k».proof.Proof.Prod.DwDown
public import proofs.«01_k».proof.Proof.Prod.DAct
public import proofs.«01_k».proof.Proof.Prod.DwUp
public import proofs.«01_k».proof.Proof.Prod.DHid
public import proofs.«01_k».proof.Proof.Prod.DwMix
public import proofs.«01_k».proof.Proof.Prod.DMerged
public import proofs.«01_k».proof.Proof.Prod.DwBs
public import proofs.«01_k».proof.Proof.Prod.DwBa
public import proofs.«01_k».proof.Proof.Prod.DYssm
public import proofs.«01_k».proof.Proof.Prod.DYattn
public import proofs.«01_k».proof.Proof.Prod.Up
public import proofs.«01_k».proof.Proof.Prod.Down
public import proofs.«01_k».proof.Proof.Prod.Bs
public import proofs.«01_k».proof.Proof.Prod.Ba
public import proofs.«01_k».proof.Proof.Prod.Mix
public import proofs.«01_k».proof.Proof.Prod.InTail
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnAct.Arrays
public import proofs.«01_k».proof.Proof.FfnAct.Pre
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DActRefIdeal.Read
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DHid
public import proofs.«01_k».proof.Proof.Gen.DHid.Frame
public import proofs.«01_k».proof.Proof.Gen.DHidIdeal
public import proofs.«01_k».proof.Proof.Gen.DHidIdeal.Frame
public import proofs.«01_k».proof.Proof.Gen.DHidIdeal.Value
public import proofs.«01_k».proof.Proof.Gen.DHidRefIdeal
public import proofs.«01_k».proof.Proof.Gen.DHidRefIdeal.Run
public import proofs.«01_k».proof.Proof.Gen.DHidRefIdeal.Read
public import proofs.«01_k».proof.Proof.Gen.DwMix
public import proofs.«01_k».proof.Proof.Gen.DwMix.Frame
public import proofs.«01_k».proof.Proof.Gen.DwMixIdeal
public import proofs.«01_k».proof.Proof.Gen.DwMixIdeal.Frame
public import proofs.«01_k».proof.Proof.Gen.DwMixIdeal.Value
public import proofs.«01_k».proof.Proof.Gen.DwMixRefIdeal
public import proofs.«01_k».proof.Proof.Gen.DwMixRefIdeal.Run
public import proofs.«01_k».proof.Proof.Gen.DwMixRefIdeal.Read
public import proofs.«01_k».proof.Proof.Gen.DMerged
public import proofs.«01_k».proof.Proof.Gen.DMerged.Frame
public import proofs.«01_k».proof.Proof.Gen.DMergedIdeal
public import proofs.«01_k».proof.Proof.Gen.DMergedIdeal.Frame
public import proofs.«01_k».proof.Proof.Gen.DMergedIdeal.Value
public import proofs.«01_k».proof.Proof.Gen.DMergedRefIdeal
public import proofs.«01_k».proof.Proof.Gen.DMergedRefIdeal.Run
public import proofs.«01_k».proof.Proof.Gen.DMergedRefIdeal.Read
public import proofs.«01_k».proof.Proof.Gen.DwBs
public import proofs.«01_k».proof.Proof.Gen.DwBs.Frame
public import proofs.«01_k».proof.Proof.Gen.DwBsIdeal
public import proofs.«01_k».proof.Proof.Gen.DwBsIdeal.Frame
public import proofs.«01_k».proof.Proof.Gen.DwBsIdeal.Value
public import proofs.«01_k».proof.Proof.Gen.DwBsRefIdeal
public import proofs.«01_k».proof.Proof.Gen.DwBsRefIdeal.Run
public import proofs.«01_k».proof.Proof.Gen.DwBsRefIdeal.Read
public import proofs.«01_k».proof.Proof.Gen.DwBa
public import proofs.«01_k».proof.Proof.Gen.DwBa.Frame
public import proofs.«01_k».proof.Proof.Gen.DwBaIdeal
public import proofs.«01_k».proof.Proof.Gen.DwBaIdeal.Frame
public import proofs.«01_k».proof.Proof.Gen.DwBaIdeal.Value
public import proofs.«01_k».proof.Proof.Gen.DwBaRefIdeal
public import proofs.«01_k».proof.Proof.Gen.DwBaRefIdeal.Run
public import proofs.«01_k».proof.Proof.Gen.DwBaRefIdeal.Read
public import proofs.«01_k».proof.Proof.Gen.DYssm
public import proofs.«01_k».proof.Proof.Gen.DYssm.Frame
public import proofs.«01_k».proof.Proof.Gen.DYssmIdeal
public import proofs.«01_k».proof.Proof.Gen.DYssmIdeal.Frame
public import proofs.«01_k».proof.Proof.Gen.DYssmIdeal.Value
public import proofs.«01_k».proof.Proof.Gen.DYssmRefIdeal
public import proofs.«01_k».proof.Proof.Gen.DYssmRefIdeal.Run
public import proofs.«01_k».proof.Proof.Gen.DYssmRefIdeal.Read
public import proofs.«01_k».proof.Proof.Gen.DYattn
public import proofs.«01_k».proof.Proof.Gen.DYattn.Frame
public import proofs.«01_k».proof.Proof.Gen.DYattnIdeal
public import proofs.«01_k».proof.Proof.Gen.DYattnIdeal.Frame
public import proofs.«01_k».proof.Proof.Gen.DYattnIdeal.Value
public import proofs.«01_k».proof.Proof.Gen.DYattnRefIdeal
public import proofs.«01_k».proof.Proof.Gen.DYattnRefIdeal.Run
public import proofs.«01_k».proof.Proof.Gen.DYattnRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Bs
public import proofs.«01_k».proof.Proof.Gen.Bs.Frame
public import proofs.«01_k».proof.Proof.Gen.BsIdeal
public import proofs.«01_k».proof.Proof.Gen.BsIdeal.Frame
public import proofs.«01_k».proof.Proof.Gen.BsIdeal.Value
public import proofs.«01_k».proof.Proof.Gen.BsRefIdeal
public import proofs.«01_k».proof.Proof.Gen.BsRefIdeal.Run
public import proofs.«01_k».proof.Proof.Gen.BsRefIdeal.Read
public import proofs.«01_k».proof.Proof.Gen.Ba
public import proofs.«01_k».proof.Proof.Gen.Ba.Frame
public import proofs.«01_k».proof.Proof.Gen.BaIdeal
public import proofs.«01_k».proof.Proof.Gen.BaIdeal.Frame
public import proofs.«01_k».proof.Proof.Gen.BaIdeal.Value
public import proofs.«01_k».proof.Proof.Gen.BaRefIdeal
public import proofs.«01_k».proof.Proof.Gen.BaRefIdeal.Run
public import proofs.«01_k».proof.Proof.Gen.BaRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.InTail
public import proofs.«01_k».proof.Proof.Gen.InTail.Frame
public import proofs.«01_k».proof.Proof.Gen.InTailIdeal
public import proofs.«01_k».proof.Proof.Gen.InTailIdeal.Frame
public import proofs.«01_k».proof.Proof.Gen.InTailIdeal.Value
public import proofs.«01_k».proof.Proof.Gen.InTailRefIdeal
public import proofs.«01_k».proof.Proof.Gen.InTailRefIdeal.Run
public import proofs.«01_k».proof.Proof.Gen.InTailRefIdeal.Read
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Merge.Main
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.LnBwdRefIdeal.Read
public import proofs.«01_k».proof.Proof.LnBwd.Main
public import proofs.«01_k».proof.Proof.Gen.LnLoss
public import proofs.«01_k».proof.Proof.Gen.LnLoss.Frame
public import proofs.«01_k».proof.Proof.Gen.LnLossIdeal
public import proofs.«01_k».proof.Proof.Gen.LnLossIdeal.Frame
public import proofs.«01_k».proof.Proof.Gen.LnLossIdeal.Value
public import proofs.«01_k».proof.Proof.Gen.LnLossRefIdeal
public import proofs.«01_k».proof.Proof.Gen.LnLossRefIdeal.Run
public import proofs.«01_k».proof.Proof.Gen.LnLossRefIdeal.Read
public import proofs.«01_k».proof.Proof.LnLoss.Main
public import proofs.«01_k».proof.Proof.Gen.ConvXs
public import proofs.«01_k».proof.Proof.Gen.ConvXs.Frame
public import proofs.«01_k».proof.Proof.Gen.ConvXsIdeal
public import proofs.«01_k».proof.Proof.Gen.ConvXsIdeal.Frame
public import proofs.«01_k».proof.Proof.Gen.ConvXsIdeal.Value
public import proofs.«01_k».proof.Proof.Gen.ConvXsRefIdeal
public import proofs.«01_k».proof.Proof.Gen.ConvXsRefIdeal.Run
public import proofs.«01_k».proof.Proof.Gen.ConvXsRefIdeal.Read
public import proofs.«01_k».proof.Proof.ConvXs.Main
public import proofs.«01_k».proof.Proof.Gen.ConvBc
public import proofs.«01_k».proof.Proof.Gen.ConvBc.Frame
public import proofs.«01_k».proof.Proof.Gen.ConvBcIdeal
public import proofs.«01_k».proof.Proof.Gen.ConvBcIdeal.Frame
public import proofs.«01_k».proof.Proof.Gen.ConvBcIdeal.Value
public import proofs.«01_k».proof.Proof.Gen.ConvBcRefIdeal
public import proofs.«01_k».proof.Proof.Gen.ConvBcRefIdeal.Run
public import proofs.«01_k».proof.Proof.Gen.ConvBcRefIdeal.Read
public import proofs.«01_k».proof.Proof.ConvBc.Main
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Adam.In
public import proofs.«01_k».proof.Proof.Gen.AdamBranchSsm
public import proofs.«01_k».proof.Proof.Gen.AdamBranchSsm.Frame
public import proofs.«01_k».proof.Proof.Gen.AdamBranchSsmIdeal
public import proofs.«01_k».proof.Proof.Gen.AdamBranchSsmIdeal.Frame
public import proofs.«01_k».proof.Proof.Gen.AdamBranchSsmIdeal.Value
public import proofs.«01_k».proof.Proof.Gen.AdamBranchSsmRefIdeal
public import proofs.«01_k».proof.Proof.Gen.AdamBranchSsmRefIdeal.Run
public import proofs.«01_k».proof.Proof.Gen.AdamBranchSsmRefIdeal.Read
public import proofs.«01_k».proof.Proof.Adam.BranchSsm
public import proofs.«01_k».proof.Proof.Gen.AdamBranchAttn
public import proofs.«01_k».proof.Proof.Gen.AdamBranchAttn.Frame
public import proofs.«01_k».proof.Proof.Gen.AdamBranchAttnIdeal
public import proofs.«01_k».proof.Proof.Gen.AdamBranchAttnIdeal.Frame
public import proofs.«01_k».proof.Proof.Gen.AdamBranchAttnIdeal.Value
public import proofs.«01_k».proof.Proof.Gen.AdamBranchAttnRefIdeal
public import proofs.«01_k».proof.Proof.Gen.AdamBranchAttnRefIdeal.Run
public import proofs.«01_k».proof.Proof.Gen.AdamBranchAttnRefIdeal.Read
public import proofs.«01_k».proof.Proof.Adam.BranchAttn
public import proofs.«01_k».proof.Proof.Gen.AdamMixOut
public import proofs.«01_k».proof.Proof.Gen.AdamMixOut.Frame
public import proofs.«01_k».proof.Proof.Gen.AdamMixOutIdeal
public import proofs.«01_k».proof.Proof.Gen.AdamMixOutIdeal.Frame
public import proofs.«01_k».proof.Proof.Gen.AdamMixOutIdeal.Value
public import proofs.«01_k».proof.Proof.Gen.AdamMixOutRefIdeal
public import proofs.«01_k».proof.Proof.Gen.AdamMixOutRefIdeal.Run
public import proofs.«01_k».proof.Proof.Gen.AdamMixOutRefIdeal.Read
public import proofs.«01_k».proof.Proof.Adam.MixOut
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Adam.Up
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Adam.Down
public import proofs.«01_k».proof.Proof.Gen.AdamSsmConv
public import proofs.«01_k».proof.Proof.Gen.AdamSsmConv.Frame
public import proofs.«01_k».proof.Proof.Gen.AdamSsmConvIdeal
public import proofs.«01_k».proof.Proof.Gen.AdamSsmConvIdeal.Frame
public import proofs.«01_k».proof.Proof.Gen.AdamSsmConvIdeal.Value
public import proofs.«01_k».proof.Proof.Gen.AdamSsmConvRefIdeal
public import proofs.«01_k».proof.Proof.Gen.AdamSsmConvRefIdeal.Run
public import proofs.«01_k».proof.Proof.Gen.AdamSsmConvRefIdeal.Read
public import proofs.«01_k».proof.Proof.Adam.SsmConv
public import proofs.«01_k».proof.Proof.Gen.AdamFfnConv
public import proofs.«01_k».proof.Proof.Gen.AdamFfnConv.Frame
public import proofs.«01_k».proof.Proof.Gen.AdamFfnConvIdeal
public import proofs.«01_k».proof.Proof.Gen.AdamFfnConvIdeal.Frame
public import proofs.«01_k».proof.Proof.Gen.AdamFfnConvIdeal.Value
public import proofs.«01_k».proof.Proof.Gen.AdamFfnConvRefIdeal
public import proofs.«01_k».proof.Proof.Gen.AdamFfnConvRefIdeal.Run
public import proofs.«01_k».proof.Proof.Gen.AdamFfnConvRefIdeal.Read
public import proofs.«01_k».proof.Proof.Adam.FfnConv
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Adam.Small
public import Idealize.ShloMosaic.Lib.Quiescent
public import Idealize.ShloMosaic.Adequacy
public import Idealize.ShloMosaic.Init

@[expose] public section

noncomputable section

namespace Cert.Proof

open Idealize.ShloMosaic Idealize.SL.Sem Cert.FfnAct

/-- The kernel's two result arrays are the reference's, where every argument is finite: the gradient at the
    convolution's input, and the packed gradient of its taps and bias. -/
theorem values : letI := preFacts; Cert.algebraic_KernelIdeal_ReferenceIdeal_pre_finite := by
  letI := preFacts
  intro m g m' g' hpre hargs
  refine ⟨fun c => resIn m c, fun c => resAcc m c, ?_, ?_⟩
  · refine (θ_run Cert.KernelIdeal.defs _ _).mono (fun r h c => ?_) (Cert.KernelIdeal.Value.run_blocks m g)
    obtain ⟨h0, h1, h2⟩ := h c
    exact ⟨h0.trans (final_in m c), h1.trans (final_acc m c), h2⟩
  · refine (θ_run Cert.ReferenceIdeal.defs _ _).mono (fun r h c => ?_) (Cert.ReferenceIdeal.Value.run m' g')
    obtain ⟨h0, h1, h2⟩ := h c
    obtain ⟨a0, a1, a2, a3⟩ := hargs c
    obtain ⟨p0, p1, p2, p3⟩ := real_of_pre _ _ _ _ (hpre c)
    refine ⟨h0.trans ?_, h1.trans ?_, h2⟩
    · rw [Cert.ReferenceIdeal.Read.val_main_v75_eq, a0, a1, a2, a3]
      funext j
      obtain ⟨t, k, rfl⟩ : ∃ (t : Fin 16384) (k : Fin 5632), j = ix2 t k :=
        ⟨j 0, j 1, funext fun a => by match a with | ⟨0, _⟩ => rfl | ⟨1, _⟩ => rfl⟩
      exact ref_din _ _ _ _ p0 p1 p2 p3 t k
    · rw [Cert.ReferenceIdeal.Read.val_main_v78_eq, a0, a1, a2, a3]
      funext j
      obtain ⟨t, k, rfl⟩ : ∃ (t : Fin 8) (k : Fin 5632), j = ix2 t k :=
        ⟨j 0, j 1, funext fun a => by match a with | ⟨0, _⟩ => rfl | ⟨1, _⟩ => rfl⟩
      exact ref_taps _ _ _ _ p0 p1 p2 p3 t k

/-- The reference runs, leaves its arguments and ends with every counter at zero: it has no semaphores. -/
theorem referenceFrame : Cert.quiescent_ReferenceIdeal (hReferenceIdeal := Cert.ReferenceIdeal.Gen.facts) :=
  fun m ρ _ => (θ_run Cert.ReferenceIdeal.defs _ _).mono (fun r h => And.intro (fun c => (h c).2.2)
      (Idealize.ShloMosaic.sem_eq_zero_of_no_sems (by decide) r.2))
    (Cert.ReferenceIdeal.Value.run (F := Ideal) m ρ)

/-- Every claim of the certificate. -/
theorem claim : Cert.Claim := ⟨Cert.Kernel.Gen.facts, Cert.KernelIdeal.Gen.facts, Cert.ReferenceIdeal.Gen.facts, Cert.DwDown.Gen.facts, Cert.DwDownIdeal.Gen.facts, Cert.DwDownRefIdeal.Gen.facts, Cert.DAct.Gen.facts, Cert.DActIdeal.Gen.facts, Cert.DActRefIdeal.Gen.facts, Cert.DwUp.Gen.facts, Cert.DwUpIdeal.Gen.facts, Cert.DwUpRefIdeal.Gen.facts, Cert.DHid.Gen.facts, Cert.DHidIdeal.Gen.facts, Cert.DHidRefIdeal.Gen.facts, Cert.DwMix.Gen.facts, Cert.DwMixIdeal.Gen.facts, Cert.DwMixRefIdeal.Gen.facts, Cert.DMerged.Gen.facts, Cert.DMergedIdeal.Gen.facts, Cert.DMergedRefIdeal.Gen.facts, Cert.DwBs.Gen.facts, Cert.DwBsIdeal.Gen.facts, Cert.DwBsRefIdeal.Gen.facts, Cert.DwBa.Gen.facts, Cert.DwBaIdeal.Gen.facts, Cert.DwBaRefIdeal.Gen.facts, Cert.DYssm.Gen.facts, Cert.DYssmIdeal.Gen.facts, Cert.DYssmRefIdeal.Gen.facts, Cert.DYattn.Gen.facts, Cert.DYattnIdeal.Gen.facts, Cert.DYattnRefIdeal.Gen.facts, Cert.Up.Gen.facts, Cert.UpIdeal.Gen.facts, Cert.UpRefIdeal.Gen.facts, Cert.Down.Gen.facts, Cert.DownIdeal.Gen.facts, Cert.DownRefIdeal.Gen.facts, Cert.Bs.Gen.facts, Cert.BsIdeal.Gen.facts, Cert.BsRefIdeal.Gen.facts, Cert.Ba.Gen.facts, Cert.BaIdeal.Gen.facts, Cert.BaRefIdeal.Gen.facts, Cert.Mix.Gen.facts, Cert.MixIdeal.Gen.facts, Cert.MixRefIdeal.Gen.facts, Cert.InTail.Gen.facts, Cert.InTailIdeal.Gen.facts, Cert.InTailRefIdeal.Gen.facts, Cert.MergeBwd.Gen.facts, Cert.MergeBwdIdeal.Gen.facts, Cert.MergeBwdRefIdeal.Gen.facts, Cert.LnBwd.Gen.facts, Cert.LnBwdIdeal.Gen.facts, Cert.LnBwdRefIdeal.Gen.facts, Cert.LnLoss.Gen.facts, Cert.LnLossIdeal.Gen.facts, Cert.LnLossRefIdeal.Gen.facts, Cert.ConvXs.Gen.facts, Cert.ConvXsIdeal.Gen.facts, Cert.ConvXsRefIdeal.Gen.facts, Cert.ConvBc.Gen.facts, Cert.ConvBcIdeal.Gen.facts, Cert.ConvBcRefIdeal.Gen.facts, Cert.AdamIn.Gen.facts, Cert.AdamInIdeal.Gen.facts, Cert.AdamInRefIdeal.Gen.facts, Cert.AdamBranchSsm.Gen.facts, Cert.AdamBranchSsmIdeal.Gen.facts, Cert.AdamBranchSsmRefIdeal.Gen.facts, Cert.AdamBranchAttn.Gen.facts, Cert.AdamBranchAttnIdeal.Gen.facts, Cert.AdamBranchAttnRefIdeal.Gen.facts, Cert.AdamMixOut.Gen.facts, Cert.AdamMixOutIdeal.Gen.facts, Cert.AdamMixOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamSsmConv.Gen.facts, Cert.AdamSsmConvIdeal.Gen.facts, Cert.AdamSsmConvRefIdeal.Gen.facts, Cert.AdamFfnConv.Gen.facts, Cert.AdamFfnConvIdeal.Gen.facts, Cert.AdamFfnConvRefIdeal.Gen.facts, Cert.AdamSmall.Gen.facts, Cert.AdamSmallIdeal.Gen.facts, Cert.AdamSmallRefIdeal.Gen.facts, preFacts, Cert.LnBwd.preFacts, Cert.LnLoss.preFacts, Cert.ConvXs.preFacts, Cert.ConvBc.preFacts,
  fun m ρ _ => Cert.Kernel.Gen.frame m ρ, fun m ρ _ => Cert.KernelIdeal.Gen.frame m ρ,
  fun m ρ _ => Cert.KernelIdeal.Gen.frame m ρ, referenceFrame,
  fun m ρ _ => referenceFrame m ρ trivial,
  fun m ρ _ => Cert.DwDown.Gen.frame m ρ, fun m ρ _ => Cert.DwDownIdeal.Gen.frame m ρ, Cert.Prod.DwDown.referenceFrame,
  fun m ρ _ => Cert.DAct.Gen.frame m ρ, fun m ρ _ => Cert.DActIdeal.Gen.frame m ρ, Cert.Prod.DAct.referenceFrame,
  fun m ρ _ => Cert.DwUp.Gen.frame m ρ, fun m ρ _ => Cert.DwUpIdeal.Gen.frame m ρ, Cert.Prod.DwUp.referenceFrame,
  fun m ρ _ => Cert.DHid.Gen.frame m ρ, fun m ρ _ => Cert.DHidIdeal.Gen.frame m ρ, Cert.Prod.DHid.referenceFrame,
  fun m ρ _ => Cert.DwMix.Gen.frame m ρ, fun m ρ _ => Cert.DwMixIdeal.Gen.frame m ρ, Cert.Prod.DwMix.referenceFrame,
  fun m ρ _ => Cert.DMerged.Gen.frame m ρ, fun m ρ _ => Cert.DMergedIdeal.Gen.frame m ρ, Cert.Prod.DMerged.referenceFrame,
  fun m ρ _ => Cert.DwBs.Gen.frame m ρ, fun m ρ _ => Cert.DwBsIdeal.Gen.frame m ρ, Cert.Prod.DwBs.referenceFrame,
  fun m ρ _ => Cert.DwBa.Gen.frame m ρ, fun m ρ _ => Cert.DwBaIdeal.Gen.frame m ρ, Cert.Prod.DwBa.referenceFrame,
  fun m ρ _ => Cert.DYssm.Gen.frame m ρ, fun m ρ _ => Cert.DYssmIdeal.Gen.frame m ρ, Cert.Prod.DYssm.referenceFrame,
  fun m ρ _ => Cert.DYattn.Gen.frame m ρ, fun m ρ _ => Cert.DYattnIdeal.Gen.frame m ρ, Cert.Prod.DYattn.referenceFrame,
  fun m ρ _ => Cert.Up.Gen.frame m ρ, fun m ρ _ => Cert.UpIdeal.Gen.frame m ρ, Cert.Prod.Up.referenceFrame,
  fun m ρ _ => Cert.Down.Gen.frame m ρ, fun m ρ _ => Cert.DownIdeal.Gen.frame m ρ, Cert.Prod.Down.referenceFrame,
  fun m ρ _ => Cert.Bs.Gen.frame m ρ, fun m ρ _ => Cert.BsIdeal.Gen.frame m ρ, Cert.Prod.Bs.referenceFrame,
  fun m ρ _ => Cert.Ba.Gen.frame m ρ, fun m ρ _ => Cert.BaIdeal.Gen.frame m ρ, Cert.Prod.Ba.referenceFrame,
  fun m ρ _ => Cert.Mix.Gen.frame m ρ, fun m ρ _ => Cert.MixIdeal.Gen.frame m ρ, Cert.Prod.Mix.referenceFrame,
  fun m ρ _ => Cert.InTail.Gen.frame m ρ, fun m ρ _ => Cert.InTailIdeal.Gen.frame m ρ, Cert.Prod.InTail.referenceFrame,
  fun m ρ _ => Cert.MergeBwd.Gen.frame m ρ, fun m ρ _ => Cert.MergeBwdIdeal.Gen.frame m ρ, Cert.Merge.referenceFrame,
  fun m ρ _ => Cert.LnBwd.Gen.frame m ρ, fun m ρ _ => Cert.LnBwdIdeal.Gen.frame m ρ,
  fun m ρ _ => Cert.LnBwdIdeal.Gen.frame m ρ, Cert.LnBwd.referenceFrame,
  fun m ρ _ => Cert.LnBwd.referenceFrame m ρ trivial,
  fun m ρ _ => Cert.LnLoss.Gen.frame m ρ, fun m ρ _ => Cert.LnLossIdeal.Gen.frame m ρ,
  fun m ρ _ => Cert.LnLossIdeal.Gen.frame m ρ, Cert.LnLoss.referenceFrame,
  fun m ρ _ => Cert.LnLoss.referenceFrame m ρ trivial,
  fun m ρ _ => Cert.ConvXs.Gen.frame m ρ, fun m ρ _ => Cert.ConvXsIdeal.Gen.frame m ρ,
  fun m ρ _ => Cert.ConvXsIdeal.Gen.frame m ρ, Cert.ConvXs.referenceFrame,
  fun m ρ _ => Cert.ConvXs.referenceFrame m ρ trivial,
  fun m ρ _ => Cert.ConvBc.Gen.frame m ρ, fun m ρ _ => Cert.ConvBcIdeal.Gen.frame m ρ,
  fun m ρ _ => Cert.ConvBcIdeal.Gen.frame m ρ, Cert.ConvBc.referenceFrame,
  fun m ρ _ => Cert.ConvBc.referenceFrame m ρ trivial,
  fun m ρ _ => Cert.AdamIn.Gen.frame m ρ, fun m ρ _ => Cert.AdamInIdeal.Gen.frame m ρ, Cert.AdamIn.referenceFrame,
  fun m ρ _ => Cert.AdamBranchSsm.Gen.frame m ρ, fun m ρ _ => Cert.AdamBranchSsmIdeal.Gen.frame m ρ, Cert.AdamBranchSsm.referenceFrame,
  fun m ρ _ => Cert.AdamBranchAttn.Gen.frame m ρ, fun m ρ _ => Cert.AdamBranchAttnIdeal.Gen.frame m ρ, Cert.AdamBranchAttn.referenceFrame,
  fun m ρ _ => Cert.AdamMixOut.Gen.frame m ρ, fun m ρ _ => Cert.AdamMixOutIdeal.Gen.frame m ρ, Cert.AdamMixOut.referenceFrame,
  fun m ρ _ => Cert.AdamUp.Gen.frame m ρ, fun m ρ _ => Cert.AdamUpIdeal.Gen.frame m ρ, Cert.AdamUp.referenceFrame,
  fun m ρ _ => Cert.AdamDown.Gen.frame m ρ, fun m ρ _ => Cert.AdamDownIdeal.Gen.frame m ρ, Cert.AdamDown.referenceFrame,
  fun m ρ _ => Cert.AdamSsmConv.Gen.frame m ρ, fun m ρ _ => Cert.AdamSsmConvIdeal.Gen.frame m ρ, Cert.AdamSsmConv.referenceFrame,
  fun m ρ _ => Cert.AdamFfnConv.Gen.frame m ρ, fun m ρ _ => Cert.AdamFfnConvIdeal.Gen.frame m ρ, Cert.AdamFfnConv.referenceFrame,
  fun m ρ _ => Cert.AdamSmall.Gen.frame m ρ, fun m ρ _ => Cert.AdamSmallIdeal.Gen.frame m ρ, Cert.AdamSmall.referenceFrame,
  trivial, values,
  trivial, Cert.Prod.DwDown.values,
  trivial, Cert.Prod.DAct.values,
  trivial, Cert.Prod.DwUp.values,
  trivial, Cert.Prod.DHid.values,
  trivial, Cert.Prod.DwMix.values,
  trivial, Cert.Prod.DMerged.values,
  trivial, Cert.Prod.DwBs.values,
  trivial, Cert.Prod.DwBa.values,
  trivial, Cert.Prod.DYssm.values,
  trivial, Cert.Prod.DYattn.values,
  trivial, Cert.Prod.Up.values,
  trivial, Cert.Prod.Down.values,
  trivial, Cert.Prod.Bs.values,
  trivial, Cert.Prod.Ba.values,
  trivial, Cert.Prod.Mix.values,
  trivial, Cert.Prod.InTail.values,
  trivial, Cert.Merge.values,
  trivial, Cert.LnBwd.values,
  trivial, Cert.LnLoss.values,
  trivial, Cert.ConvXs.values,
  trivial, Cert.ConvBc.values,
  trivial, Cert.AdamIn.values,
  trivial, Cert.AdamBranchSsm.values,
  trivial, Cert.AdamBranchAttn.values,
  trivial, Cert.AdamMixOut.values,
  trivial, Cert.AdamUp.values,
  trivial, Cert.AdamDown.values,
  trivial, Cert.AdamSsmConv.values,
  trivial, Cert.AdamFfnConv.values,
  trivial, Cert.AdamSmall.values⟩

end Cert.Proof

end
